-- ==== Defs.lean ====
def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateReferenceIdeal (m : (ℓ : Loc Cert.GateReferenceIdeal.nD Cert.GateReferenceIdeal.τ Cert.GateReferenceIdeal.sig) → Buf (Elt Ideal) ℓ) : Prop :=
  True

def Pre_AttnKernel (m : (ℓ : Loc Cert.AttnKernel.nD Cert.AttnKernel.τ Cert.AttnKernel.sig) → Buf (Elt Bits) ℓ) : Prop :=
  True

def Pre_AttnKernelIdeal (m : (ℓ : Loc Cert.AttnKernelIdeal.nD Cert.AttnKernelIdeal.τ Cert.AttnKernelIdeal.sig) → Buf (Elt Ideal) ℓ) : Prop :=
  True

def Pre_AttnKernelIdeal_finite_attention [hPre_finite_attention : Cert.Pre_finite_attention.Facts] (m : (ℓ : Loc Cert.AttnKernelIdeal.nD Cert.AttnKernelIdeal.τ Cert.AttnKernelIdeal.sig) → Buf (Elt Ideal) ℓ) : Prop :=
  ∀ c : Dev Cert.AttnKernelIdeal.nD,
    (Cert.Pre_finite_attention.fn (F := Ideal) (m ((c.tc : Thread Cert.AttnKernelIdeal.nD Cert.AttnKernelIdeal.τ).loc Cert.AttnKernelIdeal.main_arg0)) (m ((c.tc : Thread Cert.AttnKernelIdeal.nD Cert.AttnKernelIdeal.τ).loc Cert.AttnKernelIdeal.main_arg1)) (m ((c.tc : Thread Cert.AttnKernelIdeal.nD Cert.AttnKernelIdeal.τ).loc Cert.AttnKernelIdeal.main_arg2)) (m ((c.tc : Thread Cert.AttnKernelIdeal.nD Cert.AttnKernelIdeal.τ).loc Cert.AttnKernelIdeal.main_arg3)) (m ((c.tc : Thread Cert.AttnKernelIdeal.nD Cert.AttnKernelIdeal.τ).loc Cert.AttnKernelIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attention [hPre_finite_attention : Cert.Pre_finite_attention.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attention.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_InputKernel (m : (ℓ : Loc Cert.InputKernel.nD Cert.InputKernel.τ Cert.InputKernel.sig) → Buf (Elt Bits) ℓ) : Prop :=
  True

def Pre_InputKernelIdeal (m : (ℓ : Loc Cert.InputKernelIdeal.nD Cert.InputKernelIdeal.τ Cert.InputKernelIdeal.sig) → Buf (Elt Ideal) ℓ) : Prop :=
  True

def Pre_InputKernelIdeal_finite_input [hPre_finite_input : Cert.Pre_finite_input.Facts] (m : (ℓ : Loc Cert.InputKernelIdeal.nD Cert.InputKernelIdeal.τ Cert.InputKernelIdeal.sig) → Buf (Elt Ideal) ℓ) : Prop :=
  ∀ c : Dev Cert.InputKernelIdeal.nD,
    (Cert.Pre_finite_input.fn (F := Ideal) (m ((c.tc : Thread Cert.InputKernelIdeal.nD Cert.InputKernelIdeal.τ).loc Cert.InputKernelIdeal.main_arg0)) (m ((c.tc : Thread Cert.InputKernelIdeal.nD Cert.InputKernelIdeal.τ).loc Cert.InputKernelIdeal.main_arg1)) (m ((c.tc : Thread Cert.InputKernelIdeal.nD Cert.InputKernelIdeal.τ).loc Cert.InputKernelIdeal.main_arg2)) (m ((c.tc : Thread Cert.InputKernelIdeal.nD Cert.InputKernelIdeal.τ).loc Cert.InputKernelIdeal.main_arg3)) (m ((c.tc : Thread Cert.InputKernelIdeal.nD Cert.InputKernelIdeal.τ).loc Cert.InputKernelIdeal.main_arg4)) (m ((c.tc : Thread Cert.InputKernelIdeal.nD Cert.InputKernelIdeal.τ).loc Cert.InputKernelIdeal.main_arg5))) = (fun _ => 1#1)

def Pre_InputReferenceIdeal (m : (ℓ : Loc Cert.InputReferenceIdeal.nD Cert.InputReferenceIdeal.τ Cert.InputReferenceIdeal.sig) → Buf (Elt Ideal) ℓ) : Prop :=
  True

def Pre_InputReferenceIdeal_finite_input [hPre_finite_input : Cert.Pre_finite_input.Facts] (m : (ℓ : Loc Cert.InputReferenceIdeal.nD Cert.InputReferenceIdeal.τ Cert.InputReferenceIdeal.sig) → Buf (Elt Ideal) ℓ) : Prop :=
  ∀ c : Dev Cert.InputReferenceIdeal.nD,
    (Cert.Pre_finite_input.fn (F := Ideal) (m ((c.tc : Thread Cert.InputReferenceIdeal.nD Cert.InputReferenceIdeal.τ).loc Cert.InputReferenceIdeal.main_arg0)) (m ((c.tc : Thread Cert.InputReferenceIdeal.nD Cert.InputReferenceIdeal.τ).loc Cert.InputReferenceIdeal.main_arg1)) (m ((c.tc : Thread Cert.InputReferenceIdeal.nD Cert.InputReferenceIdeal.τ).loc Cert.InputReferenceIdeal.main_arg2)) (m ((c.tc : Thread Cert.InputReferenceIdeal.nD Cert.InputReferenceIdeal.τ).loc Cert.InputReferenceIdeal.main_arg3)) (m ((c.tc : Thread Cert.InputReferenceIdeal.nD Cert.InputReferenceIdeal.τ).loc Cert.InputReferenceIdeal.main_arg4)) (m ((c.tc : Thread Cert.InputReferenceIdeal.nD Cert.InputReferenceIdeal.τ).loc Cert.InputReferenceIdeal.main_arg5))) = (fun _ => 1#1)

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_OptKernel (m : (ℓ : Loc Cert.OptKernel.nD Cert.OptKernel.τ Cert.OptKernel.sig) → Buf (Elt Bits) ℓ) : Prop :=
  True

def Pre_OptKernelIdeal (m : (ℓ : Loc Cert.OptKernelIdeal.nD Cert.OptKernelIdeal.τ Cert.OptKernelIdeal.sig) → Buf (Elt Ideal) ℓ) : Prop :=
  True

def Pre_OptReferenceIdeal (m : (ℓ : Loc Cert.OptReferenceIdeal.nD Cert.OptReferenceIdeal.τ Cert.OptReferenceIdeal.sig) → Buf (Elt Ideal) ℓ) : Prop :=
  True

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateReferenceIdeal [hGateReferenceIdeal : Cert.GateReferenceIdeal.Facts] : Prop :=
  ∀ (m : (ℓ : Loc Cert.GateReferenceIdeal.nD Cert.GateReferenceIdeal.τ Cert.GateReferenceIdeal.sig) → Buf (Elt Ideal) ℓ) (g : Dev Cert.GateReferenceIdeal.nD → PrngReg), Pre_GateReferenceIdeal m →
    θ_run (Cert.GateReferenceIdeal.defs (F := Ideal)) (onTc (τ := Cert.GateReferenceIdeal.τ) (Cert.GateReferenceIdeal.main (F := Ideal))) ⟨m, fun _ => 0, g⟩ (fun r => (∀ c : Dev Cert.GateReferenceIdeal.nD,
      r.2.mem ((c.tc : Thread Cert.GateReferenceIdeal.nD Cert.GateReferenceIdeal.τ).loc Cert.GateReferenceIdeal.main_arg0) = m ((c.tc : Thread Cert.GateReferenceIdeal.nD Cert.GateReferenceIdeal.τ).loc Cert.GateReferenceIdeal.main_arg0)
      ∧ r.2.mem ((c.tc : Thread Cert.GateReferenceIdeal.nD Cert.GateReferenceIdeal.τ).loc Cert.GateReferenceIdeal.main_arg1) = m ((c.tc : Thread Cert.GateReferenceIdeal.nD Cert.GateReferenceIdeal.τ).loc Cert.GateReferenceIdeal.main_arg1)
      ∧ r.2.mem ((c.tc : Thread Cert.GateReferenceIdeal.nD Cert.GateReferenceIdeal.τ).loc Cert.GateReferenceIdeal.main_arg2) = m ((c.tc : Thread Cert.GateReferenceIdeal.nD Cert.GateReferenceIdeal.τ).loc Cert.GateReferenceIdeal.main_arg2)
      ∧ r.2.mem ((c.tc : Thread Cert.GateReferenceIdeal.nD Cert.GateReferenceIdeal.τ).loc Cert.GateReferenceIdeal.main_arg3) = m ((c.tc : Thread Cert.GateReferenceIdeal.nD Cert.GateReferenceIdeal.τ).loc Cert.GateReferenceIdeal.main_arg3))
      ∧ r.2.sem = fun _ => 0)

def quiescent_AttnKernel [hAttnKernel : Cert.AttnKernel.Facts] : Prop :=
  ∀ (m : (ℓ : Loc Cert.AttnKernel.nD Cert.AttnKernel.τ Cert.AttnKernel.sig) → Buf (Elt Bits) ℓ) (g : Dev Cert.AttnKernel.nD → PrngReg), Pre_AttnKernel m →
    θ_run (Cert.AttnKernel.defs (F := Bits)) (onTc (τ := Cert.AttnKernel.τ) (Cert.AttnKernel.main (F := Bits))) ⟨m, fun _ => 0, g⟩ (fun r => (∀ c : Dev Cert.AttnKernel.nD,
      r.2.mem ((c.tc : Thread Cert.AttnKernel.nD Cert.AttnKernel.τ).loc Cert.AttnKernel.main_arg0) = m ((c.tc : Thread Cert.AttnKernel.nD Cert.AttnKernel.τ).loc Cert.AttnKernel.main_arg0)
      ∧ r.2.mem ((c.tc : Thread Cert.AttnKernel.nD Cert.AttnKernel.τ).loc Cert.AttnKernel.main_arg1) = m ((c.tc : Thread Cert.AttnKernel.nD Cert.AttnKernel.τ).loc Cert.AttnKernel.main_arg1)
      ∧ r.2.mem ((c.tc : Thread Cert.AttnKernel.nD Cert.AttnKernel.τ).loc Cert.AttnKernel.main_arg2) = m ((c.tc : Thread Cert.AttnKernel.nD Cert.AttnKernel.τ).loc Cert.AttnKernel.main_arg2)
      ∧ r.2.mem ((c.tc : Thread Cert.AttnKernel.nD Cert.AttnKernel.τ).loc Cert.AttnKernel.main_arg3) = m ((c.tc : Thread Cert.AttnKernel.nD Cert.AttnKernel.τ).loc Cert.AttnKernel.main_arg3)
      ∧ r.2.mem ((c.tc : Thread Cert.AttnKernel.nD Cert.AttnKernel.τ).loc Cert.AttnKernel.main_arg4) = m ((c.tc : Thread Cert.AttnKernel.nD Cert.AttnKernel.τ).loc Cert.AttnKernel.main_arg4))
      ∧ r.2.sem = fun _ => 0)

def quiescent_AttnKernelIdeal [hAttnKernelIdeal : Cert.AttnKernelIdeal.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnKernelIdeal_pre_finite_attention [hAttnKernelIdeal : Cert.AttnKernelIdeal.Facts] [hPre_finite_attention : Cert.Pre_finite_attention.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg), Pre_AttnKernelIdeal_finite_attention m →
    θ_run (Cert.AttnKernelIdeal.defs (F := Ideal)) (onTc (τ := Cert.AttnKernelIdeal.τ) (Cert.AttnKernelIdeal.main (F := Ideal))) ⟨m, fun _ => 0, g⟩ (fun r => (∀ c : Dev Cert.AttnKernelIdeal.nD,
      r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
      ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
      ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
      ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
      ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_finite_attention [hAttnReferenceIdeal : Cert.AttnReferenceIdeal.Facts] [hPre_finite_attention : Cert.Pre_finite_attention.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attention m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_InputKernel [hInputKernel : Cert.InputKernel.Facts] : Prop :=
  ∀ (m : (ℓ : Loc Cert.InputKernel.nD Cert.InputKernel.τ Cert.InputKernel.sig) → Buf (Elt Bits) ℓ) (g : Dev Cert.InputKernel.nD → PrngReg), Pre_InputKernel m →
    θ_run (Cert.InputKernel.defs (F := Bits)) (onTc (τ := Cert.InputKernel.τ) (Cert.InputKernel.main (F := Bits))) ⟨m, fun _ => 0, g⟩ (fun r => (∀ c : Dev Cert.InputKernel.nD,
      r.2.mem ((c.tc : Thread Cert.InputKernel.nD Cert.InputKernel.τ).loc Cert.InputKernel.main_arg0) = m ((c.tc : Thread Cert.InputKernel.nD Cert.InputKernel.τ).loc Cert.InputKernel.main_arg0)
      ∧ r.2.mem ((c.tc : Thread Cert.InputKernel.nD Cert.InputKernel.τ).loc Cert.InputKernel.main_arg1) = m ((c.tc : Thread Cert.InputKernel.nD Cert.InputKernel.τ).loc Cert.InputKernel.main_arg1)
      ∧ r.2.mem ((c.tc : Thread Cert.InputKernel.nD Cert.InputKernel.τ).loc Cert.InputKernel.main_arg2) = m ((c.tc : Thread Cert.InputKernel.nD Cert.InputKernel.τ).loc Cert.InputKernel.main_arg2)
      ∧ r.2.mem ((c.tc : Thread Cert.InputKernel.nD Cert.InputKernel.τ).loc Cert.InputKernel.main_arg3) = m ((c.tc : Thread Cert.InputKernel.nD Cert.InputKernel.τ).loc Cert.InputKernel.main_arg3)
      ∧ r.2.mem ((c.tc : Thread Cert.InputKernel.nD Cert.InputKernel.τ).loc Cert.InputKernel.main_arg4) = m ((c.tc : Thread Cert.InputKernel.nD Cert.InputKernel.τ).loc Cert.InputKernel.main_arg4)
      ∧ r.2.mem ((c.tc : Thread Cert.InputKernel.nD Cert.InputKernel.τ).loc Cert.InputKernel.main_arg5) = m ((c.tc : Thread Cert.InputKernel.nD Cert.InputKernel.τ).loc Cert.InputKernel.main_arg5))
      ∧ r.2.sem = fun _ => 0)

def quiescent_InputKernelIdeal [hInputKernelIdeal : Cert.InputKernelIdeal.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ r.2.sem = fun _ => 0)

def quiescent_InputKernelIdeal_pre_finite_input [hInputKernelIdeal : Cert.InputKernelIdeal.Facts] [hPre_finite_input : Cert.Pre_finite_input.Facts] : Prop :=
  ∀ (m : (ℓ : Loc Cert.InputKernelIdeal.nD Cert.InputKernelIdeal.τ Cert.InputKernelIdeal.sig) → Buf (Elt Ideal) ℓ) (g : Dev Cert.InputKernelIdeal.nD → PrngReg), Pre_InputKernelIdeal_finite_input m →
    θ_run (Cert.InputKernelIdeal.defs (F := Ideal)) (onTc (τ := Cert.InputKernelIdeal.τ) (Cert.InputKernelIdeal.main (F := Ideal))) ⟨m, fun _ => 0, g⟩ (fun r => (∀ c : Dev Cert.InputKernelIdeal.nD,
      r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
      ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
      ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
      ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
      ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
      ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_InputReferenceIdeal_pre_finite_input [hInputReferenceIdeal : Cert.InputReferenceIdeal.Facts] [hPre_finite_input : Cert.Pre_finite_input.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal_finite_input m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1)
      ∧ r.2.mem ((c.tc : Thread Cert.InputReferenceIdeal.nD Cert.InputReferenceIdeal.τ).loc Cert.InputReferenceIdeal.main_arg2) = m ((c.tc : Thread Cert.InputReferenceIdeal.nD Cert.InputReferenceIdeal.τ).loc Cert.InputReferenceIdeal.main_arg2)
      ∧ r.2.mem ((c.tc : Thread Cert.InputReferenceIdeal.nD Cert.InputReferenceIdeal.τ).loc Cert.InputReferenceIdeal.main_arg3) = m ((c.tc : Thread Cert.InputReferenceIdeal.nD Cert.InputReferenceIdeal.τ).loc Cert.InputReferenceIdeal.main_arg3)
      ∧ r.2.mem ((c.tc : Thread Cert.InputReferenceIdeal.nD Cert.InputReferenceIdeal.τ).loc Cert.InputReferenceIdeal.main_arg4) = m ((c.tc : Thread Cert.InputReferenceIdeal.nD Cert.InputReferenceIdeal.τ).loc Cert.InputReferenceIdeal.main_arg4)
      ∧ r.2.mem ((c.tc : Thread Cert.InputReferenceIdeal.nD Cert.InputReferenceIdeal.τ).loc Cert.InputReferenceIdeal.main_arg5) = m ((c.tc : Thread Cert.InputReferenceIdeal.nD Cert.InputReferenceIdeal.τ).loc Cert.InputReferenceIdeal.main_arg5))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def quiescent_OptKernel [hOptKernel : Cert.OptKernel.Facts] : Prop :=
  ∀ (m : (ℓ : Loc Cert.OptKernel.nD Cert.OptKernel.τ Cert.OptKernel.sig) → Buf (Elt Bits) ℓ) (g : Dev Cert.OptKernel.nD → PrngReg), Pre_OptKernel m →
    θ_run (Cert.OptKernel.defs (F := Bits)) (onTc (τ := Cert.OptKernel.τ) (Cert.OptKernel.main (F := Bits))) ⟨m, fun _ => 0, g⟩ (fun r => (∀ c : Dev Cert.OptKernel.nD,
      r.2.mem ((c.tc : Thread Cert.OptKernel.nD Cert.OptKernel.τ).loc Cert.OptKernel.main_arg0) = m ((c.tc : Thread Cert.OptKernel.nD Cert.OptKernel.τ).loc Cert.OptKernel.main_arg0)
      ∧ r.2.mem ((c.tc : Thread Cert.OptKernel.nD Cert.OptKernel.τ).loc Cert.OptKernel.main_arg1) = m ((c.tc : Thread Cert.OptKernel.nD Cert.OptKernel.τ).loc Cert.OptKernel.main_arg1)
      ∧ r.2.mem ((c.tc : Thread Cert.OptKernel.nD Cert.OptKernel.τ).loc Cert.OptKernel.main_arg2) = m ((c.tc : Thread Cert.OptKernel.nD Cert.OptKernel.τ).loc Cert.OptKernel.main_arg2)
      ∧ r.2.mem ((c.tc : Thread Cert.OptKernel.nD Cert.OptKernel.τ).loc Cert.OptKernel.main_arg3) = m ((c.tc : Thread Cert.OptKernel.nD Cert.OptKernel.τ).loc Cert.OptKernel.main_arg3)
      ∧ r.2.mem ((c.tc : Thread Cert.OptKernel.nD Cert.OptKernel.τ).loc Cert.OptKernel.main_arg4) = m ((c.tc : Thread Cert.OptKernel.nD Cert.OptKernel.τ).loc Cert.OptKernel.main_arg4)
      ∧ r.2.mem ((c.tc : Thread Cert.OptKernel.nD Cert.OptKernel.τ).loc Cert.OptKernel.main_arg5) = m ((c.tc : Thread Cert.OptKernel.nD Cert.OptKernel.τ).loc Cert.OptKernel.main_arg5)
      ∧ r.2.mem ((c.tc : Thread Cert.OptKernel.nD Cert.OptKernel.τ).loc Cert.OptKernel.main_arg6) = m ((c.tc : Thread Cert.OptKernel.nD Cert.OptKernel.τ).loc Cert.OptKernel.main_arg6)
      ∧ r.2.mem ((c.tc : Thread Cert.OptKernel.nD Cert.OptKernel.τ).loc Cert.OptKernel.main_arg7) = m ((c.tc : Thread Cert.OptKernel.nD Cert.OptKernel.τ).loc Cert.OptKernel.main_arg7)
      ∧ r.2.mem ((c.tc : Thread Cert.OptKernel.nD Cert.OptKernel.τ).loc Cert.OptKernel.main_arg8) = m ((c.tc : Thread Cert.OptKernel.nD Cert.OptKernel.τ).loc Cert.OptKernel.main_arg8)
      ∧ r.2.mem ((c.tc : Thread Cert.OptKernel.nD Cert.OptKernel.τ).loc Cert.OptKernel.main_arg9) = m ((c.tc : Thread Cert.OptKernel.nD Cert.OptKernel.τ).loc Cert.OptKernel.main_arg9))
      ∧ r.2.sem = fun _ => 0)

def quiescent_OptKernelIdeal [hOptKernelIdeal : Cert.OptKernelIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg), Pre_OptKernelIdeal m →
    θ_run (Cert.OptKernelIdeal.defs (F := Ideal)) (onTc (τ := Cert.OptKernelIdeal.τ) (Cert.OptKernelIdeal.main (F := Ideal))) ⟨m, fun _ => 0, g⟩ (fun r => (∀ c : Dev Cert.OptKernelIdeal.nD,
      r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
      ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
      ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
      ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
      ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
      ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
      ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6)
      ∧ r.2.mem ((c.tc : Thread Cert.OptKernelIdeal.nD Cert.OptKernelIdeal.τ).loc Cert.OptKernelIdeal.main_arg7) = m ((c.tc : Thread Cert.OptKernelIdeal.nD Cert.OptKernelIdeal.τ).loc Cert.OptKernelIdeal.main_arg7)
      ∧ r.2.mem ((c.tc : Thread Cert.OptKernelIdeal.nD Cert.OptKernelIdeal.τ).loc Cert.OptKernelIdeal.main_arg8) = m ((c.tc : Thread Cert.OptKernelIdeal.nD Cert.OptKernelIdeal.τ).loc Cert.OptKernelIdeal.main_arg8)
      ∧ r.2.mem ((c.tc : Thread Cert.OptKernelIdeal.nD Cert.OptKernelIdeal.τ).loc Cert.OptKernelIdeal.main_arg9) = m ((c.tc : Thread Cert.OptKernelIdeal.nD Cert.OptKernelIdeal.τ).loc Cert.OptKernelIdeal.main_arg9))
      ∧ r.2.sem = fun _ => 0)

def quiescent_OptReferenceIdeal [hOptReferenceIdeal : Cert.OptReferenceIdeal.Facts] : Prop :=
  ∀ (m : (ℓ : Loc Cert.OptReferenceIdeal.nD Cert.OptReferenceIdeal.τ Cert.OptReferenceIdeal.sig) → Buf (Elt Ideal) ℓ) (g : Dev Cert.OptReferenceIdeal.nD → PrngReg), Pre_OptReferenceIdeal m →
    θ_run (Cert.OptReferenceIdeal.defs (F := Ideal)) (onTc (τ := Cert.OptReferenceIdeal.τ) (Cert.OptReferenceIdeal.main (F := Ideal))) ⟨m, fun _ => 0, g⟩ (fun r => (∀ c : Dev Cert.OptReferenceIdeal.nD,
      r.2.mem ((c.tc : Thread Cert.OptReferenceIdeal.nD Cert.OptReferenceIdeal.τ).loc Cert.OptReferenceIdeal.main_arg0) = m ((c.tc : Thread Cert.OptReferenceIdeal.nD Cert.OptReferenceIdeal.τ).loc Cert.OptReferenceIdeal.main_arg0)
      ∧ r.2.mem ((c.tc : Thread Cert.OptReferenceIdeal.nD Cert.OptReferenceIdeal.τ).loc Cert.OptReferenceIdeal.main_arg1) = m ((c.tc : Thread Cert.OptReferenceIdeal.nD Cert.OptReferenceIdeal.τ).loc Cert.OptReferenceIdeal.main_arg1)
      ∧ r.2.mem ((c.tc : Thread Cert.OptReferenceIdeal.nD Cert.OptReferenceIdeal.τ).loc Cert.OptReferenceIdeal.main_arg2) = m ((c.tc : Thread Cert.OptReferenceIdeal.nD Cert.OptReferenceIdeal.τ).loc Cert.OptReferenceIdeal.main_arg2)
      ∧ r.2.mem ((c.tc : Thread Cert.OptReferenceIdeal.nD Cert.OptReferenceIdeal.τ).loc Cert.OptReferenceIdeal.main_arg3) = m ((c.tc : Thread Cert.OptReferenceIdeal.nD Cert.OptReferenceIdeal.τ).loc Cert.OptReferenceIdeal.main_arg3)
      ∧ r.2.mem ((c.tc : Thread Cert.OptReferenceIdeal.nD Cert.OptReferenceIdeal.τ).loc Cert.OptReferenceIdeal.main_arg4) = m ((c.tc : Thread Cert.OptReferenceIdeal.nD Cert.OptReferenceIdeal.τ).loc Cert.OptReferenceIdeal.main_arg4)
      ∧ r.2.mem ((c.tc : Thread Cert.OptReferenceIdeal.nD Cert.OptReferenceIdeal.τ).loc Cert.OptReferenceIdeal.main_arg5) = m ((c.tc : Thread Cert.OptReferenceIdeal.nD Cert.OptReferenceIdeal.τ).loc Cert.OptReferenceIdeal.main_arg5)
      ∧ r.2.mem ((c.tc : Thread Cert.OptReferenceIdeal.nD Cert.OptReferenceIdeal.τ).loc Cert.OptReferenceIdeal.main_arg6) = m ((c.tc : Thread Cert.OptReferenceIdeal.nD Cert.OptReferenceIdeal.τ).loc Cert.OptReferenceIdeal.main_arg6)
      ∧ r.2.mem ((c.tc : Thread Cert.OptReferenceIdeal.nD Cert.OptReferenceIdeal.τ).loc Cert.OptReferenceIdeal.main_arg7) = m ((c.tc : Thread Cert.OptReferenceIdeal.nD Cert.OptReferenceIdeal.τ).loc Cert.OptReferenceIdeal.main_arg7)
      ∧ r.2.mem ((c.tc : Thread Cert.OptReferenceIdeal.nD Cert.OptReferenceIdeal.τ).loc Cert.OptReferenceIdeal.main_arg8) = m ((c.tc : Thread Cert.OptReferenceIdeal.nD Cert.OptReferenceIdeal.τ).loc Cert.OptReferenceIdeal.main_arg8)
      ∧ r.2.mem ((c.tc : Thread Cert.OptReferenceIdeal.nD Cert.OptReferenceIdeal.τ).loc Cert.OptReferenceIdeal.main_arg9) = m ((c.tc : Thread Cert.OptReferenceIdeal.nD Cert.OptReferenceIdeal.τ).loc Cert.OptReferenceIdeal.main_arg9))
      ∧ r.2.sem = fun _ => 0)

def preserves_GateKernel_GateKernelIdeal : Prop :=
  True

def algebraic_GateKernelIdeal_GateReferenceIdeal [hGateKernelIdeal : Cert.GateKernelIdeal.Facts] [hGateReferenceIdeal : Cert.GateReferenceIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateReferenceIdeal.nD Cert.GateReferenceIdeal.τ Cert.GateReferenceIdeal.sig) → Buf (Elt Ideal) ℓ) (g' : Dev Cert.GateReferenceIdeal.nD → PrngReg), Pre_GateKernelIdeal m →
    (∀ c : Dev Cert.GateKernelIdeal.nD,
      m' ((c.tc : Thread Cert.GateReferenceIdeal.nD Cert.GateReferenceIdeal.τ).loc Cert.GateReferenceIdeal.main_arg0) = m ((c.tc : Thread Cert.GateKernelIdeal.nD Cert.GateKernelIdeal.τ).loc Cert.GateKernelIdeal.main_arg0)
      ∧ m' ((c.tc : Thread Cert.GateReferenceIdeal.nD Cert.GateReferenceIdeal.τ).loc Cert.GateReferenceIdeal.main_arg1) = m ((c.tc : Thread Cert.GateKernelIdeal.nD Cert.GateKernelIdeal.τ).loc Cert.GateKernelIdeal.main_arg1)
      ∧ m' ((c.tc : Thread Cert.GateReferenceIdeal.nD Cert.GateReferenceIdeal.τ).loc Cert.GateReferenceIdeal.main_arg2) = m ((c.tc : Thread Cert.GateKernelIdeal.nD Cert.GateKernelIdeal.τ).loc Cert.GateKernelIdeal.main_arg2)
      ∧ m' ((c.tc : Thread Cert.GateReferenceIdeal.nD Cert.GateReferenceIdeal.τ).loc Cert.GateReferenceIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v20_0)) (v1 : (c : Dev Cert.GateKernelIdeal.nD) → Buf (Elt Ideal) ((c.tc : Thread Cert.GateKernelIdeal.nD Cert.GateKernelIdeal.τ).loc Cert.GateKernelIdeal.main_v20_1)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v20_0) = v0 c
          ∧ r.2.mem ((c.tc : Thread Cert.GateKernelIdeal.nD Cert.GateKernelIdeal.τ).loc Cert.GateKernelIdeal.main_v20_1) = v1 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateReferenceIdeal.defs (F := Ideal)) (onTc (τ := Cert.GateReferenceIdeal.τ) (Cert.GateReferenceIdeal.main (F := Ideal))) ⟨m', fun _ => 0, g'⟩ (fun r => ∀ c : Dev Cert.GateReferenceIdeal.nD,
          r.2.mem ((c.tc : Thread Cert.GateReferenceIdeal.nD Cert.GateReferenceIdeal.τ).loc Cert.GateReferenceIdeal.main_v15) = v0 c
          ∧ r.2.mem ((c.tc : Thread Cert.GateReferenceIdeal.nD Cert.GateReferenceIdeal.τ).loc Cert.GateReferenceIdeal.main_v17) = v1 c
          ∧ r.2.mem ((c.tc : Thread Cert.GateReferenceIdeal.nD Cert.GateReferenceIdeal.τ).loc Cert.GateReferenceIdeal.main_arg0) = m' ((c.tc : Thread Cert.GateReferenceIdeal.nD Cert.GateReferenceIdeal.τ).loc Cert.GateReferenceIdeal.main_arg0)
          ∧ r.2.mem ((c.tc : Thread Cert.GateReferenceIdeal.nD Cert.GateReferenceIdeal.τ).loc Cert.GateReferenceIdeal.main_arg1) = m' ((c.tc : Thread Cert.GateReferenceIdeal.nD Cert.GateReferenceIdeal.τ).loc Cert.GateReferenceIdeal.main_arg1)
          ∧ r.2.mem ((c.tc : Thread Cert.GateReferenceIdeal.nD Cert.GateReferenceIdeal.τ).loc Cert.GateReferenceIdeal.main_arg2) = m' ((c.tc : Thread Cert.GateReferenceIdeal.nD Cert.GateReferenceIdeal.τ).loc Cert.GateReferenceIdeal.main_arg2)
          ∧ r.2.mem ((c.tc : Thread Cert.GateReferenceIdeal.nD Cert.GateReferenceIdeal.τ).loc Cert.GateReferenceIdeal.main_arg3) = m' ((c.tc : Thread Cert.GateReferenceIdeal.nD Cert.GateReferenceIdeal.τ).loc Cert.GateReferenceIdeal.main_arg3))

def preserves_AttnKernel_AttnKernelIdeal : Prop :=
  IdealRules.named_const.Statement Cert.AttnKernelIdeal.κ "mask" .f32 0xF149F2CA#32 ⊥
  ∧ IdealRules.named_const.Statement Cert.AttnKernelIdeal.κ "ln2" .f32 0x3F317218#32 ((Real.log 2 : ℝ) : EReal)

def algebraic_AttnKernelIdeal_AttnReferenceIdeal_pre_finite_attention [hAttnKernelIdeal : Cert.AttnKernelIdeal.Facts] [hAttnReferenceIdeal : Cert.AttnReferenceIdeal.Facts] [hPre_finite_attention : Cert.Pre_finite_attention.Facts] : Prop :=
  ∀ (m : (ℓ : Loc Cert.AttnKernelIdeal.nD Cert.AttnKernelIdeal.τ Cert.AttnKernelIdeal.sig) → Buf (Elt Ideal) ℓ) (g : Dev Cert.AttnKernelIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnKernelIdeal_finite_attention m →
    (∀ c : Dev Cert.AttnKernelIdeal.nD,
      m' ((c.tc : Thread Cert.AttnReferenceIdeal.nD Cert.AttnReferenceIdeal.τ).loc Cert.AttnReferenceIdeal.main_arg0) = m ((c.tc : Thread Cert.AttnKernelIdeal.nD Cert.AttnKernelIdeal.τ).loc Cert.AttnKernelIdeal.main_arg0)
      ∧ m' ((c.tc : Thread Cert.AttnReferenceIdeal.nD Cert.AttnReferenceIdeal.τ).loc Cert.AttnReferenceIdeal.main_arg1) = m ((c.tc : Thread Cert.AttnKernelIdeal.nD Cert.AttnKernelIdeal.τ).loc Cert.AttnKernelIdeal.main_arg1)
      ∧ m' ((c.tc : Thread Cert.AttnReferenceIdeal.nD Cert.AttnReferenceIdeal.τ).loc Cert.AttnReferenceIdeal.main_arg2) = m ((c.tc : Thread Cert.AttnKernelIdeal.nD Cert.AttnKernelIdeal.τ).loc Cert.AttnKernelIdeal.main_arg2)
      ∧ m' ((c.tc : Thread Cert.AttnReferenceIdeal.nD Cert.AttnReferenceIdeal.τ).loc Cert.AttnReferenceIdeal.main_arg3) = m ((c.tc : Thread Cert.AttnKernelIdeal.nD Cert.AttnKernelIdeal.τ).loc Cert.AttnKernelIdeal.main_arg3)
      ∧ m' ((c.tc : Thread Cert.AttnReferenceIdeal.nD Cert.AttnReferenceIdeal.τ).loc Cert.AttnReferenceIdeal.main_arg4) = m ((c.tc : Thread Cert.AttnKernelIdeal.nD Cert.AttnKernelIdeal.τ).loc Cert.AttnKernelIdeal.main_arg4)) →
    ∃ (v0 : (c : Dev Cert.AttnKernelIdeal.nD) → Buf (Elt Ideal) ((c.tc : Thread Cert.AttnKernelIdeal.nD Cert.AttnKernelIdeal.τ).loc Cert.AttnKernelIdeal.main_v96_0)) (v1 : (c : Dev Cert.AttnKernelIdeal.nD) → Buf (Elt Ideal) ((c.tc : Thread Cert.AttnKernelIdeal.nD Cert.AttnKernelIdeal.τ).loc Cert.AttnKernelIdeal.main_v96_1)) (v2 : (c : Dev Cert.AttnKernelIdeal.nD) → Buf (Elt Ideal) ((c.tc : Thread Cert.AttnKernelIdeal.nD Cert.AttnKernelIdeal.τ).loc Cert.AttnKernelIdeal.main_v96_2)) (v3 : (c : Dev Cert.AttnKernelIdeal.nD) → Buf (Elt Ideal) ((c.tc : Thread Cert.AttnKernelIdeal.nD Cert.AttnKernelIdeal.τ).loc Cert.AttnKernelIdeal.main_v96_3)) (v4 : (c : Dev Cert.AttnKernelIdeal.nD) → Buf (Elt Ideal) ((c.tc : Thread Cert.AttnKernelIdeal.nD Cert.AttnKernelIdeal.τ).loc Cert.AttnKernelIdeal.main_v96_4)),
      θ_run (Cert.AttnKernelIdeal.defs (F := Ideal)) (onTc (τ := Cert.AttnKernelIdeal.τ) (Cert.AttnKernelIdeal.main (F := Ideal))) ⟨m, fun _ => 0, g⟩ (fun r => ∀ c : Dev Cert.AttnKernelIdeal.nD,
          r.2.mem ((c.tc : Thread Cert.AttnKernelIdeal.nD Cert.AttnKernelIdeal.τ).loc Cert.AttnKernelIdeal.main_v96_0) = v0 c
          ∧ r.2.mem ((c.tc : Thread Cert.AttnKernelIdeal.nD Cert.AttnKernelIdeal.τ).loc Cert.AttnKernelIdeal.main_v96_1) = v1 c
          ∧ r.2.mem ((c.tc : Thread Cert.AttnKernelIdeal.nD Cert.AttnKernelIdeal.τ).loc Cert.AttnKernelIdeal.main_v96_2) = v2 c
          ∧ r.2.mem ((c.tc : Thread Cert.AttnKernelIdeal.nD Cert.AttnKernelIdeal.τ).loc Cert.AttnKernelIdeal.main_v96_3) = v3 c
          ∧ r.2.mem ((c.tc : Thread Cert.AttnKernelIdeal.nD Cert.AttnKernelIdeal.τ).loc Cert.AttnKernelIdeal.main_v96_4) = v4 c
          ∧ r.2.mem ((c.tc : Thread Cert.AttnKernelIdeal.nD Cert.AttnKernelIdeal.τ).loc Cert.AttnKernelIdeal.main_arg0) = m ((c.tc : Thread Cert.AttnKernelIdeal.nD Cert.AttnKernelIdeal.τ).loc Cert.AttnKernelIdeal.main_arg0)
          ∧ r.2.mem ((c.tc : Thread Cert.AttnKernelIdeal.nD Cert.AttnKernelIdeal.τ).loc Cert.AttnKernelIdeal.main_arg1) = m ((c.tc : Thread Cert.AttnKernelIdeal.nD Cert.AttnKernelIdeal.τ).loc Cert.AttnKernelIdeal.main_arg1)
          ∧ r.2.mem ((c.tc : Thread Cert.AttnKernelIdeal.nD Cert.AttnKernelIdeal.τ).loc Cert.AttnKernelIdeal.main_arg2) = m ((c.tc : Thread Cert.AttnKernelIdeal.nD Cert.AttnKernelIdeal.τ).loc Cert.AttnKernelIdeal.main_arg2)
          ∧ r.2.mem ((c.tc : Thread Cert.AttnKernelIdeal.nD Cert.AttnKernelIdeal.τ).loc Cert.AttnKernelIdeal.main_arg3) = m ((c.tc : Thread Cert.AttnKernelIdeal.nD Cert.AttnKernelIdeal.τ).loc Cert.AttnKernelIdeal.main_arg3)
          ∧ r.2.mem ((c.tc : Thread Cert.AttnKernelIdeal.nD Cert.AttnKernelIdeal.τ).loc Cert.AttnKernelIdeal.main_arg4) = m ((c.tc : Thread Cert.AttnKernelIdeal.nD Cert.AttnKernelIdeal.τ).loc Cert.AttnKernelIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v83) = v0 c
          ∧ r.2.mem ((c.tc : Thread Cert.AttnReferenceIdeal.nD Cert.AttnReferenceIdeal.τ).loc Cert.AttnReferenceIdeal.main_v87) = v1 c
          ∧ r.2.mem ((c.tc : Thread Cert.AttnReferenceIdeal.nD Cert.AttnReferenceIdeal.τ).loc Cert.AttnReferenceIdeal.main_v91) = v2 c
          ∧ r.2.mem ((c.tc : Thread Cert.AttnReferenceIdeal.nD Cert.AttnReferenceIdeal.τ).loc Cert.AttnReferenceIdeal.main_v95) = v3 c
          ∧ r.2.mem ((c.tc : Thread Cert.AttnReferenceIdeal.nD Cert.AttnReferenceIdeal.τ).loc Cert.AttnReferenceIdeal.main_v98) = v4 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_InputKernel_InputKernelIdeal : Prop :=
  True

def algebraic_InputKernelIdeal_InputReferenceIdeal_pre_finite_input [hInputKernelIdeal : Cert.InputKernelIdeal.Facts] [hInputReferenceIdeal : Cert.InputReferenceIdeal.Facts] [hPre_finite_input : Cert.Pre_finite_input.Facts] : Prop :=
  ∀ (m : (ℓ : Loc Cert.InputKernelIdeal.nD Cert.InputKernelIdeal.τ Cert.InputKernelIdeal.sig) → Buf (Elt Ideal) ℓ) (g : Dev Cert.InputKernelIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputKernelIdeal_finite_input m →
    (∀ c : Dev Cert.InputKernelIdeal.nD,
      m' ((c.tc : Thread Cert.InputReferenceIdeal.nD Cert.InputReferenceIdeal.τ).loc Cert.InputReferenceIdeal.main_arg0) = m ((c.tc : Thread Cert.InputKernelIdeal.nD Cert.InputKernelIdeal.τ).loc Cert.InputKernelIdeal.main_arg0)
      ∧ m' ((c.tc : Thread Cert.InputReferenceIdeal.nD Cert.InputReferenceIdeal.τ).loc Cert.InputReferenceIdeal.main_arg1) = m ((c.tc : Thread Cert.InputKernelIdeal.nD Cert.InputKernelIdeal.τ).loc Cert.InputKernelIdeal.main_arg1)
      ∧ m' ((c.tc : Thread Cert.InputReferenceIdeal.nD Cert.InputReferenceIdeal.τ).loc Cert.InputReferenceIdeal.main_arg2) = m ((c.tc : Thread Cert.InputKernelIdeal.nD Cert.InputKernelIdeal.τ).loc Cert.InputKernelIdeal.main_arg2)
      ∧ m' ((c.tc : Thread Cert.InputReferenceIdeal.nD Cert.InputReferenceIdeal.τ).loc Cert.InputReferenceIdeal.main_arg3) = m ((c.tc : Thread Cert.InputKernelIdeal.nD Cert.InputKernelIdeal.τ).loc Cert.InputKernelIdeal.main_arg3)
      ∧ m' ((c.tc : Thread Cert.InputReferenceIdeal.nD Cert.InputReferenceIdeal.τ).loc Cert.InputReferenceIdeal.main_arg4) = m ((c.tc : Thread Cert.InputKernelIdeal.nD Cert.InputKernelIdeal.τ).loc Cert.InputKernelIdeal.main_arg4)
      ∧ m' ((c.tc : Thread Cert.InputReferenceIdeal.nD Cert.InputReferenceIdeal.τ).loc Cert.InputReferenceIdeal.main_arg5) = m ((c.tc : Thread Cert.InputKernelIdeal.nD Cert.InputKernelIdeal.τ).loc Cert.InputKernelIdeal.main_arg5)) →
    ∃ (v0 : (c : Dev Cert.InputKernelIdeal.nD) → Buf (Elt Ideal) ((c.tc : Thread Cert.InputKernelIdeal.nD Cert.InputKernelIdeal.τ).loc Cert.InputKernelIdeal.main_v24_0)) (v1 : (c : Dev Cert.InputKernelIdeal.nD) → Buf (Elt Ideal) ((c.tc : Thread Cert.InputKernelIdeal.nD Cert.InputKernelIdeal.τ).loc Cert.InputKernelIdeal.main_v24_1)) (v2 : (c : Dev Cert.InputKernelIdeal.nD) → Buf (Elt Ideal) ((c.tc : Thread Cert.InputKernelIdeal.nD Cert.InputKernelIdeal.τ).loc Cert.InputKernelIdeal.main_v24_2)),
      θ_run (Cert.InputKernelIdeal.defs (F := Ideal)) (onTc (τ := Cert.InputKernelIdeal.τ) (Cert.InputKernelIdeal.main (F := Ideal))) ⟨m, fun _ => 0, g⟩ (fun r => ∀ c : Dev Cert.InputKernelIdeal.nD,
          r.2.mem ((c.tc : Thread Cert.InputKernelIdeal.nD Cert.InputKernelIdeal.τ).loc Cert.InputKernelIdeal.main_v24_0) = v0 c
          ∧ r.2.mem ((c.tc : Thread Cert.InputKernelIdeal.nD Cert.InputKernelIdeal.τ).loc Cert.InputKernelIdeal.main_v24_1) = v1 c
          ∧ r.2.mem ((c.tc : Thread Cert.InputKernelIdeal.nD Cert.InputKernelIdeal.τ).loc Cert.InputKernelIdeal.main_v24_2) = v2 c
          ∧ r.2.mem ((c.tc : Thread Cert.InputKernelIdeal.nD Cert.InputKernelIdeal.τ).loc Cert.InputKernelIdeal.main_arg0) = m ((c.tc : Thread Cert.InputKernelIdeal.nD Cert.InputKernelIdeal.τ).loc Cert.InputKernelIdeal.main_arg0)
          ∧ r.2.mem ((c.tc : Thread Cert.InputKernelIdeal.nD Cert.InputKernelIdeal.τ).loc Cert.InputKernelIdeal.main_arg1) = m ((c.tc : Thread Cert.InputKernelIdeal.nD Cert.InputKernelIdeal.τ).loc Cert.InputKernelIdeal.main_arg1)
          ∧ r.2.mem ((c.tc : Thread Cert.InputKernelIdeal.nD Cert.InputKernelIdeal.τ).loc Cert.InputKernelIdeal.main_arg2) = m ((c.tc : Thread Cert.InputKernelIdeal.nD Cert.InputKernelIdeal.τ).loc Cert.InputKernelIdeal.main_arg2)
          ∧ r.2.mem ((c.tc : Thread Cert.InputKernelIdeal.nD Cert.InputKernelIdeal.τ).loc Cert.InputKernelIdeal.main_arg3) = m ((c.tc : Thread Cert.InputKernelIdeal.nD Cert.InputKernelIdeal.τ).loc Cert.InputKernelIdeal.main_arg3)
          ∧ r.2.mem ((c.tc : Thread Cert.InputKernelIdeal.nD Cert.InputKernelIdeal.τ).loc Cert.InputKernelIdeal.main_arg4) = m ((c.tc : Thread Cert.InputKernelIdeal.nD Cert.InputKernelIdeal.τ).loc Cert.InputKernelIdeal.main_arg4)
          ∧ r.2.mem ((c.tc : Thread Cert.InputKernelIdeal.nD Cert.InputKernelIdeal.τ).loc Cert.InputKernelIdeal.main_arg5) = m ((c.tc : Thread Cert.InputKernelIdeal.nD Cert.InputKernelIdeal.τ).loc Cert.InputKernelIdeal.main_arg5))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v43) = v0 c
          ∧ r.2.mem ((c.tc : Thread Cert.InputReferenceIdeal.nD Cert.InputReferenceIdeal.τ).loc Cert.InputReferenceIdeal.main_v42) = v1 c
          ∧ r.2.mem ((c.tc : Thread Cert.InputReferenceIdeal.nD Cert.InputReferenceIdeal.τ).loc Cert.InputReferenceIdeal.main_v44) = v2 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1)
          ∧ r.2.mem ((c.tc : Thread Cert.InputReferenceIdeal.nD Cert.InputReferenceIdeal.τ).loc Cert.InputReferenceIdeal.main_arg2) = m' ((c.tc : Thread Cert.InputReferenceIdeal.nD Cert.InputReferenceIdeal.τ).loc Cert.InputReferenceIdeal.main_arg2)
          ∧ r.2.mem ((c.tc : Thread Cert.InputReferenceIdeal.nD Cert.InputReferenceIdeal.τ).loc Cert.InputReferenceIdeal.main_arg3) = m' ((c.tc : Thread Cert.InputReferenceIdeal.nD Cert.InputReferenceIdeal.τ).loc Cert.InputReferenceIdeal.main_arg3)
          ∧ r.2.mem ((c.tc : Thread Cert.InputReferenceIdeal.nD Cert.InputReferenceIdeal.τ).loc Cert.InputReferenceIdeal.main_arg4) = m' ((c.tc : Thread Cert.InputReferenceIdeal.nD Cert.InputReferenceIdeal.τ).loc Cert.InputReferenceIdeal.main_arg4)
          ∧ r.2.mem ((c.tc : Thread Cert.InputReferenceIdeal.nD Cert.InputReferenceIdeal.τ).loc Cert.InputReferenceIdeal.main_arg5) = m' ((c.tc : Thread Cert.InputReferenceIdeal.nD Cert.InputReferenceIdeal.τ).loc Cert.InputReferenceIdeal.main_arg5))

def preserves_ProjKernel_ProjKernelIdeal : Prop :=
  IdealRules.named_const.Statement Cert.ProjKernelIdeal.κ "qscale" .f32 0x3E38AA3B#32 (((1 / 8) * (Real.log 2)⁻¹ : ℝ) : EReal)

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)) →
    ∃ (v0 : (c : Dev Cert.ProjKernelIdeal.nD) → Buf (Elt Ideal) ((c.tc : Thread Cert.ProjKernelIdeal.nD Cert.ProjKernelIdeal.τ).loc Cert.ProjKernelIdeal.main_v9_0)) (v1 : (c : Dev Cert.ProjKernelIdeal.nD) → Buf (Elt Ideal) ((c.tc : Thread Cert.ProjKernelIdeal.nD Cert.ProjKernelIdeal.τ).loc Cert.ProjKernelIdeal.main_v9_1)) (v2 : (c : Dev Cert.ProjKernelIdeal.nD) → Buf (Elt Ideal) ((c.tc : Thread Cert.ProjKernelIdeal.nD Cert.ProjKernelIdeal.τ).loc Cert.ProjKernelIdeal.main_v9_2)) (v3 : (c : Dev Cert.ProjKernelIdeal.nD) → Buf (Elt Ideal) ((c.tc : Thread Cert.ProjKernelIdeal.nD Cert.ProjKernelIdeal.τ).loc Cert.ProjKernelIdeal.main_v9_3)) (v4 : (c : Dev Cert.ProjKernelIdeal.nD) → Buf (Elt Ideal) ((c.tc : Thread Cert.ProjKernelIdeal.nD Cert.ProjKernelIdeal.τ).loc Cert.ProjKernelIdeal.main_v9_4)) (v5 : (c : Dev Cert.ProjKernelIdeal.nD) → Buf (Elt Ideal) ((c.tc : Thread Cert.ProjKernelIdeal.nD Cert.ProjKernelIdeal.τ).loc Cert.ProjKernelIdeal.main_v9_5)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v9_0) = v0 c
          ∧ r.2.mem ((c.tc : Thread Cert.ProjKernelIdeal.nD Cert.ProjKernelIdeal.τ).loc Cert.ProjKernelIdeal.main_v9_1) = v1 c
          ∧ r.2.mem ((c.tc : Thread Cert.ProjKernelIdeal.nD Cert.ProjKernelIdeal.τ).loc Cert.ProjKernelIdeal.main_v9_2) = v2 c
          ∧ r.2.mem ((c.tc : Thread Cert.ProjKernelIdeal.nD Cert.ProjKernelIdeal.τ).loc Cert.ProjKernelIdeal.main_v9_3) = v3 c
          ∧ r.2.mem ((c.tc : Thread Cert.ProjKernelIdeal.nD Cert.ProjKernelIdeal.τ).loc Cert.ProjKernelIdeal.main_v9_4) = v4 c
          ∧ r.2.mem ((c.tc : Thread Cert.ProjKernelIdeal.nD Cert.ProjKernelIdeal.τ).loc Cert.ProjKernelIdeal.main_v9_5) = v5 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v36) = v0 c
          ∧ r.2.mem ((c.tc : Thread Cert.ProjReferenceIdeal.nD Cert.ProjReferenceIdeal.τ).loc Cert.ProjReferenceIdeal.main_v37) = v1 c
          ∧ r.2.mem ((c.tc : Thread Cert.ProjReferenceIdeal.nD Cert.ProjReferenceIdeal.τ).loc Cert.ProjReferenceIdeal.main_v38) = v2 c
          ∧ r.2.mem ((c.tc : Thread Cert.ProjReferenceIdeal.nD Cert.ProjReferenceIdeal.τ).loc Cert.ProjReferenceIdeal.main_v40) = v3 c
          ∧ r.2.mem ((c.tc : Thread Cert.ProjReferenceIdeal.nD Cert.ProjReferenceIdeal.τ).loc Cert.ProjReferenceIdeal.main_v44) = v4 c
          ∧ r.2.mem ((c.tc : Thread Cert.ProjReferenceIdeal.nD Cert.ProjReferenceIdeal.τ).loc Cert.ProjReferenceIdeal.main_v48) = v5 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def preserves_OptKernel_OptKernelIdeal : Prop :=
  True

def algebraic_OptKernelIdeal_OptReferenceIdeal [hOptKernelIdeal : Cert.OptKernelIdeal.Facts] [hOptReferenceIdeal : Cert.OptReferenceIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg)
    (m' : (ℓ : Loc Cert.OptReferenceIdeal.nD Cert.OptReferenceIdeal.τ Cert.OptReferenceIdeal.sig) → Buf (Elt Ideal) ℓ) (g' : Dev Cert.OptReferenceIdeal.nD → PrngReg), Pre_OptKernelIdeal m →
    (∀ c : Dev Cert.OptKernelIdeal.nD,
      m' ((c.tc : Thread Cert.OptReferenceIdeal.nD Cert.OptReferenceIdeal.τ).loc Cert.OptReferenceIdeal.main_arg0) = m ((c.tc : Thread Cert.OptKernelIdeal.nD Cert.OptKernelIdeal.τ).loc Cert.OptKernelIdeal.main_arg0)
      ∧ m' ((c.tc : Thread Cert.OptReferenceIdeal.nD Cert.OptReferenceIdeal.τ).loc Cert.OptReferenceIdeal.main_arg1) = m ((c.tc : Thread Cert.OptKernelIdeal.nD Cert.OptKernelIdeal.τ).loc Cert.OptKernelIdeal.main_arg1)
      ∧ m' ((c.tc : Thread Cert.OptReferenceIdeal.nD Cert.OptReferenceIdeal.τ).loc Cert.OptReferenceIdeal.main_arg2) = m ((c.tc : Thread Cert.OptKernelIdeal.nD Cert.OptKernelIdeal.τ).loc Cert.OptKernelIdeal.main_arg2)
      ∧ m' ((c.tc : Thread Cert.OptReferenceIdeal.nD Cert.OptReferenceIdeal.τ).loc Cert.OptReferenceIdeal.main_arg3) = m ((c.tc : Thread Cert.OptKernelIdeal.nD Cert.OptKernelIdeal.τ).loc Cert.OptKernelIdeal.main_arg3)
      ∧ m' ((c.tc : Thread Cert.OptReferenceIdeal.nD Cert.OptReferenceIdeal.τ).loc Cert.OptReferenceIdeal.main_arg4) = m ((c.tc : Thread Cert.OptKernelIdeal.nD Cert.OptKernelIdeal.τ).loc Cert.OptKernelIdeal.main_arg4)
      ∧ m' ((c.tc : Thread Cert.OptReferenceIdeal.nD Cert.OptReferenceIdeal.τ).loc Cert.OptReferenceIdeal.main_arg5) = m ((c.tc : Thread Cert.OptKernelIdeal.nD Cert.OptKernelIdeal.τ).loc Cert.OptKernelIdeal.main_arg5)
      ∧ m' ((c.tc : Thread Cert.OptReferenceIdeal.nD Cert.OptReferenceIdeal.τ).loc Cert.OptReferenceIdeal.main_arg6) = m ((c.tc : Thread Cert.OptKernelIdeal.nD Cert.OptKernelIdeal.τ).loc Cert.OptKernelIdeal.main_arg6)
      ∧ m' ((c.tc : Thread Cert.OptReferenceIdeal.nD Cert.OptReferenceIdeal.τ).loc Cert.OptReferenceIdeal.main_arg7) = m ((c.tc : Thread Cert.OptKernelIdeal.nD Cert.OptKernelIdeal.τ).loc Cert.OptKernelIdeal.main_arg7)
      ∧ m' ((c.tc : Thread Cert.OptReferenceIdeal.nD Cert.OptReferenceIdeal.τ).loc Cert.OptReferenceIdeal.main_arg8) = m ((c.tc : Thread Cert.OptKernelIdeal.nD Cert.OptKernelIdeal.τ).loc Cert.OptKernelIdeal.main_arg8)
      ∧ m' ((c.tc : Thread Cert.OptReferenceIdeal.nD Cert.OptReferenceIdeal.τ).loc Cert.OptReferenceIdeal.main_arg9) = m ((c.tc : Thread Cert.OptKernelIdeal.nD Cert.OptKernelIdeal.τ).loc Cert.OptKernelIdeal.main_arg9)) →
    ∃ (v0 : (c : Dev Cert.OptKernelIdeal.nD) → Buf (Elt Ideal) ((c.tc : Thread Cert.OptKernelIdeal.nD Cert.OptKernelIdeal.τ).loc Cert.OptKernelIdeal.main_v6_0)) (v1 : (c : Dev Cert.OptKernelIdeal.nD) → Buf (Elt Ideal) ((c.tc : Thread Cert.OptKernelIdeal.nD Cert.OptKernelIdeal.τ).loc Cert.OptKernelIdeal.main_v6_1)) (v2 : (c : Dev Cert.OptKernelIdeal.nD) → Buf (Elt Ideal) ((c.tc : Thread Cert.OptKernelIdeal.nD Cert.OptKernelIdeal.τ).loc Cert.OptKernelIdeal.main_v6_2)) (v3 : (c : Dev Cert.OptKernelIdeal.nD) → Buf (Elt Ideal) ((c.tc : Thread Cert.OptKernelIdeal.nD Cert.OptKernelIdeal.τ).loc Cert.OptKernelIdeal.main_v6_3)) (v4 : (c : Dev Cert.OptKernelIdeal.nD) → Buf (Elt Ideal) ((c.tc : Thread Cert.OptKernelIdeal.nD Cert.OptKernelIdeal.τ).loc Cert.OptKernelIdeal.main_v6_4)) (v5 : (c : Dev Cert.OptKernelIdeal.nD) → Buf (Elt Ideal) ((c.tc : Thread Cert.OptKernelIdeal.nD Cert.OptKernelIdeal.τ).loc Cert.OptKernelIdeal.main_v6_5)) (v6 : (c : Dev Cert.OptKernelIdeal.nD) → Buf (Elt Ideal) ((c.tc : Thread Cert.OptKernelIdeal.nD Cert.OptKernelIdeal.τ).loc Cert.OptKernelIdeal.main_v6_6)) (v7 : (c : Dev Cert.OptKernelIdeal.nD) → Buf (Elt Ideal) ((c.tc : Thread Cert.OptKernelIdeal.nD Cert.OptKernelIdeal.τ).loc Cert.OptKernelIdeal.main_v6_7)),
      θ_run (Cert.OptKernelIdeal.defs (F := Ideal)) (onTc (τ := Cert.OptKernelIdeal.τ) (Cert.OptKernelIdeal.main (F := Ideal))) ⟨m, fun _ => 0, g⟩ (fun r => ∀ c : Dev Cert.OptKernelIdeal.nD,
          r.2.mem ((c.tc : Thread Cert.OptKernelIdeal.nD Cert.OptKernelIdeal.τ).loc Cert.OptKernelIdeal.main_v6_0) = v0 c
          ∧ r.2.mem ((c.tc : Thread Cert.OptKernelIdeal.nD Cert.OptKernelIdeal.τ).loc Cert.OptKernelIdeal.main_v6_1) = v1 c
          ∧ r.2.mem ((c.tc : Thread Cert.OptKernelIdeal.nD Cert.OptKernelIdeal.τ).loc Cert.OptKernelIdeal.main_v6_2) = v2 c
          ∧ r.2.mem ((c.tc : Thread Cert.OptKernelIdeal.nD Cert.OptKernelIdeal.τ).loc Cert.OptKernelIdeal.main_v6_3) = v3 c
          ∧ r.2.mem ((c.tc : Thread Cert.OptKernelIdeal.nD Cert.OptKernelIdeal.τ).loc Cert.OptKernelIdeal.main_v6_4) = v4 c
          ∧ r.2.mem ((c.tc : Thread Cert.OptKernelIdeal.nD Cert.OptKernelIdeal.τ).loc Cert.OptKernelIdeal.main_v6_5) = v5 c
          ∧ r.2.mem ((c.tc : Thread Cert.OptKernelIdeal.nD Cert.OptKernelIdeal.τ).loc Cert.OptKernelIdeal.main_v6_6) = v6 c
          ∧ r.2.mem ((c.tc : Thread Cert.OptKernelIdeal.nD Cert.OptKernelIdeal.τ).loc Cert.OptKernelIdeal.main_v6_7) = v7 c
          ∧ r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
          ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
          ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
          ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
          ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
          ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
          ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6)
          ∧ r.2.mem ((c.tc : Thread Cert.OptKernelIdeal.nD Cert.OptKernelIdeal.τ).loc Cert.OptKernelIdeal.main_arg7) = m ((c.tc : Thread Cert.OptKernelIdeal.nD Cert.OptKernelIdeal.τ).loc Cert.OptKernelIdeal.main_arg7)
          ∧ r.2.mem ((c.tc : Thread Cert.OptKernelIdeal.nD Cert.OptKernelIdeal.τ).loc Cert.OptKernelIdeal.main_arg8) = m ((c.tc : Thread Cert.OptKernelIdeal.nD Cert.OptKernelIdeal.τ).loc Cert.OptKernelIdeal.main_arg8)
          ∧ r.2.mem ((c.tc : Thread Cert.OptKernelIdeal.nD Cert.OptKernelIdeal.τ).loc Cert.OptKernelIdeal.main_arg9) = m ((c.tc : Thread Cert.OptKernelIdeal.nD Cert.OptKernelIdeal.τ).loc Cert.OptKernelIdeal.main_arg9))
      ∧ θ_run (Cert.OptReferenceIdeal.defs (F := Ideal)) (onTc (τ := Cert.OptReferenceIdeal.τ) (Cert.OptReferenceIdeal.main (F := Ideal))) ⟨m', fun _ => 0, g'⟩ (fun r => ∀ c : Dev Cert.OptReferenceIdeal.nD,
          r.2.mem ((c.tc : Thread Cert.OptReferenceIdeal.nD Cert.OptReferenceIdeal.τ).loc Cert.OptReferenceIdeal.main_v7) = v0 c
          ∧ r.2.mem ((c.tc : Thread Cert.OptReferenceIdeal.nD Cert.OptReferenceIdeal.τ).loc Cert.OptReferenceIdeal.main_v44) = v1 c
          ∧ r.2.mem ((c.tc : Thread Cert.OptReferenceIdeal.nD Cert.OptReferenceIdeal.τ).loc Cert.OptReferenceIdeal.main_v25) = v2 c
          ∧ r.2.mem ((c.tc : Thread Cert.OptReferenceIdeal.nD Cert.OptReferenceIdeal.τ).loc Cert.OptReferenceIdeal.main_v31) = v3 c
          ∧ r.2.mem ((c.tc : Thread Cert.OptReferenceIdeal.nD Cert.OptReferenceIdeal.τ).loc Cert.OptReferenceIdeal.main_v72) = v4 c
          ∧ r.2.mem ((c.tc : Thread Cert.OptReferenceIdeal.nD Cert.OptReferenceIdeal.τ).loc Cert.OptReferenceIdeal.main_v73) = v5 c
          ∧ r.2.mem ((c.tc : Thread Cert.OptReferenceIdeal.nD Cert.OptReferenceIdeal.τ).loc Cert.OptReferenceIdeal.main_v74) = v6 c
          ∧ r.2.mem ((c.tc : Thread Cert.OptReferenceIdeal.nD Cert.OptReferenceIdeal.τ).loc Cert.OptReferenceIdeal.main_v75) = v7 c
          ∧ r.2.mem ((c.tc : Thread Cert.OptReferenceIdeal.nD Cert.OptReferenceIdeal.τ).loc Cert.OptReferenceIdeal.main_arg0) = m' ((c.tc : Thread Cert.OptReferenceIdeal.nD Cert.OptReferenceIdeal.τ).loc Cert.OptReferenceIdeal.main_arg0)
          ∧ r.2.mem ((c.tc : Thread Cert.OptReferenceIdeal.nD Cert.OptReferenceIdeal.τ).loc Cert.OptReferenceIdeal.main_arg1) = m' ((c.tc : Thread Cert.OptReferenceIdeal.nD Cert.OptReferenceIdeal.τ).loc Cert.OptReferenceIdeal.main_arg1)
          ∧ r.2.mem ((c.tc : Thread Cert.OptReferenceIdeal.nD Cert.OptReferenceIdeal.τ).loc Cert.OptReferenceIdeal.main_arg2) = m' ((c.tc : Thread Cert.OptReferenceIdeal.nD Cert.OptReferenceIdeal.τ).loc Cert.OptReferenceIdeal.main_arg2)
          ∧ r.2.mem ((c.tc : Thread Cert.OptReferenceIdeal.nD Cert.OptReferenceIdeal.τ).loc Cert.OptReferenceIdeal.main_arg3) = m' ((c.tc : Thread Cert.OptReferenceIdeal.nD Cert.OptReferenceIdeal.τ).loc Cert.OptReferenceIdeal.main_arg3)
          ∧ r.2.mem ((c.tc : Thread Cert.OptReferenceIdeal.nD Cert.OptReferenceIdeal.τ).loc Cert.OptReferenceIdeal.main_arg4) = m' ((c.tc : Thread Cert.OptReferenceIdeal.nD Cert.OptReferenceIdeal.τ).loc Cert.OptReferenceIdeal.main_arg4)
          ∧ r.2.mem ((c.tc : Thread Cert.OptReferenceIdeal.nD Cert.OptReferenceIdeal.τ).loc Cert.OptReferenceIdeal.main_arg5) = m' ((c.tc : Thread Cert.OptReferenceIdeal.nD Cert.OptReferenceIdeal.τ).loc Cert.OptReferenceIdeal.main_arg5)
          ∧ r.2.mem ((c.tc : Thread Cert.OptReferenceIdeal.nD Cert.OptReferenceIdeal.τ).loc Cert.OptReferenceIdeal.main_arg6) = m' ((c.tc : Thread Cert.OptReferenceIdeal.nD Cert.OptReferenceIdeal.τ).loc Cert.OptReferenceIdeal.main_arg6)
          ∧ r.2.mem ((c.tc : Thread Cert.OptReferenceIdeal.nD Cert.OptReferenceIdeal.τ).loc Cert.OptReferenceIdeal.main_arg7) = m' ((c.tc : Thread Cert.OptReferenceIdeal.nD Cert.OptReferenceIdeal.τ).loc Cert.OptReferenceIdeal.main_arg7)
          ∧ r.2.mem ((c.tc : Thread Cert.OptReferenceIdeal.nD Cert.OptReferenceIdeal.τ).loc Cert.OptReferenceIdeal.main_arg8) = m' ((c.tc : Thread Cert.OptReferenceIdeal.nD Cert.OptReferenceIdeal.τ).loc Cert.OptReferenceIdeal.main_arg8)
          ∧ r.2.mem ((c.tc : Thread Cert.OptReferenceIdeal.nD Cert.OptReferenceIdeal.τ).loc Cert.OptReferenceIdeal.main_arg9) = m' ((c.tc : Thread Cert.OptReferenceIdeal.nD Cert.OptReferenceIdeal.τ).loc Cert.OptReferenceIdeal.main_arg9))

def Claim : Prop :=
  ∃ (hGateKernel : Cert.GateKernel.Facts) (hGateKernelIdeal : Cert.GateKernelIdeal.Facts) (hGateReferenceIdeal : Cert.GateReferenceIdeal.Facts) (hAttnKernel : Cert.AttnKernel.Facts) (hAttnKernelIdeal : Cert.AttnKernelIdeal.Facts) (hAttnReferenceIdeal : Cert.AttnReferenceIdeal.Facts) (hInputKernel : Cert.InputKernel.Facts) (hInputKernelIdeal : Cert.InputKernelIdeal.Facts) (hInputReferenceIdeal : Cert.InputReferenceIdeal.Facts) (hProjKernel : Cert.ProjKernel.Facts) (hProjKernelIdeal : Cert.ProjKernelIdeal.Facts) (hProjReferenceIdeal : Cert.ProjReferenceIdeal.Facts) (hOptKernel : Cert.OptKernel.Facts) (hOptKernelIdeal : Cert.OptKernelIdeal.Facts) (hOptReferenceIdeal : Cert.OptReferenceIdeal.Facts) (hPre_finite_attention : Cert.Pre_finite_attention.Facts) (hPre_finite_input : Cert.Pre_finite_input.Facts),
    quiescent_GateKernel (hGateKernel := hGateKernel)
    ∧ quiescent_GateKernelIdeal (hGateKernelIdeal := hGateKernelIdeal)
    ∧ quiescent_GateReferenceIdeal (hGateReferenceIdeal := hGateReferenceIdeal)
    ∧ quiescent_AttnKernel (hAttnKernel := hAttnKernel)
    ∧ quiescent_AttnKernelIdeal (hAttnKernelIdeal := hAttnKernelIdeal)
    ∧ quiescent_AttnKernelIdeal_pre_finite_attention (hAttnKernelIdeal := hAttnKernelIdeal) (hPre_finite_attention := hPre_finite_attention)
    ∧ quiescent_AttnReferenceIdeal (hAttnReferenceIdeal := hAttnReferenceIdeal)
    ∧ quiescent_AttnReferenceIdeal_pre_finite_attention (hAttnReferenceIdeal := hAttnReferenceIdeal) (hPre_finite_attention := hPre_finite_attention)
    ∧ quiescent_InputKernel (hInputKernel := hInputKernel)
    ∧ quiescent_InputKernelIdeal (hInputKernelIdeal := hInputKernelIdeal)
    ∧ quiescent_InputKernelIdeal_pre_finite_input (hInputKernelIdeal := hInputKernelIdeal) (hPre_finite_input := hPre_finite_input)
    ∧ quiescent_InputReferenceIdeal (hInputReferenceIdeal := hInputReferenceIdeal)
    ∧ quiescent_InputReferenceIdeal_pre_finite_input (hInputReferenceIdeal := hInputReferenceIdeal) (hPre_finite_input := hPre_finite_input)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ quiescent_OptKernel (hOptKernel := hOptKernel)
    ∧ quiescent_OptKernelIdeal (hOptKernelIdeal := hOptKernelIdeal)
    ∧ quiescent_OptReferenceIdeal (hOptReferenceIdeal := hOptReferenceIdeal)
    ∧ preserves_GateKernel_GateKernelIdeal
    ∧ algebraic_GateKernelIdeal_GateReferenceIdeal (hGateKernelIdeal := hGateKernelIdeal) (hGateReferenceIdeal := hGateReferenceIdeal)
    ∧ preserves_AttnKernel_AttnKernelIdeal
    ∧ algebraic_AttnKernelIdeal_AttnReferenceIdeal_pre_finite_attention (hAttnKernelIdeal := hAttnKernelIdeal) (hAttnReferenceIdeal := hAttnReferenceIdeal) (hPre_finite_attention := hPre_finite_attention)
    ∧ preserves_InputKernel_InputKernelIdeal
    ∧ algebraic_InputKernelIdeal_InputReferenceIdeal_pre_finite_input (hInputKernelIdeal := hInputKernelIdeal) (hInputReferenceIdeal := hInputReferenceIdeal) (hPre_finite_input := hPre_finite_input)
    ∧ preserves_ProjKernel_ProjKernelIdeal
    ∧ algebraic_ProjKernelIdeal_ProjReferenceIdeal (hProjKernelIdeal := hProjKernelIdeal) (hProjReferenceIdeal := hProjReferenceIdeal)
    ∧ preserves_OptKernel_OptKernelIdeal
    ∧ algebraic_OptKernelIdeal_OptReferenceIdeal (hOptKernelIdeal := hOptKernelIdeal) (hOptReferenceIdeal := hOptReferenceIdeal)
-- ==== Pre_finite_attention.lean ====
abbrev S4112x8x64 : Shape := ⟨3, ![4112, 8, 64]⟩
abbrev S4112x8 : Shape := ⟨2, ![4112, 8]⟩
abbrev S_ : Shape := ⟨0, ![]⟩

class Facts : Prop where
  bcast_S_S4112x8x64 : S_.BroadcastsInDim S4112x8x64 (![] : Fin 0 → Fin S4112x8x64.rank)
  reducesTo_S4112x8x64_S_d0_1_2 : S4112x8x64.ReducesTo [0, 1, 2] S_
  h_S_ : 0 < S_.numel
  bcast_S_S4112x8 : S_.BroadcastsInDim S4112x8 (![] : Fin 0 → Fin S4112x8.rank)
  reducesTo_S4112x8_S_d0_1 : S4112x8.ReducesTo [0, 1] S_

variable [Facts]

def fn_part1 {F : FTy → Type} [FloatOps F] (main_arg4 : FVec F S4112x8x64 .f32) (main_v13 : IVec S_ 1) (main_v16 : IVec S4112x8 1) : IVec S_ 1 :=
  let main_c_5 : IVec S_ 1 := constantI S_ 1 1#1
  let main_v17 : IVec S_ 1 := (fun x v => Host.reduce IntOp.andi x v reducesTo_S4112x8_S_d0_1 h_S_) main_v16 main_c_5
  let main_v18 : IVec S_ 1 := andi main_v13 main_v17
  let main_v19 : FVec F S4112x8x64 .f32 := Host.absf main_arg4
  let main_cst_6 : FVec F S_ .f32 := constant S_ .f32 0x7F800000#32
  let main_v20 : FVec F S4112x8x64 .f32 := broadcastInDim S4112x8x64 ![] bcast_S_S4112x8x64 main_cst_6
  let main_v21 : IVec S4112x8x64 1 := cmpf .olt main_v19 main_v20
  let main_c_7 : IVec S_ 1 := constantI S_ 1 1#1
  let main_v22 : IVec S_ 1 := (fun x v => Host.reduce IntOp.andi x v reducesTo_S4112x8x64_S_d0_1_2 h_S_) main_v21 main_c_7
  let main_v23 : IVec S_ 1 := andi main_v18 main_v22
  main_v23

def fn {F : FTy → Type} [FloatOps F] (main_arg0 : FVec F S4112x8x64 .f32) (main_arg1 : FVec F S4112x8x64 .f32) (main_arg2 : FVec F S4112x8x64 .f32) (main_arg3 : FVec F S4112x8 .f32) (main_arg4 : FVec F S4112x8x64 .f32) : IVec S_ 1 :=
  let main_v0 : FVec F S4112x8x64 .f32 := Host.absf main_arg0
  let main_cst : FVec F S_ .f32 := constant S_ .f32 0x7F800000#32
  let main_v1 : FVec F S4112x8x64 .f32 := broadcastInDim S4112x8x64 ![] bcast_S_S4112x8x64 main_cst
  let main_v2 : IVec S4112x8x64 1 := cmpf .olt main_v0 main_v1
  let main_c : IVec S_ 1 := constantI S_ 1 1#1
  let main_v3 : IVec S_ 1 := (fun x v => Host.reduce IntOp.andi x v reducesTo_S4112x8x64_S_d0_1_2 h_S_) main_v2 main_c
  let main_v4 : FVec F S4112x8x64 .f32 := Host.absf main_arg1
  let main_cst_0 : FVec F S_ .f32 := constant S_ .f32 0x7F800000#32
  let main_v5 : FVec F S4112x8x64 .f32 := broadcastInDim S4112x8x64 ![] bcast_S_S4112x8x64 main_cst_0
  let main_v6 : IVec S4112x8x64 1 := cmpf .olt main_v4 main_v5
  let main_c_1 : IVec S_ 1 := constantI S_ 1 1#1
  let main_v7 : IVec S_ 1 := (fun x v => Host.reduce IntOp.andi x v reducesTo_S4112x8x64_S_d0_1_2 h_S_) main_v6 main_c_1
  let main_v8 : IVec S_ 1 := andi main_v3 main_v7
  let main_v9 : FVec F S4112x8x64 .f32 := Host.absf main_arg2
  let main_cst_2 : FVec F S_ .f32 := constant S_ .f32 0x7F800000#32
  let main_v10 : FVec F S4112x8x64 .f32 := broadcastInDim S4112x8x64 ![] bcast_S_S4112x8x64 main_cst_2
  let main_v11 : IVec S4112x8x64 1 := cmpf .olt main_v9 main_v10
  let main_c_3 : IVec S_ 1 := constantI S_ 1 1#1
  let main_v12 : IVec S_ 1 := (fun x v => Host.reduce IntOp.andi x v reducesTo_S4112x8x64_S_d0_1_2 h_S_) main_v11 main_c_3
  let main_v13 : IVec S_ 1 := andi main_v8 main_v12
  let main_v14 : FVec F S4112x8 .f32 := Host.absf main_arg3
  let main_cst_4 : FVec F S_ .f32 := constant S_ .f32 0x7F800000#32
  let main_v15 : FVec F S4112x8 .f32 := broadcastInDim S4112x8 ![] bcast_S_S4112x8 main_cst_4
  let main_v16 : IVec S4112x8 1 := cmpf .olt main_v14 main_v15
  fn_part1 (F := F) main_arg4 main_v13 main_v16
-- ==== Pre_finite_input.lean ====
abbrev S4096x1024 : Shape := ⟨2, ![4096, 1024]⟩
abbrev S16x1024 : Shape := ⟨2, ![16, 1024]⟩
abbrev S1024 : Shape := ⟨1, ![1024]⟩
abbrev S1024x4104 : Shape := ⟨2, ![1024, 4104]⟩
abbrev S4112x4104 : Shape := ⟨2, ![4112, 4104]⟩
abbrev S4112x1024 : Shape := ⟨2, ![4112, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_
  bcast_S_S1024x4104 : S_.BroadcastsInDim S1024x4104 (![] : Fin 0 → Fin S1024x4104.rank)
  reducesTo_S1024x4104_S_d0_1 : S1024x4104.ReducesTo [0, 1] S_
  bcast_S_S4112x4104 : S_.BroadcastsInDim S4112x4104 (![] : Fin 0 → Fin S4112x4104.rank)
  reducesTo_S4112x4104_S_d0_1 : S4112x4104.ReducesTo [0, 1] S_
  bcast_S_S4112x1024 : S_.BroadcastsInDim S4112x1024 (![] : Fin 0 → Fin S4112x1024.rank)
  reducesTo_S4112x1024_S_d0_1 : S4112x1024.ReducesTo [0, 1] S_

variable [Facts]

def fn_part1 {F : FTy → Type} [FloatOps F] (main_arg4 : FVec F S4112x4104 .f32) (main_arg5 : FVec F S4112x1024 .f32) (main_v13 : IVec S_ 1) (main_v16 : IVec S1024x4104 1) : IVec S_ 1 :=
  let main_c_5 : IVec S_ 1 := constantI S_ 1 1#1
  let main_v17 : IVec S_ 1 := (fun x v => Host.reduce IntOp.andi x v reducesTo_S1024x4104_S_d0_1 h_S_) main_v16 main_c_5
  let main_v18 : IVec S_ 1 := andi main_v13 main_v17
  let main_v19 : FVec F S4112x4104 .f32 := Host.absf main_arg4
  let main_cst_6 : FVec F S_ .f32 := constant S_ .f32 0x7F800000#32
  let main_v20 : FVec F S4112x4104 .f32 := broadcastInDim S4112x4104 ![] bcast_S_S4112x4104 main_cst_6
  let main_v21 : IVec S4112x4104 1 := cmpf .olt main_v19 main_v20
  let main_c_7 : IVec S_ 1 := constantI S_ 1 1#1
  let main_v22 : IVec S_ 1 := (fun x v => Host.reduce IntOp.andi x v reducesTo_S4112x4104_S_d0_1 h_S_) main_v21 main_c_7
  let main_v23 : IVec S_ 1 := andi main_v18 main_v22
  let main_v24 : FVec F S4112x1024 .f32 := Host.absf main_arg5
  let main_cst_8 : FVec F S_ .f32 := constant S_ .f32 0x7F800000#32
  let main_v25 : FVec F S4112x1024 .f32 := broadcastInDim S4112x1024 ![] bcast_S_S4112x1024 main_cst_8
  let main_v26 : IVec S4112x1024 1 := cmpf .olt main_v24 main_v25
  let main_c_9 : IVec S_ 1 := constantI S_ 1 1#1
  let main_v27 : IVec S_ 1 := (fun x v => Host.reduce IntOp.andi x v reducesTo_S4112x1024_S_d0_1 h_S_) main_v26 main_c_9
  let main_v28 : IVec S_ 1 := andi main_v23 main_v27
  main_v28

def fn {F : FTy → Type} [FloatOps F] (main_arg0 : FVec F S4096x1024 .f32) (main_arg1 : FVec F S16x1024 .f32) (main_arg2 : FVec F S1024 .f32) (main_arg3 : FVec F S1024x4104 .f32) (main_arg4 : FVec F S4112x4104 .f32) (main_arg5 : FVec F S4112x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4104 .f32 := Host.absf main_arg3
  let main_cst_4 : FVec F S_ .f32 := constant S_ .f32 0x7F800000#32
  let main_v15 : FVec F S1024x4104 .f32 := broadcastInDim S1024x4104 ![] bcast_S_S1024x4104 main_cst_4
  let main_v16 : IVec S1024x4104 1 := cmpf .olt main_v14 main_v15
  fn_part1 (F := F) main_arg4 main_arg5 main_v13 main_v16
-- ==== GateKernel.lean ====
abbrev S4112x8 : Shape := ⟨2, ![4112, 8]⟩
abbrev S8 : Shape := ⟨1, ![8]⟩
abbrev S8x4112 : Shape := ⟨2, ![8, 4112]⟩
abbrev S_ : Shape := ⟨0, ![]⟩
abbrev S8x4224 : Shape := ⟨2, ![8, 4224]⟩
abbrev S8x1 : Shape := ⟨2, ![8, 1]⟩
abbrev S8x1x4224 : Shape := ⟨3, ![8, 1, 4224]⟩
abbrev S16x4224 : Shape := ⟨2, ![16, 4224]⟩
abbrev S8x128 : Shape := ⟨2, ![8, 128]⟩
abbrev S1x1x4224 : Shape := ⟨3, ![1, 1, 4224]⟩
abbrev S1x4224 : Shape := ⟨2, ![1, 4224]⟩

abbrev nBuf : Space → Nat
  | .hbm => 38
  | .vmem => 5
  | .smem => 0
  | _ => 0

abbrev bufTy : (tb : Table) → Fin (tcTables nBuf tb) → BufTy
  | .hbm, ⟨0, _⟩ => ⟨S4112x8, .f32⟩
  | .hbm, ⟨1, _⟩ => ⟨S8, .f32⟩
  | .hbm, ⟨2, _⟩ => ⟨S4112x8, .f32⟩
  | .hbm, ⟨3, _⟩ => ⟨S4112x8, .f32⟩
  | .hbm, ⟨4, _⟩ => ⟨S8x4112, .f32⟩
  | .hbm, ⟨5, _⟩ => ⟨S_, .i32⟩
  | .hbm, ⟨6, _⟩ => ⟨S_, .f32⟩
  | .hbm, ⟨7, _⟩ => ⟨S8x4224, .f32⟩
  | .hbm, ⟨8, _⟩ => ⟨S8x1, .f32⟩
  | .hbm, ⟨9, _⟩ => ⟨S8x4224, .f32⟩
  | .hbm, ⟨10, _⟩ => ⟨S8x4224, .f32⟩
  | .hbm, ⟨11, _⟩ => ⟨S8x4224, .i32⟩
  | .hbm, ⟨12, _⟩ => ⟨S_, .i32⟩
  | .hbm, ⟨13, _⟩ => ⟨S8x4224, .i32⟩
  | .hbm, ⟨14, _⟩ => ⟨S8x4224, .i1⟩
  | .hbm, ⟨15, _⟩ => ⟨S8x4224, .f32⟩
  | .hbm, ⟨16, _⟩ => ⟨S_, .f32⟩
  | .hbm, ⟨17, _⟩ => ⟨S8x4224, .f32⟩
  | .hbm, ⟨18, _⟩ => ⟨S8x4224, .f32⟩
  | .hbm, ⟨19, _⟩ => ⟨S_, .f32⟩
  | .hbm, ⟨20, _⟩ => ⟨S8x4224, .f32⟩
  | .hbm, ⟨21, _⟩ => ⟨S8x4224, .f32⟩
  | .hbm, ⟨22, _⟩ => ⟨S_, .f32⟩
  | .hbm, ⟨23, _⟩ => ⟨S_, .f32⟩
  | .hbm, ⟨24, _⟩ => ⟨S8x4224, .f32⟩
  | .hbm, ⟨25, _⟩ => ⟨S8x4224, .f32⟩
  | .hbm, ⟨26, _⟩ => ⟨S8x4112, .f32⟩
  | .hbm, ⟨27, _⟩ => ⟨S_, .i32⟩
  | .hbm, ⟨28, _⟩ => ⟨S_, .f32⟩
  | .hbm, ⟨29, _⟩ => ⟨S8x4224, .f32⟩
  | .hbm, ⟨30, _⟩ => ⟨S8x1x4224, .f32⟩
  | .hbm, ⟨31, _⟩ => ⟨S8x4112, .f32⟩
  | .hbm, ⟨32, _⟩ => ⟨S_, .i32⟩
  | .hbm, ⟨33, _⟩ => ⟨S_, .f32⟩
  | .hbm, ⟨34, _⟩ => ⟨S8x4224, .f32⟩
  | .hbm, ⟨35, _⟩ => ⟨S8x1x4224, .f32⟩
  | .hbm, ⟨36, _⟩ => ⟨S16x4224, .bf16⟩
  | .hbm, ⟨37, _⟩ => ⟨S8x128, .f32⟩
  | .local _ .vmem, ⟨0, _⟩ => ⟨S8x1x4224, .f32⟩
  | .local _ .vmem, ⟨1, _⟩ => ⟨S8x1x4224, .f32⟩
  | .local _ .vmem, ⟨2, _⟩ => ⟨S8x4224, .f32⟩
  | .local _ .vmem, ⟨3, _⟩ => ⟨S16x4224, .bf16⟩
  | .local _ .vmem, ⟨4, _⟩ => ⟨S8x128, .f32⟩
  | _, _ => ⟨S4112x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_call1_v0 : Ref sig .tc := ⟨.hbm, 23, rfl⟩
abbrev main_call1_v1 : Ref sig .tc := ⟨.hbm, 24, rfl⟩
abbrev main_v13 : Ref sig .tc := ⟨.hbm, 25, rfl⟩
abbrev main_v14 : Ref sig .tc := ⟨.hbm, 26, rfl⟩
abbrev main_c_3 : Ref sig .tc := ⟨.hbm, 27, rfl⟩
abbrev main_call2_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_call3_v0 : Ref sig .tc := ⟨.hbm, 33, rfl⟩
abbrev main_v18 : Ref sig .tc := ⟨.hbm, 34, rfl⟩
abbrev main_v19 : Ref sig .tc := ⟨.hbm, 35, rfl⟩
abbrev main_v20_0 : Ref sig .tc := ⟨.hbm, 36, rfl⟩
abbrev main_v20_1 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8x1x4224 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x4224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== GateReferenceIdeal.lean ====
abbrev S4112x8 : Shape := ⟨2, ![4112, 8]⟩
abbrev S8 : Shape := ⟨1, ![8]⟩
abbrev S1x8 : Shape := ⟨2, ![1, 8]⟩
abbrev S_ : Shape := ⟨0, ![]⟩
abbrev S8x4112 : Shape := ⟨2, ![8, 4112]⟩
abbrev S16x4224 : Shape := ⟨2, ![16, 4224]⟩
abbrev S8x1 : Shape := ⟨2, ![8, 1]⟩
abbrev S8x128 : Shape := ⟨2, ![8, 128]⟩

abbrev nBuf : Space → Nat
  | .hbm => 79
  | .vmem => 0
  | .smem => 0
  | _ => 0

abbrev bufTy : (tb : Table) → Fin (tcTables nBuf tb) → BufTy
  | .hbm, ⟨0, _⟩ => ⟨S4112x8, .f32⟩
  | .hbm, ⟨1, _⟩ => ⟨S8, .f32⟩
  | .hbm, ⟨2, _⟩ => ⟨S4112x8, .f32⟩
  | .hbm, ⟨3, _⟩ => ⟨S4112x8, .f32⟩
  | .hbm, ⟨4, _⟩ => ⟨S1x8, .f32⟩
  | .hbm, ⟨5, _⟩ => ⟨S4112x8, .f32⟩
  | .hbm, ⟨6, _⟩ => ⟨S4112x8, .f32⟩
  | .hbm, ⟨7, _⟩ => ⟨S4112x8, .f32⟩
  | .hbm, ⟨8, _⟩ => ⟨S_, .f32⟩
  | .hbm, ⟨9, _⟩ => ⟨S4112x8, .f32⟩
  | .hbm, ⟨10, _⟩ => ⟨S4112x8, .f32⟩
  | .hbm, ⟨11, _⟩ => ⟨S4112x8, .f32⟩
  | .hbm, ⟨12, _⟩ => ⟨S4112x8, .f32⟩
  | .hbm, ⟨13, _⟩ => ⟨S4112x8, .i1⟩
  | .hbm, ⟨14, _⟩ => ⟨S4112x8, .f32⟩
  | .hbm, ⟨15, _⟩ => ⟨S4112x8, .f32⟩
  | .hbm, ⟨16, _⟩ => ⟨S4112x8, .f32⟩
  | .hbm, ⟨17, _⟩ => ⟨S4112x8, .f32⟩
  | .hbm, ⟨18, _⟩ => ⟨S4112x8, .f32⟩
  | .hbm, ⟨19, _⟩ => ⟨S4112x8, .f32⟩
  | .hbm, ⟨20, _⟩ => ⟨S4112x8, .f32⟩
  | .hbm, ⟨21, _⟩ => ⟨S4112x8, .f32⟩
  | .hbm, ⟨22, _⟩ => ⟨S_, .f32⟩
  | .hbm, ⟨23, _⟩ => ⟨S4112x8, .f32⟩
  | .hbm, ⟨24, _⟩ => ⟨S4112x8, .i1⟩
  | .hbm, ⟨25, _⟩ => ⟨S_, .f32⟩
  | .hbm, ⟨26, _⟩ => ⟨S4112x8, .f32⟩
  | .hbm, ⟨27, _⟩ => ⟨S4112x8, .f32⟩
  | .hbm, ⟨28, _⟩ => ⟨S_, .f32⟩
  | .hbm, ⟨29, _⟩ => ⟨S4112x8, .f32⟩
  | .hbm, ⟨30, _⟩ => ⟨S4112x8, .i1⟩
  | .hbm, ⟨31, _⟩ => ⟨S_, .f32⟩
  | .hbm, ⟨32, _⟩ => ⟨S4112x8, .f32⟩
  | .hbm, ⟨33, _⟩ => ⟨S4112x8, .f32⟩
  | .hbm, ⟨34, _⟩ => ⟨S4112x8, .f32⟩
  | .hbm, ⟨35, _⟩ => ⟨S4112x8, .f32⟩
  | .hbm, ⟨36, _⟩ => ⟨S_, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4112x8, .f32⟩
  | .hbm, ⟨44, _⟩ => ⟨S4112x8, .i1⟩
  | .hbm, ⟨45, _⟩ => ⟨S_, .f32⟩
  | .hbm, ⟨46, _⟩ => ⟨S4112x8, .f32⟩
  | .hbm, ⟨47, _⟩ => ⟨S4112x8, .f32⟩
  | .hbm, ⟨48, _⟩ => ⟨S4112x8, .f32⟩
  | .hbm, ⟨49, _⟩ => ⟨S4112x8, .f32⟩
  | .hbm, ⟨50, _⟩ => ⟨S4112x8, .f32⟩
  | .hbm, ⟨51, _⟩ => ⟨S_, .f32⟩
  | .hbm, ⟨52, _⟩ => ⟨S4112x8, .f32⟩
  | .hbm, ⟨53, _⟩ => ⟨S4112x8, .f32⟩
  | .hbm, ⟨54, _⟩ => ⟨S4112x8, .f32⟩
  | .hbm, ⟨55, _⟩ => ⟨S_, .f32⟩
  | .hbm, ⟨56, _⟩ => ⟨S_, .f32⟩
  | .hbm, ⟨57, _⟩ => ⟨S4112x8, .f32⟩
  | .hbm, ⟨58, _⟩ => ⟨S4112x8, .f32⟩
  | .hbm, ⟨59, _⟩ => ⟨S4112x8, .f32⟩
  | .hbm, ⟨60, _⟩ => ⟨S4112x8, .f32⟩
  | .hbm, ⟨61, _⟩ => ⟨S_, .f32⟩
  | .hbm, ⟨62, _⟩ => ⟨S_, .f32⟩
  | .hbm, ⟨63, _⟩ => ⟨S4112x8, .f32⟩
  | .hbm, ⟨64, _⟩ => ⟨S4112x8, .f32⟩
  | .hbm, ⟨65, _⟩ => ⟨S4112x8, .f32⟩
  | .hbm, ⟨66, _⟩ => ⟨S4112x8, .f32⟩
  | .hbm, ⟨67, _⟩ => ⟨S_, .f32⟩
  | .hbm, ⟨68, _⟩ => ⟨S8, .f32⟩
  | .hbm, ⟨69, _⟩ => ⟨S1x8, .f32⟩
  | .hbm, ⟨70, _⟩ => ⟨S_, .f32⟩
  | .hbm, ⟨71, _⟩ => ⟨S8, .f32⟩
  | .hbm, ⟨72, _⟩ => ⟨S8x4112, .f32⟩
  | .hbm, ⟨73, _⟩ => ⟨S_, .i32⟩
  | .hbm, ⟨74, _⟩ => ⟨S_, .f32⟩
  | .hbm, ⟨75, _⟩ => ⟨S16x4224, .f32⟩
  | .hbm, ⟨76, _⟩ => ⟨S16x4224, .bf16⟩
  | .hbm, ⟨77, _⟩ => ⟨S8x1, .f32⟩
  | .hbm, ⟨78, _⟩ => ⟨S8x128, .f32⟩
  | _, _ => ⟨S4112x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1_0 : Ref sig .tc := ⟨.hbm, 21, rfl⟩
abbrev main_call0_call0_cst_0 : Ref sig .tc := ⟨.hbm, 22, rfl⟩
abbrev main_call0_call0_v13 : Ref sig .tc := ⟨.hbm, 23, rfl⟩
abbrev main_call0_call0_v14 : Ref sig .tc := ⟨.hbm, 24, rfl⟩
abbrev main_call0_call0_cst_1 : Ref sig .tc := ⟨.hbm, 25, rfl⟩
abbrev main_call0_call0_v15 : Ref sig .tc := ⟨.hbm, 26, rfl⟩
abbrev main_call0_call0_v16 : Ref sig .tc := ⟨.hbm, 27, rfl⟩
abbrev main_call0_call0_cst_2 : Ref sig .tc := ⟨.hbm, 28, rfl⟩
abbrev main_call0_call0_v17 : Ref sig .tc := ⟨.hbm, 29, rfl⟩
abbrev main_call0_call0_v18 : Ref sig .tc := ⟨.hbm, 30, rfl⟩
abbrev main_call0_call0_cst_3 : Ref sig .tc := ⟨.hbm, 31, rfl⟩
abbrev main_call0_call0_v19 : Ref sig .tc := ⟨.hbm, 32, rfl⟩
abbrev main_call0_call0_v20 : Ref sig .tc := ⟨.hbm, 33, rfl⟩
abbrev main_call0_call0_v21 : Ref sig .tc := ⟨.hbm, 34, rfl⟩
abbrev main_v3_1 : Ref sig .tc := ⟨.hbm, 35, rfl⟩
abbrev main_call0_call0_cst_4 : Ref sig .tc := ⟨.hbm, 36, rfl⟩
abbrev main_call0_call0_cst_5 : Ref sig .tc := ⟨.hbm, 37, rfl⟩
abbrev main_call0_call0_v23 : Ref sig .tc := ⟨.hbm, 38, rfl⟩
abbrev main_call0_call0_cst_6 : Ref sig .tc := ⟨.hbm, 39, rfl⟩
abbrev main_call0_call0_cst_7 : Ref sig .tc := ⟨.hbm, 40, rfl⟩
abbrev main_call0_call0_v24 : Ref sig .tc := ⟨.hbm, 41, rfl⟩
abbrev main_call0_call0_cst_8 : Ref sig .tc := ⟨.hbm, 42, rfl⟩
abbrev main_call0_call0_v25 : Ref sig .tc := ⟨.hbm, 43, rfl⟩
abbrev main_call0_call0_v26 : Ref sig .tc := ⟨.hbm, 44, rfl⟩
abbrev main_call0_call0_cst_9 : Ref sig .tc := ⟨.hbm, 45, rfl⟩
abbrev main_call0_call0_v27 : Ref sig .tc := ⟨.hbm, 46, rfl⟩
abbrev main_call0_call0_v28 : Ref sig .tc := ⟨.hbm, 47, rfl⟩
abbrev main_call0_call0_v29 : Ref sig .tc := ⟨.hbm, 48, rfl⟩
abbrev main_call0_call0_v30 : Ref sig .tc := ⟨.hbm, 49, rfl⟩
abbrev main_call0_call0_v31 : Ref sig .tc := ⟨.hbm, 50, rfl⟩
abbrev main_call0_call0_cst_10 : Ref sig .tc := ⟨.hbm, 51, rfl⟩
abbrev main_call0_call0_v32 : Ref sig .tc := ⟨.hbm, 52, rfl⟩
abbrev main_v3_2 : Ref sig .tc := ⟨.hbm, 53, rfl⟩
abbrev main_v3_0 : Ref sig .tc := ⟨.hbm, 54, rfl⟩
abbrev main_call1_call0_cst : Ref sig .tc := ⟨.hbm, 55, rfl⟩
abbrev main_call1_call0_v0 : Ref sig .tc := ⟨.hbm, 56, rfl⟩
abbrev main_v4 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_call2_call0_cst : Ref sig .tc := ⟨.hbm, 61, rfl⟩
abbrev main_call2_call0_v0 : Ref sig .tc := ⟨.hbm, 62, rfl⟩
abbrev main_v8 : Ref sig .tc := ⟨.hbm, 63, rfl⟩
abbrev main_call3_v0 : Ref sig .tc := ⟨.hbm, 64, rfl⟩
abbrev main_call3_v1 : Ref sig .tc := ⟨.hbm, 65, rfl⟩
abbrev main_v9 : Ref sig .tc := ⟨.hbm, 66, rfl⟩
abbrev main_cst : Ref sig .tc := ⟨.hbm, 67, rfl⟩
abbrev main_v10 : Ref sig .tc := ⟨.hbm, 68, rfl⟩
abbrev main_v11 : Ref sig .tc := ⟨.hbm, 69, rfl⟩
abbrev main_cst_0 : Ref sig .tc := ⟨.hbm, 70, rfl⟩
abbrev main_v12 : Ref sig .tc := ⟨.hbm, 71, rfl⟩
abbrev main_v13 : Ref sig .tc := ⟨.hbm, 72, rfl⟩
abbrev main_c : Ref sig .tc := ⟨.hbm, 73, rfl⟩
abbrev main_call4_v0 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩

abbrev nD : Nat := 1
abbrev τ : Topo := Topo.v7x

variable {F : FTy → Type} [FloatOps F]
-- ==== AttnKernel.lean ====
abbrev S4112x8x64 : Shape := ⟨3, ![4112, 8, 64]⟩
abbrev S4112x8 : Shape := ⟨2, ![4112, 8]⟩
abbrev S8x4112x4112 : Shape := ⟨3, ![8, 4112, 4112]⟩
abbrev S_ : Shape := ⟨0, ![]⟩
abbrev S8x4112 : Shape := ⟨2, ![8, 4112]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S4112x512 : Shape := ⟨2, ![4112, 512]⟩
abbrev S512x4112 : Shape := ⟨2, ![512, 4112]⟩
abbrev S512x4224 : Shape := ⟨2, ![512, 4224]⟩
abbrev S1536x4224 : Shape := ⟨2, ![1536, 4224]⟩
abbrev S8x4224 : Shape := ⟨2, ![8, 4224]⟩
abbrev S8x4224x1 : Shape := ⟨3, ![8, 4224, 1]⟩
abbrev S8x4224x6 : Shape := ⟨3, ![8, 4224, 6]⟩
abbrev S8x4112x64 : Shape := ⟨3, ![8, 4112, 64]⟩
abbrev S8x4224x64 : Shape := ⟨3, ![8, 4224, 64]⟩
abbrev S8x4224x58 : Shape := ⟨3, ![8, 4224, 58]⟩
abbrev S8x4224x128 : Shape := ⟨3, ![8, 4224, 128]⟩
abbrev S8x1x4224 : Shape := ⟨3, ![8, 1, 4224]⟩
abbrev S8x128 : Shape := ⟨2, ![8, 128]⟩
abbrev S8x384x128 : Shape := ⟨3, ![8, 384, 128]⟩
abbrev S8x384x64 : Shape := ⟨3, ![8, 384, 64]⟩
abbrev S512x384 : Shape := ⟨2, ![512, 384]⟩
abbrev S8x1x384 : Shape := ⟨3, ![8, 1, 384]⟩
abbrev S8x80x4224 : Shape := ⟨3, ![8, 80, 4224]⟩
abbrev S8x80x384 : Shape := ⟨3, ![8, 80, 384]⟩
abbrev S8x384x384 : Shape := ⟨3, ![8, 384, 384]⟩
abbrev S16x384 : Shape := ⟨2, ![16, 384]⟩
abbrev S48x384 : Shape := ⟨2, ![48, 384]⟩
abbrev S64x384 : Shape := ⟨2, ![64, 384]⟩
abbrev S80x384 : Shape := ⟨2, ![80, 384]⟩
abbrev S1x80x384 : Shape := ⟨3, ![1, 80, 384]⟩
abbrev S1x384x64 : Shape := ⟨3, ![1, 384, 64]⟩
abbrev S384x64 : Shape := ⟨2, ![384, 64]⟩
abbrev S384x384 : Shape := ⟨2, ![384, 384]⟩
abbrev S1x384x384 : Shape := ⟨3, ![1, 384, 384]⟩
abbrev S1x384x128 : Shape := ⟨3, ![1, 384, 128]⟩
abbrev S384x128 : Shape := ⟨2, ![384, 128]⟩
abbrev S1x1x384 : Shape := ⟨3, ![1, 1, 384]⟩
abbrev S1x384 : Shape := ⟨2, ![1, 384]⟩
abbrev S128x384 : Shape := ⟨2, ![128, 384]⟩
abbrev S1x64x4224 : Shape := ⟨3, ![1, 64, 4224]⟩
abbrev S64x4224 : Shape := ⟨2, ![64, 4224]⟩
abbrev S1x1x4224 : Shape := ⟨3, ![1, 1, 4224]⟩
abbrev S1x4224 : Shape := ⟨2, ![1, 4224]⟩

abbrev nBuf : Space → Nat
  | .hbm => 142
  | .vmem => 25
  | .smem => 0
  | _ => 0

abbrev hbmTy0_0 (i : Nat) : BufTy := match i % 128 with
  | 0 => ⟨S4112x8x64, .f32⟩
  | 1 => ⟨S4112x8x64, .f32⟩
  | 2 => ⟨S4112x8x64, .f32⟩
  | 3 => ⟨S4112x8, .f32⟩
  | 4 => ⟨S4112x8x64, .f32⟩
  | 5 => ⟨S8x4112x4112, .f32⟩
  | 6 => ⟨S_, .f32⟩
  | 7 => ⟨S8x4112x4112, .f32⟩
  | 8 => ⟨S8x4112x4112, .f32⟩
  | 9 => ⟨S8x4112, .f32⟩
  | 10 => ⟨S8x4112x1, .f32⟩
  | 11 => ⟨S8x4112x4112, .f32⟩
  | 12 => ⟨S8x4112x4112, .f32⟩
  | 13 => ⟨S8x4112, .f32⟩
  | 14 => ⟨S8x1x4112, .f32⟩
  | 15 => ⟨S8x4112x4112, .f32⟩
  | 16 => ⟨S8x4112x4112, .f32⟩
  | 17 => ⟨S4112, .i32⟩
  | 18 => ⟨S1x4112, .i32⟩
  | 19 => ⟨S4112x1, .i32⟩
  | 20 => ⟨S4112x4112, .i32⟩
  | 21 => ⟨S4112x4112, .i32⟩
  | 22 => ⟨S4112x4112, .i1⟩
  | 23 => ⟨S_, .f32⟩
  | 24 => ⟨S_, .f32⟩
  | 25 => ⟨S8x4112x4112, .i1⟩
  | 26 => ⟨S8x4112x4112, .f32⟩
  | 27 => ⟨S8x4112x4112, .f32⟩
  | 28 => ⟨S_, .f32⟩
  | 29 => ⟨S8x4112, .f32⟩
  | 30 => ⟨S8x4112x1, .f32⟩
  | 31 => ⟨S8x4112x4112, .f32⟩
  | 32 => ⟨S8x4112x4112, .f32⟩
  | 33 => ⟨S8x4112x4112, .f32⟩
  | 34 => ⟨S_, .f32⟩
  | 35 => ⟨S8x4112, .f32⟩
  | 36 => ⟨S8x4112x1, .f32⟩
  | 37 => ⟨S8x4112x4112, .f32⟩
  | 38 => ⟨S8x4112x4112, .f32⟩
  | 39 => ⟨S8x64x4112, .f32⟩
  | 40 => ⟨S4112x8x64, .f32⟩
  | 41 => ⟨S8x4112x1, .f32⟩
  | 42 => ⟨S8x4112x1, .f32⟩
  | 43 => ⟨S8x4112, .f32⟩
  | 44 => ⟨S_, .f32⟩
  | 45 => ⟨S_, .f32⟩
  | 46 => ⟨S_, .f32⟩
  | 47 => ⟨S_, .f32⟩
  | 48 => ⟨S4112x512, .f32⟩
  | 49 => ⟨S512x4112, .f32⟩
  | 50 => ⟨S_, .i32⟩
  | 51 => ⟨S_, .f32⟩
  | 52 => ⟨S512x4224, .f32⟩
  | 53 => ⟨S_, .f32⟩
  | 54 => ⟨S_, .f32⟩
  | 55 => ⟨S512x4224, .f32⟩
  | 56 => ⟨S512x4224, .f32⟩
  | 57 => ⟨S4112x512, .f32⟩
  | 58 => ⟨S512x4112, .f32⟩
  | 59 => ⟨S_, .i32⟩
  | 60 => ⟨S_, .f32⟩
  | 61 => ⟨S512x4224, .f32⟩
  | 62 => ⟨S4112x512, .f32⟩
  | 63 => ⟨S512x4112, .f32⟩
  | 64 => ⟨S_, .i32⟩
  | 65 => ⟨S_, .f32⟩
  | 66 => ⟨S512x4224, .f32⟩
  | 67 => ⟨S1536x4224, .f32⟩
  | 68 => ⟨S1536x4224, .bf16⟩
  | 69 => ⟨S8x4112, .f32⟩
  | 70 => ⟨S_, .i32⟩
  | 71 => ⟨S_, .f32⟩
  | 72 => ⟨S8x4224, .f32⟩
  | 73 => ⟨S8x4224, .f32⟩
  | 74 => ⟨S8x4224, .f32⟩
  | 75 => ⟨S8x4224, .i32⟩
  | 76 => ⟨S_, .i32⟩
  | 77 => ⟨S8x4224, .i32⟩
  | 78 => ⟨S8x4224, .i1⟩
  | 79 => ⟨S8x4224, .f32⟩
  | 80 => ⟨S8x4224, .bf16⟩
  | 81 => ⟨S8x4224, .f32⟩
  | 82 => ⟨S8x4224, .f32⟩
  | 83 => ⟨S8x4224, .bf16⟩
  | 84 => ⟨S8x4224, .f32⟩
  | 85 => ⟨S8x4224, .f32⟩
  | 86 => ⟨S8x4224, .bf16⟩
  | 87 => ⟨S8x4224, .f32⟩
  | 88 => ⟨S_, .f32⟩
  | 89 => ⟨S8x4224, .f32⟩
  | 90 => ⟨S_, .f32⟩
  | 91 => ⟨S_, .f32⟩
  | 92 => ⟨S8x4224, .f32⟩
  | 93 => ⟨S8x4224, .f32⟩
  | 94 => ⟨S8x4224x1, .f32⟩
  | 95 => ⟨S8x4224x1, .f32⟩
  | 96 => ⟨S8x4224x1, .f32⟩
  | 97 => ⟨S8x4224x1, .f32⟩
  | 98 => ⟨S8x4224x1, .f32⟩
  | 99 => ⟨S8x4224x1, .f32⟩
  | 100 => ⟨S8x4224x6, .f32⟩
  | 101 => ⟨S8x4112x64, .f32⟩
  | 102 => ⟨S_, .i32⟩
  | 103 => ⟨S_, .f32⟩
  | 104 => ⟨S8x4224x64, .f32⟩
  | 105 => ⟨S_, .f32⟩
  | 106 => ⟨S8x4224x58, .f32⟩
  | 107 => ⟨S8x4224x128, .f32⟩
  | 108 => ⟨S8x4224x128, .bf16⟩
  | 109 => ⟨S8x4112, .f32⟩
  | 110 => ⟨S8x4112, .f32⟩
  | 111 => ⟨S_, .i32⟩
  | 112 => ⟨S_, .f32⟩
  | 113 => ⟨S8x4224, .f32⟩
  | 114 => ⟨S4112x8x64, .f32⟩
  | 115 => ⟨S_, .f32⟩
  | 116 => ⟨S4112x8, .f32⟩
  | 117 => ⟨S8x4112, .f32⟩
  | 118 => ⟨S_, .i32⟩
  | 119 => ⟨S_, .f32⟩
  | 120 => ⟨S8x4224, .f32⟩
  | 121 => ⟨S8x4112x64, .f32⟩
  | 122 => ⟨S_, .i32⟩
  | 123 => ⟨S_, .f32⟩
  | 124 => ⟨S8x4224x64, .f32⟩
  | 125 => ⟨S8x4224x64, .bf16⟩
  | 126 => ⟨S4112x512, .f32⟩
  | 127 => ⟨S512x4112, .f32⟩
  | _ => ⟨S4112x8x64, .f32⟩

abbrev hbmTy0_1 (i : Nat) : BufTy := match i % 128 with
  | 0 => ⟨S_, .i32⟩
  | 1 => ⟨S_, .f32⟩
  | 2 => ⟨S512x4224, .f32⟩
  | 3 => ⟨S512x4224, .bf16⟩
  | 4 => ⟨S8x1x4224, .f32⟩
  | 5 => ⟨S8x1x4224, .f32⟩
  | 6 => ⟨S8x1x4224, .f32⟩
  | 7 => ⟨S_, .f32⟩
  | 8 => ⟨S8x128, .f32⟩
  | 9 => ⟨S512x4224, .bf16⟩
  | 10 => ⟨S512x4224, .bf16⟩
  | 11 => ⟨S512x4224, .bf16⟩
  | 12 => ⟨S8x1x4224, .f32⟩
  | 13 => ⟨S8x1x4224, .f32⟩
  | _ => ⟨S4112x8x64, .f32⟩

abbrev hbmTy (i : Nat) : BufTy := match i / 128 with
  | 0 => hbmTy0_0 i
  | 1 => hbmTy0_1 i
  | _ => ⟨S4112x8x64, .f32⟩

abbrev bufTy : (tb : Table) → Fin (tcTables nBuf tb) → BufTy
  | .hbm, ⟨i, _⟩ => hbmTy i
  | .local _ .vmem, ⟨0, _⟩ => ⟨S512x4224, .bf16⟩
  | .local _ .vmem, ⟨1, _⟩ => ⟨S8x384x128, .bf16⟩
  | .local _ .vmem, ⟨2, _⟩ => ⟨S8x384x128, .bf16⟩
  | .local _ .vmem, ⟨3, _⟩ => ⟨S8x384x64, .bf16⟩
  | .local _ .vmem, ⟨4, _⟩ => ⟨S8x384x64, .bf16⟩
  | .local _ .vmem, ⟨5, _⟩ => ⟨S512x384, .bf16⟩
  | .local _ .vmem, ⟨6, _⟩ => ⟨S512x384, .bf16⟩
  | .local _ .vmem, ⟨7, _⟩ => ⟨S512x4224, .bf16⟩
  | .local _ .vmem, ⟨8, _⟩ => ⟨S8x1x4224, .f32⟩
  | .local _ .vmem, ⟨9, _⟩ => ⟨S8x1x4224, .f32⟩
  | .local _ .vmem, ⟨10, _⟩ => ⟨S8x1x4224, .f32⟩
  | .local _ .vmem, ⟨11, _⟩ => ⟨S512x4224, .bf16⟩
  | .local _ .vmem, ⟨12, _⟩ => ⟨S512x384, .bf16⟩
  | .local _ .vmem, ⟨13, _⟩ => ⟨S512x384, .bf16⟩
  | .local _ .vmem, ⟨14, _⟩ => ⟨S512x384, .bf16⟩
  | .local _ .vmem, ⟨15, _⟩ => ⟨S512x384, .bf16⟩
  | .local _ .vmem, ⟨16, _⟩ => ⟨S8x1x384, .f32⟩
  | .local _ .vmem, ⟨17, _⟩ => ⟨S8x1x384, .f32⟩
  | .local _ .vmem, ⟨18, _⟩ => ⟨S8x1x4224, .f32⟩
  | .local _ .vmem, ⟨19, _⟩ => ⟨S8x80x4224, .f32⟩
  | .local _ .vmem, ⟨20, _⟩ => ⟨S8x80x384, .bf16⟩
  | .local _ .vmem, ⟨21, _⟩ => ⟨S8x384x384, .f32⟩
  | .local _ .vmem, ⟨22, _⟩ => ⟨S8x384x384, .f32⟩
  | .local _ .vmem, ⟨23, _⟩ => ⟨S8x384x128, .f32⟩
  | .local _ .vmem, ⟨24, _⟩ => ⟨S8x384x128, .f32⟩
  | _, _ => ⟨S4112x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c : Ref sig .tc := ⟨.hbm, 50, rfl⟩
abbrev main_call1_v0 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_6 : Ref sig .tc := ⟨.hbm, 59, rfl⟩
abbrev main_call2_v0 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_7 : Ref sig .tc := ⟨.hbm, 64, rfl⟩
abbrev main_call3_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_8 : Ref sig .tc := ⟨.hbm, 70, rfl⟩
abbrev main_call4_v0 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_c_9 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_10 : Ref sig .tc := ⟨.hbm, 88, rfl⟩
abbrev main_v64 : Ref sig .tc := ⟨.hbm, 89, rfl⟩
abbrev main_cst_11 : Ref sig .tc := ⟨.hbm, 90, rfl⟩
abbrev main_call5_v0 : Ref sig .tc := ⟨.hbm, 91, rfl⟩
abbrev main_call5_v1 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_c_12 : Ref sig .tc := ⟨.hbm, 102, rfl⟩
abbrev main_call6_v0 : Ref sig .tc := ⟨.hbm, 103, rfl⟩
abbrev main_v74 : Ref sig .tc := ⟨.hbm, 104, rfl⟩
abbrev main_cst_13 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_c_14 : Ref sig .tc := ⟨.hbm, 111, rfl⟩
abbrev main_call7_v0 : Ref sig .tc := ⟨.hbm, 112, rfl⟩
abbrev main_v80 : Ref sig .tc := ⟨.hbm, 113, rfl⟩
abbrev main_v81 : Ref sig .tc := ⟨.hbm, 114, rfl⟩
abbrev main_cst_15 : Ref sig .tc := ⟨.hbm, 115, rfl⟩
abbrev main_v82 : Ref sig .tc := ⟨.hbm, 116, rfl⟩
abbrev main_v83 : Ref sig .tc := ⟨.hbm, 117, rfl⟩
abbrev main_c_16 : Ref sig .tc := ⟨.hbm, 118, rfl⟩
abbrev main_call8_v0 : Ref sig .tc := ⟨.hbm, 119, rfl⟩
abbrev main_v84 : Ref sig .tc := ⟨.hbm, 120, rfl⟩
abbrev main_v85 : Ref sig .tc := ⟨.hbm, 121, rfl⟩
abbrev main_c_17 : Ref sig .tc := ⟨.hbm, 122, rfl⟩
abbrev main_call9_v0 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_c_18 : Ref sig .tc := ⟨.hbm, 128, rfl⟩
abbrev main_call10_v0 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_cst_19 : Ref sig .tc := ⟨.hbm, 135, rfl⟩
abbrev main_v95 : Ref sig .tc := ⟨.hbm, 136, rfl⟩
abbrev main_v96_0 : Ref sig .tc := ⟨.hbm, 137, rfl⟩
abbrev main_v96_1 : Ref sig .tc := ⟨.hbm, 138, rfl⟩
abbrev main_v96_2 : Ref sig .tc := ⟨.hbm, 139, rfl⟩
abbrev main_v96_3 : Ref sig .tc := ⟨.hbm, 140, rfl⟩
abbrev main_v96_4 : Ref sig .tc := ⟨.hbm, 141, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![11], ![false]⟩

def k0_mult1 (i : grid0.Coords) : BitVec 32 :=
  let arg0 : BitVec 32 := BitVec.ofNat 32 (i 0).val
  let c384_i32 : BitVec 32 := 384#32
  let v61 : BitVec 32 := Scalar.muli arg0 c384_i32
  v61
def k0_off1 (i : grid0.Coords) : Fin 2 → Nat :=
  let c0_38 : Index := 0#32
  let arg0 : BitVec 32 := BitVec.ofNat 32 (i 0).val
  let c384_i32 : BitVec 32 := 384#32
  let v61 : BitVec 32 := Scalar.muli arg0 c384_i32
  let v62 : BitVec 32 := v61
  let v65 : Index := Scalar.indexCast v62
  ![0, v65.toNat]
def k0_off2 (i : grid0.Coords) : Fin 3 → Nat :=
  let c0_46 : Index := 0#32
  let c0_47 : Index := 0#32
  let arg0 : BitVec 32 := BitVec.ofNat 32 (i 0).val
  let c384_i32 : BitVec 32 := 384#32
  let v61 : BitVec 32 := Scalar.muli arg0 c384_i32
  let v62 : BitVec 32 := v61
  let v74 : Index := Scalar.indexCast v62
  ![0, 0, v74.toNat]
def k0_off3 (i : grid0.Coords) : Fin 2 → Nat :=
  let c64_61 : Index := 64#32
  let arg0 : BitVec 32 := BitVec.ofNat 32 (i 0).val
  let c384_i32 : BitVec 32 := 384#32
  let v61 : BitVec 32 := Scalar.muli arg0 c384_i32
  let v62 : BitVec 32 := v61
  let v109 : Index := Scalar.indexCast v62
  ![64, v109.toNat]
def k0_off4 (i : grid0.Coords) : Fin 3 → Nat :=
  let c1_69 : Index := 1#32
  let c0_70 : Index := 0#32
  let arg0 : BitVec 32 := BitVec.ofNat 32 (i 0).val
  let c384_i32 : BitVec 32 := 384#32
  let v61 : BitVec 32 := Scalar.muli arg0 c384_i32
  let v62 : BitVec 32 := v61
  let v118 : Index := Scalar.indexCast v62
  ![1, 0, v118.toNat]
def k0_off5 (i : grid0.Coords) : Fin 2 → Nat :=
  let c128_84 : Index := 128#32
  let arg0 : BitVec 32 := BitVec.ofNat 32 (i 0).val
  let c384_i32 : BitVec 32 := 384#32
  let v61 : BitVec 32 := Scalar.muli arg0 c384_i32
  let v62 : BitVec 32 := v61
  let v153 : Index := Scalar.indexCast v62
  ![128, v153.toNat]
def k0_off6 (i : grid0.Coords) : Fin 3 → Nat :=
  let c2_92 : Index := 2#32
  let c0_93 : Index := 0#32
  let arg0 : BitVec 32 := BitVec.ofNat 32 (i 0).val
  let c384_i32 : BitVec 32 := 384#32
  let v61 : BitVec 32 := Scalar.muli arg0 c384_i32
  let v62 : BitVec 32 := v61
  let v162 : Index := Scalar.indexCast v62
  ![2, 0, v162.toNat]
def k0_off7 (i : grid0.Coords) : Fin 2 → Nat :=
  let c192_107 : Index := 192#32
  let arg0 : BitVec 32 := BitVec.ofNat 32 (i 0).val
  let c384_i32 : BitVec 32 := 384#32
  let v61 : BitVec 32 := Scalar.muli arg0 c384_i32
  let v62 : BitVec 32 := v61
  let v197 : Index := Scalar.indexCast v62
  ![192, v197.toNat]
def k0_off8 (i : grid0.Coords) : Fin 3 → Nat :=
  let c3_115 : Index := 3#32
  let c0_116 : Index := 0#32
  let arg0 : BitVec 32 := BitVec.ofNat 32 (i 0).val
  let c384_i32 : BitVec 32 := 384#32
  let v61 : BitVec 32 := Scalar.muli arg0 c384_i32
  let v62 : BitVec 32 := v61
  let v206 : Index := Scalar.indexCast v62
  ![3, 0, v206.toNat]
def k0_off9 (i : grid0.Coords) : Fin 2 → Nat :=
  let c256_130 : Index := 256#32
  let arg0 : BitVec 32 := BitVec.ofNat 32 (i 0).val
  let c384_i32 : BitVec 32 := 384#32
  let v61 : BitVec 32 := Scalar.muli arg0 c384_i32
  let v62 : BitVec 32 := v61
  let v241 : Index := Scalar.indexCast v62
  ![256, v241.toNat]
def k0_off10 (i : grid0.Coords) : Fin 3 → Nat :=
  let c4_138 : Index := 4#32
  let c0_139 : Index := 0#32
  let arg0 : BitVec 32 := BitVec.ofNat 32 (i 0).val
  let c384_i32 : BitVec 32 := 384#32
  let v61 : BitVec 32 := Scalar.muli arg0 c384_i32
  let v62 : BitVec 32 := v61
  let v250 : Index := Scalar.indexCast v62
  ![4, 0, v250.toNat]
def k0_off11 (i : grid0.Coords) : Fin 2 → Nat :=
  let c320_153 : Index := 320#32
  let arg0 : BitVec 32 := BitVec.ofNat 32 (i 0).val
  let c384_i32 : BitVec 32 := 384#32
  let v61 : BitVec 32 := Scalar.muli arg0 c384_i32
  let v62 : BitVec 32 := v61
  let v285 : Index := Scalar.indexCast v62
  ![320, v285.toNat]
def k0_off12 (i : grid0.Coords) : Fin 3 → Nat :=
  let c5_161 : Index := 5#32
  let c0_162 : Index := 0#32
  let arg0 : BitVec 32 := BitVec.ofNat 32 (i 0).val
  let c384_i32 : BitVec 32 := 384#32
  let v61 : BitVec 32 := Scalar.muli arg0 c384_i32
  let v62 : BitVec 32 := v61
  let v294 : Index := Scalar.indexCast v62
  ![5, 0, v294.toNat]
def k0_off13 (i : grid0.Coords) : Fin 2 → Nat :=
  let c384_176 : Index := 384#32
  let arg0 : BitVec 32 := BitVec.ofNat 32 (i 0).val
  let c384_i32 : BitVec 32 := 384#32
  let v61 : BitVec 32 := Scalar.muli arg0 c384_i32
  let v62 : BitVec 32 := v61
  let v329 : Index := Scalar.indexCast v62
  ![384, v329.toNat]
def k0_off14 (i : grid0.Coords) : Fin 3 → Nat :=
  let c6_184 : Index := 6#32
  let c0_185 : Index := 0#32
  let arg0 : BitVec 32 := BitVec.ofNat 32 (i 0).val
  let c384_i32 : BitVec 32 := 384#32
  let v61 : BitVec 32 := Scalar.muli arg0 c384_i32
  let v62 : BitVec 32 := v61
  let v338 : Index := Scalar.indexCast v62
  ![6, 0, v338.toNat]
def k0_off15 (i : grid0.Coords) : Fin 2 → Nat :=
  let c448_199 : Index := 448#32
  let arg0 : BitVec 32 := BitVec.ofNat 32 (i 0).val
  let c384_i32 : BitVec 32 := 384#32
  let v61 : BitVec 32 := Scalar.muli arg0 c384_i32
  let v62 : BitVec 32 := v61
  let v373 : Index := Scalar.indexCast v62
  ![448, v373.toNat]
def k0_off16 (i : grid0.Coords) : Fin 3 → Nat :=
  let c7_207 : Index := 7#32
  let c0_208 : Index := 0#32
  let arg0 : BitVec 32 := BitVec.ofNat 32 (i 0).val
  let c384_i32 : BitVec 32 := 384#32
  let v61 : BitVec 32 := Scalar.muli arg0 c384_i32
  let v62 : BitVec 32 := v61
  let v382 : Index := Scalar.indexCast v62
  ![7, 0, v382.toNat]
@[reducible] def k0_t1_loop (i : grid0.Coords) : Scf.Loop 32 :=
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_220 : BitVec 32 := 1#32
  ⟨arg0, v419, c1_i32_220⟩
def k0_mult2 (i : grid0.Coords) (k0_t1 : Fin (k0_t1_loop i).trips) : BitVec 32 :=
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  v1104
def k0_off17 (i : grid0.Coords) (k0_t1 : Fin (k0_t1_loop i).trips) : Fin 3 → Nat :=
  let c0_655 : Index := 0#32
  let c0_656 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1111 : Index := Scalar.indexCast v1105
  ![0, 0, v1111.toNat]
def k0_off18 (i : grid0.Coords) (k0_t1 : Fin (k0_t1_loop i).trips) : Fin 2 → Nat :=
  let c0_657 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1118 : Index := Scalar.indexCast v1105
  ![0, v1118.toNat]
def k0_off19 (i : grid0.Coords) (k0_t1 : Fin (k0_t1_loop i).trips) : Fin 3 → Nat :=
  let c0_680 : Index := 0#32
  let c0_681 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1162 : Index := Scalar.indexCast v1105
  ![0, 0, v1162.toNat]
def k0_off20 (i : grid0.Coords) (k0_t1 : Fin (k0_t1_loop i).trips) : Fin 3 → Nat :=
  let c1_694 : Index := 1#32
  let c0_695 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1178 : Index := Scalar.indexCast v1105
  ![1, 0, v1178.toNat]
def k0_off21 (i : grid0.Coords) (k0_t1 : Fin (k0_t1_loop i).trips) : Fin 2 → Nat :=
  let c64_696 : Index := 64#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1185 : Index := Scalar.indexCast v1105
  ![64, v1185.toNat]
def k0_off22 (i : grid0.Coords) (k0_t1 : Fin (k0_t1_loop i).trips) : Fin 3 → Nat :=
  let c1_719 : Index := 1#32
  let c0_720 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1229 : Index := Scalar.indexCast v1105
  ![1, 0, v1229.toNat]
def k0_off23 (i : grid0.Coords) (k0_t1 : Fin (k0_t1_loop i).trips) : Fin 3 → Nat :=
  let c2_733 : Index := 2#32
  let c0_734 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1245 : Index := Scalar.indexCast v1105
  ![2, 0, v1245.toNat]
def k0_off24 (i : grid0.Coords) (k0_t1 : Fin (k0_t1_loop i).trips) : Fin 2 → Nat :=
  let c128_735 : Index := 128#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1252 : Index := Scalar.indexCast v1105
  ![128, v1252.toNat]
def k0_off25 (i : grid0.Coords) (k0_t1 : Fin (k0_t1_loop i).trips) : Fin 3 → Nat :=
  let c2_758 : Index := 2#32
  let c0_759 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1296 : Index := Scalar.indexCast v1105
  ![2, 0, v1296.toNat]
def k0_off26 (i : grid0.Coords) (k0_t1 : Fin (k0_t1_loop i).trips) : Fin 3 → Nat :=
  let c3_772 : Index := 3#32
  let c0_773 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1312 : Index := Scalar.indexCast v1105
  ![3, 0, v1312.toNat]
def k0_off27 (i : grid0.Coords) (k0_t1 : Fin (k0_t1_loop i).trips) : Fin 2 → Nat :=
  let c192_774 : Index := 192#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1319 : Index := Scalar.indexCast v1105
  ![192, v1319.toNat]
def k0_off28 (i : grid0.Coords) (k0_t1 : Fin (k0_t1_loop i).trips) : Fin 3 → Nat :=
  let c3_797 : Index := 3#32
  let c0_798 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1363 : Index := Scalar.indexCast v1105
  ![3, 0, v1363.toNat]
def k0_off29 (i : grid0.Coords) (k0_t1 : Fin (k0_t1_loop i).trips) : Fin 3 → Nat :=
  let c4_811 : Index := 4#32
  let c0_812 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1379 : Index := Scalar.indexCast v1105
  ![4, 0, v1379.toNat]
def k0_off30 (i : grid0.Coords) (k0_t1 : Fin (k0_t1_loop i).trips) : Fin 2 → Nat :=
  let c256_813 : Index := 256#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1386 : Index := Scalar.indexCast v1105
  ![256, v1386.toNat]
def k0_off31 (i : grid0.Coords) (k0_t1 : Fin (k0_t1_loop i).trips) : Fin 3 → Nat :=
  let c4_836 : Index := 4#32
  let c0_837 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1430 : Index := Scalar.indexCast v1105
  ![4, 0, v1430.toNat]
def k0_off32 (i : grid0.Coords) (k0_t1 : Fin (k0_t1_loop i).trips) : Fin 3 → Nat :=
  let c5_850 : Index := 5#32
  let c0_851 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1446 : Index := Scalar.indexCast v1105
  ![5, 0, v1446.toNat]
def k0_off33 (i : grid0.Coords) (k0_t1 : Fin (k0_t1_loop i).trips) : Fin 2 → Nat :=
  let c320_852 : Index := 320#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1453 : Index := Scalar.indexCast v1105
  ![320, v1453.toNat]
def k0_off34 (i : grid0.Coords) (k0_t1 : Fin (k0_t1_loop i).trips) : Fin 3 → Nat :=
  let c5_875 : Index := 5#32
  let c0_876 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1497 : Index := Scalar.indexCast v1105
  ![5, 0, v1497.toNat]
def k0_off35 (i : grid0.Coords) (k0_t1 : Fin (k0_t1_loop i).trips) : Fin 3 → Nat :=
  let c6_889 : Index := 6#32
  let c0_890 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1513 : Index := Scalar.indexCast v1105
  ![6, 0, v1513.toNat]
def k0_off36 (i : grid0.Coords) (k0_t1 : Fin (k0_t1_loop i).trips) : Fin 2 → Nat :=
  let c384_891 : Index := 384#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1520 : Index := Scalar.indexCast v1105
  ![384, v1520.toNat]
def k0_off37 (i : grid0.Coords) (k0_t1 : Fin (k0_t1_loop i).trips) : Fin 3 → Nat :=
  let c6_914 : Index := 6#32
  let c0_915 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1564 : Index := Scalar.indexCast v1105
  ![6, 0, v1564.toNat]
def k0_off38 (i : grid0.Coords) (k0_t1 : Fin (k0_t1_loop i).trips) : Fin 3 → Nat :=
  let c7_928 : Index := 7#32
  let c0_929 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1580 : Index := Scalar.indexCast v1105
  ![7, 0, v1580.toNat]
def k0_off39 (i : grid0.Coords) (k0_t1 : Fin (k0_t1_loop i).trips) : Fin 2 → Nat :=
  let c448_930 : Index := 448#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1587 : Index := Scalar.indexCast v1105
  ![448, v1587.toNat]
def k0_off40 (i : grid0.Coords) (k0_t1 : Fin (k0_t1_loop i).trips) : Fin 3 → Nat :=
  let c7_953 : Index := 7#32
  let c0_954 : Index := 0#32
  let arg0 : BitVec 32 := BitVec.ofNat 32 (i 0).val
  let c1_i32_220 : BitVec 32 := 1#32
  let arg21 : BitVec 32 := Scf.iv arg0 c1_i32_220 k0_t1
  let c384_i32_648 : BitVec 32 := 384#32
  let v1104 : BitVec 32 := Scalar.muli arg21 c384_i32_648
  let v1105 : BitVec 32 := v1104
  let v1631 : Index := Scalar.indexCast v1105
  ![7, 0, v1631.toNat]
def k0_mult3 (i : grid0.Coords) (k0_t1 : Fin (k0_t1_loop i).trips) : BitVec 32 :=
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  v1643
def k0_off41 (i : grid0.Coords) (k0_t1 : Fin (k0_t1_loop i).trips) : Fin 2 → Nat :=
  let c0_966 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1647 : Index := Scalar.indexCast v1644
  ![0, v1647.toNat]
def k0_off42 (i : grid0.Coords) (k0_t1 : Fin (k0_t1_loop i).trips) : Fin 3 → Nat :=
  let c0_974 : Index := 0#32
  let c0_975 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1656 : Index := Scalar.indexCast v1644
  ![0, 0, v1656.toNat]
def k0_off43 (i : grid0.Coords) (k0_t1 : Fin (k0_t1_loop i).trips) : Fin 2 → Nat :=
  let c64_988 : Index := 64#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1686 : Index := Scalar.indexCast v1644
  ![64, v1686.toNat]
def k0_off44 (i : grid0.Coords) (k0_t1 : Fin (k0_t1_loop i).trips) : Fin 3 → Nat :=
  let c1_996 : Index := 1#32
  let c0_997 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1695 : Index := Scalar.indexCast v1644
  ![1, 0, v1695.toNat]
def k0_off45 (i : grid0.Coords) (k0_t1 : Fin (k0_t1_loop i).trips) : Fin 2 → Nat :=
  let c128_1010 : Index := 128#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1725 : Index := Scalar.indexCast v1644
  ![128, v1725.toNat]
def k0_off46 (i : grid0.Coords) (k0_t1 : Fin (k0_t1_loop i).trips) : Fin 3 → Nat :=
  let c2_1018 : Index := 2#32
  let c0_1019 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1734 : Index := Scalar.indexCast v1644
  ![2, 0, v1734.toNat]
def k0_off47 (i : grid0.Coords) (k0_t1 : Fin (k0_t1_loop i).trips) : Fin 2 → Nat :=
  let c192_1032 : Index := 192#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1764 : Index := Scalar.indexCast v1644
  ![192, v1764.toNat]
def k0_off48 (i : grid0.Coords) (k0_t1 : Fin (k0_t1_loop i).trips) : Fin 3 → Nat :=
  let c3_1040 : Index := 3#32
  let c0_1041 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1773 : Index := Scalar.indexCast v1644
  ![3, 0, v1773.toNat]
def k0_off49 (i : grid0.Coords) (k0_t1 : Fin (k0_t1_loop i).trips) : Fin 2 → Nat :=
  let c256_1054 : Index := 256#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1803 : Index := Scalar.indexCast v1644
  ![256, v1803.toNat]
def k0_off50 (i : grid0.Coords) (k0_t1 : Fin (k0_t1_loop i).trips) : Fin 3 → Nat :=
  let c4_1062 : Index := 4#32
  let c0_1063 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1812 : Index := Scalar.indexCast v1644
  ![4, 0, v1812.toNat]
def k0_off51 (i : grid0.Coords) (k0_t1 : Fin (k0_t1_loop i).trips) : Fin 2 → Nat :=
  let c320_1076 : Index := 320#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1842 : Index := Scalar.indexCast v1644
  ![320, v1842.toNat]
def k0_off52 (i : grid0.Coords) (k0_t1 : Fin (k0_t1_loop i).trips) : Fin 3 → Nat :=
  let c5_1084 : Index := 5#32
  let c0_1085 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1851 : Index := Scalar.indexCast v1644
  ![5, 0, v1851.toNat]
def k0_off53 (i : grid0.Coords) (k0_t1 : Fin (k0_t1_loop i).trips) : Fin 2 → Nat :=
  let c384_1098 : Index := 384#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1881 : Index := Scalar.indexCast v1644
  ![384, v1881.toNat]
def k0_off54 (i : grid0.Coords) (k0_t1 : Fin (k0_t1_loop i).trips) : Fin 3 → Nat :=
  let c6_1106 : Index := 6#32
  let c0_1107 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1890 : Index := Scalar.indexCast v1644
  ![6, 0, v1890.toNat]
def k0_off55 (i : grid0.Coords) (k0_t1 : Fin (k0_t1_loop i).trips) : Fin 2 → Nat :=
  let c448_1120 : Index := 448#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1920 : Index := Scalar.indexCast v1644
  ![448, v1920.toNat]
def k0_off56 (i : grid0.Coords) (k0_t1 : Fin (k0_t1_loop i).trips) : Fin 3 → Nat :=
  let c7_1128 : Index := 7#32
  let c0_1129 : Index := 0#32
  let arg0 : BitVec 32 := BitVec.ofNat 32 (i 0).val
  let c1_i32_220 : BitVec 32 := 1#32
  let arg21 : BitVec 32 := Scf.iv arg0 c1_i32_220 k0_t1
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1929 : Index := Scalar.indexCast v1644
  ![7, 0, v1929.toNat]
@[reducible] def k0_t2_loop (i : grid0.Coords) : Scf.Loop 32 :=
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let v416 : BitVec 32 := Scalar.addi arg0 v415
  let c1_i32_221 : BitVec 32 := 1#32
  ⟨v419, v416, c1_i32_221⟩
def k0_mult4 (i : grid0.Coords) (k0_t2 : Fin (k0_t2_loop i).trips) : BitVec 32 :=
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  v1104
def k0_off57 (i : grid0.Coords) (k0_t2 : Fin (k0_t2_loop i).trips) : Fin 3 → Nat :=
  let c0_655 : Index := 0#32
  let c0_656 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1111 : Index := Scalar.indexCast v1105
  ![0, 0, v1111.toNat]
def k0_off58 (i : grid0.Coords) (k0_t2 : Fin (k0_t2_loop i).trips) : Fin 2 → Nat :=
  let c0_657 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1118 : Index := Scalar.indexCast v1105
  ![0, v1118.toNat]
def k0_off59 (i : grid0.Coords) (k0_t2 : Fin (k0_t2_loop i).trips) : Fin 3 → Nat :=
  let c0_680 : Index := 0#32
  let c0_681 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1162 : Index := Scalar.indexCast v1105
  ![0, 0, v1162.toNat]
def k0_off60 (i : grid0.Coords) (k0_t2 : Fin (k0_t2_loop i).trips) : Fin 3 → Nat :=
  let c1_694 : Index := 1#32
  let c0_695 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1178 : Index := Scalar.indexCast v1105
  ![1, 0, v1178.toNat]
def k0_off61 (i : grid0.Coords) (k0_t2 : Fin (k0_t2_loop i).trips) : Fin 2 → Nat :=
  let c64_696 : Index := 64#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1185 : Index := Scalar.indexCast v1105
  ![64, v1185.toNat]
def k0_off62 (i : grid0.Coords) (k0_t2 : Fin (k0_t2_loop i).trips) : Fin 3 → Nat :=
  let c1_719 : Index := 1#32
  let c0_720 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1229 : Index := Scalar.indexCast v1105
  ![1, 0, v1229.toNat]
def k0_off63 (i : grid0.Coords) (k0_t2 : Fin (k0_t2_loop i).trips) : Fin 3 → Nat :=
  let c2_733 : Index := 2#32
  let c0_734 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1245 : Index := Scalar.indexCast v1105
  ![2, 0, v1245.toNat]
def k0_off64 (i : grid0.Coords) (k0_t2 : Fin (k0_t2_loop i).trips) : Fin 2 → Nat :=
  let c128_735 : Index := 128#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1252 : Index := Scalar.indexCast v1105
  ![128, v1252.toNat]
def k0_off65 (i : grid0.Coords) (k0_t2 : Fin (k0_t2_loop i).trips) : Fin 3 → Nat :=
  let c2_758 : Index := 2#32
  let c0_759 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1296 : Index := Scalar.indexCast v1105
  ![2, 0, v1296.toNat]
def k0_off66 (i : grid0.Coords) (k0_t2 : Fin (k0_t2_loop i).trips) : Fin 3 → Nat :=
  let c3_772 : Index := 3#32
  let c0_773 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1312 : Index := Scalar.indexCast v1105
  ![3, 0, v1312.toNat]
def k0_off67 (i : grid0.Coords) (k0_t2 : Fin (k0_t2_loop i).trips) : Fin 2 → Nat :=
  let c192_774 : Index := 192#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1319 : Index := Scalar.indexCast v1105
  ![192, v1319.toNat]
def k0_off68 (i : grid0.Coords) (k0_t2 : Fin (k0_t2_loop i).trips) : Fin 3 → Nat :=
  let c3_797 : Index := 3#32
  let c0_798 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1363 : Index := Scalar.indexCast v1105
  ![3, 0, v1363.toNat]
def k0_off69 (i : grid0.Coords) (k0_t2 : Fin (k0_t2_loop i).trips) : Fin 3 → Nat :=
  let c4_811 : Index := 4#32
  let c0_812 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1379 : Index := Scalar.indexCast v1105
  ![4, 0, v1379.toNat]
def k0_off70 (i : grid0.Coords) (k0_t2 : Fin (k0_t2_loop i).trips) : Fin 2 → Nat :=
  let c256_813 : Index := 256#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1386 : Index := Scalar.indexCast v1105
  ![256, v1386.toNat]
def k0_off71 (i : grid0.Coords) (k0_t2 : Fin (k0_t2_loop i).trips) : Fin 3 → Nat :=
  let c4_836 : Index := 4#32
  let c0_837 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1430 : Index := Scalar.indexCast v1105
  ![4, 0, v1430.toNat]
def k0_off72 (i : grid0.Coords) (k0_t2 : Fin (k0_t2_loop i).trips) : Fin 3 → Nat :=
  let c5_850 : Index := 5#32
  let c0_851 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1446 : Index := Scalar.indexCast v1105
  ![5, 0, v1446.toNat]
def k0_off73 (i : grid0.Coords) (k0_t2 : Fin (k0_t2_loop i).trips) : Fin 2 → Nat :=
  let c320_852 : Index := 320#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1453 : Index := Scalar.indexCast v1105
  ![320, v1453.toNat]
def k0_off74 (i : grid0.Coords) (k0_t2 : Fin (k0_t2_loop i).trips) : Fin 3 → Nat :=
  let c5_875 : Index := 5#32
  let c0_876 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1497 : Index := Scalar.indexCast v1105
  ![5, 0, v1497.toNat]
def k0_off75 (i : grid0.Coords) (k0_t2 : Fin (k0_t2_loop i).trips) : Fin 3 → Nat :=
  let c6_889 : Index := 6#32
  let c0_890 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1513 : Index := Scalar.indexCast v1105
  ![6, 0, v1513.toNat]
def k0_off76 (i : grid0.Coords) (k0_t2 : Fin (k0_t2_loop i).trips) : Fin 2 → Nat :=
  let c384_891 : Index := 384#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1520 : Index := Scalar.indexCast v1105
  ![384, v1520.toNat]
def k0_off77 (i : grid0.Coords) (k0_t2 : Fin (k0_t2_loop i).trips) : Fin 3 → Nat :=
  let c6_914 : Index := 6#32
  let c0_915 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1564 : Index := Scalar.indexCast v1105
  ![6, 0, v1564.toNat]
def k0_off78 (i : grid0.Coords) (k0_t2 : Fin (k0_t2_loop i).trips) : Fin 3 → Nat :=
  let c7_928 : Index := 7#32
  let c0_929 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1580 : Index := Scalar.indexCast v1105
  ![7, 0, v1580.toNat]
def k0_off79 (i : grid0.Coords) (k0_t2 : Fin (k0_t2_loop i).trips) : Fin 2 → Nat :=
  let c448_930 : Index := 448#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1587 : Index := Scalar.indexCast v1105
  ![448, v1587.toNat]
def k0_off80 (i : grid0.Coords) (k0_t2 : Fin (k0_t2_loop i).trips) : Fin 3 → Nat :=
  let c7_953 : Index := 7#32
  let c0_954 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c384_i32_648 : BitVec 32 := 384#32
  let v1104 : BitVec 32 := Scalar.muli arg21 c384_i32_648
  let v1105 : BitVec 32 := v1104
  let v1631 : Index := Scalar.indexCast v1105
  ![7, 0, v1631.toNat]
def k0_mult5 (i : grid0.Coords) (k0_t2 : Fin (k0_t2_loop i).trips) : BitVec 32 :=
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  v1643
def k0_off81 (i : grid0.Coords) (k0_t2 : Fin (k0_t2_loop i).trips) : Fin 2 → Nat :=
  let c0_966 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1647 : Index := Scalar.indexCast v1644
  ![0, v1647.toNat]
def k0_off82 (i : grid0.Coords) (k0_t2 : Fin (k0_t2_loop i).trips) : Fin 3 → Nat :=
  let c0_974 : Index := 0#32
  let c0_975 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1656 : Index := Scalar.indexCast v1644
  ![0, 0, v1656.toNat]
def k0_off83 (i : grid0.Coords) (k0_t2 : Fin (k0_t2_loop i).trips) : Fin 2 → Nat :=
  let c64_988 : Index := 64#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1686 : Index := Scalar.indexCast v1644
  ![64, v1686.toNat]
def k0_off84 (i : grid0.Coords) (k0_t2 : Fin (k0_t2_loop i).trips) : Fin 3 → Nat :=
  let c1_996 : Index := 1#32
  let c0_997 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1695 : Index := Scalar.indexCast v1644
  ![1, 0, v1695.toNat]
def k0_off85 (i : grid0.Coords) (k0_t2 : Fin (k0_t2_loop i).trips) : Fin 2 → Nat :=
  let c128_1010 : Index := 128#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1725 : Index := Scalar.indexCast v1644
  ![128, v1725.toNat]
def k0_off86 (i : grid0.Coords) (k0_t2 : Fin (k0_t2_loop i).trips) : Fin 3 → Nat :=
  let c2_1018 : Index := 2#32
  let c0_1019 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1734 : Index := Scalar.indexCast v1644
  ![2, 0, v1734.toNat]
def k0_off87 (i : grid0.Coords) (k0_t2 : Fin (k0_t2_loop i).trips) : Fin 2 → Nat :=
  let c192_1032 : Index := 192#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1764 : Index := Scalar.indexCast v1644
  ![192, v1764.toNat]
def k0_off88 (i : grid0.Coords) (k0_t2 : Fin (k0_t2_loop i).trips) : Fin 3 → Nat :=
  let c3_1040 : Index := 3#32
  let c0_1041 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1773 : Index := Scalar.indexCast v1644
  ![3, 0, v1773.toNat]
def k0_off89 (i : grid0.Coords) (k0_t2 : Fin (k0_t2_loop i).trips) : Fin 2 → Nat :=
  let c256_1054 : Index := 256#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1803 : Index := Scalar.indexCast v1644
  ![256, v1803.toNat]
def k0_off90 (i : grid0.Coords) (k0_t2 : Fin (k0_t2_loop i).trips) : Fin 3 → Nat :=
  let c4_1062 : Index := 4#32
  let c0_1063 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1812 : Index := Scalar.indexCast v1644
  ![4, 0, v1812.toNat]
def k0_off91 (i : grid0.Coords) (k0_t2 : Fin (k0_t2_loop i).trips) : Fin 2 → Nat :=
  let c320_1076 : Index := 320#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1842 : Index := Scalar.indexCast v1644
  ![320, v1842.toNat]
def k0_off92 (i : grid0.Coords) (k0_t2 : Fin (k0_t2_loop i).trips) : Fin 3 → Nat :=
  let c5_1084 : Index := 5#32
  let c0_1085 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1851 : Index := Scalar.indexCast v1644
  ![5, 0, v1851.toNat]
def k0_off93 (i : grid0.Coords) (k0_t2 : Fin (k0_t2_loop i).trips) : Fin 2 → Nat :=
  let c384_1098 : Index := 384#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1881 : Index := Scalar.indexCast v1644
  ![384, v1881.toNat]
def k0_off94 (i : grid0.Coords) (k0_t2 : Fin (k0_t2_loop i).trips) : Fin 3 → Nat :=
  let c6_1106 : Index := 6#32
  let c0_1107 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1890 : Index := Scalar.indexCast v1644
  ![6, 0, v1890.toNat]
def k0_off95 (i : grid0.Coords) (k0_t2 : Fin (k0_t2_loop i).trips) : Fin 2 → Nat :=
  let c448_1120 : Index := 448#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1920 : Index := Scalar.indexCast v1644
  ![448, v1920.toNat]
def k0_off96 (i : grid0.Coords) (k0_t2 : Fin (k0_t2_loop i).trips) : Fin 3 → Nat :=
  let c7_1128 : Index := 7#32
  let c0_1129 : Index := 0#32
  let arg0 : BitVec 32 := BitVec.ofNat 32 (i 0).val
  let c10_i32 : BitVec 32 := 10#32
  let v415 : BitVec 32 := Scalar.subi c10_i32 arg0
  let c1_i32 : BitVec 32 := 1#32
  let v417 : BitVec 32 := Scalar.divsi v415 c1_i32
  let v418 : BitVec 32 := Scalar.muli v417 c1_i32
  let v419 : BitVec 32 := Scalar.addi arg0 v418
  let c1_i32_221 : BitVec 32 := 1#32
  let arg21 : BitVec 32 := Scf.iv v419 c1_i32_221 k0_t2
  let c1_i32_961 : BitVec 32 := 1#32
  let v1642 : BitVec 32 := Scalar.addi arg21 c1_i32_961
  let c384_i32_962 : BitVec 32 := 384#32
  let v1643 : BitVec 32 := Scalar.muli v1642 c384_i32_962
  let v1644 : BitVec 32 := v1643
  let v1929 : Index := Scalar.indexCast v1644
  ![7, 0, v1929.toNat]
def k0_mult6 : BitVec 32 :=
  let c3840_i32 : BitVec 32 := 3840#32
  c3840_i32
def k0_cond2 (i : grid0.Coords) : BitVec 1 :=
  let arg0 : BitVec 32 := BitVec.ofNat 32 (i 0).val
  let c10_i32_646 : BitVec 32 := 10#32
  let v1101 : BitVec 1 := Scalar.cmpi .eq arg0 c10_i32_646
  let v1102 : BitVec 32 := Scalar.extui v1101
  let c0_i32_647 : BitVec 32 := 0#32
  let v1103 : BitVec 1 := Scalar.cmpi .ne v1102 c0_i32_647
  v1103

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S512x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x384x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x4224 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x4224 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1x4224 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x4224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x4224 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x384 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x1x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x1x4224 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== AttnKernelIdeal.lean ====
variable {F : FTy → Type} [FloatOps F] [Named F]
def κ : String → Option EReal := fun
  | "ln2" => some ((Real.log 2 : ℝ) : EReal)
  | "mask" => some ⊥
  | _ => none
-- ==== AttnReferenceIdeal.lean ====
abbrev S4112x8x64 : Shape := ⟨3, ![4112, 8, 64]⟩
abbrev S4112x8 : Shape := ⟨2, ![4112, 8]⟩
abbrev S8x4112x4112 : Shape := ⟨3, ![8, 4112, 4112]⟩
abbrev S_ : Shape := ⟨0, ![]⟩
abbrev S8x4112 : Shape := ⟨2, ![8, 4112]⟩
abbrev S8x4112x1 : Shape := ⟨3, ![8, 4112, 1]⟩
abbrev S8x1x4112 : Shape := ⟨3, ![8, 1, 4112]⟩
abbrev S4112 : Shape := ⟨1, ![4112]⟩
abbrev S1x4112 : Shape := ⟨2, ![1, 4112]⟩
abbrev S4112x1 : Shape := ⟨2, ![4112, 1]⟩
abbrev S4112x4112 : Shape := ⟨2, ![4112, 4112]⟩
abbrev S8x64x4112 : Shape := ⟨3, ![8, 64, 4112]⟩
abbrev S8x4112x64 : Shape := ⟨3, ![8, 4112, 64]⟩
abbrev S4112x512 : Shape := ⟨2, ![4112, 512]⟩
abbrev S512x4112 : Shape := ⟨2, ![512, 4112]⟩
abbrev S512x4224 : Shape := ⟨2, ![512, 4224]⟩
abbrev S8x4224 : Shape := ⟨2, ![8, 4224]⟩
abbrev S8x1x4224 : Shape := ⟨3, ![8, 1, 4224]⟩

abbrev nBuf : Space → Nat
  | .hbm => 140
  | .vmem => 0
  | .smem => 0
  | _ => 0

abbrev hbmTy0_0 (i : Nat) : BufTy := match i % 128 with
  | 0 => ⟨S4112x8x64, .f32⟩
  | 1 => ⟨S4112x8x64, .f32⟩
  | 2 => ⟨S4112x8x64, .f32⟩
  | 3 => ⟨S4112x8, .f32⟩
  | 4 => ⟨S4112x8x64, .f32⟩
  | 5 => ⟨S8x4112x4112, .f32⟩
  | 6 => ⟨S_, .f32⟩
  | 7 => ⟨S8x4112x4112, .f32⟩
  | 8 => ⟨S8x4112x4112, .f32⟩
  | 9 => ⟨S8x4112, .f32⟩
  | 10 => ⟨S8x4112x1, .f32⟩
  | 11 => ⟨S8x4112x4112, .f32⟩
  | 12 => ⟨S8x4112x4112, .f32⟩
  | 13 => ⟨S8x4112, .f32⟩
  | 14 => ⟨S8x1x4112, .f32⟩
  | 15 => ⟨S8x4112x4112, .f32⟩
  | 16 => ⟨S8x4112x4112, .f32⟩
  | 17 => ⟨S4112, .i32⟩
  | 18 => ⟨S1x4112, .i32⟩
  | 19 => ⟨S4112x1, .i32⟩
  | 20 => ⟨S4112x4112, .i32⟩
  | 21 => ⟨S4112x4112, .i32⟩
  | 22 => ⟨S4112x4112, .i1⟩
  | 23 => ⟨S_, .f32⟩
  | 24 => ⟨S_, .f32⟩
  | 25 => ⟨S8x4112x4112, .i1⟩
  | 26 => ⟨S8x4112x4112, .f32⟩
  | 27 => ⟨S8x4112x4112, .f32⟩
  | 28 => ⟨S_, .f32⟩
  | 29 => ⟨S8x4112x4112, .f32⟩
  | 30 => ⟨S_, .f32⟩
  | 31 => ⟨S8x4112, .f32⟩
  | 32 => ⟨S8x4112x1, .f32⟩
  | 33 => ⟨S8x4112x4112, .f32⟩
  | 34 => ⟨S8x4112x4112, .i1⟩
  | 35 => ⟨S8x4112x4112, .f32⟩
  | 36 => ⟨S_, .f32⟩
  | 37 => ⟨S8x4112, .f32⟩
  | 38 => ⟨S_, .f32⟩
  | 39 => ⟨S8x4112, .f32⟩
  | 40 => ⟨S8x4112, .f32⟩
  | 41 => ⟨S_, .f32⟩
  | 42 => ⟨S8x4112, .f32⟩
  | 43 => ⟨S8x4112, .i1⟩
  | 44 => ⟨S_, .f32⟩
  | 45 => ⟨S8x4112, .f32⟩
  | 46 => ⟨S8x4112, .i1⟩
  | 47 => ⟨S_, .f32⟩
  | 48 => ⟨S8x4112, .f32⟩
  | 49 => ⟨S_, .f32⟩
  | 50 => ⟨S8x4112, .f32⟩
  | 51 => ⟨S_, .f32⟩
  | 52 => ⟨S8x4112, .f32⟩
  | 53 => ⟨S8x4112, .f32⟩
  | 54 => ⟨S8x4112, .f32⟩
  | 55 => ⟨S8x4112x1, .f32⟩
  | 56 => ⟨S8x4112x4112, .f32⟩
  | 57 => ⟨S8x4112x4112, .f32⟩
  | 58 => ⟨S8x4112x4112, .f32⟩
  | 59 => ⟨S_, .f32⟩
  | 60 => ⟨S8x4112, .f32⟩
  | 61 => ⟨S8x4112x1, .f32⟩
  | 62 => ⟨S8x4112x4112, .f32⟩
  | 63 => ⟨S8x4112x4112, .f32⟩
  | 64 => ⟨S8x4112x1, .f32⟩
  | 65 => ⟨S_, .f32⟩
  | 66 => ⟨S8x4112x1, .f32⟩
  | 67 => ⟨S8x4112x1, .f32⟩
  | 68 => ⟨S8x64x4112, .f32⟩
  | 69 => ⟨S4112x8x64, .f32⟩
  | 70 => ⟨S8x64x4112, .f32⟩
  | 71 => ⟨S8x4112x4112, .f32⟩
  | 72 => ⟨S8x64x4112, .f32⟩
  | 73 => ⟨S4112x8x64, .f32⟩
  | 74 => ⟨S8x4112x4112, .f32⟩
  | 75 => ⟨S8x4112x4112, .f32⟩
  | 76 => ⟨S8x4112x4112, .f32⟩
  | 77 => ⟨S_, .f32⟩
  | 78 => ⟨S8x4112, .f32⟩
  | 79 => ⟨S8x4112x1, .f32⟩
  | 80 => ⟨S8x4112x1, .f32⟩
  | 81 => ⟨S8x4112x4112, .f32⟩
  | 82 => ⟨S8x4112x4112, .f32⟩
  | 83 => ⟨S_, .f32⟩
  | 84 => ⟨S8x4112, .f32⟩
  | 85 => ⟨S8x4112x4112, .f32⟩
  | 86 => ⟨S8x4112x4112, .f32⟩
  | 87 => ⟨S8x4112x4112, .f32⟩
  | 88 => ⟨S_, .f32⟩
  | 89 => ⟨S8x4112x4112, .f32⟩
  | 90 => ⟨S8x4112x4112, .f32⟩
  | 91 => ⟨S8x4112x4112, .f32⟩
  | 92 => ⟨S_, .f32⟩
  | 93 => ⟨S8x4112, .f32⟩
  | 94 => ⟨S8x1x4112, .f32⟩
  | 95 => ⟨S_, .f32⟩
  | 96 => ⟨S8x4112, .f32⟩
  | 97 => ⟨S4112x8, .f32⟩
  | 98 => ⟨S_, .f32⟩
  | 99 => ⟨S8x4112, .f32⟩
  | 100 => ⟨S8x4112x1, .f32⟩
  | 101 => ⟨S_, .f32⟩
  | 102 => ⟨S8x4112, .f32⟩
  | 103 => ⟨S4112x8, .f32⟩
  | 104 => ⟨S_, .f32⟩
  | 105 => ⟨S8x4112x4112, .f32⟩
  | 106 => ⟨S8x4112x4112, .f32⟩
  | 107 => ⟨S8x4112x64, .f32⟩
  | 108 => ⟨S4112x8x64, .f32⟩
  | 109 => ⟨S8x4112x64, .f32⟩
  | 110 => ⟨S4112x8x64, .f32⟩
  | 111 => ⟨S4112x512, .f32⟩
  | 112 => ⟨S512x4112, .f32⟩
  | 113 => ⟨S_, .i32⟩
  | 114 => ⟨S_, .f32⟩
  | 115 => ⟨S512x4224, .f32⟩
  | 116 => ⟨S512x4224, .bf16⟩
  | 117 => ⟨S4112x512, .f32⟩
  | 118 => ⟨S512x4112, .f32⟩
  | 119 => ⟨S_, .i32⟩
  | 120 => ⟨S_, .f32⟩
  | 121 => ⟨S512x4224, .f32⟩
  | 122 => ⟨S512x4224, .bf16⟩
  | 123 => ⟨S4112x512, .f32⟩
  | 124 => ⟨S512x4112, .f32⟩
  | 125 => ⟨S_, .i32⟩
  | 126 => ⟨S_, .f32⟩
  | 127 => ⟨S512x4224, .f32⟩
  | _ => ⟨S4112x8x64, .f32⟩

abbrev hbmTy0_1 (i : Nat) : BufTy := match i % 128 with
  | 0 => ⟨S512x4224, .bf16⟩
  | 1 => ⟨S4112x8, .f32⟩
  | 2 => ⟨S8x4112, .f32⟩
  | 3 => ⟨S_, .i32⟩
  | 4 => ⟨S_, .f32⟩
  | 5 => ⟨S8x4224, .f32⟩
  | 6 => ⟨S8x1x4224, .f32⟩
  | 7 => ⟨S8x4112, .f32⟩
  | 8 => ⟨S_, .i32⟩
  | 9 => ⟨S_, .f32⟩
  | 10 => ⟨S8x4224, .f32⟩
  | 11 => ⟨S8x1x4224, .f32⟩
  | _ => ⟨S4112x8x64, .f32⟩

abbrev hbmTy (i : Nat) : BufTy := match i / 128 with
  | 0 => hbmTy0_0 i
  | 1 => hbmTy0_1 i
  | _ => ⟨S4112x8x64, .f32⟩

abbrev bufTy : (tb : Table) → Fin (tcTables nBuf tb) → BufTy
  | .hbm, ⟨i, _⟩ => hbmTy i
  | _, _ => ⟨S4112x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_v65 : Ref sig .tc := ⟨.hbm, 91, rfl⟩
abbrev main_cst_13 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c : Ref sig .tc := ⟨.hbm, 113, rfl⟩
abbrev main_call2_v0 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_call3_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_c_19 : Ref sig .tc := ⟨.hbm, 125, rfl⟩
abbrev main_call4_v0 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_20 : Ref sig .tc := ⟨.hbm, 131, rfl⟩
abbrev main_call5_v0 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_c_21 : Ref sig .tc := ⟨.hbm, 136, rfl⟩
abbrev main_call6_v0 : Ref sig .tc := ⟨.hbm, 137, rfl⟩
abbrev main_v97 : Ref sig .tc := ⟨.hbm, 138, rfl⟩
abbrev main_v98 : Ref sig .tc := ⟨.hbm, 139, rfl⟩

abbrev nD : Nat := 1
abbrev τ : Topo := Topo.v7x

variable {F : FTy → Type} [FloatOps F]
-- ==== InputKernel.lean ====
abbrev S4096x1024 : Shape := ⟨2, ![4096, 1024]⟩
abbrev S16x1024 : Shape := ⟨2, ![16, 1024]⟩
abbrev S1024 : Shape := ⟨1, ![1024]⟩
abbrev S1024x4104 : Shape := ⟨2, ![1024, 4104]⟩
abbrev S4112x4104 : Shape := ⟨2, ![4112, 4104]⟩
abbrev S4112x1024 : Shape := ⟨2, ![4112, 1024]⟩
abbrev S4104x1024 : Shape := ⟨2, ![4104, 1024]⟩
abbrev S1536x1024 : Shape := ⟨2, ![1536, 1024]⟩
abbrev S2560x1024 : Shape := ⟨2, ![2560, 1024]⟩
abbrev S8x1024 : Shape := ⟨2, ![8, 1024]⟩
abbrev S_ : Shape := ⟨0, ![]⟩
abbrev S4104x4112 : Shape := ⟨2, ![4104, 4112]⟩
abbrev S4104x4224 : Shape := ⟨2, ![4104, 4224]⟩
abbrev S8x4224 : Shape := ⟨2, ![8, 4224]⟩
abbrev S16x4224 : Shape := ⟨2, ![16, 4224]⟩
abbrev S512x4224 : Shape := ⟨2, ![512, 4224]⟩
abbrev S2560x4224 : Shape := ⟨2, ![2560, 4224]⟩
abbrev S4224x1024 : Shape := ⟨2, ![4224, 1024]⟩
abbrev S1x1024 : Shape := ⟨2, ![1, 1024]⟩
abbrev S8x128 : Shape := ⟨2, ![8, 128]⟩
abbrev S512x384 : Shape := ⟨2, ![512, 384]⟩
abbrev S2560x384 : Shape := ⟨2, ![2560, 384]⟩
abbrev S16x384 : Shape := ⟨2, ![16, 384]⟩
abbrev S384x1024 : Shape := ⟨2, ![384, 1024]⟩
abbrev S128x1024 : Shape := ⟨2, ![128, 1024]⟩
abbrev S2x384x1024 : Shape := ⟨3, ![2, 384, 1024]⟩
abbrev S2 : Shape := ⟨1, ![2]⟩
abbrev S512x1024 : Shape := ⟨2, ![512, 1024]⟩
abbrev S112x1024 : Shape := ⟨2, ![112, 1024]⟩
abbrev S384 : Shape := ⟨1, ![384]⟩
abbrev S384x1 : Shape := ⟨2, ![384, 1]⟩
abbrev S1x384x1024 : Shape := ⟨3, ![1, 384, 1024]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 40
  | .vmem => 24
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024x4104, .f32⟩
  | .hbm, ⟨4, _⟩ => ⟨S4112x4104, .f32⟩
  | .hbm, ⟨5, _⟩ => ⟨S4112x1024, .f32⟩
  | .hbm, ⟨6, _⟩ => ⟨S4104x1024, .f32⟩
  | .hbm, ⟨7, _⟩ => ⟨S1536x1024, .f32⟩
  | .hbm, ⟨8, _⟩ => ⟨S2560x1024, .f32⟩
  | .hbm, ⟨9, _⟩ => ⟨S8x1024, .f32⟩
  | .hbm, ⟨10, _⟩ => ⟨S_, .f32⟩
  | .hbm, ⟨11, _⟩ => ⟨S8x1024, .f32⟩
  | .hbm, ⟨12, _⟩ => ⟨S4112x1024, .f32⟩
  | .hbm, ⟨13, _⟩ => ⟨S4112x1024, .bf16⟩
  | .hbm, ⟨14, _⟩ => ⟨S4104x4112, .f32⟩
  | .hbm, ⟨15, _⟩ => ⟨S_, .i32⟩
  | .hbm, ⟨16, _⟩ => ⟨S_, .f32⟩
  | .hbm, ⟨17, _⟩ => ⟨S4104x4224, .f32⟩
  | .hbm, ⟨18, _⟩ => ⟨S8x4224, .f32⟩
  | .hbm, ⟨19, _⟩ => ⟨S_, .f32⟩
  | .hbm, ⟨20, _⟩ => ⟨S8x4224, .f32⟩
  | .hbm, ⟨21, _⟩ => ⟨S16x4224, .f32⟩
  | .hbm, ⟨22, _⟩ => ⟨S16x4224, .bf16⟩
  | .hbm, ⟨23, _⟩ => ⟨S512x4224, .f32⟩
  | .hbm, ⟨24, _⟩ => ⟨S512x4224, .bf16⟩
  | .hbm, ⟨25, _⟩ => ⟨S512x4224, .f32⟩
  | .hbm, ⟨26, _⟩ => ⟨S512x4224, .bf16⟩
  | .hbm, ⟨27, _⟩ => ⟨S512x4224, .f32⟩
  | .hbm, ⟨28, _⟩ => ⟨S512x4224, .bf16⟩
  | .hbm, ⟨29, _⟩ => ⟨S2560x4224, .f32⟩
  | .hbm, ⟨30, _⟩ => ⟨S2560x4224, .bf16⟩
  | .hbm, ⟨31, _⟩ => ⟨S_, .i32⟩
  | .hbm, ⟨32, _⟩ => ⟨S_, .f32⟩
  | .hbm, ⟨33, _⟩ => ⟨S4224x1024, .f32⟩
  | .hbm, ⟨34, _⟩ => ⟨S1x1024, .f32⟩
  | .hbm, ⟨35, _⟩ => ⟨S_, .f32⟩
  | .hbm, ⟨36, _⟩ => ⟨S8x128, .f32⟩
  | .hbm, ⟨37, _⟩ => ⟨S4096x1024, .f32⟩
  | .hbm, ⟨38, _⟩ => ⟨S16x1024, .f32⟩
  | .hbm, ⟨39, _⟩ => ⟨S1x1024, .f32⟩
  | .local _ .vmem, ⟨0, _⟩ => ⟨S4112x1024, .bf16⟩
  | .local _ .vmem, ⟨1, _⟩ => ⟨S512x384, .bf16⟩
  | .local _ .vmem, ⟨2, _⟩ => ⟨S512x384, .bf16⟩
  | .local _ .vmem, ⟨3, _⟩ => ⟨S512x384, .bf16⟩
  | .local _ .vmem, ⟨4, _⟩ => ⟨S512x384, .bf16⟩
  | .local _ .vmem, ⟨5, _⟩ => ⟨S512x384, .bf16⟩
  | .local _ .vmem, ⟨6, _⟩ => ⟨S512x384, .bf16⟩
  | .local _ .vmem, ⟨7, _⟩ => ⟨S2560x384, .bf16⟩
  | .local _ .vmem, ⟨8, _⟩ => ⟨S2560x384, .bf16⟩
  | .local _ .vmem, ⟨9, _⟩ => ⟨S16x384, .bf16⟩
  | .local _ .vmem, ⟨10, _⟩ => ⟨S16x384, .bf16⟩
  | .local _ .vmem, ⟨11, _⟩ => ⟨S384x1024, .f32⟩
  | .local _ .vmem, ⟨12, _⟩ => ⟨S384x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S16x1024, .f32⟩
  | .local _ .vmem, ⟨20, _⟩ => ⟨S1x1024, .f32⟩
  | .local _ .vmem, ⟨21, _⟩ => ⟨S16x1024, .f32⟩
  | .local _ .vmem, ⟨22, _⟩ => ⟨S1x1024, .f32⟩
  | .local _ .vmem, ⟨23, _⟩ => ⟨S2x384x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_call1_v0 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_scratch0 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem12_0 : DmaSem sig := 21
abbrev cc0_sem13_0 : DmaSem sig := 22

abbrev nD : Nat := 1
abbrev τ : Topo := Topo.v7x

variable {F : FTy → Type} [FloatOps F]

abbrev grid0 : Pipeline.Grid := ⟨1, ![11], ![false]⟩

def k0_off1 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v86 : Index := Scalar.indexCast v9
  let c0_48 : Index := 0#32
  let c0_49 : Index := 0#32
  ![v86.toNat, 0, 0]
def k0_cond3 (i : grid0.Coords) : BitVec 1 :=
  let arg0 : BitVec 32 := BitVec.ofNat 32 (i 0).val
  let c1_i32_52 : BitVec 32 := 1#32
  let v93 : BitVec 1 := Scalar.cmpi .sge arg0 c1_i32_52
  let v94 : BitVec 32 := Scalar.extui v93
  let c0_i32_53 : BitVec 32 := 0#32
  let v95 : BitVec 1 := Scalar.cmpi .ne v94 c0_i32_53
  v95

def k0_off2 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off3 (i : grid0.Coords) : Fin 2 → Nat :=
  let arg0 : BitVec 32 := BitVec.ofNat 32 (i 0).val
  let c384_i32 : BitVec 32 := 384#32
  let v105 : BitVec 32 := Scalar.muli arg0 c384_i32
  let c128_i32 : BitVec 32 := 128#32
  let v106 : BitVec 32 := Scalar.subi v105 c128_i32
  let c0_i32_59 : BitVec 32 := 0#32
  ![v106.toNat, 0]
def k0_off4 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_60 : BitVec 32 := 0#32
  let c0_i32_61 : BitVec 32 := 0#32
  ![v9.toNat, 0, 0]
def k0_cond5 (i : grid0.Coords) : BitVec 1 :=
  let arg0 : BitVec 32 := BitVec.ofNat 32 (i 0).val
  let c2_i32_56 : BitVec 32 := 2#32
  let v99 : BitVec 1 := Scalar.cmpi .sge arg0 c2_i32_56
  let v100 : BitVec 32 := Scalar.extui v99
  let c0_i32_57 : BitVec 32 := 0#32
  let v101 : BitVec 1 := Scalar.cmpi .ne v100 c0_i32_57
  v101

def k0_off5 (i : grid0.Coords) : Fin 1 → Nat :=
  let c1_i32_60 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v106 : BitVec 32 := Scalar.subi c1_i32_60 v9
  ![v106.toNat]
def k0_off6 (i : grid0.Coords) : Fin 2 → Nat :=
  let arg0 : BitVec 32 := BitVec.ofNat 32 (i 0).val
  let c1_i32_59 : BitVec 32 := 1#32
  let v105 : BitVec 32 := Scalar.subi arg0 c1_i32_59
  let c384_i32 : BitVec 32 := 384#32
  let v107 : BitVec 32 := Scalar.muli v105 c384_i32
  let c128_i32 : BitVec 32 := 128#32
  let v108 : BitVec 32 := Scalar.subi v107 c128_i32
  let c0_i32_61 : BitVec 32 := 0#32
  ![v108.toNat, 0]
def k0_off7 (i : grid0.Coords) : Fin 3 → Nat :=
  let c1_i32_60 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v106 : BitVec 32 := Scalar.subi c1_i32_60 v9
  let c0_i32_62 : BitVec 32 := 0#32
  let c0_i32_63 : BitVec 32 := 0#32
  ![v106.toNat, 0, 0]
def k0_cond6 (i : grid0.Coords) : BitVec 1 :=
  let arg0 : BitVec 32 := BitVec.ofNat 32 (i 0).val
  let c10_i32 : BitVec 32 := 10#32
  let v102 : BitVec 1 := Scalar.cmpi .eq arg0 c10_i32
  let v103 : BitVec 32 := Scalar.extui v102
  let c0_i32_58 : BitVec 32 := 0#32
  let v104 : BitVec 1 := Scalar.cmpi .ne v103 c0_i32_58
  v104

def k0_off8 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off9 (i : grid0.Coords) : Fin 2 → Nat :=
  let arg0 : BitVec 32 := BitVec.ofNat 32 (i 0).val
  let c384_i32 : BitVec 32 := 384#32
  let v105 : BitVec 32 := Scalar.muli arg0 c384_i32
  let c128_i32 : BitVec 32 := 128#32
  let v106 : BitVec 32 := Scalar.subi v105 c128_i32
  let c0_i32_59 : BitVec 32 := 0#32
  ![v106.toNat, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_60 : BitVec 32 := 0#32
  let c0_i32_61 : BitVec 32 := 0#32
  ![v9.toNat, 0, 0]
def k0_cond2 (i : grid0.Coords) : BitVec 1 :=
  let arg0 : BitVec 32 := BitVec.ofNat 32 (i 0).val
  let c0_i32_50 : BitVec 32 := 0#32
  let v90 : BitVec 1 := Scalar.cmpi .eq arg0 c0_i32_50
  let v91 : BitVec 32 := Scalar.extui v90
  let c0_i32_51 : BitVec 32 := 0#32
  let v92 : BitVec 1 := Scalar.cmpi .ne v91 c0_i32_51
  v92

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4112x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2560x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== InputReferenceIdeal.lean ====
abbrev S4096x1024 : Shape := ⟨2, ![4096, 1024]⟩
abbrev S16x1024 : Shape := ⟨2, ![16, 1024]⟩
abbrev S1024 : Shape := ⟨1, ![1024]⟩
abbrev S1024x4104 : Shape := ⟨2, ![1024, 4104]⟩
abbrev S4112x4104 : Shape := ⟨2, ![4112, 4104]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4104x1024 : Shape := ⟨2, ![4104, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024x4104, .f32⟩
  | .hbm, ⟨4, _⟩ => ⟨S4112x4104, .f32⟩
  | .hbm, ⟨5, _⟩ => ⟨S4112x1024, .f32⟩
  | .hbm, ⟨6, _⟩ => ⟨S4112x1024, .f32⟩
  | .hbm, ⟨7, _⟩ => ⟨S4112x1024, .f32⟩
  | .hbm, ⟨8, _⟩ => ⟨S_, .f32⟩
  | .hbm, ⟨9, _⟩ => ⟨S4112, .f32⟩
  | .hbm, ⟨10, _⟩ => ⟨S4112x1, .f32⟩
  | .hbm, ⟨11, _⟩ => ⟨S_, .f32⟩
  | .hbm, ⟨12, _⟩ => ⟨S4112x1, .f32⟩
  | .hbm, ⟨13, _⟩ => ⟨S4112x1, .f32⟩
  | .hbm, ⟨14, _⟩ => ⟨S_, .f32⟩
  | .hbm, ⟨15, _⟩ => ⟨S4112x1, .f32⟩
  | .hbm, ⟨16, _⟩ => ⟨S4112x1, .f32⟩
  | .hbm, ⟨17, _⟩ => ⟨S4112x1, .f32⟩
  | .hbm, ⟨18, _⟩ => ⟨S4112x1, .f32⟩
  | .hbm, ⟨19, _⟩ => ⟨S_, .f32⟩
  | .hbm, ⟨20, _⟩ => ⟨S4112x1, .f32⟩
  | .hbm, ⟨21, _⟩ => ⟨S4112x1, .f32⟩
  | .hbm, ⟨22, _⟩ => ⟨S4112x1024, .f32⟩
  | .hbm, ⟨23, _⟩ => ⟨S4112x1024, .f32⟩
  | .hbm, ⟨24, _⟩ => ⟨S1x1024, .f32⟩
  | .hbm, ⟨25, _⟩ => ⟨S4112x1024, .f32⟩
  | .hbm, ⟨26, _⟩ => ⟨S4112x1024, .f32⟩
  | .hbm, ⟨27, _⟩ => ⟨S4112x4104, .f32⟩
  | .hbm, ⟨28, _⟩ => ⟨S4104x1024, .f32⟩
  | .hbm, ⟨29, _⟩ => ⟨S1024x4104, .f32⟩
  | .hbm, ⟨30, _⟩ => ⟨S4112x1024, .f32⟩
  | .hbm, ⟨31, _⟩ => ⟨S4112x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4112x1024, .f32⟩
  | .hbm, ⟨36, _⟩ => ⟨S4112x1024, .f32⟩
  | .hbm, ⟨37, _⟩ => ⟨S_, .f32⟩
  | .hbm, ⟨38, _⟩ => ⟨S1024, .f32⟩
  | .hbm, ⟨39, _⟩ => ⟨S4112x1024, .f32⟩
  | .hbm, ⟨40, _⟩ => ⟨S_, .f32⟩
  | .hbm, ⟨41, _⟩ => ⟨S4112, .f32⟩
  | .hbm, ⟨42, _⟩ => ⟨S4112x1, .f32⟩
  | .hbm, ⟨43, _⟩ => ⟨S4112x1024, .f32⟩
  | .hbm, ⟨44, _⟩ => ⟨S4112x1024, .f32⟩
  | .hbm, ⟨45, _⟩ => ⟨S4112x1024, .f32⟩
  | .hbm, ⟨46, _⟩ => ⟨S4112x1, .f32⟩
  | .hbm, ⟨47, _⟩ => ⟨S_, .f32⟩
  | .hbm, ⟨48, _⟩ => ⟨S4112x1, .f32⟩
  | .hbm, ⟨49, _⟩ => ⟨S4112x1, .f32⟩
  | .hbm, ⟨50, _⟩ => ⟨S_, .f32⟩
  | .hbm, ⟨51, _⟩ => ⟨S4112, .f32⟩
  | .hbm, ⟨52, _⟩ => ⟨S4112x1024, .f32⟩
  | .hbm, ⟨53, _⟩ => ⟨S4112x1024, .f32⟩
  | .hbm, ⟨54, _⟩ => ⟨S4112x1024, .f32⟩
  | .hbm, ⟨55, _⟩ => ⟨S4112x1024, .f32⟩
  | .hbm, ⟨56, _⟩ => ⟨S4112x1024, .f32⟩
  | .hbm, ⟨57, _⟩ => ⟨S16x1024, .f32⟩
  | .hbm, ⟨58, _⟩ => ⟨S4096x1024, .f32⟩
  | .hbm, ⟨59, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== ProjKernel.lean ====
abbrev S4096x1024 : Shape := ⟨2, ![4096, 1024]⟩
abbrev S16x1024 : Shape := ⟨2, ![16, 1024]⟩
abbrev S1024 : Shape := ⟨1, ![1024]⟩
abbrev S1024x4104 : Shape := ⟨2, ![1024, 4104]⟩
abbrev S4104x1024 : Shape := ⟨2, ![4104, 1024]⟩
abbrev S1536x1024 : Shape := ⟨2, ![1536, 1024]⟩
abbrev S2560x1024 : Shape := ⟨2, ![2560, 1024]⟩
abbrev S8x1024 : Shape := ⟨2, ![8, 1024]⟩
abbrev S_ : Shape := ⟨0, ![]⟩
abbrev S4112x1024 : Shape := ⟨2, ![4112, 1024]⟩
abbrev S1x1024 : Shape := ⟨2, ![1, 1024]⟩
abbrev S8x128 : Shape := ⟨2, ![8, 128]⟩
abbrev S4224x1024 : Shape := ⟨2, ![4224, 1024]⟩
abbrev S1536x4224 : Shape := ⟨2, ![1536, 4224]⟩
abbrev S11x2560x384 : Shape := ⟨3, ![11, 2560, 384]⟩
abbrev S8x4224 : Shape := ⟨2, ![8, 4224]⟩
abbrev S8x4224x64 : Shape := ⟨3, ![8, 4224, 64]⟩
abbrev S128x1024 : Shape := ⟨2, ![128, 1024]⟩
abbrev S384x1024 : Shape := ⟨2, ![384, 1024]⟩
abbrev S1536x384 : Shape := ⟨2, ![1536, 384]⟩
abbrev S1x2560x384 : Shape := ⟨3, ![1, 2560, 384]⟩
abbrev S8x384 : Shape := ⟨2, ![8, 384]⟩
abbrev S8x384x64 : Shape := ⟨3, ![8, 384, 64]⟩
abbrev S112x1024 : Shape := ⟨2, ![112, 1024]⟩
abbrev S384 : Shape := ⟨1, ![384]⟩
abbrev S384x1 : Shape := ⟨2, ![384, 1]⟩
abbrev S512x1024 : Shape := ⟨2, ![512, 1024]⟩
abbrev S384x512 : Shape := ⟨2, ![384, 512]⟩
abbrev S512x384 : Shape := ⟨2, ![512, 384]⟩
abbrev S384x64 : Shape := ⟨2, ![384, 64]⟩
abbrev S1x384x64 : Shape := ⟨3, ![1, 384, 64]⟩
abbrev S1x512x384 : Shape := ⟨3, ![1, 512, 384]⟩
abbrev S16x384 : Shape := ⟨2, ![16, 384]⟩

abbrev nBuf : Space → Nat
  | .hbm => 21
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024x4104, .f32⟩
  | .hbm, ⟨4, _⟩ => ⟨S4104x1024, .f32⟩
  | .hbm, ⟨5, _⟩ => ⟨S1536x1024, .f32⟩
  | .hbm, ⟨6, _⟩ => ⟨S2560x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S4112x1024, .f32⟩
  | .hbm, ⟨11, _⟩ => ⟨S4112x1024, .bf16⟩
  | .hbm, ⟨12, _⟩ => ⟨S1x1024, .f32⟩
  | .hbm, ⟨13, _⟩ => ⟨S_, .f32⟩
  | .hbm, ⟨14, _⟩ => ⟨S8x128, .f32⟩
  | .hbm, ⟨15, _⟩ => ⟨S4224x1024, .bf16⟩
  | .hbm, ⟨16, _⟩ => ⟨S1536x4224, .bf16⟩
  | .hbm, ⟨17, _⟩ => ⟨S11x2560x384, .bf16⟩
  | .hbm, ⟨18, _⟩ => ⟨S8x4224, .f32⟩
  | .hbm, ⟨19, _⟩ => ⟨S8x4224x64, .bf16⟩
  | .hbm, ⟨20, _⟩ => ⟨S8x4224x64, .bf16⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S16x1024, .f32⟩
  | .local _ .vmem, ⟨7, _⟩ => ⟨S1x1024, .f32⟩
  | .local _ .vmem, ⟨8, _⟩ => ⟨S4112x1024, .bf16⟩
  | .local _ .vmem, ⟨9, _⟩ => ⟨S384x1024, .bf16⟩
  | .local _ .vmem, ⟨10, _⟩ => ⟨S384x1024, .bf16⟩
  | .local _ .vmem, ⟨11, _⟩ => ⟨S1536x384, .bf16⟩
  | .local _ .vmem, ⟨12, _⟩ => ⟨S1536x384, .bf16⟩
  | .local _ .vmem, ⟨13, _⟩ => ⟨S1x2560x384, .bf16⟩
  | .local _ .vmem, ⟨14, _⟩ => ⟨S1x2560x384, .bf16⟩
  | .local _ .vmem, ⟨15, _⟩ => ⟨S8x384, .f32⟩
  | .local _ .vmem, ⟨16, _⟩ => ⟨S8x384, .f32⟩
  | .local _ .vmem, ⟨17, _⟩ => ⟨S8x384x64, .bf16⟩
  | .local _ .vmem, ⟨18, _⟩ => ⟨S8x384x64, .bf16⟩
  | .local _ .vmem, ⟨19, _⟩ => ⟨S8x384x64, .bf16⟩
  | .local _ .vmem, ⟨20, _⟩ => ⟨S8x384x64, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev main_v9_3 : Ref sig .tc := ⟨.hbm, 18, rfl⟩
abbrev main_v9_4 : Ref sig .tc := ⟨.hbm, 19, rfl⟩
abbrev main_v9_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.muli c3_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c3_i32 : BitVec 32 := 3#32
  let v0 : BitVec 32 := Scalar.muli c3_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4112x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x384 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2560x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x384x64 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x384x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ProjKernelIdeal.lean ====
variable {F : FTy → Type} [FloatOps F] [Named F]
def κ : String → Option EReal := fun
  | "qscale" => some (((1 / 8) * (Real.log 2)⁻¹ : ℝ) : EReal)
  | _ => none
-- ==== ProjReferenceIdeal.lean ====
abbrev S4096x1024 : Shape := ⟨2, ![4096, 1024]⟩
abbrev S16x1024 : Shape := ⟨2, ![16, 1024]⟩
abbrev S1024 : Shape := ⟨1, ![1024]⟩
abbrev S1024x4104 : Shape := ⟨2, ![1024, 4104]⟩
abbrev S4112x1024 : Shape := ⟨2, ![4112, 1024]⟩
abbrev S_ : Shape := ⟨0, ![]⟩
abbrev S4112 : Shape := ⟨1, ![4112]⟩
abbrev S4112x1 : Shape := ⟨2, ![4112, 1]⟩
abbrev S1x1024 : Shape := ⟨2, ![1, 1024]⟩
abbrev S4112x4104 : Shape := ⟨2, ![4112, 4104]⟩
abbrev S4112x512 : Shape := ⟨2, ![4112, 512]⟩
abbrev S4112x8 : Shape := ⟨2, ![4112, 8]⟩
abbrev S4112x2560 : Shape := ⟨2, ![4112, 2560]⟩
abbrev S4224x512 : Shape := ⟨2, ![4224, 512]⟩
abbrev S512x4224 : Shape := ⟨2, ![512, 4224]⟩
abbrev S1536x4224 : Shape := ⟨2, ![1536, 4224]⟩
abbrev S4224x2560 : Shape := ⟨2, ![4224, 2560]⟩
abbrev S11x384x2560 : Shape := ⟨3, ![11, 384, 2560]⟩
abbrev S11x2560x384 : Shape := ⟨3, ![11, 2560, 384]⟩
abbrev S4224x1024 : Shape := ⟨2, ![4224, 1024]⟩
abbrev S4224x8 : Shape := ⟨2, ![4224, 8]⟩
abbrev S8x4224 : Shape := ⟨2, ![8, 4224]⟩
abbrev S4224x8x64 : Shape := ⟨3, ![4224, 8, 64]⟩
abbrev S8x4224x64 : Shape := ⟨3, ![8, 4224, 64]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S16x1024, .f32⟩
  | .hbm, ⟨2, _⟩ => ⟨S1024, .f32⟩
  | .hbm, ⟨3, _⟩ => ⟨S1024x4104, .f32⟩
  | .hbm, ⟨4, _⟩ => ⟨S4112x1024, .f32⟩
  | .hbm, ⟨5, _⟩ => ⟨S4112x1024, .f32⟩
  | .hbm, ⟨6, _⟩ => ⟨S_, .f32⟩
  | .hbm, ⟨7, _⟩ => ⟨S4112, .f32⟩
  | .hbm, ⟨8, _⟩ => ⟨S4112x1, .f32⟩
  | .hbm, ⟨9, _⟩ => ⟨S_, .f32⟩
  | .hbm, ⟨10, _⟩ => ⟨S4112x1, .f32⟩
  | .hbm, ⟨11, _⟩ => ⟨S4112x1, .f32⟩
  | .hbm, ⟨12, _⟩ => ⟨S_, .f32⟩
  | .hbm, ⟨13, _⟩ => ⟨S4112x1, .f32⟩
  | .hbm, ⟨14, _⟩ => ⟨S4112x1, .f32⟩
  | .hbm, ⟨15, _⟩ => ⟨S4112x1, .f32⟩
  | .hbm, ⟨16, _⟩ => ⟨S4112x1024, .f32⟩
  | .hbm, ⟨17, _⟩ => ⟨S4112x1024, .f32⟩
  | .hbm, ⟨18, _⟩ => ⟨S1x1024, .f32⟩
  | .hbm, ⟨19, _⟩ => ⟨S4112x1024, .f32⟩
  | .hbm, ⟨20, _⟩ => ⟨S4112x1024, .f32⟩
  | .hbm, ⟨21, _⟩ => ⟨S4112x4104, .f32⟩
  | .hbm, ⟨22, _⟩ => ⟨S4112x512, .f32⟩
  | .hbm, ⟨23, _⟩ => ⟨S4112x512, .f32⟩
  | .hbm, ⟨24, _⟩ => ⟨S4112x512, .f32⟩
  | .hbm, ⟨25, _⟩ => ⟨S4112x8, .f32⟩
  | .hbm, ⟨26, _⟩ => ⟨S4112x2560, .f32⟩
  | .hbm, ⟨27, _⟩ => ⟨S_, .f32⟩
  | .hbm, ⟨28, _⟩ => ⟨S4112x512, .f32⟩
  | .hbm, ⟨29, _⟩ => ⟨S4112x512, .f32⟩
  | .hbm, ⟨30, _⟩ => ⟨S_, .f32⟩
  | .hbm, ⟨31, _⟩ => ⟨S_, .f32⟩
  | .hbm, ⟨32, _⟩ => ⟨S4112x512, .f32⟩
  | .hbm, ⟨33, _⟩ => ⟨S4112x512, .f32⟩
  | .hbm, ⟨34, _⟩ => ⟨S_, .i32⟩
  | .hbm, ⟨35, _⟩ => ⟨S_, .f32⟩
  | .hbm, ⟨36, _⟩ => ⟨S4224x512, .f32⟩
  | .hbm, ⟨37, _⟩ => ⟨S512x4224, .f32⟩
  | .hbm, ⟨38, _⟩ => ⟨S_, .i32⟩
  | .hbm, ⟨39, _⟩ => ⟨S_, .f32⟩
  | .hbm, ⟨40, _⟩ => ⟨S4224x512, .f32⟩
  | .hbm, ⟨41, _⟩ => ⟨S512x4224, .f32⟩
  | .hbm, ⟨42, _⟩ => ⟨S_, .i32⟩
  | .hbm, ⟨43, _⟩ => ⟨S_, .f32⟩
  | .hbm, ⟨44, _⟩ => ⟨S4224x512, .f32⟩
  | .hbm, ⟨45, _⟩ => ⟨S512x4224, .f32⟩
  | .hbm, ⟨46, _⟩ => ⟨S1536x4224, .f32⟩
  | .hbm, ⟨47, _⟩ => ⟨S_, .i32⟩
  | .hbm, ⟨48, _⟩ => ⟨S_, .f32⟩
  | .hbm, ⟨49, _⟩ => ⟨S4224x2560, .f32⟩
  | .hbm, ⟨50, _⟩ => ⟨S11x384x2560, .f32⟩
  | .hbm, ⟨51, _⟩ => ⟨S11x2560x384, .f32⟩
  | .hbm, ⟨52, _⟩ => ⟨S_, .i32⟩
  | .hbm, ⟨53, _⟩ => ⟨S_, .f32⟩
  | .hbm, ⟨54, _⟩ => ⟨S4224x1024, .f32⟩
  | .hbm, ⟨55, _⟩ => ⟨S4224x1024, .bf16⟩
  | .hbm, ⟨56, _⟩ => ⟨S1536x4224, .bf16⟩
  | .hbm, ⟨57, _⟩ => ⟨S11x2560x384, .bf16⟩
  | .hbm, ⟨58, _⟩ => ⟨S_, .i32⟩
  | .hbm, ⟨59, _⟩ => ⟨S_, .f32⟩
  | .hbm, ⟨60, _⟩ => ⟨S4224x8, .f32⟩
  | .hbm, ⟨61, _⟩ => ⟨S8x4224, .f32⟩
  | .hbm, ⟨62, _⟩ => ⟨S_, .i32⟩
  | .hbm, ⟨63, _⟩ => ⟨S_, .f32⟩
  | .hbm, ⟨64, _⟩ => ⟨S4224x512, .f32⟩
  | .hbm, ⟨65, _⟩ => ⟨S4224x8x64, .f32⟩
  | .hbm, ⟨66, _⟩ => ⟨S8x4224x64, .f32⟩
  | .hbm, ⟨67, _⟩ => ⟨S8x4224x64, .bf16⟩
  | .hbm, ⟨68, _⟩ => ⟨S_, .i32⟩
  | .hbm, ⟨69, _⟩ => ⟨S_, .f32⟩
  | .hbm, ⟨70, _⟩ => ⟨S4224x512, .f32⟩
  | .hbm, ⟨71, _⟩ => ⟨S4224x8x64, .f32⟩
  | .hbm, ⟨72, _⟩ => ⟨S8x4224x64, .f32⟩
  | .hbm, ⟨73, _⟩ => ⟨S8x4224x64, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c : Ref sig .tc := ⟨.hbm, 34, rfl⟩
abbrev main_call0_v0 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_call1_v0 : Ref sig .tc := ⟨.hbm, 39, rfl⟩
abbrev main_v27 : Ref sig .tc := ⟨.hbm, 40, rfl⟩
abbrev main_v28 : Ref sig .tc := ⟨.hbm, 41, rfl⟩
abbrev main_c_5 : Ref sig .tc := ⟨.hbm, 42, rfl⟩
abbrev main_call2_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_call3_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_call4_v0 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_8 : Ref sig .tc := ⟨.hbm, 58, rfl⟩
abbrev main_call5_v0 : Ref sig .tc := ⟨.hbm, 59, rfl⟩
abbrev main_v39 : Ref sig .tc := ⟨.hbm, 60, rfl⟩
abbrev main_v40 : Ref sig .tc := ⟨.hbm, 61, rfl⟩
abbrev main_c_9 : Ref sig .tc := ⟨.hbm, 62, rfl⟩
abbrev main_call6_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c_10 : Ref sig .tc := ⟨.hbm, 68, rfl⟩
abbrev main_call7_v0 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== OptKernel.lean ====
abbrev S4x528x1024 : Shape := ⟨3, ![4, 528, 1024]⟩
abbrev S8x128x1024 : Shape := ⟨3, ![8, 128, 1024]⟩
abbrev S1x1024x513 : Shape := ⟨3, ![1, 1024, 513]⟩
abbrev S1x128x1024 : Shape := ⟨3, ![1, 128, 1024]⟩
abbrev S1024x513 : Shape := ⟨2, ![1024, 513]⟩
abbrev S513x1024 : Shape := ⟨2, ![513, 1024]⟩
abbrev S4x528x256 : Shape := ⟨3, ![4, 528, 256]⟩
abbrev S8x128x256 : Shape := ⟨3, ![8, 128, 256]⟩
abbrev S513x256 : Shape := ⟨2, ![513, 256]⟩
abbrev S1x128x256 : Shape := ⟨3, ![1, 128, 256]⟩
abbrev S1x528x256 : Shape := ⟨3, ![1, 528, 256]⟩
abbrev S528x256 : Shape := ⟨2, ![528, 256]⟩
abbrev S128x256 : Shape := ⟨2, ![128, 256]⟩

abbrev nBuf : Space → Nat
  | .hbm => 24
  | .vmem => 36
  | .smem => 0
  | _ => 0

abbrev bufTy : (tb : Table) → Fin (tcTables nBuf tb) → BufTy
  | .hbm, ⟨0, _⟩ => ⟨S4x528x1024, .bf16⟩
  | .hbm, ⟨1, _⟩ => ⟨S4x528x1024, .bf16⟩
  | .hbm, ⟨2, _⟩ => ⟨S8x128x1024, .bf16⟩
  | .hbm, ⟨3, _⟩ => ⟨S8x128x1024, .bf16⟩
  | .hbm, ⟨4, _⟩ => ⟨S1x1024x513, .f32⟩
  | .hbm, ⟨5, _⟩ => ⟨S1x1024x513, .f32⟩
  | .hbm, ⟨6, _⟩ => ⟨S1x1024x513, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1024x513, .f32⟩
  | .hbm, ⟨11, _⟩ => ⟨S513x1024, .f32⟩
  | .hbm, ⟨12, _⟩ => ⟨S1024x513, .f32⟩
  | .hbm, ⟨13, _⟩ => ⟨S513x1024, .f32⟩
  | .hbm, ⟨14, _⟩ => ⟨S1024x513, .f32⟩
  | .hbm, ⟨15, _⟩ => ⟨S513x1024, .f32⟩
  | .hbm, ⟨16, _⟩ => ⟨S513x1024, .f32⟩
  | .hbm, ⟨17, _⟩ => ⟨S513x1024, .f32⟩
  | .hbm, ⟨18, _⟩ => ⟨S513x1024, .f32⟩
  | .hbm, ⟨19, _⟩ => ⟨S513x1024, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S1x128x1024, .f32⟩
  | .local _ .vmem, ⟨0, _⟩ => ⟨S4x528x256, .bf16⟩
  | .local _ .vmem, ⟨1, _⟩ => ⟨S4x528x256, .bf16⟩
  | .local _ .vmem, ⟨2, _⟩ => ⟨S4x528x256, .bf16⟩
  | .local _ .vmem, ⟨3, _⟩ => ⟨S4x528x256, .bf16⟩
  | .local _ .vmem, ⟨4, _⟩ => ⟨S8x128x256, .bf16⟩
  | .local _ .vmem, ⟨5, _⟩ => ⟨S8x128x256, .bf16⟩
  | .local _ .vmem, ⟨6, _⟩ => ⟨S8x128x256, .bf16⟩
  | .local _ .vmem, ⟨7, _⟩ => ⟨S8x128x256, .bf16⟩
  | .local _ .vmem, ⟨8, _⟩ => ⟨S513x256, .f32⟩
  | .local _ .vmem, ⟨9, _⟩ => ⟨S513x256, .f32⟩
  | .local _ .vmem, ⟨10, _⟩ => ⟨S513x256, .f32⟩
  | .local _ .vmem, ⟨11, _⟩ => ⟨S513x256, .f32⟩
  | .local _ .vmem, ⟨12, _⟩ => ⟨S513x256, .f32⟩
  | .local _ .vmem, ⟨13, _⟩ => ⟨S513x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x128x256, .f32⟩
  | .local _ .vmem, ⟨19, _⟩ => ⟨S1x128x256, .f32⟩
  | .local _ .vmem, ⟨20, _⟩ => ⟨S513x256, .f32⟩
  | .local _ .vmem, ⟨21, _⟩ => ⟨S513x256, .f32⟩
  | .local _ .vmem, ⟨22, _⟩ => ⟨S513x256, .f32⟩
  | .local _ .vmem, ⟨23, _⟩ => ⟨S513x256, .f32⟩
  | .local _ .vmem, ⟨24, _⟩ => ⟨S513x256, .f32⟩
  | .local _ .vmem, ⟨25, _⟩ => ⟨S513x256, .f32⟩
  | .local _ .vmem, ⟨26, _⟩ => ⟨S513x256, .f32⟩
  | .local _ .vmem, ⟨27, _⟩ => ⟨S513x256, .f32⟩
  | .local _ .vmem, ⟨28, _⟩ => ⟨S1x128x256, .f32⟩
  | .local _ .vmem, ⟨29, _⟩ => ⟨S1x128x256, .f32⟩
  | .local _ .vmem, ⟨30, _⟩ => ⟨S1x128x256, .f32⟩
  | .local _ .vmem, ⟨31, _⟩ => ⟨S1x128x256, .f32⟩
  | .local _ .vmem, ⟨32, _⟩ => ⟨S1x128x256, .f32⟩
  | .local _ .vmem, ⟨33, _⟩ => ⟨S1x128x256, .f32⟩
  | .local _ .vmem, ⟨34, _⟩ => ⟨S1x128x256, .f32⟩
  | .local _ .vmem, ⟨35, _⟩ => ⟨S1x128x256, .f32⟩
  | _, _ => ⟨S4x528x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S4x528x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x528x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S513x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S513x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S513x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S513x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S513x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S513x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S513x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== OptReferenceIdeal.lean ====
abbrev S4x528x1024 : Shape := ⟨3, ![4, 528, 1024]⟩
abbrev S8x128x1024 : Shape := ⟨3, ![8, 128, 1024]⟩
abbrev S1x1024x513 : Shape := ⟨3, ![1, 1024, 513]⟩
abbrev S1x128x1024 : Shape := ⟨3, ![1, 128, 1024]⟩
abbrev S1x528x1024 : Shape := ⟨3, ![1, 528, 1024]⟩
abbrev S528x1024 : Shape := ⟨2, ![528, 1024]⟩
abbrev S3x528x1024 : Shape := ⟨3, ![3, 528, 1024]⟩
abbrev S_ : Shape := ⟨0, ![]⟩
abbrev S513x1024 : Shape := ⟨2, ![513, 1024]⟩
abbrev S128x1024 : Shape := ⟨2, ![128, 1024]⟩
abbrev S7x128x1024 : Shape := ⟨3, ![7, 128, 1024]⟩
abbrev S1024x513 : Shape := ⟨2, ![1024, 513]⟩

abbrev nBuf : Space → Nat
  | .hbm => 106
  | .vmem => 0
  | .smem => 0
  | _ => 0

abbrev bufTy : (tb : Table) → Fin (tcTables nBuf tb) → BufTy
  | .hbm, ⟨0, _⟩ => ⟨S4x528x1024, .bf16⟩
  | .hbm, ⟨1, _⟩ => ⟨S4x528x1024, .bf16⟩
  | .hbm, ⟨2, _⟩ => ⟨S8x128x1024, .bf16⟩
  | .hbm, ⟨3, _⟩ => ⟨S8x128x1024, .bf16⟩
  | .hbm, ⟨4, _⟩ => ⟨S1x1024x513, .f32⟩
  | .hbm, ⟨5, _⟩ => ⟨S1x1024x513, .f32⟩
  | .hbm, ⟨6, _⟩ => ⟨S1x1024x513, .f32⟩
  | .hbm, ⟨7, _⟩ => ⟨S1x128x1024, .f32⟩
  | .hbm, ⟨8, _⟩ => ⟨S1x128x1024, .f32⟩
  | .hbm, ⟨9, _⟩ => ⟨S1x128x1024, .f32⟩
  | .hbm, ⟨10, _⟩ => ⟨S1x528x1024, .bf16⟩
  | .hbm, ⟨11, _⟩ => ⟨S528x1024, .bf16⟩
  | .hbm, ⟨12, _⟩ => ⟨S528x1024, .f32⟩
  | .hbm, ⟨13, _⟩ => ⟨S3x528x1024, .bf16⟩
  | .hbm, ⟨14, _⟩ => ⟨S3x528x1024, .f32⟩
  | .hbm, ⟨15, _⟩ => ⟨S_, .f32⟩
  | .hbm, ⟨16, _⟩ => ⟨S528x1024, .f32⟩
  | .hbm, ⟨17, _⟩ => ⟨S528x1024, .f32⟩
  | .hbm, ⟨18, _⟩ => ⟨S513x1024, .f32⟩
  | .hbm, ⟨19, _⟩ => ⟨S1x128x1024, .bf16⟩
  | .hbm, ⟨20, _⟩ => ⟨S128x1024, .bf16⟩
  | .hbm, ⟨21, _⟩ => ⟨S128x1024, .f32⟩
  | .hbm, ⟨22, _⟩ => ⟨S7x128x1024, .bf16⟩
  | .hbm, ⟨23, _⟩ => ⟨S7x128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S1024x513, .f32⟩
  | .hbm, ⟨28, _⟩ => ⟨S513x1024, .f32⟩
  | .hbm, ⟨29, _⟩ => ⟨S1024x513, .f32⟩
  | .hbm, ⟨30, _⟩ => ⟨S513x1024, .f32⟩
  | .hbm, ⟨31, _⟩ => ⟨S1024x513, .f32⟩
  | .hbm, ⟨32, _⟩ => ⟨S513x1024, .f32⟩
  | .hbm, ⟨33, _⟩ => ⟨S_, .f32⟩
  | .hbm, ⟨34, _⟩ => ⟨S513x1024, .f32⟩
  | .hbm, ⟨35, _⟩ => ⟨S513x1024, .f32⟩
  | .hbm, ⟨36, _⟩ => ⟨S_, .f32⟩
  | .hbm, ⟨37, _⟩ => ⟨S513x1024, .f32⟩
  | .hbm, ⟨38, _⟩ => ⟨S513x1024, .f32⟩
  | .hbm, ⟨39, _⟩ => ⟨S513x1024, .f32⟩
  | .hbm, ⟨40, _⟩ => ⟨S_, .f32⟩
  | .hbm, ⟨41, _⟩ => ⟨S513x1024, .f32⟩
  | .hbm, ⟨42, _⟩ => ⟨S513x1024, .f32⟩
  | .hbm, ⟨43, _⟩ => ⟨S513x1024, .f32⟩
  | .hbm, ⟨44, _⟩ => ⟨S_, .f32⟩
  | .hbm, ⟨45, _⟩ => ⟨S513x1024, .f32⟩
  | .hbm, ⟨46, _⟩ => ⟨S513x1024, .f32⟩
  | .hbm, ⟨47, _⟩ => ⟨S513x1024, .f32⟩
  | .hbm, ⟨48, _⟩ => ⟨S_, .f32⟩
  | .hbm, ⟨49, _⟩ => ⟨S513x1024, .f32⟩
  | .hbm, ⟨50, _⟩ => ⟨S513x1024, .f32⟩
  | .hbm, ⟨51, _⟩ => ⟨S_, .f32⟩
  | .hbm, ⟨52, _⟩ => ⟨S513x1024, .f32⟩
  | .hbm, ⟨53, _⟩ => ⟨S513x1024, .f32⟩
  | .hbm, ⟨54, _⟩ => ⟨S513x1024, .f32⟩
  | .hbm, ⟨55, _⟩ => ⟨S_, .f32⟩
  | .hbm, ⟨56, _⟩ => ⟨S513x1024, .f32⟩
  | .hbm, ⟨57, _⟩ => ⟨S513x1024, .f32⟩
  | .hbm, ⟨58, _⟩ => ⟨S513x1024, .f32⟩
  | .hbm, ⟨59, _⟩ => ⟨S_, .f32⟩
  | .hbm, ⟨60, _⟩ => ⟨S513x1024, .f32⟩
  | .hbm, ⟨61, _⟩ => ⟨S513x1024, .f32⟩
  | .hbm, ⟨62, _⟩ => ⟨S513x1024, .f32⟩
  | .hbm, ⟨63, _⟩ => ⟨S_, .f32⟩
  | .hbm, ⟨64, _⟩ => ⟨S513x1024, .f32⟩
  | .hbm, ⟨65, _⟩ => ⟨S513x1024, .f32⟩
  | .hbm, ⟨66, _⟩ => ⟨S128x1024, .f32⟩
  | .hbm, ⟨67, _⟩ => ⟨S128x1024, .f32⟩
  | .hbm, ⟨68, _⟩ => ⟨S128x1024, .f32⟩
  | .hbm, ⟨69, _⟩ => ⟨S_, .f32⟩
  | .hbm, ⟨70, _⟩ => ⟨S128x1024, .f32⟩
  | .hbm, ⟨71, _⟩ => ⟨S128x1024, .f32⟩
  | .hbm, ⟨72, _⟩ => ⟨S_, .f32⟩
  | .hbm, ⟨73, _⟩ => ⟨S128x1024, .f32⟩
  | .hbm, ⟨74, _⟩ => ⟨S128x1024, .f32⟩
  | .hbm, ⟨75, _⟩ => ⟨S128x1024, .f32⟩
  | .hbm, ⟨76, _⟩ => ⟨S_, .f32⟩
  | .hbm, ⟨77, _⟩ => ⟨S128x1024, .f32⟩
  | .hbm, ⟨78, _⟩ => ⟨S128x1024, .f32⟩
  | .hbm, ⟨79, _⟩ => ⟨S128x1024, .f32⟩
  | .hbm, ⟨80, _⟩ => ⟨S_, .f32⟩
  | .hbm, ⟨81, _⟩ => ⟨S128x1024, .f32⟩
  | .hbm, ⟨82, _⟩ => ⟨S128x1024, .f32⟩
  | .hbm, ⟨83, _⟩ => ⟨S128x1024, .f32⟩
  | .hbm, ⟨84, _⟩ => ⟨S_, .f32⟩
  | .hbm, ⟨85, _⟩ => ⟨S128x1024, .f32⟩
  | .hbm, ⟨86, _⟩ => ⟨S128x1024, .f32⟩
  | .hbm, ⟨87, _⟩ => ⟨S_, .f32⟩
  | .hbm, ⟨88, _⟩ => ⟨S128x1024, .f32⟩
  | .hbm, ⟨89, _⟩ => ⟨S128x1024, .f32⟩
  | .hbm, ⟨90, _⟩ => ⟨S128x1024, .f32⟩
  | .hbm, ⟨91, _⟩ => ⟨S_, .f32⟩
  | .hbm, ⟨92, _⟩ => ⟨S128x1024, .f32⟩
  | .hbm, ⟨93, _⟩ => ⟨S128x1024, .f32⟩
  | .hbm, ⟨94, _⟩ => ⟨S128x1024, .f32⟩
  | .hbm, ⟨95, _⟩ => ⟨S_, .f32⟩
  | .hbm, ⟨96, _⟩ => ⟨S128x1024, .f32⟩
  | .hbm, ⟨97, _⟩ => ⟨S128x1024, .f32⟩
  | .hbm, ⟨98, _⟩ => ⟨S128x1024, .f32⟩
  | .hbm, ⟨99, _⟩ => ⟨S_, .f32⟩
  | .hbm, ⟨100, _⟩ => ⟨S128x1024, .f32⟩
  | .hbm, ⟨101, _⟩ => ⟨S128x1024, .f32⟩
  | .hbm, ⟨102, _⟩ => ⟨S1x128x1024, .f32⟩
  | .hbm, ⟨103, _⟩ => ⟨S1x128x1024, .f32⟩
  | .hbm, ⟨104, _⟩ => ⟨S1x128x1024, .f32⟩
  | .hbm, ⟨105, _⟩ => ⟨S1x128x1024, .f32⟩
  | _, _ => ⟨S4x528x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_13 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_14 : Ref sig .tc := ⟨.hbm, 84, rfl⟩
abbrev main_v59 : Ref sig .tc := ⟨.hbm, 85, rfl⟩
abbrev main_v60 : Ref sig .tc := ⟨.hbm, 86, rfl⟩
abbrev main_cst_15 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_16 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_17 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_18 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩

abbrev nD : Nat := 1
abbrev τ : Topo := Topo.v7x

variable {F : FTy → Type} [FloatOps F]
-- ==== Proof.RunningSum.lean ====
/-
  Running sums over the extended reals: what a doubling loop of lane rotations computes, what the host's cumulative sum
  from the end computes, and the logistic factor of a log-sigmoid's derivative. Facts of no particular program.
-/
module

public import Idealize.ShloMosaic.Lib.Pointwise
public import Idealize.ShloMosaic.Lib.Routing.OpsOne

@[expose] public section

noncomputable section

namespace Cert.RunningSum

open Idealize.ShloMosaic Idealize.ShloMosaic.WordCmp

/-! ## A sequence continued by zeros -/

/-- `f`, continued by zero past `n`. -/
def ext {n : ℕ} (f : Fin n → EReal) (i : ℕ) : EReal := if h : i < n then f ⟨i, h⟩ else 0

theorem ext_of_lt {n : ℕ} (f : Fin n → EReal) {i : ℕ} (h : i < n) : ext f i = f ⟨i, h⟩ := dif_pos h

theorem ext_of_le {n : ℕ} (f : Fin n → EReal) {i : ℕ} (h : n ≤ i) : ext f i = 0 := dif_neg (by omega)

/-- The sum of `k` consecutive terms from `i` on. -/
def run {n : ℕ} (f : Fin n → EReal) (k i : ℕ) : EReal := ∑ j ∈ Finset.range k, ext f (i + j)

theorem run_one {n : ℕ} (f : Fin n → EReal) (i : Fin n) : run f 1 i = f i := by
  simp [run, ext]

theorem run_zero_of_le {n : ℕ} (f : Fin n → EReal) (k : ℕ) {i : ℕ} (h : n ≤ i) : run f k i = 0 :=
  Finset.sum_eq_zero fun j _ => ext_of_le f (by omega)

/-- Twice as many terms: `k` from `i` on, then `k` from `i + k` on. -/
theorem run_double {n : ℕ} (f : Fin n → EReal) (k i : ℕ) : run f (k + k) i = run f k i + run f k (i + k) := by
  unfold run
  rw [Finset.sum_range_add]
  simp only [Nat.add_assoc]

/-- Past the end there is nothing more to add. -/
theorem run_eq_of_le {n : ℕ} (f : Fin n → EReal) {k k' i : ℕ} (h : n ≤ i + k) (hk : k ≤ k') : run f k' i = run f k i := by
  unfold run
  symm
  refine Finset.sum_subset (Finset.range_mono hk) fun j _ hj => ext_of_le f ?_
  rw [Finset.mem_range] at hj
  omega

/-- The terms before `a` left out. -/
theorem sum_from (g : ℕ → EReal) (a d n : ℕ) (hn : n = a + d) :
    ∑ q ∈ Finset.range n, (if a ≤ q then g q else 0) = ∑ q ∈ Finset.range d, g (a + q) := by
  subst hn
  rw [Finset.sum_range_add, Finset.sum_eq_zero (s := Finset.range a) fun q hq => if_neg (by rw [Finset.mem_range] at hq; omega), zero_add]
  exact Finset.sum_congr rfl fun q _ => if_pos (Nat.le_add_right ..)

/-- The sum to the end, written over the positions at or after `i`. -/
theorem run_eq_sum {n : ℕ} (f : Fin n → EReal) (i : Fin n) : run f n i = ∑ j : Fin n, if i ≤ j then f j else 0 := by
  have e : ∀ j : Fin n, (if i ≤ j then f j else 0) = (fun q : ℕ => if i.val ≤ q then ext f q else 0) j.val := fun j => by
    show _ = if i.val ≤ j.val then ext f j.val else 0
    rw [ext_of_lt f j.isLt]
    rfl
  rw [Finset.sum_congr rfl fun j _ => e j, Fin.sum_univ_eq_sum_range (fun q : ℕ => if i.val ≤ q then ext f q else 0) n]
  have hi := i.isLt
  rw [run_eq_of_le f (k := n - i.val) (k' := n) (by omega) (by omega)]
  exact (sum_from (ext f) i.val (n - i.val) n (by omega)).symm

/-! ## The doubling step -/

/-- A row of 4224 lanes. -/
abbrev Rows : Shape := ⟨2, ![8, 4224]⟩

/-- One doubling step: the row plus itself moved `s` lanes to the left, with zeros entering at the end. -/
theorem step_apply (X : FVec Ideal Rows .f32) (s : ℕ) (hs : s ≤ 4096) (hs0 : 0 < s) (hr : Rows.Rotates 1 none) (hi : Rows.Iotas .tc 32 [1]) (h : Fin 8) (l : Fin 4224) :
    addf X (select (cmpi .slt (addi (iota .tc Rows 32 [1] hi) (broadcast Rows (BitVec.ofNat 32 s))) (broadcast Rows 4224#32))
      (dynamicRotate 1 (BitVec.ofNat 32 (4224 - s)) none X hr) (broadcast Rows (Scalar.ofBits .f32 0x00000000#32))) (ix2 h l)
    = X (ix2 h l) + ext (fun j => X (ix2 h j)) (l + s) := by
  pointwise
  congr 1
  rw [addi_ofNat]
  by_cases hl : l.val + s < 4224
  · rw [select_of_eq_one ((cmpi_slt_ofNat_eq_one_iff (by omega) (by decide)).2 hl), ext_of_lt _ hl, BitVec.toNat_ofNat]
    congr 2
    apply Fin.ext
    dsimp only
    omega
  · rw [select_of_eq_zero ((cmpi_slt_ofNat_eq_zero_iff (by omega) (by decide)).2 hl), ext_of_le _ (by omega)]

/-- A doubling step doubles the number of terms that each lane holds. -/
theorem step_run (X : FVec Ideal Rows .f32) (f : Fin 8 → Fin 4224 → EReal) (s : ℕ) (hs : s ≤ 4096) (hs0 : 0 < s)
    (hX : ∀ h l, X (ix2 h l) = run (f h) s l.val) (hr : Rows.Rotates 1 none) (hi : Rows.Iotas .tc 32 [1]) (h : Fin 8) (l : Fin 4224) :
    addf X (select (cmpi .slt (addi (iota .tc Rows 32 [1] hi) (broadcast Rows (BitVec.ofNat 32 s))) (broadcast Rows 4224#32))
      (dynamicRotate 1 (BitVec.ofNat 32 (4224 - s)) none X hr) (broadcast Rows (Scalar.ofBits .f32 0x00000000#32))) (ix2 h l)
    = run (f h) (s + s) l.val := by
  rw [step_apply X s hs hs0 hr hi h l, run_double, hX]
  congr 1
  by_cases hl : l.val + s < 4224
  · rw [ext_of_lt _ hl, hX]
  · rw [ext_of_le _ (by omega), run_zero_of_le _ _ (by omega)]

/-! ## The host's cumulative sum from the end -/

/-- A left fold that adds is the starting value plus the sum. -/
theorem foldl_add {α : Type} (L : List α) (g : α → EReal) (v : EReal) : L.foldl (fun r a => r + g a) v = v + (L.map g).sum := by
  induction L generalizing v with
  | nil => simp
  | cons a L ih => rw [List.foldl_cons, ih, List.map_cons, List.sum_cons, add_assoc]

/-- The cumulative sum of every column from its end: a window of the whole height, padded behind by one less. -/
theorem sum_to_end {R Rm1 C : ℕ} (hR : Rm1 + 1 = R) (x : FVec Ideal ⟨2, ![R, C]⟩ .f32) (init : FVec Ideal ⟨0, ![]⟩ .f32)
    (hinit : init ix0 = 0)
    (h : (⟨2, ![R, C]⟩ : Shape).ReduceWindows (![R, 1] : Fin 2 → ℕ) ![1, 1] ![0, 0] ![Rm1, 0] ⟨2, ![R, C]⟩)
    (hu : 0 < (⟨0, ![]⟩ : Shape).numel) (j : Fin R) (c : Fin C) :
    Host.reduceWindowAdd ![R, 1] ![1, 1] ![0, 0] ![Rm1, 0] x init h hu (ix2 j c) = run (fun i => x (ix2 i c)) R j.val := by
  subst hR
  have hv : init (Shape.Idx.first hu) = 0 := (congrArg init (funext fun a => a.elim0)).trans hinit
  show Host.reduceWindow (· + ·) ![Rm1 + 1, 1] ![1, 1] ![0, 0] ![Rm1, 0] x (fun _ : (⟨0, ![]⟩ : Shape).Idx => init (Shape.Idx.first hu)) h hu (ix2 j c) = _
  unfold Host.reduceWindow
  dsimp only
  rw [foldl_add, hv, zero_add, ← Fin.sum_univ_def]
  unfold run
  rw [← Fin.sum_univ_eq_sum_range (fun q => ext (fun i => x (ix2 i c)) (j.val + q)) (Rm1 + 1),
    ← Equiv.sum_comp (finCongr (Routing.numel_col (Rm1 + 1)))]
  refine Finset.sum_congr rfl fun n _ => ?_
  have hw0 : ((Routing.shape2 (Rm1 + 1) 1).rowMajor.symm n 0).val = n.val := by rw [Routing.symm_col]; rfl
  have hw1 : ((Routing.shape2 (Rm1 + 1) 1).rowMajor.symm n 1).val = 0 := by rw [Routing.symm_col]; rfl
  have hn : n.val < Rm1 + 1 := (n.cast (Routing.numel_col _)).isLt
  have hc := c.isLt
  show _ = ext (fun i => x (ix2 i c)) (j.val + n.val)
  split
  · next hin =>
    have h0 := hin 0
    change 0 ≤ j.val * 1 + ((Routing.shape2 (Rm1 + 1) 1).rowMajor.symm n 0).val
      ∧ j.val * 1 + ((Routing.shape2 (Rm1 + 1) 1).rowMajor.symm n 0).val - 0 < Rm1 + 1 at h0
    rw [hw0] at h0
    rw [ext_of_lt _ (by omega)]
    refine congrArg x (funext fun a => Fin.ext ?_)
    match a with
    | ⟨0, _⟩ =>
      show j.val * 1 + ((Routing.shape2 (Rm1 + 1) 1).rowMajor.symm n 0).val - 0 = j.val + n.val
      rw [hw0]
      omega
    | ⟨1, _⟩ =>
      show c.val * 1 + ((Routing.shape2 (Rm1 + 1) 1).rowMajor.symm n 1).val - 0 = c.val
      rw [hw1]
      omega
  · next hin =>
    refine (ext_of_le _ ?_).symm
    by_contra hlt
    refine hin fun a => ?_
    match a with
    | ⟨0, _⟩ =>
      show 0 ≤ j.val * 1 + ((Routing.shape2 (Rm1 + 1) 1).rowMajor.symm n 0).val
        ∧ j.val * 1 + ((Routing.shape2 (Rm1 + 1) 1).rowMajor.symm n 0).val - 0 < Rm1 + 1
      rw [hw0]
      omega
    | ⟨1, _⟩ =>
      show 0 ≤ c.val * 1 + ((Routing.shape2 (Rm1 + 1) 1).rowMajor.symm n 1).val
        ∧ c.val * 1 + ((Routing.shape2 (Rm1 + 1) 1).rowMajor.symm n 1).val - 0 < C
      rw [hw1]
      omega

/-! ## The derivative of a log-sigmoid -/

theorem log_coe {r : ℝ} (h : 0 < r) : Ideal.log (r : EReal) = ((Real.log r : ℝ) : EReal) := by
  show (if r ≤ 0 then (⊥ : EReal) else _) = _
  rw [if_neg (not_le.2 h)]

/-- The factor that the derivative of `log_sigmoid` multiplies by, as the derivative of `logaddexp (-z) 0` spells it: the exponential of
    `-z` less `softplus (-z)`, an infinite one replaced by zero; it is `1 / (1 + exp z)`. -/
theorem logSigmoid_factor (z : EReal) :
    Ideal.exp ((if -z = ⊤ then 0 else -z)
      - (if max (-z) 0 + Ideal.log1p (Ideal.exp (-(max (-z) (- -z)))) = ⊤ then 0
         else max (-z) 0 + Ideal.log1p (Ideal.exp (-(max (-z) (- -z)))))) = Ideal.div 1 (1 + Ideal.exp z) := by
  induction z with
  | bot =>
    have h1 : Ideal.exp (⊥ : EReal) = 0 := rfl
    have h2 : Ideal.log1p 0 = 0 := by
      unfold Ideal.log1p
      rw [add_zero]
      exact (log_coe one_pos).trans (by rw [Real.log_one, EReal.coe_zero])
    have h3 : Ideal.exp (0 : EReal) = 1 := by
      show ((Real.exp 0 : ℝ) : EReal) = 1
      simp
    simp [h1, h2, h3, Ideal.div]
  | top =>
    have h1 : Ideal.exp (⊥ : EReal) = 0 := rfl
    have h2 : Ideal.log1p 0 = 0 := by
      unfold Ideal.log1p
      rw [add_zero]
      exact (log_coe one_pos).trans (by rw [Real.log_one, EReal.coe_zero])
    have h3 : Ideal.exp (⊤ : EReal) = ⊤ := rfl
    have h4 : (1 : EReal) + ⊤ = ⊤ := EReal.add_top_of_ne_bot (EReal.coe_ne_bot 1)
    simp [h1, h2, h3, h4, Ideal.div]
  | coe r =>
    have hab : max (-(r : EReal)) (- -(r : EReal)) = ((|r| : ℝ) : EReal) := by
      rw [← EReal.coe_neg, ← EReal.coe_neg, neg_neg, ← EReal.coe_strictMono.monotone.map_max, max_comm, abs_eq_max_neg]
    have hmx : max (-(r : EReal)) 0 = ((max (-r) 0 : ℝ) : EReal) := by
      rw [← EReal.coe_neg, ← EReal.coe_zero, ← EReal.coe_strictMono.monotone.map_max]
    have hex : ∀ y : ℝ, Ideal.exp (y : EReal) = ((Real.exp y : ℝ) : EReal) := fun _ => rfl
    have hpos : 0 < 1 + Real.exp (-|r|) := by positivity
    have hl : Ideal.log1p ((Real.exp (-|r|) : ℝ) : EReal) = ((Real.log (1 + Real.exp (-|r|)) : ℝ) : EReal) := by
      unfold Ideal.log1p
      rw [← EReal.coe_one, ← EReal.coe_add]
      exact log_coe hpos
    rw [hab, hmx, ← EReal.coe_neg, ← EReal.coe_neg, hex, hl, ← EReal.coe_add, if_neg (EReal.coe_ne_top _), if_neg (EReal.coe_ne_top _),
      ← EReal.coe_sub, hex, hex, ← EReal.coe_one, ← EReal.coe_add, Ideal.div_coe (by positivity), ← EReal.coe_mul, EReal.coe_eq_coe_iff,
      Real.exp_sub, Real.exp_add, Real.exp_log hpos, one_mul]
    rcases le_total 0 r with hr | hr
    · rw [abs_of_nonneg hr, max_eq_right (by linarith), Real.exp_zero, one_mul, Real.exp_neg]
      have := Real.exp_pos r
      field_simp
      ring
    · rw [abs_of_nonpos hr, max_eq_left (by linarith), neg_neg, Real.exp_neg]
      have := Real.exp_pos r
      field_simp

end Cert.RunningSum
-- ==== Proof.GateMath.lean ====
/-
  The forget gate's gradient as one function of the arguments' entries: a running sum from the end of the difference of the
  two gradients of the running log-gate, times the logistic function of the negated gate logit. Facts of no particular program.
-/
module

public import proofs.«01_k».proof.Proof.RunningSum

@[expose] public section

noncomputable section

namespace Cert.GateMath

open Idealize.ShloMosaic Cert.RunningSum

/-- The gradient of head `h`'s logit at position `j`. -/
def gradAt (z : Fin 4112 → Fin 8 → EReal) (b : Fin 8 → EReal) (p q : Fin 4112 → Fin 8 → EReal) (h : Fin 8) (j : Fin 4112) : EReal :=
  run (fun i => p i h - q i h) 4112 j.val * Ideal.div 1 (1 + Ideal.exp (z j h + b h))

/-- A row of 4112 entries after 112 zeros. -/
def after (f : Fin 4112 → EReal) (l : Fin 4224) : EReal := if hl : 112 ≤ l.val then f ⟨l.val - 112, by omega⟩ else 0

theorem ext_after (f : Fin 4112 → EReal) (j : ℕ) : ext (after f) (112 + j) = ext f j := by
  by_cases h : j < 4112
  · rw [ext_of_lt f h, ext_of_lt (after f) (show 112 + j < 4224 by omega), after, dif_pos (show 112 ≤ 112 + j by omega)]
    exact congrArg f (Fin.ext (show 112 + j - 112 = j by omega))
  · rw [ext_of_le f (by omega), ext_of_le (after f) (by omega)]

theorem run_after (f : Fin 4112 → EReal) (l : Fin 4224) (hl : 112 ≤ l.val) : run (after f) 4224 l.val = run f 4112 (l.val - 112) := by
  rw [← run_eq_of_le f (k := 4112) (k' := 4224) (by omega) (by omega)]
  refine Finset.sum_congr rfl fun k _ => ?_
  rw [← ext_after f (l.val - 112 + k)]
  exact congrArg _ (by omega)

theorem sum_after (f : Fin 4112 → EReal) : ∑ l : Fin 4224, after f l = ∑ j : Fin 4112, f j := by
  have hs := Fin.sum_univ_add (a := 112) (b := 4112) (fun l : Fin (112 + 4112) => after f l)
  refine hs.trans ?_
  have h0 : ∑ i : Fin 112, after f (Fin.castAdd 4112 i) = 0 :=
    Finset.sum_eq_zero fun i _ => dif_neg (by have := i.isLt; show ¬ 112 ≤ i.val; omega)
  rw [h0, zero_add]
  refine Finset.sum_congr rfl fun j _ => ?_
  have hj : (Fin.natAdd 112 j : Fin (112 + 4112)).val = 112 + j.val := rfl
  rw [after, dif_pos (show 112 ≤ (Fin.natAdd 112 j : Fin (112 + 4112)).val by omega)]
  exact congrArg f (Fin.ext (by show 112 + j.val - 112 = j.val; omega))

end Cert.GateMath
-- ==== Proof.GateKernelValue.lean ====
/-
  What the forget-gate gradient kernel leaves in its two results: at head `h` and position `l` the sum of the score gradients from
  `l` to the end, times the gate's factor; and over each head the sum of that.
-/
module

public import proofs.«01_k».proof.Proof.GateMath
public import proofs.«01_k».proof.Proof.Gen.GateKernelIdeal.Value
public import Idealize.ShloMosaic.Lib.Pipeline.Value
public import Idealize.ShloMosaic.Lib.StableHlo.Run
public import Idealize.ShloMosaic.Lib.Tactic

@[expose] public section

set_option maxRecDepth 16384

noncomputable section

namespace Cert.GateKernelIdeal.Hand

open Cert.GateKernelIdeal Cert.GateKernelIdeal.Gen Cert.RunningSum Cert.GateMath
open Idealize.ShloMosaic.WordCmp
open Idealize.ShloMosaic Idealize.ShloMosaic.TcCoe Idealize.SL.Sem
open Idealize.ShloMosaic.Pipeline (Dat)

/-- The score gradient that reaches head `h`'s cumulative gate at a position. -/
def dc (x0 x1 : FVec Ideal S8x1x4224 .f32) (h : Fin 8) (l : Fin 4224) : EReal := x0 (ix3 h 0 l) - x1 (ix3 h 0 l)

/-- The rows the kernel stacks, one per head. -/
abbrev rows (x0 x1 : FVec Ideal S8x1x4224 .f32) : FVec Ideal S8x4224 .f32 := fun i => dc x0 x1 (i 0) (i 1)

variable (x0 x1 : Vec Ideal S8x1x4224 .f32) (x2 : Vec Ideal S8x4224 .f32)

theorem pay10_apply (h : Fin 8) (l : Fin 4224) :
    k0_pay10 (k0_pay4 (View.ld x0 r0_0) (View.ld x1 r0_0)) (k0_pay5 (View.ld x0 r0_1) (View.ld x1 r0_1)) (k0_pay6 (View.ld x0 r0_2) (View.ld x1 r0_2)) (k0_pay7 (View.ld x0 r0_3) (View.ld x1 r0_3)) (k0_pay8 (View.ld x0 r0_4) (View.ld x1 r0_4)) (k0_pay9 (View.ld x0 r0_5)) (View.ld x1 r0_5) (View.ld x0 r0_6) (View.ld x1 r0_6) (View.ld x0 r0_7) (View.ld x1 r0_7) (ix2 h l)
      = run (dc x0 x1 h) 4 l.val := by
  unfold k0_pay10
  refine step_run _ _ 2 (by decide) (by decide) (fun h l => step_run _ _ 1 (by decide) (by decide) (fun h l => ?_) _ _ h l) _ _ h l
  rw [run_one]
  unfold dc
  pointwise [k0_pay4, k0_pay5, k0_pay6, k0_pay7, k0_pay8, k0_pay9]
  fin_vals h with hk
  all_goals simp only [hk, Nat.reduceSub, Nat.reduceLT, ↓reduceDIte]
  all_goals exact congrArg (fun k : Fin 8 => x0 (ix3 k 0 l) - x1 (ix3 k 0 l)) (Fin.ext hk.symm)

theorem pay17_apply (h : Fin 8) (l : Fin 4224) : k0_pay17 x0 x1 x2 (ix2 h l) = run (dc x0 x1 h) 4096 l.val := by
  unfold k0_pay17 k0_pay14 k0_pay13 k0_pay12 k0_pay11 k0_pay16
  refine step_run _ _ 2048 (by decide) (by decide) (fun h l => ?_) _ _ h l
  refine step_run _ _ 1024 (by decide) (by decide) (fun h l => ?_) _ _ h l
  refine step_run _ _ 512 (by decide) (by decide) (fun h l => ?_) _ _ h l
  refine step_run _ _ 256 (by decide) (by decide) (fun h l => ?_) _ _ h l
  refine step_run _ _ 128 (by decide) (by decide) (fun h l => ?_) _ _ h l
  refine step_run _ _ 64 (by decide) (by decide) (fun h l => ?_) _ _ h l
  refine step_run _ _ 32 (by decide) (by decide) (fun h l => ?_) _ _ h l
  refine step_run _ _ 16 (by decide) (by decide) (fun h l => ?_) _ _ h l
  refine step_run _ _ 8 (by decide) (by decide) (fun h l => ?_) _ _ h l
  refine step_run _ _ 4 (by decide) (by decide) (fun h l => ?_) _ _ h l
  exact pay10_apply x0 x1 h l

/-- The gate's gradient at one position: the score gradients from there to the end, times the factor. -/
def dz (h : Fin 8) (l : Fin 4224) : EReal := run (dc x0 x1 h) 4224 l.val * x2 (ix2 h l)

theorem pay1_apply (h : Fin 8) (l : Fin 4224) : k0_pay1 (k0_pay17 x0 x1 x2) (k0_pay18 x0 x1 x2) (View.ld x2 r0_8) (ix2 h l) = dz x0 x1 x2 h l := by
  unfold k0_pay1 k0_pay18 k0_pay15 k0_pay16 dz
  rw [← run_eq_of_le (dc x0 x1 h) (k := 4224) (k' := 4096 + 4096) (by omega) (by omega)]
  refine congrArg₂ (· * ·) (step_run _ _ 4096 (by decide) (by decide) (pay17_apply x0 x1 x2) _ _ h l) ?_
  pointwise

theorem hz : (![0, 0] : Fin 2 → Nat) = fun _ => 0 := funext fun a => by fin_cases a <;> rfl

theorem out3_apply (h : Fin 16) (l : Fin 4224) :
    out0_3 x0 x1 x2 (ix2 h l) = if hh : h.val < 8 then dz x0 x1 x2 ⟨h.val, hh⟩ l else 0 := by
  unfold out0_3
  rw [View.canon_unit_zero hz]
  unfold k0_pay3
  pointwise
  simp only [pay1_apply]

theorem out4_apply (h : Fin 8) (l : Fin 128) : out0_4 x0 x1 x2 (ix2 h l) = ∑ q : Fin 4224, dz x0 x1 x2 h q := by
  unfold out0_4
  rw [View.canon_unit_zero hz]
  unfold k0_pay2
  pointwise
  simp only [pay1_apply]

/-! ## The arrays that the region finds and leaves -/

variable (m : (ℓ : Loc nD τ sig) → Buf (Elt Ideal) ℓ)

theorem iblk0 (c : Dev nD) (t : Fin cfg0.N) : (iblk m c 0 t : Vec Ideal S8x1x4224 .f32) = V m c main_v16 := by
  obtain rfl := fin_N0 t
  have hz' : (fun a => win0_0.index t0_0 a * main_v16.ty.shape.size a) = fun _ => 0 := funext fun a => by fin_cases a <;> decide
  exact Memref.read_access_unit_zero (Elt Ideal) main_v16 hz' (fun a => by rw [congrFun hz' a]; simp) (V m c main_v16)

theorem iblk1 (c : Dev nD) (t : Fin cfg0.N) : (iblk m c 1 t : Vec Ideal S8x1x4224 .f32) = V m c main_v19 := by
  obtain rfl := fin_N0 t
  have hz' : (fun a => win0_1.index t0_0 a * main_v19.ty.shape.size a) = fun _ => 0 := funext fun a => by fin_cases a <;> decide
  exact Memref.read_access_unit_zero (Elt Ideal) main_v19 hz' (fun a => by rw [congrFun hz' a]; simp) (V m c main_v19)

theorem iblk2 (c : Dev nD) (t : Fin cfg0.N) : (iblk m c 2 t : Vec Ideal S8x4224 .f32) = V m c main_v13 := by
  obtain rfl := fin_N0 t
  have hz' : (fun a => win0_2.index t0_0 a * main_v13.ty.shape.size a) = fun _ => 0 := funext fun a => by fin_cases a <;> decide
  exact Memref.read_access_unit_zero (Elt Ideal) main_v13 hz' (fun a => by rw [congrFun hz' a]; simp) (V m c main_v13)

/-- Result 0's array after the run is what the one point leaves. -/
theorem final3 (c : Dev nD) :
    (dats m 0 c).arrAt 3 cfg0.N = (out0_3 (V m c main_v16) (V m c main_v19) (V m c main_v13) : Vec Ideal S16x4224 .bf16) :=
  (dats m 0 c).arrAt_eq_of_cover 3 (out0_3 (V m c main_v16) (V m c main_v19) (V m c main_v13) : Vec Ideal S16x4224 .bf16)
    (fun t _ => by
      obtain rfl := fin_N0 t
      rw [Value.flushed3, iblk0, iblk1, iblk2]
      have hz' : (fun a => win0_3.index t0_0 a * main_v20_0.ty.shape.size a) = fun _ => 0 := funext fun a => by fin_cases a <;> decide
      exact (Memref.read_access_unit_zero (Elt Ideal) main_v20_0 hz' (fun a => by rw [congrFun hz' a]; simp) _).symm)
    fun i => ⟨t0_0, rfl, by
      show i ∈ ((View.whole main_v20_0).slice (win0_3.rect t0_0)).set
      rw [View.set_slice_whole, Rect.mem_set_unit]
      intro a
      have h0 : (i 0 : Nat) < 16 := (i 0).isLt
      have h1 : (i 1 : Nat) < 4224 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 16 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 4224 from by decide +kernel]; omega⟩

/-- Result 1's array after the run is what the one point leaves. -/
theorem final4 (c : Dev nD) :
    (dats m 0 c).arrAt 4 cfg0.N = (out0_4 (V m c main_v16) (V m c main_v19) (V m c main_v13) : Vec Ideal S8x128 .f32) :=
  (dats m 0 c).arrAt_eq_of_cover 4 (out0_4 (V m c main_v16) (V m c main_v19) (V m c main_v13) : Vec Ideal S8x128 .f32)
    (fun t _ => by
      obtain rfl := fin_N0 t
      rw [Value.flushed4, iblk0, iblk1, iblk2]
      have hz' : (fun a => win0_4.index t0_0 a * main_v20_1.ty.shape.size a) = fun _ => 0 := funext fun a => by fin_cases a <;> decide
      exact (Memref.read_access_unit_zero (Elt Ideal) main_v20_1 hz' (fun a => by rw [congrFun hz' a]; simp) _).symm)
    fun i => ⟨t0_0, rfl, by
      show i ∈ ((View.whole main_v20_1).slice (win0_4.rect t0_0)).set
      rw [View.set_slice_whole, Rect.mem_set_unit]
      intro a
      have h0 : (i 0 : Nat) < 8 := (i 0).isLt
      have h1 : (i 1 : Nat) < 128 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 8 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 128 from by decide +kernel]; omega⟩

/-- The host's transposed and padded copy of an argument of one row per position. -/
abbrev padT (X : Vec Ideal S4112x8 .f32) : Vec Ideal S8x4224 .f32 :=
  pad S8x4224 ![0, 112] ![0, 0] ![0, 0] (transpose S8x4112 [1, 0] X transposes_S4112x8_S8x4112_1_0)
    (sitofp .f32 (constantI S_ 32 0#32) : FVec Ideal S_ .f32) pads_S8x4112_S8x4224_000_11200 h_S_

/-- An entry of such an argument, as a number. -/
abbrev ent (X : Vec Ideal S4112x8 .f32) (j : Fin 4112) (h : Fin 8) : EReal := X (ix2 j h)

theorem padT_apply (X : Vec Ideal S4112x8 .f32) (h : Fin 8) (l : Fin 4224) : padT X (ix2 h l) = after (fun j => ent X j h) l := by
  unfold padT after
  pointwise
  by_cases hl : 112 ≤ l.val
  · rw [dif_pos hl, dif_pos ⟨hl, by omega⟩]
  · rw [dif_neg hl, dif_neg (fun h => hl h.1)]
    exact (by simp [FloatOps.sitofp] : FloatOps.sitofp (F := Ideal) FTy.f32 0#32 = 0)

theorem V16 (c : Dev nD) : (V m c main_v16 : Vec Ideal S8x1x4224 .f32)
    = broadcastInDim S8x1x4224 ![0, 2] bcast_S8x4224_S8x1x4224_0_2 (padT (m ((c : Thread nD τ).loc main_arg2))) := by
  simp only [V, hostOps0, hostOps0_1, hostOps0_2, hostOps0_3, hostOps0_4, hostOps0_5, hostOps0_6, hostOps0_7, hostOps0_8, List.flatten_cons,
    List.flatten_nil, List.cons_append, List.nil_append, StableHlo.TRef.binary, StableHlo.TRef.nullary, StableHlo.TRef.ternary,
    StableHlo.TRef.unary, StableHlo.TRef.toBuf, StableHlo.TRef.ofBuf, cast_eq]
  after_results_simp <;> rfl

theorem V19 (c : Dev nD) : (V m c main_v19 : Vec Ideal S8x1x4224 .f32)
    = broadcastInDim S8x1x4224 ![0, 2] bcast_S8x4224_S8x1x4224_0_2 (padT (m ((c : Thread nD τ).loc main_arg3))) := by
  simp only [V, hostOps0, hostOps0_1, hostOps0_2, hostOps0_3, hostOps0_4, hostOps0_5, hostOps0_6, hostOps0_7, hostOps0_8, List.flatten_cons,
    List.flatten_nil, List.cons_append, List.nil_append, StableHlo.TRef.binary, StableHlo.TRef.nullary, StableHlo.TRef.ternary,
    StableHlo.TRef.unary, StableHlo.TRef.toBuf, StableHlo.TRef.ofBuf, cast_eq]
  after_results_simp <;> rfl

theorem V13 (c : Dev nD) : (V m c main_v13 : Vec Ideal S8x4224 .f32)
    = select (cmpi .sge (iotaInDim S8x4224 32 1) (broadcastInDim S8x4224 ![] bcast_S_S8x4224 (constantI S_ 32 112#32)))
        (Host.divf (broadcastInDim S8x4224 ![] bcast_S_S8x4224 (constant (F := Ideal) S_ .f32 0x3F800000#32))
          (addf (broadcastInDim S8x4224 ![] bcast_S_S8x4224 (constant (F := Ideal) S_ .f32 0x3F800000#32))
            (Host.exp (addf (padT (m ((c : Thread nD τ).loc main_arg0)))
              (broadcastInDim S8x4224 ![0, 1] bcast_S8x1_S8x4224_0_1 (shapeCast S8x1 (m ((c : Thread nD τ).loc main_arg1) : Vec Ideal S8 .f32) shapeCasts_S8_S8x1))))))
        (broadcastInDim S8x4224 ![] bcast_S_S8x4224 (constant (F := Ideal) S_ .f32 0x00000000#32)) := by
  simp only [V, hostOps0, hostOps0_1, hostOps0_2, hostOps0_3, hostOps0_4, hostOps0_5, hostOps0_6, hostOps0_7, hostOps0_8, List.flatten_cons,
    List.flatten_nil, List.cons_append, List.nil_append, StableHlo.TRef.binary, StableHlo.TRef.nullary, StableHlo.TRef.ternary,
    StableHlo.TRef.unary, StableHlo.TRef.toBuf, StableHlo.TRef.ofBuf, cast_eq]
  after_results_simp <;> rfl

theorem dc_apply (c : Dev nD) (h : Fin 8) : dc (V m c main_v16) (V m c main_v19) h
    = after fun j => ent (m ((c : Thread nD τ).loc main_arg2)) j h - ent (m ((c : Thread nD τ).loc main_arg3)) j h := by
  funext l
  have hd : dc (V m c main_v16) (V m c main_v19) h l = padT (m ((c : Thread nD τ).loc main_arg2)) (ix2 h l) - padT (m ((c : Thread nD τ).loc main_arg3)) (ix2 h l) := by
    unfold dc
    rw [V16, V19]
    pointwise
  rw [hd, padT_apply, padT_apply]
  unfold after
  by_cases hl : 112 ≤ l.val
  · simp only [dif_pos hl]
  · simp only [dif_neg hl, sub_zero]

theorem V13_apply (c : Dev nD) (h : Fin 8) (l : Fin 4224) : (V m c main_v13 : Vec Ideal S8x4224 .f32) (ix2 h l)
    = if 112 ≤ l.val then Ideal.div 1 (1 + Ideal.exp (padT (m ((c : Thread nD τ).loc main_arg0)) (ix2 h l)
        + (m ((c : Thread nD τ).loc main_arg1) : Vec Ideal S8 .f32) (ix1 h))) else 0 := by
  have hc : IntOp.cmpi .sge (BitVec.ofNat 32 l.val) 112#32 = BitVec.ofBool (decide (112 ≤ l.val)) := by
    have hl := l.isLt
    rw [cmpi_sge_of_lt (by rw [BitVec.toNat_ofNat]; omega) (by decide), show (BitVec.ofNat 32 l.val).toNat = l.val from by rw [BitVec.toNat_ofNat, Nat.mod_eq_of_lt (by omega)]]
    rfl
  rw [V13]
  pointwise
  rw [hc]
  by_cases hl : 112 ≤ l.val
  · rw [if_pos hl, decide_eq_true hl]; exact select_of_eq_one rfl _ _
  · rw [if_neg hl, decide_eq_false hl]; exact select_of_eq_zero rfl _ _

/-- The gradients in terms of the arguments. -/
abbrev grads (c : Dev nD) : Fin 8 → Fin 4112 → EReal :=
  gradAt (fun j h => ent (m ((c : Thread nD τ).loc main_arg0)) j h)
    (fun h => (m ((c : Thread nD τ).loc main_arg1) : Vec Ideal S8 .f32) (ix1 h))
    (fun j h => ent (m ((c : Thread nD τ).loc main_arg2)) j h)
    (fun j h => ent (m ((c : Thread nD τ).loc main_arg3)) j h)

theorem dz_apply (c : Dev nD) (h : Fin 8) (l : Fin 4224) :
    dz (V m c main_v16) (V m c main_v19) (V m c main_v13) h l = after (grads m c h) l := by
  rw [dz, dc_apply, V13_apply]
  by_cases hl : 112 ≤ l.val
  · rw [if_pos hl, run_after _ _ hl, padT_apply]
    simp only [after, dif_pos hl]
    rfl
  · rw [if_neg hl, mul_zero, after, dif_neg hl]

/-- The arrays of the two results after the run. -/
abbrev fin3 (c : Dev nD) : Vec Ideal S16x4224 .bf16 := (dats m 0 c).arrAt 3 cfg0.N
abbrev fin4 (c : Dev nD) : Vec Ideal S8x128 .f32 := (dats m 0 c).arrAt 4 cfg0.N

theorem result0 (c : Dev nD) (h : Fin 16) (l : Fin 4224) : fin3 m c (ix2 h l)
    = if hh : h.val < 8 then after (grads m c ⟨h.val, hh⟩) l else 0 := by
  rw [fin3, final3, out3_apply]
  exact dite_congr rfl (fun _ => dz_apply m c _ l) fun _ => rfl

theorem result1 (c : Dev nD) (h : Fin 8) (l : Fin 128) : fin4 m c (ix2 h l)
    = ∑ j : Fin 4112, grads m c h j := by
  rw [fin4, final4, out4_apply]
  exact (Finset.sum_congr rfl fun q _ => dz_apply m c h q).trans (sum_after _)

end Cert.GateKernelIdeal.Hand
-- ==== Proof.GateReferenceValue.lean ====
/-
  What the gate's reference computes: its two results read at an index.
-/
module

public import proofs.«01_k».proof.Proof.GateMath
public import proofs.«01_k».proof.Proof.Gen.GateReferenceIdeal.Run
public import Idealize.ShloMosaic.Lib.Tactic

@[expose] public section

noncomputable section

namespace Cert.GateReferenceIdeal.Hand

open Cert.GateReferenceIdeal Cert.GateReferenceIdeal.Gen Cert.RunningSum Cert.GateMath
open Idealize.ShloMosaic.WordCmp
open Idealize.ShloMosaic Idealize.ShloMosaic.TcCoe Idealize.SL.Sem

variable (x0 : FVec Ideal S4112x8 .f32) (x1 : FVec Ideal S8 .f32) (x2 x3 : FVec Ideal S4112x8 .f32)

/-- A constant of the two-axis shape. -/
abbrev cst (b : BitVec 32) : FVec Ideal S4112x8 .f32 := broadcastInDim S4112x8 ![] bcast_S_S4112x8 (constant S_ .f32 b)

/-- The negated logit. -/
abbrev ny : FVec Ideal S4112x8 .f32 :=
  Host.negf (addf x0 (broadcastInDim S4112x8 ![0, 1] bcast_S1x8_S4112x8_0_1 (broadcastInDim S1x8 ![1] bcast_S8_S1x8_1 x1)))

/-- The softplus of an array, as its overflow-safe form computes it. -/
abbrev softplus (y : FVec Ideal S4112x8 .f32) : FVec Ideal S4112x8 .f32 :=
  select (cmpf .une (subf y (cst 0x00000000#32)) (subf y (cst 0x00000000#32))) (addf y (cst 0x00000000#32))
    (addf (maximumf y (cst 0x00000000#32)) (Host.log1p (Host.exp (Host.negf (Host.absf (subf y (cst 0x00000000#32)))))))

/-- An array with its infinite entries replaced by zero. -/
abbrev noInf (y : FVec Ideal S4112x8 .f32) : FVec Ideal S4112x8 .f32 :=
  select (cmpf .oeq y (cst 0x7F800000#32)) (cst 0x00000000#32) y

/-- The derivative of the log-sigmoid. -/
abbrev factor : FVec Ideal S4112x8 .f32 := Host.exp (subf (noInf (ny x0 x1)) (noInf (softplus (ny x0 x1))))

/-- The sums from each position to the end. -/
abbrev sums : FVec Ideal S4112x8 .f32 :=
  Host.reduceWindowAdd ![4112, 1] ![1, 1] ![0, 0] ![4111, 0] (addf x2 (Host.negf x3)) (broadcastInDim S_ ![] bcast_S_S_ (constant S_ .f32 0x00000000#32))
    reduceWindows_S4112x8_S4112x8_w4112s1p0_4111_w1s1p0_0 h_S_

/-- The gradient of the logits. -/
abbrev grad : FVec Ideal S4112x8 .f32 := Host.negf (mulf (Host.negf (sums x2 x3)) (factor x0 x1))

variable (m : (ℓ : Loc nD τ sig) → Buf (Elt Ideal) ℓ) (c : Dev nD)

theorem out0_eq : Value.res_main_v15 m c = truncf .bf16 (pad S16x4224 ![0, 112] ![8, 0] ![0, 0] (transpose S8x4112 [1, 0]
      (grad (m ((c : Thread nD τ).loc main_arg0)) (m ((c : Thread nD τ).loc main_arg1)) (m ((c : Thread nD τ).loc main_arg2)) (m ((c : Thread nD τ).loc main_arg3)))
      transposes_S4112x8_S8x4112_1_0) (sitofp .f32 (constantI S_ 32 0#32)) pads_S8x4112_S16x4224_080_11200 h_S_) bitsLt_bf16_f32 := rfl

theorem out1_eq : Value.res_main_v17 m c = broadcastInDim S8x128 ![0, 1] bcast_S8x1_S8x128_0_1 (broadcastInDim S8x1 ![0] bcast_S8_S8x1_0
      (Host.reduceAdd (shapeCast _ (Host.reduceAdd
        (grad (m ((c : Thread nD τ).loc main_arg0)) (m ((c : Thread nD τ).loc main_arg1)) (m ((c : Thread nD τ).loc main_arg2)) (m ((c : Thread nD τ).loc main_arg3)))
        (constant S_ .f32 0x00000000#32) reducesTo_S4112x8_S8_d0 h_S_) shapeCasts_S8_S1x8) (constant S_ .f32 0x00000000#32) reducesTo_S1x8_S8_d0 h_S_)) := rfl

/-- The logit, as a number. -/
abbrev logit (j : Fin 4112) (h : Fin 8) : EReal := x0 (ix2 j h) + x1 (ix1 h)

theorem sums_apply (j : Fin 4112) (h : Fin 8) : sums x2 x3 (ix2 j h) = run (fun i => (x2 (ix2 i h) : EReal) - x3 (ix2 i h)) 4112 j.val := by
  rw [sums, sum_to_end rfl _ _ (by pointwise)]
  rfl

theorem inf_eq : Ideal.ofBits FTy.f32 0x7F800000#32 = ⊤ := by simp [Ideal.ofBits, Ideal.ieee]

theorem factor_apply (j : Fin 4112) (h : Fin 8) : factor x0 x1 (ix2 j h) = Ideal.div 1 (1 + Ideal.exp (logit x0 x1 j h)) := by
  rw [← logSigmoid_factor (logit x0 x1 j h)]
  pointwise
  rw [inf_eq]
  simp only [ne_eq, not_true_eq_false, if_false]
  rfl

theorem grad_apply (j : Fin 4112) (h : Fin 8) : grad x0 x1 x2 x3 (ix2 j h)
    = gradAt (fun j h => x0 (ix2 j h)) (fun h => x1 (ix1 h)) (fun j h => x2 (ix2 j h)) (fun j h => x3 (ix2 j h)) h j := by
  show -(-(sums x2 x3 (ix2 j h)) * factor x0 x1 (ix2 j h)) = (_ : EReal)
  rw [EReal.neg_mul, neg_neg, sums_apply, factor_apply]
  rfl

/-- The gradients in terms of the arguments. -/
abbrev grads : Fin 8 → Fin 4112 → EReal := fun h j =>
  grad (m ((c : Thread nD τ).loc main_arg0)) (m ((c : Thread nD τ).loc main_arg1)) (m ((c : Thread nD τ).loc main_arg2)) (m ((c : Thread nD τ).loc main_arg3)) (ix2 j h)

theorem padded_apply (g : FVec Ideal S4112x8 .f32) (h : Fin 16) (l : Fin 4224) :
    (truncf .bf16 (pad S16x4224 ![0, 112] ![8, 0] ![0, 0] (transpose S8x4112 [1, 0] g transposes_S4112x8_S8x4112_1_0)
      (sitofp .f32 (constantI S_ 32 0#32)) pads_S8x4112_S16x4224_080_11200 h_S_) bitsLt_bf16_f32 : Vec Ideal S16x4224 .bf16) (ix2 h l)
    = if hh : h.val < 8 then after (fun j => g (ix2 j ⟨h.val, hh⟩)) l else 0 := by
  unfold after
  pointwise
  have h0 : FloatOps.sitofp (F := Ideal) FTy.f32 0#32 = 0 := by simp [FloatOps.sitofp]
  by_cases hh : h.val < 8
  · by_cases hl : 112 ≤ l.val
    · rw [dif_pos hh, dif_pos hl, dif_pos ⟨hh, hl, by omega⟩]
    · rw [dif_pos hh, dif_neg hl, dif_neg (fun h => hl h.2.1)]; exact h0
  · rw [dif_neg hh, dif_neg (fun h => hh h.1)]; exact h0

theorem summed_apply (g : FVec Ideal S4112x8 .f32) (h : Fin 8) (l : Fin 128) :
    (broadcastInDim S8x128 ![0, 1] bcast_S8x1_S8x128_0_1 (broadcastInDim S8x1 ![0] bcast_S8_S8x1_0
      (Host.reduceAdd (shapeCast _ (Host.reduceAdd g (constant S_ .f32 0x00000000#32) reducesTo_S4112x8_S8_d0 h_S_) shapeCasts_S8_S1x8)
        (constant S_ .f32 0x00000000#32) reducesTo_S1x8_S8_d0 h_S_)) : Vec Ideal S8x128 .f32) (ix2 h l) = ∑ j : Fin 4112, (g (ix2 j h) : EReal) := by
  pointwise
  exact Fin.sum_univ_one _

theorem result0 (h : Fin 16) (l : Fin 4224) : (Value.res_main_v15 m c : Vec Ideal S16x4224 .bf16) (ix2 h l)
    = if hh : h.val < 8 then after (grads m c ⟨h.val, hh⟩) l else 0 := by
  rw [out0_eq]
  exact padded_apply _ h l

theorem result1 (h : Fin 8) (l : Fin 128) : (Value.res_main_v17 m c : Vec Ideal S8x128 .f32) (ix2 h l) = ∑ j : Fin 4112, grads m c h j := by
  rw [out1_eq]
  exact summed_apply _ h l

end Cert.GateReferenceIdeal.Hand
-- ==== Proof.GateAgree.lean ====
/-
  The forget gate's backward call: the three frames, and the equality of the kernel's two results with the reference's.
-/
module

public import proofs.«01_k».proof.Defs
public import proofs.«01_k».proof.Proof.Gen.GateKernel.Frame
public import proofs.«01_k».proof.Proof.GateKernelValue
public import proofs.«01_k».proof.Proof.GateReferenceValue

@[expose] public section

noncomputable section

namespace Cert.Proof.GateAgree

open Idealize.ShloMosaic Idealize.ShloMosaic.TcCoe Idealize.SL.Sem Cert.GateMath

theorem frame_kernel : Cert.quiescent_GateKernel := fun m ρ _ => Cert.GateKernel.Gen.frame m ρ
theorem frame_ideal : Cert.quiescent_GateKernelIdeal := fun m ρ _ => Cert.GateKernelIdeal.Gen.frame m ρ
theorem frame_reference : Cert.quiescent_GateReferenceIdeal := fun m ρ _ =>
  (θ_run _ _ _).mono (fun r h => ⟨fun c => (h c).2.2, by funext s; exact nomatch s⟩) (Cert.GateReferenceIdeal.Value.run m ρ)

section
open Cert.GateReferenceIdeal

variable (m : (ℓ : Loc Cert.GateKernelIdeal.nD Cert.GateKernelIdeal.τ Cert.GateKernelIdeal.sig) → Buf (Elt Ideal) ℓ)
  (m' : (ℓ : Loc nD τ sig) → Buf (Elt Ideal) ℓ)

/-- The two memories hold the same arguments. -/
def Same : Prop := ∀ c : Dev nD,
  m' ((c.tc : Thread nD τ).loc main_arg0) = m ((c.tc : Thread nD τ).loc Cert.GateKernelIdeal.main_arg0)
  ∧ m' ((c.tc : Thread nD τ).loc main_arg1) = m ((c.tc : Thread nD τ).loc Cert.GateKernelIdeal.main_arg1)
  ∧ m' ((c.tc : Thread nD τ).loc main_arg2) = m ((c.tc : Thread nD τ).loc Cert.GateKernelIdeal.main_arg2)
  ∧ m' ((c.tc : Thread nD τ).loc main_arg3) = m ((c.tc : Thread nD τ).loc Cert.GateKernelIdeal.main_arg3)

theorem grads_eq (h : Same m m') (c : Dev nD) : Cert.GateReferenceIdeal.Hand.grads m' c = Cert.GateKernelIdeal.Hand.grads m c := by
  obtain ⟨h0, h1, h2, h3⟩ := h c
  funext i j
  unfold Cert.GateReferenceIdeal.Hand.grads
  rw [h0, h1, h2, h3]
  exact Cert.GateReferenceIdeal.Hand.grad_apply _ _ _ _ j i

theorem res0_eq (h : Same m m') (c : Dev nD) : (Value.res_main_v15 m' c : Vec Ideal S16x4224 .bf16) = Cert.GateKernelIdeal.Hand.fin3 m c := by
  funext i
  obtain ⟨a, b, rfl⟩ : ∃ a b, i = ix2 a b := ⟨i 0, i 1, eq_ix2 i⟩
  refine (Cert.GateReferenceIdeal.Hand.result0 m' c a b).trans (Eq.trans ?_ (Cert.GateKernelIdeal.Hand.result0 m c a b).symm)
  rw [grads_eq m m' h c]

theorem res1_eq (h : Same m m') (c : Dev nD) : (Value.res_main_v17 m' c : Vec Ideal S8x128 .f32) = Cert.GateKernelIdeal.Hand.fin4 m c := by
  funext i
  obtain ⟨a, b, rfl⟩ : ∃ a b, i = ix2 a b := ⟨i 0, i 1, eq_ix2 i⟩
  refine (Cert.GateReferenceIdeal.Hand.result1 m' c a b).trans (Eq.trans ?_ (Cert.GateKernelIdeal.Hand.result1 m c a b).symm)
  rw [grads_eq m m' h c]

end

theorem agree : Cert.algebraic_GateKernelIdeal_GateReferenceIdeal := fun m g m' g' _ hs =>
  ⟨Cert.GateKernelIdeal.Hand.fin3 m, Cert.GateKernelIdeal.Hand.fin4 m, Cert.GateKernelIdeal.Value.run_blocks m g,
    (θ_run _ _ _).mono (fun _ h c => ⟨(h c).1.trans (res0_eq m m' hs c), (h c).2.1.trans (res1_eq m m' hs c), (h c).2.2⟩)
      (Cert.GateReferenceIdeal.Value.run m' g')⟩

end Cert.Proof.GateAgree

end
-- ==== Proof.AttnHost.lean ====
/-
  The arrays the attention gradient kernel is called with, as the host lines before it make them of the arguments.
-/
module

public import proofs.«01_k».proof.Proof.Gen.AttnKernelIdeal.Value
public import Idealize.ShloMosaic.Lib.StableHlo.Run
public import Idealize.ShloMosaic.Lib.Tactic

@[expose] public section

set_option maxRecDepth 16384

noncomputable section

namespace Cert.AttnHost

open Cert.AttnKernelIdeal Cert.AttnKernelIdeal.Gen
open Idealize.ShloMosaic Idealize.ShloMosaic.TcCoe Idealize.SL.Sem

/-- What the padding holds. -/
def padding : FVec Ideal S_ .f32 := sitofp .f32 (constantI S_ 32 0#32)

/-- A token array as one row per head and component, behind the empty positions. -/
def rows (a : FVec Ideal S4112x8x64 .f32) : FVec Ideal S512x4224 .f32 :=
  pad S512x4224 ![0, 112] ![0, 0] ![0, 0] (transpose S512x4112 [1, 0] (shapeCast S4112x512 a shapeCasts_S4112x8x64_S4112x512) transposes_S4112x512_S512x4112_1_0)
    padding pads_S512x4112_S512x4224_000_11200 h_S_

/-- One row per head, behind the empty positions. -/
def line (a : FVec Ideal S8x4112 .f32) : FVec Ideal S8x4224 .f32 :=
  pad S8x4224 ![0, 112] ![0, 0] ![0, 0] a padding pads_S8x4112_S8x4224_000_11200 h_S_

/-- A token array by head, behind the empty positions. -/
def tok (a : FVec Ideal S4112x8x64 .f32) : FVec Ideal S8x4224x64 .f32 :=
  pad S8x4224x64 ![0, 112, 0] ![0, 0, 0] ![0, 0, 0] (transpose S8x4112x64 [1, 0, 2] a transposes_S4112x8x64_S8x4112x64_1_0_2)
    padding pads_S8x4112x64_S8x4224x64_000_11200_000 h_S_

/-- One over the logarithm of two. -/
def log2e : FVec Ideal S_ .f32 := Host.divf (constant S_ .f32 0x3F800000#32) (Host.log (constant S_ .f32 0x40000000#32))

/-- The scores, before the mask. -/
def open' (q k : FVec Ideal S4112x8x64 .f32) (cu : FVec Ideal S4112x8 .f32) : FVec Ideal S8x4112x4112 .f32 :=
  subf (addf (mulf (Host.dotGeneral dot_S4112x8x64_S4112x8x64_S8x4112x4112_2_2_0_0_1_1 none q k) (broadcastInDim S8x4112x4112 ![] bcast_S_S8x4112x4112 (constant S_ .f32 0x3E000000#32)))
      (broadcastInDim S8x4112x4112 ![0, 1, 2] bcast_S8x4112x1_S8x4112x4112_0_1_2 (broadcastInDim S8x4112x1 ![0, 1] bcast_S8x4112_S8x4112x1_0_1 (transpose S8x4112 [1, 0] cu transposes_S4112x8_S8x4112_1_0))))
    (broadcastInDim S8x4112x4112 ![0, 1, 2] bcast_S8x1x4112_S8x4112x4112_0_1_2 (broadcastInDim S8x1x4112 ![0, 2] bcast_S8x4112_S8x1x4112_0_2 (transpose S8x4112 [1, 0] cu transposes_S4112x8_S8x4112_1_0)))

/-- Whether a key's position is at most a query's. -/
def seen : IVec S8x4112x4112 1 :=
  broadcastInDim S8x4112x4112 ![1, 2] bcast_S4112x4112_S8x4112x4112_1_2
    (cmpi .sle (broadcastInDim S4112x4112 ![0, 1] bcast_S1x4112_S4112x4112_0_1 (broadcastInDim S1x4112 ![1] bcast_S4112_S1x4112_1 (iotaInDim S4112 32 0)))
      (broadcastInDim S4112x4112 ![0, 1] bcast_S4112x1_S4112x4112_0_1 (broadcastInDim S4112x1 ![0] bcast_S4112_S4112x1_0 (iotaInDim S4112 32 0))))

/-- The masked scores. -/
def score (q k : FVec Ideal S4112x8x64 .f32) (cu : FVec Ideal S4112x8 .f32) : FVec Ideal S8x4112x4112 .f32 :=
  select seen (open' q k cu) (broadcastInDim S8x4112x4112 ![] bcast_S_S8x4112x4112 (constant S_ .f32 0xFF800000#32))

/-- The largest score of a row. -/
def top (q k : FVec Ideal S4112x8x64 .f32) (cu : FVec Ideal S4112x8 .f32) : FVec Ideal S8x4112 .f32 :=
  Host.reduce FloatOps.maximumf (score q k cu) (constant S_ .f32 0xFF800000#32) reducesTo_S8x4112x4112_S8x4112_d2 h_S_

/-- The exponentials. -/
def expo (q k : FVec Ideal S4112x8x64 .f32) (cu : FVec Ideal S4112x8 .f32) : FVec Ideal S8x4112x4112 .f32 :=
  Host.exp (subf (score q k cu) (broadcastInDim S8x4112x4112 ![0, 1, 2] bcast_S8x4112x1_S8x4112x4112_0_1_2 (broadcastInDim S8x4112x1 ![0, 1] bcast_S8x4112_S8x4112x1_0_1 (top q k cu))))

/-- The sum of a row's exponentials. -/
def total (q k : FVec Ideal S4112x8x64 .f32) (cu : FVec Ideal S4112x8 .f32) : FVec Ideal S8x4112 .f32 :=
  Host.reduceAdd (expo q k cu) (constant S_ .f32 0x00000000#32) reducesTo_S8x4112x4112_S8x4112_d2 h_S_

/-- The attention's output. -/
def out (q k v : FVec Ideal S4112x8x64 .f32) (cu : FVec Ideal S4112x8 .f32) : FVec Ideal S4112x8x64 .f32 :=
  transpose S4112x8x64 [2, 0, 1]
    (Host.dotGeneral dot_S4112x8x64_S8x4112x4112_S8x64x4112_0_2_2_1_1_0 none v
      (Host.divf (expo q k cu) (broadcastInDim S8x4112x4112 ![0, 1, 2] bcast_S8x4112x1_S8x4112x4112_0_1_2 (broadcastInDim S8x4112x1 ![0, 1] bcast_S8x4112_S8x4112x1_0_1 (total q k cu)))))
    transposes_S8x64x4112_S4112x8x64_2_0_1

/-- The logarithm of a row's sum of exponentials. -/
def lse (q k : FVec Ideal S4112x8x64 .f32) (cu : FVec Ideal S4112x8 .f32) : FVec Ideal S8x4112 .f32 :=
  shapeCast S8x4112 (addf (broadcastInDim S8x4112x1 ![0, 1] bcast_S8x4112_S8x4112x1_0_1 (top q k cu)) (Host.log (broadcastInDim S8x4112x1 ![0, 1] bcast_S8x4112_S8x4112x1_0_1 (total q k cu))))
    shapeCasts_S8x4112x1_S8x4112

/-- The queries, keys and values, one row per head and component. -/
def proj (q k v : FVec Ideal S4112x8x64 .f32) : FVec Ideal S1536x4224 .bf16 :=
  truncf .bf16 (concatenate S1536x4224 0
    [⟨S512x4224, mulf (rows q) (broadcastInDim S512x4224 ![] bcast_S_S512x4224 (mulf (constant S_ .f32 0x3E000000#32) log2e))⟩, ⟨S512x4224, rows k⟩, ⟨S512x4224, rows v⟩]
    concatenates_S512x4224_S512x4224_S512x4224_S1536x4224_d0) bitsLt_bf16_f32

/-- The accumulated gates in powers of two. -/
def gate (cu : FVec Ideal S4112x8 .f32) : FVec Ideal S8x4224 .f32 :=
  mulf (line (transpose S8x4112 [1, 0] cu transposes_S4112x8_S8x4112_1_0)) (broadcastInDim S8x4224 ![] bcast_S_S8x4224 log2e)

/-- A row to sixteen bits and back. -/
def short (a : FVec Ideal S8x4224 .f32) : FVec Ideal S8x4224 .f32 := extf .f32 (truncf .bf16 a bitsLt_bf16_f32) bitsLt_bf16_f32

/-- What is left of a row. -/
def rest (a : FVec Ideal S8x4224 .f32) : FVec Ideal S8x4224 .f32 := subf a (short a)

/-- A row as a column of the keys' extra columns. -/
def column (a : FVec Ideal S8x4224 .f32) : FVec Ideal S8x4224x1 .f32 := broadcastInDim S8x4224x1 ![0, 1] bcast_S8x4224_S8x4224x1_0_1 a

/-- The keys with their extra columns. -/
def kaug (k : FVec Ideal S4112x8x64 .f32) (cu : FVec Ideal S4112x8 .f32) : FVec Ideal S8x4224x128 .bf16 :=
  truncf .bf16 (concatenate S8x4224x128 2
    [⟨S8x4224x64, tok k⟩,
     ⟨S8x4224x6, concatenate S8x4224x6 2
        [⟨S8x4224x1, column (select (cmpi .sge (iotaInDim S8x4224 32 1) (broadcastInDim S8x4224 ![] bcast_S_S8x4224 (constantI S_ 32 112#32)))
            (short (Host.negf (gate cu))) (broadcastInDim S8x4224 ![] bcast_S_S8x4224 (constant S_ .f32 0xFF800000#32)))⟩,
         ⟨S8x4224x1, column (short (rest (Host.negf (gate cu))))⟩, ⟨S8x4224x1, column (short (rest (rest (Host.negf (gate cu)))))⟩,
         ⟨S8x4224x1, column (broadcastInDim S8x4224 ![] bcast_S_S8x4224 (constant S_ .f32 0x3F800000#32))⟩,
         ⟨S8x4224x1, column (broadcastInDim S8x4224 ![] bcast_S_S8x4224 (constant S_ .f32 0x3F800000#32))⟩,
         ⟨S8x4224x1, column (broadcastInDim S8x4224 ![] bcast_S_S8x4224 (constant S_ .f32 0x3F800000#32))⟩]
        concatenates_S8x4224x1_S8x4224x1_S8x4224x1_S8x4224x1_S8x4224x1_S8x4224x1_S8x4224x6_d2⟩,
     ⟨S8x4224x58, broadcastInDim S8x4224x58 ![] bcast_S_S8x4224x58 (constant S_ .f32 0x00000000#32)⟩]
    concatenates_S8x4224x64_S8x4224x6_S8x4224x58_S8x4224x128_d2) bitsLt_bf16_f32

/-- The rows' sums of output times its gradient. -/
def rowdot (q k v : FVec Ideal S4112x8x64 .f32) (cu : FVec Ideal S4112x8 .f32) (dO : FVec Ideal S4112x8x64 .f32) : FVec Ideal S8x4112 .f32 :=
  transpose S8x4112 [1, 0] (Host.reduceAdd (mulf dO (out q k v cu)) (constant S_ .f32 0x00000000#32) reducesTo_S4112x8x64_S4112x8_d2 h_S_) transposes_S4112x8_S8x4112_1_0

/-- A row per head as the kernel is given it. -/
def flat (a : FVec Ideal S8x4224 .f32) : FVec Ideal S8x1x4224 .f32 := broadcastInDim S8x1x4224 ![0, 2] bcast_S8x4224_S8x1x4224_0_2 a

variable (m : (ℓ : Loc nD τ sig) → Buf (Elt Ideal) ℓ) (c : Dev nD)

abbrev argQ : FVec Ideal S4112x8x64 .f32 := m ((c : Thread nD τ).loc main_arg0)
abbrev argK : FVec Ideal S4112x8x64 .f32 := m ((c : Thread nD τ).loc main_arg1)
abbrev argV : FVec Ideal S4112x8x64 .f32 := m ((c : Thread nD τ).loc main_arg2)
abbrev argC : FVec Ideal S4112x8 .f32 := m ((c : Thread nD τ).loc main_arg3)
abbrev argO : FVec Ideal S4112x8x64 .f32 := m ((c : Thread nD τ).loc main_arg4)

theorem found : (V m c main_v47 : FVec Ideal S1536x4224 .bf16) = proj (argQ m c) (argK m c) (argV m c)
    ∧ (V m c main_v77 : FVec Ideal S8x4224x128 .bf16) = kaug (argK m c) (argC m c)
    ∧ (V m c main_v87 : FVec Ideal S8x4224x64 .bf16) = truncf .bf16 (tok (argV m c)) bitsLt_bf16_f32
    ∧ (V m c main_v91 : FVec Ideal S512x4224 .bf16) = truncf .bf16 (rows (argO m c)) bitsLt_bf16_f32
    ∧ (V m c main_v92 : FVec Ideal S8x1x4224 .f32)
        = flat (line (mulf (lse (argQ m c) (argK m c) (argC m c)) (broadcastInDim S8x4112 ![] bcast_S_S8x4112 log2e)))
    ∧ (V m c main_v93 : FVec Ideal S8x1x4224 .f32) = flat (line (rowdot (argQ m c) (argK m c) (argV m c) (argC m c) (argO m c)))
    ∧ (V m c main_v94 : FVec Ideal S8x1x4224 .f32) = flat (gate (argC m c)) := by
  refine ⟨?_, ?_, ?_, ?_, ?_, ?_, ?_⟩
  all_goals
    simp only [V, hostOps0, hostOps0_1, hostOps0_2, hostOps0_3, hostOps0_4, hostOps0_5, hostOps0_6, hostOps0_7, hostOps0_8, hostOps0_9, hostOps0_10,
      hostOps0_11, hostOps0_12, hostOps0_13, hostOps0_14, hostOps0_15, hostOps0_16, hostOps0_17, hostOps0_18, hostOps0_19, hostOps0_20, hostOps0_21, hostOps0_22,
      List.flatten_cons,
      List.flatten_nil, List.cons_append, List.nil_append, StableHlo.TRef.binary, StableHlo.TRef.nullary, StableHlo.TRef.ternary,
      StableHlo.TRef.unary, StableHlo.TRef.toBuf, StableHlo.TRef.ofBuf, cast_eq]
    after_results_simp <;> rfl

end Cert.AttnHost
-- ==== Proof.AttnReal.lean ====
/-
  Causal attention with gates and its gradient over the real numbers.
-/
module

public import Idealize.ShloMosaic.PureOps.Ideal
public import Idealize.ShloMosaic.Lib.Tactic

@[expose] public section

noncomputable section

namespace Cert.AttnReal

open Idealize.ShloMosaic

theorem coe_sum {ι : Type} (s : Finset ι) (f : ι → ℝ) : ((∑ i ∈ s, f i : ℝ) : EReal) = ∑ i ∈ s, (f i : EReal) := by
  induction s using Finset.cons_induction with
  | empty => simp
  | cons a s ha ih => rw [Finset.sum_cons, Finset.sum_cons, EReal.coe_add, ih]

theorem div_real (x : ℝ) {y : ℝ} (h : y ≠ 0) : Ideal.div (x : EReal) (y : EReal) = ((x / y : ℝ) : EReal) := by
  rw [Ideal.div_coe h, ← EReal.coe_mul, mul_one_div]

theorem exp2_real (x : ℝ) : Ideal.exp2 ((x * (Real.log 2)⁻¹ : ℝ) : EReal) = ((Real.exp x : ℝ) : EReal) := by
  have h : Real.log 2 ≠ 0 := Real.log_ne_zero_of_pos_of_ne_one (by norm_num) (by norm_num)
  rw [Ideal.exp2_coe]
  refine congrArg _ ?_
  show (2 : ℝ) ^ (x * (Real.log 2)⁻¹) = _
  rw [Real.rpow_def_of_pos (by norm_num)]
  congr 1
  field_simp

/-- A sum one of whose terms is minus infinity. -/
theorem sum_bot {ι : Type} [Fintype ι] [DecidableEq ι] (f : ι → EReal) (i : ι) (h : f i = ⊥) : ∑ j, f j = ⊥ := by
  rw [← Finset.add_sum_erase _ _ (Finset.mem_univ i), h, EReal.bot_add]

variable (Q K W G : Fin 4112 → Fin 8 → Fin 64 → ℝ) (C : Fin 4112 → Fin 8 → ℝ) (h : Fin 8) (l k : Fin 4112) (d : Fin 64)

/-- The score of a key for a query. -/
def sco : ℝ := (∑ d, Q l h d * K k h d) * (1 / 8) + C l h - C k h

/-- The score, minus infinity on a key after the query. -/
def sc : EReal := if k ≤ l then ((sco Q K C h l k : ℝ) : EReal) else ⊥

theorem exists_top : ∃ M : ℝ, Finset.fold max ⊥ (fun k => sc Q K C h l k) Finset.univ = (M : EReal) := by
  obtain ⟨i, -, hi⟩ := Finset.exists_mem_eq_sup (Finset.univ : Finset (Fin 4112)) ⟨l, Finset.mem_univ l⟩ (fun k => sc Q K C h l k)
  have hf : Finset.fold max ⊥ (fun k => sc Q K C h l k) Finset.univ = Finset.univ.sup (fun k => sc Q K C h l k) := rfl
  have hl : sc Q K C h l l ≤ Finset.univ.sup (fun k => sc Q K C h l k) := Finset.le_sup (f := fun k => sc Q K C h l k) (Finset.mem_univ l)
  rw [hf, hi] at *
  by_cases hil : i ≤ l
  · exact ⟨sco Q K C h l i, if_pos hil⟩
  · rw [show sc Q K C h l i = ⊥ from if_neg hil, show sc Q K C h l l = _ from if_pos le_rfl] at hl
    exact absurd (le_bot_iff.mp hl) (EReal.coe_ne_bot _)

/-- The largest score of a query. -/
def top : ℝ := (exists_top Q K C h l).choose

theorem fold_top : Finset.fold max ⊥ (fun k => sc Q K C h l k) Finset.univ = (top Q K C h l : EReal) := (exists_top Q K C h l).choose_spec

/-- The exponentials. -/
def ex : ℝ := if k ≤ l then Real.exp (sco Q K C h l k - top Q K C h l) else 0

theorem exp_sc : Ideal.exp (sc Q K C h l k - (top Q K C h l : EReal)) = (ex Q K C h l k : EReal) := by
  unfold sc ex
  by_cases hkl : k ≤ l
  · rw [if_pos hkl, if_pos hkl, ← EReal.coe_sub, Ideal.exp_coe]
  · rw [if_neg hkl, if_neg hkl, EReal.bot_sub, Ideal.exp_bot, EReal.coe_zero]

/-- The sum of a query's exponentials. -/
def tot : ℝ := ∑ k, ex Q K C h l k

theorem tot_pos : 0 < tot Q K C h l := by
  refine Finset.sum_pos' (fun k _ => ?_) ⟨l, Finset.mem_univ l, ?_⟩
  · unfold ex
    split
    · exact (Real.exp_pos _).le
    · exact le_rfl
  · unfold ex
    rw [if_pos le_rfl]
    exact Real.exp_pos _

theorem tot_ne : tot Q K C h l ≠ 0 := (tot_pos Q K C h l).ne'

/-- The weights. -/
def pr : ℝ := ex Q K C h l k / tot Q K C h l

theorem pr_of_lt (hk : ¬ k ≤ l) : pr Q K C h l k = 0 := by
  unfold pr ex
  rw [if_neg hk, zero_div]

theorem exp_sub_log (hk : k ≤ l) : Real.exp (sco Q K C h l k - (top Q K C h l + Real.log (tot Q K C h l))) = pr Q K C h l k := by
  unfold pr ex
  rw [if_pos hk, ← sub_sub, Real.exp_sub, Real.exp_log (tot_pos Q K C h l)]

/-- The output. -/
def outp : ℝ := ∑ k, W k h d * pr Q K C h l k

/-- The weights' gradient. -/
def dp : ℝ := ∑ d, G l h d * W k h d

/-- The row sums of the output times its gradient. -/
def dd : ℝ := ∑ d, G l h d * outp Q K W C h l d

theorem dd_eq : dd Q K W G C h l = ∑ k, dp W G h l k * pr Q K C h l k := by
  simp only [dd, outp, dp, Finset.mul_sum, Finset.sum_mul]
  rw [Finset.sum_comm]
  exact Finset.sum_congr rfl fun k _ => Finset.sum_congr rfl fun d _ => by ring

/-- The scores' gradient. -/
def ds : ℝ := pr Q K C h l k * (dp W G h l k - dd Q K W G C h l)

theorem ds_of_lt (hk : ¬ k ≤ l) : ds Q K W G C h l k = 0 := by
  unfold ds
  rw [pr_of_lt Q K C h l k hk, zero_mul]

/-- The scores' gradient as the derivative of a quotient. -/
theorem ds_quot : (dp W G h l k / tot Q K C h l + -∑ k, dp W G h l k * (1 / (tot Q K C h l * tot Q K C h l)) * ex Q K C h l k) * ex Q K C h l k
    = ds Q K W G C h l k := by
  unfold ds
  rw [dd_eq]
  have hs : ∑ k, dp W G h l k * (1 / (tot Q K C h l * tot Q K C h l)) * ex Q K C h l k
      = (∑ k, dp W G h l k * pr Q K C h l k) / tot Q K C h l := by
    rw [Finset.sum_div]
    refine Finset.sum_congr rfl fun k _ => ?_
    unfold pr
    have := tot_ne Q K C h l
    field_simp
  rw [hs]
  unfold pr
  have := tot_ne Q K C h l
  field_simp
  ring

/-- The values' gradient. -/
def dv : ℝ := ∑ l, G l h d * pr Q K C h l k

/-- The keys' gradient. -/
def dk : ℝ := (∑ l, ds Q K W G C h l k * Q l h d) * (1 / 8)

/-- The queries' gradient. -/
def dq : ℝ := (∑ k, ds Q K W G C h l k * K k h d) * (1 / 8)

/-- The scores' gradients of a key, summed. -/
def dck : ℝ := ∑ l, ds Q K W G C h l k

/-- The scores' gradients of a query, summed. -/
def dcq : ℝ := ∑ k, ds Q K W G C h l k

/-- A position of the text among the kernel's positions. -/
def up (t : Fin 4112) : Fin 4224 := ⟨112 + t.val, Nat.add_lt_add_left t.isLt 112⟩

theorem up_or (l : Fin 4224) : l.val < 112 ∨ ∃ t, l = up t := by
  by_cases hl : l.val < 112
  · exact Or.inl hl
  · exact Or.inr ⟨⟨l.val - 112, by omega⟩, Fin.ext (by show l.val = 112 + (l.val - 112); omega)⟩

theorem sum_up (F : Fin 4224 → EReal) (hF : ∀ l, l.val < 112 → F l = 0) : ∑ l, F l = ∑ t, F (up t) := by
  refine (Fin.sum_univ_add (a := 112) (b := 4112) F).trans ?_
  rw [Finset.sum_eq_zero fun i _ => hF _ i.isLt, zero_add]
  rfl

/-- Zero at the empty positions. -/
def back (f : Fin 4112 → ℝ) (l : Fin 4224) : EReal := if hl : 112 ≤ l.val then ((f ⟨l.val - 112, by omega⟩ : ℝ) : EReal) else 0

theorem back_up (f : Fin 4112 → ℝ) (t : Fin 4112) : back f (up t) = (f t : EReal) := by
  unfold back
  rw [dif_pos (by show 112 ≤ 112 + t.val; omega)]
  exact congrArg (fun i => ((f i : ℝ) : EReal)) (Fin.ext (by show 112 + t.val - 112 = t.val; omega))

theorem back_empty (f : Fin 4112 → ℝ) {l : Fin 4224} (hl : l.val < 112) : back f l = 0 := dif_neg (by omega)

end Cert.AttnReal
-- ==== Proof.AttnHead.lean ====
/-
  One head's arithmetic in the attention gradient kernel, on the blocks it loads: the scores and the products `v · do` of one tile,
  and what the tile adds to the gradients of `v`, of `k` and of `q`.
-/
module

public import proofs.«01_k».proof.Proof.Gen.AttnKernelIdeal
public import Idealize.ShloMosaic.Lib.Pointwise
public import Idealize.ShloMosaic.Lib.WordCmp

@[expose] public section

set_option maxRecDepth 16384

noncomputable section

namespace Cert.AttnHead

open Cert.AttnKernelIdeal
open Idealize.ShloMosaic
open Idealize.ShloMosaic.WordCmp

theorem cat16 : Shape.Concatenates [S1x384, S1x384, S1x384, S1x384, S1x384, S1x384, S1x384, S1x384, S1x384, S1x384, S1x384, S1x384, S1x384, S1x384, S1x384, S1x384] S16x384 0 := by decide
theorem cat80 : Shape.Concatenates [S64x384, S16x384] S80x384 0 := by decide
theorem cat128 : Shape.Concatenates [S80x384, S48x384] S128x384 0 := by decide
theorem cat64 : Shape.Concatenates [S64x384, S64x384] S128x384 0 := by decide

/-- The zeros that fill the queries' rows up to 128. -/
def zpad : FVec Ideal S48x384 .bf16 := broadcast S48x384 (FloatOps.ofBits .bf16 0#16)

/-- A tile of queries with the rows the kernel sets under it: ones, the three parts of the bias, zeros. -/
def augQ (Q : Vec Ideal S64x384 .bf16) (C L : Vec Ideal S1x1x384 .f32) : FVec Ideal S128x384 .bf16 :=
  let c := shapeCast S1x384 C (by decide)
  let l := shapeCast S1x384 L (by decide)
  let b : FVec Ideal S1x384 .f32 := subf c l
  let hi : FVec Ideal S1x384 .f32 := extf .f32 (truncf .bf16 b (by decide)) (by decide)
  let r : FVec Ideal S1x384 .f32 := subf b hi
  let mid : FVec Ideal S1x384 .f32 := extf .f32 (truncf .bf16 r (by decide)) (by decide)
  let lo : FVec Ideal S1x384 .f32 := extf .f32 (truncf .bf16 (subf r mid) (by decide)) (by decide)
  let one : FVec Ideal S1x384 .f32 := broadcast S1x384 (FloatOps.ofBits .f32 1065353216#32)
  let zero : FVec Ideal S1x384 .f32 := broadcast S1x384 (FloatOps.ofBits .f32 0#32)
  let rows : FVec Ideal S16x384 .f32 := concatenate S16x384 0 [⟨S1x384, one⟩, ⟨S1x384, one⟩, ⟨S1x384, one⟩, ⟨S1x384, hi⟩, ⟨S1x384, mid⟩, ⟨S1x384, lo⟩, ⟨S1x384, zero⟩, ⟨S1x384, zero⟩, ⟨S1x384, zero⟩, ⟨S1x384, zero⟩, ⟨S1x384, zero⟩, ⟨S1x384, zero⟩, ⟨S1x384, zero⟩, ⟨S1x384, zero⟩, ⟨S1x384, zero⟩, ⟨S1x384, zero⟩] cat16
  concatenate S128x384 0 [⟨S80x384, concatenate S80x384 0 [⟨S64x384, shapeCast S64x384 Q (by decide)⟩, ⟨S16x384, truncf .bf16 rows (by decide)⟩] cat80⟩, ⟨S48x384, zpad⟩] cat128

/-- The entries of such a tile in one column, from the column's queries and its bias. -/
def aug (x : Fin 64 → EReal) (b : EReal) (r : Fin 128) : EReal :=
  if h : r.val < 64 then x ⟨r.val, h⟩ else if r.val < 67 then 1 else if r.val = 67 then b else if r.val = 68 then b - b
    else if r.val = 69 then (b - b) - (b - b) else 0

theorem augQ_apply (Q : Vec Ideal S64x384 .bf16) (C L : Vec Ideal S1x1x384 .f32) (r : Fin 128) (q : Fin 384) :
    augQ Q C L (ix2 r q) = aug (fun d => Q (ix2 d q)) (C (ix3 0 0 q) - L (ix3 0 0 q)) r := by
  unfold augQ aug zpad
  pointwise
  generalize C (ix3 0 0 q) - L (ix3 0 0 q) = b
  simp only [dite_eq_ite, ite_self, Nat.sub_sub, Nat.reduceAdd]
  obtain ⟨r, hr⟩ := r
  dsimp only
  split_ifs <;> first | rfl | omega

/-- The scores of a tile. -/
def payS (K : Vec Ideal S1x384x128 .bf16) (Q : Vec Ideal S64x384 .bf16) (C L : Vec Ideal S1x1x384 .f32) : FVec Ideal S1x384x384 .f32 :=
  shapeCast S1x384x384 (matmul dot_S384x128_S128x384_S384x384_1_0_0_1_n_n none (shapeCast S384x128 K (by decide) : FVec Ideal S384x128 .bf16) (augQ Q C L) (constant S384x384 .f32 0#32)) (by decide)

/-- The scores of the tile on the diagonal, where a query sees no later key. -/
def payM (K : Vec Ideal S1x384x128 .bf16) (Q : Vec Ideal S64x384 .bf16) (C L : Vec Ideal S1x1x384 .f32) : FVec Ideal S1x384x384 .f32 :=
  shapeCast S1x384x384 (select (cmpi .sle (iota .tc S384x384 32 [0] (by decide)) (iota .tc S384x384 32 [1] (by decide)))
    (matmul dot_S384x128_S128x384_S384x384_1_0_0_1_n_n none (shapeCast S384x128 K (by decide) : FVec Ideal S384x128 .bf16) (augQ Q C L) (constant S384x384 .f32 0#32))
    (broadcast S384x384 (Named.named (F := Ideal) κ "mask" 0xF149F2CA#32 : EReal))) (by decide)

/-- The products `v · do` of a tile. -/
def payP (V : Vec Ideal S1x384x64 .bf16) (D : Vec Ideal S64x384 .bf16) : FVec Ideal S1x384x384 .f32 :=
  shapeCast S1x384x384 (matmul dot_S384x64_S64x384_S384x384_1_0_0_1_n_n none (shapeCast S384x64 V (by decide) : FVec Ideal S384x64 .bf16) (shapeCast S64x384 D (by decide) : FVec Ideal S64x384 .bf16) (constant S384x384 .f32 0#32)) (by decide)

/-- The keys of a tile over a row of ones. -/
def payK (K : Vec Ideal S64x384 .bf16) : FVec Ideal S1x80x384 .bf16 :=
  shapeCast S1x80x384 (concatenate S80x384 0 [⟨S64x384, (shapeCast S64x384 K (by decide) : FVec Ideal S64x384 .bf16)⟩, ⟨S16x384, (broadcast S16x384 (FloatOps.ofBits .bf16 16256#16) : FVec Ideal S16x384 .bf16)⟩] cat80) (by decide)

/-- The weights of a tile. -/
def wts (S : Vec Ideal S1x384x384 .f32) : FVec Ideal S384x384 .f32 := exp2 (shapeCast S384x384 S (by decide) : FVec Ideal S384x384 .f32)

/-- The gradients of a tile's scores. -/
def dsc (S P : Vec Ideal S1x384x384 .f32) (X : Vec Ideal S1x1x384 .f32) : FVec Ideal S384x384 .bf16 :=
  truncf .bf16 (mulf (wts S) (subf (shapeCast S384x384 P (by decide) : FVec Ideal S384x384 .f32) (broadcastTo S384x384 (shapeCast S1x384 X (by decide) : FVec Ideal S1x384 .f32) (by decide)))) (by decide)

/-- What a tile adds to the gradient of `v`. -/
def payDv (S : Vec Ideal S1x384x384 .f32) (D : Vec Ideal S64x384 .bf16) (A : Vec Ideal S1x384x128 .f32) : FVec Ideal S1x384x128 .f32 :=
  shapeCast S1x384x128 (addf (shapeCast S384x128 A (by decide) : FVec Ideal S384x128 .f32) (matmul dot_S384x384_S128x384_S384x128_1_1_0_0_n_n none (truncf .bf16 (wts S) (by decide))
    (concatenate S128x384 0 [⟨S64x384, (shapeCast S64x384 D (by decide) : FVec Ideal S64x384 .bf16)⟩, ⟨S64x384, (broadcast S64x384 (FloatOps.ofBits .bf16 0#16) : FVec Ideal S64x384 .bf16)⟩] cat64) (constant S384x128 .f32 0#32))) (by decide)

/-- What a tile adds to the gradient of `k`. -/
def payDk (S P : Vec Ideal S1x384x384 .f32) (X : Vec Ideal S1x1x384 .f32) (Q : Vec Ideal S64x384 .bf16) (C L : Vec Ideal S1x1x384 .f32) (A : Vec Ideal S1x384x128 .f32) : FVec Ideal S1x384x128 .f32 :=
  shapeCast S1x384x128 (addf (shapeCast S384x128 A (by decide) : FVec Ideal S384x128 .f32) (matmul dot_S384x384_S128x384_S384x128_1_1_0_0_n_n none (dsc S P X) (augQ Q C L) (constant S384x128 .f32 0#32))) (by decide)

/-- What a tile adds to the gradient of `q`. -/
def payDq (S P : Vec Ideal S1x384x384 .f32) (X : Vec Ideal S1x1x384 .f32) (K : Vec Ideal S1x80x384 .bf16) (A : Vec Ideal S1x80x384 .f32) : FVec Ideal S1x80x384 .f32 :=
  shapeCast S1x80x384 (addf (shapeCast S80x384 A (by decide) : FVec Ideal S80x384 .f32) (matmul dot_S80x384_S384x384_S80x384_1_0_0_1_n_n none (shapeCast S80x384 K (by decide) : FVec Ideal S80x384 .bf16) (dsc S P X) (constant S80x384 .f32 0#32))) (by decide)

/-- The gradient of `v` as it leaves. -/
def outV (A : Vec Ideal S1x384x128 .f32) : FVec Ideal S64x384 .bf16 :=
  truncf .bf16 (extractStridedSlice S64x384 ![0, 0] (transpose S128x384 [1, 0] (shapeCast S384x128 A (by decide) : FVec Ideal S384x128 .f32) (by decide)) (by decide)) (by decide)

/-- The gradient of `k` as it leaves. -/
def outK (A : Vec Ideal S1x384x128 .f32) : FVec Ideal S64x384 .bf16 :=
  truncf .bf16 (mulf (extractStridedSlice S64x384 ![0, 0] (transpose S128x384 [1, 0] (shapeCast S384x128 A (by decide) : FVec Ideal S384x128 .f32) (by decide)) (by decide))
    (broadcast S64x384 (Named.named (F := Ideal) κ "ln2" 0x3F317218#32 : EReal))) (by decide)

/-- The gradient of the gates at the keys as it leaves. -/
def outC (A : Vec Ideal S1x384x128 .f32) : FVec Ideal S1x1x384 .f32 :=
  shapeCast S1x1x384 (extractStridedSlice S1x384 ![64, 0] (transpose S128x384 [1, 0] (shapeCast S384x128 A (by decide) : FVec Ideal S384x128 .f32) (by decide)) (by decide)) (by decide)

theorem payS_apply (K : Vec Ideal S1x384x128 .bf16) (Q : Vec Ideal S64x384 .bf16) (C L : Vec Ideal S1x1x384 .f32) (a : Fin 1) (k q : Fin 384) :
    payS K Q C L (ix3 a k q) = ∑ r : Fin 128, K (ix3 0 k r) * aug (fun d => Q (ix2 d q)) (C (ix3 0 0 q) - L (ix3 0 0 q)) r := by
  simp only [← augQ_apply Q C L]
  unfold payS
  generalize augQ Q C L = g
  pointwise

theorem payM_apply (K : Vec Ideal S1x384x128 .bf16) (Q : Vec Ideal S64x384 .bf16) (C L : Vec Ideal S1x1x384 .f32) (a : Fin 1) (k q : Fin 384) :
    payM K Q C L (ix3 a k q) = if k ≤ q then ∑ r : Fin 128, K (ix3 0 k r) * aug (fun d => Q (ix2 d q)) (C (ix3 0 0 q) - L (ix3 0 0 q)) r else ⊥ := by
  simp only [← augQ_apply Q C L]
  unfold payM
  generalize augQ Q C L = g
  pointwise
  rw [cmpi_sle_ofNat (by omega) (by omega)]
  by_cases h : k ≤ q
  · rw [if_pos h, select_of_eq_one (by rw [decide_eq_true (show k.val ≤ q.val from h)]; rfl) _ _]
  · rw [if_neg h, select_of_eq_zero (by rw [decide_eq_false (show ¬ k.val ≤ q.val from h)]; rfl) _ _]
    rfl

theorem payP_apply (V : Vec Ideal S1x384x64 .bf16) (D : Vec Ideal S64x384 .bf16) (a : Fin 1) (k q : Fin 384) :
    payP V D (ix3 a k q) = ∑ d : Fin 64, V (ix3 0 k d) * D (ix2 d q) := by
  unfold payP
  pointwise

theorem payK_apply (K : Vec Ideal S64x384 .bf16) (a : Fin 1) (r : Fin 80) (k : Fin 384) :
    payK K (ix3 a r k) = if h : r.val < 64 then K (ix2 ⟨r.val, h⟩ k) else 1 := by
  unfold payK
  pointwise

theorem dsc_apply (S P : Vec Ideal S1x384x384 .f32) (X : Vec Ideal S1x1x384 .f32) (k q : Fin 384) :
    dsc S P X (ix2 k q) = Ideal.exp2 (S (ix3 0 k q)) * (P (ix3 0 k q) - X (ix3 0 0 q)) := by
  unfold dsc wts
  pointwise
  rfl

theorem payDv_apply (S : Vec Ideal S1x384x384 .f32) (D : Vec Ideal S64x384 .bf16) (A : Vec Ideal S1x384x128 .f32) (a : Fin 1) (k : Fin 384) (d : Fin 128) :
    payDv S D A (ix3 a k d) = A (ix3 0 k d) + ∑ q : Fin 384, Ideal.exp2 (S (ix3 0 k q)) * (if h : d.val < 64 then D (ix2 ⟨d.val, h⟩ q) else 0) := by
  unfold payDv wts
  pointwise
  rfl

theorem payDk_apply (S P : Vec Ideal S1x384x384 .f32) (X : Vec Ideal S1x1x384 .f32) (Q : Vec Ideal S64x384 .bf16) (C L : Vec Ideal S1x1x384 .f32) (A : Vec Ideal S1x384x128 .f32) (a : Fin 1) (k : Fin 384) (d : Fin 128) :
    payDk S P X Q C L A (ix3 a k d) = A (ix3 0 k d) + ∑ q : Fin 384, Ideal.exp2 (S (ix3 0 k q)) * (P (ix3 0 k q) - X (ix3 0 0 q)) * aug (fun d => Q (ix2 d q)) (C (ix3 0 0 q) - L (ix3 0 0 q)) d := by
  simp only [← augQ_apply Q C L, ← dsc_apply S P X]
  unfold payDk
  generalize augQ Q C L = g
  generalize dsc S P X = f
  pointwise

theorem payDq_apply (S P : Vec Ideal S1x384x384 .f32) (X : Vec Ideal S1x1x384 .f32) (K : Vec Ideal S1x80x384 .bf16) (A : Vec Ideal S1x80x384 .f32) (a : Fin 1) (r : Fin 80) (q : Fin 384) :
    payDq S P X K A (ix3 a r q) = A (ix3 0 r q) + ∑ k : Fin 384, K (ix3 0 r k) * (Ideal.exp2 (S (ix3 0 k q)) * (P (ix3 0 k q) - X (ix3 0 0 q))) := by
  simp only [← dsc_apply S P X]
  unfold payDq
  generalize dsc S P X = f
  pointwise

theorem outV_apply (A : Vec Ideal S1x384x128 .f32) (d : Fin 64) (k : Fin 384) : outV A (ix2 d k) = A (ix3 0 k ⟨d.val, by omega⟩) := by
  unfold outV
  pointwise

theorem outK_apply (A : Vec Ideal S1x384x128 .f32) (d : Fin 64) (k : Fin 384) : outK A (ix2 d k) = A (ix3 0 k ⟨d.val, by omega⟩) * ((Real.log 2 : ℝ) : EReal) := by
  unfold outK
  pointwise
  rfl

theorem outC_apply (A : Vec Ideal S1x384x128 .f32) (a b : Fin 1) (k : Fin 384) : outC A (ix3 a b k) = A (ix3 0 k 64) := by
  unfold outC
  pointwise

end Cert.AttnHead
-- ==== Proof.AttnBuffers.lean ====
/-
  A buffer of eight heads, one store per head: what it reads after the stores, where each store may read what the earlier ones left.
-/
module

public import proofs.«01_k».proof.Proof.AttnHead
public import Idealize.ShloMosaic.Lib.Pipeline.FrameBody
public import Idealize.ShloMosaic.Lib.WritesUnit

@[expose] public section

set_option maxRecDepth 16384

noncomputable section

namespace Cert.AttnBuffers

open Idealize.ShloMosaic

/-- Eight stores over `L 0`, the last at the front: where each one's rectangle is its own and writes `D'`, read as long as its
    rectangle still holds `D`, the buffer reads `D'`, if `D'` is `D` outside the rectangles. -/
theorem chain {sig : RefSig} {κ : Kind} {sp : Space} {s : Shape} {e : EltTy} {Val : EltTy → Type} (v : View sig κ sp s e) (f : v.ty.Contents Val)
    (L : Fin 9 → List (View.Piece Val s e)) (r : Fin 8 → Rect s) (w : ∀ g, (r g).shape.Idx → Val e)
    (hL : ∀ g : Fin 8, L g.succ = ⟨r g, w g⟩ :: L g.castSucc) (D D' : s.Idx → Val e)
    (h0 : ∀ y, v.read Val (v.writes Val f (L 0)) y = D y)
    (hdis : ∀ g g' : Fin 8, g' < g → ∀ x, (r g).emb x ∉ (r g').set)
    (hw : ∀ g, (∀ x, v.read Val (v.writes Val f (L g.castSucc)) ((r g).emb x) = D ((r g).emb x)) → ∀ x, w g x = D' ((r g).emb x))
    (hout : ∀ y, (∀ g, y ∉ (r g).set) → D' y = D y) (y : s.Idx) :
    v.read Val (v.writes Val f (L (Fin.last 8))) y = D' y := by
  have key : ∀ n : Fin 9, (∀ y, (∃ g : Fin 8, g.val < n.val ∧ y ∈ (r g).set) → v.read Val (v.writes Val f (L n)) y = D' y)
      ∧ (∀ y, (∀ g : Fin 8, g.val < n.val → y ∉ (r g).set) → v.read Val (v.writes Val f (L n)) y = D y) := by
    intro n
    induction n using Fin.induction with
    | zero => exact ⟨fun y ⟨g, hg, _⟩ => absurd hg (Nat.not_lt_zero _), fun y _ => h0 y⟩
    | succ g ih =>
      have hwg := hw g fun x => ih.2 _ fun g' hg' => hdis g g' hg' x
      rw [hL g]
      constructor
      · rintro y ⟨g', hg', hy⟩
        by_cases hy' : y ∈ (r g).set
        · obtain ⟨x, rfl⟩ := (r g).exists_idx_of_mem hy'
          exact (View.read_writes_cons_emb v f (r g) (w g) _ x).trans (hwg x)
        · rw [View.writes_cons, View.read_slice_write_of_not_mem _ _ _ _ (by rwa [Rect.map_emb_univ])]
          refine ih.1 y ⟨g', ?_, hy⟩
          rcases Nat.lt_succ_iff_lt_or_eq.mp (show g'.val < g.val + 1 from hg') with h | h
          · exact h
          · exact absurd (Fin.ext h ▸ hy) hy'
      · intro y hy
        rw [View.writes_cons, View.read_slice_write_of_not_mem _ _ _ _ (by rw [Rect.map_emb_univ]; exact hy g (Nat.lt_succ_self _))]
        exact ih.2 y fun g' hg' => hy g' (Nat.lt_succ_of_lt hg')
  by_cases hy : ∃ g : Fin 8, y ∈ (r g).set
  · obtain ⟨g, hg⟩ := hy
    exact (key (Fin.last 8)).1 y ⟨g, g.isLt, hg⟩
  · have hn : ∀ g, y ∉ (r g).set := fun g hg => hy ⟨g, hg⟩
    exact ((key (Fin.last 8)).2 y fun g _ => hn g).trans (hout y hn).symm

section Places

variable {n0 n1 n2 m0 m1 m2 : ℕ}

/-- Where a rectangle of a buffer with three axes places an index. -/
theorem emb3 {off : Fin 3 → ℕ} (h : ∀ a, off a + (![m0, m1, m2] : Fin 3 → ℕ) a ≤ (⟨3, ![n0, n1, n2]⟩ : Shape).size a) (a : Fin m0) (b : Fin m1) (c : Fin m2)
    (A : Fin n0) (B : Fin n1) (C : Fin n2) (hA : A.val = off 0 + a.val) (hB : B.val = off 1 + b.val) (hC : C.val = off 2 + c.val) :
    (Rect.unit (s := ⟨3, ![n0, n1, n2]⟩) off ![m0, m1, m2] h).emb (ix3 a b c) = ix3 A B C := by
  funext t
  refine Fin.ext ?_
  rw [Rect.emb_apply]
  match t with
  | 0 => exact (congrArg (off 0 + ·) (Nat.one_mul _)).trans hA.symm
  | 1 => exact (congrArg (off 1 + ·) (Nat.one_mul _)).trans hB.symm
  | 2 => exact (congrArg (off 2 + ·) (Nat.one_mul _)).trans hC.symm

theorem emb2 {off : Fin 2 → ℕ} (h : ∀ a, off a + (![m0, m1] : Fin 2 → ℕ) a ≤ (⟨2, ![n0, n1]⟩ : Shape).size a) (a : Fin m0) (b : Fin m1)
    (A : Fin n0) (B : Fin n1) (hA : A.val = off 0 + a.val) (hB : B.val = off 1 + b.val) :
    (Rect.unit (s := ⟨2, ![n0, n1]⟩) off ![m0, m1] h).emb (ix2 a b) = ix2 A B := by
  funext t
  refine Fin.ext ?_
  rw [Rect.emb_apply]
  match t with
  | 0 => exact (congrArg (off 0 + ·) (Nat.one_mul _)).trans hA.symm
  | 1 => exact (congrArg (off 1 + ·) (Nat.one_mul _)).trans hB.symm

theorem ld3 {e : EltTy} (X : Vec Ideal ⟨3, ![n0, n1, n2]⟩ e) {off : Fin 3 → ℕ} (h : ∀ a, off a + (![m0, m1, m2] : Fin 3 → ℕ) a ≤ (⟨3, ![n0, n1, n2]⟩ : Shape).size a) (a : Fin m0) (b : Fin m1) (c : Fin m2)
    (A : Fin n0) (B : Fin n1) (C : Fin n2) (hA : A.val = off 0 + a.val) (hB : B.val = off 1 + b.val) (hC : C.val = off 2 + c.val) :
    View.ld X (Rect.unit (s := ⟨3, ![n0, n1, n2]⟩) off ![m0, m1, m2] h) (ix3 a b c) = X (ix3 A B C) :=
  congrArg X (emb3 h a b c A B C hA hB hC)

theorem ld2 {e : EltTy} (X : Vec Ideal ⟨2, ![n0, n1]⟩ e) {off : Fin 2 → ℕ} (h : ∀ a, off a + (![m0, m1] : Fin 2 → ℕ) a ≤ (⟨2, ![n0, n1]⟩ : Shape).size a) (a : Fin m0) (b : Fin m1)
    (A : Fin n0) (B : Fin n1) (hA : A.val = off 0 + a.val) (hB : B.val = off 1 + b.val) :
    View.ld X (Rect.unit (s := ⟨2, ![n0, n1]⟩) off ![m0, m1] h) (ix2 a b) = X (ix2 A B) :=
  congrArg X (emb2 h a b A B hA hB)

end Places

end Cert.AttnBuffers
-- ==== Proof.AttnTile.lean ====
/-
  The attention gradient kernel's arithmetic on one pair of tiles, over all heads: the scores, the products `v · do`, and what the
  pair adds to the gradients of `v`, `k` and `q`; and that each head's arithmetic on the blocks it loads is that of its slab.
-/
module

public import proofs.«01_k».proof.Proof.AttnBuffers

@[expose] public section

set_option maxRecDepth 16384

noncomputable section

namespace Cert.AttnTile

open Cert.AttnKernelIdeal Cert.AttnHead Cert.AttnBuffers
open Idealize.ShloMosaic

abbrev BQ : Type := Vec Ideal S512x4224 .bf16
abbrev BL : Type := Vec Ideal S8x1x4224 .f32
abbrev BS : Type := Vec Ideal S8x384x384 .f32
abbrev BD : Type := Vec Ideal S8x384x128 .f32
abbrev BA : Type := Vec Ideal S8x80x4224 .f32
abbrev BK : Type := Vec Ideal S8x80x384 .bf16

/-- Row `d` of head `g` among the 512 rows. -/
def row (g : Fin 8) (d : Fin 64) : Fin 512 := ⟨64 * g.val + d.val, by omega⟩

/-- Column `q` of tile `j`. -/
def col (j : Fin 11) (q : Fin 384) : Fin 4224 := ⟨384 * j.val + q.val, by omega⟩

/-- Column `l` of head `g`'s queries with the rows set under them. -/
def qcol (X0 : BQ) (X5 X7 : BL) (g : Fin 8) (l : Fin 4224) : Fin 128 → EReal :=
  aug (fun d => X0 (ix2 (row g d) l)) (X7 (ix3 g 0 l) - X5 (ix3 g 0 l))

/-- The scores of the keys of `X1` against the queries of tile `j`. -/
def sc (X0 : BQ) (X1 : Vec Ideal S8x384x128 .bf16) (X5 X7 : BL) (j : Fin 11) : BS :=
  fun y => ∑ r : Fin 128, X1 (ix3 (y 0) (y 1) r) * qcol X0 X5 X7 (y 0) (col j (y 2)) r

/-- The same on the diagonal. -/
def sm (X0 : BQ) (X1 : Vec Ideal S8x384x128 .bf16) (X5 X7 : BL) (j : Fin 11) : BS :=
  fun y => if (y 1).val ≤ (y 2).val then sc X0 X1 X5 X7 j y else ⊥

/-- The products of `v` and `do`. -/
def dp (X2 : Vec Ideal S8x384x64 .bf16) (X4 : BQ) (j : Fin 11) : BS :=
  fun y => ∑ d : Fin 64, X2 (ix3 (y 0) (y 1) d) * X4 (ix2 (row (y 0) d) (col j (y 2)))

/-- The gradients of the scores. -/
def ds (S P : BS) (X6 : BL) (j : Fin 11) (g : Fin 8) (k q : Fin 384) : EReal :=
  Ideal.exp2 (S (ix3 g k q)) * (P (ix3 g k q) - X6 (ix3 g 0 (col j q)))

def dvUp (S : BS) (X4 : BQ) (j : Fin 11) (A : BD) : BD :=
  fun y => A y + ∑ q : Fin 384, Ideal.exp2 (S (ix3 (y 0) (y 1) q)) * (if h : (y 2).val < 64 then X4 (ix2 (row (y 0) ⟨_, h⟩) (col j q)) else 0)

def dkUp (X0 : BQ) (X5 X6 X7 : BL) (S P : BS) (j : Fin 11) (A : BD) : BD :=
  fun y => A y + ∑ q : Fin 384, ds S P X6 j (y 0) (y 1) q * qcol X0 X5 X7 (y 0) (col j q) (y 2)

def dqUp (X6 : BL) (K : BK) (S P : BS) (j : Fin 11) (A : BA) : BA :=
  fun y => if h : 384 * j.val ≤ (y 2).val ∧ (y 2).val < 384 * j.val + 384
    then A y + ∑ k : Fin 384, K (ix3 (y 0) (y 1) k) * ds S P X6 j (y 0) k ⟨(y 2).val - 384 * j.val, by omega⟩ else A y

theorem dqUp_col (X6 : BL) (K : BK) (S P : BS) (j : Fin 11) (A : BA) (g : Fin 8) (r : Fin 80) (q : Fin 384) :
    dqUp X6 K S P j A (ix3 g r (col j q)) = A (ix3 g r (col j q)) + ∑ k : Fin 384, K (ix3 g r k) * ds S P X6 j g k q := by
  have e : (⟨384 * j.val + q.val - 384 * j.val, by omega⟩ : Fin 384) = q := Fin.ext (by simp)
  refine (dif_pos (show 384 * j.val ≤ 384 * j.val + q.val ∧ 384 * j.val + q.val < 384 * j.val + 384 from ⟨by omega, by omega⟩)).trans ?_
  show A (ix3 g r (col j q)) + ∑ k : Fin 384, K (ix3 g r k) * ds S P X6 j g k ⟨384 * j.val + q.val - 384 * j.val, by omega⟩ = _
  rw [e]

/-- The keys over rows of ones. -/
def kt (X3 : Vec Ideal S512x384 .bf16) : BK :=
  fun y => if h : (y 1).val < 64 then X3 (ix2 (row (y 0) ⟨_, h⟩) (y 2)) else 1

abbrev rS (g : Fin 8) : Rect S8x384x384 := Rect.unit ![g.val, 0, 0] ![1, 384, 384] (by intro a; fin_cases a <;> simp <;> omega)
abbrev rD (g : Fin 8) : Rect S8x384x128 := Rect.unit ![g.val, 0, 0] ![1, 384, 128] (by intro a; fin_cases a <;> simp <;> omega)
abbrev rK (g : Fin 8) : Rect S8x80x384 := Rect.unit ![g.val, 0, 0] ![1, 80, 384] (by intro a; fin_cases a <;> simp <;> omega)
abbrev rA (j : Fin 11) (g : Fin 8) : Rect S8x80x4224 := Rect.unit ![g.val, 0, 384 * j.val] ![1, 80, 384] (by intro a; fin_cases a <;> simp <;> omega)

theorem ex3 {a b c : ℕ} (x : (⟨3, ![a, b, c]⟩ : Shape).Idx) : ∃ (i : Fin a) (j : Fin b) (k : Fin c), x = ix3 i j k := by
  refine ⟨x 0, x 1, x 2, funext fun t => ?_⟩
  match t with
  | 0 => rfl
  | 1 => rfl
  | 2 => rfl

theorem embS (g : Fin 8) (a : Fin 1) (k q : Fin 384) : (rS g).emb (ix3 a k q) = ix3 g k q :=
  emb3 _ a k q g k q (by simp) (by simp) (by simp)
theorem embD (g : Fin 8) (a : Fin 1) (k : Fin 384) (d : Fin 128) : (rD g).emb (ix3 a k d) = ix3 g k d :=
  emb3 _ a k d g k d (by simp) (by simp) (by simp)
theorem embK (g : Fin 8) (a : Fin 1) (r : Fin 80) (k : Fin 384) : (rK g).emb (ix3 a r k) = ix3 g r k :=
  emb3 _ a r k g r k (by simp) (by simp) (by simp)
theorem embA (j : Fin 11) (g : Fin 8) (a : Fin 1) (r : Fin 80) (q : Fin 384) : (rA j g).emb (ix3 a r q) = ix3 g r (col j q) :=
  emb3 _ a r q g r (col j q) (by simp) (by simp) (by simp [col])

section Slabs

variable (g : Fin 8) (j : Fin 11) (X0 X4 : BQ) (X1 : Vec Ideal S8x384x128 .bf16) (X2 : Vec Ideal S8x384x64 .bf16) (X3 : Vec Ideal S512x384 .bf16) (X5 X6 X7 : BL)
  {o0 : Fin 2 → ℕ} {o1 o7 : Fin 3 → ℕ}

theorem ldL (X : BL) (h7) (e7 : o7 = ![g.val, 0, 384 * j.val]) (a b : Fin 1) (q : Fin 384) :
    View.ld X (Rect.unit o7 S1x1x384.size h7) (ix3 a b q) = X (ix3 g 0 (col j q)) := by
  subst e7
  exact ld3 X h7 a b q g 0 (col j q) (by simp) (by simp) (by simp [col])

theorem ldQ (X : BQ) (h0) (e0 : o0 = ![64 * g.val, 384 * j.val]) (d : Fin 64) (q : Fin 384) :
    View.ld X (Rect.unit o0 S64x384.size h0) (ix2 d q) = X (ix2 (row g d) (col j q)) := by
  subst e0
  exact ld2 X h0 d q (row g d) (col j q) (by simp [row]) (by simp [col])

theorem ldSlab {e : EltTy} {b c : ℕ} (X : Vec Ideal ⟨3, ![8, b, c]⟩ e) (h1) (e1 : o1 = ![g.val, 0, 0]) (a : Fin 1) (k : Fin b) (d : Fin c) :
    View.ld X (Rect.unit (s := ⟨3, ![8, b, c]⟩) o1 ![1, b, c] h1) (ix3 a k d) = X (ix3 g k d) := by
  subst e1
  exact ld3 X h1 a k d g k d (by simp) (by simp) (by simp)

theorem payS_slab (h1 h0 h7) (e1 : o1 = ![g.val, 0, 0]) (e0 : o0 = ![64 * g.val, 384 * j.val]) (e7 : o7 = ![g.val, 0, 384 * j.val]) (x : S1x384x384.Idx) :
    payS (View.ld X1 (Rect.unit o1 S1x384x128.size h1)) (View.ld X0 (Rect.unit o0 S64x384.size h0)) (View.ld X7 (Rect.unit o7 S1x1x384.size h7)) (View.ld X5 (Rect.unit o7 S1x1x384.size h7)) x
      = sc X0 X1 X5 X7 j ((rS g).emb x) := by
  obtain ⟨a, k, q, rfl⟩ := ex3 x
  rw [embS, payS_apply]
  simp only [ldL g j X7 h7 e7, ldL g j X5 h7 e7, ldQ g j X0 h0 e0]
  exact Finset.sum_congr rfl fun r _ => congrArg (· * _) (ldSlab g X1 h1 e1 0 k r)

theorem payM_slab (h1 h0 h7) (e1 : o1 = ![g.val, 0, 0]) (e0 : o0 = ![64 * g.val, 384 * j.val]) (e7 : o7 = ![g.val, 0, 384 * j.val]) (x : S1x384x384.Idx) :
    payM (View.ld X1 (Rect.unit o1 S1x384x128.size h1)) (View.ld X0 (Rect.unit o0 S64x384.size h0)) (View.ld X7 (Rect.unit o7 S1x1x384.size h7)) (View.ld X5 (Rect.unit o7 S1x1x384.size h7)) x
      = sm X0 X1 X5 X7 j ((rS g).emb x) := by
  have h := payS_slab g j X0 X1 X5 X7 h1 h0 h7 e1 e0 e7 x
  obtain ⟨a, k, q, rfl⟩ := ex3 x
  rw [payS_apply] at h
  rw [payM_apply, h, embS]
  rfl

theorem payP_slab (h1 h0) (e1 : o1 = ![g.val, 0, 0]) (e0 : o0 = ![64 * g.val, 384 * j.val]) (x : S1x384x384.Idx) :
    payP (View.ld X2 (Rect.unit o1 S1x384x64.size h1)) (View.ld X4 (Rect.unit o0 S64x384.size h0)) x = dp X2 X4 j ((rS g).emb x) := by
  obtain ⟨a, k, q, rfl⟩ := ex3 x
  rw [embS, payP_apply]
  simp only [ldQ g j X4 h0 e0]
  exact Finset.sum_congr rfl fun r _ => congrArg (· * _) (ldSlab g X2 h1 e1 0 k r)

theorem payK_slab (h0) (e0 : o0 = ![64 * g.val, 0]) (x : S1x80x384.Idx) :
    payK (View.ld X3 (Rect.unit o0 S64x384.size h0)) x = kt X3 ((rK g).emb x) := by
  obtain ⟨a, r, k, rfl⟩ := ex3 x
  rw [embK, payK_apply]
  subst e0
  refine dite_congr rfl (fun h => ?_) fun _ => rfl
  exact ld2 X3 h0 _ k (row g ⟨r.val, h⟩) k (by simp [row]) (by simp)

variable (bS bP : Vec Ideal S1x384x384 .f32) (S P : BS) (hS : ∀ x, bS x = S ((rS g).emb x)) (hP : ∀ x, bP x = P ((rS g).emb x))

include hS in
theorem payDv_slab (h0) (e0 : o0 = ![64 * g.val, 384 * j.val]) (bA : Vec Ideal S1x384x128 .f32) (A : BD) (hA : ∀ x, bA x = A ((rD g).emb x)) (x : S1x384x128.Idx) :
    payDv bS (View.ld X4 (Rect.unit o0 S64x384.size h0)) bA x = dvUp S X4 j A ((rD g).emb x) := by
  obtain ⟨a, k, d, rfl⟩ := ex3 x
  rw [payDv_apply]
  simp only [hS, hA, embS, embD, ldQ g j X4 h0 e0]
  rfl

include hS hP in
theorem payDk_slab (h0 h7) (e0 : o0 = ![64 * g.val, 384 * j.val]) (e7 : o7 = ![g.val, 0, 384 * j.val]) (bA : Vec Ideal S1x384x128 .f32) (A : BD) (hA : ∀ x, bA x = A ((rD g).emb x)) (x : S1x384x128.Idx) :
    payDk bS bP (View.ld X6 (Rect.unit o7 S1x1x384.size h7)) (View.ld X0 (Rect.unit o0 S64x384.size h0)) (View.ld X7 (Rect.unit o7 S1x1x384.size h7)) (View.ld X5 (Rect.unit o7 S1x1x384.size h7)) bA x
      = dkUp X0 X5 X6 X7 S P j A ((rD g).emb x) := by
  obtain ⟨a, k, d, rfl⟩ := ex3 x
  rw [payDk_apply]
  simp only [hS, hP, hA, embS, embD, ldL g j X7 h7 e7, ldL g j X6 h7 e7, ldL g j X5 h7 e7, ldQ g j X0 h0 e0]
  rfl

include hS hP in
theorem payDq_slab (h7) (e7 : o7 = ![g.val, 0, 384 * j.val]) (bK : Vec Ideal S1x80x384 .bf16) (K : BK) (hK : ∀ x, bK x = K ((rK g).emb x))
    (bA : Vec Ideal S1x80x384 .f32) (A : BA) (hA : ∀ x, bA x = A ((rA j g).emb x)) (x : S1x80x384.Idx) :
    payDq bS bP (View.ld X6 (Rect.unit o7 S1x1x384.size h7)) bK bA x = dqUp X6 K S P j A ((rA j g).emb x) := by
  obtain ⟨a, r, q, rfl⟩ := ex3 x
  rw [payDq_apply]
  simp only [hS, hP, hA, hK, embS, embK, embA, ldL g j X6 h7 e7]
  exact (dqUp_col X6 K S P j A g r q).symm

end Slabs

/-- Slabs of different heads share no index. -/
theorem slab_dis {n1 n2 : ℕ} {j m1 m2 : ℕ} (h : ∀ g : Fin 8, ∀ a, (![g.val, 0, j] : Fin 3 → ℕ) a + (![1, m1, m2] : Fin 3 → ℕ) a ≤ (⟨3, ![8, n1, n2]⟩ : Shape).size a) (g g' : Fin 8) (hg : g' < g)
    (x : (Rect.unit (s := ⟨3, ![8, n1, n2]⟩) ![g.val, 0, j] ![1, m1, m2] (h g)).shape.Idx) :
    (Rect.unit (s := ⟨3, ![8, n1, n2]⟩) ![g.val, 0, j] ![1, m1, m2] (h g)).emb x ∉ (Rect.unit (s := ⟨3, ![8, n1, n2]⟩) ![g'.val, 0, j] ![1, m1, m2] (h g')).set := by
  intro hm
  have h0 := (Rect.mem_set_unit.mp hm 0).2
  rw [Rect.emb_apply] at h0
  have : g.val + 1 * (x 0).val < g'.val + 1 := h0
  have : g'.val < g.val := hg
  omega

/-- Every index lies in its head's slab. -/
theorem slab_mem {n1 n2 : ℕ} (h : ∀ g : Fin 8, ∀ a, (![g.val, 0, 0] : Fin 3 → ℕ) a + (![1, n1, n2] : Fin 3 → ℕ) a ≤ (⟨3, ![8, n1, n2]⟩ : Shape).size a) (y : (⟨3, ![8, n1, n2]⟩ : Shape).Idx) :
    y ∈ (Rect.unit (s := ⟨3, ![8, n1, n2]⟩) ![(y 0).val, 0, 0] ![1, n1, n2] (h (y 0))).set := by
  rw [Rect.mem_set_unit]
  intro a
  match a with
  | 0 => exact ⟨le_rfl, Nat.lt_succ_self _⟩
  | 1 => exact ⟨Nat.zero_le _, lt_of_lt_of_eq (y 1).isLt (Nat.zero_add _).symm⟩
  | 2 => exact ⟨Nat.zero_le _, lt_of_lt_of_eq (y 2).isLt (Nat.zero_add _).symm⟩

/-- An index outside every head's slab of tile `j` is in another tile's columns. -/
theorem dqUp_out (X6 : BL) (K : BK) (S P : BS) (j : Fin 11) (A : BA) (y : S8x80x4224.Idx) (hy : ∀ g, y ∉ (rA j g).set) : dqUp X6 K S P j A y = A y := by
  refine dif_neg fun h => hy (y 0) ?_
  rw [Rect.mem_set_unit]
  intro a
  match a with
  | 0 => exact ⟨le_rfl, Nat.lt_succ_self _⟩
  | 1 => exact ⟨Nat.zero_le _, lt_of_lt_of_eq (y 1).isLt (Nat.zero_add _).symm⟩
  | 2 => exact h

end Cert.AttnTile
-- ==== Proof.AttnTrip.lean ====
/-
  One trip of the attention gradient kernel's loop, and the whole loop, read off the buffers: a trip takes the scores and products of
  tile `i + k` into the gradients and computes those of the next tile.
-/
module

public import proofs.«01_k».proof.Proof.AttnTile
public import proofs.«01_k».proof.Proof.Gen.AttnKernelIdeal.Loops

@[expose] public section

set_option maxRecDepth 65536

noncomputable section

namespace Cert.AttnTrip

open Cert.AttnKernelIdeal Cert.AttnHead Cert.AttnBuffers Cert.AttnTile
open Idealize.ShloMosaic
open Idealize.ShloMosaic.View (ld)

/-- What a trip is run with: the grid point, the windows and scratch buffers, the contents of those it reads. -/
structure Env where
  𝒱 : Variants
  c : Dev nD
  bd : Option 𝒱.V
  i : grid0.Coords
  arg1 : Memref sig .tc .vmem S512x4224 .bf16
  harg1 : arg1.IsWhole
  arg2 : Memref sig .tc .vmem S8x384x128 .bf16
  harg2 : arg2.IsWhole
  arg3 : Memref sig .tc .vmem S8x384x64 .bf16
  harg3 : arg3.IsWhole
  arg4 : Memref sig .tc .vmem S512x384 .bf16
  harg4 : arg4.IsWhole
  arg5 : Memref sig .tc .vmem S512x4224 .bf16
  harg5 : arg5.IsWhole
  arg6 : Memref sig .tc .vmem S8x1x4224 .f32
  harg6 : arg6.IsWhole
  arg7 : Memref sig .tc .vmem S8x1x4224 .f32
  harg7 : arg7.IsWhole
  arg8 : Memref sig .tc .vmem S8x1x4224 .f32
  harg8 : arg8.IsWhole
  arg9 : Memref sig .tc .hbm S8x128 .f32
  harg9 : arg9.IsWhole
  arg10 : Memref sig .tc .vmem S512x4224 .bf16
  harg10 : arg10.IsWhole
  arg11 : Memref sig .tc .vmem S512x384 .bf16
  harg11 : arg11.IsWhole
  arg12 : Memref sig .tc .vmem S512x384 .bf16
  harg12 : arg12.IsWhole
  arg13 : Memref sig .tc .vmem S8x1x384 .f32
  harg13 : arg13.IsWhole
  arg14 : Memref sig .tc .vmem S8x1x4224 .f32
  harg14 : arg14.IsWhole
  arg15 : Memref sig .tc .vmem S8x80x4224 .f32
  harg15 : arg15.IsWhole
  arg16 : Memref sig .tc .vmem S8x80x384 .bf16
  harg16 : arg16.IsWhole
  arg17 : Memref sig .tc .vmem S8x384x384 .f32
  harg17 : arg17.IsWhole
  arg18 : Memref sig .tc .vmem S8x384x384 .f32
  harg18 : arg18.IsWhole
  arg19 : Memref sig .tc .vmem S8x384x128 .f32
  harg19 : arg19.IsWhole
  arg20 : Memref sig .tc .vmem S8x384x128 .f32
  harg20 : arg20.IsWhole
  arg0 : BitVec 32
  v381 : FVec Ideal S384x128 .bf16
  v391 : FVec Ideal S64x384 .bf16
  v392 : FVec Ideal S1x384 .f32
  v393 : FVec Ideal S1x384 .f32
  v395 : FVec Ideal S1x384 .f32
  v398 : FVec Ideal S1x384 .f32
  v400 : FVec Ideal S1x384 .bf16
  X_arg1 : BufTy.Contents (Elt Ideal) arg1.view.ty
  X_arg2 : BufTy.Contents (Elt Ideal) arg2.view.ty
  X_arg3 : BufTy.Contents (Elt Ideal) arg3.view.ty
  X_arg5 : BufTy.Contents (Elt Ideal) arg5.view.ty
  X_arg6 : BufTy.Contents (Elt Ideal) arg6.view.ty
  X_arg7 : BufTy.Contents (Elt Ideal) arg7.view.ty
  X_arg8 : BufTy.Contents (Elt Ideal) arg8.view.ty
  X_arg16 : BufTy.Contents (Elt Ideal) arg16.view.ty

variable (e : Env)

abbrev Env.x1 : BQ := e.arg1.view.read (Elt Ideal) e.X_arg1
abbrev Env.x2 : Vec Ideal S8x384x128 .bf16 := e.arg2.view.read (Elt Ideal) e.X_arg2
abbrev Env.x3 : Vec Ideal S8x384x64 .bf16 := e.arg3.view.read (Elt Ideal) e.X_arg3
abbrev Env.x5 : BQ := e.arg5.view.read (Elt Ideal) e.X_arg5
abbrev Env.x6 : BL := e.arg6.view.read (Elt Ideal) e.X_arg6
abbrev Env.x7 : BL := e.arg7.view.read (Elt Ideal) e.X_arg7
abbrev Env.x8 : BL := e.arg8.view.read (Elt Ideal) e.X_arg8
abbrev Env.x16 : BK := e.arg16.view.read (Elt Ideal) e.X_arg16

variable (f15 : BufTy.Contents (Elt Ideal) e.arg15.view.ty) (f17 : BufTy.Contents (Elt Ideal) e.arg17.view.ty) (f18 : BufTy.Contents (Elt Ideal) e.arg18.view.ty)
  (f19 : BufTy.Contents (Elt Ideal) e.arg19.view.ty) (f20 : BufTy.Contents (Elt Ideal) e.arg20.view.ty)

abbrev Env.trip (k : Fin (k0_t1_loop e.i).trips) :=
  Gen.tripL_k0_t1 (F := Ideal) e.𝒱 e.c e.bd e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg0 zpad e.v381 e.v391 e.v392 e.v393 e.v395 e.v398 e.v400 e.X_arg1 e.X_arg2 e.X_arg3 e.X_arg5 e.X_arg6 e.X_arg7 e.X_arg8 e.X_arg16 k f15 f17 f18 f19 f20

abbrev Env.loop (n : ℕ) :=
  Gen.pb_k0_t1 (F := Ideal) e.𝒱 e.c e.bd e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg0 zpad e.v381 e.v391 e.v392 e.v393 e.v395 e.v398 e.v400 e.X_arg1 e.X_arg2 e.X_arg3 e.X_arg5 e.X_arg6 e.X_arg7 e.X_arg8 e.X_arg16 f15 f17 f18 f19 f20 n

/-- Stores one after another over a list of stores. -/
def stack {α : Type} (base : List α) (p : Fin 8 → α) (n : Fin 9) : List α := Fin.induction base (fun g l => p g :: l) n

section Offsets

variable (i : grid0.Coords) (k : Fin (k0_t1_loop i).trips) (g : Fin 8)

abbrev offL : Fin 3 → ℕ := ![k0_off17 i k, k0_off20 i k, k0_off23 i k, k0_off26 i k, k0_off29 i k, k0_off32 i k, k0_off35 i k, k0_off38 i k] g
abbrev offQ : Fin 2 → ℕ := ![k0_off18 i k, k0_off21 i k, k0_off24 i k, k0_off27 i k, k0_off30 i k, k0_off33 i k, k0_off36 i k, k0_off39 i k] g
abbrev offA : Fin 3 → ℕ := ![k0_off19 i k, k0_off22 i k, k0_off25 i k, k0_off28 i k, k0_off31 i k, k0_off34 i k, k0_off37 i k, k0_off40 i k] g
abbrev offNQ : Fin 2 → ℕ := ![k0_off41 i k, k0_off43 i k, k0_off45 i k, k0_off47 i k, k0_off49 i k, k0_off51 i k, k0_off53 i k, k0_off55 i k] g
abbrev offNL : Fin 3 → ℕ := ![k0_off42 i k, k0_off44 i k, k0_off46 i k, k0_off48 i k, k0_off50 i k, k0_off52 i k, k0_off54 i k, k0_off56 i k] g

theorem offL_inb : ∀ a, offL i k g a + S1x1x384.size a ≤ S8x1x4224.size a := by
  match g with
  | 0 => exact Gen.k0_off17_inb i k
  | 1 => exact Gen.k0_off20_inb i k
  | 2 => exact Gen.k0_off23_inb i k
  | 3 => exact Gen.k0_off26_inb i k
  | 4 => exact Gen.k0_off29_inb i k
  | 5 => exact Gen.k0_off32_inb i k
  | 6 => exact Gen.k0_off35_inb i k
  | 7 => exact Gen.k0_off38_inb i k

theorem offL_eq : offL i k g = ![g.val, 0, 384 * (i 0).val + 384 * k.val] := by
  match g with
  | 0 => exact Gen.k0_off17_eq i k
  | 1 => exact Gen.k0_off20_eq i k
  | 2 => exact Gen.k0_off23_eq i k
  | 3 => exact Gen.k0_off26_eq i k
  | 4 => exact Gen.k0_off29_eq i k
  | 5 => exact Gen.k0_off32_eq i k
  | 6 => exact Gen.k0_off35_eq i k
  | 7 => exact Gen.k0_off38_eq i k

theorem offQ_inb : ∀ a, offQ i k g a + S64x384.size a ≤ S512x4224.size a := by
  match g with
  | 0 => exact Gen.k0_off18_inb i k
  | 1 => exact Gen.k0_off21_inb i k
  | 2 => exact Gen.k0_off24_inb i k
  | 3 => exact Gen.k0_off27_inb i k
  | 4 => exact Gen.k0_off30_inb i k
  | 5 => exact Gen.k0_off33_inb i k
  | 6 => exact Gen.k0_off36_inb i k
  | 7 => exact Gen.k0_off39_inb i k

theorem offQ_eq : offQ i k g = ![64 * g.val, 384 * (i 0).val + 384 * k.val] := by
  match g with
  | 0 => exact Gen.k0_off18_eq i k
  | 1 => exact Gen.k0_off21_eq i k
  | 2 => exact Gen.k0_off24_eq i k
  | 3 => exact Gen.k0_off27_eq i k
  | 4 => exact Gen.k0_off30_eq i k
  | 5 => exact Gen.k0_off33_eq i k
  | 6 => exact Gen.k0_off36_eq i k
  | 7 => exact Gen.k0_off39_eq i k

theorem offA_inb : ∀ a, offA i k g a + S1x80x384.size a ≤ S8x80x4224.size a := by
  match g with
  | 0 => exact Gen.k0_off19_inb i k
  | 1 => exact Gen.k0_off22_inb i k
  | 2 => exact Gen.k0_off25_inb i k
  | 3 => exact Gen.k0_off28_inb i k
  | 4 => exact Gen.k0_off31_inb i k
  | 5 => exact Gen.k0_off34_inb i k
  | 6 => exact Gen.k0_off37_inb i k
  | 7 => exact Gen.k0_off40_inb i k

theorem offA_eq : offA i k g = ![g.val, 0, 384 * (i 0).val + 384 * k.val] := by
  match g with
  | 0 => exact Gen.k0_off19_eq i k
  | 1 => exact Gen.k0_off22_eq i k
  | 2 => exact Gen.k0_off25_eq i k
  | 3 => exact Gen.k0_off28_eq i k
  | 4 => exact Gen.k0_off31_eq i k
  | 5 => exact Gen.k0_off34_eq i k
  | 6 => exact Gen.k0_off37_eq i k
  | 7 => exact Gen.k0_off40_eq i k

theorem offNQ_inb : ∀ a, offNQ i k g a + S64x384.size a ≤ S512x4224.size a := by
  match g with
  | 0 => exact Gen.k0_off41_inb i k
  | 1 => exact Gen.k0_off43_inb i k
  | 2 => exact Gen.k0_off45_inb i k
  | 3 => exact Gen.k0_off47_inb i k
  | 4 => exact Gen.k0_off49_inb i k
  | 5 => exact Gen.k0_off51_inb i k
  | 6 => exact Gen.k0_off53_inb i k
  | 7 => exact Gen.k0_off55_inb i k

theorem offNQ_eq : offNQ i k g = ![64 * g.val, 384 * (i 0).val + 384 * k.val + 384] := by
  match g with
  | 0 => exact Gen.k0_off41_eq i k
  | 1 => exact Gen.k0_off43_eq i k
  | 2 => exact Gen.k0_off45_eq i k
  | 3 => exact Gen.k0_off47_eq i k
  | 4 => exact Gen.k0_off49_eq i k
  | 5 => exact Gen.k0_off51_eq i k
  | 6 => exact Gen.k0_off53_eq i k
  | 7 => exact Gen.k0_off55_eq i k

theorem offNL_inb : ∀ a, offNL i k g a + S1x1x384.size a ≤ S8x1x4224.size a := by
  match g with
  | 0 => exact Gen.k0_off42_inb i k
  | 1 => exact Gen.k0_off44_inb i k
  | 2 => exact Gen.k0_off46_inb i k
  | 3 => exact Gen.k0_off48_inb i k
  | 4 => exact Gen.k0_off50_inb i k
  | 5 => exact Gen.k0_off52_inb i k
  | 6 => exact Gen.k0_off54_inb i k
  | 7 => exact Gen.k0_off56_inb i k

theorem offNL_eq : offNL i k g = ![g.val, 0, 384 * (i 0).val + 384 * k.val + 384] := by
  match g with
  | 0 => exact Gen.k0_off42_eq i k
  | 1 => exact Gen.k0_off44_eq i k
  | 2 => exact Gen.k0_off46_eq i k
  | 3 => exact Gen.k0_off48_eq i k
  | 4 => exact Gen.k0_off50_eq i k
  | 5 => exact Gen.k0_off52_eq i k
  | 6 => exact Gen.k0_off54_eq i k
  | 7 => exact Gen.k0_off56_eq i k

end Offsets

theorem trips_eq : ∀ i : grid0.Coords, (k0_t1_loop i).trips = 10 - (i 0).val := by decide +kernel

variable (k : Fin (k0_t1_loop e.i).trips)

abbrev Env.rq (g : Fin 8) : Rect S512x4224 := Rect.unit (offQ e.i k g) S64x384.size (offQ_inb e.i k g)
abbrev Env.rl (g : Fin 8) : Rect S8x1x4224 := Rect.unit (offL e.i k g) S1x1x384.size (offL_inb e.i k g)
abbrev Env.ra (g : Fin 8) : Rect S8x80x4224 := Rect.unit (offA e.i k g) S1x80x384.size (offA_inb e.i k g)
abbrev Env.rnq (g : Fin 8) : Rect S512x4224 := Rect.unit (offNQ e.i k g) S64x384.size (offNQ_inb e.i k g)
abbrev Env.rnl (g : Fin 8) : Rect S8x1x4224 := Rect.unit (offNL e.i k g) S1x1x384.size (offNL_inb e.i k g)
abbrev rV (g : Fin 8) : Rect S8x384x64 := Rect.unit ![g.val, 0, 0] ![1, 384, 64] (by intro a; fin_cases a <;> simp <;> omega)

theorem list15 : (e.trip f15 f17 f18 f19 f20 k).1 = stack [] (fun g => ⟨e.ra k g, payDq (ld (e.arg17.view.read (Elt Ideal) f17) (rS g)) (ld (e.arg18.view.read (Elt Ideal) f18) (rS g))
    (ld e.x7 (e.rl k g)) (ld e.x16 (rK g)) (ld (e.arg15.view.read (Elt Ideal) f15) (e.ra k g))⟩) (Fin.last 8) := by
  unfold Env.trip Gen.tripL_k0_t1 Gen.trip_k0_t1
  rfl

theorem list17 : (e.trip f15 f17 f18 f19 f20 k).2.1 = stack [] (fun g => ⟨rS g, payS (ld e.x2 (rD g)) (ld e.x1 (e.rnq k g)) (ld e.x8 (e.rnl k g)) (ld e.x6 (e.rnl k g))⟩) (Fin.last 8) := by
  unfold Env.trip Gen.tripL_k0_t1 Gen.trip_k0_t1
  rfl

theorem list18 : (e.trip f15 f17 f18 f19 f20 k).2.2.1 = stack [] (fun g => ⟨rS g, payP (ld e.x3 (rV g)) (ld e.x5 (e.rnq k g))⟩) (Fin.last 8) := by
  unfold Env.trip Gen.tripL_k0_t1 Gen.trip_k0_t1
  rfl

theorem list19 : (e.trip f15 f17 f18 f19 f20 k).2.2.2.1 = stack [] (fun g => ⟨rD g, payDv (ld (e.arg17.view.read (Elt Ideal) f17) (rS g))
    (ld e.x5 (e.rq k g)) (ld (e.arg19.view.read (Elt Ideal) f19) (rD g))⟩) (Fin.last 8) := by
  unfold Env.trip Gen.tripL_k0_t1 Gen.trip_k0_t1
  rfl

theorem list20 : (e.trip f15 f17 f18 f19 f20 k).2.2.2.2 = stack [] (fun g => ⟨rD g, payDk (ld (e.arg17.view.read (Elt Ideal) f17) (rS g)) (ld (e.arg18.view.read (Elt Ideal) f18) (rS g))
    (ld e.x7 (e.rl k g)) (ld e.x1 (e.rq k g)) (ld e.x8 (e.rl k g)) (ld e.x6 (e.rl k g)) (ld (e.arg20.view.read (Elt Ideal) f20) (rD g))⟩) (Fin.last 8) := by
  unfold Env.trip Gen.tripL_k0_t1 Gen.trip_k0_t1
  rfl

/-- Eight stores, none of which reads another: the buffer reads what they write where their rectangles lie. -/
theorem stores8 {sig : RefSig} {κ : Kind} {sp : Space} {s : Shape} {t : EltTy} {Val : EltTy → Type} (v : View sig κ sp s t) (f : v.ty.Contents Val) (r : Fin 8 → Rect s) (w : ∀ g, (r g).shape.Idx → Val t)
    (D' : s.Idx → Val t) (hdis : ∀ g g' : Fin 8, g' < g → ∀ x, (r g).emb x ∉ (r g').set) (hw : ∀ g x, w g x = D' ((r g).emb x))
    (hout : ∀ y, (∀ g, y ∉ (r g).set) → D' y = v.read Val f y) : v.read Val (v.writes Val f (stack [] (fun g => ⟨r g, w g⟩) (Fin.last 8))) = D' :=
  funext fun y => chain v f (stack [] fun g => ⟨r g, w g⟩) r w (fun _ => rfl) (v.read Val f) D' (fun _ => rfl) hdis (fun g _ x => hw g x) hout y

theorem stackCongr {s : Shape} {Val : EltTy → Type} {t : EltTy} {sz : Fin s.rank → ℕ} {off off' : Fin 8 → Fin s.rank → ℕ} (h : ∀ g, off g = off' g) (hi : ∀ g a, off g a + sz a ≤ s.size a) (hi' : ∀ g a, off' g a + sz a ≤ s.size a)
    (w : ∀ _ : Fin 8, (⟨s.rank, sz⟩ : Shape).Idx → Val t) :
    stack [] (fun g => (⟨Rect.unit (s := s) (off g) sz (hi g), w g⟩ : View.Piece Val s t)) (Fin.last 8) = stack [] (fun g => ⟨Rect.unit (off' g) sz (hi' g), w g⟩) (Fin.last 8) := by
  obtain rfl : off = off' := funext h
  rfl

variable (j : Fin 11) (hj : j.val = (e.i 0).val + k.val)

include hj in
theorem qEq (g : Fin 8) : offQ e.i k g = ![64 * g.val, 384 * j.val] := (offQ_eq e.i k g).trans (by rw [hj, Nat.mul_add])
include hj in
theorem lEq (g : Fin 8) : offL e.i k g = ![g.val, 0, 384 * j.val] := (offL_eq e.i k g).trans (by rw [hj, Nat.mul_add])
include hj in
theorem aEq (g : Fin 8) : offA e.i k g = ![g.val, 0, 384 * j.val] := (offA_eq e.i k g).trans (by rw [hj, Nat.mul_add])

variable (j' : Fin 11) (hj' : j'.val = (e.i 0).val + k.val + 1)

include hj' in
theorem nqEq (g : Fin 8) : offNQ e.i k g = ![64 * g.val, 384 * j'.val] := (offNQ_eq e.i k g).trans (by rw [hj', Nat.mul_add, Nat.mul_add])
include hj' in
theorem nlEq (g : Fin 8) : offNL e.i k g = ![g.val, 0, 384 * j'.val] := (offNL_eq e.i k g).trans (by rw [hj', Nat.mul_add, Nat.mul_add])

theorem disS (g g' : Fin 8) (hg : g' < g) (x) : (rS g).emb x ∉ (rS g').set := slab_dis (fun g => by intro a; fin_cases a <;> simp <;> omega) g g' hg x
theorem disD (g g' : Fin 8) (hg : g' < g) (x) : (rD g).emb x ∉ (rD g').set := slab_dis (fun g => by intro a; fin_cases a <;> simp <;> omega) g g' hg x
theorem disK (g g' : Fin 8) (hg : g' < g) (x) : (rK g).emb x ∉ (rK g').set := slab_dis (fun g => by intro a; fin_cases a <;> simp <;> omega) g g' hg x
theorem disA (j : Fin 11) (g g' : Fin 8) (hg : g' < g) (x) : (rA j g).emb x ∉ (rA j g').set := slab_dis (fun g => by intro a; fin_cases a <;> simp <;> omega) g g' hg x

theorem outS {α : Type} (y : S8x384x384.Idx) (hy : ∀ g, y ∉ (rS g).set) (a b : α) : a = b := absurd (slab_mem (fun g => by intro a; fin_cases a <;> simp <;> omega) y) (hy _)
theorem outD {α : Type} (y : S8x384x128.Idx) (hy : ∀ g, y ∉ (rD g).set) (a b : α) : a = b := absurd (slab_mem (fun g => by intro a; fin_cases a <;> simp <;> omega) y) (hy _)
theorem outK {α : Type} (y : S8x80x384.Idx) (hy : ∀ g, y ∉ (rK g).set) (a b : α) : a = b := absurd (slab_mem (fun g => by intro a; fin_cases a <;> simp <;> omega) y) (hy _)

include hj' in
theorem trip17 : e.arg17.view.read (Elt Ideal) (e.arg17.view.writes (Elt Ideal) f17 (e.trip f15 f17 f18 f19 f20 k).2.1) = sc e.x1 e.x2 e.x6 e.x8 j' := by
  rw [list17]
  exact stores8 _ _ rS _ _ disS (fun g x => payS_slab g j' e.x1 e.x2 e.x6 e.x8 _ _ _ rfl (nqEq e k j' hj' g) (nlEq e k j' hj' g) x) fun y hy => outS y hy _ _

include hj' in
theorem trip18 : e.arg18.view.read (Elt Ideal) (e.arg18.view.writes (Elt Ideal) f18 (e.trip f15 f17 f18 f19 f20 k).2.2.1) = dp e.x3 e.x5 j' := by
  rw [list18]
  exact stores8 _ _ rS _ _ disS (fun g x => payP_slab g j' e.x5 e.x3 _ _ rfl (nqEq e k j' hj' g) x) fun y hy => outS y hy _ _

include hj in
theorem trip19 : e.arg19.view.read (Elt Ideal) (e.arg19.view.writes (Elt Ideal) f19 (e.trip f15 f17 f18 f19 f20 k).2.2.2.1)
    = dvUp (e.arg17.view.read (Elt Ideal) f17) e.x5 j (e.arg19.view.read (Elt Ideal) f19) := by
  rw [list19]
  exact stores8 _ _ rD _ _ disD (fun g x => payDv_slab g j e.x5 _ _ (fun _ => rfl) _ (qEq e k j hj g) _ _ (fun _ => rfl) x) fun y hy => outD y hy _ _

include hj in
theorem trip20 : e.arg20.view.read (Elt Ideal) (e.arg20.view.writes (Elt Ideal) f20 (e.trip f15 f17 f18 f19 f20 k).2.2.2.2)
    = dkUp e.x1 e.x6 e.x7 e.x8 (e.arg17.view.read (Elt Ideal) f17) (e.arg18.view.read (Elt Ideal) f18) j (e.arg20.view.read (Elt Ideal) f20) := by
  rw [list20]
  exact stores8 _ _ rD _ _ disD (fun g x => payDk_slab g j e.x1 e.x6 e.x7 e.x8 _ _ _ _ (fun _ => rfl) (fun _ => rfl) _ _ (qEq e k j hj g) (lEq e k j hj g) _ _ (fun _ => rfl) x) fun y hy => outD y hy _ _

include hj in
theorem trip15 : e.arg15.view.read (Elt Ideal) (e.arg15.view.writes (Elt Ideal) f15 (e.trip f15 f17 f18 f19 f20 k).1)
    = dqUp e.x7 e.x16 (e.arg17.view.read (Elt Ideal) f17) (e.arg18.view.read (Elt Ideal) f18) j (e.arg15.view.read (Elt Ideal) f15) := by
  rw [list15]
  refine (congrArg (fun L => e.arg15.view.read (Elt Ideal) (e.arg15.view.writes (Elt Ideal) f15 L)) (stackCongr (aEq e k j hj) _ (fun g => by intro a; fin_cases a <;> simp <;> omega) _)).trans ?_
  refine stores8 _ _ (rA j) _ _ (disA j) (fun g x => payDq_slab g j e.x7 _ _ _ _ (fun _ => rfl) (fun _ => rfl) _ (lEq e k j hj g) _ _ (fun _ => rfl) _ _ (fun x => ?_) x) fun y hy => dqUp_out _ _ _ _ _ _ y hy
  have h := aEq e k j hj g
  have hi := offA_inb e.i k g
  show e.arg15.view.read (Elt Ideal) f15 ((Rect.unit (s := S8x80x4224) (offA e.i k g) S1x80x384.size hi).emb x) = _
  generalize offA e.i k g = o at h hi
  subst h
  rfl

end Cert.AttnTrip
-- ==== Proof.AttnLoop.lean ====
/-
  The attention gradient kernel's loop over the tiles of queries at one grid point: what the buffers read after any number of trips.
-/
module

public import proofs.«01_k».proof.Proof.AttnTrip

@[expose] public section

set_option maxRecDepth 65536

noncomputable section

namespace Cert.AttnLoop

open Cert.AttnKernelIdeal Cert.AttnTile Cert.AttnTrip
open Idealize.ShloMosaic

/-- The windows at one grid point, the keys already over their rows of ones. -/
structure Win where
  q : BQ
  ka : Vec Ideal S8x384x128 .bf16
  v : Vec Ideal S8x384x64 .bf16
  kt : BK
  dout : BQ
  ls : BL
  dd : BL
  cq : BL

variable (W : Win) (j0 : Fin 11)

/-- The scores of tile `j` where the keys' own tile is `j0`. -/
def Win.S (j : Fin 11) : BS := if j = j0 then sm W.q W.ka W.ls W.cq j else sc W.q W.ka W.ls W.cq j

def Win.P (j : Fin 11) : BS := AttnTile.dp W.v W.dout j

def Win.upV (j : Fin 11) (A : BD) : BD := dvUp (W.S j0 j) W.dout j A
def Win.upK (j : Fin 11) (A : BD) : BD := dkUp W.q W.ls W.dd W.cq (W.S j0 j) (W.P j) j A
def Win.upQ (j : Fin 11) (A : BA) : BA := dqUp W.dd W.kt (W.S j0 j) (W.P j) j A

/-- Tile `j0 + n`. -/
def tile (n : ℕ) : Fin 11 := ⟨min (j0.val + n) 10, by omega⟩

def iter {α : Type} (f : Fin 11 → α → α) : ℕ → α → α
  | 0, a => a
  | n + 1, a => f (tile j0 n) (iter f n a)

variable (e : Env)

abbrev Env.win : Win := ⟨e.x1, e.x2, e.x3, e.x16, e.x5, e.x6, e.x7, e.x8⟩

theorem loop_reads (hj0 : j0.val = (e.i 0).val) (f15 : BufTy.Contents (Elt Ideal) e.arg15.view.ty) (f17 : BufTy.Contents (Elt Ideal) e.arg17.view.ty) (f18 : BufTy.Contents (Elt Ideal) e.arg18.view.ty)
    (f19 : BufTy.Contents (Elt Ideal) e.arg19.view.ty) (f20 : BufTy.Contents (Elt Ideal) e.arg20.view.ty)
    (h17 : e.arg17.view.read (Elt Ideal) f17 = (Env.win e).S j0 j0) (h18 : e.arg18.view.read (Elt Ideal) f18 = (Env.win e).P j0) (n : ℕ) (hn : n ≤ (k0_t1_loop e.i).trips) :
    e.arg15.view.read (Elt Ideal) (e.arg15.view.writes (Elt Ideal) f15 (e.loop f15 f17 f18 f19 f20 n).1) = iter j0 ((Env.win e).upQ j0) n (e.arg15.view.read (Elt Ideal) f15)
    ∧ e.arg17.view.read (Elt Ideal) (e.arg17.view.writes (Elt Ideal) f17 (e.loop f15 f17 f18 f19 f20 n).2.1) = (Env.win e).S j0 (tile j0 n)
    ∧ e.arg18.view.read (Elt Ideal) (e.arg18.view.writes (Elt Ideal) f18 (e.loop f15 f17 f18 f19 f20 n).2.2.1) = (Env.win e).P (tile j0 n)
    ∧ e.arg19.view.read (Elt Ideal) (e.arg19.view.writes (Elt Ideal) f19 (e.loop f15 f17 f18 f19 f20 n).2.2.2.1) = iter j0 ((Env.win e).upV j0) n (e.arg19.view.read (Elt Ideal) f19)
    ∧ e.arg20.view.read (Elt Ideal) (e.arg20.view.writes (Elt Ideal) f20 (e.loop f15 f17 f18 f19 f20 n).2.2.2.2) = iter j0 ((Env.win e).upK j0) n (e.arg20.view.read (Elt Ideal) f20) := by
  induction n with
  | zero =>
    have ht : tile j0 0 = j0 := Fin.ext (by show min (j0.val + 0) 10 = j0.val; omega)
    rw [ht]
    exact ⟨rfl, h17, h18, rfl, rfl⟩
  | succ n ih =>
    obtain ⟨i15, i17, i18, i19, i20⟩ := ih (Nat.le_of_succ_le hn)
    have hk : n < (k0_t1_loop e.i).trips := hn
    have htr := trips_eq e.i
    have hj : (tile j0 n).val = (e.i 0).val + (⟨n, hk⟩ : Fin (k0_t1_loop e.i).trips).val := by
      show min (j0.val + n) 10 = (e.i 0).val + n
      omega
    have hj' : (tile j0 (n + 1)).val = (e.i 0).val + (⟨n, hk⟩ : Fin (k0_t1_loop e.i).trips).val + 1 := by
      show min (j0.val + (n + 1)) 10 = (e.i 0).val + n + 1
      omega
    have hne : tile j0 (n + 1) ≠ j0 := fun h => by
      have := congrArg Fin.val h
      rw [hj'] at this
      simp at this
      omega
    have hs := Gen.pb_k0_t1_succ (F := Ideal) e.𝒱 e.c e.bd e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg0 AttnHead.zpad e.v381 e.v391 e.v392 e.v393 e.v395 e.v398 e.v400 e.X_arg1 e.X_arg2 e.X_arg3 e.X_arg5 e.X_arg6 e.X_arg7 e.X_arg8 e.X_arg16 f15 f17 f18 f19 f20 ⟨n, hk⟩
    unfold Env.loop
    rw [show n + 1 = (⟨n, hk⟩ : Fin (k0_t1_loop e.i).trips).val + 1 from rfl, hs]
    simp only [View.writes_append]
    refine ⟨?_, ?_, ?_, ?_, ?_⟩
    · refine (trip15 e _ _ _ _ _ _ _ hj).trans ?_
      rw [i15, i17, i18]
      rfl
    · refine (trip17 e _ _ _ _ _ _ _ hj').trans ?_
      exact (if_neg hne).symm
    · exact trip18 e _ _ _ _ _ _ _ hj'
    · refine (trip19 e _ _ _ _ _ _ _ hj).trans ?_
      rw [i17, i19]
      rfl
    · refine (trip20 e _ _ _ _ _ _ _ hj).trans ?_
      rw [i17, i18, i20]
      rfl

end Cert.AttnLoop
-- ==== Proof.AttnPoint.lean ====
/-
  One grid point of the attention gradient kernel: the scores of the keys' own tile, the loop, the last tile, and what is written out.
-/
module

public import proofs.«01_k».proof.Proof.AttnLoop
public import Idealize.ShloMosaic.Lib.Pointwise

@[expose] public section

set_option maxRecDepth 65536

noncomputable section

namespace Cert.AttnPoint

open Cert.AttnKernelIdeal Cert.AttnHead Cert.AttnBuffers Cert.AttnTile Cert.AttnTrip Cert.AttnLoop
open Idealize.ShloMosaic
open Idealize.ShloMosaic.View (ld)

section Diagonal

variable (i : grid0.Coords) (g : Fin 8)

/-- Where the point's own tile of queries lies, by head. -/
abbrev offMQ : Fin 2 → ℕ := ![k0_off1 i, k0_off3 i, k0_off5 i, k0_off7 i, k0_off9 i, k0_off11 i, k0_off13 i, k0_off15 i] g
abbrev offML : Fin 3 → ℕ := ![k0_off2 i, k0_off4 i, k0_off6 i, k0_off8 i, k0_off10 i, k0_off12 i, k0_off14 i, k0_off16 i] g

theorem offMQ_inb : ∀ a, offMQ i g a + S64x384.size a ≤ S512x4224.size a := by
  match g with
  | 0 => exact Gen.k0_off1_inb i
  | 1 => exact Gen.k0_off3_inb i
  | 2 => exact Gen.k0_off5_inb i
  | 3 => exact Gen.k0_off7_inb i
  | 4 => exact Gen.k0_off9_inb i
  | 5 => exact Gen.k0_off11_inb i
  | 6 => exact Gen.k0_off13_inb i
  | 7 => exact Gen.k0_off15_inb i

theorem offMQ_eq : offMQ i g = ![64 * g.val, 384 * (i 0).val] := by
  match g with
  | 0 => exact Gen.k0_off1_eq i
  | 1 => exact Gen.k0_off3_eq i
  | 2 => exact Gen.k0_off5_eq i
  | 3 => exact Gen.k0_off7_eq i
  | 4 => exact Gen.k0_off9_eq i
  | 5 => exact Gen.k0_off11_eq i
  | 6 => exact Gen.k0_off13_eq i
  | 7 => exact Gen.k0_off15_eq i

theorem offML_inb : ∀ a, offML i g a + S1x1x384.size a ≤ S8x1x4224.size a := by
  match g with
  | 0 => exact Gen.k0_off2_inb i
  | 1 => exact Gen.k0_off4_inb i
  | 2 => exact Gen.k0_off6_inb i
  | 3 => exact Gen.k0_off8_inb i
  | 4 => exact Gen.k0_off10_inb i
  | 5 => exact Gen.k0_off12_inb i
  | 6 => exact Gen.k0_off14_inb i
  | 7 => exact Gen.k0_off16_inb i

theorem offML_eq : offML i g = ![g.val, 0, 384 * (i 0).val] := by
  match g with
  | 0 => exact Gen.k0_off2_eq i
  | 1 => exact Gen.k0_off4_eq i
  | 2 => exact Gen.k0_off6_eq i
  | 3 => exact Gen.k0_off8_eq i
  | 4 => exact Gen.k0_off10_eq i
  | 5 => exact Gen.k0_off12_eq i
  | 6 => exact Gen.k0_off14_eq i
  | 7 => exact Gen.k0_off16_eq i

end Diagonal

/-- Rows of head `g`. -/
abbrev rT (g : Fin 8) : Rect S512x384 := Rect.unit ![64 * g.val, 0] ![64, 384] (by intro a; fin_cases a <;> simp <;> omega)
abbrev rQT (g : Fin 8) : Rect S512x4224 := Rect.unit ![64 * g.val, 0] ![64, 4224] (by intro a; fin_cases a <;> simp <;> omega)
abbrev rLine (g : Fin 8) : Rect S8x1x384 := Rect.unit ![g.val, 0, 0] ![1, 1, 384] (by intro a; fin_cases a <;> simp <;> omega)
abbrev rQLine (g : Fin 8) : Rect S8x1x4224 := Rect.unit ![g.val, 0, 0] ![1, 1, 4224] (by intro a; fin_cases a <;> simp <;> omega)
abbrev rAQ (g : Fin 8) : Rect S8x80x4224 := Rect.unit ![g.val, 0, 0] ![1, 64, 4224] (by intro a; fin_cases a <;> simp <;> omega)
abbrev rAC (g : Fin 8) : Rect S8x80x4224 := Rect.unit ![g.val, 64, 0] ![1, 1, 4224] (by intro a; fin_cases a <;> simp <;> omega)
/-- The last tile of queries. -/
abbrev rEQ (g : Fin 8) : Rect S512x4224 := Rect.unit ![64 * g.val, 3840] ![64, 384] (by intro a; fin_cases a <;> simp <;> omega)
abbrev rEL (g : Fin 8) : Rect S8x1x4224 := Rect.unit ![g.val, 0, 3840] ![1, 1, 384] (by intro a; fin_cases a <;> simp <;> omega)
abbrev rEA (g : Fin 8) : Rect S8x80x4224 := Rect.unit ![g.val, 0, 3840] ![1, 80, 384] (by intro a; fin_cases a <;> simp <;> omega)

def outQ (A : Vec Ideal S1x64x4224 .f32) : FVec Ideal S64x4224 .bf16 := Gen.k0_pay177 (F := Ideal) A
def outD (A : Vec Ideal S1x1x4224 .f32) : FVec Ideal S1x1x4224 .f32 := Gen.k0_pay178 (F := Ideal) A

variable (e : Env)

abbrev Env.mq (g : Fin 8) : Rect S512x4224 := Rect.unit (offMQ e.i g) S64x384.size (offMQ_inb e.i g)
abbrev Env.ml (g : Fin 8) : Rect S8x1x4224 := Rect.unit (offML e.i g) S1x1x384.size (offML_inb e.i g)

def listK (x4 : Vec Ideal S512x384 .bf16) : List (View.Piece (Elt Ideal) S8x80x384 .bf16) := stack [] (fun g => ⟨rK g, payK (ld x4 (rT g))⟩) (Fin.last 8)
def listM : List (View.Piece (Elt Ideal) S8x384x384 .f32) :=
  stack [] (fun g => ⟨rS g, payM (ld e.x2 (rD g)) (ld e.x1 (Env.mq e g)) (ld e.x8 (Env.ml e g)) (ld e.x6 (Env.ml e g))⟩) (Fin.last 8)
def listP : List (View.Piece (Elt Ideal) S8x384x384 .f32) := stack [] (fun g => ⟨rS g, payP (ld e.x3 (rV g)) (ld e.x5 (Env.mq e g))⟩) (Fin.last 8)
def listZ : List (View.Piece (Elt Ideal) S8x384x128 .f32) := [⟨Rect.unit ![0, 0, 0] S8x384x128.size (by decide), Gen.k0_pay204 (F := Ideal)⟩]

abbrev cov {sp : Space} {s : Shape} {t : EltTy} (v : View sig .tc sp s t) (L : List (View.Piece (Elt Ideal) s t)) : s.Idx → Elt Ideal t := v.read (Elt Ideal) (v.writes (Elt Ideal) v.junk L)

variable (b17 b18 : List (View.Piece (Elt Ideal) S8x384x384 .f32)) (G : BufTy.Contents (Elt Ideal) e.arg15.view.ty)

/-- The last tile taken into head `g`'s gradients. -/
def stepV (g : Fin 8) (l : List (View.Piece (Elt Ideal) S8x384x128 .f32)) : List (View.Piece (Elt Ideal) S8x384x128 .f32) :=
  ⟨rD g, payDv (ld (cov e.arg17.view b17) (rS g)) (ld e.x5 (rEQ g)) (ld (cov e.arg19.view l) (rD g))⟩ :: l
def stepK (g : Fin 8) (l : List (View.Piece (Elt Ideal) S8x384x128 .f32)) : List (View.Piece (Elt Ideal) S8x384x128 .f32) :=
  ⟨rD g, payDk (ld (cov e.arg17.view b17) (rS g)) (ld (cov e.arg18.view b18) (rS g)) (ld e.x7 (rEL g)) (ld e.x1 (rEQ g)) (ld e.x8 (rEL g)) (ld e.x6 (rEL g)) (ld (cov e.arg20.view l) (rD g))⟩ :: l
def stepQ (g : Fin 8) (l : List (View.Piece (Elt Ideal) S8x80x4224 .f32)) : List (View.Piece (Elt Ideal) S8x80x4224 .f32) :=
  ⟨rEA g, payDq (ld (cov e.arg17.view b17) (rS g)) (ld (cov e.arg18.view b18) (rS g)) (ld e.x7 (rEL g)) (ld e.x16 (rK g)) (ld (e.arg15.view.read (Elt Ideal) (e.arg15.view.writes (Elt Ideal) G l)) (rEA g))⟩ :: l

/-- All eight heads, one step after another. -/
def all8 {α : Type} (f : Fin 8 → α → α) (a : α) : α := f 7 (f 6 (f 5 (f 4 (f 3 (f 2 (f 1 (f 0 a)))))))

theorem all8_eq {α : Type} (f : Fin 8 → α → α) (a : α) : all8 f a = Fin.induction a f (Fin.last 8) := rfl

variable (A : BD) (B : BA)

def listOutK : List (View.Piece (Elt Ideal) S512x384 .bf16) := stack [] (fun g => ⟨rT g, AttnHead.outK (ld A (rD g))⟩) (Fin.last 8)
def listOutV : List (View.Piece (Elt Ideal) S512x384 .bf16) := stack [] (fun g => ⟨rT g, AttnHead.outV (ld A (rD g))⟩) (Fin.last 8)
def listOutC : List (View.Piece (Elt Ideal) S8x1x384 .f32) := stack [] (fun g => ⟨rLine g, AttnHead.outC (ld A (rD g))⟩) (Fin.last 8)
def listOutQ : List (View.Piece (Elt Ideal) S512x4224 .bf16) := stack [] (fun g => ⟨rQT g, outQ (ld B (rAQ g))⟩) (Fin.last 8)
def listOutD : List (View.Piece (Elt Ideal) S8x1x4224 .f32) := stack [] (fun g => ⟨rQLine g, outD (ld B (rAC g))⟩) (Fin.last 8)

/-- The eight heads' last steps, read. -/
theorem allV_read (b19 : List (View.Piece (Elt Ideal) S8x384x128 .f32)) : cov e.arg19.view (all8 (stepV e b17) b19) = dvUp (cov e.arg17.view b17) e.x5 10 (cov e.arg19.view b19) := by
  funext y
  refine chain e.arg19.view e.arg19.view.junk (fun n => Fin.induction b19 (fun g l => stepV e b17 g l) n) rD (fun g => _) (fun g => rfl) (cov e.arg19.view b19) _ (fun _ => rfl) disD (fun g h x => ?_) (fun y hy => AttnTrip.outD y hy _ _) y
  exact payDv_slab g 10 e.x5 _ _ (fun _ => rfl) _ rfl _ _ h x

theorem allK_read (b20 : List (View.Piece (Elt Ideal) S8x384x128 .f32)) :
    cov e.arg20.view (all8 (stepK e b17 b18) b20) = dkUp e.x1 e.x6 e.x7 e.x8 (cov e.arg17.view b17) (cov e.arg18.view b18) 10 (cov e.arg20.view b20) := by
  funext y
  refine chain e.arg20.view e.arg20.view.junk (fun n => Fin.induction b20 (fun g l => stepK e b17 b18 g l) n) rD (fun g => _) (fun g => rfl) (cov e.arg20.view b20) _ (fun _ => rfl) disD (fun g h x => ?_) (fun y hy => AttnTrip.outD y hy _ _) y
  exact payDk_slab g 10 e.x1 e.x6 e.x7 e.x8 _ _ _ _ (fun _ => rfl) (fun _ => rfl) _ _ rfl rfl _ _ h x

theorem rEA_eq (g : Fin 8) : rEA g = rA 10 g := rfl

theorem disE (g g' : Fin 8) (hg : g' < g) (x) : (rEA g).emb x ∉ (rEA g').set := slab_dis (fun g => by intro a; fin_cases a <;> simp <;> omega) g g' hg x

theorem outE (X6 : BL) (K : BK) (S P : BS) (A : BA) (y : S8x80x4224.Idx) (hy : ∀ g, y ∉ (rEA g).set) : dqUp X6 K S P 10 A y = A y :=
  dqUp_out _ _ _ _ _ _ y fun g => by rw [← rEA_eq]; exact hy g

theorem allQ_read (b15 : List (View.Piece (Elt Ideal) S8x80x4224 .f32)) :
    e.arg15.view.read (Elt Ideal) (e.arg15.view.writes (Elt Ideal) G (all8 (stepQ e b17 b18 G) b15))
      = dqUp e.x7 e.x16 (cov e.arg17.view b17) (cov e.arg18.view b18) 10 (e.arg15.view.read (Elt Ideal) (e.arg15.view.writes (Elt Ideal) G b15)) := by
  rw [all8_eq]
  funext y
  have h := chain e.arg15.view G (fun n => Fin.induction b15 (fun g l => stepQ e b17 b18 G g l) n) rEA (fun g => _) (fun g => rfl) (e.arg15.view.read (Elt Ideal) (e.arg15.view.writes (Elt Ideal) G b15))
    (dqUp e.x7 e.x16 (cov e.arg17.view b17) (cov e.arg18.view b18) 10 (e.arg15.view.read (Elt Ideal) (e.arg15.view.writes (Elt Ideal) G b15))) (fun _ => rfl) disE
    (fun g h x => by exact payDq_slab g 10 e.x7 _ _ _ _ (fun _ => rfl) (fun _ => rfl) _ rfl _ _ (fun _ => rfl) _ _ h x) (outE _ _ _ _ _) y
  exact h

theorem listK_read {sp : Space} (v : View sig .tc sp S8x80x384 .bf16) (f : v.ty.Contents (Elt Ideal)) (x4 : Vec Ideal S512x384 .bf16) : v.read (Elt Ideal) (v.writes (Elt Ideal) f (listK x4)) = kt x4 :=
  stores8 _ _ rK _ _ disK (fun g x => payK_slab g x4 _ rfl x) fun y hy => AttnTrip.outK y hy _ _

theorem listZ_read {sp : Space} (v : View sig .tc sp S8x384x128 .f32) (f : v.ty.Contents (Elt Ideal)) : v.read (Elt Ideal) (v.writes (Elt Ideal) f listZ) = fun _ => (0 : EReal) := by
  funext y
  have h := View.read_writes_cons_emb v f (Rect.unit ![0, 0, 0] S8x384x128.size (by decide)) (Gen.k0_pay204 (F := Ideal)) [] y
  rw [show (Rect.unit (s := S8x384x128) ![0, 0, 0] S8x384x128.size (by decide)).emb y = y from funext fun a => Fin.ext (by rw [Rect.emb_apply]; fin_cases a <;> simp)] at h
  refine h.trans ?_
  simp only [Gen.k0_pay204]
  pointwise

variable (j : Fin 11) (hj : j.val = (e.i 0).val)

include hj in
theorem mqEq (g : Fin 8) : offMQ e.i g = ![64 * g.val, 384 * j.val] := (offMQ_eq e.i g).trans (by rw [hj])
include hj in
theorem mlEq (g : Fin 8) : offML e.i g = ![g.val, 0, 384 * j.val] := (offML_eq e.i g).trans (by rw [hj])

include hj in
theorem listM_read (f : BufTy.Contents (Elt Ideal) e.arg17.view.ty) : e.arg17.view.read (Elt Ideal) (e.arg17.view.writes (Elt Ideal) f (listM e)) = (Env.win e).S j j :=
  (stores8 _ _ rS _ (sm e.x1 e.x2 e.x6 e.x8 j) disS (fun g x => payM_slab g j e.x1 e.x2 e.x6 e.x8 _ _ _ rfl (mqEq e j hj g) (mlEq e j hj g) x) fun y hy => outS y hy _ _).trans (if_pos rfl).symm

include hj in
theorem listP_read (f : BufTy.Contents (Elt Ideal) e.arg18.view.ty) : e.arg18.view.read (Elt Ideal) (e.arg18.view.writes (Elt Ideal) f (listP e)) = (Env.win e).P j :=
  stores8 _ _ rS _ _ disS (fun g x => payP_slab g j e.x5 e.x3 _ _ rfl (mqEq e j hj g) x) fun y hy => outS y hy _ _

/-- The loop's trips from what the first stores leave. -/
abbrev Env.mid (e : Env) (f15 : BufTy.Contents (Elt Ideal) e.arg15.view.ty) :=
  e.loop f15 (e.arg17.view.writes (Elt Ideal) e.arg17.view.junk (listM e)) (e.arg18.view.writes (Elt Ideal) e.arg18.view.junk (listP e))
    (e.arg19.view.writes (Elt Ideal) e.arg19.view.junk listZ) (e.arg20.view.writes (Elt Ideal) e.arg20.view.junk listZ) (k0_t1_loop e.i).trips

theorem iter_end {α : Type} (f : Fin 11 → α → α) (a : α) : f 10 (iter j f (10 - j.val) a) = iter j f (11 - j.val) a := by
  obtain ⟨n, hn⟩ : ∃ n, n = 10 - j.val := ⟨_, rfl⟩
  rw [show 11 - j.val = n + 1 by omega, ← hn]
  show f 10 (iter j f n a) = f (tile j n) (iter j f n a)
  rw [show tile j n = 10 from Fin.ext (by show min (j.val + n) 10 = 10; omega)]

include hj in
theorem mid_reads (f15 : BufTy.Contents (Elt Ideal) e.arg15.view.ty) :
    e.arg15.view.read (Elt Ideal) (e.arg15.view.writes (Elt Ideal) f15 (Env.mid e f15).1) = iter j ((Env.win e).upQ j) (10 - j.val) (e.arg15.view.read (Elt Ideal) f15)
    ∧ cov e.arg17.view ((Env.mid e f15).2.1 ++ listM e) = (Env.win e).S j 10
    ∧ cov e.arg18.view ((Env.mid e f15).2.2.1 ++ listP e) = (Env.win e).P 10
    ∧ cov e.arg19.view ((Env.mid e f15).2.2.2.1 ++ listZ) = iter j ((Env.win e).upV j) (10 - j.val) (fun _ => 0)
    ∧ cov e.arg20.view ((Env.mid e f15).2.2.2.2 ++ listZ) = iter j ((Env.win e).upK j) (10 - j.val) (fun _ => 0) := by
  have htr : (k0_t1_loop e.i).trips = 10 - j.val := (trips_eq e.i).trans (by rw [hj])
  have ht : tile j (10 - j.val) = 10 := Fin.ext (by show min (j.val + (10 - j.val)) 10 = 10; omega)
  obtain ⟨h15, h17, h18, h19, h20⟩ := loop_reads j e hj f15 _ _ (e.arg19.view.writes (Elt Ideal) e.arg19.view.junk listZ) (e.arg20.view.writes (Elt Ideal) e.arg20.view.junk listZ)
    (listM_read e j hj e.arg17.view.junk) (listP_read e j hj e.arg18.view.junk) _ le_rfl
  rw [listZ_read] at h19 h20
  simp only [cov, View.writes_append]
  refine ⟨h15.trans (by rw [htr]), h17.trans (by rw [htr, ht]), h18.trans (by rw [htr, ht]), h19.trans (by rw [htr]), h20.trans (by rw [htr])⟩

include hj in
/-- What the point's buffers read at the end. -/
theorem end_reads (f15 : BufTy.Contents (Elt Ideal) e.arg15.view.ty) (b15 : List (View.Piece (Elt Ideal) S8x80x4224 .f32)) (h17 : b17 = (Env.mid e f15).2.1 ++ listM e) (h18 : b18 = (Env.mid e f15).2.2.1 ++ listP e)
    (b19 b20 : List (View.Piece (Elt Ideal) S8x384x128 .f32)) (h19 : b19 = (Env.mid e f15).2.2.2.1 ++ listZ) (h20 : b20 = (Env.mid e f15).2.2.2.2 ++ listZ)
    (h15 : e.arg15.view.writes (Elt Ideal) G b15 = e.arg15.view.writes (Elt Ideal) f15 (Env.mid e f15).1) :
    cov e.arg19.view (all8 (stepV e b17) b19) = iter j ((Env.win e).upV j) (11 - j.val) (fun _ => 0)
    ∧ cov e.arg20.view (all8 (stepK e b17 b18) b20) = iter j ((Env.win e).upK j) (11 - j.val) (fun _ => 0)
    ∧ e.arg15.view.read (Elt Ideal) (e.arg15.view.writes (Elt Ideal) G (all8 (stepQ e b17 b18 G) b15)) = iter j ((Env.win e).upQ j) (11 - j.val) (e.arg15.view.read (Elt Ideal) f15) := by
  obtain ⟨r15, r17, r18, r19, r20⟩ := mid_reads e j hj f15
  rw [allV_read, allK_read, allQ_read, h15, h17, h18, h19, h20, r15, r17, r18, r19, r20, ← iter_end, ← iter_end, ← iter_end]
  exact ⟨rfl, rfl, rfl⟩

end Cert.AttnPoint
-- ==== Proof.AttnOut.lean ====
/-
  What a grid point of the attention gradient kernel leaves in its output windows, entry by entry.
-/
module

public import proofs.«01_k».proof.Proof.AttnPoint

@[expose] public section

set_option maxRecDepth 65536

noncomputable section

namespace Cert.AttnOut

open Cert.AttnKernelIdeal Cert.AttnHead Cert.AttnBuffers Cert.AttnTile Cert.AttnTrip Cert.AttnPoint
open Idealize.ShloMosaic
open Idealize.ShloMosaic.View (ld)

theorem eighth : Ideal.ofBits FTy.f32 1040187392#32 = ((0.125 : ℝ) : EReal) := by
  simp [Ideal.ofBits, Ideal.ieee]
  rw [← EReal.coe_mul]
  norm_num

theorem outQ_apply (A : Vec Ideal S1x64x4224 .f32) (d : Fin 64) (l : Fin 4224) : outQ A (ix2 d l) = A (ix3 0 d l) * ((0.125 : ℝ) : EReal) := by
  unfold outQ Gen.k0_pay177
  pointwise
  exact congrArg (A (ix3 0 d l) * ·) eighth

theorem outD_apply (A : Vec Ideal S1x1x4224 .f32) (a b : Fin 1) (l : Fin 4224) : AttnPoint.outD A (ix3 a b l) = A (ix3 0 0 l) := by
  obtain rfl := Subsingleton.elim a 0
  obtain rfl := Subsingleton.elim b 0
  unfold AttnPoint.outD Gen.k0_pay178
  pointwise

/-- The head of a row, and its place in the head. -/
def headOf (r : Fin 512) : Fin 8 := ⟨r.val / 64, by omega⟩
def dimOf (r : Fin 512) : Fin 64 := ⟨r.val % 64, by omega⟩

theorem headOf_row (g : Fin 8) (d : Fin 64) : headOf (row g d) = g := Fin.ext (by show (64 * g.val + d.val) / 64 = g.val; omega)
theorem dimOf_row (g : Fin 8) (d : Fin 64) : dimOf (row g d) = d := Fin.ext (by show (64 * g.val + d.val) % 64 = d.val; omega)

theorem ex2 {a b : ℕ} (x : (⟨2, ![a, b]⟩ : Shape).Idx) : ∃ (i : Fin a) (j : Fin b), x = ix2 i j := by
  refine ⟨x 0, x 1, funext fun t => ?_⟩
  match t with
  | 0 => rfl
  | 1 => rfl

/-- Rows of different heads share no index. -/
theorem rows_dis {n : ℕ} (h : ∀ g : Fin 8, ∀ a, (![64 * g.val, 0] : Fin 2 → ℕ) a + (![64, n] : Fin 2 → ℕ) a ≤ (⟨2, ![512, n]⟩ : Shape).size a) (g g' : Fin 8) (hg : g' < g)
    (x : (Rect.unit (s := ⟨2, ![512, n]⟩) ![64 * g.val, 0] ![64, n] (h g)).shape.Idx) :
    (Rect.unit (s := ⟨2, ![512, n]⟩) ![64 * g.val, 0] ![64, n] (h g)).emb x ∉ (Rect.unit (s := ⟨2, ![512, n]⟩) ![64 * g'.val, 0] ![64, n] (h g')).set := by
  intro hm
  have h0 := (Rect.mem_set_unit.mp hm 0).2
  rw [Rect.emb_apply] at h0
  have : 64 * g.val + 1 * (x 0).val < 64 * g'.val + 64 := h0
  have : g'.val < g.val := hg
  omega

theorem rows_mem {n : ℕ} (h : ∀ g : Fin 8, ∀ a, (![64 * g.val, 0] : Fin 2 → ℕ) a + (![64, n] : Fin 2 → ℕ) a ≤ (⟨2, ![512, n]⟩ : Shape).size a) (y : (⟨2, ![512, n]⟩ : Shape).Idx) :
    y ∈ (Rect.unit (s := ⟨2, ![512, n]⟩) ![64 * (headOf (y 0)).val, 0] ![64, n] (h (headOf (y 0)))).set := by
  rw [Rect.mem_set_unit]
  intro a
  match a with
  | 0 =>
    have : 64 * ((y 0).val / 64) ≤ (y 0).val ∧ (y 0).val < 64 * ((y 0).val / 64) + 64 := by omega
    exact this
  | 1 => exact ⟨Nat.zero_le _, lt_of_lt_of_eq (y 1).isLt (Nat.zero_add _).symm⟩

theorem disT (g g' : Fin 8) (hg : g' < g) (x) : (rT g).emb x ∉ (rT g').set := rows_dis (fun g => by intro a; fin_cases a <;> simp <;> omega) g g' hg x
theorem disQT (g g' : Fin 8) (hg : g' < g) (x) : (rQT g).emb x ∉ (rQT g').set := rows_dis (fun g => by intro a; fin_cases a <;> simp <;> omega) g g' hg x
theorem disLine (g g' : Fin 8) (hg : g' < g) (x) : (rLine g).emb x ∉ (rLine g').set := slab_dis (fun g => by intro a; fin_cases a <;> simp <;> omega) g g' hg x
theorem disQLine (g g' : Fin 8) (hg : g' < g) (x) : (rQLine g).emb x ∉ (rQLine g').set := slab_dis (fun g => by intro a; fin_cases a <;> simp <;> omega) g g' hg x
theorem allT {α : Type} (y : S512x384.Idx) (hy : ∀ g, y ∉ (rT g).set) (a b : α) : a = b := absurd (rows_mem (fun g => by intro a; fin_cases a <;> simp <;> omega) y) (hy _)
theorem allQT {α : Type} (y : S512x4224.Idx) (hy : ∀ g, y ∉ (rQT g).set) (a b : α) : a = b := absurd (rows_mem (fun g => by intro a; fin_cases a <;> simp <;> omega) y) (hy _)
theorem allLine {α : Type} (y : S8x1x384.Idx) (hy : ∀ g, y ∉ (rLine g).set) (a b : α) : a = b := absurd (slab_mem (fun g => by intro a; fin_cases a <;> simp <;> omega) y) (hy _)
theorem allQLine {α : Type} (y : S8x1x4224.Idx) (hy : ∀ g, y ∉ (rQLine g).set) (a b : α) : a = b := absurd (slab_mem (fun g => by intro a; fin_cases a <;> simp <;> omega) y) (hy _)

theorem embT (g : Fin 8) (d : Fin 64) (k : Fin 384) : (rT g).emb (ix2 d k) = ix2 (row g d) k := emb2 _ d k (row g d) k (by simp [row]) (by simp)
theorem embQT (g : Fin 8) (d : Fin 64) (l : Fin 4224) : (rQT g).emb (ix2 d l) = ix2 (row g d) l := emb2 _ d l (row g d) l (by simp [row]) (by simp)
theorem embLine (g : Fin 8) (a b : Fin 1) (k : Fin 384) : (rLine g).emb (ix3 a b k) = ix3 g 0 k := emb3 _ a b k g 0 k (by simp) (by simp) (by simp)
theorem embQLine (g : Fin 8) (a b : Fin 1) (l : Fin 4224) : (rQLine g).emb (ix3 a b l) = ix3 g 0 l := emb3 _ a b l g 0 l (by simp) (by simp) (by simp)

variable {sp : Space} (A : BD) (B : BA)

/-- The gradients as they leave. -/
def leaveV : Vec Ideal S512x384 .bf16 := fun y => A (ix3 (headOf (y 0)) (y 1) ⟨(dimOf (y 0)).val, by omega⟩)
def leaveK : Vec Ideal S512x384 .bf16 := fun y => A (ix3 (headOf (y 0)) (y 1) ⟨(dimOf (y 0)).val, by omega⟩) * ((Real.log 2 : ℝ) : EReal)
def leaveC : Vec Ideal S8x1x384 .f32 := fun y => A (ix3 (y 0) (y 2) 64)
def leaveQ : Vec Ideal S512x4224 .bf16 := fun y => B (ix3 (headOf (y 0)) ⟨(dimOf (y 0)).val, by omega⟩ (y 1)) * ((0.125 : ℝ) : EReal)
def leaveD : Vec Ideal S8x1x4224 .f32 := fun y => B (ix3 (y 0) 64 (y 2))

theorem listOutV_read (v : View sig .tc sp S512x384 .bf16) (f : v.ty.Contents (Elt Ideal)) : v.read (Elt Ideal) (v.writes (Elt Ideal) f (listOutV A)) = leaveV A :=
  stores8 _ _ rT _ _ disT (fun g x => by
    obtain ⟨d, k, rfl⟩ := ex2 x
    rw [embT, outV_apply]
    show _ = A (ix3 (headOf (row g d)) k ⟨(dimOf (row g d)).val, _⟩)
    simp only [headOf_row, dimOf_row]
    exact ld3 A _ 0 k _ g k _ (by simp) (by simp) (by simp)) fun y hy => allT y hy _ _

theorem listOutK_read (v : View sig .tc sp S512x384 .bf16) (f : v.ty.Contents (Elt Ideal)) : v.read (Elt Ideal) (v.writes (Elt Ideal) f (listOutK A)) = leaveK A :=
  stores8 _ _ rT _ _ disT (fun g x => by
    obtain ⟨d, k, rfl⟩ := ex2 x
    rw [embT, outK_apply]
    show _ = A (ix3 (headOf (row g d)) k ⟨(dimOf (row g d)).val, _⟩) * _
    simp only [headOf_row, dimOf_row]
    exact congrArg (· * _) (ld3 A _ 0 k _ g k _ (by simp) (by simp) (by simp))) fun y hy => allT y hy _ _

theorem listOutC_read (v : View sig .tc sp S8x1x384 .f32) (f : v.ty.Contents (Elt Ideal)) : v.read (Elt Ideal) (v.writes (Elt Ideal) f (listOutC A)) = leaveC A :=
  stores8 _ _ rLine _ _ disLine (fun g x => by
    obtain ⟨a, b, k, rfl⟩ := ex3 x
    rw [embLine, outC_apply]
    exact ld3 A _ 0 k _ g k _ (by simp) (by simp) (by simp)) fun y hy => allLine y hy _ _

theorem listOutQ_read (v : View sig .tc sp S512x4224 .bf16) (f : v.ty.Contents (Elt Ideal)) : v.read (Elt Ideal) (v.writes (Elt Ideal) f (listOutQ B)) = leaveQ B :=
  stores8 _ _ rQT _ _ disQT (fun g x => by
    obtain ⟨d, l, rfl⟩ := ex2 x
    rw [embQT, outQ_apply]
    show _ = B (ix3 (headOf (row g d)) ⟨(dimOf (row g d)).val, _⟩ l) * _
    simp only [headOf_row, dimOf_row]
    exact congrArg (· * _) (ld3 B _ 0 d l g _ l (by simp) (by simp) (by simp))) fun y hy => allQT y hy _ _

theorem listOutD_read (v : View sig .tc sp S8x1x4224 .f32) (f : v.ty.Contents (Elt Ideal)) : v.read (Elt Ideal) (v.writes (Elt Ideal) f (listOutD B)) = leaveD B :=
  stores8 _ _ rQLine _ _ disQLine (fun g x => by
    obtain ⟨a, b, l, rfl⟩ := ex3 x
    rw [embQLine, outD_apply]
    exact ld3 B _ 0 0 l g _ l (by simp) (by simp) (by simp)) fun y hy => allQLine y hy _ _

end Cert.AttnOut
-- ==== Proof.AttnEntries.lean ====
/-
  The arrays the attention gradient kernel is called with, entry by entry, when the arguments are real numbers.
-/
module

public import proofs.«01_k».proof.Proof.AttnHost
public import proofs.«01_k».proof.Proof.AttnReal
public import proofs.«01_k».proof.Proof.AttnOut
public import Idealize.ShloMosaic.Lib.WordCmp
public import Idealize.ShloMosaic.Lib.Pipeline.Value

@[expose] public section

set_option maxRecDepth 16384

noncomputable section

namespace Cert.AttnEntries

open Cert.AttnKernelIdeal Cert.AttnHost Cert.AttnOut Cert.AttnReal
open Idealize.ShloMosaic Idealize.ShloMosaic.TcCoe
open Idealize.ShloMosaic.WordCmp

theorem padding_zero : FloatOps.sitofp (F := Ideal) FTy.f32 0#32 = 0 := by simp [FloatOps.sitofp]

theorem bits_bot : Ideal.ofBits FTy.f32 4286578688#32 = ⊥ := by simp [Ideal.ofBits, Ideal.ieee]

theorem bits_eighth : Ideal.ofBits FTy.f32 1040187392#32 = ((1 / 8 : ℝ) : EReal) := by
  rw [eighth]
  norm_num

theorem bits_two : Ideal.ofBits FTy.f32 1073741824#32 = ((2 : ℝ) : EReal) := by
  simp [Ideal.ofBits, Ideal.ieee]
  rw [← EReal.coe_mul]
  norm_num

/-- A token array given by real numbers. -/
def IsTok (q : FVec Ideal S4112x8x64 .f32) (Q : Fin 4112 → Fin 8 → Fin 64 → ℝ) : Prop := ∀ t h d, q (ix3 t h d) = (Q t h d : EReal)

/-- A gate array given by real numbers. -/
def IsGate (c : FVec Ideal S4112x8 .f32) (C : Fin 4112 → Fin 8 → ℝ) : Prop := ∀ t h, c (ix2 t h) = (C t h : EReal)

variable {q k v dO : FVec Ideal S4112x8x64 .f32} {cu : FVec Ideal S4112x8 .f32}
variable {Q K W G : Fin 4112 → Fin 8 → Fin 64 → ℝ} {C : Fin 4112 → Fin 8 → ℝ}

theorem rows_apply (hq : IsTok q Q) (r : Fin 512) (l : Fin 4224) : rows q (ix2 r l) = back (fun t => Q t (headOf r) (dimOf r)) l := by
  have h : rows q (ix2 r l) = if h : 112 ≤ l.val ∧ l.val - 112 < 4112 then q (ix3 ⟨l.val - 112, h.2⟩ (headOf r) (dimOf r)) else FloatOps.sitofp (F := Ideal) FTy.f32 0#32 := by
    unfold rows padding headOf dimOf
    pointwise
  rw [h]
  unfold back
  by_cases hl : 112 ≤ l.val
  · rw [dif_pos hl, dif_pos ⟨hl, by omega⟩]
    exact hq _ _ _
  · rw [dif_neg hl, dif_neg (fun h => hl h.1)]
    exact padding_zero

theorem tok_apply (hq : IsTok q Q) (h : Fin 8) (l : Fin 4224) (d : Fin 64) : tok q (ix3 h l d) = back (fun t => Q t h d) l := by
  have e : tok q (ix3 h l d) = if h' : 112 ≤ l.val ∧ l.val - 112 < 4112 then q (ix3 ⟨l.val - 112, h'.2⟩ h d) else FloatOps.sitofp (F := Ideal) FTy.f32 0#32 := by
    unfold tok padding
    pointwise
  rw [e]
  unfold back
  by_cases hl : 112 ≤ l.val
  · rw [dif_pos hl, dif_pos ⟨hl, by omega⟩]
    exact hq _ _ _
  · rw [dif_neg hl, dif_neg (fun h => hl h.1)]
    exact padding_zero

theorem line_apply {a : FVec Ideal S8x4112 .f32} {A : Fin 8 → Fin 4112 → ℝ} (ha : ∀ h t, a (ix2 h t) = (A h t : EReal)) (h : Fin 8) (l : Fin 4224) :
    line a (ix2 h l) = back (A h) l := by
  have e : line a (ix2 h l) = if h' : 112 ≤ l.val ∧ l.val - 112 < 4112 then a (ix2 h ⟨l.val - 112, h'.2⟩) else FloatOps.sitofp (F := Ideal) FTy.f32 0#32 := by
    unfold line padding
    pointwise
  rw [e]
  unfold back
  by_cases hl : 112 ≤ l.val
  · rw [dif_pos hl, dif_pos ⟨hl, by omega⟩]
    exact ha _ _
  · rw [dif_neg hl, dif_neg (fun h => hl h.1)]
    exact padding_zero

theorem log2e_apply : log2e ix0 = (((Real.log 2)⁻¹ : ℝ) : EReal) := by
  unfold log2e
  pointwise
  rw [bits_two, Ideal.log_coe, if_neg (by norm_num), show (1 : EReal) = ((1 : ℝ) : EReal) from rfl,
    div_real _ (Real.log_ne_zero_of_pos_of_ne_one (by norm_num) (by norm_num)), one_div]

theorem le_word (k l : Fin 4112) : IntOp.cmpi .sle (BitVec.ofNat 32 k.val) (BitVec.ofNat 32 l.val) = if k ≤ l then 1#1 else 0#1 := by
  rw [cmpi_sle_ofNat (by omega) (by omega)]
  by_cases hkl : k ≤ l
  · simp [hkl]
  · simp [hkl]

theorem seen_apply (h : Fin 8) (l k : Fin 4112) : seen (ix3 h l k) = if k ≤ l then 1#1 else 0#1 := by
  refine Eq.trans ?_ (le_word k l)
  unfold seen
  pointwise

theorem open_apply (hq : IsTok q Q) (hk : IsTok k K) (hc : IsGate cu C) (h : Fin 8) (l t : Fin 4112) : open' q k cu (ix3 h l t) = (sco Q K C h l t : EReal) := by
  have e : open' q k cu (ix3 h l t) = (∑ x, q (ix3 l h x) * k (ix3 t h x)) * Ideal.ofBits FTy.f32 1040187392#32 + cu (ix2 l h) - cu (ix2 t h) := by
    unfold open'
    pointwise
  rw [e, bits_eighth, hc, hc]
  simp only [hq _ _ _, hk _ _ _, ← EReal.coe_mul, ← coe_sum, ← EReal.coe_add, ← EReal.coe_sub]
  rfl

theorem score_apply (hq : IsTok q Q) (hk : IsTok k K) (hc : IsGate cu C) (h : Fin 8) (l t : Fin 4112) : score q k cu (ix3 h l t) = sc Q K C h l t := by
  have e : score q k cu (ix3 h l t) = Scalar.select (seen (ix3 h l t)) (open' q k cu (ix3 h l t)) (Ideal.ofBits FTy.f32 4286578688#32) := by
    unfold score
    pointwise
  rw [e, seen_apply, open_apply hq hk hc, bits_bot]
  unfold sc
  by_cases htl : t ≤ l
  · rw [if_pos htl, if_pos htl]
    rfl
  · rw [if_neg htl, if_neg htl]
    rfl

theorem top_apply (hq : IsTok q Q) (hk : IsTok k K) (hc : IsGate cu C) (h : Fin 8) (l : Fin 4112) : AttnHost.top q k cu (ix2 h l) = (AttnReal.top Q K C h l : EReal) := by
  refine Eq.trans ?_ (fold_top Q K C h l)
  unfold AttnHost.top
  pointwise
  rw [bits_bot]
  exact congrArg (fun f => Finset.fold max ⊥ f Finset.univ) (funext fun x => score_apply hq hk hc h l x)

theorem expo_apply (hq : IsTok q Q) (hk : IsTok k K) (hc : IsGate cu C) (h : Fin 8) (l t : Fin 4112) : expo q k cu (ix3 h l t) = (ex Q K C h l t : EReal) := by
  refine Eq.trans ?_ (exp_sc Q K C h l t)
  rw [← score_apply hq hk hc, ← top_apply hq hk hc]
  unfold expo
  pointwise

theorem total_apply (hq : IsTok q Q) (hk : IsTok k K) (hc : IsGate cu C) (h : Fin 8) (l : Fin 4112) : total q k cu (ix2 h l) = (tot Q K C h l : EReal) := by
  unfold total tot
  rw [coe_sum]
  pointwise
  exact Finset.sum_congr rfl fun x _ => expo_apply hq hk hc h l x

theorem out_apply (hq : IsTok q Q) (hk : IsTok k K) (hv : IsTok v W) (hc : IsGate cu C) (h : Fin 8) (l : Fin 4112) (d : Fin 64) :
    out q k v cu (ix3 l h d) = (outp Q K W C h l d : EReal) := by
  have e : out q k v cu (ix3 l h d) = ∑ x, v (ix3 x h d) * Ideal.div (expo q k cu (ix3 h l x)) (total q k cu (ix2 h l)) := by
    unfold out
    pointwise
  rw [e]
  simp only [hv _ _ _, expo_apply hq hk hc, total_apply hq hk hc, div_real _ (tot_ne Q K C h l), ← EReal.coe_mul, ← coe_sum]
  rfl

theorem drop_last (a : FVec Ideal S8x4112x1 .f32) (h : Fin 8) (l : Fin 4112) :
    shapeCast S8x4112 a Gen.shapeCasts_S8x4112x1_S8x4112 (ix2 h l) = a (ix3 h l 0) :=
  shapeCast_apply a _ (ix2 h l) (ix3 h l 0) (by
    rw [Shape.rowMajor_val_three, Shape.rowMajor_val_two]
    show (h.val * 4112 + l.val) * 1 + 0 = h.val * 4112 + l.val
    omega)

theorem logs_apply (a b : FVec Ideal S8x4112 .f32) (h : Fin 8) (l : Fin 4112) :
    addf (broadcastInDim S8x4112x1 ![0, 1] Gen.bcast_S8x4112_S8x4112x1_0_1 a) (Host.log (broadcastInDim S8x4112x1 ![0, 1] Gen.bcast_S8x4112_S8x4112x1_0_1 b)) (ix3 h l 0)
      = a (ix2 h l) + Ideal.log (b (ix2 h l)) := by
  pointwise

theorem scaled_apply (a : FVec Ideal S8x4112 .f32) (h : Fin 8) (l : Fin 4112) :
    mulf a (broadcastInDim S8x4112 ![] Gen.bcast_S_S8x4112 log2e) (ix2 h l) = a (ix2 h l) * log2e ix0 := by
  pointwise

theorem lse_apply (hq : IsTok q Q) (hk : IsTok k K) (hc : IsGate cu C) (h : Fin 8) (l : Fin 4112) :
    lse q k cu (ix2 h l) = ((AttnReal.top Q K C h l + Real.log (tot Q K C h l) : ℝ) : EReal) := by
  have e : lse q k cu (ix2 h l) = AttnHost.top q k cu (ix2 h l) + Ideal.log (total q k cu (ix2 h l)) := (drop_last _ h l).trans (logs_apply _ _ h l)
  rw [e, top_apply hq hk hc, total_apply hq hk hc, Ideal.log_coe, if_neg (not_le.mpr (tot_pos Q K C h l)), ← EReal.coe_add]

theorem rowdot_apply (hq : IsTok q Q) (hk : IsTok k K) (hv : IsTok v W) (hc : IsGate cu C) (hO : IsTok dO G) (h : Fin 8) (l : Fin 4112) :
    rowdot q k v cu dO (ix2 h l) = (dd Q K W G C h l : EReal) := by
  have e : rowdot q k v cu dO (ix2 h l) = ∑ x, dO (ix3 l h x) * out q k v cu (ix3 l h x) := by
    unfold rowdot
    pointwise
  rw [e]
  simp only [hO _ _ _, out_apply hq hk hv hc, ← EReal.coe_mul, ← coe_sum]
  rfl

theorem back_mul (f : Fin 4112 → ℝ) (a : ℝ) (l : Fin 4224) : back f l * (a : EReal) = back (fun t => f t * a) l := by
  unfold back
  split
  · rw [EReal.coe_mul]
  · rw [zero_mul]

theorem gate_apply (hc : IsGate cu C) (h : Fin 8) (l : Fin 4224) : gate cu (ix2 h l) = back (fun t => C t h * (Real.log 2)⁻¹) l := by
  rw [← back_mul, ← log2e_apply, ← line_apply (a := transpose S8x4112 [1, 0] cu Gen.transposes_S4112x8_S8x4112_1_0) (A := fun h t => C t h) (fun h t => ?_)]
  · unfold gate
    pointwise
  · rw [← hc]
    pointwise

/-! ## The arrays -/

theorem query_apply (hq : IsTok q Q) (r : Fin 512) (l : Fin 4224) :
    proj q k v (ix2 (n0 := 1536) (n1 := 4224) ⟨r.val, lt_of_lt_of_le r.isLt (by decide)⟩ l) = back (fun t => Q t (headOf r) (dimOf r) * (1 / 8 * (Real.log 2)⁻¹)) l := by
  rw [← back_mul, ← rows_apply hq, EReal.coe_mul, ← log2e_apply, ← bits_eighth]
  unfold proj
  pointwise

theorem key_apply (hk : IsTok k K) (r : Fin 512) (l : Fin 4224) :
    proj q k v (ix2 (n0 := 1536) (n1 := 4224) ⟨512 + r.val, Nat.lt_of_lt_of_le (Nat.add_lt_add_left r.isLt 512) (by decide)⟩ l) = back (fun t => K t (headOf r) (dimOf r)) l := by
  rw [← rows_apply hk]
  unfold proj
  pointwise

theorem flat_apply (a : FVec Ideal S8x4224 .f32) (h : Fin 8) (l : Fin 4224) : flat a (ix3 h 0 l) = a (ix2 h l) := by
  unfold flat
  pointwise

theorem lse2_apply (hq : IsTok q Q) (hk : IsTok k K) (hc : IsGate cu C) (h : Fin 8) (l : Fin 4224) :
    flat (line (mulf (lse q k cu) (broadcastInDim S8x4112 ![] Gen.bcast_S_S8x4112 log2e))) (ix3 h 0 l)
      = back (fun t => (AttnReal.top Q K C h t + Real.log (tot Q K C h t)) * (Real.log 2)⁻¹) l := by
  rw [flat_apply]
  refine line_apply (A := fun h t => (AttnReal.top Q K C h t + Real.log (tot Q K C h t)) * (Real.log 2)⁻¹) (fun h t => ?_) h l
  exact (scaled_apply _ h t).trans (by rw [EReal.coe_mul, lse_apply hq hk hc, log2e_apply])

theorem column_apply (a : FVec Ideal S8x4224 .f32) (h : Fin 8) (l : Fin 4224) : column a (ix3 h l 0) = a (ix2 h l) := by
  unfold column
  pointwise

/-- An entry of the keys' columns. -/
def augk (x : Fin 64 → EReal) (b : EReal) (p : Prop) [Decidable p] (r : Fin 128) : EReal :=
  if h : r.val < 64 then x ⟨r.val, h⟩ else if r.val = 64 then (if p then b else ⊥) else if r.val = 65 then b - b
    else if r.val = 66 then b - b - (b - b) else if r.val < 70 then 1 else 0

theorem ge_word (l : Fin 4224) : IntOp.cmpi .sge (BitVec.ofNat 32 l.val) 112#32 = if 112 ≤ l.val then 1#1 else 0#1 := by
  have hl := l.isLt
  rw [cmpi_sge_of_lt (by rw [BitVec.toNat_ofNat]; omega) (by decide), show (BitVec.ofNat 32 l.val).toNat = l.val from by rw [BitVec.toNat_ofNat, Nat.mod_eq_of_lt (by omega)]]
  by_cases h : 112 ≤ l.val
  · simp [h]
  · simp [h]

theorem kaug_apply (h : Fin 8) (l : Fin 4224) (r : Fin 128) :
    kaug k cu (ix3 h l r) = augk (fun d => tok k (ix3 h l d)) (-gate cu (ix2 h l)) (112 ≤ l.val) r := by
  unfold kaug column
  pointwise
  rw [ge_word, bits_bot]
  unfold augk
  have hr := r.isLt
  by_cases h0 : r.val < 64
  · rw [dif_pos h0, dif_pos h0]
  rw [dif_neg h0, dif_neg h0]
  simp only [show ∀ (a : FVec Ideal S8x4224 .f32) (i : S8x4224.Idx), short a i = a i from fun _ _ => rfl,
    show ∀ (a : FVec Ideal S8x4224 .f32) (i : S8x4224.Idx), rest a i = a i - a i from fun _ _ => rfl,
    show ∀ i : S8x4224.Idx, Host.negf (gate cu) i = -gate cu i from fun _ => rfl]
  by_cases h1 : r.val = 64
  · rw [dif_pos (by omega), dif_pos (by omega), if_pos h1]
    by_cases hl : 112 ≤ l.val
    · rw [if_pos hl, if_pos hl]
      rfl
    · rw [if_neg hl, if_neg hl]
      rfl
  rw [if_neg h1]
  by_cases h2 : r.val = 65
  · rw [dif_pos (by omega), dif_neg (by omega), dif_pos (by omega), if_pos h2]
  rw [if_neg h2]
  by_cases h3 : r.val = 66
  · rw [dif_pos (by omega), dif_neg (by omega), dif_neg (by omega), dif_pos (by omega), if_pos h3]
  rw [if_neg h3]
  by_cases h4 : r.val < 70
  · rw [dif_pos (by omega), dif_neg (by omega), dif_neg (by omega), dif_neg (by omega), if_pos h4]
    split
    · rfl
    · split <;> rfl
  · rw [dif_neg (by omega), if_neg h4]

end Cert.AttnEntries
-- ==== Proof.AttnPt.lean ====
/-
  A grid point of the attention gradient kernel with its windows and buffers, and what these read at its end.
-/
module

public import proofs.«01_k».proof.Proof.AttnPoint
public import proofs.«01_k».proof.Proof.Gen.AttnKernelIdeal.Loops

@[expose] public section

set_option maxRecDepth 65536

noncomputable section

namespace Cert.AttnPt

open Cert.AttnKernelIdeal Cert.AttnHead Cert.AttnBuffers Cert.AttnTile Cert.AttnTrip Cert.AttnLoop Cert.AttnPoint
open Idealize.ShloMosaic
open Idealize.ShloMosaic.View (ld)

/-- A grid point, its windows and scratch buffers, the blocks its windows hold. -/
structure Pt where
  c : Dev nD
  i : grid0.Coords
  arg1 : Memref sig .tc .vmem S512x4224 .bf16
  harg1 : arg1.IsWhole
  arg2 : Memref sig .tc .vmem S8x384x128 .bf16
  harg2 : arg2.IsWhole
  arg3 : Memref sig .tc .vmem S8x384x64 .bf16
  harg3 : arg3.IsWhole
  arg4 : Memref sig .tc .vmem S512x384 .bf16
  harg4 : arg4.IsWhole
  arg5 : Memref sig .tc .vmem S512x4224 .bf16
  harg5 : arg5.IsWhole
  arg6 : Memref sig .tc .vmem S8x1x4224 .f32
  harg6 : arg6.IsWhole
  arg7 : Memref sig .tc .vmem S8x1x4224 .f32
  harg7 : arg7.IsWhole
  arg8 : Memref sig .tc .vmem S8x1x4224 .f32
  harg8 : arg8.IsWhole
  arg10 : Memref sig .tc .vmem S512x4224 .bf16
  harg10 : arg10.IsWhole
  arg11 : Memref sig .tc .vmem S512x384 .bf16
  harg11 : arg11.IsWhole
  arg12 : Memref sig .tc .vmem S512x384 .bf16
  harg12 : arg12.IsWhole
  arg13 : Memref sig .tc .vmem S8x1x384 .f32
  harg13 : arg13.IsWhole
  arg14 : Memref sig .tc .vmem S8x1x4224 .f32
  harg14 : arg14.IsWhole
  arg15 : Memref sig .tc .vmem S8x80x4224 .f32
  harg15 : arg15.IsWhole
  arg16 : Memref sig .tc .vmem S8x80x384 .bf16
  harg16 : arg16.IsWhole
  arg17 : Memref sig .tc .vmem S8x384x384 .f32
  harg17 : arg17.IsWhole
  arg18 : Memref sig .tc .vmem S8x384x384 .f32
  harg18 : arg18.IsWhole
  arg19 : Memref sig .tc .vmem S8x384x128 .f32
  harg19 : arg19.IsWhole
  arg20 : Memref sig .tc .vmem S8x384x128 .f32
  harg20 : arg20.IsWhole
  x0 : Vec Ideal S512x4224 .bf16
  x1 : Vec Ideal S8x384x128 .bf16
  x2 : Vec Ideal S8x384x64 .bf16
  x3 : Vec Ideal S512x384 .bf16
  x4 : Vec Ideal S512x4224 .bf16
  x5 : Vec Ideal S8x1x4224 .f32
  x6 : Vec Ideal S8x1x4224 .f32
  x7 : Vec Ideal S8x1x4224 .f32

variable {α : Type} in
abbrev Pt.on (P : Pt) (f : ∀ (c : Dev nD) (i : grid0.Coords) (arg1 : Memref sig .tc .vmem S512x4224 .bf16) (harg1 : arg1.IsWhole) (arg2 : Memref sig .tc .vmem S8x384x128 .bf16) (harg2 : arg2.IsWhole) (arg3 : Memref sig .tc .vmem S8x384x64 .bf16) (harg3 : arg3.IsWhole) (arg4 : Memref sig .tc .vmem S512x384 .bf16) (harg4 : arg4.IsWhole) (arg5 : Memref sig .tc .vmem S512x4224 .bf16) (harg5 : arg5.IsWhole) (arg6 : Memref sig .tc .vmem S8x1x4224 .f32) (harg6 : arg6.IsWhole) (arg7 : Memref sig .tc .vmem S8x1x4224 .f32) (harg7 : arg7.IsWhole) (arg8 : Memref sig .tc .vmem S8x1x4224 .f32) (harg8 : arg8.IsWhole) (arg10 : Memref sig .tc .vmem S512x4224 .bf16) (harg10 : arg10.IsWhole) (arg11 : Memref sig .tc .vmem S512x384 .bf16) (harg11 : arg11.IsWhole) (arg12 : Memref sig .tc .vmem S512x384 .bf16) (harg12 : arg12.IsWhole) (arg13 : Memref sig .tc .vmem S8x1x384 .f32) (harg13 : arg13.IsWhole) (arg14 : Memref sig .tc .vmem S8x1x4224 .f32) (harg14 : arg14.IsWhole) (arg15 : Memref sig .tc .vmem S8x80x4224 .f32) (harg15 : arg15.IsWhole) (arg16 : Memref sig .tc .vmem S8x80x384 .bf16) (harg16 : arg16.IsWhole) (arg17 : Memref sig .tc .vmem S8x384x384 .f32) (harg17 : arg17.IsWhole) (arg18 : Memref sig .tc .vmem S8x384x384 .f32) (harg18 : arg18.IsWhole) (arg19 : Memref sig .tc .vmem S8x384x128 .f32) (harg19 : arg19.IsWhole) (arg20 : Memref sig .tc .vmem S8x384x128 .f32) (harg20 : arg20.IsWhole) (x0 : Vec Ideal S512x4224 .bf16) (x1 : Vec Ideal S8x384x128 .bf16) (x2 : Vec Ideal S8x384x64 .bf16) (x3 : Vec Ideal S512x384 .bf16) (x4 : Vec Ideal S512x4224 .bf16) (x5 : Vec Ideal S8x1x4224 .f32) (x6 : Vec Ideal S8x1x4224 .f32) (x7 : Vec Ideal S8x1x4224 .f32), α) : α := f P.c P.i P.arg1 P.harg1 P.arg2 P.harg2 P.arg3 P.harg3 P.arg4 P.harg4 P.arg5 P.harg5 P.arg6 P.harg6 P.arg7 P.harg7 P.arg8 P.harg8 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.x0 P.x1 P.x2 P.x3 P.x4 P.x5 P.x6 P.x7

def Pt.env (P : Pt) : Env :=
  { 𝒱 := Variants.none, c := P.c, bd := none, i := P.i,
    arg1 := P.arg1, harg1 := P.harg1, arg2 := P.arg2, harg2 := P.harg2, arg3 := P.arg3, harg3 := P.harg3, arg4 := P.arg4, harg4 := P.harg4, arg5 := P.arg5, harg5 := P.harg5,
    arg6 := P.arg6, harg6 := P.harg6, arg7 := P.arg7, harg7 := P.harg7, arg8 := P.arg8, harg8 := P.harg8, arg9 := Memref.whole main_v95, harg9 := Memref.isWhole_whole _, arg10 := P.arg10, harg10 := P.harg10,
    arg11 := P.arg11, harg11 := P.harg11, arg12 := P.arg12, harg12 := P.harg12, arg13 := P.arg13, harg13 := P.harg13, arg14 := P.arg14, harg14 := P.harg14, arg15 := P.arg15, harg15 := P.harg15,
    arg16 := P.arg16, harg16 := P.harg16, arg17 := P.arg17, harg17 := P.harg17, arg18 := P.arg18, harg18 := P.harg18, arg19 := P.arg19, harg19 := P.harg19, arg20 := P.arg20, harg20 := P.harg20,
    arg0 := BitVec.ofNat 32 (P.i 0).val,
    v381 := Gen.k0_pay238 (F := Ideal) (ld (P.arg2.view.read (Elt Ideal) (P.harg2.unread P.x1)) (rD 7)),
    v391 := Gen.k0_pay240 (F := Ideal) (ld (P.arg1.view.read (Elt Ideal) (P.harg1.unread P.x0)) (Rect.unit (offMQ P.i 7) S64x384.size (offMQ_inb P.i 7))),
    v392 := Gen.k0_pay241 (F := Ideal),
    v393 := Gen.k0_pay242 (F := Ideal),
    v395 := Gen.k0_pay243 (F := Ideal) (ld (P.arg8.view.read (Elt Ideal) (P.harg8.unread P.x7)) (Rect.unit (offML P.i 7) S1x1x384.size (offML_inb P.i 7))) (ld (P.arg6.view.read (Elt Ideal) (P.harg6.unread P.x5)) (Rect.unit (offML P.i 7) S1x1x384.size (offML_inb P.i 7))),
    v398 := Gen.k0_pay245 (F := Ideal) (ld (P.arg8.view.read (Elt Ideal) (P.harg8.unread P.x7)) (Rect.unit (offML P.i 7) S1x1x384.size (offML_inb P.i 7))) (ld (P.arg6.view.read (Elt Ideal) (P.harg6.unread P.x5)) (Rect.unit (offML P.i 7) S1x1x384.size (offML_inb P.i 7))),
    v400 := Gen.k0_pay246 (F := Ideal) (ld (P.arg8.view.read (Elt Ideal) (P.harg8.unread P.x7)) (Rect.unit (offML P.i 7) S1x1x384.size (offML_inb P.i 7))) (ld (P.arg6.view.read (Elt Ideal) (P.harg6.unread P.x5)) (Rect.unit (offML P.i 7) S1x1x384.size (offML_inb P.i 7))),
    X_arg1 := P.harg1.unread P.x0, X_arg2 := P.harg2.unread P.x1, X_arg3 := P.harg3.unread P.x2, X_arg5 := P.harg5.unread P.x4, X_arg6 := P.harg6.unread P.x5, X_arg7 := P.harg7.unread P.x6,
    X_arg8 := P.harg8.unread P.x7, X_arg16 := P.arg16.view.writes (Elt Ideal) P.arg16.view.junk (listK (P.arg4.view.read (Elt Ideal) (P.harg4.unread P.x3))) }

variable (P : Pt)

/-- The second loop's trips: there are none. -/
def tailT (e : Env) (v419 : BitVec 32) (f15 : BufTy.Contents (Elt Ideal) e.arg15.view.ty) (f17 : BufTy.Contents (Elt Ideal) e.arg17.view.ty) (f18 : BufTy.Contents (Elt Ideal) e.arg18.view.ty)
  (f19 : BufTy.Contents (Elt Ideal) e.arg19.view.ty) (f20 : BufTy.Contents (Elt Ideal) e.arg20.view.ty) (n : ℕ) :=
  Gen.pb_k0_t2 (F := Ideal) e.𝒱 e.c e.bd e.i e.arg1 e.harg1 e.arg2 e.harg2 e.arg3 e.harg3 e.arg4 e.harg4 e.arg5 e.harg5 e.arg6 e.harg6 e.arg7 e.harg7 e.arg8 e.harg8 e.arg9 e.harg9 e.arg10 e.harg10 e.arg11 e.harg11 e.arg12 e.harg12 e.arg13 e.harg13 e.arg14 e.harg14 e.arg15 e.harg15 e.arg16 e.harg16 e.arg17 e.harg17 e.arg18 e.harg18 e.arg19 e.harg19 e.arg20 e.harg20 e.arg0 zpad e.v381 e.v391 e.v392 e.v393 e.v395 e.v398 e.v400 v419 e.X_arg1 e.X_arg2 e.X_arg3 e.X_arg5 e.X_arg6 e.X_arg7 e.X_arg8 e.X_arg16 f15 f17 f18 f19 f20 n

/-- The second loop's trips after the first loop's. -/
def Pt.fin (P : Pt) (f15 g15 : BufTy.Contents (Elt Ideal) P.arg15.view.ty) (v419 : BitVec 32) :=
  tailT P.env v419 g15 (P.arg17.view.writes (Elt Ideal) P.arg17.view.junk ((Env.mid P.env f15).2.1 ++ listM P.env)) (P.arg18.view.writes (Elt Ideal) P.arg18.view.junk ((Env.mid P.env f15).2.2.1 ++ listP P.env))
    (P.arg19.view.writes (Elt Ideal) P.arg19.view.junk ((Env.mid P.env f15).2.2.2.1 ++ listZ)) (P.arg20.view.writes (Elt Ideal) P.arg20.view.junk ((Env.mid P.env f15).2.2.2.2 ++ listZ)) (Scf.trips (k0_t2_loop P.i).lb (k0_t2_loop P.i).ub (k0_t2_loop P.i).st)

theorem fin_nil (f15 g15 : BufTy.Contents (Elt Ideal) P.arg15.view.ty) (v419 : BitVec 32) : P.fin f15 g15 v419 = ([], [], [], [], []) := by
  have hN : Scf.trips (k0_t2_loop P.i).lb (k0_t2_loop P.i).ub (k0_t2_loop P.i).st = 0 := Nat.le_zero.mp (Gen.k0_t2_abs P.i).2.1
  unfold Pt.fin tailT
  rw [hN]
  rfl

theorem fin_app (f15 g15 : BufTy.Contents (Elt Ideal) P.arg15.view.ty) (v419 : BitVec 32) (x) : (P.fin f15 g15 v419).1 ++ x = x := by
  rw [fin_nil]
  exact List.nil_append x

attribute [local irreducible] Gen.pb_k0_t1 Gen.pb_k0_t2 Scf.trips View.writes

/-- The windows by their blocks. -/
abbrev Pt.win : Win := ⟨P.x0, P.x1, P.x2, kt P.x3, P.x4, P.x5, P.x6, P.x7⟩

theorem env_win : Env.win P.env = P.win := by
  unfold Env.win Pt.win
  have h16 : P.env.x16 = kt P.x3 := (listK_read _ _ _).trans (congrArg kt (P.harg4.read_unread P.x3))
  rw [h16, show P.env.x1 = P.x0 from P.harg1.read_unread P.x0, show P.env.x2 = P.x1 from P.harg2.read_unread P.x1, show P.env.x3 = P.x2 from P.harg3.read_unread P.x2, show P.env.x5 = P.x4 from P.harg5.read_unread P.x4,
    show P.env.x6 = P.x5 from P.harg6.read_unread P.x5, show P.env.x7 = P.x6 from P.harg7.read_unread P.x6, show P.env.x8 = P.x7 from P.harg8.read_unread P.x7]

variable (f15 g15 : BufTy.Contents (Elt Ideal) P.arg15.view.ty) (v419 : BitVec 32)

/-- The stores a run leaves before the last tile. -/
abbrev Pt.b17 := (P.fin f15 g15 v419).2.1 ++ ((Env.mid P.env f15).2.1 ++ listM P.env)
abbrev Pt.b18 := (P.fin f15 g15 v419).2.2.1 ++ ((Env.mid P.env f15).2.2.1 ++ listP P.env)
abbrev Pt.b19 := (P.fin f15 g15 v419).2.2.2.1 ++ ((Env.mid P.env f15).2.2.2.1 ++ listZ)
abbrev Pt.b20 := (P.fin f15 g15 v419).2.2.2.2 ++ ((Env.mid P.env f15).2.2.2.2 ++ listZ)

/-- The gradients and the carried buffer at the end of a run. -/
abbrev Pt.endV := all8 (stepV P.env (P.b17 f15 g15 v419)) (P.b19 f15 g15 v419)
abbrev Pt.endK := all8 (stepK P.env (P.b17 f15 g15 v419) (P.b18 f15 g15 v419)) (P.b20 f15 g15 v419)
abbrev Pt.endQ (G : BufTy.Contents (Elt Ideal) P.arg15.view.ty) (b15 : List (View.Piece (Elt Ideal) S8x80x4224 .f32)) := all8 (stepQ P.env (P.b17 f15 g15 v419) (P.b18 f15 g15 v419) G) b15

theorem pt_reads (j : Fin 11) (hj : j.val = (P.i 0).val) (G : BufTy.Contents (Elt Ideal) P.arg15.view.ty) (b15 : List (View.Piece (Elt Ideal) S8x80x4224 .f32))
    (h15 : P.arg15.view.writes (Elt Ideal) G b15 = P.arg15.view.writes (Elt Ideal) f15 (Env.mid P.env f15).1) :
    cov P.arg19.view (P.endV f15 g15 v419) = iter j (P.win.upV j) (11 - j.val) (fun _ => 0)
    ∧ cov P.arg20.view (P.endK f15 g15 v419) = iter j (P.win.upK j) (11 - j.val) (fun _ => 0)
    ∧ P.arg15.view.read (Elt Ideal) (P.arg15.view.writes (Elt Ideal) G (P.endQ f15 g15 v419 G b15)) = iter j (P.win.upQ j) (11 - j.val) (P.arg15.view.read (Elt Ideal) f15) := by
  have hn := fin_nil P f15 g15 v419
  rw [← env_win]
  exact end_reads P.env _ _ G j hj f15 b15 (congrArg (fun t => t.2.1 ++ ((Env.mid P.env f15).2.1 ++ listM P.env)) hn) (congrArg (fun t => t.2.2.1 ++ ((Env.mid P.env f15).2.2.1 ++ listP P.env)) hn) _ _
    (congrArg (fun t => t.2.2.2.1 ++ ((Env.mid P.env f15).2.2.2.1 ++ listZ)) hn) (congrArg (fun t => t.2.2.2.2 ++ ((Env.mid P.env f15).2.2.2.2 ++ listZ)) hn) h15

variable {α : Type} in
abbrev Pt.onX (P : Pt) (f : ∀ (c : Dev nD) (i : grid0.Coords) (arg1 : Memref sig .tc .vmem S512x4224 .bf16) (harg1 : arg1.IsWhole) (arg2 : Memref sig .tc .vmem S8x384x128 .bf16) (harg2 : arg2.IsWhole) (arg3 : Memref sig .tc .vmem S8x384x64 .bf16) (harg3 : arg3.IsWhole) (arg4 : Memref sig .tc .vmem S512x384 .bf16) (harg4 : arg4.IsWhole) (arg5 : Memref sig .tc .vmem S512x4224 .bf16) (harg5 : arg5.IsWhole) (arg6 : Memref sig .tc .vmem S8x1x4224 .f32) (harg6 : arg6.IsWhole) (arg7 : Memref sig .tc .vmem S8x1x4224 .f32) (harg7 : arg7.IsWhole) (arg8 : Memref sig .tc .vmem S8x1x4224 .f32) (harg8 : arg8.IsWhole) (arg10 : Memref sig .tc .vmem S512x4224 .bf16) (harg10 : arg10.IsWhole) (arg11 : Memref sig .tc .vmem S512x384 .bf16) (harg11 : arg11.IsWhole) (arg12 : Memref sig .tc .vmem S512x384 .bf16) (harg12 : arg12.IsWhole) (arg13 : Memref sig .tc .vmem S8x1x384 .f32) (harg13 : arg13.IsWhole) (arg14 : Memref sig .tc .vmem S8x1x4224 .f32) (harg14 : arg14.IsWhole) (arg15 : Memref sig .tc .vmem S8x80x4224 .f32) (harg15 : arg15.IsWhole) (arg16 : Memref sig .tc .vmem S8x80x384 .bf16) (harg16 : arg16.IsWhole) (arg17 : Memref sig .tc .vmem S8x384x384 .f32) (harg17 : arg17.IsWhole) (arg18 : Memref sig .tc .vmem S8x384x384 .f32) (harg18 : arg18.IsWhole) (arg19 : Memref sig .tc .vmem S8x384x128 .f32) (harg19 : arg19.IsWhole) (arg20 : Memref sig .tc .vmem S8x384x128 .f32) (harg20 : arg20.IsWhole) (x0 : Vec Ideal S512x4224 .bf16) (x1 : Vec Ideal S8x384x128 .bf16) (x2 : Vec Ideal S8x384x64 .bf16) (x3 : Vec Ideal S512x384 .bf16) (x4 : Vec Ideal S512x4224 .bf16) (x5 : Vec Ideal S8x1x4224 .f32) (x6 : Vec Ideal S8x1x4224 .f32) (x7 : Vec Ideal S8x1x4224 .f32), Vec Ideal S8x80x4224 .f32 → α) (xs0 : Vec Ideal S8x80x4224 .f32) : α := f P.c P.i P.arg1 P.harg1 P.arg2 P.harg2 P.arg3 P.harg3 P.arg4 P.harg4 P.arg5 P.harg5 P.arg6 P.harg6 P.arg7 P.harg7 P.arg8 P.harg8 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 P.x0 P.x1 P.x2 P.x3 P.x4 P.x5 P.x6 P.x7 xs0

def listZQ : List (View.Piece (Elt Ideal) S8x80x4224 .f32) := [⟨Rect.unit ![0, 0, 0] S8x80x4224.size (by decide), Gen.k0_pay206 (F := Ideal)⟩]

theorem listZQ_read {sp : Space} (v : View sig .tc sp S8x80x4224 .f32) (f : v.ty.Contents (Elt Ideal)) : v.read (Elt Ideal) (v.writes (Elt Ideal) f listZQ) = fun _ => (0 : EReal) := by
  funext y
  have h := View.read_writes_cons_emb v f (Rect.unit ![0, 0, 0] S8x80x4224.size (by decide)) (Gen.k0_pay206 (F := Ideal)) [] y
  rw [show (Rect.unit (s := S8x80x4224) ![0, 0, 0] S8x80x4224.size (by decide)).emb y = y from funext fun a => Fin.ext (by rw [Rect.emb_apply]; fin_cases a <;> simp)] at h
  refine h.trans ?_
  simp only [Gen.k0_pay206]
  pointwise

end Cert.AttnPt
-- ==== Proof.AttnCaseA.lean ====
/-
  The attention gradient kernel's run at the first grid point: what it leaves in the outputs and in the carried buffer.
-/
module

public import proofs.«01_k».proof.Proof.AttnPt
public import proofs.«01_k».proof.Proof.Gen.AttnKernelIdeal.Frame.RunA

@[expose] public section

set_option maxRecDepth 65536

noncomputable section

namespace Cert.AttnCaseA

open Cert.AttnKernelIdeal Cert.AttnHead Cert.AttnBuffers Cert.AttnTile Cert.AttnTrip Cert.AttnLoop Cert.AttnPoint Cert.AttnPt
open Idealize.ShloMosaic
open Idealize.ShloMosaic.View (ld)

attribute [local irreducible] Gen.pb_k0_t1 Gen.pb_k0_t2 Scf.trips View.writes

variable (P : Pt)
open Gen.kernelRun0_A

/-- What the carried buffer holds before the loop, and after it. -/
abbrev f15 : BufTy.Contents (Elt Ideal) P.arg15.view.ty := (P.arg15.view.writes (Elt Ideal) P.arg15.view.junk listZQ)
abbrev g15 : BufTy.Contents (Elt Ideal) P.arg15.view.ty := (P.arg15.view.writes (Elt Ideal) P.arg15.view.junk ((Env.mid P.env (P.arg15.view.writes (Elt Ideal) P.arg15.view.junk listZQ)).1 ++ listZQ))
abbrev l15 : List (View.Piece (Elt Ideal) S8x80x4224 .f32) := (P.fin (f15 P) (g15 P) (sl.v419 P.i)).1 ++ ((Env.mid P.env (f15 P)).1 ++ listZQ)

attribute [local irreducible] sl.HS4_1_1 sl.HS4_2 sl.HS4_3 sl.HS4_4 sl.HS4_5 sl.HS4_6 sl.HS4_7 sl.HS4_8 sl.HS5_1 sl.HS5_2 sl.HS5_3 sl.HS5_4 sl.HS5_5 sl.HS5_6 sl.HS5_7 sl.HS5_8 sl.HS0_1_1 sl.HS0_2 sl.HS0_3 sl.HS0_4 sl.HS0_5 sl.HS0_6 sl.HS0_7

abbrev putV := stepV P.env (P.b17 (f15 P) (g15 P) (sl.v419 P.i))

theorem v0 : P.on (sl.HS4_1_1 (F := Ideal)) = putV P 0 (P.b19 (f15 P) (g15 P) (sl.v419 P.i)) := by unfold sl.HS4_1_1; rfl
theorem v1 : P.on (sl.HS4_2 (F := Ideal)) = putV P 1 (P.on (sl.HS4_1_1 (F := Ideal))) := by unfold sl.HS4_2; rfl
theorem v2 : P.on (sl.HS4_3 (F := Ideal)) = putV P 2 (P.on (sl.HS4_2 (F := Ideal))) := by unfold sl.HS4_3; rfl
theorem v3 : P.on (sl.HS4_4 (F := Ideal)) = putV P 3 (P.on (sl.HS4_3 (F := Ideal))) := by unfold sl.HS4_4; rfl
theorem v4 : P.on (sl.HS4_5 (F := Ideal)) = putV P 4 (P.on (sl.HS4_4 (F := Ideal))) := by unfold sl.HS4_5; rfl
theorem v5 : P.on (sl.HS4_6 (F := Ideal)) = putV P 5 (P.on (sl.HS4_5 (F := Ideal))) := by unfold sl.HS4_6; rfl
theorem v6 : P.on (sl.HS4_7 (F := Ideal)) = putV P 6 (P.on (sl.HS4_6 (F := Ideal))) := by unfold sl.HS4_7; rfl
theorem v7 : P.on (sl.HS4_8 (F := Ideal)) = putV P 7 (P.on (sl.HS4_7 (F := Ideal))) := by unfold sl.HS4_8; rfl

theorem allV : P.on (sl.HS4_8 (F := Ideal)) = P.endV (f15 P) (g15 P) (sl.v419 P.i) := by rw [v7, v6, v5, v4, v3, v2, v1, v0]; rfl

abbrev putK := stepK P.env (P.b17 (f15 P) (g15 P) (sl.v419 P.i)) (P.b18 (f15 P) (g15 P) (sl.v419 P.i))

theorem k0 : P.on (sl.HS5_1 (F := Ideal)) = putK P 0 (P.b20 (f15 P) (g15 P) (sl.v419 P.i)) := by unfold sl.HS5_1; rfl
theorem k1 : P.on (sl.HS5_2 (F := Ideal)) = putK P 1 (P.on (sl.HS5_1 (F := Ideal))) := by unfold sl.HS5_2; rfl
theorem k2 : P.on (sl.HS5_3 (F := Ideal)) = putK P 2 (P.on (sl.HS5_2 (F := Ideal))) := by unfold sl.HS5_3; rfl
theorem k3 : P.on (sl.HS5_4 (F := Ideal)) = putK P 3 (P.on (sl.HS5_3 (F := Ideal))) := by unfold sl.HS5_4; rfl
theorem k4 : P.on (sl.HS5_5 (F := Ideal)) = putK P 4 (P.on (sl.HS5_4 (F := Ideal))) := by unfold sl.HS5_5; rfl
theorem k5 : P.on (sl.HS5_6 (F := Ideal)) = putK P 5 (P.on (sl.HS5_5 (F := Ideal))) := by unfold sl.HS5_6; rfl
theorem k6 : P.on (sl.HS5_7 (F := Ideal)) = putK P 6 (P.on (sl.HS5_6 (F := Ideal))) := by unfold sl.HS5_7; rfl
theorem k7 : P.on (sl.HS5_8 (F := Ideal)) = putK P 7 (P.on (sl.HS5_7 (F := Ideal))) := by unfold sl.HS5_8; rfl

theorem allK : P.on (sl.HS5_8 (F := Ideal)) = P.endK (f15 P) (g15 P) (sl.v419 P.i) := by rw [k7, k6, k5, k4, k3, k2, k1, k0]; rfl

abbrev putQ := stepQ P.env (P.b17 (f15 P) (g15 P) (sl.v419 P.i)) (P.b18 (f15 P) (g15 P) (sl.v419 P.i)) P.arg15.view.junk

theorem q0 : P.on (sl.HS0_1_1 (F := Ideal)) = putQ P 0 (l15 P) := by unfold sl.HS0_1_1; rfl
theorem q1 : P.on (sl.HS0_2 (F := Ideal)) = putQ P 1 (P.on (sl.HS0_1_1 (F := Ideal))) := by unfold sl.HS0_2; rfl
theorem q2 : P.on (sl.HS0_3 (F := Ideal)) = putQ P 2 (P.on (sl.HS0_2 (F := Ideal))) := by unfold sl.HS0_3; rfl
theorem q3 : P.on (sl.HS0_4 (F := Ideal)) = putQ P 3 (P.on (sl.HS0_3 (F := Ideal))) := by unfold sl.HS0_4; rfl
theorem q4 : P.on (sl.HS0_5 (F := Ideal)) = putQ P 4 (P.on (sl.HS0_4 (F := Ideal))) := by unfold sl.HS0_5; rfl
theorem q5 : P.on (sl.HS0_6 (F := Ideal)) = putQ P 5 (P.on (sl.HS0_5 (F := Ideal))) := by unfold sl.HS0_6; rfl
theorem q6 : P.on (sl.HS0_7 (F := Ideal)) = putQ P 6 (P.on (sl.HS0_6 (F := Ideal))) := by unfold sl.HS0_7; rfl

theorem allQ : putQ P 7 (P.on (sl.HS0_7 (F := Ideal))) = P.endQ (f15 P) (g15 P) (sl.v419 P.i) P.arg15.view.junk (l15 P) := by rw [q6, q5, q4, q3, q2, q1, q0]; rfl

/-- The run at the point. -/
abbrev run (hc0 : Gen.cond0_0 P.i) (hc1 : ¬Gen.cond0_1 P.i) := Gen.kernelRun0_A (F := Ideal) P.c P.i P.arg1 P.harg1 P.arg2 P.harg2 P.arg3 P.harg3 P.arg4 P.harg4 P.arg5 P.harg5 P.arg6 P.harg6 P.arg7 P.harg7 P.arg8 P.harg8 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 hc0 hc1 P.x0 P.x1 P.x2 P.x3 P.x4 P.x5 P.x6 P.x7

theorem run_lists (hc0 : Gen.cond0_0 P.i) (hc1 : ¬Gen.cond0_1 P.i) : (run P hc0 hc1).2.1 = listOutK (cov P.arg20.view ((P.on (sl.HS5_8 (F := Ideal))))) ∧ (run P hc0 hc1).2.2.1 = listOutV (cov P.arg19.view ((P.on (sl.HS4_8 (F := Ideal))))) ∧ (run P hc0 hc1).2.2.2.1 = listOutC (cov P.arg20.view ((P.on (sl.HS5_8 (F := Ideal))))) ∧ (run P hc0 hc1).2.2.2.2.2.1 = (putQ P 7 (P.on (sl.HS0_7 (F := Ideal)))) := by
  unfold run Gen.kernelRun0_A
  refine ⟨?_, ?_, ?_, ?_⟩
  · rfl
  · rfl
  · rfl
  · rfl

theorem run_reads (j : Fin 11) (hj : j.val = (P.i 0).val) (hc0 : Gen.cond0_0 P.i) (hc1 : ¬Gen.cond0_1 P.i) : (run P hc0 hc1).2.1 = listOutK (iter j (P.win.upK j) (11 - j.val) fun _ => 0) ∧ (run P hc0 hc1).2.2.1 = listOutV (iter j (P.win.upV j) (11 - j.val) fun _ => 0) ∧ (run P hc0 hc1).2.2.2.1 = listOutC (iter j (P.win.upK j) (11 - j.val) fun _ => 0)
    ∧ P.arg15.view.read (Elt Ideal) (P.arg15.view.writes (Elt Ideal) P.arg15.view.junk (run P hc0 hc1).2.2.2.2.2.1) = (iter j (P.win.upQ j) (11 - j.val) fun _ => 0) := by
  have h15 : P.arg15.view.writes (Elt Ideal) P.arg15.view.junk (l15 P) = P.arg15.view.writes (Elt Ideal) (f15 P) (Env.mid P.env (f15 P)).1 := (congrArg (P.arg15.view.writes (Elt Ideal) P.arg15.view.junk) (fin_app P (f15 P) (g15 P) (sl.v419 P.i) _)).trans (View.writes_append _ _ _ _)
  have h := pt_reads P (f15 P) (g15 P) (sl.v419 P.i) j hj P.arg15.view.junk (l15 P) h15
  have hV := h.1
  have hK := h.2.1
  have hQ := h.2.2
  rw [(listZQ_read P.arg15.view _)] at hQ
  have hl := run_lists P hc0 hc1
  have h1 := hl.1.trans (congrArg listOutK ((congrArg (cov P.arg20.view) (allK P)).trans hK))
  have h2 := hl.2.1.trans (congrArg listOutV ((congrArg (cov P.arg19.view) (allV P)).trans hV))
  have h3 := hl.2.2.1.trans (congrArg listOutC ((congrArg (cov P.arg20.view) (allK P)).trans hK))
  have hq := (congrArg (fun l => P.arg15.view.read (Elt Ideal) (P.arg15.view.writes (Elt Ideal) P.arg15.view.junk l)) (allQ P)).trans hQ
  have h4 := (congrArg (fun l => P.arg15.view.read (Elt Ideal) (P.arg15.view.writes (Elt Ideal) P.arg15.view.junk l)) hl.2.2.2).trans hq
  exact ⟨h1, h2, h3, h4⟩

end Cert.AttnCaseA
-- ==== Proof.AttnCaseB.lean ====
/-
  The attention gradient kernel's run at a middle grid point: what it leaves in the outputs and in the carried buffer.
-/
module

public import proofs.«01_k».proof.Proof.AttnPt
public import proofs.«01_k».proof.Proof.Gen.AttnKernelIdeal.Frame.RunB

@[expose] public section

set_option maxRecDepth 65536

noncomputable section

namespace Cert.AttnCaseB

open Cert.AttnKernelIdeal Cert.AttnHead Cert.AttnBuffers Cert.AttnTile Cert.AttnTrip Cert.AttnLoop Cert.AttnPoint Cert.AttnPt
open Idealize.ShloMosaic
open Idealize.ShloMosaic.View (ld)

attribute [local irreducible] Gen.pb_k0_t1 Gen.pb_k0_t2 Scf.trips View.writes

variable (P : Pt)
variable (xs0 : Vec Ideal S8x80x4224 .f32)

open Gen.kernelRun0_B

/-- What the carried buffer holds before the loop, and after it. -/
abbrev f15 : BufTy.Contents (Elt Ideal) P.arg15.view.ty := (P.harg15.unread xs0)
abbrev g15 : BufTy.Contents (Elt Ideal) P.arg15.view.ty := (P.arg15.view.writes (Elt Ideal) (P.harg15.unread xs0) (Env.mid P.env (P.harg15.unread xs0)).1)
abbrev l15 : List (View.Piece (Elt Ideal) S8x80x4224 .f32) := (P.fin (f15 P xs0) (g15 P xs0) (sl.v419 P.i)).1 ++ (Env.mid P.env (f15 P xs0)).1

attribute [local irreducible] sl.HS4_1_1 sl.HS4_2 sl.HS4_3 sl.HS4_4 sl.HS4_5 sl.HS4_6 sl.HS4_7 sl.HS4_8 sl.HS5_1 sl.HS5_2 sl.HS5_3 sl.HS5_4 sl.HS5_5 sl.HS5_6 sl.HS5_7 sl.HS5_8 sl.HS0_1 sl.HS0_2 sl.HS0_3 sl.HS0_4 sl.HS0_5 sl.HS0_6 sl.HS0_7

abbrev putV := stepV P.env (P.b17 (f15 P xs0) (g15 P xs0) (sl.v419 P.i))

theorem v0 : P.onX (sl.HS4_1_1 (F := Ideal)) xs0 = putV P xs0 0 (P.b19 (f15 P xs0) (g15 P xs0) (sl.v419 P.i)) := by unfold sl.HS4_1_1; rfl
theorem v1 : P.onX (sl.HS4_2 (F := Ideal)) xs0 = putV P xs0 1 (P.onX (sl.HS4_1_1 (F := Ideal)) xs0) := by unfold sl.HS4_2; rfl
theorem v2 : P.onX (sl.HS4_3 (F := Ideal)) xs0 = putV P xs0 2 (P.onX (sl.HS4_2 (F := Ideal)) xs0) := by unfold sl.HS4_3; rfl
theorem v3 : P.onX (sl.HS4_4 (F := Ideal)) xs0 = putV P xs0 3 (P.onX (sl.HS4_3 (F := Ideal)) xs0) := by unfold sl.HS4_4; rfl
theorem v4 : P.onX (sl.HS4_5 (F := Ideal)) xs0 = putV P xs0 4 (P.onX (sl.HS4_4 (F := Ideal)) xs0) := by unfold sl.HS4_5; rfl
theorem v5 : P.onX (sl.HS4_6 (F := Ideal)) xs0 = putV P xs0 5 (P.onX (sl.HS4_5 (F := Ideal)) xs0) := by unfold sl.HS4_6; rfl
theorem v6 : P.onX (sl.HS4_7 (F := Ideal)) xs0 = putV P xs0 6 (P.onX (sl.HS4_6 (F := Ideal)) xs0) := by unfold sl.HS4_7; rfl
theorem v7 : P.onX (sl.HS4_8 (F := Ideal)) xs0 = putV P xs0 7 (P.onX (sl.HS4_7 (F := Ideal)) xs0) := by unfold sl.HS4_8; rfl

theorem allV : P.onX (sl.HS4_8 (F := Ideal)) xs0 = P.endV (f15 P xs0) (g15 P xs0) (sl.v419 P.i) := by rw [v7, v6, v5, v4, v3, v2, v1, v0]; rfl

abbrev putK := stepK P.env (P.b17 (f15 P xs0) (g15 P xs0) (sl.v419 P.i)) (P.b18 (f15 P xs0) (g15 P xs0) (sl.v419 P.i))

theorem k0 : P.onX (sl.HS5_1 (F := Ideal)) xs0 = putK P xs0 0 (P.b20 (f15 P xs0) (g15 P xs0) (sl.v419 P.i)) := by unfold sl.HS5_1; rfl
theorem k1 : P.onX (sl.HS5_2 (F := Ideal)) xs0 = putK P xs0 1 (P.onX (sl.HS5_1 (F := Ideal)) xs0) := by unfold sl.HS5_2; rfl
theorem k2 : P.onX (sl.HS5_3 (F := Ideal)) xs0 = putK P xs0 2 (P.onX (sl.HS5_2 (F := Ideal)) xs0) := by unfold sl.HS5_3; rfl
theorem k3 : P.onX (sl.HS5_4 (F := Ideal)) xs0 = putK P xs0 3 (P.onX (sl.HS5_3 (F := Ideal)) xs0) := by unfold sl.HS5_4; rfl
theorem k4 : P.onX (sl.HS5_5 (F := Ideal)) xs0 = putK P xs0 4 (P.onX (sl.HS5_4 (F := Ideal)) xs0) := by unfold sl.HS5_5; rfl
theorem k5 : P.onX (sl.HS5_6 (F := Ideal)) xs0 = putK P xs0 5 (P.onX (sl.HS5_5 (F := Ideal)) xs0) := by unfold sl.HS5_6; rfl
theorem k6 : P.onX (sl.HS5_7 (F := Ideal)) xs0 = putK P xs0 6 (P.onX (sl.HS5_6 (F := Ideal)) xs0) := by unfold sl.HS5_7; rfl
theorem k7 : P.onX (sl.HS5_8 (F := Ideal)) xs0 = putK P xs0 7 (P.onX (sl.HS5_7 (F := Ideal)) xs0) := by unfold sl.HS5_8; rfl

theorem allK : P.onX (sl.HS5_8 (F := Ideal)) xs0 = P.endK (f15 P xs0) (g15 P xs0) (sl.v419 P.i) := by rw [k7, k6, k5, k4, k3, k2, k1, k0]; rfl

abbrev putQ := stepQ P.env (P.b17 (f15 P xs0) (g15 P xs0) (sl.v419 P.i)) (P.b18 (f15 P xs0) (g15 P xs0) (sl.v419 P.i)) (P.harg15.unread xs0)

theorem q0 : P.onX (sl.HS0_1 (F := Ideal)) xs0 = putQ P xs0 0 (l15 P xs0) := by unfold sl.HS0_1; rfl
theorem q1 : P.onX (sl.HS0_2 (F := Ideal)) xs0 = putQ P xs0 1 (P.onX (sl.HS0_1 (F := Ideal)) xs0) := by unfold sl.HS0_2; rfl
theorem q2 : P.onX (sl.HS0_3 (F := Ideal)) xs0 = putQ P xs0 2 (P.onX (sl.HS0_2 (F := Ideal)) xs0) := by unfold sl.HS0_3; rfl
theorem q3 : P.onX (sl.HS0_4 (F := Ideal)) xs0 = putQ P xs0 3 (P.onX (sl.HS0_3 (F := Ideal)) xs0) := by unfold sl.HS0_4; rfl
theorem q4 : P.onX (sl.HS0_5 (F := Ideal)) xs0 = putQ P xs0 4 (P.onX (sl.HS0_4 (F := Ideal)) xs0) := by unfold sl.HS0_5; rfl
theorem q5 : P.onX (sl.HS0_6 (F := Ideal)) xs0 = putQ P xs0 5 (P.onX (sl.HS0_5 (F := Ideal)) xs0) := by unfold sl.HS0_6; rfl
theorem q6 : P.onX (sl.HS0_7 (F := Ideal)) xs0 = putQ P xs0 6 (P.onX (sl.HS0_6 (F := Ideal)) xs0) := by unfold sl.HS0_7; rfl

theorem allQ : putQ P xs0 7 (P.onX (sl.HS0_7 (F := Ideal)) xs0) = P.endQ (f15 P xs0) (g15 P xs0) (sl.v419 P.i) (P.harg15.unread xs0) (l15 P xs0) := by rw [q6, q5, q4, q3, q2, q1, q0]; rfl

/-- The run at the point. -/
abbrev run (hc0 : ¬Gen.cond0_0 P.i) (hc1 : ¬Gen.cond0_1 P.i) := Gen.kernelRun0_B (F := Ideal) P.c P.i P.arg1 P.harg1 P.arg2 P.harg2 P.arg3 P.harg3 P.arg4 P.harg4 P.arg5 P.harg5 P.arg6 P.harg6 P.arg7 P.harg7 P.arg8 P.harg8 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 hc0 hc1 P.x0 P.x1 P.x2 P.x3 P.x4 P.x5 P.x6 P.x7 xs0

theorem run_lists (hc0 : ¬Gen.cond0_0 P.i) (hc1 : ¬Gen.cond0_1 P.i) : (run P xs0 hc0 hc1).2.1 = listOutK (cov P.arg20.view ((P.onX (sl.HS5_8 (F := Ideal)) xs0))) ∧ (run P xs0 hc0 hc1).2.2.1 = listOutV (cov P.arg19.view ((P.onX (sl.HS4_8 (F := Ideal)) xs0))) ∧ (run P xs0 hc0 hc1).2.2.2.1 = listOutC (cov P.arg20.view ((P.onX (sl.HS5_8 (F := Ideal)) xs0))) ∧ (run P xs0 hc0 hc1).2.2.2.2.2.1 = (putQ P xs0 7 (P.onX (sl.HS0_7 (F := Ideal)) xs0)) := by
  unfold run Gen.kernelRun0_B
  refine ⟨?_, ?_, ?_, ?_⟩
  · rfl
  · rfl
  · rfl
  · rfl

theorem run_reads (j : Fin 11) (hj : j.val = (P.i 0).val) (hc0 : ¬Gen.cond0_0 P.i) (hc1 : ¬Gen.cond0_1 P.i) : (run P xs0 hc0 hc1).2.1 = listOutK (iter j (P.win.upK j) (11 - j.val) fun _ => 0) ∧ (run P xs0 hc0 hc1).2.2.1 = listOutV (iter j (P.win.upV j) (11 - j.val) fun _ => 0) ∧ (run P xs0 hc0 hc1).2.2.2.1 = listOutC (iter j (P.win.upK j) (11 - j.val) fun _ => 0)
    ∧ P.arg15.view.read (Elt Ideal) (P.arg15.view.writes (Elt Ideal) (P.harg15.unread xs0) (run P xs0 hc0 hc1).2.2.2.2.2.1) = (iter j (P.win.upQ j) (11 - j.val) xs0) := by
  have h15 : P.arg15.view.writes (Elt Ideal) (P.harg15.unread xs0) (l15 P xs0) = P.arg15.view.writes (Elt Ideal) (f15 P xs0) (Env.mid P.env (f15 P xs0)).1 := congrArg (P.arg15.view.writes (Elt Ideal) (P.harg15.unread xs0)) (fin_app P (f15 P xs0) (g15 P xs0) (sl.v419 P.i) _)
  have h := pt_reads P (f15 P xs0) (g15 P xs0) (sl.v419 P.i) j hj (P.harg15.unread xs0) (l15 P xs0) h15
  have hV := h.1
  have hK := h.2.1
  have hQ := h.2.2
  rw [(P.harg15.read_unread xs0)] at hQ
  have hl := run_lists P xs0 hc0 hc1
  have h1 := hl.1.trans (congrArg listOutK ((congrArg (cov P.arg20.view) (allK P xs0)).trans hK))
  have h2 := hl.2.1.trans (congrArg listOutV ((congrArg (cov P.arg19.view) (allV P xs0)).trans hV))
  have h3 := hl.2.2.1.trans (congrArg listOutC ((congrArg (cov P.arg20.view) (allK P xs0)).trans hK))
  have hq := (congrArg (fun l => P.arg15.view.read (Elt Ideal) (P.arg15.view.writes (Elt Ideal) (P.harg15.unread xs0) l)) (allQ P xs0)).trans hQ
  have h4 := (congrArg (fun l => P.arg15.view.read (Elt Ideal) (P.arg15.view.writes (Elt Ideal) (P.harg15.unread xs0) l)) hl.2.2.2).trans hq
  exact ⟨h1, h2, h3, h4⟩

end Cert.AttnCaseB
-- ==== Proof.AttnCaseC.lean ====
/-
  The attention gradient kernel's run at the last grid point: what it leaves in the outputs and in the carried buffer.
-/
module

public import proofs.«01_k».proof.Proof.AttnPt
public import proofs.«01_k».proof.Proof.Gen.AttnKernelIdeal.Frame.RunC

@[expose] public section

set_option maxRecDepth 65536

noncomputable section

namespace Cert.AttnCaseC

open Cert.AttnKernelIdeal Cert.AttnHead Cert.AttnBuffers Cert.AttnTile Cert.AttnTrip Cert.AttnLoop Cert.AttnPoint Cert.AttnPt
open Idealize.ShloMosaic
open Idealize.ShloMosaic.View (ld)

attribute [local irreducible] Gen.pb_k0_t1 Gen.pb_k0_t2 Scf.trips View.writes

variable (P : Pt)
variable (xs0 : Vec Ideal S8x80x4224 .f32)

open Gen.kernelRun0_C

/-- What the carried buffer holds before the loop, and after it. -/
abbrev f15 : BufTy.Contents (Elt Ideal) P.arg15.view.ty := (P.harg15.unread xs0)
abbrev g15 : BufTy.Contents (Elt Ideal) P.arg15.view.ty := (P.arg15.view.writes (Elt Ideal) (P.harg15.unread xs0) (Env.mid P.env (P.harg15.unread xs0)).1)
abbrev l15 : List (View.Piece (Elt Ideal) S8x80x4224 .f32) := (P.fin (f15 P xs0) (g15 P xs0) (sl.v419 P.i)).1 ++ (Env.mid P.env (f15 P xs0)).1

attribute [local irreducible] sl.HS4_1_1 sl.HS4_2 sl.HS4_3 sl.HS4_4 sl.HS4_5 sl.HS4_6 sl.HS4_7 sl.HS4_8 sl.HS5_1 sl.HS5_2 sl.HS5_3 sl.HS5_4 sl.HS5_5 sl.HS5_6 sl.HS5_7 sl.HS5_8 sl.HS0_1 sl.HS0_2 sl.HS0_3 sl.HS0_4 sl.HS0_5 sl.HS0_6 sl.HS0_7 sl.HS0_8

abbrev putV := stepV P.env (P.b17 (f15 P xs0) (g15 P xs0) (sl.v419 P.i))

theorem v0 : P.onX (sl.HS4_1_1 (F := Ideal)) xs0 = putV P xs0 0 (P.b19 (f15 P xs0) (g15 P xs0) (sl.v419 P.i)) := by unfold sl.HS4_1_1; rfl
theorem v1 : P.onX (sl.HS4_2 (F := Ideal)) xs0 = putV P xs0 1 (P.onX (sl.HS4_1_1 (F := Ideal)) xs0) := by unfold sl.HS4_2; rfl
theorem v2 : P.onX (sl.HS4_3 (F := Ideal)) xs0 = putV P xs0 2 (P.onX (sl.HS4_2 (F := Ideal)) xs0) := by unfold sl.HS4_3; rfl
theorem v3 : P.onX (sl.HS4_4 (F := Ideal)) xs0 = putV P xs0 3 (P.onX (sl.HS4_3 (F := Ideal)) xs0) := by unfold sl.HS4_4; rfl
theorem v4 : P.onX (sl.HS4_5 (F := Ideal)) xs0 = putV P xs0 4 (P.onX (sl.HS4_4 (F := Ideal)) xs0) := by unfold sl.HS4_5; rfl
theorem v5 : P.onX (sl.HS4_6 (F := Ideal)) xs0 = putV P xs0 5 (P.onX (sl.HS4_5 (F := Ideal)) xs0) := by unfold sl.HS4_6; rfl
theorem v6 : P.onX (sl.HS4_7 (F := Ideal)) xs0 = putV P xs0 6 (P.onX (sl.HS4_6 (F := Ideal)) xs0) := by unfold sl.HS4_7; rfl
theorem v7 : P.onX (sl.HS4_8 (F := Ideal)) xs0 = putV P xs0 7 (P.onX (sl.HS4_7 (F := Ideal)) xs0) := by unfold sl.HS4_8; rfl

theorem allV : P.onX (sl.HS4_8 (F := Ideal)) xs0 = P.endV (f15 P xs0) (g15 P xs0) (sl.v419 P.i) := by rw [v7, v6, v5, v4, v3, v2, v1, v0]; rfl

abbrev putK := stepK P.env (P.b17 (f15 P xs0) (g15 P xs0) (sl.v419 P.i)) (P.b18 (f15 P xs0) (g15 P xs0) (sl.v419 P.i))

theorem k0 : P.onX (sl.HS5_1 (F := Ideal)) xs0 = putK P xs0 0 (P.b20 (f15 P xs0) (g15 P xs0) (sl.v419 P.i)) := by unfold sl.HS5_1; rfl
theorem k1 : P.onX (sl.HS5_2 (F := Ideal)) xs0 = putK P xs0 1 (P.onX (sl.HS5_1 (F := Ideal)) xs0) := by unfold sl.HS5_2; rfl
theorem k2 : P.onX (sl.HS5_3 (F := Ideal)) xs0 = putK P xs0 2 (P.onX (sl.HS5_2 (F := Ideal)) xs0) := by unfold sl.HS5_3; rfl
theorem k3 : P.onX (sl.HS5_4 (F := Ideal)) xs0 = putK P xs0 3 (P.onX (sl.HS5_3 (F := Ideal)) xs0) := by unfold sl.HS5_4; rfl
theorem k4 : P.onX (sl.HS5_5 (F := Ideal)) xs0 = putK P xs0 4 (P.onX (sl.HS5_4 (F := Ideal)) xs0) := by unfold sl.HS5_5; rfl
theorem k5 : P.onX (sl.HS5_6 (F := Ideal)) xs0 = putK P xs0 5 (P.onX (sl.HS5_5 (F := Ideal)) xs0) := by unfold sl.HS5_6; rfl
theorem k6 : P.onX (sl.HS5_7 (F := Ideal)) xs0 = putK P xs0 6 (P.onX (sl.HS5_6 (F := Ideal)) xs0) := by unfold sl.HS5_7; rfl
theorem k7 : P.onX (sl.HS5_8 (F := Ideal)) xs0 = putK P xs0 7 (P.onX (sl.HS5_7 (F := Ideal)) xs0) := by unfold sl.HS5_8; rfl

theorem allK : P.onX (sl.HS5_8 (F := Ideal)) xs0 = P.endK (f15 P xs0) (g15 P xs0) (sl.v419 P.i) := by rw [k7, k6, k5, k4, k3, k2, k1, k0]; rfl

abbrev putQ := stepQ P.env (P.b17 (f15 P xs0) (g15 P xs0) (sl.v419 P.i)) (P.b18 (f15 P xs0) (g15 P xs0) (sl.v419 P.i)) (P.harg15.unread xs0)

theorem q0 : P.onX (sl.HS0_1 (F := Ideal)) xs0 = putQ P xs0 0 (l15 P xs0) := by unfold sl.HS0_1; rfl
theorem q1 : P.onX (sl.HS0_2 (F := Ideal)) xs0 = putQ P xs0 1 (P.onX (sl.HS0_1 (F := Ideal)) xs0) := by unfold sl.HS0_2; rfl
theorem q2 : P.onX (sl.HS0_3 (F := Ideal)) xs0 = putQ P xs0 2 (P.onX (sl.HS0_2 (F := Ideal)) xs0) := by unfold sl.HS0_3; rfl
theorem q3 : P.onX (sl.HS0_4 (F := Ideal)) xs0 = putQ P xs0 3 (P.onX (sl.HS0_3 (F := Ideal)) xs0) := by unfold sl.HS0_4; rfl
theorem q4 : P.onX (sl.HS0_5 (F := Ideal)) xs0 = putQ P xs0 4 (P.onX (sl.HS0_4 (F := Ideal)) xs0) := by unfold sl.HS0_5; rfl
theorem q5 : P.onX (sl.HS0_6 (F := Ideal)) xs0 = putQ P xs0 5 (P.onX (sl.HS0_5 (F := Ideal)) xs0) := by unfold sl.HS0_6; rfl
theorem q6 : P.onX (sl.HS0_7 (F := Ideal)) xs0 = putQ P xs0 6 (P.onX (sl.HS0_6 (F := Ideal)) xs0) := by unfold sl.HS0_7; rfl
theorem q7 : P.onX (sl.HS0_8 (F := Ideal)) xs0 = putQ P xs0 7 (P.onX (sl.HS0_7 (F := Ideal)) xs0) := by unfold sl.HS0_8; rfl

theorem allQ : P.onX (sl.HS0_8 (F := Ideal)) xs0 = P.endQ (f15 P xs0) (g15 P xs0) (sl.v419 P.i) (P.harg15.unread xs0) (l15 P xs0) := by rw [q7, q6, q5, q4, q3, q2, q1, q0]; rfl

/-- The run at the point. -/
abbrev run (hc0 : ¬Gen.cond0_0 P.i) (hc1 : Gen.cond0_1 P.i) := Gen.kernelRun0_C (F := Ideal) P.c P.i P.arg1 P.harg1 P.arg2 P.harg2 P.arg3 P.harg3 P.arg4 P.harg4 P.arg5 P.harg5 P.arg6 P.harg6 P.arg7 P.harg7 P.arg8 P.harg8 P.arg10 P.harg10 P.arg11 P.harg11 P.arg12 P.harg12 P.arg13 P.harg13 P.arg14 P.harg14 P.arg15 P.harg15 P.arg16 P.harg16 P.arg17 P.harg17 P.arg18 P.harg18 P.arg19 P.harg19 P.arg20 P.harg20 hc0 hc1 P.x0 P.x1 P.x2 P.x3 P.x4 P.x5 P.x6 P.x7 xs0

theorem run_lists (hc0 : ¬Gen.cond0_0 P.i) (hc1 : Gen.cond0_1 P.i) : (run P xs0 hc0 hc1).2.1 = listOutK (cov P.arg20.view ((P.onX (sl.HS5_8 (F := Ideal)) xs0))) ∧ (run P xs0 hc0 hc1).2.2.1 = listOutV (cov P.arg19.view ((P.onX (sl.HS4_8 (F := Ideal)) xs0))) ∧ (run P xs0 hc0 hc1).2.2.2.1 = listOutC (cov P.arg20.view ((P.onX (sl.HS5_8 (F := Ideal)) xs0))) ∧ (run P xs0 hc0 hc1).2.2.2.2.2.1 = (P.onX (sl.HS0_8 (F := Ideal)) xs0) ∧ (run P xs0 hc0 hc1).1 = listOutQ (P.arg15.view.read (Elt Ideal) (P.arg15.view.writes (Elt Ideal) (P.harg15.unread xs0) ((P.onX (sl.HS0_8 (F := Ideal)) xs0)))) ∧ (run P xs0 hc0 hc1).2.2.2.2.1 = listOutD (P.arg15.view.read (Elt Ideal) (P.arg15.view.writes (Elt Ideal) (P.harg15.unread xs0) ((P.onX (sl.HS0_8 (F := Ideal)) xs0)))) := by
  unfold run Gen.kernelRun0_C
  refine ⟨?_, ?_, ?_, ?_, ?_, ?_⟩
  · rfl
  · rfl
  · rfl
  · rfl
  · rfl
  · rfl

theorem run_reads (j : Fin 11) (hj : j.val = (P.i 0).val) (hc0 : ¬Gen.cond0_0 P.i) (hc1 : Gen.cond0_1 P.i) : (run P xs0 hc0 hc1).2.1 = listOutK (iter j (P.win.upK j) (11 - j.val) fun _ => 0) ∧ (run P xs0 hc0 hc1).2.2.1 = listOutV (iter j (P.win.upV j) (11 - j.val) fun _ => 0) ∧ (run P xs0 hc0 hc1).2.2.2.1 = listOutC (iter j (P.win.upK j) (11 - j.val) fun _ => 0)
    ∧ P.arg15.view.read (Elt Ideal) (P.arg15.view.writes (Elt Ideal) (P.harg15.unread xs0) (run P xs0 hc0 hc1).2.2.2.2.2.1) = (iter j (P.win.upQ j) (11 - j.val) xs0)
    ∧ (run P xs0 hc0 hc1).1 = listOutQ (iter j (P.win.upQ j) (11 - j.val) xs0) ∧ (run P xs0 hc0 hc1).2.2.2.2.1 = listOutD (iter j (P.win.upQ j) (11 - j.val) xs0) := by
  have h15 : P.arg15.view.writes (Elt Ideal) (P.harg15.unread xs0) (l15 P xs0) = P.arg15.view.writes (Elt Ideal) (f15 P xs0) (Env.mid P.env (f15 P xs0)).1 := congrArg (P.arg15.view.writes (Elt Ideal) (P.harg15.unread xs0)) (fin_app P (f15 P xs0) (g15 P xs0) (sl.v419 P.i) _)
  have h := pt_reads P (f15 P xs0) (g15 P xs0) (sl.v419 P.i) j hj (P.harg15.unread xs0) (l15 P xs0) h15
  have hV := h.1
  have hK := h.2.1
  have hQ := h.2.2
  rw [(P.harg15.read_unread xs0)] at hQ
  have hl := run_lists P xs0 hc0 hc1
  have h1 := hl.1.trans (congrArg listOutK ((congrArg (cov P.arg20.view) (allK P xs0)).trans hK))
  have h2 := hl.2.1.trans (congrArg listOutV ((congrArg (cov P.arg19.view) (allV P xs0)).trans hV))
  have h3 := hl.2.2.1.trans (congrArg listOutC ((congrArg (cov P.arg20.view) (allK P xs0)).trans hK))
  have hq := (congrArg (fun l => P.arg15.view.read (Elt Ideal) (P.arg15.view.writes (Elt Ideal) (P.harg15.unread xs0) l)) (allQ P xs0)).trans hQ
  have h4 := (congrArg (fun l => P.arg15.view.read (Elt Ideal) (P.arg15.view.writes (Elt Ideal) (P.harg15.unread xs0) l)) hl.2.2.2.1).trans hq
  exact ⟨h1, h2, h3, h4, hl.2.2.2.2.1.trans (congrArg listOutQ hq), hl.2.2.2.2.2.trans (congrArg listOutD hq)⟩

end Cert.AttnCaseC
-- ==== Proof.AttnSweep.lean ====
/-
  What the attention gradient kernel's grid points leave, one after another.
-/
module

public import proofs.«01_k».proof.Proof.AttnOut
public import proofs.«01_k».proof.Proof.AttnCaseA
public import proofs.«01_k».proof.Proof.AttnCaseB
public import proofs.«01_k».proof.Proof.AttnCaseC
public import proofs.«01_k».proof.Proof.Gen.AttnKernelIdeal.Frame

@[expose] public section

set_option maxRecDepth 65536

noncomputable section

namespace Cert.AttnSweep

open Cert.AttnKernelIdeal Cert.AttnTile Cert.AttnLoop Cert.AttnPoint Cert.AttnPt Cert.AttnOut
open Idealize.ShloMosaic

variable (m : (ℓ : Loc nD τ sig) → Buf (Elt Ideal) ℓ) (c : Dev nD) (t : Fin cfg0.N)

/-- The grid's points count the tiles of keys. -/
def tileOf : Fin 11 := ⟨t.val, lt_of_lt_of_eq t.isLt Gen.N_0⟩

/-- The grid point with its windows and scratch buffers. -/
def pt : Pt := ⟨c, grid0.coords t, Gen.ms0_0 t, Gen.hs0_0 t, Gen.ms0_1 t, Gen.hs0_1 t, Gen.ms0_2 t, Gen.hs0_2 t, Gen.ms0_3 t, Gen.hs0_3 t, Gen.ms0_4 t, Gen.hs0_4 t, Gen.ms0_5 t, Gen.hs0_5 t, Gen.ms0_6 t, Gen.hs0_6 t, Gen.ms0_7 t, Gen.hs0_7 t, Gen.ms0_8 t, Gen.hs0_8 t, Gen.ms0_9 t, Gen.hs0_9 t, Gen.ms0_10 t, Gen.hs0_10 t, Gen.ms0_11 t, Gen.hs0_11 t, Gen.ms0_12 t, Gen.hs0_12 t, Gen.scM0_0, Memref.isWhole_whole _, Gen.scM0_1, Memref.isWhole_whole _, Gen.scM0_2, Memref.isWhole_whole _, Gen.scM0_3, Memref.isWhole_whole _, Gen.scM0_4, Memref.isWhole_whole _, Gen.scM0_5, Memref.isWhole_whole _, Gen.iblk m c 0 t, Gen.iblk m c 1 t, Gen.iblk m c 2 t, Gen.iblk m c 3 t, Gen.iblk m c 4 t, Gen.iblk m c 5 t, Gen.iblk m c 6 t, Gen.iblk m c 7 t⟩

/-- The blocks its windows hold. -/
def wins : Win := ⟨Gen.iblk m c 0 t, Gen.iblk m c 1 t, Gen.iblk m c 2 t, kt (Gen.iblk m c 3 t), Gen.iblk m c 4 t, Gen.iblk m c 5 t, Gen.iblk m c 6 t, Gen.iblk m c 7 t⟩

theorem tile_coord : (tileOf t).val = ((pt m c t).i 0).val := by
  have ht : t.val < 11 := Nat.lt_of_lt_of_eq t.isLt Gen.N_0
  have e0 : (grid0.coords t 0).val = t.val / 1 % 11 := Pipeline.Grid.coords_val t 0 (by decide) rfl
  show t.val = (grid0.coords t 0).val
  omega

abbrev sumV : BD := iter (tileOf t) ((wins m c t).upV (tileOf t)) (11 - (tileOf t).val) fun _ => 0
abbrev sumK : BD := iter (tileOf t) ((wins m c t).upK (tileOf t)) (11 - (tileOf t).val) fun _ => 0
abbrev sumQ (B : BA) : BA := iter (tileOf t) ((wins m c t).upQ (tileOf t)) (11 - (tileOf t).val) B

/-- What the queries' gradient holds before point `n`. -/
def accQ : ℕ → BA
  | 0 => fun _ => 0
  | n + 1 => if h : n < cfg0.N then sumQ m c ⟨n, h⟩ (accQ n) else fun _ => 0

attribute [local irreducible] Gen.kernelRun0_A Gen.kernelRun0_B Gen.kernelRun0_C View.writes View.read

theorem at_first (h0 : t.val % 11 = 0) (h1 : ¬t.val % 11 = 10) :
    (Gen.outsAt0 m c t.val t.isLt).2.1 = leaveK (sumK m c t) ∧ (Gen.outsAt0 m c t.val t.isLt).2.2.1 = leaveV (sumV m c t) ∧ (Gen.outsAt0 m c t.val t.isLt).2.2.2.1 = leaveC (sumK m c t)
    ∧ (Gen.outsAt0 m c t.val t.isLt).2.2.2.2.2 = sumQ m c t (fun _ => 0) := by
  have h := AttnCaseA.run_reads (pt m c t) (tileOf t) (tile_coord m c t) ((Gen.hcond0_0 t).mpr h0) (fun h => h1 ((Gen.hcond0_1 t).mp h))
  have ho := Gen.outsAt0_A m c t h0 h1
  refine ⟨?_, ?_, ?_, ?_⟩
  · exact (congrArg (·.2.1) ho).trans ((congrArg (fun L => Gen.VO0_9.read (Elt Ideal) (Gen.VO0_9.writes (Elt Ideal) Gen.VO0_9.junk L)) h.1).trans (listOutK_read _ _ _))
  · exact (congrArg (·.2.2.1) ho).trans ((congrArg (fun L => Gen.VO0_10.read (Elt Ideal) (Gen.VO0_10.writes (Elt Ideal) Gen.VO0_10.junk L)) h.2.1).trans (listOutV_read _ _ _))
  · exact (congrArg (·.2.2.2.1) ho).trans ((congrArg (fun L => Gen.VO0_11.read (Elt Ideal) (Gen.VO0_11.writes (Elt Ideal) Gen.VO0_11.junk L)) h.2.2.1).trans (listOutC_read _ _ _))
  · exact (congrArg (·.2.2.2.2.2) ho).trans h.2.2.2

theorem at_middle (h0 : ¬t.val % 11 = 0) (h1 : ¬t.val % 11 = 10) :
    (Gen.outsAt0 m c t.val t.isLt).2.1 = leaveK (sumK m c t) ∧ (Gen.outsAt0 m c t.val t.isLt).2.2.1 = leaveV (sumV m c t) ∧ (Gen.outsAt0 m c t.val t.isLt).2.2.2.1 = leaveC (sumK m c t)
    ∧ (Gen.outsAt0 m c t.val t.isLt).2.2.2.2.2 = sumQ m c t (Gen.outsAt0 m c (t.val - 1) (Nat.lt_of_le_of_lt (Nat.sub_le _ _) t.isLt)).2.2.2.2.2 := by
  have h := AttnCaseB.run_reads (pt m c t) (Gen.outsAt0 m c (t.val - 1) (Nat.lt_of_le_of_lt (Nat.sub_le _ _) t.isLt)).2.2.2.2.2 (tileOf t) (tile_coord m c t) (fun h => h0 ((Gen.hcond0_0 t).mp h)) (fun h => h1 ((Gen.hcond0_1 t).mp h))
  have ho := Gen.outsAt0_B m c t h0 h1
  refine ⟨?_, ?_, ?_, ?_⟩
  · exact (congrArg (·.2.1) ho).trans ((congrArg (fun L => Gen.VO0_9.read (Elt Ideal) (Gen.VO0_9.writes (Elt Ideal) Gen.VO0_9.junk L)) h.1).trans (listOutK_read _ _ _))
  · exact (congrArg (·.2.2.1) ho).trans ((congrArg (fun L => Gen.VO0_10.read (Elt Ideal) (Gen.VO0_10.writes (Elt Ideal) Gen.VO0_10.junk L)) h.2.1).trans (listOutV_read _ _ _))
  · exact (congrArg (·.2.2.2.1) ho).trans ((congrArg (fun L => Gen.VO0_11.read (Elt Ideal) (Gen.VO0_11.writes (Elt Ideal) Gen.VO0_11.junk L)) h.2.2.1).trans (listOutC_read _ _ _))
  · exact (congrArg (·.2.2.2.2.2) ho).trans h.2.2.2

theorem at_last (h0 : ¬t.val % 11 = 0) (h1 : t.val % 11 = 10) :
    (Gen.outsAt0 m c t.val t.isLt).2.1 = leaveK (sumK m c t) ∧ (Gen.outsAt0 m c t.val t.isLt).2.2.1 = leaveV (sumV m c t) ∧ (Gen.outsAt0 m c t.val t.isLt).2.2.2.1 = leaveC (sumK m c t)
    ∧ (Gen.outsAt0 m c t.val t.isLt).2.2.2.2.2 = sumQ m c t (Gen.outsAt0 m c (t.val - 1) (Nat.lt_of_le_of_lt (Nat.sub_le _ _) t.isLt)).2.2.2.2.2
    ∧ (Gen.outsAt0 m c t.val t.isLt).1 = leaveQ (sumQ m c t (Gen.outsAt0 m c (t.val - 1) (Nat.lt_of_le_of_lt (Nat.sub_le _ _) t.isLt)).2.2.2.2.2) ∧ (Gen.outsAt0 m c t.val t.isLt).2.2.2.2.1 = leaveD (sumQ m c t (Gen.outsAt0 m c (t.val - 1) (Nat.lt_of_le_of_lt (Nat.sub_le _ _) t.isLt)).2.2.2.2.2) := by
  have h := AttnCaseC.run_reads (pt m c t) (Gen.outsAt0 m c (t.val - 1) (Nat.lt_of_le_of_lt (Nat.sub_le _ _) t.isLt)).2.2.2.2.2 (tileOf t) (tile_coord m c t) (fun h => h0 ((Gen.hcond0_0 t).mp h)) ((Gen.hcond0_1 t).mpr h1)
  have ho := Gen.outsAt0_C m c t h0 h1
  refine ⟨?_, ?_, ?_, ?_, ?_, ?_⟩
  · exact (congrArg (·.2.1) ho).trans ((congrArg (fun L => Gen.VO0_9.read (Elt Ideal) (Gen.VO0_9.writes (Elt Ideal) Gen.VO0_9.junk L)) h.1).trans (listOutK_read _ _ _))
  · exact (congrArg (·.2.2.1) ho).trans ((congrArg (fun L => Gen.VO0_10.read (Elt Ideal) (Gen.VO0_10.writes (Elt Ideal) Gen.VO0_10.junk L)) h.2.1).trans (listOutV_read _ _ _))
  · exact (congrArg (·.2.2.2.1) ho).trans ((congrArg (fun L => Gen.VO0_11.read (Elt Ideal) (Gen.VO0_11.writes (Elt Ideal) Gen.VO0_11.junk L)) h.2.2.1).trans (listOutC_read _ _ _))
  · exact (congrArg (·.2.2.2.2.2) ho).trans h.2.2.2.1
  · exact (congrArg (·.1) ho).trans ((congrArg (fun L => Gen.VO0_8.read (Elt Ideal) (Gen.VO0_8.writes (Elt Ideal) Gen.VO0_8.junk L)) h.2.2.2.2.1).trans (listOutQ_read _ _ _))
  · exact (congrArg (·.2.2.2.2.1) ho).trans ((congrArg (fun L => Gen.VO0_12.read (Elt Ideal) (Gen.VO0_12.writes (Elt Ideal) Gen.VO0_12.junk L)) h.2.2.2.2.2).trans (listOutD_read _ _ _))

theorem accQ_succ (n : ℕ) (hn : n < cfg0.N) : accQ m c (n + 1) = sumQ m c ⟨n, hn⟩ (accQ m c n) := by
  rw [accQ, dif_pos hn]

theorem acc_carried (n : ℕ) (hn : n < cfg0.N) : (Gen.outsAt0 m c n hn).2.2.2.2.2 = accQ m c (n + 1) := by
  induction n with
  | zero => exact (at_first m c ⟨0, hn⟩ rfl (by simp)).2.2.2.trans (accQ_succ m c _ hn).symm
  | succ n ih =>
    have hN : n + 1 < 11 := lt_of_lt_of_eq hn Gen.N_0
    have e : (Gen.outsAt0 m c (n + 1) hn).2.2.2.2.2 = sumQ m c ⟨n + 1, hn⟩ (accQ m c (n + 1)) := by
      rw [← ih (Nat.lt_of_succ_lt hn)]
      by_cases h : n + 1 = 10
      · exact (at_last m c ⟨n + 1, hn⟩ (by simp only; omega) (by simp only; omega)).2.2.2.1
      · exact (at_middle m c ⟨n + 1, hn⟩ (by simp only; omega) (by simp only; omega)).2.2.2
    exact e.trans (accQ_succ m c _ hn).symm

theorem left_K : (Gen.outsAt0 m c t.val t.isLt).2.1 = leaveK (sumK m c t) ∧ (Gen.outsAt0 m c t.val t.isLt).2.2.1 = leaveV (sumV m c t) ∧ (Gen.outsAt0 m c t.val t.isLt).2.2.2.1 = leaveC (sumK m c t) := by
  have hN : t.val < 11 := lt_of_lt_of_eq t.isLt Gen.N_0
  by_cases h0 : t.val % 11 = 0
  · have h := at_first m c t h0 (by omega)
    exact ⟨h.1, h.2.1, h.2.2.1⟩
  · by_cases h1 : t.val % 11 = 10
    · have h := at_last m c t h0 h1
      exact ⟨h.1, h.2.1, h.2.2.1⟩
    · have h := at_middle m c t h0 h1
      exact ⟨h.1, h.2.1, h.2.2.1⟩

theorem left_Q (h : t.val = 10) : (Gen.outsAt0 m c t.val t.isLt).1 = leaveQ (accQ m c 11) ∧ (Gen.outsAt0 m c t.val t.isLt).2.2.2.2.1 = leaveD (accQ m c 11) := by
  obtain ⟨n, hn⟩ := t
  obtain rfl : n = 10 := h
  have h := at_last m c ⟨10, hn⟩ (by simp) (by simp)
  have e : sumQ m c ⟨10, hn⟩ (Gen.outsAt0 m c 9 (Nat.lt_of_succ_lt hn)).2.2.2.2.2 = accQ m c 11 := by
    rw [acc_carried]
    exact (accQ_succ m c 10 hn).symm
  exact ⟨h.2.2.2.2.1.trans (congrArg leaveQ e), h.2.2.2.2.2.trans (congrArg leaveD e)⟩

end Cert.AttnSweep
-- ==== Proof.AttnSums.lean ====
/-
  The attention gradient kernel's sums over tiles as sums over all queries and all keys.
-/
module

public import proofs.«01_k».proof.Proof.AttnOut

@[expose] public section

set_option maxRecDepth 16384

noncomputable section

namespace Cert.AttnSums

open Cert.AttnKernelIdeal Cert.AttnHead Cert.AttnTile Cert.AttnLoop Cert.AttnOut
open Idealize.ShloMosaic

/-- The arrays the kernel is called with. -/
structure Arr where
  q : BQ
  ka : Vec Ideal S8x4224x128 .bf16
  v : Vec Ideal S8x4224x64 .bf16
  kt : BQ
  dout : BQ
  ls : BL
  dd : BL
  cq : BL

variable (H : Arr)

/-- The windows on them where the keys are those of tile `j`. -/
def Arr.win (j : Fin 11) : Win :=
  ⟨H.q, fun y => H.ka (ix3 (y 0) (col j (y 1)) (y 2)), fun y => H.v (ix3 (y 0) (col j (y 1)) (y 2)), AttnTile.kt fun y => H.kt (ix2 (y 0) (col j (y 1))), H.dout, H.ls, H.dd, H.cq⟩

/-- The weight of key `k` for query `l`. -/
def Arr.E (g : Fin 8) (k l : Fin 4224) : EReal :=
  if k ≤ l then Ideal.exp2 (∑ r : Fin 128, H.ka (ix3 g k r) * qcol H.q H.ls H.cq g l r) else 0

/-- The gradient of its score. -/
def Arr.D (g : Fin 8) (k l : Fin 4224) : EReal :=
  H.E g k l * (∑ d : Fin 64, H.v (ix3 g k d) * H.dout (ix2 (row g d) l) - H.dd (ix3 g 0 l))

theorem col_le (j j' : Fin 11) (k q : Fin 384) : col j k ≤ col j' q ↔ j < j' ∨ j = j' ∧ k ≤ q := by
  show 384 * j.val + k.val ≤ 384 * j'.val + q.val ↔ j.val < j'.val ∨ j = j' ∧ k.val ≤ q.val
  rw [Fin.ext_iff]
  omega

theorem exp2_bot : Ideal.exp2 ⊥ = 0 := rfl

theorem win_E (j0 j : Fin 11) (h : j0 ≤ j) (g : Fin 8) (k q : Fin 384) : Ideal.exp2 ((H.win j0).S j0 j (ix3 g k q)) = H.E g (col j0 k) (col j q) := by
  unfold Win.S Arr.E
  by_cases e : j = j0
  · subst e
    rw [if_pos rfl]
    by_cases hk : k ≤ q
    · rw [if_pos ((col_le j j k q).mpr (Or.inr ⟨rfl, hk⟩))]
      exact congrArg Ideal.exp2 (if_pos hk)
    · rw [if_neg fun hc => hk (((col_le j j k q).mp hc).resolve_left (lt_irrefl _)).2]
      exact (congrArg Ideal.exp2 (if_neg hk)).trans exp2_bot
  · rw [if_neg e, if_pos ((col_le j0 j k q).mpr (Or.inl (lt_of_le_of_ne h fun hh => e hh.symm)))]
    rfl

theorem E_before (j0 j : Fin 11) (h : ¬ j0 ≤ j) (g : Fin 8) (k q : Fin 384) : H.E g (col j0 k) (col j q) = 0 :=
  if_neg fun hc => h (((col_le j0 j k q).mp hc).elim le_of_lt fun hh => le_of_eq hh.1)

theorem win_D (j0 j : Fin 11) (h : j0 ≤ j) (g : Fin 8) (k q : Fin 384) : ds ((H.win j0).S j0 j) ((H.win j0).P j) H.dd j g k q = H.D g (col j0 k) (col j q) := by
  unfold ds Arr.D
  rw [win_E H j0 j h]
  rfl

theorem D_before (j0 j : Fin 11) (h : ¬ j0 ≤ j) (g : Fin 8) (k q : Fin 384) : H.D g (col j0 k) (col j q) = 0 := by
  unfold Arr.D
  rw [E_before H j0 j h, zero_mul]

/-- A sum over all columns, tile by tile. -/
theorem sum_tiles (f : Fin 4224 → EReal) : ∑ l, f l = ∑ j : Fin 11, ∑ q : Fin 384, f (col j q) := by
  rw [← Finset.sum_product', Finset.univ_product_univ]
  refine (Fintype.sum_equiv (finProdFinEquiv (m := 11) (n := 384)) _ _ fun x => ?_).symm
  exact congrArg f (Fin.ext (by show 384 * x.1.val + x.2.val = x.2.val + 384 * x.1.val; omega))

/-- Adding one tile's term after another. -/
theorem iter_sum {ι : Type} (j0 : Fin 11) (f : Fin 11 → (ι → EReal) → ι → EReal) (T : Fin 11 → ι → EReal) (hf : ∀ j A y, f j A y = A y + T j y) (a : ι → EReal) (y : ι) (n : ℕ) (hn : j0.val + n ≤ 11) :
    iter j0 f n a y = a y + ∑ j : Fin 11, if j0.val ≤ j.val ∧ j.val < j0.val + n then T j y else 0 := by
  induction n with
  | zero =>
    rw [Finset.sum_eq_zero fun j _ => if_neg (by omega), add_zero]
    rfl
  | succ n ih =>
    show f (tile j0 n) (iter j0 f n a) y = _
    rw [hf, ih (by omega), add_assoc]
    congr 1
    have ht : (tile j0 n).val = j0.val + n := by show min (j0.val + n) 10 = _; omega
    have hs : T (tile j0 n) y = ∑ j : Fin 11, if j = tile j0 n then T j y else 0 := by simp
    rw [hs, ← Finset.sum_add_distrib]
    refine Finset.sum_congr rfl fun j _ => ?_
    by_cases h1 : j = tile j0 n
    · have : j.val = j0.val + n := by rw [h1, ht]
      rw [if_neg (by omega), if_pos h1, if_pos (by omega), zero_add]
    · have : j.val ≠ j0.val + n := fun hh => h1 (Fin.ext (by rw [hh, ht]))
      rw [if_neg h1, add_zero]
      by_cases h2 : j0.val ≤ j.val ∧ j.val < j0.val + n
      · rw [if_pos h2, if_pos (by omega)]
      · rw [if_neg h2, if_neg (by omega)]

theorem iter_all {ι : Type} (j0 : Fin 11) (f : Fin 11 → (ι → EReal) → ι → EReal) (T : Fin 11 → ι → EReal) (hf : ∀ j A y, f j A y = A y + T j y) (a : ι → EReal) (y : ι) :
    iter j0 f (11 - j0.val) a y = a y + ∑ j : Fin 11, if j0 ≤ j then T j y else 0 := by
  rw [iter_sum j0 f T hf a y _ (by omega)]
  refine congrArg (a y + ·) (Finset.sum_congr rfl fun j _ => ?_)
  by_cases h : j0 ≤ j
  · have : j0.val ≤ j.val := h
    rw [if_pos h, if_pos (by omega)]
  · have : ¬ j0.val ≤ j.val := h
    rw [if_neg h, if_neg (by omega)]

/-- A point's sum over the queries' tiles from its own on. -/
theorem tiles_from (j0 : Fin 11) (k : Fin 384) (w : Fin 4224 → EReal) (T : Fin 11 → EReal) (hT : ∀ j, j0 ≤ j → T j = ∑ q : Fin 384, w (col j q)) (hw : ∀ j, ¬ j0 ≤ j → ∀ q, w (col j q) = 0) :
    (0 + ∑ j : Fin 11, if j0 ≤ j then T j else 0) = ∑ l, w l := by
  rw [zero_add, sum_tiles]
  refine Finset.sum_congr rfl fun j _ => ?_
  by_cases h : j0 ≤ j
  · rw [if_pos h, hT j h]
  · rw [if_neg h, Finset.sum_eq_zero fun q _ => hw j h q]

theorem sumV_eq (j0 : Fin 11) (g : Fin 8) (k : Fin 384) (d : Fin 64) :
    iter j0 ((H.win j0).upV j0) (11 - j0.val) (fun _ => 0) (ix3 g k ⟨d.val, by omega⟩) = ∑ l, H.E g (col j0 k) l * H.dout (ix2 (row g d) l) := by
  rw [iter_all j0 ((H.win j0).upV j0) (fun j y => ∑ q : Fin 384, Ideal.exp2 ((H.win j0).S j0 j (ix3 (y 0) (y 1) q)) * (if h : (y 2).val < 64 then H.dout (ix2 (row (y 0) ⟨_, h⟩) (col j q)) else 0)) (fun _ _ _ => rfl)]
  refine tiles_from j0 k (fun l => H.E g (col j0 k) l * H.dout (ix2 (row g d) l)) _ (fun j h => Finset.sum_congr rfl fun q _ => ?_) fun j h q => ?_
  · exact congrArg₂ (· * ·) (win_E H j0 j h g k q) (dif_pos d.isLt)
  · show H.E g (col j0 k) (col j q) * _ = 0
    rw [E_before H j0 j h, zero_mul]

theorem sumK_eq (j0 : Fin 11) (g : Fin 8) (k : Fin 384) (r : Fin 128) :
    iter j0 ((H.win j0).upK j0) (11 - j0.val) (fun _ => 0) (ix3 g k r) = ∑ l, H.D g (col j0 k) l * qcol H.q H.ls H.cq g l r := by
  rw [iter_all j0 ((H.win j0).upK j0) (fun j y => ∑ q : Fin 384, ds ((H.win j0).S j0 j) ((H.win j0).P j) H.dd j (y 0) (y 1) q * qcol H.q H.ls H.cq (y 0) (col j q) (y 2)) (fun _ _ _ => rfl)]
  refine tiles_from j0 k (fun l => H.D g (col j0 k) l * qcol H.q H.ls H.cq g l r) _ (fun j h => Finset.sum_congr rfl fun q _ => ?_) fun j h q => ?_
  · exact congrArg (· * _) (win_D H j0 j h g k q)
  · show H.D g (col j0 k) (col j q) * _ = 0
    rw [D_before H j0 j h, zero_mul]

/-- The keys over rows of ones, all of them. -/
def Arr.KT (g : Fin 8) (r : Fin 80) (k : Fin 4224) : EReal := if h : r.val < 64 then H.kt (ix2 (row g ⟨r.val, h⟩) k) else 1

theorem sumQ_eq (j0 j : Fin 11) (B : BA) (g : Fin 8) (r : Fin 80) (q : Fin 384) :
    iter j0 ((H.win j0).upQ j0) (11 - j0.val) B (ix3 g r (col j q)) = B (ix3 g r (col j q)) + ∑ k : Fin 384, H.KT g r (col j0 k) * H.D g (col j0 k) (col j q) := by
  have hT : ∀ i A (y : S8x80x4224.Idx), (H.win j0).upQ j0 i A y = A y + (if h : 384 * i.val ≤ (y 2).val ∧ (y 2).val < 384 * i.val + 384
      then ∑ k : Fin 384, (H.win j0).kt (ix3 (y 0) (y 1) k) * ds ((H.win j0).S j0 i) ((H.win j0).P i) H.dd i (y 0) k ⟨(y 2).val - 384 * i.val, by omega⟩ else 0) := by
    intro i A y
    by_cases h : 384 * i.val ≤ (y 2).val ∧ (y 2).val < 384 * i.val + 384
    · rw [dif_pos h]
      exact dif_pos h
    · rw [dif_neg h, add_zero]
      exact dif_neg h
  rw [iter_all j0 ((H.win j0).upQ j0) _ hT]
  congr 1
  rw [Finset.sum_eq_single j]
  · by_cases h : j0 ≤ j
    · rw [if_pos h]
      refine (dif_pos (show 384 * j.val ≤ 384 * j.val + q.val ∧ 384 * j.val + q.val < 384 * j.val + 384 by omega)).trans ?_
      refine Finset.sum_congr rfl fun k _ => congrArg₂ (· * ·) rfl ?_
      rw [← win_D H j0 j h]
      exact congrArg (ds _ _ _ j g k) (Fin.ext (by show 384 * j.val + q.val - 384 * j.val = q.val; omega))
    · rw [if_neg h, Finset.sum_eq_zero fun k _ => by rw [D_before H j0 j h, mul_zero]]
  · intro i _ hi
    refine (congrArg (fun z => if j0 ≤ i then z else (0 : EReal)) (dif_neg fun hh => hi ?_)).trans (ite_self _)
    have h1 : 384 * i.val ≤ 384 * j.val + q.val ∧ 384 * j.val + q.val < 384 * i.val + 384 := hh
    exact Fin.ext (by omega)
  · exact fun h => absurd (Finset.mem_univ _) h

end Cert.AttnSums
-- ==== Proof.AttnFinal.lean ====
/-
  The attention gradient kernel's results from the arrays it is called with.
-/
module

public import proofs.«01_k».proof.Proof.AttnSweep
public import proofs.«01_k».proof.Proof.AttnSums
public import proofs.«01_k».proof.Proof.Gen.AttnKernelIdeal.Value
public import Idealize.ShloMosaic.Lib.Pipeline.ValueKit

@[expose] public section

set_option maxRecDepth 65536

noncomputable section

namespace Cert.AttnFinal

open Cert.AttnKernelIdeal Cert.AttnTile Cert.AttnLoop Cert.AttnOut Cert.AttnSweep Cert.AttnSums
open Idealize.ShloMosaic

variable (m : (ℓ : Loc nD τ sig) → Buf (Elt Ideal) ℓ) (c : Dev nD)

/-- The arrays the kernel is called with. -/
def arr : Arr :=
  ⟨fun y => Gen.V m c main_v47 (ix2 (n0 := 1536) (n1 := 4224) ⟨(y 0).val, lt_of_lt_of_le (y 0).isLt (by decide)⟩ (y 1)), Gen.V m c main_v77, Gen.V m c main_v87,
    fun y => Gen.V m c main_v47 (ix2 (n0 := 1536) (n1 := 4224) ⟨512 + (y 0).val, Nat.lt_of_lt_of_le (Nat.add_lt_add_left (y 0).isLt 512) (by decide)⟩ (y 1)), Gen.V m c main_v91, Gen.V m c main_v92, Gen.V m c main_v93, Gen.V m c main_v94⟩

theorem idx0 : ∀ t : Fin cfg0.N, win0_0.index t = ![0, 0] := (by decide +kernel : ∀ t : Fin grid0.N, win0_0.index t = ![0, 0])
theorem idx1 : ∀ t : Fin cfg0.N, win0_1.index t = ![0, t.val, 0] := (by decide +kernel : ∀ t : Fin grid0.N, win0_1.index t = ![0, t.val, 0])
theorem idx2 : ∀ t : Fin cfg0.N, win0_2.index t = ![0, t.val, 0] := (by decide +kernel : ∀ t : Fin grid0.N, win0_2.index t = ![0, t.val, 0])
theorem idx3 : ∀ t : Fin cfg0.N, win0_3.index t = ![1, t.val] := (by decide +kernel : ∀ t : Fin grid0.N, win0_3.index t = ![1, t.val])
theorem idx4 : ∀ t : Fin cfg0.N, win0_4.index t = ![0, 0] := (by decide +kernel : ∀ t : Fin grid0.N, win0_4.index t = ![0, 0])
theorem idx5 : ∀ t : Fin cfg0.N, win0_5.index t = ![0, 0, 0] := (by decide +kernel : ∀ t : Fin grid0.N, win0_5.index t = ![0, 0, 0])
theorem idx6 : ∀ t : Fin cfg0.N, win0_6.index t = ![0, 0, 0] := (by decide +kernel : ∀ t : Fin grid0.N, win0_6.index t = ![0, 0, 0])
theorem idx7 : ∀ t : Fin cfg0.N, win0_7.index t = ![0, 0, 0] := (by decide +kernel : ∀ t : Fin grid0.N, win0_7.index t = ![0, 0, 0])
theorem idx8 : ∀ t : Fin cfg0.N, win0_8.index t = ![0, 0] := (by decide +kernel : ∀ t : Fin grid0.N, win0_8.index t = ![0, 0])
theorem idx9 : ∀ t : Fin cfg0.N, win0_9.index t = ![0, t.val] := (by decide +kernel : ∀ t : Fin grid0.N, win0_9.index t = ![0, t.val])
theorem idx10 : ∀ t : Fin cfg0.N, win0_10.index t = ![0, t.val] := (by decide +kernel : ∀ t : Fin grid0.N, win0_10.index t = ![0, t.val])
theorem idx11 : ∀ t : Fin cfg0.N, win0_11.index t = ![0, 0, t.val] := (by decide +kernel : ∀ t : Fin grid0.N, win0_11.index t = ![0, 0, t.val])
theorem idx12 : ∀ t : Fin cfg0.N, win0_12.index t = ![0, 0, 0] := (by decide +kernel : ∀ t : Fin grid0.N, win0_12.index t = ![0, 0, 0])

section Blocks

variable (t : Fin cfg0.N)

theorem blk0 (a : Fin 512) (l : Fin 4224) : Gen.iblk m c 0 t (ix2 a l) = (arr m c).q (ix2 a l) := by
  show Gen.iblk m c 0 t (ix2 a l) = Gen.V m c main_v47 (ix2 (n0 := 1536) (n1 := 4224) ⟨a.val, _⟩ l)
  blk_ext [Gen.iblk, idx0 t]

theorem blk1 (g : Fin 8) (k : Fin 384) (r : Fin 128) : Gen.iblk m c 1 t (ix3 g k r) = Gen.V m c main_v77 (ix3 g (col (tileOf t) k) r) := by
  blk_ext [Gen.iblk, idx1 t, col, tileOf]

theorem blk2 (g : Fin 8) (k : Fin 384) (d : Fin 64) : Gen.iblk m c 2 t (ix3 g k d) = Gen.V m c main_v87 (ix3 g (col (tileOf t) k) d) := by
  blk_ext [Gen.iblk, idx2 t, col, tileOf]

theorem blk3 (a : Fin 512) (k : Fin 384) : Gen.iblk m c 3 t (ix2 a k) = (arr m c).kt (ix2 a (col (tileOf t) k)) := by
  show Gen.iblk m c 3 t (ix2 a k) = Gen.V m c main_v47 (ix2 (n0 := 1536) (n1 := 4224) ⟨512 + a.val, _⟩ (col (tileOf t) k))
  blk_ext [Gen.iblk, idx3 t, col, tileOf]

theorem blk4 (a : Fin 512) (l : Fin 4224) : Gen.iblk m c 4 t (ix2 a l) = Gen.V m c main_v91 (ix2 a l) := by
  blk_ext [Gen.iblk, idx4 t]
theorem blk5 (g : Fin 8) (a : Fin 1) (l : Fin 4224) : Gen.iblk m c 5 t (ix3 g a l) = Gen.V m c main_v92 (ix3 g a l) := by
  blk_ext [Gen.iblk, idx5 t]
theorem blk6 (g : Fin 8) (a : Fin 1) (l : Fin 4224) : Gen.iblk m c 6 t (ix3 g a l) = Gen.V m c main_v93 (ix3 g a l) := by
  blk_ext [Gen.iblk, idx6 t]
theorem blk7 (g : Fin 8) (a : Fin 1) (l : Fin 4224) : Gen.iblk m c 7 t (ix3 g a l) = Gen.V m c main_v94 (ix3 g a l) := by
  blk_ext [Gen.iblk, idx7 t]

set_option maxHeartbeats 2000000 in
theorem wins_eq : wins m c t = (arr m c).win (tileOf t) := by
  unfold wins Arr.win
  congr 1
  · funext y
    obtain ⟨a, l, rfl⟩ := ex2 y
    exact blk0 m c t a l
  · funext y
    obtain ⟨g, k, r, rfl⟩ := ex3 y
    exact blk1 m c t g k r
  · funext y
    obtain ⟨g, k, r, rfl⟩ := ex3 y
    exact blk2 m c t g k r
  · refine congrArg AttnTile.kt (funext fun y => ?_)
    obtain ⟨a, l, rfl⟩ := ex2 y
    exact blk3 m c t a l
  · funext y
    obtain ⟨a, l, rfl⟩ := ex2 y
    exact blk4 m c t a l
  · funext y
    obtain ⟨g, a, l, rfl⟩ := ex3 y
    exact blk5 m c t g a l
  · funext y
    obtain ⟨g, a, l, rfl⟩ := ex3 y
    exact blk6 m c t g a l
  · funext y
    obtain ⟨g, a, l, rfl⟩ := ex3 y
    exact blk7 m c t g a l

end Blocks

/-- The results. -/
def resV : Vec Ideal S512x4224 .bf16 := fun y => ∑ l, (arr m c).E (headOf (y 0)) (y 1) l * (arr m c).dout (ix2 (row (headOf (y 0)) (dimOf (y 0))) l)
def resK : Vec Ideal S512x4224 .bf16 := fun y => (∑ l, (arr m c).D (headOf (y 0)) (y 1) l * (arr m c).q (ix2 (row (headOf (y 0)) (dimOf (y 0))) l)) * ((Real.log 2 : ℝ) : EReal)
def resC : Vec Ideal S8x1x4224 .f32 := fun y => ∑ l, (arr m c).D (y 0) (y 2) l
def resQ : Vec Ideal S512x4224 .bf16 := fun y => (∑ k, (arr m c).kt (ix2 (row (headOf (y 0)) (dimOf (y 0))) k) * (arr m c).D (headOf (y 0)) k (y 1)) * ((0.125 : ℝ) : EReal)
def resD : Vec Ideal S8x1x4224 .f32 := fun y => ∑ k, (arr m c).D (y 0) k (y 2)

theorem emb9 (t : Fin cfg0.N) (a : Fin 512) (k : Fin 384) : ((win0_9.blk t).view.emb (ix2 a k) : S512x4224.Idx) = ix2 a (col (tileOf t) k) := by
  blk_ext [idx9 t, col, tileOf]
theorem emb10 (t : Fin cfg0.N) (a : Fin 512) (k : Fin 384) : ((win0_10.blk t).view.emb (ix2 a k) : S512x4224.Idx) = ix2 a (col (tileOf t) k) := by
  blk_ext [idx10 t, col, tileOf]
theorem emb11 (t : Fin cfg0.N) (g : Fin 8) (a : Fin 1) (k : Fin 384) : ((win0_11.blk t).view.emb (ix3 g a k) : S8x1x4224.Idx) = ix3 g a (col (tileOf t) k) := by
  blk_ext [idx11 t, col, tileOf]

theorem point_V (t : Fin cfg0.N) (a : Fin 512) (k : Fin 384) : leaveV (sumV m c t) (ix2 a k) = resV m c (ix2 a (col (tileOf t) k)) := by
  show sumV m c t (ix3 (headOf a) k ⟨(dimOf a).val, _⟩) = _
  unfold sumV
  rw [wins_eq]
  exact sumV_eq (arr m c) (tileOf t) (headOf a) k (dimOf a)

theorem qcol_q (a : Fin 512) (l : Fin 4224) : qcol (arr m c).q (arr m c).ls (arr m c).cq (headOf a) l ⟨(dimOf a).val, by omega⟩ = (arr m c).q (ix2 (row (headOf a) (dimOf a)) l) :=
  dif_pos (dimOf a).isLt

theorem point_K (t : Fin cfg0.N) (a : Fin 512) (k : Fin 384) : leaveK (sumK m c t) (ix2 a k) = resK m c (ix2 a (col (tileOf t) k)) := by
  show sumK m c t (ix3 (headOf a) k ⟨(dimOf a).val, _⟩) * _ = _ * _
  unfold sumK
  rw [wins_eq]
  refine congrArg (· * _) ((sumK_eq (arr m c) (tileOf t) (headOf a) k ⟨(dimOf a).val, by omega⟩).trans ?_)
  exact Finset.sum_congr rfl fun l _ => congrArg (_ * ·) (qcol_q m c a l)

theorem point_C (t : Fin cfg0.N) (g : Fin 8) (a : Fin 1) (k : Fin 384) : leaveC (sumK m c t) (ix3 g a k) = resC m c (ix3 g a (col (tileOf t) k)) := by
  show sumK m c t (ix3 g k 64) = _
  unfold sumK
  rw [wins_eq]
  refine (sumK_eq (arr m c) (tileOf t) g k 64).trans ?_
  exact Finset.sum_congr rfl fun l _ => mul_one _

theorem final_V : (Gen.dats m 0 c).arrAt 10 cfg0.N = resV m c := by
  refine (Gen.dats m 0 c).arrAt_eq_of_covers 10 _ (by decide +kernel) fun t hf y => ?_
  rw [Gen.after0_10, (left_K m c t).2.1]
  blk_simp [idx10 t]
  obtain ⟨a, k, rfl⟩ := ex2 (a := 512) (b := 384) y
  exact (point_V m c t a k).trans (congrArg (resV m c) (emb10 t a k).symm)

theorem final_K : (Gen.dats m 0 c).arrAt 9 cfg0.N = resK m c := by
  refine (Gen.dats m 0 c).arrAt_eq_of_covers 9 _ (by decide +kernel) fun t hf y => ?_
  rw [Gen.after0_9, (left_K m c t).1]
  blk_simp [idx9 t]
  obtain ⟨a, k, rfl⟩ := ex2 (a := 512) (b := 384) y
  exact (point_K m c t a k).trans (congrArg (resK m c) (emb9 t a k).symm)

theorem final_C : (Gen.dats m 0 c).arrAt 11 cfg0.N = resC m c := by
  refine (Gen.dats m 0 c).arrAt_eq_of_covers 11 _ (by decide +kernel) fun t hf y => ?_
  rw [Gen.after0_11, (left_K m c t).2.2]
  blk_simp [idx11 t]
  obtain ⟨g, a, k, rfl⟩ := ex3 (a := 8) (b := 1) (c := 384) y
  exact (point_C m c t g a k).trans (congrArg (resC m c) (emb11 t g a k).symm)

/-- All the points' sums for the queries. -/
theorem accQ_all (g : Fin 8) (r : Fin 80) (j : Fin 11) (q : Fin 384) :
    accQ m c 11 (ix3 g r (col j q)) = ∑ k : Fin 4224, (arr m c).KT g r k * (arr m c).D g k (col j q) := by
  have hn : ∀ n, n ≤ 11 → accQ m c n (ix3 g r (col j q)) = ∑ i : Fin 11, if i.val < n then ∑ k : Fin 384, (arr m c).KT g r (col i k) * (arr m c).D g (col i k) (col j q) else 0 := by
    intro n
    induction n with
    | zero => exact fun _ => (Finset.sum_eq_zero fun i _ => if_neg (Nat.not_lt_zero _)).symm
    | succ n ih =>
      intro h
      have hN : n < cfg0.N := lt_of_lt_of_eq h Gen.N_0.symm
      rw [accQ_succ m c n hN]
      unfold sumQ
      rw [wins_eq, sumQ_eq, ih (by omega)]
      have hs : (∑ k : Fin 384, (arr m c).KT g r (col (tileOf ⟨n, hN⟩) k) * (arr m c).D g (col (tileOf ⟨n, hN⟩) k) (col j q))
          = ∑ i : Fin 11, if i = tileOf ⟨n, hN⟩ then ∑ k : Fin 384, (arr m c).KT g r (col i k) * (arr m c).D g (col i k) (col j q) else 0 := by simp
      rw [hs, ← Finset.sum_add_distrib]
      refine Finset.sum_congr rfl fun i _ => ?_
      have ht : (tileOf ⟨n, hN⟩).val = n := rfl
      by_cases h1 : i = tileOf ⟨n, hN⟩
      · have : i.val = n := by rw [h1, ht]
        rw [if_neg (by omega), if_pos h1, if_pos (by omega), zero_add]
      · have : i.val ≠ n := fun hh => h1 (Fin.ext hh)
        rw [if_neg h1, add_zero]
        by_cases h2 : i.val < n
        · rw [if_pos h2, if_pos (by omega)]
        · rw [if_neg h2, if_neg (by omega)]
  rw [hn 11 le_rfl, sum_tiles]
  exact Finset.sum_congr rfl fun i _ => if_pos i.isLt

theorem accQ_col (g : Fin 8) (r : Fin 80) (l : Fin 4224) : accQ m c 11 (ix3 g r l) = ∑ k : Fin 4224, (arr m c).KT g r k * (arr m c).D g k l := by
  have h := accQ_all m c g r ⟨l.val / 384, by omega⟩ ⟨l.val % 384, by omega⟩
  rwa [show col ⟨l.val / 384, by omega⟩ ⟨l.val % 384, by omega⟩ = l from Fin.ext (by show 384 * (l.val / 384) + l.val % 384 = l.val; omega)] at h

theorem point_Q (a : Fin 512) (l : Fin 4224) : leaveQ (accQ m c 11) (ix2 a l) = resQ m c (ix2 a l) := by
  show accQ m c 11 (ix3 (headOf a) ⟨(dimOf a).val, _⟩ l) * _ = _ * _
  rw [accQ_col]
  exact congrArg (· * _) (Finset.sum_congr rfl fun k _ => congrArg (· * _) (dif_pos (dimOf a).isLt))

theorem point_D (g : Fin 8) (a : Fin 1) (l : Fin 4224) : leaveD (accQ m c 11) (ix3 g a l) = resD m c (ix3 g a l) := by
  show accQ m c 11 (ix3 g 64 l) = _
  rw [accQ_col]
  exact Finset.sum_congr rfl fun k _ => one_mul _

theorem emb8 (t : Fin cfg0.N) (a : Fin 512) (l : Fin 4224) : ((win0_8.blk t).view.emb (ix2 a l) : S512x4224.Idx) = ix2 a l := by
  blk_ext [idx8 t]
theorem emb12 (t : Fin cfg0.N) (g : Fin 8) (a : Fin 1) (l : Fin 4224) : ((win0_12.blk t).view.emb (ix3 g a l) : S8x1x4224.Idx) = ix3 g a l := by
  blk_ext [idx12 t]

theorem final_Q : (Gen.dats m 0 c).arrAt 8 cfg0.N = resQ m c := by
  refine (Gen.dats m 0 c).arrAt_eq_of_covers 8 _ (by decide +kernel) fun t hf y => ?_
  have ht : t.val = 10 := by
    have h := (Gen.flush0_8 t).mp hf
    have := lt_of_lt_of_eq t.isLt Gen.N_0
    omega
  rw [Gen.after0_8, (left_Q m c t ht).1]
  blk_simp [idx8 t]
  obtain ⟨a, l, rfl⟩ := ex2 (a := 512) (b := 4224) y
  exact (point_Q m c a l).trans (congrArg (resQ m c) (emb8 t a l).symm)

theorem final_D : (Gen.dats m 0 c).arrAt 12 cfg0.N = resD m c := by
  refine (Gen.dats m 0 c).arrAt_eq_of_covers 12 _ (by decide +kernel) fun t hf y => ?_
  have ht : t.val = 10 := by
    have h := (Gen.flush0_12 t).mp hf
    have := lt_of_lt_of_eq t.isLt Gen.N_0
    omega
  rw [Gen.after0_12, (left_Q m c t ht).2]
  blk_simp [idx12 t]
  obtain ⟨g, a, l, rfl⟩ := ex3 (a := 8) (b := 1) (c := 4224) y
  exact (point_D m c g a l).trans (congrArg (resD m c) (emb12 t g a l).symm)

end Cert.AttnFinal
-- ==== Proof.AttnValue.lean ====
/-
  The attention gradient kernel's results when its arguments are real numbers: the gradients of causal attention.
-/
module

public import proofs.«01_k».proof.Proof.AttnEntries
public import proofs.«01_k».proof.Proof.AttnFinal

@[expose] public section

set_option maxRecDepth 16384

noncomputable section

namespace Cert.AttnValue

open Cert.AttnKernelIdeal Cert.AttnHead Cert.AttnTile Cert.AttnOut Cert.AttnSums Cert.AttnReal Cert.AttnEntries
open Idealize.ShloMosaic

variable (Q K W G : Fin 4112 → Fin 8 → Fin 64 → ℝ) (C : Fin 4112 → Fin 8 → ℝ)

/-- That the arrays the kernel is called with come from these numbers. -/
structure Reads (A : Arr) : Prop where
  q : ∀ (g : Fin 8) (d : Fin 64) (l : Fin 4224), A.q (ix2 (row g d) l) = back (fun t => Q t g d * (1 / 8 * (Real.log 2)⁻¹)) l
  ka : ∀ (g : Fin 8) (l : Fin 4224) (r : Fin 128),
    A.ka (ix3 g l r) = augk (fun d => back (fun t => K t g d) l) (-back (fun t => C t g * (Real.log 2)⁻¹) l) (112 ≤ l.val) r
  v : ∀ (g : Fin 8) (l : Fin 4224) (d : Fin 64), A.v (ix3 g l d) = back (fun t => W t g d) l
  kt : ∀ (g : Fin 8) (d : Fin 64) (l : Fin 4224), A.kt (ix2 (row g d) l) = back (fun t => K t g d) l
  dout : ∀ (g : Fin 8) (d : Fin 64) (l : Fin 4224), A.dout (ix2 (row g d) l) = back (fun t => G t g d) l
  ls : ∀ (g : Fin 8) (l : Fin 4224), A.ls (ix3 g 0 l) = back (fun t => (AttnReal.top Q K C g t + Real.log (tot Q K C g t)) * (Real.log 2)⁻¹) l
  dd : ∀ (g : Fin 8) (l : Fin 4224), A.dd (ix3 g 0 l) = back (fun t => AttnReal.dd Q K W G C g t) l
  cq : ∀ (g : Fin 8) (l : Fin 4224), A.cq (ix3 g 0 l) = back (fun t => C t g * (Real.log 2)⁻¹) l

theorem sum_aug (x y : Fin 64 → ℝ) (a b : ℝ) (p : Prop) [Decidable p] (hp : p) :
    ∑ r : Fin 128, augk (fun d => (x d : EReal)) (b : EReal) p r * aug (fun d => (y d : EReal)) (a : EReal) r = ((∑ d, x d * y d + (b + a) : ℝ) : EReal) := by
  refine (Fin.sum_univ_add (a := 64) (b := 64) _).trans ?_
  rw [EReal.coe_add, coe_sum]
  refine congrArg₂ (· + ·) (Finset.sum_congr rfl fun d _ => ?_) ?_
  · rw [EReal.coe_mul]
    exact congrArg₂ (· * ·) (dif_pos d.isLt) (dif_pos d.isLt)
  · refine (Fin.sum_univ_add (a := 6) (b := 58) _).trans ?_
    rw [Finset.sum_eq_zero (s := Finset.univ) (f := fun j : Fin 58 => _) fun j _ => ?_, Fin.sum_univ_six]
    · simp [augk, aug, hp, ← EReal.coe_sub, ← EReal.coe_add]
    · have hj : (Fin.natAdd 64 (Fin.natAdd 6 j) : Fin 128).val = 64 + (6 + j.val) := rfl
      have h0 : augk (fun d => (x d : EReal)) (b : EReal) p (Fin.natAdd 64 (Fin.natAdd 6 j)) = 0 := by
        unfold augk
        rw [dif_neg (by omega), if_neg (by omega), if_neg (by omega), if_neg (by omega), if_neg (by omega)]
      rw [h0, zero_mul]

theorem sum_aug_empty (x : Fin 64 → EReal) (y : Fin 64 → EReal) (a b : EReal) (p : Prop) [Decidable p] (hp : ¬ p) :
    ∑ r : Fin 128, augk x b p r * aug y a r = ⊥ := by
  refine sum_bot _ (64 : Fin 128) ?_
  have h1 : augk x b p 64 = ⊥ := by
    unfold augk
    rw [dif_neg (by decide), if_pos (by decide), if_neg hp]
  have h2 : aug y a 64 = 1 := by
    unfold aug
    rw [dif_neg (by decide), if_pos (by decide)]
  rw [h1, h2, mul_one]

variable {Q K W G C} {A : Arr} (R : Reads Q K W G C A)
include R

theorem E_empty (g : Fin 8) (k l : Fin 4224) (hk : k.val < 112) : A.E g k l = 0 := by
  unfold Arr.E
  split
  · have hs : ∑ r : Fin 128, A.ka (ix3 g k r) * qcol A.q A.ls A.cq g l r = ⊥ := by
      unfold qcol
      simp only [R.ka]
      exact sum_aug_empty _ _ _ _ _ (by omega)
    rw [hs]
    rfl
  · rfl

theorem E_later (g : Fin 8) (k l : Fin 4224) (hl : l.val < 112) : A.E g k l = 0 := by
  by_cases hk : k.val < 112
  · exact E_empty R g k l hk
  · exact if_neg (by rw [Fin.le_def]; omega)

theorem E_up (g : Fin 8) (k l : Fin 4112) : A.E g (up k) (up l) = (pr Q K C g l k : EReal) := by
  unfold Arr.E
  by_cases hkl : k ≤ l
  · rw [if_pos (by show 112 + k.val ≤ 112 + l.val; have := Fin.le_def.mp hkl; omega)]
    have hs : ∑ r : Fin 128, A.ka (ix3 g (up k) r) * qcol A.q A.ls A.cq g (up l) r
        = (((sco Q K C g l k - (AttnReal.top Q K C g l + Real.log (tot Q K C g l))) * (Real.log 2)⁻¹ : ℝ) : EReal) := by
      unfold qcol
      simp only [R.ka, R.q, R.cq, R.ls, back_up, ← EReal.coe_neg, ← EReal.coe_sub]
      rw [sum_aug _ _ _ _ _ (by show 112 ≤ 112 + k.val; omega)]
      refine congrArg _ ?_
      unfold sco
      have hm : ∑ d, K k g d * (Q l g d * (1 / 8 * (Real.log 2)⁻¹)) = (∑ d, Q l g d * K k g d) * (1 / 8) * (Real.log 2)⁻¹ := by
        rw [mul_assoc, Finset.sum_mul]
        exact Finset.sum_congr rfl fun d _ => by ring
      rw [hm]
      ring
    rw [hs, exp2_real, exp_sub_log Q K C g l k hkl]
  · rw [if_neg (by show ¬ 112 + k.val ≤ 112 + l.val; rw [Fin.le_def] at hkl; omega), pr_of_lt Q K C g l k hkl, EReal.coe_zero]

theorem D_empty (g : Fin 8) (k l : Fin 4224) (h : k.val < 112 ∨ l.val < 112) : A.D g k l = 0 := by
  unfold Arr.D
  rw [h.elim (E_empty R g k l) (E_later R g k l), zero_mul]

theorem D_up (g : Fin 8) (k l : Fin 4112) : A.D g (up k) (up l) = (AttnReal.ds Q K W G C g l k : EReal) := by
  unfold Arr.D AttnReal.ds
  simp only [E_up R, R.v, R.dout, R.dd, back_up, ← EReal.coe_mul, ← coe_sum, ← EReal.coe_sub]
  refine congrArg _ ?_
  unfold AttnReal.dp
  exact congrArg (fun s => _ * (s - _)) (Finset.sum_congr rfl fun d _ => mul_comm _ _)

theorem dv_eq (g : Fin 8) (k : Fin 4224) (d : Fin 64) : ∑ l, A.E g k l * A.dout (ix2 (row g d) l) = back (fun t => dv Q K G C g t d) k := by
  rw [sum_up _ fun l hl => by rw [E_later R g k l hl, zero_mul]]
  rcases up_or k with hk | ⟨t, rfl⟩
  · rw [back_empty _ hk]
    exact Finset.sum_eq_zero fun l _ => by rw [E_empty R g k _ hk, zero_mul]
  · simp only [E_up R, R.dout, back_up, ← EReal.coe_mul, ← coe_sum]
    exact congrArg _ (Finset.sum_congr rfl fun l _ => mul_comm _ _)

theorem dk_eq (g : Fin 8) (k : Fin 4224) (d : Fin 64) :
    (∑ l, A.D g k l * A.q (ix2 (row g d) l)) * ((Real.log 2 : ℝ) : EReal) = back (fun t => dk Q K W G C g t d) k := by
  rw [sum_up _ fun l hl => by rw [D_empty R g k l (Or.inr hl), zero_mul]]
  rcases up_or k with hk | ⟨t, rfl⟩
  · rw [back_empty _ hk, Finset.sum_eq_zero fun l _ => by rw [D_empty R g k _ (Or.inl hk), zero_mul], zero_mul]
  · simp only [D_up R, R.q, back_up, ← EReal.coe_mul, ← coe_sum]
    refine congrArg _ ?_
    have h2 : Real.log 2 ≠ 0 := Real.log_ne_zero_of_pos_of_ne_one (by norm_num) (by norm_num)
    unfold dk
    rw [Finset.sum_mul, Finset.sum_mul]
    exact Finset.sum_congr rfl fun l _ => by field_simp

theorem dq_eq (g : Fin 8) (l : Fin 4224) (d : Fin 64) :
    (∑ k, A.kt (ix2 (row g d) k) * A.D g k l) * ((0.125 : ℝ) : EReal) = back (fun t => dq Q K W G C g t d) l := by
  rw [sum_up _ fun k hk => by rw [D_empty R g k l (Or.inl hk), mul_zero]]
  rcases up_or l with hl | ⟨t, rfl⟩
  · rw [back_empty _ hl, Finset.sum_eq_zero fun k _ => by rw [D_empty R g _ l (Or.inr hl), mul_zero], zero_mul]
  · simp only [D_up R, R.kt, back_up, ← EReal.coe_mul, ← coe_sum]
    refine congrArg _ ?_
    unfold dq
    rw [show (0.125 : ℝ) = 1 / 8 by norm_num]
    exact congrArg (· * _) (Finset.sum_congr rfl fun k _ => mul_comm _ _)

theorem dck_eq (g : Fin 8) (k : Fin 4224) : ∑ l, A.D g k l = back (fun t => dck Q K W G C g t) k := by
  rw [sum_up _ fun l hl => D_empty R g k l (Or.inr hl)]
  rcases up_or k with hk | ⟨t, rfl⟩
  · rw [back_empty _ hk]
    exact Finset.sum_eq_zero fun l _ => D_empty R g k _ (Or.inl hk)
  · simp only [D_up R, back_up, ← coe_sum]
    rfl

theorem dcq_eq (g : Fin 8) (l : Fin 4224) : ∑ k, A.D g k l = back (fun t => dcq Q K W G C g t) l := by
  rw [sum_up _ fun k hk => D_empty R g k l (Or.inl hk)]
  rcases up_or l with hl | ⟨t, rfl⟩
  · rw [back_empty _ hl]
    exact Finset.sum_eq_zero fun k _ => D_empty R g _ l (Or.inr hl)
  · simp only [D_up R, back_up, ← coe_sum]
    rfl

omit R

variable (m : (ℓ : Loc nD τ sig) → Buf (Elt Ideal) ℓ) (c : Dev nD)

theorem read_q (hq : IsTok (AttnHost.argQ m c) Q) (g : Fin 8) (d : Fin 64) (l : Fin 4224) :
    (AttnFinal.arr m c).q (ix2 (row g d) l) = back (fun t => Q t g d * (1 / 8 * (Real.log 2)⁻¹)) l := by
  have h := query_apply (k := AttnHost.argK m c) (v := AttnHost.argV m c) hq (row g d) l
  rw [headOf_row, dimOf_row] at h
  exact (congrFun (AttnHost.found m c).1 _).trans h

theorem read_kt (hk : IsTok (AttnHost.argK m c) K) (g : Fin 8) (d : Fin 64) (l : Fin 4224) :
    (AttnFinal.arr m c).kt (ix2 (row g d) l) = back (fun t => K t g d) l := by
  have h := key_apply (q := AttnHost.argQ m c) (v := AttnHost.argV m c) hk (row g d) l
  rw [headOf_row, dimOf_row] at h
  exact (congrFun (AttnHost.found m c).1 _).trans h

theorem read_ka (hk : IsTok (AttnHost.argK m c) K) (hc : IsGate (AttnHost.argC m c) C) (g : Fin 8) (l : Fin 4224) (r : Fin 128) :
    (AttnFinal.arr m c).ka (ix3 g l r) = augk (fun d => back (fun t => K t g d) l) (-back (fun t => C t g * (Real.log 2)⁻¹) l) (112 ≤ l.val) r := by
  refine (congrFun (AttnHost.found m c).2.1 _).trans ((kaug_apply g l r).trans ?_)
  rw [funext fun d => tok_apply hk g l d, gate_apply hc]

theorem read_v (hv : IsTok (AttnHost.argV m c) W) (g : Fin 8) (l : Fin 4224) (d : Fin 64) :
    (AttnFinal.arr m c).v (ix3 g l d) = back (fun t => W t g d) l :=
  (congrFun (AttnHost.found m c).2.2.1 _).trans (tok_apply hv g l d)

theorem read_dout (hO : IsTok (AttnHost.argO m c) G) (g : Fin 8) (d : Fin 64) (l : Fin 4224) :
    (AttnFinal.arr m c).dout (ix2 (row g d) l) = back (fun t => G t g d) l := by
  have h := rows_apply hO (row g d) l
  rw [headOf_row, dimOf_row] at h
  exact (congrFun (AttnHost.found m c).2.2.2.1 _).trans h

theorem read_ls (hq : IsTok (AttnHost.argQ m c) Q) (hk : IsTok (AttnHost.argK m c) K) (hc : IsGate (AttnHost.argC m c) C) (g : Fin 8) (l : Fin 4224) :
    (AttnFinal.arr m c).ls (ix3 g 0 l) = back (fun t => (AttnReal.top Q K C g t + Real.log (tot Q K C g t)) * (Real.log 2)⁻¹) l :=
  (congrFun (AttnHost.found m c).2.2.2.2.1 _).trans (lse2_apply hq hk hc g l)

theorem read_dd (hq : IsTok (AttnHost.argQ m c) Q) (hk : IsTok (AttnHost.argK m c) K) (hv : IsTok (AttnHost.argV m c) W)
    (hc : IsGate (AttnHost.argC m c) C) (hO : IsTok (AttnHost.argO m c) G) (g : Fin 8) (l : Fin 4224) :
    (AttnFinal.arr m c).dd (ix3 g 0 l) = back (fun t => AttnReal.dd Q K W G C g t) l :=
  (congrFun (AttnHost.found m c).2.2.2.2.2.1 _).trans ((flat_apply _ g l).trans
    (line_apply (A := fun h t => AttnReal.dd Q K W G C h t) (fun h t => rowdot_apply hq hk hv hc hO h t) g l))

theorem read_cq (hc : IsGate (AttnHost.argC m c) C) (g : Fin 8) (l : Fin 4224) :
    (AttnFinal.arr m c).cq (ix3 g 0 l) = back (fun t => C t g * (Real.log 2)⁻¹) l :=
  (congrFun (AttnHost.found m c).2.2.2.2.2.2 _).trans ((flat_apply _ g l).trans (gate_apply hc g l))

/-- The arrays the kernel finds come from the arguments' numbers. -/
theorem reads (hq : IsTok (AttnHost.argQ m c) Q) (hk : IsTok (AttnHost.argK m c) K) (hv : IsTok (AttnHost.argV m c) W)
    (hc : IsGate (AttnHost.argC m c) C) (hO : IsTok (AttnHost.argO m c) G) : Reads Q K W G C (AttnFinal.arr m c) :=
  ⟨read_q m c hq, read_ka m c hk hc, read_v m c hv, read_kt m c hk, read_dout m c hO, read_ls m c hq hk hc, read_dd m c hq hk hv hc hO, read_cq m c hc⟩

end Cert.AttnValue
-- ==== Proof.AttnReferenceValue.lean ====
/-
  The reference's results when the arguments are real numbers: the gradients of causal attention.
-/
module

public import proofs.«01_k».proof.Proof.AttnEntries
public import proofs.«01_k».proof.Proof.Gen.AttnReferenceIdeal.Run

@[expose] public section

set_option maxRecDepth 16384

noncomputable section

namespace Cert.AttnReferenceValue

open Cert.AttnReferenceIdeal Cert.AttnReferenceIdeal.Gen Cert.AttnReferenceIdeal.Value Cert.AttnOut Cert.AttnReal Cert.AttnEntries
open Idealize.ShloMosaic Idealize.ShloMosaic.TcCoe Idealize.SL.Sem

variable (q k v dO : FVec Ideal S4112x8x64 .f32) (cu : FVec Ideal S4112x8 .f32)

/-- A row's number for each of the row's keys. -/
def wide (a : FVec Ideal S8x4112x1 .f32) : FVec Ideal S8x4112x4112 .f32 := broadcastInDim S8x4112x4112 ![0, 1, 2] bcast_S8x4112x1_S8x4112x4112_0_1_2 a

/-- A row's number with a last axis. -/
def last (a : FVec Ideal S8x4112 .f32) : FVec Ideal S8x4112x1 .f32 := broadcastInDim S8x4112x1 ![0, 1] bcast_S8x4112_S8x4112x1_0_1 a

/-- The largest score of a row. -/
def peak : FVec Ideal S8x4112 .f32 := maximumf (broadcastInDim S8x4112 ![] bcast_S_S8x4112 (constant S_ .f32 0xFF800000#32)) (AttnHost.top q k cu)

/-- The exponentials. -/
def expo : FVec Ideal S8x4112x4112 .f32 := Host.exp (subf (AttnHost.score q k cu) (wide (last (peak q k cu))))

/-- The sum of a row. -/
def sums (a : FVec Ideal S8x4112x4112 .f32) : FVec Ideal S8x4112 .f32 := Host.reduceAdd a (constant S_ .f32 0x00000000#32) reducesTo_S8x4112x4112_S8x4112_d2 h_S_

/-- The output's gradient, components before positions. -/
def turned : FVec Ideal S8x64x4112 .f32 := transpose S8x64x4112 [1, 2, 0] dO transposes_S4112x8x64_S8x64x4112_1_2_0

/-- The weights' gradient. -/
def pull : FVec Ideal S8x4112x4112 .f32 := Host.dotGeneral dot_S8x64x4112_S4112x8x64_S8x4112x4112_1_2_2_0_0_1 none (turned dO) v

/-- One over the square of the sum of a row's exponentials. -/
def recip : FVec Ideal S8x4112x1 .f32 :=
  Host.divf (broadcastInDim S8x4112x1 ![] bcast_S_S8x4112x1 (constant S_ .f32 0x3F800000#32)) (mulf (last (sums (expo q k cu))) (last (sums (expo q k cu))))

/-- The sum along an axis of one. -/
def drop (a : FVec Ideal S8x4112x1 .f32) : FVec Ideal S8x4112 .f32 := Host.reduceAdd a (constant S_ .f32 0x00000000#32) reducesTo_S8x4112x1_S8x4112_d2 h_S_

/-- A row's number with a last axis, by its order. -/
def unit (a : FVec Ideal S8x4112 .f32) : FVec Ideal S8x4112x1 .f32 := shapeCast S8x4112x1 a shapeCasts_S8x4112_S8x4112x1

/-- What the sum of the exponentials adds to a row's gradient. -/
def corr : FVec Ideal S8x4112 .f32 := drop (Host.negf (unit (sums (mulf (mulf (pull v dO) (wide (recip q k cu))) (expo q k cu)))))

/-- The scores' gradient, before the mask. -/
def loose : FVec Ideal S8x4112x4112 .f32 :=
  mulf (addf (Host.divf (pull v dO) (wide (last (sums (expo q k cu))))) (broadcastInDim S8x4112x4112 ![0, 1] bcast_S8x4112_S8x4112x4112_0_1 (corr q k v dO cu))) (expo q k cu)

/-- The scores' gradient. -/
def slope : FVec Ideal S8x4112x4112 .f32 :=
  select AttnHost.seen (loose q k v dO cu) (broadcastInDim S8x4112x4112 ![] bcast_S_S8x4112x4112 (constant S_ .f32 0x00000000#32))

/-- The scores' gradient times the queries' scale. -/
def scaled : FVec Ideal S8x4112x4112 .f32 := mulf (slope q k v dO cu) (broadcastInDim S8x4112x4112 ![] bcast_S_S8x4112x4112 (constant S_ .f32 0x3E000000#32))

/-- The queries' gradient. -/
def gradQ : FVec Ideal S4112x8x64 .f32 :=
  transpose S4112x8x64 [1, 0, 2] (Host.dotGeneral dot_S8x4112x4112_S4112x8x64_S8x4112x64_2_0_1_2_0_1 none (scaled q k v dO cu) k) transposes_S8x4112x64_S4112x8x64_1_0_2

/-- The keys' gradient. -/
def gradK : FVec Ideal S4112x8x64 .f32 :=
  transpose S4112x8x64 [1, 0, 2] (Host.dotGeneral dot_S8x4112x4112_S4112x8x64_S8x4112x64_1_0_2_2_0_1 none (scaled q k v dO cu) q) transposes_S8x4112x64_S4112x8x64_1_0_2

/-- The values' gradient. -/
def gradV : FVec Ideal S4112x8x64 .f32 :=
  transpose S4112x8x64 [2, 0, 1] (Host.dotGeneral dot_S8x64x4112_S8x4112x4112_S8x64x4112_2_1_1_2_0_0 none (turned dO)
    (Host.divf (expo q k cu) (wide (last (sums (expo q k cu)))))) transposes_S8x64x4112_S4112x8x64_2_0_1

/-- The sum over the queries. -/
def down (a : FVec Ideal S8x4112x4112 .f32) : FVec Ideal S8x4112 .f32 := Host.reduceAdd a (constant S_ .f32 0x00000000#32) reducesTo_S8x4112x4112_S8x4112_d1 h_S_

/-- The sum along a middle axis of one, of a row's numbers given a middle axis. -/
def mid (a : FVec Ideal S8x4112 .f32) : FVec Ideal S8x4112 .f32 :=
  Host.reduceAdd (shapeCast S8x1x4112 a shapeCasts_S8x4112_S8x1x4112) (constant S_ .f32 0x00000000#32) reducesTo_S8x1x4112_S8x4112_d1 h_S_

/-- The scores' gradients of a key, summed. -/
def gradC : FVec Ideal S8x4112 .f32 :=
  transpose S8x4112 [1, 0] (Host.negf (transpose S4112x8 [1, 0] (mid (down (Host.negf (slope q k v dO cu)))) transposes_S8x4112_S4112x8_1_0)) transposes_S4112x8_S8x4112_1_0

/-- The scores' gradients of a query, summed. -/
def gradD : FVec Ideal S8x4112 .f32 :=
  transpose S8x4112 [1, 0] (transpose S4112x8 [1, 0] (drop (unit (sums (slope q k v dO cu)))) transposes_S8x4112_S4112x8_1_0) transposes_S4112x8_S8x4112_1_0

variable (m : (ℓ : Loc nD τ sig) → Buf (Elt Ideal) ℓ) (c : Dev nD)

abbrev argQ : FVec Ideal S4112x8x64 .f32 := m ((c.tc : Thread nD τ).loc main_arg0)
abbrev argK : FVec Ideal S4112x8x64 .f32 := m ((c.tc : Thread nD τ).loc main_arg1)
abbrev argV : FVec Ideal S4112x8x64 .f32 := m ((c.tc : Thread nD τ).loc main_arg2)
abbrev argC : FVec Ideal S4112x8 .f32 := m ((c.tc : Thread nD τ).loc main_arg3)
abbrev argO : FVec Ideal S4112x8x64 .f32 := m ((c.tc : Thread nD τ).loc main_arg4)

theorem res_Q : res_main_v83 m c = truncf .bf16 (AttnHost.rows (gradQ (argQ m c) (argK m c) (argV m c) (argO m c) (argC m c))) bitsLt_bf16_f32 := rfl
theorem res_K : res_main_v87 m c = truncf .bf16 (AttnHost.rows (gradK (argQ m c) (argK m c) (argV m c) (argO m c) (argC m c))) bitsLt_bf16_f32 := rfl
theorem res_V : res_main_v91 m c = truncf .bf16 (AttnHost.rows (gradV (argQ m c) (argK m c) (argO m c) (argC m c))) bitsLt_bf16_f32 := rfl
theorem res_C : res_main_v95 m c = AttnHost.flat (AttnHost.line (gradC (argQ m c) (argK m c) (argV m c) (argO m c) (argC m c))) := rfl
theorem res_D : res_main_v98 m c = AttnHost.flat (AttnHost.line (gradD (argQ m c) (argK m c) (argV m c) (argO m c) (argC m c))) := rfl

section

variable {q k v dO : FVec Ideal S4112x8x64 .f32} {cu : FVec Ideal S4112x8 .f32}
variable {Q K W G : Fin 4112 → Fin 8 → Fin 64 → ℝ} {C : Fin 4112 → Fin 8 → ℝ}

theorem wide_apply (a : FVec Ideal S8x4112x1 .f32) (h : Fin 8) (l t : Fin 4112) : wide a (ix3 h l t) = a (ix3 h l 0) := by
  unfold wide
  pointwise

theorem last_apply (a : FVec Ideal S8x4112 .f32) (h : Fin 8) (l : Fin 4112) : last a (ix3 h l 0) = a (ix2 h l) := by
  unfold last
  pointwise

theorem sums_apply (a : FVec Ideal S8x4112x4112 .f32) (h : Fin 8) (l : Fin 4112) : sums a (ix2 h l) = ∑ t, a (ix3 h l t) := by
  unfold sums
  pointwise

theorem down_apply (a : FVec Ideal S8x4112x4112 .f32) (h : Fin 8) (t : Fin 4112) : down a (ix2 h t) = ∑ l, a (ix3 h l t) := by
  unfold down
  pointwise

theorem drop_apply (a : FVec Ideal S8x4112x1 .f32) (h : Fin 8) (l : Fin 4112) : drop a (ix2 h l) = a (ix3 h l 0) := by
  have e : drop a (ix2 h l) = ∑ x : Fin 1, a (ix3 h l x) := by
    unfold drop
    pointwise
  rw [e, Fin.sum_univ_one]

theorem unit_apply (a : FVec Ideal S8x4112 .f32) (h : Fin 8) (l : Fin 4112) : unit a (ix3 h l 0) = a (ix2 h l) :=
  shapeCast_apply a _ (ix3 h l 0) (ix2 h l) (by
    rw [Shape.rowMajor_val_three, Shape.rowMajor_val_two]
    show h.val * 4112 + l.val = (h.val * 4112 + l.val) * 1 + 0
    omega)

theorem mid_apply (a : FVec Ideal S8x4112 .f32) (h : Fin 8) (l : Fin 4112) : mid a (ix2 h l) = a (ix2 h l) := by
  have e : ∀ b : FVec Ideal S8x1x4112 .f32, Host.reduceAdd b (constant S_ .f32 0x00000000#32) reducesTo_S8x1x4112_S8x4112_d1 h_S_ (ix2 h l) = ∑ x : Fin 1, b (ix3 h x l) := by
    intro b
    pointwise
  refine (e _).trans ?_
  rw [Fin.sum_univ_one]
  exact shapeCast_apply a _ (ix3 h 0 l) (ix2 h l) (by
    rw [Shape.rowMajor_val_three, Shape.rowMajor_val_two]
    show h.val * 4112 + l.val = (h.val * 1 + 0) * 4112 + l.val
    omega)

theorem peak_of (a : FVec Ideal S8x4112 .f32) (h : Fin 8) (l : Fin 4112) {x : EReal} (ha : a (ix2 h l) = x) :
    maximumf (broadcastInDim S8x4112 ![] bcast_S_S8x4112 (constant S_ .f32 0xFF800000#32)) a (ix2 h l) = x := by
  have e : maximumf (broadcastInDim S8x4112 ![] bcast_S_S8x4112 (constant S_ .f32 0xFF800000#32)) a (ix2 h l) = max (Ideal.ofBits FTy.f32 4286578688#32) (a (ix2 h l)) := rfl
  rw [e, bits_bot, ha]
  exact max_eq_right bot_le

theorem peak_apply (hq : IsTok q Q) (hk : IsTok k K) (hc : IsGate cu C) (h : Fin 8) (l : Fin 4112) : peak q k cu (ix2 h l) = (AttnReal.top Q K C h l : EReal) :=
  peak_of (AttnHost.top q k cu) h l (top_apply hq hk hc h l)

theorem expo_apply (hq : IsTok q Q) (hk : IsTok k K) (hc : IsGate cu C) (h : Fin 8) (l t : Fin 4112) : expo q k cu (ix3 h l t) = (ex Q K C h l t : EReal) := by
  have e : expo q k cu (ix3 h l t) = Ideal.exp (AttnHost.score q k cu (ix3 h l t) - wide (last (peak q k cu)) (ix3 h l t)) := rfl
  rw [e, wide_apply, last_apply, peak_apply hq hk hc, score_apply hq hk hc, exp_sc]

theorem total_apply (hq : IsTok q Q) (hk : IsTok k K) (hc : IsGate cu C) (h : Fin 8) (l : Fin 4112) : sums (expo q k cu) (ix2 h l) = (tot Q K C h l : EReal) := by
  rw [sums_apply]
  unfold tot
  simp only [expo_apply hq hk hc, ← coe_sum]

theorem pull_apply (hv : IsTok v W) (hO : IsTok dO G) (h : Fin 8) (l t : Fin 4112) : pull v dO (ix3 h l t) = (dp W G h l t : EReal) := by
  have e : pull v dO (ix3 h l t) = ∑ d, dO (ix3 l h d) * v (ix3 t h d) := by
    unfold pull turned
    pointwise
  rw [e]
  unfold dp
  simp only [hO _ _ _, hv _ _ _, ← EReal.coe_mul, ← coe_sum]

theorem recip_apply (hq : IsTok q Q) (hk : IsTok k K) (hc : IsGate cu C) (h : Fin 8) (l : Fin 4112) :
    recip q k cu (ix3 h l 0) = ((1 / (tot Q K C h l * tot Q K C h l) : ℝ) : EReal) := by
  have e : recip q k cu (ix3 h l 0) = Ideal.div (Ideal.ofBits FTy.f32 1065353216#32) (last (sums (expo q k cu)) (ix3 h l 0) * last (sums (expo q k cu)) (ix3 h l 0)) := rfl
  have h1 : Ideal.ofBits FTy.f32 1065353216#32 = ((1 : ℝ) : EReal) := Ideal.ofBits_one_f32
  rw [e, last_apply, total_apply hq hk hc, ← EReal.coe_mul, h1, div_real _ (mul_ne_zero (tot_ne Q K C h l) (tot_ne Q K C h l))]

theorem corr_apply (hq : IsTok q Q) (hk : IsTok k K) (hv : IsTok v W) (hc : IsGate cu C) (hO : IsTok dO G) (h : Fin 8) (l : Fin 4112) :
    corr q k v dO cu (ix2 h l) = ((-∑ t, dp W G h l t * (1 / (tot Q K C h l * tot Q K C h l)) * ex Q K C h l t : ℝ) : EReal) := by
  unfold corr
  rw [drop_apply]
  show -unit _ (ix3 h l 0) = _
  rw [unit_apply, sums_apply, EReal.coe_neg, coe_sum]
  refine congrArg _ (Finset.sum_congr rfl fun t _ => ?_)
  show pull v dO (ix3 h l t) * wide (recip q k cu) (ix3 h l t) * expo q k cu (ix3 h l t) = _
  rw [wide_apply, pull_apply hv hO, recip_apply hq hk hc, expo_apply hq hk hc, EReal.coe_mul, EReal.coe_mul]

theorem loose_apply (hq : IsTok q Q) (hk : IsTok k K) (hv : IsTok v W) (hc : IsGate cu C) (hO : IsTok dO G) (h : Fin 8) (l t : Fin 4112) :
    loose q k v dO cu (ix3 h l t) = (ds Q K W G C h l t : EReal) := by
  have b : ∀ a : FVec Ideal S8x4112 .f32, broadcastInDim S8x4112x4112 ![0, 1] bcast_S8x4112_S8x4112x4112_0_1 a (ix3 h l t) = a (ix2 h l) := by
    intro a
    pointwise
  have e : loose q k v dO cu (ix3 h l t) = (Ideal.div (pull v dO (ix3 h l t)) (wide (last (sums (expo q k cu))) (ix3 h l t))
      + broadcastInDim S8x4112x4112 ![0, 1] bcast_S8x4112_S8x4112x4112_0_1 (corr q k v dO cu) (ix3 h l t)) * expo q k cu (ix3 h l t) := rfl
  rw [e, b, wide_apply, last_apply, pull_apply hv hO, total_apply hq hk hc, corr_apply hq hk hv hc hO, expo_apply hq hk hc, div_real _ (tot_ne Q K C h l),
    ← EReal.coe_add, ← EReal.coe_mul, ds_quot]

theorem slope_apply (hq : IsTok q Q) (hk : IsTok k K) (hv : IsTok v W) (hc : IsGate cu C) (hO : IsTok dO G) (h : Fin 8) (l t : Fin 4112) :
    slope q k v dO cu (ix3 h l t) = (ds Q K W G C h l t : EReal) := by
  have e : slope q k v dO cu (ix3 h l t) = Scalar.select (AttnHost.seen (ix3 h l t)) (loose q k v dO cu (ix3 h l t)) (Ideal.ofBits FTy.f32 0#32) := rfl
  rw [e, seen_apply, loose_apply hq hk hv hc hO]
  by_cases ht : t ≤ l
  · rw [if_pos ht]
    rfl
  · rw [if_neg ht, ds_of_lt Q K W G C h l t ht]
    exact Ideal.ofBits_zero_f32

theorem scaled_apply (hq : IsTok q Q) (hk : IsTok k K) (hv : IsTok v W) (hc : IsGate cu C) (hO : IsTok dO G) (h : Fin 8) (l t : Fin 4112) :
    scaled q k v dO cu (ix3 h l t) = ((ds Q K W G C h l t * (1 / 8) : ℝ) : EReal) := by
  have e : scaled q k v dO cu (ix3 h l t) = slope q k v dO cu (ix3 h l t) * Ideal.ofBits FTy.f32 1040187392#32 := rfl
  rw [e, slope_apply hq hk hv hc hO, bits_eighth, EReal.coe_mul]

theorem gradQ_real (hq : IsTok q Q) (hk : IsTok k K) (hv : IsTok v W) (hc : IsGate cu C) (hO : IsTok dO G) :
    IsTok (gradQ q k v dO cu) fun t h d => dq Q K W G C h t d := by
  intro t h d
  have e : gradQ q k v dO cu (ix3 t h d) = ∑ x, scaled q k v dO cu (ix3 h t x) * k (ix3 x h d) := by
    unfold gradQ
    pointwise
  rw [e]
  simp only [scaled_apply hq hk hv hc hO, hk _ _ _, ← EReal.coe_mul, ← coe_sum]
  unfold dq
  rw [Finset.sum_mul]
  exact congrArg _ (Finset.sum_congr rfl fun x _ => by ring)

theorem gradK_real (hq : IsTok q Q) (hk : IsTok k K) (hv : IsTok v W) (hc : IsGate cu C) (hO : IsTok dO G) :
    IsTok (gradK q k v dO cu) fun t h d => dk Q K W G C h t d := by
  intro t h d
  have e : gradK q k v dO cu (ix3 t h d) = ∑ x, scaled q k v dO cu (ix3 h x t) * q (ix3 x h d) := by
    unfold gradK
    pointwise
  rw [e]
  simp only [scaled_apply hq hk hv hc hO, hq _ _ _, ← EReal.coe_mul, ← coe_sum]
  unfold dk
  rw [Finset.sum_mul]
  exact congrArg _ (Finset.sum_congr rfl fun x _ => by ring)

theorem gradV_real (hq : IsTok q Q) (hk : IsTok k K) (hc : IsGate cu C) (hO : IsTok dO G) :
    IsTok (gradV q k dO cu) fun t h d => dv Q K G C h t d := by
  intro t h d
  have e : gradV q k dO cu (ix3 t h d) = ∑ x, dO (ix3 x h d) * Ideal.div (expo q k cu (ix3 h x t)) (wide (last (sums (expo q k cu))) (ix3 h x t)) := by
    unfold gradV turned
    pointwise
  rw [e]
  simp only [wide_apply, last_apply, expo_apply hq hk hc, total_apply hq hk hc, div_real _ (tot_ne Q K C h _), hO _ _ _, ← EReal.coe_mul, ← coe_sum]
  rfl

theorem gradC_apply (hq : IsTok q Q) (hk : IsTok k K) (hv : IsTok v W) (hc : IsGate cu C) (hO : IsTok dO G) (h : Fin 8) (t : Fin 4112) :
    gradC q k v dO cu (ix2 h t) = (dck Q K W G C h t : EReal) := by
  have e : gradC q k v dO cu (ix2 h t) = -mid (down (Host.negf (slope q k v dO cu))) (ix2 h t) := by
    unfold gradC
    pointwise
  rw [e, mid_apply, down_apply]
  have n : ∀ l : Fin 4112, Host.negf (slope q k v dO cu) (ix3 h l t) = ((-ds Q K W G C h l t : ℝ) : EReal) := fun l => by
    rw [EReal.coe_neg]
    exact congrArg _ (slope_apply hq hk hv hc hO h l t)
  simp only [n, ← coe_sum]
  rw [← EReal.coe_neg, Finset.sum_neg_distrib, neg_neg]
  rfl

theorem gradD_apply (hq : IsTok q Q) (hk : IsTok k K) (hv : IsTok v W) (hc : IsGate cu C) (hO : IsTok dO G) (h : Fin 8) (t : Fin 4112) :
    gradD q k v dO cu (ix2 h t) = (dcq Q K W G C h t : EReal) := by
  have e : gradD q k v dO cu (ix2 h t) = drop (unit (sums (slope q k v dO cu))) (ix2 h t) := by
    unfold gradD
    pointwise
  rw [e, drop_apply, unit_apply, sums_apply]
  simp only [slope_apply hq hk hv hc hO, ← coe_sum]
  rfl

end

end Cert.AttnReferenceValue
-- ==== Proof.AttnAgree.lean ====
/-
  The claims about the attention's gradient kernel.
-/
module

public import proofs.«01_k».proof.Defs
public import proofs.«01_k».proof.Proof.Gen.AttnKernel.Frame
public import proofs.«01_k».proof.Proof.Gen.Pre_finite_attention
public import proofs.«01_k».proof.Proof.AttnValue
public import proofs.«01_k».proof.Proof.AttnReferenceValue
public import Idealize.ShloMosaic.Lib.ReduceAll

@[expose] public section

noncomputable section

namespace Cert.Proof.AttnAgree

open Idealize.ShloMosaic Idealize.ShloMosaic.TcCoe Idealize.SL.Sem
open Cert.AttnReal Cert.AttnEntries Cert.AttnOut Cert.AttnTile

theorem frame_kernel : Cert.quiescent_AttnKernel := fun m ρ _ => Cert.AttnKernel.Gen.frame m ρ
theorem frame_ideal : Cert.quiescent_AttnKernelIdeal := fun m ρ _ => Cert.AttnKernelIdeal.Gen.frame m ρ
theorem frame_ideal_finite : Cert.quiescent_AttnKernelIdeal_pre_finite_attention := fun m ρ _ => Cert.AttnKernelIdeal.Gen.frame m ρ
theorem frame_reference : Cert.quiescent_AttnReferenceIdeal := fun m ρ _ =>
  (θ_run _ _ _).mono (fun r h => ⟨fun c => (h c).2.2.2.2.2, by funext s; exact nomatch s⟩) (Cert.AttnReferenceIdeal.Value.run m ρ)
theorem frame_reference_finite : Cert.quiescent_AttnReferenceIdeal_pre_finite_attention := fun m ρ _ =>
  (θ_run _ _ _).mono (fun r h => ⟨fun c => (h c).2.2.2.2.2, by funext s; exact nomatch s⟩) (Cert.AttnReferenceIdeal.Value.run m ρ)

theorem kept : Cert.preserves_AttnKernel_AttnKernelIdeal :=
  ⟨IdealRules.named_const.statement Cert.AttnKernelIdeal.κ "mask" .f32 0xF149F2CA#32 _ rfl,
    IdealRules.named_const.statement Cert.AttnKernelIdeal.κ "ln2" .f32 0x3F317218#32 _ rfl⟩

/-! ## The precondition: the arguments are real numbers -/

theorem real_of_lt (x : EReal) (h : max x (-x) < ⊤) : ((x.toReal : ℝ) : EReal) = x := by
  refine EReal.coe_toReal (fun e => ?_) (fun e => ?_)
  · rw [e] at h
    exact absurd (lt_of_le_of_lt (le_max_left _ _) h) (lt_irrefl _)
  · rw [e] at h
    exact absurd (lt_of_le_of_lt (le_max_right _ _) h) (by simp)

section
open Cert.Pre_finite_attention

theorem bits_top : Ideal.ofBits FTy.f32 0x7F800000#32 = ⊤ := by simp [Ideal.ofBits, Ideal.ieee]

theorem real_of_word (x : EReal) (h : BitVec.ofBool (decide (max x (-x) < Ideal.ofBits FTy.f32 0x7F800000#32)) = 1#1) : ((x.toReal : ℝ) : EReal) = x := by
  rw [bits_top] at h
  refine real_of_lt x ?_
  by_contra hn
  rw [decide_eq_false hn] at h
  exact absurd h (by decide)

theorem real_of_pre (a0 a1 a2 : FVec Ideal S4112x8x64 .f32) (a3 : FVec Ideal S4112x8 .f32) (a4 : FVec Ideal S4112x8x64 .f32)
    (h : fn (F := Ideal) a0 a1 a2 a3 a4 = fun _ => 1#1) :
    ((∀ i, (((a0 i : EReal).toReal : ℝ) : EReal) = a0 i) ∧ (∀ i, (((a1 i : EReal).toReal : ℝ) : EReal) = a1 i) ∧ (∀ i, (((a2 i : EReal).toReal : ℝ) : EReal) = a2 i))
      ∧ (∀ i, (((a3 i : EReal).toReal : ℝ) : EReal) = a3 i) ∧ (∀ i, (((a4 i : EReal).toReal : ℝ) : EReal) = a4 i) := by
  have e := congrFun h (Shape.Idx.first Gen.h_S_)
  dsimp only [fn, fn_part1] at e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨⟨fun i => real_of_word _ (Host.reduce_andi_all _ _ _ _ _ e0 i), fun i => real_of_word _ (Host.reduce_andi_all _ _ _ _ _ e1 i),
    fun i => real_of_word _ (Host.reduce_andi_all _ _ _ _ _ e2 i)⟩, fun i => real_of_word _ (Host.reduce_andi_all _ _ _ _ _ e3 i),
    fun i => real_of_word _ (Host.reduce_andi_all _ _ _ _ _ e4 i)⟩

end

/-! ## The results -/

section
open Cert.AttnReferenceIdeal

variable (m : (ℓ : Loc Cert.AttnKernelIdeal.nD Cert.AttnKernelIdeal.τ Cert.AttnKernelIdeal.sig) → Buf (Elt Ideal) ℓ)
  (m' : (ℓ : Loc nD τ sig) → Buf (Elt Ideal) ℓ)

/-- The two memories hold the same arguments. -/
def Same : Prop := ∀ c : Dev nD,
  m' ((c.tc : Thread nD τ).loc main_arg0) = m ((c.tc : Thread nD τ).loc Cert.AttnKernelIdeal.main_arg0)
  ∧ m' ((c.tc : Thread nD τ).loc main_arg1) = m ((c.tc : Thread nD τ).loc Cert.AttnKernelIdeal.main_arg1)
  ∧ m' ((c.tc : Thread nD τ).loc main_arg2) = m ((c.tc : Thread nD τ).loc Cert.AttnKernelIdeal.main_arg2)
  ∧ m' ((c.tc : Thread nD τ).loc main_arg3) = m ((c.tc : Thread nD τ).loc Cert.AttnKernelIdeal.main_arg3)
  ∧ m' ((c.tc : Thread nD τ).loc main_arg4) = m ((c.tc : Thread nD τ).loc Cert.AttnKernelIdeal.main_arg4)

/-- The numbers of a token array. -/
def numTok (a : FVec Ideal S4112x8x64 .f32) : Fin 4112 → Fin 8 → Fin 64 → ℝ := fun t h d => (a (ix3 t h d) : EReal).toReal

/-- The numbers of a gate array. -/
def numGate (a : FVec Ideal S4112x8 .f32) : Fin 4112 → Fin 8 → ℝ := fun t h => (a (ix2 t h) : EReal).toReal

theorem isTok (a : FVec Ideal S4112x8x64 .f32) (h : ∀ i, (((a i : EReal).toReal : ℝ) : EReal) = a i) : IsTok a (numTok a) := fun t g d => (h (ix3 t g d)).symm
theorem isGate (a : FVec Ideal S4112x8 .f32) (h : ∀ i, (((a i : EReal).toReal : ℝ) : EReal) = a i) : IsGate a (numGate a) := fun t g => (h (ix2 t g)).symm

/-- The arguments are given by these numbers. -/
structure Given (Q K W G : Fin 4112 → Fin 8 → Fin 64 → ℝ) (C : Fin 4112 → Fin 8 → ℝ) (q k v dO : FVec Ideal S4112x8x64 .f32) (cu : FVec Ideal S4112x8 .f32) : Prop where
  q : IsTok q Q
  k : IsTok k K
  v : IsTok v W
  c : IsGate cu C
  o : IsTok dO G

variable {Q K W G : Fin 4112 → Fin 8 → Fin 64 → ℝ} {C : Fin 4112 → Fin 8 → ℝ} (c : Dev nD)
variable (H : Given Q K W G C (AttnHost.argQ m c) (AttnHost.argK m c) (AttnHost.argV m c) (AttnHost.argO m c) (AttnHost.argC m c))
variable (H' : Given Q K W G C (AttnReferenceValue.argQ m' c) (AttnReferenceValue.argK m' c) (AttnReferenceValue.argV m' c) (AttnReferenceValue.argO m' c) (AttnReferenceValue.argC m' c))

include H in
theorem reads : AttnValue.Reads Q K W G C (AttnFinal.arr m c) := AttnValue.reads m c H.q H.k H.v H.c H.o

include H H'

theorem eq_Q : (Value.res_main_v83 m' c : Vec Ideal S512x4224 .bf16) = AttnFinal.resQ m c := by
  funext y
  obtain ⟨a, l, rfl⟩ := ex2 y
  refine (congrFun (AttnReferenceValue.res_Q m' c) _).trans ?_
  exact (rows_apply (AttnReferenceValue.gradQ_real H'.q H'.k H'.v H'.c H'.o) a l).trans (AttnValue.dq_eq (reads m c H) (headOf a) l (dimOf a)).symm

theorem eq_K : (Value.res_main_v87 m' c : Vec Ideal S512x4224 .bf16) = AttnFinal.resK m c := by
  funext y
  obtain ⟨a, l, rfl⟩ := ex2 y
  refine (congrFun (AttnReferenceValue.res_K m' c) _).trans ?_
  exact (rows_apply (AttnReferenceValue.gradK_real H'.q H'.k H'.v H'.c H'.o) a l).trans (AttnValue.dk_eq (reads m c H) (headOf a) l (dimOf a)).symm

theorem eq_V : (Value.res_main_v91 m' c : Vec Ideal S512x4224 .bf16) = AttnFinal.resV m c := by
  funext y
  obtain ⟨a, l, rfl⟩ := ex2 y
  refine (congrFun (AttnReferenceValue.res_V m' c) _).trans ?_
  exact (rows_apply (AttnReferenceValue.gradV_real H'.q H'.k H'.c H'.o) a l).trans (AttnValue.dv_eq (reads m c H) (headOf a) l (dimOf a)).symm

theorem eq_C : (Value.res_main_v95 m' c : Vec Ideal S8x1x4224 .f32) = AttnFinal.resC m c := by
  funext y
  obtain ⟨g, z, l, rfl⟩ := ex3 y
  obtain rfl : z = 0 := Subsingleton.elim _ _
  refine (congrFun (AttnReferenceValue.res_C m' c) _).trans ((flat_apply _ g l).trans ?_)
  exact (line_apply (A := fun h t => dck Q K W G C h t) (fun h t => AttnReferenceValue.gradC_apply H'.q H'.k H'.v H'.c H'.o h t) g l).trans (AttnValue.dck_eq (reads m c H) g l).symm

theorem eq_D : (Value.res_main_v98 m' c : Vec Ideal S8x1x4224 .f32) = AttnFinal.resD m c := by
  funext y
  obtain ⟨g, z, l, rfl⟩ := ex3 y
  obtain rfl : z = 0 := Subsingleton.elim _ _
  refine (congrFun (AttnReferenceValue.res_D m' c) _).trans ((flat_apply _ g l).trans ?_)
  exact (line_apply (A := fun h t => dcq Q K W G C h t) (fun h t => AttnReferenceValue.gradD_apply H'.q H'.k H'.v H'.c H'.o h t) g l).trans (AttnValue.dcq_eq (reads m c H) g l).symm

end

/-- The numbers the precondition gives. -/
theorem given (m : (ℓ : Loc Cert.AttnKernelIdeal.nD Cert.AttnKernelIdeal.τ Cert.AttnKernelIdeal.sig) → Buf (Elt Ideal) ℓ)
    (h : Cert.Pre_AttnKernelIdeal_finite_attention m) (c : Dev Cert.AttnKernelIdeal.nD) :
    Given (numTok (AttnHost.argQ m c)) (numTok (AttnHost.argK m c)) (numTok (AttnHost.argV m c)) (numTok (AttnHost.argO m c)) (numGate (AttnHost.argC m c))
      (AttnHost.argQ m c) (AttnHost.argK m c) (AttnHost.argV m c) (AttnHost.argO m c) (AttnHost.argC m c) := by
  obtain ⟨⟨h0, h1, h2⟩, h3, h4⟩ := real_of_pre _ _ _ _ _ (h c)
  exact ⟨isTok _ h0, isTok _ h1, isTok _ h2, isGate _ h3, isTok _ h4⟩

theorem given' {m : (ℓ : Loc Cert.AttnKernelIdeal.nD Cert.AttnKernelIdeal.τ Cert.AttnKernelIdeal.sig) → Buf (Elt Ideal) ℓ}
    {m' : (ℓ : Loc Cert.AttnReferenceIdeal.nD Cert.AttnReferenceIdeal.τ Cert.AttnReferenceIdeal.sig) → Buf (Elt Ideal) ℓ} (hs : Same m m')
    {Q K W G : Fin 4112 → Fin 8 → Fin 64 → ℝ} {C : Fin 4112 → Fin 8 → ℝ} (c : Dev Cert.AttnReferenceIdeal.nD)
    (H : Given Q K W G C (AttnHost.argQ m c) (AttnHost.argK m c) (AttnHost.argV m c) (AttnHost.argO m c) (AttnHost.argC m c)) :
    Given Q K W G C (AttnReferenceValue.argQ m' c) (AttnReferenceValue.argK m' c) (AttnReferenceValue.argV m' c) (AttnReferenceValue.argO m' c) (AttnReferenceValue.argC m' c) := by
  obtain ⟨h0, h1, h2, h3, h4⟩ := hs c
  unfold AttnReferenceValue.argQ AttnReferenceValue.argK AttnReferenceValue.argV AttnReferenceValue.argO AttnReferenceValue.argC
  rw [h0, h1, h2, h3, h4]
  exact H

theorem agree : Cert.algebraic_AttnKernelIdeal_AttnReferenceIdeal_pre_finite_attention := fun m g m' g' hp hs =>
  ⟨AttnFinal.resQ m, AttnFinal.resK m, AttnFinal.resV m, AttnFinal.resC m, AttnFinal.resD m,
    (θ_run _ _ _).mono (fun _ h c => ⟨(h c).1.trans (AttnFinal.final_Q m c), (h c).2.1.trans (AttnFinal.final_K m c), (h c).2.2.1.trans (AttnFinal.final_V m c),
      (h c).2.2.2.1.trans (AttnFinal.final_C m c), (h c).2.2.2.2.1.trans (AttnFinal.final_D m c), (h c).2.2.2.2.2⟩) (Cert.AttnKernelIdeal.Value.run_blocks m g),
    (θ_run _ _ _).mono (fun _ h c =>
      ⟨(h c).1.trans (eq_Q m m' c (given m hp c) (given' hs c (given m hp c))), (h c).2.1.trans (eq_K m m' c (given m hp c) (given' hs c (given m hp c))),
        (h c).2.2.1.trans (eq_V m m' c (given m hp c) (given' hs c (given m hp c))), (h c).2.2.2.1.trans (eq_C m m' c (given m hp c) (given' hs c (given m hp c))),
        (h c).2.2.2.2.1.trans (eq_D m m' c (given m hp c) (given' hs c (given m hp c))), (h c).2.2.2.2.2⟩)
      (Cert.AttnReferenceIdeal.Value.run m' g')⟩

end Cert.Proof.AttnAgree

end
-- ==== Proof.InputIdealRing.lean ====
/-
The ring of copies the input gradient kernel drives itself: the program up to its region, the payloads as functions
of the blocks, the branch conditions over the grid, and the tiles, pieces and cells of the ring with their names.
-/
module

public import proofs.«01_k».proof.Proof.Gen.InputKernelIdeal.Frame
public import proofs.«01_k».proof.Proof.Gen.InputKernelIdeal.Skeleton
public import Idealize.ShloMosaic.Lib.Ring.WriteBehind
public import Idealize.ShloMosaic.Lib.VecWindow
public import Idealize.ShloMosaic.Lib.Pipeline.FrameValue
public import Idealize.ShloMosaic.Lib.WordCmp

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The program up to its region, and the windows' blocks -/

set_option maxHeartbeats 800000 in
/-- The lines of host operations, then the region. -/
theorem entered (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## The payloads as functions of the blocks -/

/-- The rows `lo, lo + 1, …` of the weights' block. -/
abbrev rowsAt (x0 : Vec F S4112x1024 .bf16) (r : Rect S4112x1024) : r.shape.Idx → Elt F .bf16 := View.ld x0 r
/-- What reaches the normalised rows of a tile: the products of the five gradients with the weights' rows, summed. -/
def reach (x0 : Vec F S4112x1024 .bf16) (x1 : Vec F S512x384 .bf16) (x2 : Vec F S512x384 .bf16) (x3 : Vec F S512x384 .bf16) (x4 : Vec F S2560x384 .bf16) (x5 : Vec F S16x384 .bf16) : FVec F S384x1024 .f32 :=
  k0_pay4 (k0_pay2 x1 (View.ld x0 (Rect.unit (s := S4112x1024) ![0, 0] S512x1024.size inb_S4112x1024_S512x1024_0_0)) x2 (View.ld x0 (Rect.unit (s := S4112x1024) ![512, 0] S512x1024.size inb_S4112x1024_S512x1024_512_0)) x3 (View.ld x0 (Rect.unit (s := S4112x1024) ![1024, 0] S512x1024.size inb_S4112x1024_S512x1024_1024_0))) (k0_pay3 x4) (View.ld x0 (Rect.unit (s := S4112x1024) ![1536, 0] S2560x1024.size inb_S4112x1024_S2560x1024_1536_0)) x5 (View.ld x0 (Rect.unit (s := S4112x1024) ![4096, 0] S16x1024.size inb_S4112x1024_S16x1024_4096_0))
/-- The tile of the gradient of the rows that the body packs at coordinates `i`. -/
def packed (i : grid0.Coords) (x0 : Vec F S4112x1024 .bf16) (x1 : Vec F S512x384 .bf16) (x2 : Vec F S512x384 .bf16) (x3 : Vec F S512x384 .bf16) (x4 : Vec F S2560x384 .bf16) (x5 : Vec F S16x384 .bf16) (x6 : Vec F S384x1024 .f32) (x7 : Vec F S128x1024 .f32) (x8 : Vec F S128x1024 .f32) (x9 : Vec F S128x1024 .f32) (x10 : Vec F S16x1024 .f32) (x11 : Vec F S1x1024 .f32) : FVec F S1x384x1024 .f32 :=
  k0_pay10 (reach x0 x1 x2 x3 x4 x5) (k0_pay6 (BitVec.ofNat 32 (i 0).val) x10 x7 x8 x9) (k0_pay7 (BitVec.ofNat 32 (i 0).val) x10 x7 x8 x9) x11 x6
/-- The rows of the learned tokens in that tile, as the body stores them at the first point. -/
def learned (i : grid0.Coords) (x0 : Vec F S4112x1024 .bf16) (x1 : Vec F S512x384 .bf16) (x2 : Vec F S512x384 .bf16) (x3 : Vec F S512x384 .bf16) (x4 : Vec F S2560x384 .bf16) (x5 : Vec F S16x384 .bf16) (x6 : Vec F S384x1024 .f32) (x7 : Vec F S128x1024 .f32) (x8 : Vec F S128x1024 .f32) (x9 : Vec F S128x1024 .f32) (x10 : Vec F S16x1024 .f32) (x11 : Vec F S1x1024 .f32) : FVec F S16x1024 .f32 :=
  k0_pay11 (reach x0 x1 x2 x3 x4 x5) (k0_pay6 (BitVec.ofNat 32 (i 0).val) x10 x7 x8 x9) (k0_pay7 (BitVec.ofNat 32 (i 0).val) x10 x7 x8 x9) x11 x6
/-- The running gradient of the gain after the tile, from the one before it. -/
def gained (i : grid0.Coords) (x0 : Vec F S4112x1024 .bf16) (x1 : Vec F S512x384 .bf16) (x2 : Vec F S512x384 .bf16) (x3 : Vec F S512x384 .bf16) (x4 : Vec F S2560x384 .bf16) (x5 : Vec F S16x384 .bf16) (x6 : Vec F S384x1024 .f32) (x7 : Vec F S128x1024 .f32) (x8 : Vec F S128x1024 .f32) (x9 : Vec F S128x1024 .f32) (x10 : Vec F S16x1024 .f32) (x11 : Vec F S1x1024 .f32) (g : Vec F S1x1024 .f32) : FVec F S1x1024 .f32 :=
  k0_pay8 (BitVec.ofNat 32 (i 0).val) (k0_pay2 x1 (View.ld x0 (Rect.unit (s := S4112x1024) ![0, 0] S512x1024.size inb_S4112x1024_S512x1024_0_0)) x2 (View.ld x0 (Rect.unit (s := S4112x1024) ![512, 0] S512x1024.size inb_S4112x1024_S512x1024_512_0)) x3 (View.ld x0 (Rect.unit (s := S4112x1024) ![1024, 0] S512x1024.size inb_S4112x1024_S512x1024_1024_0))) (k0_pay3 x4) (View.ld x0 (Rect.unit (s := S4112x1024) ![1536, 0] S2560x1024.size inb_S4112x1024_S2560x1024_1536_0)) x5 (View.ld x0 (Rect.unit (s := S4112x1024) ![4096, 0] S16x1024.size inb_S4112x1024_S16x1024_4096_0)) x10 x7 x8 x9 g

/-! ## The body's branch conditions -/

abbrev first (i : grid0.Coords) : Prop := (Scalar.cmpi .ne (Scalar.extui (Scalar.cmpi .eq (BitVec.ofNat 32 (i 0).val) 0#32)) 0#32) = 1#1
abbrev second (i : grid0.Coords) : Prop := (Scalar.cmpi .ne (Scalar.extui (Scalar.cmpi .eq (BitVec.ofNat 32 (i 0).val) 1#32)) 0#32) = 1#1
theorem first_iff : ∀ t : Fin cfg0.N, first (grid0.coords t) ↔ t.val = 0 := (by decide +kernel : ∀ t : Fin grid0.N, first (grid0.coords t) ↔ t.val = 0)
theorem second_iff : ∀ t : Fin cfg0.N, second (grid0.coords t) ↔ t.val = 1 := (by decide +kernel : ∀ t : Fin grid0.N, second (grid0.coords t) ↔ t.val = 1)
theorem packs_first_iff : ∀ t : Fin cfg0.N, k0_cond2 (grid0.coords t) = 1#1 ↔ t.val = 0 := (by decide +kernel : ∀ t : Fin grid0.N, k0_cond2 (grid0.coords t) = 1#1 ↔ t.val = 0)
theorem packs_later_iff : ∀ t : Fin cfg0.N, k0_cond3 (grid0.coords t) = 1#1 ↔ 1 ≤ t.val := (by decide +kernel : ∀ t : Fin grid0.N, k0_cond3 (grid0.coords t) = 1#1 ↔ 1 ≤ t.val)
theorem waits_iff : ∀ t : Fin cfg0.N, k0_cond5 (grid0.coords t) = 1#1 ↔ 2 ≤ t.val := (by decide +kernel : ∀ t : Fin grid0.N, k0_cond5 (grid0.coords t) = 1#1 ↔ 2 ≤ t.val)
theorem last_iff : ∀ t : Fin cfg0.N, k0_cond6 (grid0.coords t) = 1#1 ↔ t.val = 10 := (by decide +kernel : ∀ t : Fin grid0.N, k0_cond6 (grid0.coords t) = 1#1 ↔ t.val = 10)

/-! ## The memrefs -/

abbrev ms0 (t : Fin cfg0.N) : Memref sig .tc .vmem S4112x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x384 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x384 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x384 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S2560x384 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S16x384 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S384x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x1024 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S16x1024 .f32 := win0_10.stage (cfg0.slots t 10)
abbrev hs10 (t : Fin cfg0.N) : (ms10 t).IsWhole := hstage0_10 ((cfg0.slots t 10).cast nbuf0_10)
abbrev ms11 (t : Fin cfg0.N) : Memref sig .tc .vmem S1x1024 .f32 := win0_11.stage (cfg0.slots t 11)
abbrev hs11 (t : Fin cfg0.N) : (ms11 t).IsWhole := hstage0_11 ((cfg0.slots t 11).cast nbuf0_11)
abbrev ms12 (t : Fin cfg0.N) : Memref sig .tc .vmem S16x1024 .f32 := win0_12.stage (cfg0.slots t 12)
abbrev hs12 (t : Fin cfg0.N) : (ms12 t).IsWhole := hstage0_12 ((cfg0.slots t 12).cast nbuf0_12)
abbrev ms13 (t : Fin cfg0.N) : Memref sig .tc .vmem S1x1024 .f32 := win0_13.stage (cfg0.slots t 13)
abbrev hs13 (t : Fin cfg0.N) : (ms13 t).IsWhole := hstage0_13 ((cfg0.slots t 13).cast nbuf0_13)
abbrev pad : Memref sig .tc .vmem S2x384x1024 .f32 := Memref.whole cc0_scratch0
abbrev res : Memref sig .tc .hbm S4096x1024 .f32 := Memref.whole main_v24_0
/-- The contents of a memref's buffer on core `c`. -/
abbrev BufOf (c : Dev nD) {sp : Space} {S : Shape} {e : EltTy} (M : Memref sig .tc sp S e) : Type := Buf (Elt F) (M.view.loc (c : Thread nD τ))
abbrev holds (c : Dev nD) {sp : Space} {S : Shape} {e : EltTy} (M : Memref sig .tc sp S e) (f : BufOf (F := F) c M) : sProp 𝕄 :=
  M.view.loc (c : Thread nD τ) ↦[M.view.set]{fullShare} f

abbrev osem : Fin 2 → SemLoc sig := fun j => (![SemLoc.dma 23, SemLoc.dma 24] : Fin 2 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 23) 0 ∗ semVal ((c : Thread nD τ), SemLoc.dma 24) 0) := by
  rw [Pipeline.ownSems0_eq_of_list c osem [0, 1] (by decide) (by decide)]; rfl
/-- The buffers the body reads itself (none matters: it is handed one it does not read), and the one it writes by its own copies. -/
def Hs : Finset (Ref sig .tc) := {main_v23}
theorem Hs_sub : Hs ⊆ Pipeline.restRefs sig spec0 := by decide
def Rs : Finset (Ref sig .tc) := {main_v24_0}
theorem Rs_sub : Rs ⊆ Pipeline.restRefs sig spec0 \ Hs := by decide

/-! ## The ring: tiles of the scratch, pieces of the result, cells -/

instance : NeZero grid0.N := ⟨by rw [N_0]; decide⟩
theorem inb_tile (g : Fin 2) : ∀ a, (![g.val, 0, 0] : Fin 3 → Nat) a + S1x384x1024.size a ≤ S2x384x1024.size a := by
  have := g.isLt; intro a; fin_cases a <;> simp <;> omega
theorem inb_piece (u : Fin 11) : ∀ a, (![384 * (u.val - 1) + 256, 0] : Fin 2 → Nat) a + S384x1024.size a ≤ S4096x1024.size a := by
  have := u.isLt; intro a; fin_cases a <;> simp <;> omega
theorem inb_cell (g : Fin 2) : ∀ a, (![g.val] : Fin 1 → Nat) a + S1.size a ≤ S2.size a := by
  have := g.isLt; intro a; fin_cases a <;> simp <;> omega
/-- Tile `g` of the scratch. -/
def tile (g : Fin 2) : Memref sig .tc .vmem S384x1024 .f32 :=
  (pad.slice (Rect.unit (s := S2x384x1024) ![g.val, 0, 0] S1x384x1024.size (inb_tile g)) (fun _ => rfl)).squeeze S384x1024 squeezes_S1x384x1024_S384x1024
/-- The rows of tile 0 the first copy sends. -/
def part0 : Memref sig .tc .vmem S256x1024 .f32 :=
  (pad.slice (Rect.unit (s := S2x384x1024) ![0, 128, 0] S1x256x1024.size inb_S2x384x1024_S1x256x1024_0_128_0) (fun _ => rfl)).squeeze S256x1024 squeezes_S1x256x1024_S256x1024
/-- The piece of the result step 0 writes, and the one step `u ≥ 1` writes. -/
def piece0 : Memref sig .tc .hbm S256x1024 .f32 :=
  res.slice (Rect.unit (s := S4096x1024) ![0, 0] S256x1024.size inb_S4096x1024_S256x1024_0_0) (fun _ => rfl)
def piece (u : Fin 11) : Memref sig .tc .hbm S384x1024 .f32 :=
  res.slice (Rect.unit (s := S4096x1024) ![384 * (u.val - 1) + 256, 0] S384x1024.size (inb_piece u)) (fun _ => rfl)
/-- Cell `g` of the semaphores. -/
def cellA (g : Fin 2) : DmaSems sig S_ := (cc0_scratch1.slice (Rect.unit (s := S2) ![g.val] S1.size (inb_cell g))).squeeze S_ squeezes_S1_S_
abbrev cellR (g : Fin 2) : SemLoc sig := SemLoc.dma (cellA g).sem
theorem cellR_0 : cellR 0 = SemLoc.dma 23 := by decide
theorem cellR_1 : cellR 1 = SemLoc.dma 24 := by decide

section Canon
omit [FloatOps F]
set_option synthInstance.maxSize 4096 in
theorem coff2 : ∀ t : Fin grid0.N, k0_cond3 (grid0.coords t) = 1#1 → k0_off2 (grid0.coords t) = ![(Ring.sl 2 t.val).val] := by decide +kernel
@[sl_canon] theorem canon2 (t : Fin grid0.N) (h : k0_cond3 (grid0.coords t) = 1#1) :
    (cc0_scratch1.slice (Rect.unit (s := S2) (k0_off2 (grid0.coords t)) S1.size (k0_off2_inb (grid0.coords t) h))).squeeze S_ squeezes_S1_S_ = cellA (Ring.sl 2 t.val) :=
  congrArg (fun A : DmaSems sig S1 => A.squeeze S_ squeezes_S1_S_) (SemArray.slice_unit_congr _ (coff2 t h) _ _)
@[sl_canon] theorem canon2' (t : Fin grid0.N) (h : k0_cond3 (grid0.coords t) = 1#1) :
    (cc0_scratch1.slice (Rect.unit (s := S2) (k0_off2 (grid0.coords t)) ![1] (k0_off2_inb (grid0.coords t) h))).squeeze S_ squeezes_S1_S_ = cellA (Ring.sl 2 t.val) :=
  congrArg (fun A : DmaSems sig S1 => A.squeeze S_ squeezes_S1_S_) (SemArray.slice_unit_congr _ (coff2 t h) _ _)
set_option synthInstance.maxSize 4096 in
theorem coff3 : ∀ t : Fin grid0.N, k0_cond3 (grid0.coords t) = 1#1 → k0_off3 (grid0.coords t) = ![384 * ((Ring.bk 11 t.val).val - 1) + 256, 0] := by decide +kernel
@[sl_canon] theorem canon3 (t : Fin grid0.N) (h : k0_cond3 (grid0.coords t) = 1#1) :
    res.slice (Rect.unit (s := S4096x1024) (k0_off3 (grid0.coords t)) S384x1024.size (k0_off3_inb (grid0.coords t) h)) (fun _ => rfl) = piece (Ring.bk 11 t.val) :=
  congrArg (fun M : Memref sig .tc .hbm S384x1024 .f32 => M) (Memref.slice_unit_congr _ (coff3 t h) _ _ (fun _ => rfl) (fun _ => rfl))
@[sl_canon] theorem canon3' (t : Fin grid0.N) (h : k0_cond3 (grid0.coords t) = 1#1) :
    res.slice (Rect.unit (s := S4096x1024) (k0_off3 (grid0.coords t)) ![384, 1024] (k0_off3_inb (grid0.coords t) h)) (fun _ => rfl) = piece (Ring.bk 11 t.val) :=
  congrArg (fun M : Memref sig .tc .hbm S384x1024 .f32 => M) (Memref.slice_unit_congr _ (coff3 t h) _ _ (fun _ => rfl) (fun _ => rfl))
set_option synthInstance.maxSize 4096 in
theorem coff4 : ∀ t : Fin grid0.N, k0_cond3 (grid0.coords t) = 1#1 → k0_off4 (grid0.coords t) = ![(Ring.sl 2 t.val).val, 0, 0] := by decide +kernel
@[sl_canon] theorem canon4 (t : Fin grid0.N) (h : k0_cond3 (grid0.coords t) = 1#1) :
    (pad.slice (Rect.unit (s := S2x384x1024) (k0_off4 (grid0.coords t)) S1x384x1024.size (k0_off4_inb (grid0.coords t) h)) (fun _ => rfl)).squeeze S384x1024 squeezes_S1x384x1024_S384x1024 = tile (Ring.sl 2 t.val) :=
  congrArg (fun M : Memref sig .tc .vmem S1x384x1024 .f32 => M.squeeze S384x1024 squeezes_S1x384x1024_S384x1024) (Memref.slice_unit_congr _ (coff4 t h) _ _ (fun _ => rfl) (fun _ => rfl))
@[sl_canon] theorem canon4' (t : Fin grid0.N) (h : k0_cond3 (grid0.coords t) = 1#1) :
    (pad.slice (Rect.unit (s := S2x384x1024) (k0_off4 (grid0.coords t)) ![1, 384, 1024] (k0_off4_inb (grid0.coords t) h)) (fun _ => rfl)).squeeze S384x1024 squeezes_S1x384x1024_S384x1024 = tile (Ring.sl 2 t.val) :=
  congrArg (fun M : Memref sig .tc .vmem S1x384x1024 .f32 => M.squeeze S384x1024 squeezes_S1x384x1024_S384x1024) (Memref.slice_unit_congr _ (coff4 t h) _ _ (fun _ => rfl) (fun _ => rfl))
set_option synthInstance.maxSize 4096 in
theorem coff5 : ∀ t : Fin grid0.N, k0_cond5 (grid0.coords t) = 1#1 → k0_off5 (grid0.coords t) = ![(Ring.sl 2 (t.val + 1)).val] := by decide +kernel
@[sl_canon] theorem canon5 (t : Fin grid0.N) (h : k0_cond5 (grid0.coords t) = 1#1) :
    (cc0_scratch1.slice (Rect.unit (s := S2) (k0_off5 (grid0.coords t)) S1.size (k0_off5_inb (grid0.coords t) h))).squeeze S_ squeezes_S1_S_ = cellA (Ring.sl 2 (t.val + 1)) :=
  congrArg (fun A : DmaSems sig S1 => A.squeeze S_ squeezes_S1_S_) (SemArray.slice_unit_congr _ (coff5 t h) _ _)
@[sl_canon] theorem canon5' (t : Fin grid0.N) (h : k0_cond5 (grid0.coords t) = 1#1) :
    (cc0_scratch1.slice (Rect.unit (s := S2) (k0_off5 (grid0.coords t)) ![1] (k0_off5_inb (grid0.coords t) h))).squeeze S_ squeezes_S1_S_ = cellA (Ring.sl 2 (t.val + 1)) :=
  congrArg (fun A : DmaSems sig S1 => A.squeeze S_ squeezes_S1_S_) (SemArray.slice_unit_congr _ (coff5 t h) _ _)
set_option synthInstance.maxSize 4096 in
theorem coff6 : ∀ t : Fin grid0.N, k0_cond5 (grid0.coords t) = 1#1 → k0_off6 (grid0.coords t) = ![384 * ((Ring.bk 11 (t.val - 1)).val - 1) + 256, 0] := by decide +kernel
@[sl_canon] theorem canon6 (t : Fin grid0.N) (h : k0_cond5 (grid0.coords t) = 1#1) :
    res.slice (Rect.unit (s := S4096x1024) (k0_off6 (grid0.coords t)) S384x1024.size (k0_off6_inb (grid0.coords t) h)) (fun _ => rfl) = piece (Ring.bk 11 (t.val - 1)) :=
  congrArg (fun M : Memref sig .tc .hbm S384x1024 .f32 => M) (Memref.slice_unit_congr _ (coff6 t h) _ _ (fun _ => rfl) (fun _ => rfl))
@[sl_canon] theorem canon6' (t : Fin grid0.N) (h : k0_cond5 (grid0.coords t) = 1#1) :
    res.slice (Rect.unit (s := S4096x1024) (k0_off6 (grid0.coords t)) ![384, 1024] (k0_off6_inb (grid0.coords t) h)) (fun _ => rfl) = piece (Ring.bk 11 (t.val - 1)) :=
  congrArg (fun M : Memref sig .tc .hbm S384x1024 .f32 => M) (Memref.slice_unit_congr _ (coff6 t h) _ _ (fun _ => rfl) (fun _ => rfl))
set_option synthInstance.maxSize 4096 in
theorem coff7 : ∀ t : Fin grid0.N, k0_cond5 (grid0.coords t) = 1#1 → k0_off7 (grid0.coords t) = ![(Ring.sl 2 (t.val + 1)).val, 0, 0] := by decide +kernel
@[sl_canon] theorem canon7 (t : Fin grid0.N) (h : k0_cond5 (grid0.coords t) = 1#1) :
    (pad.slice (Rect.unit (s := S2x384x1024) (k0_off7 (grid0.coords t)) S1x384x1024.size (k0_off7_inb (grid0.coords t) h)) (fun _ => rfl)).squeeze S384x1024 squeezes_S1x384x1024_S384x1024 = tile (Ring.sl 2 (t.val + 1)) :=
  congrArg (fun M : Memref sig .tc .vmem S1x384x1024 .f32 => M.squeeze S384x1024 squeezes_S1x384x1024_S384x1024) (Memref.slice_unit_congr _ (coff7 t h) _ _ (fun _ => rfl) (fun _ => rfl))
@[sl_canon] theorem canon7' (t : Fin grid0.N) (h : k0_cond5 (grid0.coords t) = 1#1) :
    (pad.slice (Rect.unit (s := S2x384x1024) (k0_off7 (grid0.coords t)) ![1, 384, 1024] (k0_off7_inb (grid0.coords t) h)) (fun _ => rfl)).squeeze S384x1024 squeezes_S1x384x1024_S384x1024 = tile (Ring.sl 2 (t.val + 1)) :=
  congrArg (fun M : Memref sig .tc .vmem S1x384x1024 .f32 => M.squeeze S384x1024 squeezes_S1x384x1024_S384x1024) (Memref.slice_unit_congr _ (coff7 t h) _ _ (fun _ => rfl) (fun _ => rfl))
set_option synthInstance.maxSize 4096 in
theorem coff8 : ∀ t : Fin grid0.N, k0_cond6 (grid0.coords t) = 1#1 → k0_off8 (grid0.coords t) = ![(Ring.sl 2 t.val).val] := by decide +kernel
@[sl_canon] theorem canon8 (t : Fin grid0.N) (h : k0_cond6 (grid0.coords t) = 1#1) :
    (cc0_scratch1.slice (Rect.unit (s := S2) (k0_off8 (grid0.coords t)) S1.size (k0_off8_inb (grid0.coords t) h))).squeeze S_ squeezes_S1_S_ = cellA (Ring.sl 2 t.val) :=
  congrArg (fun A : DmaSems sig S1 => A.squeeze S_ squeezes_S1_S_) (SemArray.slice_unit_congr _ (coff8 t h) _ _)
@[sl_canon] theorem canon8' (t : Fin grid0.N) (h : k0_cond6 (grid0.coords t) = 1#1) :
    (cc0_scratch1.slice (Rect.unit (s := S2) (k0_off8 (grid0.coords t)) ![1] (k0_off8_inb (grid0.coords t) h))).squeeze S_ squeezes_S1_S_ = cellA (Ring.sl 2 t.val) :=
  congrArg (fun A : DmaSems sig S1 => A.squeeze S_ squeezes_S1_S_) (SemArray.slice_unit_congr _ (coff8 t h) _ _)
set_option synthInstance.maxSize 4096 in
theorem coff9 : ∀ t : Fin grid0.N, k0_cond6 (grid0.coords t) = 1#1 → k0_off9 (grid0.coords t) = ![384 * ((Ring.bk 11 t.val).val - 1) + 256, 0] := by decide +kernel
@[sl_canon] theorem canon9 (t : Fin grid0.N) (h : k0_cond6 (grid0.coords t) = 1#1) :
    res.slice (Rect.unit (s := S4096x1024) (k0_off9 (grid0.coords t)) S384x1024.size (k0_off9_inb (grid0.coords t) h)) (fun _ => rfl) = piece (Ring.bk 11 t.val) :=
  congrArg (fun M : Memref sig .tc .hbm S384x1024 .f32 => M) (Memref.slice_unit_congr _ (coff9 t h) _ _ (fun _ => rfl) (fun _ => rfl))
@[sl_canon] theorem canon9' (t : Fin grid0.N) (h : k0_cond6 (grid0.coords t) = 1#1) :
    res.slice (Rect.unit (s := S4096x1024) (k0_off9 (grid0.coords t)) ![384, 1024] (k0_off9_inb (grid0.coords t) h)) (fun _ => rfl) = piece (Ring.bk 11 t.val) :=
  congrArg (fun M : Memref sig .tc .hbm S384x1024 .f32 => M) (Memref.slice_unit_congr _ (coff9 t h) _ _ (fun _ => rfl) (fun _ => rfl))
set_option synthInstance.maxSize 4096 in
theorem coff10 : ∀ t : Fin grid0.N, k0_cond6 (grid0.coords t) = 1#1 → k0_off10 (grid0.coords t) = ![(Ring.sl 2 t.val).val, 0, 0] := by decide +kernel
@[sl_canon] theorem canon10 (t : Fin grid0.N) (h : k0_cond6 (grid0.coords t) = 1#1) :
    (pad.slice (Rect.unit (s := S2x384x1024) (k0_off10 (grid0.coords t)) S1x384x1024.size (k0_off10_inb (grid0.coords t) h)) (fun _ => rfl)).squeeze S384x1024 squeezes_S1x384x1024_S384x1024 = tile (Ring.sl 2 t.val) :=
  congrArg (fun M : Memref sig .tc .vmem S1x384x1024 .f32 => M.squeeze S384x1024 squeezes_S1x384x1024_S384x1024) (Memref.slice_unit_congr _ (coff10 t h) _ _ (fun _ => rfl) (fun _ => rfl))
@[sl_canon] theorem canon10' (t : Fin grid0.N) (h : k0_cond6 (grid0.coords t) = 1#1) :
    (pad.slice (Rect.unit (s := S2x384x1024) (k0_off10 (grid0.coords t)) ![1, 384, 1024] (k0_off10_inb (grid0.coords t) h)) (fun _ => rfl)).squeeze S384x1024 squeezes_S1x384x1024_S384x1024 = tile (Ring.sl 2 t.val) :=
  congrArg (fun M : Memref sig .tc .vmem S1x384x1024 .f32 => M.squeeze S384x1024 squeezes_S1x384x1024_S384x1024) (Memref.slice_unit_congr _ (coff10 t h) _ _ (fun _ => rfl) (fun _ => rfl))
set_option synthInstance.maxSize 4096 in
theorem coff1 : ∀ t : Fin grid0.N, k0_off1 (grid0.coords t) = ![(Ring.sl 2 t.val).val, 0, 0] := by decide +kernel
/-- The store's box is the tile's. -/
instance (priority := high) closedOff1 (t : Fin grid0.N) : ClosedOff (k0_off1 (grid0.coords t)) := ⟨![(Ring.sl 2 t.val).val, 0, 0], coff1 t⟩
@[sl_canon] theorem canon0 : (cc0_scratch1.slice (Rect.unit (s := S2) ![0] S1.size inb_S2_S1_0)).squeeze S_ squeezes_S1_S_ = cellA 0 := rfl
@[sl_canon] theorem canon0P : res.slice (Rect.unit (s := S4096x1024) ![0, 0] S256x1024.size inb_S4096x1024_S256x1024_0_0) (fun _ => rfl) = piece0 := rfl
@[sl_canon] theorem canon0T : (pad.slice (Rect.unit (s := S2x384x1024) ![0, 128, 0] S1x256x1024.size inb_S2x384x1024_S1x256x1024_0_128_0) (fun _ => rfl)).squeeze S256x1024 squeezes_S1x256x1024_S256x1024 = part0 := rfl
end Canon

end Cert.InputKernelIdeal.Run

end
-- ==== Proof.InputIdealFirst.lean ====
/-
The body at the first point.
-/
module

public import proofs.«01_k».proof.Proof.InputIdealRing
public import Idealize.ShloMosaic.Lib.ValueIdxCoords
public import Idealize.ShloMosaic.Lib.Pipeline.Value

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem part0_set : part0.view.set = (Rect.unit (s := S2x384x1024) ![0, 128, 0] S1x256x1024.size inb_S2x384x1024_S1x256x1024_0_128_0).set :=
  (View.set_reshape _ _).trans (View.set_slice_whole _ _)
theorem tile_set (g : Fin 2) : (tile g).view.set = (Rect.unit (s := S2x384x1024) ![g.val, 0, 0] S1x384x1024.size (inb_tile g)).set :=
  (View.set_reshape _ _).trans (View.set_slice_whole _ _)
/-- The rows of tile 0 the first copy sends are rows of tile 0. -/
theorem part0_sub : part0.view.set ⊆ (tile 0).view.set := by
  rw [part0_set, tile_set]
  intro x hx
  have h := Rect.mem_set_unit.mp hx
  refine Rect.mem_set_unit.mpr fun a => ?_
  have h := h a
  fin_cases a
  · exact h
  · exact ⟨Nat.zero_le _, Nat.lt_of_lt_of_le h.2 (by decide)⟩
  · exact h
/-- Tile 0 apart: the rows the first copy sends, and the others. -/
theorem split0 (c : Dev nD) (e : Buf (Elt F) ((tile 0).view.loc (c : Thread nD τ))) :
    ((tile 0).view.loc (c : Thread nD τ) ↦[(tile 0).view.set]{fullShare} e : sProp 𝕄) ⊣⊢ iprop((part0.view.loc (c : Thread nD τ) ↦[part0.view.set]{fullShare} e) ∗ ((tile 0).view.loc (c : Thread nD τ) ↦[(tile 0).view.set \ part0.view.set]{fullShare} e)) :=
  pointsTo_split_subset part0_sub
/-- Where in its tile entry `y` of the piece the first copy sends stands, and entry `y` of a later one. -/
def at0 (y : S256x1024.Idx) : S1x384x1024.Idx := ValueIdx.ix3 (n0 := 1) (n1 := 384) (n2 := 1024) 0 ⟨(y 0).val + 128, Nat.add_lt_add_right (y 0).isLt 128⟩ ⟨(y 1).val, (y 1).isLt⟩
def atP (y : S384x1024.Idx) : S1x384x1024.Idx := ValueIdx.ix3 (n0 := 1) (n1 := 384) (n2 := 1024) 0 ⟨(y 0).val, (y 0).isLt⟩ ⟨(y 1).val, (y 1).isLt⟩
/-- What a copy of rows of a tile reads, the tile just stored whole. -/
theorem sent0 (t : Fin cfg0.N) (ht : t.val = 0) (et : pad.view.ty.Contents (Elt F)) (w : FVec F S1x384x1024 .f32) (y : S256x1024.Idx) :
    part0.view.read (Elt F) (View.write (Elt F) (pad.access (Rect.unit (s := S2x384x1024) (k0_off1 (grid0.coords t)) S1x384x1024.size (k0_off1_inb (grid0.coords t)))) et w Finset.univ) y = w (at0 y) := by
  have hc : S1x256x1024.ShapeCasts S256x1024 := by decide
  refine (congrFun (Memref.read_squeeze_slice pad (Rect.unit (s := S2x384x1024) ![0, 128, 0] S1x256x1024.size inb_S2x384x1024_S1x256x1024_0_128_0) (fun _ => rfl) squeezes_S1x256x1024_S256x1024 hc _) y).trans ?_
  refine (shapeCast_apply _ hc y (ValueIdx.ix3 (n0 := 1) (n1 := 256) (n2 := 1024) 0 (y 0) (y 1)) (by
    rw [Shape.rowMajor_val_three, Shape.rowMajor_val_two]; show (0 * 256 + (y 0).val) * 1024 + (y 1).val = (y 0).val * 1024 + (y 1).val; omega)).trans ?_
  refine Eq.trans ?_ (View.read_slice_write_emb (v := pad.view) (Rect.unit (s := S2x384x1024) (k0_off1 (grid0.coords t)) S1x384x1024.size (k0_off1_inb (grid0.coords t))) et w (x := at0 y) (Finset.mem_univ _))
  refine congrArg (pad.view.read (Elt F) _) (funext fun a => Fin.ext ?_)
  have h1 : k0_off1 (grid0.coords t) a = (![(Ring.sl 2 t.val).val, 0, 0] : Fin 3 → ℕ) a := congrFun (coff1 t) a
  show (![0, 128, 0] : Fin 3 → ℕ) a + 1 * ((ValueIdx.ix3 (n0 := 1) (n1 := 256) (n2 := 1024) 0 (y 0) (y 1)) a).val = k0_off1 (grid0.coords t) a + 1 * (at0 y a).val
  rw [h1, ht]
  match a with
  | 0 => rfl
  | 1 => show 128 + 1 * (y 0).val = 0 + 1 * ((y 0).val + 128); omega
  | 2 => show 0 + 1 * (y 1).val = 0 + 1 * (y 1).val; rfl
/-- The same for the copy of a whole tile. -/
theorem sent (t : Fin cfg0.N) (et : pad.view.ty.Contents (Elt F)) (w : FVec F S1x384x1024 .f32) (y : S384x1024.Idx) :
    (tile (Ring.sl 2 t.val)).view.read (Elt F) (View.write (Elt F) (pad.access (Rect.unit (s := S2x384x1024) (k0_off1 (grid0.coords t)) S1x384x1024.size (k0_off1_inb (grid0.coords t)))) et w Finset.univ) y = w (atP y) := by
  have hc : S1x384x1024.ShapeCasts S384x1024 := by decide
  refine (congrFun (Memref.read_squeeze_slice pad (Rect.unit (s := S2x384x1024) ![(Ring.sl 2 t.val).val, 0, 0] S1x384x1024.size (inb_tile _)) (fun _ => rfl) squeezes_S1x384x1024_S384x1024 hc _) y).trans ?_
  refine (shapeCast_apply _ hc y (atP y) (by
    rw [Shape.rowMajor_val_three, Shape.rowMajor_val_two]; show (0 * 384 + (y 0).val) * 1024 + (y 1).val = (y 0).val * 1024 + (y 1).val; omega)).trans ?_
  refine Eq.trans ?_ (View.read_slice_write_emb (v := pad.view) (Rect.unit (s := S2x384x1024) (k0_off1 (grid0.coords t)) S1x384x1024.size (k0_off1_inb (grid0.coords t))) et w (x := atP y) (Finset.mem_univ _))
  refine congrArg (pad.view.read (Elt F) _) (funext fun a => Fin.ext ?_)
  have h1 : k0_off1 (grid0.coords t) a = (![(Ring.sl 2 t.val).val, 0, 0] : Fin 3 → ℕ) a := congrFun (coff1 t) a
  show (![(Ring.sl 2 t.val).val, 0, 0] : Fin 3 → ℕ) a + 1 * (atP y a).val = k0_off1 (grid0.coords t) a + 1 * (atP y a).val
  rw [h1]
/-- The first point. -/
theorem atFirst (c : Dev nD) (t : Fin cfg0.N) (ht : t.val = 0) (arg1 : Memref sig .tc .vmem S4112x1024 .bf16) (harg1 : arg1.IsWhole) (arg2 : Memref sig .tc .vmem S512x384 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S2560x384 .bf16) (harg5 : arg5.IsWhole) (arg6 : Memref sig .tc .vmem S16x384 .bf16) (harg6 : arg6.IsWhole) (arg7 : Memref sig .tc .vmem S384x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S16x1024 .f32) (harg11 : arg11.IsWhole) (arg12 : Memref sig .tc .vmem S1x1024 .f32) (harg12 : arg12.IsWhole) (arg15 : Memref sig .tc .vmem S16x1024 .f32) (harg15 : arg15.IsWhole) (arg16 : Memref sig .tc .vmem S1x1024 .f32) (harg16 : arg16.IsWhole)
    (x0 : Vec F S4112x1024 .bf16) (x1 : Vec F S512x384 .bf16) (x2 : Vec F S512x384 .bf16) (x3 : Vec F S512x384 .bf16) (x4 : Vec F S2560x384 .bf16) (x5 : Vec F S16x384 .bf16) (x6 : Vec F S384x1024 .f32) (x7 : Vec F S128x1024 .f32) (x8 : Vec F S128x1024 .f32) (x9 : Vec F S128x1024 .f32) (x10 : Vec F S16x1024 .f32) (x11 : Vec F S1x1024 .f32) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg15 fullShare d) ∗ (∃ d, owns (c : Thread nD τ) arg16 fullShare d) ∗ (∃ f, holds c piece0 f) ∗ semVal ((c : Thread nD τ), cellR 0) 0 ∗ (∃ e, holds c (tile 0) e) ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg15 fullShare (learned (grid0.coords t) x0 x1 x2 x3 x4 x5 x6 x7 x8 x9 x10 x11) ∗ owns (c : Thread nD τ) arg16 fullShare (gained (grid0.coords t) x0 x1 x2 x3 x4 x5 x6 x7 x8 x9 x10 x11 k0_pay1)
          ∗ (∃ f e, Transfers.Flight countersEmb (c : Thread nD τ) (cellR (0)) default ((piece0).view.amount (cellR (0))) iprop(holds c (piece0) f ∗ holds c (part0) e) ∗ ⌜∀ y, piece0.view.read (Elt F) f y = packed (grid0.coords t) x0 x1 x2 x3 x4 x5 x6 x7 x8 x9 x10 x11 (at0 y)⌝) ∗ (∃ e, (tile 0).view.loc (c : Thread nD τ) ↦[(tile 0).view.set \ part0.view.set]{fullShare} e) ∗ (∃ W', owes (c : Thread nD τ) 0 W')) -∗ K ⟨⟩))
      ⊢ wp frame (wpE (defs₀ (F := F)) Variants.none c none) Set.univ (cc0_inproj_bwd_x (grid0.coords t) arg1 harg1 arg2 harg2 arg3 harg3 arg4 harg4 arg5 harg5 arg6 harg6 arg7 harg7 arg8 harg8 arg9 harg9 arg10 harg10 arg11 harg11 arg12 harg12 (Memref.whole main_v23) (Memref.isWhole_whole _) (Memref.whole main_v24_0) (Memref.isWhole_whole _) arg15 harg15 arg16 harg16 pad (Memref.isWhole_whole _) cc0_scratch1) K := by
    obtain rfl : t = t0_0 := Fin.ext ht
    have hc0 : first (grid0.coords t0_0) := (first_iff t0_0).mpr rfl
    have hc2 : k0_cond2 (grid0.coords t0_0) = 1#1 := (packs_first_iff t0_0).mpr rfl
    have hc3 : ¬ k0_cond3 (grid0.coords t0_0) = 1#1 := fun h => absurd ((packs_later_iff t0_0).mp h) (by decide)
    have hc4 : ¬ second (grid0.coords t0_0) := fun h => absurd ((second_iff t0_0).mp h) (by decide)
    have hc5 : ¬ k0_cond5 (grid0.coords t0_0) = 1#1 := fun h => absurd ((waits_iff t0_0).mp h) (by decide)
    have hc6 : ¬ k0_cond6 (grid0.coords t0_0) = 1#1 := fun h => absurd ((last_iff t0_0).mp h) (by decide)
    haveI := Fact.mk hc0; haveI := Fact.mk hc2; haveI := Fact.mk hc3; haveI := Fact.mk hc4; haveI := Fact.mk hc5; haveI := Fact.mk hc6
    simp only [cc0_inproj_bwd_x_eq_skeleton]; unfold cc0_inproj_bwd_x_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fp, Hp⟩, Hq, ⟨%et, Ht⟩, HW, Hk⟩
    sl_exec (disch := first | sl_exact hc0 | sl_exact hc2 | sl_exact hc3 | sl_exact hc4 | sl_exact hc5 | sl_exact hc6)
    ihave Hx := (split0 c (atFirst.sl.Ht_w1 c arg1 arg2 arg3 arg4 arg5 arg6 arg7 arg8 arg9 arg10 arg11 arg12 f0 f1 f2 f3 f4 f5 f6 f7 f8 f9 f10 f11 et)).1 $$ Ht
    icases Hx with ⟨Hs, Hr⟩
    sl_exec (disch := first | sl_exact hc0 | sl_exact hc2 | sl_exact hc3 | sl_exact hc4 | sl_exact hc5 | sl_exact hc6)
    sl_step
    iapply Hk
    have hg : View.readCov (Val := Elt F) arg16.view [⟨Rect.unit (s := S1x1024) ![0, 0] S1x1024.size inb_S1x1024_S1x1024_0_0, k0_pay1 (F := F)⟩] (Rect.unit (s := S1x1024) ![0, 0] S1x1024.size inb_S1x1024_S1x1024_0_0).toLoadRect = k0_pay1 (F := F) := View.readCov_full _ _ _ _ _
    have hl1 : View.readAt (Elt F) arg2.view (Rect.unit (s := S512x384) ![0, 0] S512x384.size inb_S512x384_S512x384_0_0).toLoadRect f1 = x1 := (View.readAt_full _ _ _).trans hf1
    have hl2 : View.readAt (Elt F) arg3.view (Rect.unit (s := S512x384) ![0, 0] S512x384.size inb_S512x384_S512x384_0_0).toLoadRect f2 = x2 := (View.readAt_full _ _ _).trans hf2
    have hl3 : View.readAt (Elt F) arg4.view (Rect.unit (s := S512x384) ![0, 0] S512x384.size inb_S512x384_S512x384_0_0).toLoadRect f3 = x3 := (View.readAt_full _ _ _).trans hf3
    have hl4 : View.readAt (Elt F) arg5.view (Rect.unit (s := S2560x384) ![0, 0] S2560x384.size inb_S2560x384_S2560x384_0_0).toLoadRect f4 = x4 := (View.readAt_full _ _ _).trans hf4
    have hl5 : View.readAt (Elt F) arg6.view (Rect.unit (s := S16x384) ![0, 0] S16x384.size inb_S16x384_S16x384_0_0).toLoadRect f5 = x5 := (View.readAt_full _ _ _).trans hf5
    have hl6 : View.readAt (Elt F) arg7.view (Rect.unit (s := S384x1024) ![0, 0] S384x1024.size inb_S384x1024_S384x1024_0_0).toLoadRect f6 = x6 := (View.readAt_full _ _ _).trans hf6
    have hl7 : View.readAt (Elt F) arg8.view (Rect.unit (s := S128x1024) ![0, 0] S128x1024.size inb_S128x1024_S128x1024_0_0).toLoadRect f7 = x7 := (View.readAt_full _ _ _).trans hf7
    have hl8 : View.readAt (Elt F) arg9.view (Rect.unit (s := S128x1024) ![0, 0] S128x1024.size inb_S128x1024_S128x1024_0_0).toLoadRect f8 = x8 := (View.readAt_full _ _ _).trans hf8
    have hl9 : View.readAt (Elt F) arg10.view (Rect.unit (s := S128x1024) ![0, 0] S128x1024.size inb_S128x1024_S128x1024_0_0).toLoadRect f9 = x9 := (View.readAt_full _ _ _).trans hf9
    have hl10 : View.readAt (Elt F) arg11.view (Rect.unit (s := S16x1024) ![0, 0] S16x1024.size inb_S16x1024_S16x1024_0_0).toLoadRect f10 = x10 := (View.readAt_full _ _ _).trans hf10
    have hl11 : View.readAt (Elt F) arg12.view (Rect.unit (s := S1x1024) ![0, 0] S1x1024.size inb_S1x1024_S1x1024_0_0).toLoadRect f11 = x11 := (View.readAt_full _ _ _).trans hf11
    have hw0 : View.readAt (Elt F) arg1.view (Rect.unit (s := S4112x1024) ![0, 0] S512x1024.size inb_S4112x1024_S512x1024_0_0).toLoadRect f0 = View.ld x0 (Rect.unit (s := S4112x1024) ![0, 0] S512x1024.size inb_S4112x1024_S512x1024_0_0) := by rw [View.readAt_eq_ld, hf0]
    have hw1 : View.readAt (Elt F) arg1.view (Rect.unit (s := S4112x1024) ![512, 0] S512x1024.size inb_S4112x1024_S512x1024_512_0).toLoadRect f0 = View.ld x0 (Rect.unit (s := S4112x1024) ![512, 0] S512x1024.size inb_S4112x1024_S512x1024_512_0) := by rw [View.readAt_eq_ld, hf0]
    have hw2 : View.readAt (Elt F) arg1.view (Rect.unit (s := S4112x1024) ![1024, 0] S512x1024.size inb_S4112x1024_S512x1024_1024_0).toLoadRect f0 = View.ld x0 (Rect.unit (s := S4112x1024) ![1024, 0] S512x1024.size inb_S4112x1024_S512x1024_1024_0) := by rw [View.readAt_eq_ld, hf0]
    have hw3 : View.readAt (Elt F) arg1.view (Rect.unit (s := S4112x1024) ![1536, 0] S2560x1024.size inb_S4112x1024_S2560x1024_1536_0).toLoadRect f0 = View.ld x0 (Rect.unit (s := S4112x1024) ![1536, 0] S2560x1024.size inb_S4112x1024_S2560x1024_1536_0) := by rw [View.readAt_eq_ld, hf0]
    have hw4 : View.readAt (Elt F) arg1.view (Rect.unit (s := S4112x1024) ![4096, 0] S16x1024.size inb_S4112x1024_S16x1024_4096_0).toLoadRect f0 = View.ld x0 (Rect.unit (s := S4112x1024) ![4096, 0] S16x1024.size inb_S4112x1024_S16x1024_4096_0) := by rw [View.readAt_eq_ld, hf0]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H12]
    · iexists _; isplitr
      swap; · iexact H12
      ipureintro; rw [View.read_writes_full]; sl_unfold_run_names; unfold learned reach; simp only [hl1, hl2, hl3, hl4, hl5, hl6, hl7, hl8, hl9, hl10, hl11, hw0, hw1, hw2, hw3, hw4]
      rfl
    isplitl [H13]
    · iexists _; isplitr
      swap; · iexact H13
      ipureintro; rw [View.read_writes_full]; sl_unfold_run_names; unfold gained; simp only [hl1, hl2, hl3, hl4, hl5, hl6, hl7, hl8, hl9, hl10, hl11, hw0, hw1, hw2, hw3, hw4, hg]
      rfl
    isplitl [Hq]
    · iexists _, _; isplitl
      · iexact Hq
      ipureintro
      intro y
      rw [View.read_writes_whole]
      refine (sent0 t0_0 rfl et _ y).trans ?_
      sl_unfold_run_names; unfold packed reach; simp only [hl1, hl2, hl3, hl4, hl5, hl6, hl7, hl8, hl9, hl10, hl11, hw0, hw1, hw2, hw3, hw4]
      rfl
    isplitl [Hr]
    · iexists _; iexact Hr
    iexists _; iexact HW

end Cert.InputKernelIdeal.Run

end
-- ==== Proof.InputIdealTiles.lean ====
/-
The ring of copies out: what the copies leave in the result, and the ring between the points.
-/
module

public import proofs.«01_k».proof.Proof.InputIdealFirst

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- An equality of assertions as an entailment. -/
theorem turn {P Q : sProp 𝕄} (e : P = Q) : P ⊢ Q := e ▸ .rfl

/-- A buffer is the parts that cover it. -/
theorem parts_of_cover {ℓ : Loc nD τ sig} (S : Fin 11 → Finset ℓ.ty.Idx) (hd : ∀ u u', u ≠ u' → Disjoint (S u) (S u')) (hc : Finset.univ.biUnion S = Finset.univ) (f : Buf (Elt F) ℓ) :
    (ℓ ↦{fullShare} f : sProp 𝕄) = bigSep Finset.univ fun u : Fin 11 => ℓ ↦[S u]{fullShare} f := by
  rw [← pointsTo_biUnion Finset.univ S fun u _ u' _ h => hd u u' h, hc]

/-! ## What the copies leave in the result -/

/-- The tile packed at point `t`, the rows of the learned tokens in it, and the running gradient of the gain after it. -/
def pk (c : Dev nD) (t : Fin cfg0.N) : FVec F S1x384x1024 .f32 := packed (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
def lrn (c : Dev nD) (t : Fin cfg0.N) : FVec F S16x1024 .f32 := learned (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
def gn (c : Dev nD) (t : Fin cfg0.N) (g : Vec F S1x1024 .f32) : FVec F S1x1024 .f32 := gained (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g
/-- The gradient of the gain after point `n`. -/
def gnAt (c : Dev nD) : (n : ℕ) → n < cfg0.N → FVec F S1x1024 .f32
  | 0, h => gn m c ⟨0, h⟩ k0_pay1
  | n + 1, h => gn m c ⟨n + 1, h⟩ (gnAt c n (Nat.lt_of_succ_lt h))
theorem gnAt_first (c : Dev nD) (t : Fin cfg0.N) (h : t.val = 0) : gnAt m c t.val t.isLt = gn m c t k0_pay1 := by
  obtain ⟨n, hn⟩ := t
  obtain rfl : n = 0 := h
  rfl
theorem gnAt_next (c : Dev nD) (t : Fin cfg0.N) (h : 1 ≤ t.val) : gnAt m c t.val t.isLt = gn m c t (gnAt m c (t.val - 1) (Nat.lt_of_le_of_lt (Nat.sub_le _ _) t.isLt)) := by
  obtain ⟨n, hn⟩ := t
  cases n with
  | zero => exact absurd h (by decide : ¬ 1 ≤ 0)
  | succ n => rfl

/-- The step that sends a row of the result. -/
def stepOf (i : S4096x1024.Idx) : Fin cfg0.N := ⟨((i 0).val + 128) / 384, by
  have h : (i 0).val < 4096 := (i 0).isLt
  have hN : cfg0.N = 11 := N_0
  omega⟩
/-- The result the copies leave. -/
def GX (c : Dev nD) : Buf (Elt F) ((c : Thread nD τ).loc main_v24_0) := fun (i : S4096x1024.Idx) =>
  (pk m c (stepOf i) (ValueIdx.ix3 (n0 := 1) (n1 := 384) (n2 := 1024) 0 ⟨((i 0).val + 128) % 384, Nat.mod_lt _ (by decide)⟩ ⟨(i 1).val, (i 1).isLt⟩) : Elt F .f32)

theorem GX_at (c : Dev nD) (t : Fin cfg0.N) (i : S4096x1024.Idx) (y : S1x384x1024.Idx) (ht : ((i 0).val + 128) / 384 = t.val) (h1 : (y 1).val = ((i 0).val + 128) % 384) (h2 : (y 2).val = (i 1).val) :
    GX m c i = pk m c t y := by
  obtain rfl : t = stepOf i := Fin.ext ht.symm
  refine congrArg (pk m c (stepOf i)) (funext fun a => Fin.ext ?_)
  match a with
  | 0 => exact (Nat.lt_one_iff.mp (y 0).isLt).symm
  | 1 => exact h1.symm
  | 2 => exact h2.symm

/-- The same buffer as contents of the piece a step sends. -/
def GP (c : Dev nD) (u : Fin 11) : BufOf (F := F) c (piece u) := GX m c

theorem piece0_set : piece0.view.set = (Rect.unit (s := S4096x1024) ![0, 0] S256x1024.size inb_S4096x1024_S256x1024_0_0).set := View.set_slice_whole _ _
theorem piece_set (u : Fin 11) : (piece u).view.set = (Rect.unit (s := S4096x1024) ![384 * (u.val - 1) + 256, 0] S384x1024.size (inb_piece u)).set := View.set_slice_whole _ _
/-- The rows step `u` sends. -/
def pieceSet (u : Fin 11) : Finset S4096x1024.Idx := Finset.univ.filter fun i => (stepOf i).val = u.val
theorem mem_pieceSet (u : Fin 11) (i : S4096x1024.Idx) : i ∈ pieceSet u ↔ (stepOf i).val = u.val := by unfold pieceSet; rw [Finset.mem_filter]; exact ⟨fun h => h.2, fun h => ⟨Finset.mem_univ _, h⟩⟩
theorem pieceSet_zero (u : Fin 11) (h : u.val = 0) : pieceSet u = (Rect.unit (s := S4096x1024) ![0, 0] S256x1024.size inb_S4096x1024_S256x1024_0_0).set := Finset.ext fun i => by
  have h1 : (i 1).val < 1024 := (i 1).isLt
  have hs : (stepOf i).val = ((i 0).val + 128) / 384 := rfl
  rw [mem_pieceSet, Rect.mem_set_unit]
  constructor
  · intro H a
    match a with
    | 0 => exact ⟨Nat.zero_le _, show (i 0).val < 0 + 256 by omega⟩
    | 1 => exact ⟨Nat.zero_le _, show (i 1).val < 0 + 1024 by omega⟩
  · intro H
    have h2 : (i 0).val < 0 + 256 := (H 0).2
    omega
theorem pieceSet_pos (u : Fin 11) (h : ¬ u.val = 0) : pieceSet u = (Rect.unit (s := S4096x1024) ![384 * (u.val - 1) + 256, 0] S384x1024.size (inb_piece u)).set := Finset.ext fun i => by
  have h1 : (i 1).val < 1024 := (i 1).isLt
  have hs : (stepOf i).val = ((i 0).val + 128) / 384 := rfl
  rw [mem_pieceSet, Rect.mem_set_unit]
  constructor
  · intro H a
    match a with
    | 0 => exact ⟨show 384 * (u.val - 1) + 256 ≤ (i 0).val by omega, show (i 0).val < 384 * (u.val - 1) + 256 + 384 by omega⟩
    | 1 => exact ⟨Nat.zero_le _, show (i 1).val < 0 + 1024 by omega⟩
  · intro H
    have h2 : 384 * (u.val - 1) + 256 ≤ (i 0).val := (H 0).1
    have h3 : (i 0).val < 384 * (u.val - 1) + 256 + 384 := (H 0).2
    omega
theorem pieces_disjoint (u u' : Fin 11) (h : u ≠ u') : Disjoint (pieceSet u) (pieceSet u') :=
  Finset.disjoint_left.mpr fun i hi hi' => h (Fin.ext (((mem_pieceSet u i).mp hi).symm.trans ((mem_pieceSet u' i).mp hi')))
theorem pieces_cover : Finset.univ.biUnion pieceSet = Finset.univ :=
  Finset.eq_univ_iff_forall.mpr fun i => Finset.mem_biUnion.mpr ⟨⟨(stepOf i).val, lt_of_lt_of_eq (stepOf i).isLt N_0⟩, Finset.mem_univ _, (mem_pieceSet _ i).mpr rfl⟩

/-- The piece step `u` sends, held at contents. -/
abbrev holdsP (c : Dev nD) (u : Fin 11) (f : Buf (Elt F) ((c : Thread nD τ).loc main_v24_0)) : sProp 𝕄 := ((c : Thread nD τ).loc main_v24_0) ↦[pieceSet u]{fullShare} f
theorem holdsP_zero (c : Dev nD) (u : Fin 11) (h : u.val = 0) (f) : holdsP (F := F) c u f = holds c piece0 f :=
  congrArg (fun S => (((c : Thread nD τ).loc main_v24_0) ↦[S]{fullShare} f : sProp 𝕄)) ((pieceSet_zero u h).trans piece0_set.symm)
theorem holdsP_pos (c : Dev nD) (u : Fin 11) (h : ¬ u.val = 0) (f) : holdsP (F := F) c u f = holds c (piece u) f :=
  congrArg (fun S => (((c : Thread nD τ).loc main_v24_0) ↦[S]{fullShare} f : sProp 𝕄)) ((pieceSet_pos u h).trans (piece_set u).symm)
/-- Contents that read as step `0`'s rows on its piece are the result's there. -/
theorem landed0 (c : Dev nD) (t : Fin cfg0.N) (ht : t.val = 0) (f : BufOf (F := F) c piece0) (h : ∀ y, piece0.view.read (Elt F) f y = pk m c t (at0 y)) :
    holds c piece0 f = holds c piece0 (GX m c) := pointsTo_congr fun i hi => by
  obtain ⟨y, -, rfl⟩ := Finset.mem_map.mp hi
  have hy : (y 0).val < 256 := (y 0).isLt
  refine Eq.trans (show f (piece0.view.emb y) = piece0.view.read (Elt F) f y from rfl) ((h y).trans ?_)
  exact (GX_at m c t (piece0.view.emb y : S4096x1024.Idx) (at0 y) (show (0 + 1 * (y 0).val + 128) / 384 = t.val by omega) (show (y 0).val + 128 = (0 + 1 * (y 0).val + 128) % 384 by omega) (show (y 1).val = 0 + 1 * (y 1).val by omega)).symm
/-- The same for a later step. -/
theorem landed (c : Dev nD) (t : Fin cfg0.N) (u : Fin 11) (hu : u.val = t.val) (ht : 1 ≤ t.val) (f : BufOf (F := F) c (piece u)) (h : ∀ y, (piece u).view.read (Elt F) f y = pk m c t (atP y)) :
    holds c (piece u) f = holds c (piece u) (GP m c u) := pointsTo_congr fun i hi => by
  obtain ⟨y, -, rfl⟩ := Finset.mem_map.mp hi
  have hy : (y 0).val < 384 := (y 0).isLt
  refine Eq.trans (show f ((piece u).view.emb y) = (piece u).view.read (Elt F) f y from rfl) ((h y).trans ?_)
  exact (GX_at m c t ((piece u).view.emb y : S4096x1024.Idx) (atP y) (show (384 * (u.val - 1) + 256 + 1 * (y 0).val + 128) / 384 = t.val by omega) (show (y 0).val = (384 * (u.val - 1) + 256 + 1 * (y 0).val + 128) % 384 by omega) (show (y 1).val = 0 + 1 * (y 1).val by omega)).symm

/-! ## The ring -/

section Ring
variable (c : Dev nD)
/-- A free slot: its cell at zero, its tile at anything. -/
def free (g : Fin 2) : sProp 𝕄 := iprop(semVal ((c : Thread nD τ), cellR g) 0 ∗ ∃ e, holds c (tile g) e)
/-- A piece not yet written, and one written. -/
def ahead (u : Fin 11) : sProp 𝕄 := iprop(∃ f, holdsP c u f)
def behind (u : Fin 11) : sProp 𝕄 := holdsP c u (GX m c)
/-- A slot whose copy is on its way; of the first step's tile only the rows sent are lent. -/
def infl (g : Fin 2) (u : Fin 11) : sProp 𝕄 :=
  if u.val = 0 then iprop((∃ e, Transfers.Flight countersEmb (c : Thread nD τ) (cellR 0) default ((piece0).view.amount (cellR 0)) iprop(holds c (piece0) (GX m c) ∗ holds c (part0) e)) ∗ ∃ e', (tile 0).view.loc (c : Thread nD τ) ↦[(tile 0).view.set \ part0.view.set]{fullShare} e')
  else iprop(∃ e, Transfers.Flight countersEmb (c : Thread nD τ) (cellR g) default ((piece u).view.amount (cellR g)) iprop(holds c (piece u) (GP m c u) ∗ holds c (tile g) e))
/-- The ring before step `k`. -/
def ringAt (k : ℕ) : sProp 𝕄 := Ring.AtBΦ 1 (free c) (infl m c) (ahead c) (behind m c) k

abbrev tileSet (g : Fin 2) : Finset S2x384x1024.Idx := (tile g).view.set
theorem tiles_disjoint (g g' : Fin 2) (h : g ≠ g') : Disjoint (tileSet g) (tileSet g') := Finset.disjoint_left.mpr fun i hi hi' => h (Fin.ext (by
  rw [tileSet, tile_set, Rect.mem_set_unit] at hi hi'
  have a1 : g.val ≤ (i 0).val := (hi 0).1
  have a2 : (i 0).val < g.val + 1 := (hi 0).2
  have b1 : g'.val ≤ (i 0).val := (hi' 0).1
  have b2 : (i 0).val < g'.val + 1 := (hi' 0).2
  omega))
/-- The scratch outside the tiles. -/
abbrev spare : sProp 𝕄 := iprop(∃ f : Buf (Elt F) ((c : Thread nD τ).loc cc0_scratch0), ((c : Thread nD τ).loc cc0_scratch0) ↦[Finset.univ \ Finset.univ.biUnion tileSet]{fullShare} f)
theorem tiles_in : iprop(∃ f : Buf (Elt F) ((c : Thread nD τ).loc cc0_scratch0), ((c : Thread nD τ).loc cc0_scratch0) ↦{fullShare} f) ⊢ (iprop(bigSep Finset.univ (fun g : Fin 2 => iprop(∃ e, holds (F := F) c (tile g) e)) ∗ spare c) : sProp 𝕄) :=
  Ring.pieces_split_spare (U := Pipeline.UD sig nD τ) (ℓ := (c : Thread nD τ).loc cc0_scratch0) (q := fullShare) tileSet tiles_disjoint (fun g e => holds c (tile g) e) (fun _ _ => rfl)
theorem tiles_out : (iprop(bigSep Finset.univ (fun g : Fin 2 => iprop(∃ e, holds (F := F) c (tile g) e)) ∗ spare c) : sProp 𝕄) ⊢ iprop(∃ f : Buf (Elt F) ((c : Thread nD τ).loc cc0_scratch0), ((c : Thread nD τ).loc cc0_scratch0) ↦{fullShare} f) :=
  Ring.pieces_join_spare (U := Pipeline.UD sig nD τ) (ℓ := (c : Thread nD τ).loc cc0_scratch0) (q := fullShare) tileSet tiles_disjoint (fun g e => holds c (tile g) e) (fun _ _ => rfl)
theorem pieces_eq (f : Buf (Elt F) ((c : Thread nD τ).loc main_v24_0)) : (((c : Thread nD τ).loc main_v24_0) ↦{fullShare} f : sProp 𝕄) = bigSep Finset.univ fun u : Fin 11 => holdsP c u f :=
  parts_of_cover (ℓ := (c : Thread nD τ).loc main_v24_0) pieceSet pieces_disjoint pieces_cover f
theorem aheads (f : Buf (Elt F) ((c : Thread nD τ).loc main_v24_0)) : (bigSep Finset.univ (fun u : Fin 11 => holdsP (F := F) c u f) : sProp 𝕄) ⊢ bigSep Finset.univ (ahead (F := F) c) :=
  BI.bigSep_mono fun u _ => show holdsP (F := F) c u f ⊢ iprop(∃ f, holdsP (F := F) c u f) from by iintro H; iexists f; iexact H
theorem frees_eq : (bigSep Finset.univ (free (F := F) c) : sProp 𝕄) = iprop(free c 0 ∗ free c 1) := by
  rw [BI.bigSep_eq_bigSepL_of_eq [0, 1] (by decide) (by decide)]; rfl
theorem tilesL_eq : (bigSep Finset.univ (fun g : Fin 2 => iprop(∃ e, holds (F := F) c (tile g) e)) : sProp 𝕄) = iprop((∃ e, holds c (tile 0) e) ∗ ∃ e, holds c (tile 1) e) := by
  rw [BI.bigSep_eq_bigSepL_of_eq [0, 1] (by decide) (by decide)]; rfl
theorem free_0 : free (F := F) c 0 = iprop(semVal ((c : Thread nD τ), SemLoc.dma 23) 0 ∗ ∃ e, holds c (tile 0) e) := by unfold free; rw [cellR_0]
theorem free_1 : free (F := F) c 1 = iprop(semVal ((c : Thread nD τ), SemLoc.dma 24) 0 ∗ ∃ e, holds c (tile 1) e) := by unfold free; rw [cellR_1]

/-- Into the ring: the scratch, the cells at zero and the result. -/
theorem ring_in (f : Buf (Elt F) ((c : Thread nD τ).loc main_v24_0)) :
    iprop((∃ f : Buf (Elt F) ((c : Thread nD τ).loc cc0_scratch0), ((c : Thread nD τ).loc cc0_scratch0) ↦{fullShare} f) ∗ (semVal ((c : Thread nD τ), SemLoc.dma 23) 0 ∗ semVal ((c : Thread nD τ), SemLoc.dma 24) 0) ∗ (((c : Thread nD τ).loc main_v24_0) ↦{fullShare} f))
      ⊢ (iprop(ringAt m c 0 ∗ spare c) : sProp 𝕄) := by
  unfold ringAt; rw [Ring.AtBΦ_lt _ _ _ _ _ 0 (by decide), Ring.AtB_zero]; unfold Ring.AtB₀
  rw [pieces_eq, frees_eq, free_0, free_1]
  iintro ⟨HS, ⟨HQ0, HQ1⟩, HD⟩
  ihave HS' := (tiles_in (F := F) c) $$ HS
  icases HS' with ⟨HT, HTsp⟩
  ihave HT' := (turn (tilesL_eq (F := F) c)) $$ HT
  icases HT' with ⟨HT0, HT1⟩
  isplitl [HD HQ0 HQ1 HT0 HT1]
  · isplitl [HD]
    · iapply (aheads (F := F) c f)
      iexact HD
    isplitl [HQ0 HT0]
    · isplitl [HQ0]
      · iexact HQ0
      iexact HT0
    isplitl [HQ1]
    · iexact HQ1
    iexact HT1
  iexact HTsp
/-- Out of the ring: the result stands as the copies leave it. -/
theorem ring_out : (iprop(ringAt m c 11 ∗ spare c) : sProp 𝕄)
      ⊢ iprop((∃ f : Buf (Elt F) ((c : Thread nD τ).loc cc0_scratch0), ((c : Thread nD τ).loc cc0_scratch0) ↦{fullShare} f) ∗ (semVal ((c : Thread nD τ), SemLoc.dma 23) 0 ∗ semVal ((c : Thread nD τ), SemLoc.dma 24) 0) ∗ (((c : Thread nD τ).loc main_v24_0) ↦{fullShare} GX m c)) := by
  unfold ringAt; rw [Ring.AtBΦ_ge _ _ _ _ _ 11 (by decide)]; unfold Ring.AtBEnd
  rw [pieces_eq, frees_eq, free_0, free_1]
  iintro ⟨⟨HP, ⟨HQ0, HT0⟩, HQ1, HT1⟩, HTsp⟩
  isplitl [HT0 HT1 HTsp]
  · iapply (tiles_out (F := F) c)
    isplitl [HT0 HT1]
    · iapply (turn (tilesL_eq (F := F) c).symm)
      isplitl [HT0]
      · iexact HT0
      iexact HT1
    iexact HTsp
  isplitl [HQ0 HQ1]
  · isplitl [HQ0]
    · iexact HQ0
    iexact HQ1
  unfold behind
  iexact HP
end Ring

end Cert.InputKernelIdeal.Run

end
-- ==== Proof.InputIdealSteps.lean ====
/-
The ring of copies out around each kind of step: what a step takes from it and what it gives back.
-/
module

public import proofs.«01_k».proof.Proof.InputIdealTiles

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## The ring around each kind of step -/

theorem bk_val (k : ℕ) (h : k < 11) : (Ring.bk 11 k).val = k := Nat.mod_eq_of_lt h
theorem infl_zero (c : Dev nD) (g : Fin 2) (u : Fin 11) (h : u.val = 0) : infl m c g u = iprop((∃ e, Transfers.Flight countersEmb (c : Thread nD τ) (cellR (0)) default ((piece0).view.amount (cellR (0))) iprop(holds c (piece0) (GX m c) ∗ holds c (part0) e)) ∗ ∃ e', (tile 0).view.loc (c : Thread nD τ) ↦[(tile 0).view.set \ part0.view.set]{fullShare} e') := if_pos h
theorem infl_pos (c : Dev nD) (g : Fin 2) (u : Fin 11) (h : ¬ u.val = 0) : infl m c g u = iprop(∃ e, Transfers.Flight countersEmb (c : Thread nD τ) (cellR (g)) default ((piece u).view.amount (cellR (g))) iprop(holds c (piece u) (GP m c u) ∗ holds c (tile g) e)) := if_neg h
theorem ahead_zero (c : Dev nD) (u : Fin 11) (h : u.val = 0) : ahead (F := F) c u = iprop(∃ f, holds c piece0 f) := by unfold ahead; simp only [holdsP_zero c u h]; rfl
theorem ahead_pos (c : Dev nD) (u : Fin 11) (h : ¬ u.val = 0) : ahead (F := F) c u = iprop(∃ f, holds c (piece u) f) := by unfold ahead; simp only [holdsP_pos c u h]; rfl
theorem behind_zero (c : Dev nD) (u : Fin 11) (h : u.val = 0) : behind m c u = holds c piece0 (GX m c) := by unfold behind; exact holdsP_zero c u h _
theorem behind_pos (c : Dev nD) (u : Fin 11) (h : ¬ u.val = 0) : behind m c u = holds c (piece u) (GP m c u) := by unfold behind; exact holdsP_pos c u h _

/-- The first step's copy on its way carries the result's rows. -/
theorem flew0 (c : Dev nD) (t : Fin cfg0.N) (ht : t.val = 0) :
    (iprop(∃ f e, Transfers.Flight countersEmb (c : Thread nD τ) (cellR (0)) default ((piece0).view.amount (cellR (0))) iprop(holds c (piece0) f ∗ holds c (part0) e) ∗ ⌜∀ y, (piece0).view.read (Elt F) f y = packed (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (at0 y)⌝) : sProp 𝕄) ⊢ iprop(∃ e, Transfers.Flight countersEmb (c : Thread nD τ) (cellR (0)) default ((piece0).view.amount (cellR (0))) iprop(holds c (piece0) (GX m c) ∗ holds c (part0) e)) := by
  iintro ⟨%f, %e, HF, %h⟩
  iexists e
  rw [← landed0 m c t ht f h]
  iexact HF
/-- A later step's too. -/
theorem flew (c : Dev nD) (t : Fin cfg0.N) (ht : 1 ≤ t.val) :
    (iprop(∃ f e, Transfers.Flight countersEmb (c : Thread nD τ) (cellR (Ring.sl 2 t.val)) default ((piece (Ring.bk 11 t.val)).view.amount (cellR (Ring.sl 2 t.val))) iprop(holds c (piece (Ring.bk 11 t.val)) f ∗ holds c (tile (Ring.sl 2 t.val)) e) ∗ ⌜∀ y, (piece (Ring.bk 11 t.val)).view.read (Elt F) f y = packed (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (atP y)⌝) : sProp 𝕄) ⊢ iprop(∃ e, Transfers.Flight countersEmb (c : Thread nD τ) (cellR (Ring.sl 2 t.val)) default ((piece (Ring.bk 11 t.val)).view.amount (cellR (Ring.sl 2 t.val))) iprop(holds c (piece (Ring.bk 11 t.val)) (GP m c (Ring.bk 11 t.val)) ∗ holds c (tile (Ring.sl 2 t.val)) e)) := by
  have hN : t.val < 11 := lt_of_lt_of_eq t.isLt N_0
  iintro ⟨%f, %e, HF, %h⟩
  iexists e
  rw [← landed m c t _ (bk_val t.val hN) ht f h]
  iexact HF
/-- A piece just landed. -/
theorem fell (c : Dev nD) (t : Fin cfg0.N) (ht : 1 ≤ t.val) :
    (iprop(∃ f, holds c (piece (Ring.bk 11 t.val)) f ∗ ⌜∀ y, (piece (Ring.bk 11 t.val)).view.read (Elt F) f y = packed (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (atP y)⌝) : sProp 𝕄) ⊢ holds c (piece (Ring.bk 11 t.val)) (GP m c (Ring.bk 11 t.val)) := by
  have hN : t.val < 11 := lt_of_lt_of_eq t.isLt N_0
  iintro ⟨%f, HF, %h⟩
  rw [← landed m c t _ (bk_val t.val hN) ht f h]
  iexact HF

/-- The pieces still to be sent after step `k`, those sent before step `k`. -/
abbrev later (c : Dev nD) (k : ℕ) : sProp 𝕄 := bigSep (Ring.aheadSet (NB := 11) (k + 1)) (ahead (F := F) c)
abbrev sooner (c : Dev nD) (k : ℕ) : sProp 𝕄 := bigSep (Ring.behindSet (NB := 11) 1 k) (behind m c)
theorem here0 (c : Dev nD) (t : Fin cfg0.N) (ht : t.val = 0) : ringAt m c t.val ⊢ iprop((∃ f, holds c piece0 f) ∗ semVal ((c : Thread nD τ), cellR 0) 0 ∗ (∃ e, holds c (tile 0) e) ∗ later c t.val ∗ free c (Ring.sl 2 (t.val + 1))) := by
  unfold ringAt
  rw [Ring.AtBΦ_lt _ _ _ _ _ t.val (by omega), Ring.AtB2_zero' 1 _ _ _ _ t.val ht, ahead_zero c _ ((bk_val t.val (by omega)).trans ht), show Ring.sl 2 t.val = 0 by rw [ht]; rfl]
  unfold later; simp only [show free (F := F) c 0 = iprop(semVal ((c : Thread nD τ), cellR 0) 0 ∗ ∃ e, holds c (tile 0) e) from rfl]; iintro ⟨⟨HP, HA⟩, ⟨HQ, HT⟩, HF⟩
  isplitl [HP]; · iexact HP
  isplitl [HQ]; · iexact HQ
  isplitl [HT]; · iexact HT
  isplitl [HA]; · iexact HA
  iexact HF
theorem next0 (c : Dev nD) (t : Fin cfg0.N) (ht : t.val = 0) : (iprop((∃ e, Transfers.Flight countersEmb (c : Thread nD τ) (cellR (0)) default ((piece0).view.amount (cellR (0))) iprop(holds c (piece0) (GX m c) ∗ holds c (part0) e)) ∗ (∃ e', (tile 0).view.loc (c : Thread nD τ) ↦[(tile 0).view.set \ part0.view.set]{fullShare} e') ∗ later c t.val ∗ free c (Ring.sl 2 (t.val + 1))) : sProp 𝕄) ⊢ ringAt m c (t.val + 1) := by
  unfold ringAt
  rw [Ring.AtBΦ_lt _ _ _ _ _ (t.val + 1) (by omega), Ring.AtB21_next_zero' _ _ _ _ t.val ht, infl_zero m c _ _ ((bk_val t.val (by omega)).trans ht)]
  unfold later; iintro ⟨HI, HR, HA, HF⟩
  isplitl [HA]; · iexact HA
  isplitl [HF]; · iexact HF
  isplitl [HI]; · iexact HI
  iexact HR
theorem here1 (c : Dev nD) (t : Fin cfg0.N) (ht : t.val = 1) : ringAt m c t.val ⊢ iprop((∃ f, holds c (piece (Ring.bk 11 t.val)) f) ∗ semVal ((c : Thread nD τ), cellR (Ring.sl 2 t.val)) 0 ∗ (∃ e, holds c (tile (Ring.sl 2 t.val)) e) ∗ (∃ e, Transfers.Flight countersEmb (c : Thread nD τ) (cellR (0)) default ((piece0).view.amount (cellR (0))) iprop(holds c (piece0) (GX m c) ∗ holds c (part0) e)) ∗ (∃ e', (tile 0).view.loc (c : Thread nD τ) ↦[(tile 0).view.set \ part0.view.set]{fullShare} e') ∗ later c t.val ∗ sooner m c t.val) := by
  unfold ringAt
  rw [Ring.AtBΦ_lt _ _ _ _ _ t.val (by omega), Ring.AtB21_here _ _ _ _ t.val (by omega) (by omega), ahead_pos c _ (by rw [bk_val _ (by omega)]; omega), infl_zero m c _ _ ((bk_val (t.val - 1) (by omega)).trans (by omega))]
  unfold later sooner free; iintro ⟨⟨HP, HA⟩, HB, ⟨HQ, HT⟩, HI, HR⟩
  isplitl [HP]; · iexact HP
  isplitl [HQ]; · iexact HQ
  isplitl [HT]; · iexact HT
  isplitl [HI]; · iexact HI
  isplitl [HR]; · iexact HR
  isplitl [HA]; · iexact HA
  iexact HB
theorem next1 (c : Dev nD) (t : Fin cfg0.N) (ht : t.val = 1) : (iprop((∃ e, Transfers.Flight countersEmb (c : Thread nD τ) (cellR (Ring.sl 2 t.val)) default ((piece (Ring.bk 11 t.val)).view.amount (cellR (Ring.sl 2 t.val))) iprop(holds c (piece (Ring.bk 11 t.val)) (GP m c (Ring.bk 11 t.val)) ∗ holds c (tile (Ring.sl 2 t.val)) e)) ∗ holds c piece0 (GX m c) ∗ semVal ((c : Thread nD τ), cellR 0) 0 ∗ (∃ e, holds c (tile 0) e) ∗ later c t.val ∗ sooner m c t.val) : sProp 𝕄) ⊢ ringAt m c (t.val + 1) := by
  unfold ringAt
  rw [Ring.AtBΦ_lt _ _ _ _ _ (t.val + 1) (by omega), Ring.AtB21_next _ _ _ _ t.val (by omega) (by omega), infl_pos m c _ _ (by rw [bk_val _ (by omega)]; omega), behind_zero m c _ ((bk_val (t.val - 1) (by omega)).trans (by omega)), show Ring.sl 2 (t.val + 1) = 0 by rw [ht]; rfl]
  unfold later sooner free; iintro ⟨HI, HP, HQ, HT, HA, HB⟩
  isplitl [HA]; · iexact HA
  isplitl [HP HB]
  · isplitl [HP]; · iexact HP
    iexact HB
  isplitl [HQ HT]
  · isplitl [HQ]; · iexact HQ
    iexact HT
  iexact HI
theorem hereM (c : Dev nD) (t : Fin cfg0.N) (ht : 2 ≤ t.val) (ht' : t.val < 10) : ringAt m c t.val ⊢ iprop((∃ f, holds c (piece (Ring.bk 11 t.val)) f) ∗ semVal ((c : Thread nD τ), cellR (Ring.sl 2 t.val)) 0 ∗ (∃ e, holds c (tile (Ring.sl 2 t.val)) e) ∗ (∃ e, Transfers.Flight countersEmb (c : Thread nD τ) (cellR (Ring.sl 2 (t.val + 1))) default ((piece (Ring.bk 11 (t.val - 1))).view.amount (cellR (Ring.sl 2 (t.val + 1)))) iprop(holds c (piece (Ring.bk 11 (t.val - 1))) (GP m c (Ring.bk 11 (t.val - 1))) ∗ holds c (tile (Ring.sl 2 (t.val + 1))) e)) ∗ later c t.val ∗ sooner m c t.val) := by
  unfold ringAt
  rw [Ring.AtBΦ_lt _ _ _ _ _ t.val (by omega), Ring.AtB21_here _ _ _ _ t.val (by omega) (by omega), ahead_pos c _ (by rw [bk_val _ (by omega)]; omega), infl_pos m c _ _ (by rw [bk_val _ (by omega)]; omega)]
  unfold later sooner free; iintro ⟨⟨HP, HA⟩, HB, ⟨HQ, HT⟩, HI⟩
  isplitl [HP]; · iexact HP
  isplitl [HQ]; · iexact HQ
  isplitl [HT]; · iexact HT
  isplitl [HI]; · iexact HI
  isplitl [HA]; · iexact HA
  iexact HB
theorem nextM (c : Dev nD) (t : Fin cfg0.N) (ht : 2 ≤ t.val) (ht' : t.val < 10) : (iprop((∃ e, Transfers.Flight countersEmb (c : Thread nD τ) (cellR (Ring.sl 2 t.val)) default ((piece (Ring.bk 11 t.val)).view.amount (cellR (Ring.sl 2 t.val))) iprop(holds c (piece (Ring.bk 11 t.val)) (GP m c (Ring.bk 11 t.val)) ∗ holds c (tile (Ring.sl 2 t.val)) e)) ∗ holds c (piece (Ring.bk 11 (t.val - 1))) (GP m c (Ring.bk 11 (t.val - 1))) ∗ semVal ((c : Thread nD τ), cellR (Ring.sl 2 (t.val + 1))) 0 ∗ (∃ e, holds c (tile (Ring.sl 2 (t.val + 1))) e) ∗ later c t.val ∗ sooner m c t.val) : sProp 𝕄) ⊢ ringAt m c (t.val + 1) := by
  unfold ringAt
  rw [Ring.AtBΦ_lt _ _ _ _ _ (t.val + 1) (by omega), Ring.AtB21_next _ _ _ _ t.val (by omega) (by omega), infl_pos m c _ _ (by rw [bk_val _ (by omega)]; omega), behind_pos m c _ (by rw [bk_val _ (by omega)]; omega)]
  unfold later sooner free; iintro ⟨HI, HP, HQ, HT, HA, HB⟩
  isplitl [HA]; · iexact HA
  isplitl [HP HB]
  · isplitl [HP]; · iexact HP
    iexact HB
  isplitl [HQ HT]
  · isplitl [HQ]; · iexact HQ
    iexact HT
  iexact HI
theorem hereL (c : Dev nD) (t : Fin cfg0.N) (ht : t.val = 10) : ringAt m c t.val ⊢ iprop((∃ f, holds c (piece (Ring.bk 11 t.val)) f) ∗ semVal ((c : Thread nD τ), cellR (Ring.sl 2 t.val)) 0 ∗ (∃ e, holds c (tile (Ring.sl 2 t.val)) e) ∗ (∃ e, Transfers.Flight countersEmb (c : Thread nD τ) (cellR (Ring.sl 2 (t.val + 1))) default ((piece (Ring.bk 11 (t.val - 1))).view.amount (cellR (Ring.sl 2 (t.val + 1)))) iprop(holds c (piece (Ring.bk 11 (t.val - 1))) (GP m c (Ring.bk 11 (t.val - 1))) ∗ holds c (tile (Ring.sl 2 (t.val + 1))) e)) ∗ sooner m c t.val) := by
  unfold ringAt
  rw [Ring.AtBΦ_lt _ _ _ _ _ t.val (by omega), Ring.AtB21_here_last _ _ _ _ t.val (by omega) (by omega), ahead_pos c _ (by rw [bk_val _ (by omega)]; omega), infl_pos m c _ _ (by rw [bk_val _ (by omega)]; omega)]
  unfold sooner free; iintro ⟨HP, HB, ⟨HQ, HT⟩, HI⟩
  isplitl [HP]; · iexact HP
  isplitl [HQ]; · iexact HQ
  isplitl [HT]; · iexact HT
  isplitl [HI]; · iexact HI
  iexact HB
theorem nextL (c : Dev nD) (t : Fin cfg0.N) (ht : t.val = 10) : (iprop(holds c (piece (Ring.bk 11 t.val)) (GP m c (Ring.bk 11 t.val)) ∗ (∃ e, holds c (tile (Ring.sl 2 t.val)) e) ∗ semVal ((c : Thread nD τ), cellR (Ring.sl 2 t.val)) 0 ∗ holds c (piece (Ring.bk 11 (t.val - 1))) (GP m c (Ring.bk 11 (t.val - 1))) ∗ semVal ((c : Thread nD τ), cellR (Ring.sl 2 (t.val + 1))) 0 ∗ (∃ e, holds c (tile (Ring.sl 2 (t.val + 1))) e) ∗ sooner m c t.val) : sProp 𝕄) ⊢ ringAt m c (t.val + 1) := by
  unfold ringAt
  rw [Ring.AtBΦ_end _ _ _ _ _ (t.val + 1) (by omega), Ring.AtB21_drained _ _ t.val (by omega) (by omega), behind_pos m c _ (by rw [bk_val _ (by omega)]; omega), behind_pos m c (Ring.bk 11 (t.val - 1)) (by rw [bk_val _ (by omega)]; omega)]
  unfold sooner free; iintro ⟨HP, HT, HQ, HP', HQ', HT', HB⟩
  isplitl [HP HP' HB]
  · isplitl [HP]; · iexact HP
    isplitl [HP']; · iexact HP'
    iexact HB
  isplitl [HQ HT]
  · isplitl [HQ]; · iexact HQ
    iexact HT
  isplitl [HQ']; · iexact HQ'
  iexact HT'

end Cert.InputKernelIdeal.Run

end
-- ==== Proof.InputIdealSecond.lean ====
/-
The body at the second point.
-/
module

public import proofs.«01_k».proof.Proof.InputIdealFirst

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The second point: the first copy is waited for. -/
theorem atSecond (c : Dev nD) (t : Fin cfg0.N) (ht : t.val = 1) (f₀ : BufOf (F := F) c piece0) (e₀ : BufOf (F := F) c part0) (arg1 : Memref sig .tc .vmem S4112x1024 .bf16) (harg1 : arg1.IsWhole) (arg2 : Memref sig .tc .vmem S512x384 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S2560x384 .bf16) (harg5 : arg5.IsWhole) (arg6 : Memref sig .tc .vmem S16x384 .bf16) (harg6 : arg6.IsWhole) (arg7 : Memref sig .tc .vmem S384x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S16x1024 .f32) (harg11 : arg11.IsWhole) (arg12 : Memref sig .tc .vmem S1x1024 .f32) (harg12 : arg12.IsWhole) (arg15 : Memref sig .tc .vmem S16x1024 .f32) (harg15 : arg15.IsWhole) (arg16 : Memref sig .tc .vmem S1x1024 .f32) (harg16 : arg16.IsWhole)
    (x0 : Vec F S4112x1024 .bf16) (x1 : Vec F S512x384 .bf16) (x2 : Vec F S512x384 .bf16) (x3 : Vec F S512x384 .bf16) (x4 : Vec F S2560x384 .bf16) (x5 : Vec F S16x384 .bf16) (x6 : Vec F S384x1024 .f32) (x7 : Vec F S128x1024 .f32) (x8 : Vec F S128x1024 .f32) (x9 : Vec F S128x1024 .f32) (x10 : Vec F S16x1024 .f32) (x11 : Vec F S1x1024 .f32) (g : Vec F S1x1024 .f32) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare g ∗ (∃ f, holds c (piece (Ring.bk 11 t.val)) f) ∗ semVal ((c : Thread nD τ), cellR (Ring.sl 2 t.val)) 0 ∗ (∃ e, holds c (tile (Ring.sl 2 t.val)) e) ∗ Transfers.Flight countersEmb (c : Thread nD τ) (cellR (0)) default ((piece0).view.amount (cellR (0))) iprop(holds c (piece0) f₀ ∗ holds c (part0) e₀) ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare (gained (grid0.coords t) x0 x1 x2 x3 x4 x5 x6 x7 x8 x9 x10 x11 g)
          ∗ (∃ f e, Transfers.Flight countersEmb (c : Thread nD τ) (cellR (Ring.sl 2 t.val)) default ((piece (Ring.bk 11 t.val)).view.amount (cellR (Ring.sl 2 t.val))) iprop(holds c (piece (Ring.bk 11 t.val)) f ∗ holds c (tile (Ring.sl 2 t.val)) e) ∗ ⌜∀ y, (piece (Ring.bk 11 t.val)).view.read (Elt F) f y = packed (grid0.coords t) x0 x1 x2 x3 x4 x5 x6 x7 x8 x9 x10 x11 (atP y)⌝) ∗ holds c piece0 f₀ ∗ holds c part0 e₀ ∗ semVal ((c : Thread nD τ), cellR 0) 0 ∗ (∃ W', owes (c : Thread nD τ) 0 W')) -∗ K ⟨⟩))
      ⊢ wp frame (wpE (defs₀ (F := F)) Variants.none c none) Set.univ (cc0_inproj_bwd_x (grid0.coords t) arg1 harg1 arg2 harg2 arg3 harg3 arg4 harg4 arg5 harg5 arg6 harg6 arg7 harg7 arg8 harg8 arg9 harg9 arg10 harg10 arg11 harg11 arg12 harg12 (Memref.whole main_v23) (Memref.isWhole_whole _) (Memref.whole main_v24_0) (Memref.isWhole_whole _) arg15 harg15 arg16 harg16 pad (Memref.isWhole_whole _) cc0_scratch1) K := by
    have hc0 : ¬ first (grid0.coords t) := fun h => absurd ((first_iff t).mp h) (by omega)
    have hc2 : ¬ k0_cond2 (grid0.coords t) = 1#1 := fun h => absurd ((packs_first_iff t).mp h) (by omega)
    have hc3 : k0_cond3 (grid0.coords t) = 1#1 := (packs_later_iff t).mpr (by omega)
    have hc4 : second (grid0.coords t) := (second_iff t).mpr (by omega)
    have hc5 : ¬ k0_cond5 (grid0.coords t) = 1#1 := fun h => absurd ((waits_iff t).mp h) (by omega)
    have hc6 : ¬ k0_cond6 (grid0.coords t) = 1#1 := fun h => absurd ((last_iff t).mp h) (by omega)
    haveI := Fact.mk hc0; haveI := Fact.mk hc2; haveI := Fact.mk hc3; haveI := Fact.mk hc4; haveI := Fact.mk hc5; haveI := Fact.mk hc6
    simp only [cc0_inproj_bwd_x_eq_skeleton]; unfold cc0_inproj_bwd_x_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f13, %hf13, H13⟩, ⟨%fp, Hp⟩, Hq, ⟨%et, Ht⟩, Hr, HW, Hk⟩
    sl_exec (disch := first | sl_exact hc0 | sl_exact hc2 | sl_exact hc3 | sl_exact hc4 | sl_exact hc5 | sl_exact hc6)
    sl_step
    iapply Hk
    have hg : View.readAt (Elt F) arg16.view (Rect.unit (s := S1x1024) ![0, 0] S1x1024.size inb_S1x1024_S1x1024_0_0).toLoadRect f13 = g := (View.readAt_full _ _ _).trans hf13
    have hl1 : View.readAt (Elt F) arg2.view (Rect.unit (s := S512x384) ![0, 0] S512x384.size inb_S512x384_S512x384_0_0).toLoadRect f1 = x1 := (View.readAt_full _ _ _).trans hf1
    have hl2 : View.readAt (Elt F) arg3.view (Rect.unit (s := S512x384) ![0, 0] S512x384.size inb_S512x384_S512x384_0_0).toLoadRect f2 = x2 := (View.readAt_full _ _ _).trans hf2
    have hl3 : View.readAt (Elt F) arg4.view (Rect.unit (s := S512x384) ![0, 0] S512x384.size inb_S512x384_S512x384_0_0).toLoadRect f3 = x3 := (View.readAt_full _ _ _).trans hf3
    have hl4 : View.readAt (Elt F) arg5.view (Rect.unit (s := S2560x384) ![0, 0] S2560x384.size inb_S2560x384_S2560x384_0_0).toLoadRect f4 = x4 := (View.readAt_full _ _ _).trans hf4
    have hl5 : View.readAt (Elt F) arg6.view (Rect.unit (s := S16x384) ![0, 0] S16x384.size inb_S16x384_S16x384_0_0).toLoadRect f5 = x5 := (View.readAt_full _ _ _).trans hf5
    have hl6 : View.readAt (Elt F) arg7.view (Rect.unit (s := S384x1024) ![0, 0] S384x1024.size inb_S384x1024_S384x1024_0_0).toLoadRect f6 = x6 := (View.readAt_full _ _ _).trans hf6
    have hl7 : View.readAt (Elt F) arg8.view (Rect.unit (s := S128x1024) ![0, 0] S128x1024.size inb_S128x1024_S128x1024_0_0).toLoadRect f7 = x7 := (View.readAt_full _ _ _).trans hf7
    have hl8 : View.readAt (Elt F) arg9.view (Rect.unit (s := S128x1024) ![0, 0] S128x1024.size inb_S128x1024_S128x1024_0_0).toLoadRect f8 = x8 := (View.readAt_full _ _ _).trans hf8
    have hl9 : View.readAt (Elt F) arg10.view (Rect.unit (s := S128x1024) ![0, 0] S128x1024.size inb_S128x1024_S128x1024_0_0).toLoadRect f9 = x9 := (View.readAt_full _ _ _).trans hf9
    have hl10 : View.readAt (Elt F) arg11.view (Rect.unit (s := S16x1024) ![0, 0] S16x1024.size inb_S16x1024_S16x1024_0_0).toLoadRect f10 = x10 := (View.readAt_full _ _ _).trans hf10
    have hl11 : View.readAt (Elt F) arg12.view (Rect.unit (s := S1x1024) ![0, 0] S1x1024.size inb_S1x1024_S1x1024_0_0).toLoadRect f11 = x11 := (View.readAt_full _ _ _).trans hf11
    have hw0 : View.readAt (Elt F) arg1.view (Rect.unit (s := S4112x1024) ![0, 0] S512x1024.size inb_S4112x1024_S512x1024_0_0).toLoadRect f0 = View.ld x0 (Rect.unit (s := S4112x1024) ![0, 0] S512x1024.size inb_S4112x1024_S512x1024_0_0) := by rw [View.readAt_eq_ld, hf0]
    have hw1 : View.readAt (Elt F) arg1.view (Rect.unit (s := S4112x1024) ![512, 0] S512x1024.size inb_S4112x1024_S512x1024_512_0).toLoadRect f0 = View.ld x0 (Rect.unit (s := S4112x1024) ![512, 0] S512x1024.size inb_S4112x1024_S512x1024_512_0) := by rw [View.readAt_eq_ld, hf0]
    have hw2 : View.readAt (Elt F) arg1.view (Rect.unit (s := S4112x1024) ![1024, 0] S512x1024.size inb_S4112x1024_S512x1024_1024_0).toLoadRect f0 = View.ld x0 (Rect.unit (s := S4112x1024) ![1024, 0] S512x1024.size inb_S4112x1024_S512x1024_1024_0) := by rw [View.readAt_eq_ld, hf0]
    have hw3 : View.readAt (Elt F) arg1.view (Rect.unit (s := S4112x1024) ![1536, 0] S2560x1024.size inb_S4112x1024_S2560x1024_1536_0).toLoadRect f0 = View.ld x0 (Rect.unit (s := S4112x1024) ![1536, 0] S2560x1024.size inb_S4112x1024_S2560x1024_1536_0) := by rw [View.readAt_eq_ld, hf0]
    have hw4 : View.readAt (Elt F) arg1.view (Rect.unit (s := S4112x1024) ![4096, 0] S16x1024.size inb_S4112x1024_S16x1024_4096_0).toLoadRect f0 = View.ld x0 (Rect.unit (s := S4112x1024) ![4096, 0] S16x1024.size inb_S4112x1024_S16x1024_4096_0) := by rw [View.readAt_eq_ld, hf0]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H13]
    · iexists _; isplitr
      swap; · iexact H13
      ipureintro; rw [View.read_writes_full]; sl_unfold_run_names; unfold gained; simp only [hl1, hl2, hl3, hl4, hl5, hl6, hl7, hl8, hl9, hl10, hl11, hw0, hw1, hw2, hw3, hw4, hg]
    isplitl [Hq]
    · iexists _, _; isplitl
      · iexact Hq
      ipureintro
      intro y
      rw [View.read_writes_whole]
      refine (sent t et _ y).trans ?_
      sl_unfold_run_names; unfold packed reach; simp only [hl1, hl2, hl3, hl4, hl5, hl6, hl7, hl8, hl9, hl10, hl11, hw0, hw1, hw2, hw3, hw4]
    isplitl [Hr_dst]; · iexact Hr_dst
    isplitl [Hr_src]; · iexact Hr_src
    isplitl [Hr]; · iexact Hr
    iexists _; iexact HW

end Cert.InputKernelIdeal.Run

end
-- ==== Proof.InputIdealMiddle.lean ====
/-
The body at a point after the second.
-/
module

public import proofs.«01_k».proof.Proof.InputIdealFirst

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- A point after the second that is not the last: the copy before it is waited for. -/
theorem atMiddle (c : Dev nD) (t : Fin cfg0.N) (ht : 2 ≤ t.val) (ht' : t.val ≠ 10) (f₀ : BufOf (F := F) c (piece (Ring.bk 11 (t.val - 1)))) (e₀ : BufOf (F := F) c (tile (Ring.sl 2 (t.val + 1)))) (arg1 : Memref sig .tc .vmem S4112x1024 .bf16) (harg1 : arg1.IsWhole) (arg2 : Memref sig .tc .vmem S512x384 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S2560x384 .bf16) (harg5 : arg5.IsWhole) (arg6 : Memref sig .tc .vmem S16x384 .bf16) (harg6 : arg6.IsWhole) (arg7 : Memref sig .tc .vmem S384x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S16x1024 .f32) (harg11 : arg11.IsWhole) (arg12 : Memref sig .tc .vmem S1x1024 .f32) (harg12 : arg12.IsWhole) (arg15 : Memref sig .tc .vmem S16x1024 .f32) (harg15 : arg15.IsWhole) (arg16 : Memref sig .tc .vmem S1x1024 .f32) (harg16 : arg16.IsWhole)
    (x0 : Vec F S4112x1024 .bf16) (x1 : Vec F S512x384 .bf16) (x2 : Vec F S512x384 .bf16) (x3 : Vec F S512x384 .bf16) (x4 : Vec F S2560x384 .bf16) (x5 : Vec F S16x384 .bf16) (x6 : Vec F S384x1024 .f32) (x7 : Vec F S128x1024 .f32) (x8 : Vec F S128x1024 .f32) (x9 : Vec F S128x1024 .f32) (x10 : Vec F S16x1024 .f32) (x11 : Vec F S1x1024 .f32) (g : Vec F S1x1024 .f32) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare g ∗ (∃ f, holds c (piece (Ring.bk 11 t.val)) f) ∗ semVal ((c : Thread nD τ), cellR (Ring.sl 2 t.val)) 0 ∗ (∃ e, holds c (tile (Ring.sl 2 t.val)) e) ∗ Transfers.Flight countersEmb (c : Thread nD τ) (cellR (Ring.sl 2 (t.val + 1))) default ((piece (Ring.bk 11 (t.val - 1))).view.amount (cellR (Ring.sl 2 (t.val + 1)))) iprop(holds c (piece (Ring.bk 11 (t.val - 1))) f₀ ∗ holds c (tile (Ring.sl 2 (t.val + 1))) e₀) ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare (gained (grid0.coords t) x0 x1 x2 x3 x4 x5 x6 x7 x8 x9 x10 x11 g)
          ∗ (∃ f e, Transfers.Flight countersEmb (c : Thread nD τ) (cellR (Ring.sl 2 t.val)) default ((piece (Ring.bk 11 t.val)).view.amount (cellR (Ring.sl 2 t.val))) iprop(holds c (piece (Ring.bk 11 t.val)) f ∗ holds c (tile (Ring.sl 2 t.val)) e) ∗ ⌜∀ y, (piece (Ring.bk 11 t.val)).view.read (Elt F) f y = packed (grid0.coords t) x0 x1 x2 x3 x4 x5 x6 x7 x8 x9 x10 x11 (atP y)⌝) ∗ holds c (piece (Ring.bk 11 (t.val - 1))) f₀ ∗ holds c (tile (Ring.sl 2 (t.val + 1))) e₀ ∗ semVal ((c : Thread nD τ), cellR (Ring.sl 2 (t.val + 1))) 0 ∗ (∃ W', owes (c : Thread nD τ) 0 W')) -∗ K ⟨⟩))
      ⊢ wp frame (wpE (defs₀ (F := F)) Variants.none c none) Set.univ (cc0_inproj_bwd_x (grid0.coords t) arg1 harg1 arg2 harg2 arg3 harg3 arg4 harg4 arg5 harg5 arg6 harg6 arg7 harg7 arg8 harg8 arg9 harg9 arg10 harg10 arg11 harg11 arg12 harg12 (Memref.whole main_v23) (Memref.isWhole_whole _) (Memref.whole main_v24_0) (Memref.isWhole_whole _) arg15 harg15 arg16 harg16 pad (Memref.isWhole_whole _) cc0_scratch1) K := by
    have hc0 : ¬ first (grid0.coords t) := fun h => absurd ((first_iff t).mp h) (by omega)
    have hc2 : ¬ k0_cond2 (grid0.coords t) = 1#1 := fun h => absurd ((packs_first_iff t).mp h) (by omega)
    have hc3 : k0_cond3 (grid0.coords t) = 1#1 := (packs_later_iff t).mpr (by omega)
    have hc4 : ¬ second (grid0.coords t) := fun h => absurd ((second_iff t).mp h) (by omega)
    have hc5 : k0_cond5 (grid0.coords t) = 1#1 := (waits_iff t).mpr (by omega)
    have hc6 : ¬ k0_cond6 (grid0.coords t) = 1#1 := fun h => absurd ((last_iff t).mp h) (by omega)
    haveI := Fact.mk hc0; haveI := Fact.mk hc2; haveI := Fact.mk hc3; haveI := Fact.mk hc4; haveI := Fact.mk hc5; haveI := Fact.mk hc6
    simp only [cc0_inproj_bwd_x_eq_skeleton]; unfold cc0_inproj_bwd_x_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f13, %hf13, H13⟩, ⟨%fp, Hp⟩, Hq, ⟨%et, Ht⟩, Hr, HW, Hk⟩
    sl_exec (disch := first | sl_exact hc0 | sl_exact hc2 | sl_exact hc3 | sl_exact hc4 | sl_exact hc5 | sl_exact hc6)
    sl_step
    iapply Hk
    have hg : View.readAt (Elt F) arg16.view (Rect.unit (s := S1x1024) ![0, 0] S1x1024.size inb_S1x1024_S1x1024_0_0).toLoadRect f13 = g := (View.readAt_full _ _ _).trans hf13
    have hl1 : View.readAt (Elt F) arg2.view (Rect.unit (s := S512x384) ![0, 0] S512x384.size inb_S512x384_S512x384_0_0).toLoadRect f1 = x1 := (View.readAt_full _ _ _).trans hf1
    have hl2 : View.readAt (Elt F) arg3.view (Rect.unit (s := S512x384) ![0, 0] S512x384.size inb_S512x384_S512x384_0_0).toLoadRect f2 = x2 := (View.readAt_full _ _ _).trans hf2
    have hl3 : View.readAt (Elt F) arg4.view (Rect.unit (s := S512x384) ![0, 0] S512x384.size inb_S512x384_S512x384_0_0).toLoadRect f3 = x3 := (View.readAt_full _ _ _).trans hf3
    have hl4 : View.readAt (Elt F) arg5.view (Rect.unit (s := S2560x384) ![0, 0] S2560x384.size inb_S2560x384_S2560x384_0_0).toLoadRect f4 = x4 := (View.readAt_full _ _ _).trans hf4
    have hl5 : View.readAt (Elt F) arg6.view (Rect.unit (s := S16x384) ![0, 0] S16x384.size inb_S16x384_S16x384_0_0).toLoadRect f5 = x5 := (View.readAt_full _ _ _).trans hf5
    have hl6 : View.readAt (Elt F) arg7.view (Rect.unit (s := S384x1024) ![0, 0] S384x1024.size inb_S384x1024_S384x1024_0_0).toLoadRect f6 = x6 := (View.readAt_full _ _ _).trans hf6
    have hl7 : View.readAt (Elt F) arg8.view (Rect.unit (s := S128x1024) ![0, 0] S128x1024.size inb_S128x1024_S128x1024_0_0).toLoadRect f7 = x7 := (View.readAt_full _ _ _).trans hf7
    have hl8 : View.readAt (Elt F) arg9.view (Rect.unit (s := S128x1024) ![0, 0] S128x1024.size inb_S128x1024_S128x1024_0_0).toLoadRect f8 = x8 := (View.readAt_full _ _ _).trans hf8
    have hl9 : View.readAt (Elt F) arg10.view (Rect.unit (s := S128x1024) ![0, 0] S128x1024.size inb_S128x1024_S128x1024_0_0).toLoadRect f9 = x9 := (View.readAt_full _ _ _).trans hf9
    have hl10 : View.readAt (Elt F) arg11.view (Rect.unit (s := S16x1024) ![0, 0] S16x1024.size inb_S16x1024_S16x1024_0_0).toLoadRect f10 = x10 := (View.readAt_full _ _ _).trans hf10
    have hl11 : View.readAt (Elt F) arg12.view (Rect.unit (s := S1x1024) ![0, 0] S1x1024.size inb_S1x1024_S1x1024_0_0).toLoadRect f11 = x11 := (View.readAt_full _ _ _).trans hf11
    have hw0 : View.readAt (Elt F) arg1.view (Rect.unit (s := S4112x1024) ![0, 0] S512x1024.size inb_S4112x1024_S512x1024_0_0).toLoadRect f0 = View.ld x0 (Rect.unit (s := S4112x1024) ![0, 0] S512x1024.size inb_S4112x1024_S512x1024_0_0) := by rw [View.readAt_eq_ld, hf0]
    have hw1 : View.readAt (Elt F) arg1.view (Rect.unit (s := S4112x1024) ![512, 0] S512x1024.size inb_S4112x1024_S512x1024_512_0).toLoadRect f0 = View.ld x0 (Rect.unit (s := S4112x1024) ![512, 0] S512x1024.size inb_S4112x1024_S512x1024_512_0) := by rw [View.readAt_eq_ld, hf0]
    have hw2 : View.readAt (Elt F) arg1.view (Rect.unit (s := S4112x1024) ![1024, 0] S512x1024.size inb_S4112x1024_S512x1024_1024_0).toLoadRect f0 = View.ld x0 (Rect.unit (s := S4112x1024) ![1024, 0] S512x1024.size inb_S4112x1024_S512x1024_1024_0) := by rw [View.readAt_eq_ld, hf0]
    have hw3 : View.readAt (Elt F) arg1.view (Rect.unit (s := S4112x1024) ![1536, 0] S2560x1024.size inb_S4112x1024_S2560x1024_1536_0).toLoadRect f0 = View.ld x0 (Rect.unit (s := S4112x1024) ![1536, 0] S2560x1024.size inb_S4112x1024_S2560x1024_1536_0) := by rw [View.readAt_eq_ld, hf0]
    have hw4 : View.readAt (Elt F) arg1.view (Rect.unit (s := S4112x1024) ![4096, 0] S16x1024.size inb_S4112x1024_S16x1024_4096_0).toLoadRect f0 = View.ld x0 (Rect.unit (s := S4112x1024) ![4096, 0] S16x1024.size inb_S4112x1024_S16x1024_4096_0) := by rw [View.readAt_eq_ld, hf0]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H13]
    · iexists _; isplitr
      swap; · iexact H13
      ipureintro; rw [View.read_writes_full]; sl_unfold_run_names; unfold gained; simp only [hl1, hl2, hl3, hl4, hl5, hl6, hl7, hl8, hl9, hl10, hl11, hw0, hw1, hw2, hw3, hw4, hg]
    isplitl [Hq]
    · iexists _, _; isplitl
      · iexact Hq
      ipureintro
      intro y
      rw [View.read_writes_whole]
      refine (sent t et _ y).trans ?_
      sl_unfold_run_names; unfold packed reach; simp only [hl1, hl2, hl3, hl4, hl5, hl6, hl7, hl8, hl9, hl10, hl11, hw0, hw1, hw2, hw3, hw4]
    isplitl [Hr_dst]; · iexact Hr_dst
    isplitl [Hr_src]; · iexact Hr_src
    isplitl [Hr]; · iexact Hr
    iexists _; iexact HW

end Cert.InputKernelIdeal.Run

end
-- ==== Proof.InputIdealLast.lean ====
/-
The body at the last point.
-/
module

public import proofs.«01_k».proof.Proof.InputIdealFirst

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The last point: its own copy is waited for as well. -/
theorem atLast (c : Dev nD) (t : Fin cfg0.N) (ht : t.val = 10) (f₀ : BufOf (F := F) c (piece (Ring.bk 11 (t.val - 1)))) (e₀ : BufOf (F := F) c (tile (Ring.sl 2 (t.val + 1)))) (arg1 : Memref sig .tc .vmem S4112x1024 .bf16) (harg1 : arg1.IsWhole) (arg2 : Memref sig .tc .vmem S512x384 .bf16) (harg2 : arg2.IsWhole) (arg3 : Memref sig .tc .vmem S512x384 .bf16) (harg3 : arg3.IsWhole) (arg4 : Memref sig .tc .vmem S512x384 .bf16) (harg4 : arg4.IsWhole) (arg5 : Memref sig .tc .vmem S2560x384 .bf16) (harg5 : arg5.IsWhole) (arg6 : Memref sig .tc .vmem S16x384 .bf16) (harg6 : arg6.IsWhole) (arg7 : Memref sig .tc .vmem S384x1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x1024 .f32) (harg10 : arg10.IsWhole) (arg11 : Memref sig .tc .vmem S16x1024 .f32) (harg11 : arg11.IsWhole) (arg12 : Memref sig .tc .vmem S1x1024 .f32) (harg12 : arg12.IsWhole) (arg15 : Memref sig .tc .vmem S16x1024 .f32) (harg15 : arg15.IsWhole) (arg16 : Memref sig .tc .vmem S1x1024 .f32) (harg16 : arg16.IsWhole)
    (x0 : Vec F S4112x1024 .bf16) (x1 : Vec F S512x384 .bf16) (x2 : Vec F S512x384 .bf16) (x3 : Vec F S512x384 .bf16) (x4 : Vec F S2560x384 .bf16) (x5 : Vec F S16x384 .bf16) (x6 : Vec F S384x1024 .f32) (x7 : Vec F S128x1024 .f32) (x8 : Vec F S128x1024 .f32) (x9 : Vec F S128x1024 .f32) (x10 : Vec F S16x1024 .f32) (x11 : Vec F S1x1024 .f32) (g : Vec F S1x1024 .f32) (W : Waits sig Unit) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare g ∗ (∃ f, holds c (piece (Ring.bk 11 t.val)) f) ∗ semVal ((c : Thread nD τ), cellR (Ring.sl 2 t.val)) 0 ∗ (∃ e, holds c (tile (Ring.sl 2 t.val)) e) ∗ Transfers.Flight countersEmb (c : Thread nD τ) (cellR (Ring.sl 2 (t.val + 1))) default ((piece (Ring.bk 11 (t.val - 1))).view.amount (cellR (Ring.sl 2 (t.val + 1)))) iprop(holds c (piece (Ring.bk 11 (t.val - 1))) f₀ ∗ holds c (tile (Ring.sl 2 (t.val + 1))) e₀) ∗ owes (c : Thread nD τ) 0 W
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg16 fullShare (gained (grid0.coords t) x0 x1 x2 x3 x4 x5 x6 x7 x8 x9 x10 x11 g)
          ∗ (∃ f, holds c (piece (Ring.bk 11 t.val)) f ∗ ⌜∀ y, (piece (Ring.bk 11 t.val)).view.read (Elt F) f y = packed (grid0.coords t) x0 x1 x2 x3 x4 x5 x6 x7 x8 x9 x10 x11 (atP y)⌝) ∗ (∃ e, holds c (tile (Ring.sl 2 t.val)) e) ∗ semVal ((c : Thread nD τ), cellR (Ring.sl 2 t.val)) 0 ∗ holds c (piece (Ring.bk 11 (t.val - 1))) f₀ ∗ holds c (tile (Ring.sl 2 (t.val + 1))) e₀ ∗ semVal ((c : Thread nD τ), cellR (Ring.sl 2 (t.val + 1))) 0 ∗ (∃ W', owes (c : Thread nD τ) 0 W')) -∗ K ⟨⟩))
      ⊢ wp frame (wpE (defs₀ (F := F)) Variants.none c none) Set.univ (cc0_inproj_bwd_x (grid0.coords t) arg1 harg1 arg2 harg2 arg3 harg3 arg4 harg4 arg5 harg5 arg6 harg6 arg7 harg7 arg8 harg8 arg9 harg9 arg10 harg10 arg11 harg11 arg12 harg12 (Memref.whole main_v23) (Memref.isWhole_whole _) (Memref.whole main_v24_0) (Memref.isWhole_whole _) arg15 harg15 arg16 harg16 pad (Memref.isWhole_whole _) cc0_scratch1) K := by
    have hc0 : ¬ first (grid0.coords t) := fun h => absurd ((first_iff t).mp h) (by omega)
    have hc2 : ¬ k0_cond2 (grid0.coords t) = 1#1 := fun h => absurd ((packs_first_iff t).mp h) (by omega)
    have hc3 : k0_cond3 (grid0.coords t) = 1#1 := (packs_later_iff t).mpr (by omega)
    have hc4 : ¬ second (grid0.coords t) := fun h => absurd ((second_iff t).mp h) (by omega)
    have hc5 : k0_cond5 (grid0.coords t) = 1#1 := (waits_iff t).mpr (by omega)
    have hc6 : k0_cond6 (grid0.coords t) = 1#1 := (last_iff t).mpr (by omega)
    haveI := Fact.mk hc0; haveI := Fact.mk hc2; haveI := Fact.mk hc3; haveI := Fact.mk hc4; haveI := Fact.mk hc5; haveI := Fact.mk hc6
    simp only [cc0_inproj_bwd_x_eq_skeleton]; unfold cc0_inproj_bwd_x_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f13, %hf13, H13⟩, ⟨%fp, Hp⟩, Hq, ⟨%et, Ht⟩, Hr, HW, Hk⟩
    sl_exec (disch := first | sl_exact hc0 | sl_exact hc2 | sl_exact hc3 | sl_exact hc4 | sl_exact hc5 | sl_exact hc6)
    sl_step
    iapply Hk
    have hg : View.readAt (Elt F) arg16.view (Rect.unit (s := S1x1024) ![0, 0] S1x1024.size inb_S1x1024_S1x1024_0_0).toLoadRect f13 = g := (View.readAt_full _ _ _).trans hf13
    have hl1 : View.readAt (Elt F) arg2.view (Rect.unit (s := S512x384) ![0, 0] S512x384.size inb_S512x384_S512x384_0_0).toLoadRect f1 = x1 := (View.readAt_full _ _ _).trans hf1
    have hl2 : View.readAt (Elt F) arg3.view (Rect.unit (s := S512x384) ![0, 0] S512x384.size inb_S512x384_S512x384_0_0).toLoadRect f2 = x2 := (View.readAt_full _ _ _).trans hf2
    have hl3 : View.readAt (Elt F) arg4.view (Rect.unit (s := S512x384) ![0, 0] S512x384.size inb_S512x384_S512x384_0_0).toLoadRect f3 = x3 := (View.readAt_full _ _ _).trans hf3
    have hl4 : View.readAt (Elt F) arg5.view (Rect.unit (s := S2560x384) ![0, 0] S2560x384.size inb_S2560x384_S2560x384_0_0).toLoadRect f4 = x4 := (View.readAt_full _ _ _).trans hf4
    have hl5 : View.readAt (Elt F) arg6.view (Rect.unit (s := S16x384) ![0, 0] S16x384.size inb_S16x384_S16x384_0_0).toLoadRect f5 = x5 := (View.readAt_full _ _ _).trans hf5
    have hl6 : View.readAt (Elt F) arg7.view (Rect.unit (s := S384x1024) ![0, 0] S384x1024.size inb_S384x1024_S384x1024_0_0).toLoadRect f6 = x6 := (View.readAt_full _ _ _).trans hf6
    have hl7 : View.readAt (Elt F) arg8.view (Rect.unit (s := S128x1024) ![0, 0] S128x1024.size inb_S128x1024_S128x1024_0_0).toLoadRect f7 = x7 := (View.readAt_full _ _ _).trans hf7
    have hl8 : View.readAt (Elt F) arg9.view (Rect.unit (s := S128x1024) ![0, 0] S128x1024.size inb_S128x1024_S128x1024_0_0).toLoadRect f8 = x8 := (View.readAt_full _ _ _).trans hf8
    have hl9 : View.readAt (Elt F) arg10.view (Rect.unit (s := S128x1024) ![0, 0] S128x1024.size inb_S128x1024_S128x1024_0_0).toLoadRect f9 = x9 := (View.readAt_full _ _ _).trans hf9
    have hl10 : View.readAt (Elt F) arg11.view (Rect.unit (s := S16x1024) ![0, 0] S16x1024.size inb_S16x1024_S16x1024_0_0).toLoadRect f10 = x10 := (View.readAt_full _ _ _).trans hf10
    have hl11 : View.readAt (Elt F) arg12.view (Rect.unit (s := S1x1024) ![0, 0] S1x1024.size inb_S1x1024_S1x1024_0_0).toLoadRect f11 = x11 := (View.readAt_full _ _ _).trans hf11
    have hw0 : View.readAt (Elt F) arg1.view (Rect.unit (s := S4112x1024) ![0, 0] S512x1024.size inb_S4112x1024_S512x1024_0_0).toLoadRect f0 = View.ld x0 (Rect.unit (s := S4112x1024) ![0, 0] S512x1024.size inb_S4112x1024_S512x1024_0_0) := by rw [View.readAt_eq_ld, hf0]
    have hw1 : View.readAt (Elt F) arg1.view (Rect.unit (s := S4112x1024) ![512, 0] S512x1024.size inb_S4112x1024_S512x1024_512_0).toLoadRect f0 = View.ld x0 (Rect.unit (s := S4112x1024) ![512, 0] S512x1024.size inb_S4112x1024_S512x1024_512_0) := by rw [View.readAt_eq_ld, hf0]
    have hw2 : View.readAt (Elt F) arg1.view (Rect.unit (s := S4112x1024) ![1024, 0] S512x1024.size inb_S4112x1024_S512x1024_1024_0).toLoadRect f0 = View.ld x0 (Rect.unit (s := S4112x1024) ![1024, 0] S512x1024.size inb_S4112x1024_S512x1024_1024_0) := by rw [View.readAt_eq_ld, hf0]
    have hw3 : View.readAt (Elt F) arg1.view (Rect.unit (s := S4112x1024) ![1536, 0] S2560x1024.size inb_S4112x1024_S2560x1024_1536_0).toLoadRect f0 = View.ld x0 (Rect.unit (s := S4112x1024) ![1536, 0] S2560x1024.size inb_S4112x1024_S2560x1024_1536_0) := by rw [View.readAt_eq_ld, hf0]
    have hw4 : View.readAt (Elt F) arg1.view (Rect.unit (s := S4112x1024) ![4096, 0] S16x1024.size inb_S4112x1024_S16x1024_4096_0).toLoadRect f0 = View.ld x0 (Rect.unit (s := S4112x1024) ![4096, 0] S16x1024.size inb_S4112x1024_S16x1024_4096_0) := by rw [View.readAt_eq_ld, hf0]
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    isplitl [H6]
    · iexists _; isplitr; · ipureintro; exact hf6
      iexact H6
    isplitl [H7]
    · iexists _; isplitr; · ipureintro; exact hf7
      iexact H7
    isplitl [H8]
    · iexists _; isplitr; · ipureintro; exact hf8
      iexact H8
    isplitl [H9]
    · iexists _; isplitr; · ipureintro; exact hf9
      iexact H9
    isplitl [H10]
    · iexists _; isplitr; · ipureintro; exact hf10
      iexact H10
    isplitl [H11]
    · iexists _; isplitr; · ipureintro; exact hf11
      iexact H11
    isplitl [H13]
    · iexists _; isplitr
      swap; · iexact H13
      ipureintro; rw [View.read_writes_full]; sl_unfold_run_names; unfold gained; simp only [hl1, hl2, hl3, hl4, hl5, hl6, hl7, hl8, hl9, hl10, hl11, hw0, hw1, hw2, hw3, hw4, hg]
    isplitl [Hp]
    · iexists _; isplitl
      · iexact Hp
      ipureintro
      intro y
      rw [View.read_writes_whole]
      refine (sent t et _ y).trans ?_
      sl_unfold_run_names; unfold packed reach; simp only [hl1, hl2, hl3, hl4, hl5, hl6, hl7, hl8, hl9, hl10, hl11, hw0, hw1, hw2, hw3, hw4]
    isplitl [Ht]; · iexists _; iexact Ht
    isplitl [Hq]; · iexact Hq
    isplitl [Hr_dst]; · iexact Hr_dst
    isplitl [Hr_src]; · iexact Hr_src
    isplitl [Hr]; · iexact Hr
    iexists _; iexact HW

end Cert.InputKernelIdeal.Run

end
-- ==== Proof.InputIdealFrame.lean ====
/-
The run of the input gradient kernel: the body at every point, the launch, the frame and the results.
-/
module

public import proofs.«01_k».proof.Proof.InputIdealSteps
public import proofs.«01_k».proof.Proof.InputIdealSecond
public import proofs.«01_k».proof.Proof.InputIdealMiddle
public import proofs.«01_k».proof.Proof.InputIdealLast

@[expose] public section

set_option maxRecDepth 16384

noncomputable section

namespace Cert.InputKernelIdeal.Run

open Cert.InputKernelIdeal Cert.InputKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The pipeline's proof data -/

/-- The region invariant before point `k`: the generator register, the operand left over, the ring, and the scratch outside its tiles. -/
def PhiR (c : Dev nD) (k : ℕ) : sProp 𝕄 := iprop((∃ r, prngReg c r) ∗ (((c : Thread nD τ).loc main_v23) ↦{fullShare} V m c main_v23) ∗ ringAt m c k ∗ spare c)

/-- The proof data of the pipeline: every input stays its block; the gradient of the learned tokens is the first point's,
    the gradient of the gain grows from point to point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => lrn m c t0_0
    | ⟨13, _⟩ => gnAt m c t.val t.isLt
  Φ t := PhiR m c t.val
  q w := Pipeline.shareOf spec0 w
  owed _ := 0

theorem A_eq (c : Dev nD) (w : Fin cfg0.W) : (dats m 0 c).A w = V m c (Pipeline.arrRef spec0 w) := by
  dsimp only [dats]
theorem Phi_here (c : Dev nD) (t : Fin cfg0.N) : (dats m 0 c).Φ t.castSucc = PhiR m c t.val := by
  dsimp only [dats]; simp only [Fin.coe_castSucc]
theorem Phi_next (c : Dev nD) (t : Fin cfg0.N) : (dats m 0 c).Φ t.succ = PhiR m c (t.val + 1) := by
  dsimp only [dats]; simp only [Fin.val_succ]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = lrn m c t0_0 := by dsimp only [dats]
theorem after13 (c : Dev nD) (t : Fin cfg0.N) : (dats m 0 c).after 13 t = gnAt m c t.val t.isLt := by dsimp only [dats]
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]; try rfl) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]; try rfl) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]; try rfl) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]; try rfl) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]; try rfl) t d).trans
    (by unfold Dat.fetched Dat.blockOf iblk; rw [A_eq]; try rfl)
/-- Past the first point, what the point before left. -/
theorem before13 (c : Dev nD) (t : Fin cfg0.N) (h1 : 1 ≤ t.val) (d) : (dats m 0 c).before 13 t d = gnAt m c (t.val - 1) (Nat.lt_of_le_of_lt (Nat.sub_le _ _) t.isLt) := by
  have hN : t.val < 11 := lt_of_lt_of_eq t.isLt (show cfg0.N = 11 from N_0)
  rw [Dat.before_out_kept _ 13 rfl t (by omega) (Bool.eq_false_iff.mpr fun h => by have := (flush0_13 _).mp h; dsimp only at this; omega)
    (fun _ => rfl) (fun _ _ => rfl)]
  dsimp only [dats]
/-- The gradient of the learned tokens is stored at the first point and stays in its buffer until the last. -/
theorem idle12 (t : Fin cfg0.N) : cfg0.idle 12 (cfg0.grid.coords t) = !(k0_cond2 (grid0.coords t) == 1#1) := rfl
theorem idle12_first (t : Fin cfg0.N) (h : t.val = 0) : cfg0.idle 12 (cfg0.grid.coords t) = false := by
  rw [idle12, (packs_first_iff t).mpr h]; rfl
theorem idle12_later (t : Fin cfg0.N) (h : ¬ t.val = 0) : cfg0.idle 12 (cfg0.grid.coords t) = true := by
  rw [idle12, beq_false_of_ne (fun e => h ((packs_first_iff t).mp e))]; rfl
theorem before12 (c : Dev nD) (t : Fin cfg0.N) (h1 : 1 ≤ t.val) (d) : (dats m 0 c).before 12 t d = lrn m c t0_0 := by
  obtain ⟨n, hn⟩ := t
  have hN : cfg0.N = 11 := N_0
  induction n with
  | zero => exact absurd h1 (by decide : ¬ 1 ≤ 0)
  | succ n ih =>
    have hfl : (cfg0.win 12).flush ⟨n, Nat.lt_of_succ_lt hn⟩ = false := Bool.eq_false_iff.mpr fun h => by
      have h2 := (flush0_12 _).mp h
      dsimp only at h2
      omega
    rw [Dat.before_of_pos _ 12 ⟨n + 1, hn⟩ (Nat.succ_ne_zero n) ((cfg0.win 12).fetch_out rfl _)]
    show (if (cfg0.win 12).flush ⟨n, Nat.lt_of_succ_lt hn⟩ = true then d else (dats m 0 c).left 12 ⟨n, Nat.lt_of_succ_lt hn⟩ d) = _
    rw [hfl, if_neg Bool.false_ne_true]
    unfold Dat.left
    by_cases h0 : n = 0
    · rw [idle12_first ⟨n, Nat.lt_of_succ_lt hn⟩ h0]
      exact rfl
    · rw [idle12_later ⟨n, Nat.lt_of_succ_lt hn⟩ h0]
      exact ih (Nat.lt_of_succ_lt hn) (Nat.pos_of_ne_zero h0)

/-! ## The body at any point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t)
    ∗ owns (c : Thread nD τ) (ms12 t) fullShare ((dats m 0 c).after 12 t)
    ∗ owns (c : Thread nD τ) (ms13 t) fullShare ((dats m 0 c).after 13 t))

/-- What the runs say of the outputs. -/
theorem lrn_eq (c : Dev nD) (t : Fin cfg0.N) : lrn m c t = learned (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := rfl
theorem gn_eq (c : Dev nD) (t : Fin cfg0.N) (g) : gn m c t g = gained (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) g := rfl

/-- The two parts of the first tile are the tile. -/
theorem tile0_back (c : Dev nD) (e₀ : BufOf (F := F) c part0) : (iprop(holds c part0 e₀ ∗ ∃ e', (tile 0).view.loc (c : Thread nD τ) ↦[(tile 0).view.set \ part0.view.set]{fullShare} e') : sProp 𝕄) ⊢ iprop(∃ e, holds (F := F) c (tile 0) e) := by
  iintro ⟨HP, ⟨%e', HR⟩⟩
  iexists _
  iapply (pointsTo_join_subset (U := Pipeline.UD sig nD τ) (ℓ := (c : Thread nD τ).loc cc0_scratch0) (q := fullShare) (f := e') (g := e₀) part0_sub)
  isplitl [HP]
  · iexact HP
  iexact HR

set_option maxHeartbeats 3600000 in
theorem body_first (c : Dev nD) (t : Fin cfg0.N) (ht : t.val = 0) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  unfold bodyPre bodyPost bodyAt0
  simp only [before0, before1, before2, before3, before4, before5, before6, before7, before8, before9, before10, before11]
  rw [after0, after1, after2, after3, after4, after5, after6, after7, after8, after9, after10, after11, after12, after13]
  rw [Phi_here m c t, Phi_next m c t]
  unfold Dat.owesAt Pipeline.owesWithin
  rw [show (dats m 0 c).owed t.castSucc = 0 from rfl, show (dats m 0 c).owed t.succ = 0 from rfl]
  unfold PhiR
  obtain rfl : t = t0_0 := Fin.ext ht
  rw [gnAt_first m c t0_0 ht, lrn_eq, gn_eq]
  iintro ⟨⟨Hg, Hh, HRing, Hsp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HX := (here0 m c t0_0 ht) $$ HRing
  icases HX with ⟨HP, HQ, HT, HA, HF⟩
  iapply (atFirst c t0_0 ht (ms0 t0_0) (hs0 t0_0) (ms1 t0_0) (hs1 t0_0) (ms2 t0_0) (hs2 t0_0) (ms3 t0_0) (hs3 t0_0) (ms4 t0_0) (hs4 t0_0) (ms5 t0_0) (hs5 t0_0) (ms6 t0_0) (hs6 t0_0) (ms7 t0_0) (hs7 t0_0) (ms8 t0_0) (hs8 t0_0) (ms9 t0_0) (hs9 t0_0) (ms10 t0_0) (hs10 t0_0) (ms11 t0_0) (hs11 t0_0) (ms12 t0_0) (hs12 t0_0) (ms13 t0_0) (hs13 t0_0) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HP]; · iexact HP
  isplitl [HQ]; · iexact HQ
  isplitl [HT]; · iexact HT
  isplitl [HW]; · iexact HW
  iintro ⟨H0, H1, H2, H3, H4, H5, H6, H7, H8, H9, H10, H11, H12, H13, HFl, HR, HW'⟩
  ihave HY := (flew0 m c t0_0 ht) $$ HFl
  isplitl [Hg Hh Hsp HA HF HR HY]
  · isplitl [Hg]; · iexact Hg
    isplitl [Hh]; · iexact Hh
    isplitr [Hsp]
    · iapply (next0 m c t0_0 ht)
      isplitl [HY]; · iexact HY
      isplitl [HR]; · iexact HR
      isplitl [HA]; · iexact HA
      iexact HF
    iexact Hsp
  isplitl [HW']
  · icases HW' with ⟨%W', HW'⟩
    iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 3600000 in
theorem body_second (c : Dev nD) (t : Fin cfg0.N) (ht : t.val = 1) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  unfold bodyPre bodyPost bodyAt0
  simp only [before0, before1, before2, before3, before4, before5, before6, before7, before8, before9, before10, before11]
  rw [after0, after1, after2, after3, after4, after5, after6, after7, after8, after9, after10, after11, after12, after13]
  rw [Phi_here m c t, Phi_next m c t]
  unfold Dat.owesAt Pipeline.owesWithin
  rw [show (dats m 0 c).owed t.castSucc = 0 from rfl, show (dats m 0 c).owed t.succ = 0 from rfl]
  unfold PhiR
  simp only [before12 m c t (by omega), before13 m c t (by omega)]
  rw [gnAt_next m c t (by omega), gn_eq]
  iintro ⟨⟨Hg, Hh, HRing, Hsp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HX := (here1 m c t ht) $$ HRing
  icases HX with ⟨HP, HQ, HT, ⟨%e₀, HI⟩, HR, HA, HB⟩
  iapply (atSecond c t ht (GX m c) e₀ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (gnAt m c (t.val - 1) (Nat.lt_of_le_of_lt (Nat.sub_le _ _) t.isLt)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [HP]; · iexact HP
  isplitl [HQ]; · iexact HQ
  isplitl [HT]; · iexact HT
  isplitl [HI]; · iexact HI
  isplitl [HW]; · iexact HW
  iintro ⟨H0, H1, H2, H3, H4, H5, H6, H7, H8, H9, H10, H11, H13, HFl, HPo, HTo, HQo, HW'⟩
  ihave HY := (flew m c t (by omega)) $$ HFl
  ihave HTe := (tile0_back (F := F) c e₀) $$ [HTo HR]
  · isplitl [HTo]; · iexact HTo
    iexact HR
  isplitl [Hg Hh Hsp HY HPo HQo HTe HA HB]
  · isplitl [Hg]; · iexact Hg
    isplitl [Hh]; · iexact Hh
    isplitr [Hsp]
    · iapply (next1 m c t ht)
      isplitl [HY]; · iexact HY
      isplitl [HPo]; · iexact HPo
      isplitl [HQo]; · iexact HQo
      isplitl [HTe]; · iexact HTe
      isplitl [HA]; · iexact HA
      iexact HB
    iexact Hsp
  isplitl [HW']
  · icases HW' with ⟨%W', HW'⟩
    iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 3600000 in
theorem body_middle (c : Dev nD) (t : Fin cfg0.N) (ht : 2 ≤ t.val) (ht' : t.val < 10) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  unfold bodyPre bodyPost bodyAt0
  simp only [before0, before1, before2, before3, before4, before5, before6, before7, before8, before9, before10, before11]
  rw [after0, after1, after2, after3, after4, after5, after6, after7, after8, after9, after10, after11, after12, after13]
  rw [Phi_here m c t, Phi_next m c t]
  unfold Dat.owesAt Pipeline.owesWithin
  rw [show (dats m 0 c).owed t.castSucc = 0 from rfl, show (dats m 0 c).owed t.succ = 0 from rfl]
  unfold PhiR
  simp only [before12 m c t (by omega), before13 m c t (by omega)]
  rw [gnAt_next m c t (by omega), gn_eq]
  iintro ⟨⟨Hg, Hh, HRing, Hsp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HX := (hereM m c t ht ht') $$ HRing
  icases HX with ⟨HP, HQ, HT, ⟨%e₀, HI⟩, HA, HB⟩
  iapply (atMiddle c t ht (by omega) (GP m c (Ring.bk 11 (t.val - 1))) e₀ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (gnAt m c (t.val - 1) (Nat.lt_of_le_of_lt (Nat.sub_le _ _) t.isLt)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [HP]; · iexact HP
  isplitl [HQ]; · iexact HQ
  isplitl [HT]; · iexact HT
  isplitl [HI]; · iexact HI
  isplitl [HW]; · iexact HW
  iintro ⟨H0, H1, H2, H3, H4, H5, H6, H7, H8, H9, H10, H11, H13, HFl, HPo, HTo, HQo, HW'⟩
  ihave HY := (flew m c t (by omega)) $$ HFl
  ihave HTe : iprop(∃ e, holds (F := F) c (tile (Ring.sl 2 (t.val + 1))) e) $$ [HTo]
  · iexists _; iexact HTo
  isplitl [Hg Hh Hsp HY HPo HQo HTe HA HB]
  · isplitl [Hg]; · iexact Hg
    isplitl [Hh]; · iexact Hh
    isplitr [Hsp]
    · iapply (nextM m c t ht ht')
      isplitl [HY]; · iexact HY
      isplitl [HPo]; · iexact HPo
      isplitl [HQo]; · iexact HQo
      isplitl [HTe]; · iexact HTe
      isplitl [HA]; · iexact HA
      iexact HB
    iexact Hsp
  isplitl [HW']
  · icases HW' with ⟨%W', HW'⟩
    iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 3600000 in
theorem body_last (c : Dev nD) (t : Fin cfg0.N) (ht : t.val = 10) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  unfold bodyPre bodyPost bodyAt0
  simp only [before0, before1, before2, before3, before4, before5, before6, before7, before8, before9, before10, before11]
  rw [after0, after1, after2, after3, after4, after5, after6, after7, after8, after9, after10, after11, after12, after13]
  rw [Phi_here m c t, Phi_next m c t]
  unfold Dat.owesAt Pipeline.owesWithin
  rw [show (dats m 0 c).owed t.castSucc = 0 from rfl, show (dats m 0 c).owed t.succ = 0 from rfl]
  unfold PhiR
  simp only [before12 m c t (by omega), before13 m c t (by omega)]
  rw [gnAt_next m c t (by omega), gn_eq]
  iintro ⟨⟨Hg, Hh, HRing, Hsp⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave HX := (hereL m c t ht) $$ HRing
  icases HX with ⟨HP, HQ, HT, ⟨%e₀, HI⟩, HB⟩
  iapply (atLast c t ht (GP m c (Ring.bk 11 (t.val - 1))) e₀ (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (ms12 t) (hs12 t) (ms13 t) (hs13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (gnAt m c (t.val - 1) (Nat.lt_of_le_of_lt (Nat.sub_le _ _) t.isLt)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [HP]; · iexact HP
  isplitl [HQ]; · iexact HQ
  isplitl [HT]; · iexact HT
  isplitl [HI]; · iexact HI
  isplitl [HW]; · iexact HW
  iintro ⟨H0, H1, H2, H3, H4, H5, H6, H7, H8, H9, H10, H11, H13, HFl, HTn, HQn, HPo, HTo, HQo, HW'⟩
  ihave HY := (fell m c t (by omega)) $$ HFl
  ihave HTe : iprop(∃ e, holds (F := F) c (tile (Ring.sl 2 (t.val + 1))) e) $$ [HTo]
  · iexists _; iexact HTo
  isplitl [Hg Hh Hsp HY HTn HQn HPo HQo HTe HB]
  · isplitl [Hg]; · iexact Hg
    isplitl [Hh]; · iexact Hh
    isplitr [Hsp]
    · iapply (nextL m c t ht)
      isplitl [HY]; · iexact HY
      isplitl [HTn]; · iexact HTn
      isplitl [HQn]; · iexact HQn
      isplitl [HPo]; · iexact HPo
      isplitl [HQo]; · iexact HQo
      isplitl [HTe]; · iexact HTe
      iexact HB
    iexact Hsp
  isplitl [HW']
  · icases HW' with ⟨%W', HW'⟩
    iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem sound_body (c : Dev nD) (t : Fin cfg0.N) :
    bodyPre m c t ⊢ wp frame (wpE (defs₀ (F := F)) Variants.none c none) Set.univ (bodyAt0 t) (fun _ => bodyPost m c t) := by
  have hN : t.val < 11 := lt_of_lt_of_eq t.isLt (show cfg0.N = 11 from N_0)
  by_cases h0 : t.val = 0
  · exact body_first m c t h0
  by_cases h1 : t.val = 1
  · exact body_second m c t h1
  by_cases h2 : t.val = 10
  · exact body_last m c t h2
  exact body_middle m c t (by omega) (by omega)

/-- The body table's row at a point is the body there. -/
theorem row (t : Fin cfg0.N) : defs₀ (F := F) .tc cfg0.body (cfg0.bodyArgs t (cfg0.slots t)) = bodyAt0 t := by
  unfold defs₀; rw [Defs.onTc_tc]
/-- Handing back the gradient of the learned tokens, touched at the first point alone. -/
theorem back12 (c : Dev nD) (t : Fin cfg0.N) : owns (c : Thread nD τ) (ms12 t) fullShare ((dats m 0 c).after 12 t) ⊢
    (match cfg0.idle 12 (cfg0.grid.coords t) with
      | true => (match (cfg0.win 12).flush t with
        | false => iprop(∃ d, owns (c : Thread nD τ) ((cfg0.win 12).stage (cfg0.slots t 12)) fullShare ((dats m 0 c).before 12 t d))
        | true => owns (c : Thread nD τ) ((cfg0.win 12).stage (cfg0.slots t 12)) fullShare ((dats m 0 c).after 12 t))
      | false => owns (c : Thread nD τ) ((cfg0.win 12).stage (cfg0.slots t 12)) fullShare ((dats m 0 c).after 12 t) : sProp 𝕄) :=
  by
  by_cases h : t.val = 0
  · rw [idle12_first t h]
  · rw [idle12_later t h]
    cases hf : (cfg0.win 12).flush t
    · simp only [before12 m c t (Nat.one_le_iff_ne_zero.mpr h)]
      rw [after12]
      iintro H
      iexists (lrn m c t0_0)
      iexact H
    · exact .rfl
theorem body_obligation (c : Dev nD) : BodyObligation (dats (F := F) m 0 c) (defs₀ (F := F)) Variants.none () Set.univ := fun t => by
  rw [bigSep_W0, bigSep_W0, row]
  exact triple_restated (sound_body m c t) rfl .rfl fun _ => sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono .rfl (sep_mono (back12 m c t) .rfl))))))))))))))

/-! ## The run -/

/-- What the program's own copies leave in the buffers they write. -/
def left (c : Dev nD) (b : Ref sig .tc) : Buf (Elt F) ((c.tc : Thread nD τ).loc b) := Function.update (β := fun b : Ref sig .tc => Buf (Elt F) ((c.tc : Thread nD τ).loc b)) (V m c) main_v24_0 (GX m c) b
theorem left_res (c : Dev nD) : left m c main_v24_0 = GX m c := Function.update_self _ _ _
theorem heldAt (G : (c : Dev nD) → (b : Ref sig .tc) → Buf (Elt F) ((c.tc : Thread nD τ).loc b)) (c : Dev nD) :
    (Pipeline.ΦDRG osem spec0 Hs Rs (V m) G c : sProp 𝕄) = iprop((∃ f : Buf (Elt F) ((c : Thread nD τ).loc cc0_scratch0), ((c : Thread nD τ).loc cc0_scratch0) ↦{fullShare} f) ∗ (∃ r, prngReg c r) ∗ (semVal ((c : Thread nD τ), SemLoc.dma 23) 0 ∗ semVal ((c : Thread nD τ), SemLoc.dma 24) 0) ∗ (((c : Thread nD τ).loc main_v23) ↦{fullShare} V m c main_v23) ∗ (((c : Thread nD τ).loc main_v24_0) ↦{fullShare} G c main_v24_0)) := by
  rw [Pipeline.ΦDRG_eq, scopedRest0_eq, ownSems_eq]
  unfold Hs Rs
  rw [Pipeline.routed_singleton, BI.bigSep_singleton]
theorem hin (c : Dev nD) : Pipeline.ΦDRG osem spec0 Hs Rs (V m) (V m) c ⊢ (dats m 0 c).Φ 0 := by
  rw [heldAt, show (dats m 0 c).Φ 0 = PhiR m c 0 from rfl]
  unfold PhiR
  iintro ⟨HS, Hg, HQ, Hh, Ho⟩
  isplitl [Hg]; · iexact Hg
  isplitl [Hh]; · iexact Hh
  iapply (ring_in m c (V m c main_v24_0))
  isplitl [HS]; · iexact HS
  isplitl [HQ]; · iexact HQ
  iexact Ho
theorem hout (c : Dev nD) : (dats m 0 c).Φ (Fin.last cfg0.N) ⊢ Pipeline.ΦDRG osem spec0 Hs Rs (V m) (left m) c := by
  rw [heldAt, show (dats m 0 c).Φ (Fin.last cfg0.N) = PhiR m c grid0.N from rfl, left_res]
  unfold PhiR
  rw [show grid0.N = 11 by rw [N_0]]
  iintro ⟨Hg, Hh, HR⟩
  ihave HX := (ring_out m c) $$ HR
  icases HX with ⟨HS, HQ, Ho⟩
  isplitl [HS]; · iexact HS
  isplitl [Hg]; · iexact Hg
  isplitl [HQ]; · iexact HQ
  isplitl [Hh]; · iexact Hh
  iexact Ho

set_option backward.isDefEq.respectTransparency.types false in
/-- The whole program from zero counters: every array of the pipeline as its data say, the copied-out result as the copies leave it, everything else as launched, every counter back at zero. -/
theorem run : θ_run defs (onTc (τ := τ) (main (F := F))) (s₀ m ρ) (fun r => Pipeline.FramePostRG cfgs (dats m) 0 Rs (V m) (left m) r ∧ r.2.sem = fun _ => 0) :=
  Pipeline.θ_run_frame_dmaRG_shared (Q' := _) cfgs (dats m) (0 : Fin 1) launch₀0 osem defs₀ Variants.none ownSemFacts Hs Rs Hs_sub Rs_sub m ρ main
    (hbody := fun c => (body_obligation m c).loose) (hq := fun _ _ _ => rfl)
    (howed := fun _ _ => rfl) (V := V m) (hmain := entered m Variants.none) (hA := A_eq m) (G := left m)
    (hin := hin m) (hout := hout m)

/-- The frame: the arguments end unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1.toR c |>.1 9).trans (((dats m 0 c).arrAt_in 9 rfl _).trans ((A_eq m c 9).trans (V_main_arg0 m c))),
      (h.1.toR c |>.1 10).trans (((dats m 0 c).arrAt_in 10 rfl _).trans ((A_eq m c 10).trans (V_main_arg1 m c))),
      (h.1.toR c |>.2 main_arg2 (Finset.mem_sdiff.mpr ⟨Pipeline.mem_restRefs_of main_arg2 (by decide) (by decide), by decide⟩)).trans (V_main_arg2 m c),
      (h.1.toR c |>.2 main_arg3 (Finset.mem_sdiff.mpr ⟨Pipeline.mem_restRefs_of main_arg3 (by decide) (by decide), by decide⟩)).trans (V_main_arg3 m c),
      (h.1.toR c |>.2 main_arg4 (Finset.mem_sdiff.mpr ⟨Pipeline.mem_restRefs_of main_arg4 (by decide) (by decide), by decide⟩)).trans (V_main_arg4 m c),
      (h.1.toR c |>.2 main_arg5 (Finset.mem_sdiff.mpr ⟨Pipeline.mem_restRefs_of main_arg5 (by decide) (by decide), by decide⟩)).trans (V_main_arg5 m c)⟩, h.2⟩) (run m ρ)

/-- The results: what the copies leave, and the two outputs' arrays. -/
theorem results : θ_run defs (onTc (τ := τ) (main (F := F))) ⟨m, fun _ => 0, ρ⟩ (fun r => ∀ c : Dev nD,
      r.2.mem ((c.tc : Thread nD τ).loc main_v24_0) = GX m c
      ∧ r.2.mem ((cfg0.spec 12).arr.view.loc (c.tc : Thread nD τ)) = (dats m 0 c).arrAt 12 cfg0.N
      ∧ r.2.mem ((cfg0.spec 13).arr.view.loc (c.tc : Thread nD τ)) = (dats m 0 c).arrAt 13 cfg0.N) :=
  (θ_run defs _ _).mono (fun _ h c => ⟨(h.1.written c (by decide : main_v24_0 ∈ Rs)).trans (left_res m c), h.1.toR c |>.1 12, h.1.toR c |>.1 13⟩) (run m ρ)

end Cert.InputKernelIdeal.Run

end
-- ==== Proof.InputMath.lean ====
/-
  The gradient of the normalised projection over the real numbers.
-/
module

public import proofs.«01_k».proof.Proof.AttnReal

@[expose] public section

noncomputable section

namespace Cert.InputMath

open Idealize.ShloMosaic
open Cert.AttnReal (coe_sum div_real)

/-- What is added to the mean of the squares. -/
def eps : ℝ := 8796093 / 8796093022208

theorem bits_eps : Ideal.ofBits FTy.f32 0x358637BD#32 = ((eps : ℝ) : EReal) := by
  simp [Ideal.ofBits, Ideal.ieee, eps]
  rw [← EReal.coe_mul]
  norm_num

theorem bits_width : Ideal.ofBits FTy.f32 0x44800000#32 = ((1024 : ℝ) : EReal) := by
  simp [Ideal.ofBits, Ideal.ieee]
  rw [← EReal.coe_mul]
  norm_num

theorem bits_half : Ideal.ofBits FTy.f32 0xBF000000#32 = ((-(1 / 2) : ℝ) : EReal) := by
  simp [Ideal.ofBits, Ideal.ieee]
  try rw [← EReal.coe_mul]
  try norm_num

section Row

variable (h u g o : Fin 1024 → ℝ)

/-- The mean of a row's squares and the small number. -/
def ms : ℝ := (∑ d, h d * h d) / 1024 + eps

theorem ms_pos : 0 < ms h := by
  have h0 : 0 ≤ ∑ d, h d * h d := Finset.sum_nonneg fun d _ => mul_self_nonneg (h d)
  unfold ms eps
  positivity

/-- The factor that normalises a row. -/
def nr : ℝ := (Real.sqrt (ms h))⁻¹

theorem rsqrt_ms : Ideal.rsqrt ((ms h : ℝ) : EReal) = ((nr h : ℝ) : EReal) := by
  show (if ms h < 0 then (⊥ : EReal) else if ms h = 0 then ⊤ else (((Real.sqrt (ms h))⁻¹ : ℝ) : EReal)) = _
  rw [if_neg (not_lt.mpr (ms_pos h).le), if_neg (ms_pos h).ne']
  rfl

/-- The row's gradient, from the gradient `u` of its normalised form before the gain and the gradient `o` that comes from elsewhere. -/
def grad (d : Fin 1024) : ℝ := o d + nr h * (u d * g d) - h d * nr h * (nr h * ((∑ e, u e * g e * (h e * nr h)) / 1024))

theorem nr_cube : nr h / ms h = nr h * nr h * nr h := by
  have hs : nr h * nr h = (ms h)⁻¹ := by
    unfold nr
    rw [← mul_inv, Real.mul_self_sqrt (ms_pos h).le]
  rw [hs, div_eq_mul_inv, mul_comm]

/-- The same gradient by the derivative of each operation in turn. -/
theorem grad_chain (d : Fin 1024) :
    o d + u d * g d * nr h + h d * ((∑ e, h e * (u e * g e)) * (-(1 / 2) * (nr h / ms h)) / 1024) + (∑ e, h e * (u e * g e)) * (-(1 / 2) * (nr h / ms h)) / 1024 * h d = grad h u g o d := by
  have e : ∑ e, u e * g e * (h e * nr h) = (∑ e, h e * (u e * g e)) * nr h := by
    rw [Finset.sum_mul]
    exact Finset.sum_congr rfl fun _ _ => by ring
  unfold grad
  rw [nr_cube, e]
  ring

end Row

/-- Numbers by position behind the empty positions. -/
def behind (f : Fin 4112 → ℝ) (P : Fin 4224) : ℝ := if h : 112 ≤ P.val then f ⟨P.val - 112, by omega⟩ else 0

theorem sum_behind (f : Fin 4112 → ℝ) : ∑ P, behind f P = ∑ p, f p := by
  refine (Fin.sum_univ_add (a := 112) (b := 4112) (behind f)).trans ?_
  have h0 : ∑ i : Fin 112, behind f (Fin.castAdd 4112 i) = 0 := Finset.sum_eq_zero fun i _ => dif_neg (show ¬ 112 ≤ i.val by omega)
  rw [h0, zero_add]
  exact Finset.sum_congr rfl fun p _ => (dif_pos (show 112 ≤ 112 + p.val by omega)).trans (congrArg f (Fin.ext (show 112 + p.val - 112 = p.val by omega)))

/-- A sum over a number of first terms. -/
theorem sum_fin (n : ℕ) (F : ℕ → ℝ) : ∑ k : Fin n, F k.val = ∑ k ∈ Finset.range n, F k := Fin.sum_univ_eq_sum_range F n

/-- The five sections of a sum over the projection's columns. -/
theorem sections (F : ℕ → ℝ) : (∑ k : Fin 512, F k.val) + (∑ k : Fin 512, F (512 + k.val)) + (∑ k : Fin 512, F (1024 + k.val)) + (∑ k : Fin 2560, F (1544 + k.val))
    + (∑ k : Fin 16, if k.val < 8 then F (1536 + k.val) else 0) = ∑ e : Fin 4104, F e.val := by
  have h16 : (∑ k : Fin 16, if k.val < 8 then F (1536 + k.val) else 0) = ∑ k ∈ Finset.range 8, F (1536 + k) := by
    rw [sum_fin 16 fun k => if k < 8 then F (1536 + k) else 0, show (16 : ℕ) = 8 + 8 from rfl, Finset.sum_range_add]
    rw [Finset.sum_congr rfl fun k hk => if_pos (Finset.mem_range.mp hk), Finset.sum_eq_zero (s := Finset.range 8) (f := fun k => if 8 + k < 8 then F (1536 + (8 + k)) else 0) fun k _ => if_neg (by omega), add_zero]
  rw [h16, sum_fin 512 F, sum_fin 512 fun k => F (512 + k), sum_fin 512 fun k => F (1024 + k), sum_fin 2560 fun k => F (1544 + k), sum_fin 4104 F,
    show (4104 : ℕ) = 512 + 512 + 512 + 8 + 2560 from rfl, Finset.sum_range_add, Finset.sum_range_add, Finset.sum_range_add, Finset.sum_range_add]
  ring

/-- The rows: the learned tokens, then the tokens. -/
def hid (X : Fin 4096 → Fin 1024 → ℝ) (M : Fin 16 → Fin 1024 → ℝ) (p : Fin 4112) : Fin 1024 → ℝ :=
  if h : p.val < 16 then M ⟨p.val, h⟩ else X ⟨p.val - 16, by omega⟩

/-- The gradient of the normalised rows after the gain. -/
def up (W : Fin 1024 → Fin 4104 → ℝ) (P : Fin 4112 → Fin 4104 → ℝ) (p : Fin 4112) (d : Fin 1024) : ℝ := ∑ e, P p e * W d e

end Cert.InputMath

end
-- ==== Proof.InputHost.lean ====
/-
  The arrays the input gradient kernel is called with, as numbers.
-/
module

public import proofs.«01_k».proof.Proof.InputMath
public import proofs.«01_k».proof.Proof.InputIdealTiles
public import Idealize.ShloMosaic.Lib.Pipeline.Value
public import Idealize.ShloMosaic.Lib.Pipeline.ValueKit
public import Idealize.ShloMosaic.Lib.StableHlo.Run
public import Idealize.ShloMosaic.Lib.Pointwise

@[expose] public section

set_option maxRecDepth 65536

noncomputable section

namespace Cert.InputHost

open Cert.InputKernelIdeal Cert.InputKernelIdeal.Gen Cert.InputMath
open Cert.AttnReal (coe_sum div_real)
open Idealize.ShloMosaic Idealize.ShloMosaic.TcCoe Idealize.SL.Sem

/-- The projection's weights, turned and with the columns in the kernel's order. -/
def weights (w : FVec Ideal S1024x4104 .f32) : FVec Ideal S4112x1024 .bf16 :=
  truncf .bf16 (concatenate S4112x1024 0
    [⟨S1536x1024, extractStridedSlice S1536x1024 ![0, 0] (transpose S4104x1024 [1, 0] w transposes_S1024x4104_S4104x1024_1_0) slices_S4104x1024_S1536x1024_0_0⟩,
     ⟨S2560x1024, extractStridedSlice S2560x1024 ![1544, 0] (transpose S4104x1024 [1, 0] w transposes_S1024x4104_S4104x1024_1_0) slices_S4104x1024_S2560x1024_1544_0⟩,
     ⟨S8x1024, extractStridedSlice S8x1024 ![1536, 0] (transpose S4104x1024 [1, 0] w transposes_S1024x4104_S4104x1024_1_0) slices_S4104x1024_S8x1024_1536_0⟩,
     ⟨S8x1024, broadcastInDim S8x1024 ![] bcast_S_S8x1024 (constant S_ .f32 0x00000000#32)⟩]
    concatenates_S1536x1024_S2560x1024_S8x1024_S8x1024_S4112x1024_d0) bitsLt_bf16_f32

/-- The gradient that arrives, one row per column, behind the empty positions. -/
def turned (p : FVec Ideal S4112x4104 .f32) : FVec Ideal S4104x4224 .f32 :=
  pad S4104x4224 ![0, 112] ![0, 0] ![0, 0] (transpose S4104x4112 [1, 0] p transposes_S4112x4104_S4104x4112_1_0) (sitofp .f32 (constantI S_ 32 0#32)) pads_S4104x4112_S4104x4224_000_11200 h_S_

/-- The forget gate's columns of it, and eight empty ones. -/
def gates (p : FVec Ideal S4112x4104 .f32) : FVec Ideal S16x4224 .bf16 :=
  truncf .bf16 (concatenate S16x4224 0 [⟨S8x4224, extractStridedSlice S8x4224 ![1536, 0] (turned p) slices_S4104x4224_S8x4224_1536_0⟩,
    ⟨S8x4224, broadcastInDim S8x4224 ![] bcast_S_S8x4224 (constant S_ .f32 0x00000000#32)⟩] concatenates_S8x4224_S8x4224_S16x4224_d0) bitsLt_bf16_f32

/-- The gradient of the rows from elsewhere, behind the empty positions. -/
def other (o : FVec Ideal S4112x1024 .f32) : FVec Ideal S4224x1024 .f32 :=
  pad S4224x1024 ![112, 0] ![0, 0] ![0, 0] o (sitofp .f32 (constantI S_ 32 0#32)) pads_S4112x1024_S4224x1024_11200_000 h_S_

variable (m : (ℓ : Loc nD τ sig) → Buf (Elt Ideal) ℓ) (c : Dev nD)

abbrev argX : FVec Ideal S4096x1024 .f32 := m ((c : Thread nD τ).loc main_arg0)
abbrev argM : FVec Ideal S16x1024 .f32 := m ((c : Thread nD τ).loc main_arg1)
abbrev argG : FVec Ideal S1024 .f32 := m ((c : Thread nD τ).loc main_arg2)
abbrev argW : FVec Ideal S1024x4104 .f32 := m ((c : Thread nD τ).loc main_arg3)
abbrev argP : FVec Ideal S4112x4104 .f32 := m ((c : Thread nD τ).loc main_arg4)
abbrev argO : FVec Ideal S4112x1024 .f32 := m ((c : Thread nD τ).loc main_arg5)

theorem found : (V m c main_v6 : FVec Ideal S4112x1024 .bf16) = weights (argW m c)
    ∧ (V m c main_v14 : FVec Ideal S512x4224 .bf16) = truncf .bf16 (extractStridedSlice S512x4224 ![0, 0] (turned (argP m c)) slices_S4104x4224_S512x4224_0_0) bitsLt_bf16_f32
    ∧ (V m c main_v16 : FVec Ideal S512x4224 .bf16) = truncf .bf16 (extractStridedSlice S512x4224 ![512, 0] (turned (argP m c)) slices_S4104x4224_S512x4224_512_0) bitsLt_bf16_f32
    ∧ (V m c main_v18 : FVec Ideal S512x4224 .bf16) = truncf .bf16 (extractStridedSlice S512x4224 ![1024, 0] (turned (argP m c)) slices_S4104x4224_S512x4224_1024_0) bitsLt_bf16_f32
    ∧ (V m c main_v20 : FVec Ideal S2560x4224 .bf16) = truncf .bf16 (extractStridedSlice S2560x4224 ![1544, 0] (turned (argP m c)) slices_S4104x4224_S2560x4224_1544_0) bitsLt_bf16_f32
    ∧ (V m c main_v12 : FVec Ideal S16x4224 .bf16) = gates (argP m c)
    ∧ (V m c main_v21 : FVec Ideal S4224x1024 .f32) = other (argO m c)
    ∧ (V m c main_v22 : FVec Ideal S1x1024 .f32) = shapeCast S1x1024 (argG m c) shapeCasts_S1024_S1x1024
    ∧ (V m c main_arg0 : FVec Ideal S4096x1024 .f32) = argX m c
    ∧ (V m c main_arg1 : FVec Ideal S16x1024 .f32) = argM m c := by
  refine ⟨?_, ?_, ?_, ?_, ?_, ?_, ?_, ?_, ?_, ?_⟩
  all_goals
    simp only [V, hostOps0, hostOps0_1, hostOps0_2, hostOps0_3, hostOps0_4,
      List.flatten_cons,
      List.flatten_nil, List.cons_append, List.nil_append, StableHlo.TRef.binary, StableHlo.TRef.nullary, StableHlo.TRef.ternary,
      StableHlo.TRef.unary, StableHlo.TRef.toBuf, StableHlo.TRef.ofBuf, cast_eq]
    after_results_simp <;> rfl

section

variable {x : FVec Ideal S4096x1024 .f32} {mt : FVec Ideal S16x1024 .f32} {g : FVec Ideal S1024 .f32} {w : FVec Ideal S1024x4104 .f32}
  {p : FVec Ideal S4112x4104 .f32} {o : FVec Ideal S4112x1024 .f32}
variable {G : Fin 1024 → ℝ} {W : Fin 1024 → Fin 4104 → ℝ} {P : Fin 4112 → Fin 4104 → ℝ} {O : Fin 4112 → Fin 1024 → ℝ}
variable (hg : ∀ d, (g (ix1 d) : EReal) = (G d : EReal))
  (hw : ∀ d e, (w (ix2 d e) : EReal) = (W d e : EReal)) (hp : ∀ i e, (p (ix2 i e) : EReal) = (P i e : EReal)) (ho : ∀ i d, (o (ix2 i d) : EReal) = (O i d : EReal))

theorem zero_word : (FloatOps.sitofp (F := Ideal) FTy.f32 0#32 : EReal) = 0 := by simp [FloatOps.sitofp]

/-- A number by column, zero past the last. -/
def upTo (f : Fin 4104 → ℝ) (k : ℕ) : ℝ := if h : k < 4104 then f ⟨k, h⟩ else 0

theorem upTo_lt (f : Fin 4104 → ℝ) (k : ℕ) (h : k < 4104) : upTo f k = f ⟨k, h⟩ := dif_pos h

theorem upTo_end (f : Fin 4104 → ℝ) : upTo f 4104 = 0 := dif_neg (lt_irrefl _)

/-- The column a row of the kernel's weights is. -/
def colOf (k : ℕ) : ℕ := if k < 1536 then k else if k < 4096 then k + 8 else if k < 4104 then k - 2560 else 4104

theorem weights_apply (w : FVec Ideal S1024x4104 .f32) (k : Fin 4112) (d : Fin 1024) : weights w (ix2 k d) = if h : k.val < 1536 then w (ix2 d ⟨k.val, by omega⟩) else if h : k.val < 4096 then w (ix2 d ⟨k.val + 8, by omega⟩)
    else if h : k.val < 4104 then w (ix2 d ⟨k.val - 2560, by omega⟩) else 0 := by
  unfold weights
  pointwise
  by_cases h : k.val < 1536
  · rw [dif_pos h, dif_pos h]
  · rw [dif_neg h, dif_neg h]
    by_cases h' : k.val < 4096
    · rw [dif_pos (by omega), dif_pos h']
      exact congrArg (fun e => w (ix2 d e)) (Fin.ext (show 1544 + (k.val - 1536) = k.val + 8 by omega))
    · rw [dif_neg (by omega), dif_neg h']
      by_cases h2 : k.val < 4104
      · rw [dif_pos (by omega), dif_pos h2]
        exact congrArg (fun e => w (ix2 d e)) (Fin.ext (show 1536 + (k.val - 1536 - 2560) = k.val - 2560 by omega))
      · rw [dif_neg (by omega), dif_neg h2]

theorem weights_col (w : FVec Ideal S1024x4104 .f32) (k : Fin 4112) (e : Fin 4104) (h : colOf k.val = e.val) (d : Fin 1024) : weights w (ix2 k d) = w (ix2 d e) := by
  have he := e.isLt
  rw [weights_apply]
  unfold colOf at h
  split_ifs at h ⊢ with h1 h2 h3
  · exact congrArg (fun e => w (ix2 d e)) (Fin.ext h)
  · exact congrArg (fun e => w (ix2 d e)) (Fin.ext h)
  · exact congrArg (fun e => w (ix2 d e)) (Fin.ext h)
  · omega

include hw in
theorem weights_real (k : Fin 4112) (d : Fin 1024) : (weights w (ix2 k d) : EReal) = ((upTo (W d) (colOf k.val) : ℝ) : EReal) := by
  rw [weights_apply]
  by_cases h : k.val < 1536
  · rw [dif_pos h, hw, show colOf k.val = k.val from if_pos h]
    rw [upTo_lt]
  · rw [dif_neg h]
    by_cases h' : k.val < 4096
    · rw [dif_pos h', hw, show colOf k.val = k.val + 8 from (if_neg h).trans (if_pos h')]
      rw [upTo_lt]
    · rw [dif_neg h']
      by_cases h2 : k.val < 4104
      · rw [dif_pos h2, hw, show colOf k.val = k.val - 2560 from (if_neg h).trans ((if_neg h').trans (if_pos h2))]
        rw [upTo_lt]
      · rw [dif_neg h2, show colOf k.val = 4104 from (if_neg h).trans ((if_neg h').trans (if_neg h2)), upTo_end, EReal.coe_zero]

include hp in
theorem turned_real (e : Fin 4104) (l : Fin 4224) : (turned p (ix2 e l) : EReal) = ((behind (fun i => P i e) l : ℝ) : EReal) := by
  have c : turned p (ix2 e l) = if h : 112 ≤ l.val then p (ix2 ⟨l.val - 112, by omega⟩ e) else 0 := by
    unfold turned
    pointwise
    by_cases h : 112 ≤ l.val
    · rw [dif_pos h, dif_pos ⟨h, by omega⟩]
    · rw [dif_neg h, dif_neg (fun e => h e.1)]
      exact zero_word
  rw [c]
  unfold behind
  by_cases h : 112 ≤ l.val
  · rw [dif_pos h, dif_pos h, hp]
  · rw [dif_neg h, dif_neg h, EReal.coe_zero]

include ho in
theorem other_real (l : Fin 4224) (d : Fin 1024) : (other o (ix2 l d) : EReal) = ((behind (fun i => O i d) l : ℝ) : EReal) := by
  have c : other o (ix2 l d) = if h : 112 ≤ l.val then o (ix2 ⟨l.val - 112, by omega⟩ d) else 0 := by
    unfold other
    pointwise
    by_cases h : 112 ≤ l.val
    · rw [dif_pos h, dif_pos ⟨h, by omega⟩]
    · rw [dif_neg h, dif_neg (fun e => h e.1)]
      exact zero_word
  rw [c]
  unfold behind
  by_cases h : 112 ≤ l.val
  · rw [dif_pos h, dif_pos h, ho]
  · rw [dif_neg h, dif_neg h, EReal.coe_zero]

include hp in
theorem gates_real (k : Fin 16) (l : Fin 4224) : (gates p (ix2 k l) : EReal) = (((if k.val < 8 then behind (fun i => upTo (P i) (1536 + k.val)) l else 0 : ℝ)) : EReal) := by
  have c : gates p (ix2 k l) = if h : k.val < 8 then turned p (ix2 ⟨1536 + k.val, by omega⟩ l) else 0 := by
    unfold gates
    pointwise
  rw [c]
  by_cases h : k.val < 8
  · rw [dif_pos h, if_pos h, turned_real hp]
    refine congrArg (fun f : Fin 4112 → ℝ => ((behind f l : ℝ) : EReal)) (funext fun i => ?_)
    rw [upTo_lt]
  · rw [dif_neg h, if_neg h, EReal.coe_zero]

end

end Cert.InputHost

end
-- ==== Proof.InputTile.lean ====
/-
  What the input gradient kernel's body computes on one tile of positions, as numbers.
-/
module

public import proofs.«01_k».proof.Proof.InputHost

@[expose] public section

set_option maxRecDepth 65536

noncomputable section

namespace Cert.InputTile

open Cert.InputKernelIdeal Cert.InputKernelIdeal.Gen Cert.InputKernelIdeal.Run Cert.InputMath
open Cert.AttnReal (coe_sum div_real)
open Idealize.ShloMosaic Idealize.ShloMosaic.TcCoe Idealize.SL.Sem

/-! ## The tile of rows -/

theorem pay5_apply (a : BitVec 32) (mt : Vec Ideal S16x1024 .f32) (x y z : Vec Ideal S128x1024 .f32) (r : Fin 384) (d : Fin 1024) :
    k0_pay5 a mt x y z (ix2 r d) = if h : r.val < 128 then (if a = 0#32 then (if h : r.val < 112 then 0 else mt (ix2 ⟨r.val - 112, by omega⟩ d)) else x (ix2 ⟨r.val, h⟩ d))
      else if h : r.val - 128 < 128 then y (ix2 ⟨r.val - 128, by omega⟩ d) else z (ix2 ⟨r.val - 128 - 128, by omega⟩ d) := by
  by_cases ha : a = 0#32
  · subst ha
    pointwise [k0_pay5]
  · have hc : Scalar.cmpi .eq a 0#32 = 0#1 := by
      show BitVec.ofBool (a == 0#32) = 0#1
      rw [beq_eq_false_iff_ne.mpr ha]
      rfl
    pointwise [k0_pay5]
    rw [hc]
    by_cases h : r.val < 128
    · rw [dif_pos h, dif_pos h, if_neg ha]
      rfl
    · rw [dif_neg h, dif_neg h]

theorem pay6_apply (a : BitVec 32) (mt : Vec Ideal S16x1024 .f32) (x y z : Vec Ideal S128x1024 .f32) (r : Fin 384) : k0_pay6 a mt x y z (ix2 r 0)
    = Ideal.rsqrt (Ideal.div (∑ d, k0_pay5 a mt x y z (ix2 r d) * k0_pay5 a mt x y z (ix2 r d)) (Ideal.ofBits FTy.f32 0x44800000#32) + Ideal.ofBits FTy.f32 0x358637BD#32) := by
  have c : ∀ s : FVec Ideal S384 .f32, shapeCast S384x1 s shapeCasts_S384_S384x1 (ix2 r 0) = s (ix1 r) := fun s =>
    shapeCast_apply _ _ (ix2 r 0) (ix1 r) (by
      rw [Shape.rowMajor_val_two, Shape.rowMajor_val_one]
      show r.val = r.val * 1 + 0
      omega)
  have c' : multiReduction .add [1] S384 (mulf (k0_pay5 a mt x y z) (k0_pay5 a mt x y z)) 0x00000000#32 reduces_S384x1024_S384 (.inl rfl) rfl (ix1 r)
      = ∑ d, k0_pay5 a mt x y z (ix2 r d) * k0_pay5 a mt x y z (ix2 r d) := by
    pointwise
  have e : k0_pay6 a mt x y z (ix2 r 0) = Ideal.rsqrt (Ideal.div (shapeCast S384x1 (multiReduction .add [1] S384 (mulf (k0_pay5 a mt x y z) (k0_pay5 a mt x y z)) 0x00000000#32 reduces_S384x1024_S384 (.inl rfl) rfl) shapeCasts_S384_S384x1 (ix2 r 0))
      (Ideal.ofBits FTy.f32 0x44800000#32) + Ideal.ofBits FTy.f32 0x358637BD#32) := rfl
  rw [e, c, c']

section Tile

variable {a : BitVec 32} {mt : Vec Ideal S16x1024 .f32} {x y z : Vec Ideal S128x1024 .f32} {H : Fin 384 → Fin 1024 → ℝ}
variable (hh : ∀ r d, (k0_pay5 a mt x y z (ix2 r d) : EReal) = (H r d : EReal))

include hh in
theorem pay6_real (r : Fin 384) : (k0_pay6 a mt x y z (ix2 r 0) : EReal) = ((nr (H r) : ℝ) : EReal) := by
  rw [pay6_apply, bits_width, bits_eps]
  simp only [hh _ _, ← EReal.coe_mul, ← coe_sum]
  rw [div_real _ (by norm_num), ← EReal.coe_add]
  exact rsqrt_ms (H r)

include hh in
theorem pay7_real (r : Fin 384) (d : Fin 1024) : (k0_pay7 a mt x y z (ix2 r d) : EReal) = ((H r d * nr (H r) : ℝ) : EReal) := by
  have e : k0_pay7 a mt x y z (ix2 r d) = k0_pay5 a mt x y z (ix2 r d) * k0_pay6 a mt x y z (ix2 r 0) := by
    unfold k0_pay7
    pointwise
  rw [e, hh, pay6_real hh, EReal.coe_mul]

end Tile

/-! ## The rows' gradient -/

section Row

variable {v41 : FVec Ideal S384x1024 .f32} {v58 : FVec Ideal S384x1 .f32} {v60 : FVec Ideal S384x1024 .f32} {v68 : Vec Ideal S1x1024 .f32} {v72 : Vec Ideal S384x1024 .f32}
variable {U H O : Fin 384 → Fin 1024 → ℝ} {G : Fin 1024 → ℝ}
variable (hu : ∀ r d, (v41 (ix2 r d) : EReal) = (U r d : EReal)) (hr : ∀ r, (v58 (ix2 r 0) : EReal) = (nr (H r) : EReal))
  (hn : ∀ r d, (v60 (ix2 r d) : EReal) = ((H r d * nr (H r) : ℝ) : EReal)) (hg : ∀ d, (v68 (ix2 0 d) : EReal) = (G d : EReal)) (ho : ∀ r d, (v72 (ix2 r d) : EReal) = (O r d : EReal))

include hu hr hn hg ho in
theorem pay9_real (r : Fin 384) (d : Fin 1024) : (k0_pay9 v41 v58 v60 v68 v72 (ix2 r d) : EReal) = ((grad (H r) (U r) G (O r) d : ℝ) : EReal) := by
  have e : k0_pay9 v41 v58 v60 v68 v72 (ix2 r d) = v72 (ix2 r d) + v58 (ix2 r 0) * (v41 (ix2 r d) * v68 (ix2 0 d))
      - v60 (ix2 r d) * (v58 (ix2 r 0) * Ideal.div (∑ e, v41 (ix2 r e) * v68 (ix2 0 e) * v60 (ix2 r e)) (Ideal.ofBits FTy.f32 0x44800000#32)) := by
    unfold k0_pay9
    pointwise
  rw [e, bits_width, ho, hr, hu, hg, hn]
  simp only [hu _ _, hg _, hn _ _, ← EReal.coe_mul, ← coe_sum]
  rw [div_real _ (by norm_num)]
  simp only [← EReal.coe_mul, ← EReal.coe_add, ← EReal.coe_sub]
  rfl

end Row

/-! ## The product -/

section Product

variable {x0 : Vec Ideal S4112x1024 .bf16} {x1 x2 x3 : Vec Ideal S512x384 .bf16} {x4 : Vec Ideal S2560x384 .bf16} {x5 : Vec Ideal S16x384 .bf16}

theorem reach_apply (r : Fin 384) (d : Fin 1024) : reach x0 x1 x2 x3 x4 x5 (ix2 r d)
    = (∑ k : Fin 512, x1 (ix2 k r) * x0 (ix2 ⟨k.val, by omega⟩ d)) + (∑ k : Fin 512, x2 (ix2 k r) * x0 (ix2 ⟨512 + k.val, by omega⟩ d))
      + (∑ k : Fin 512, x3 (ix2 k r) * x0 (ix2 ⟨1024 + k.val, by omega⟩ d)) + (∑ k : Fin 2560, x4 (ix2 k r) * x0 (ix2 ⟨1536 + k.val, by omega⟩ d))
      + (∑ k : Fin 16, x5 (ix2 k r) * x0 (ix2 ⟨4096 + k.val, by omega⟩ d)) := by
  unfold reach
  pointwise [k0_pay2, k0_pay3, k0_pay4]

end Product

/-! ## The gain's gradient -/

theorem pay8_apply (a : BitVec 32) (v29 : FVec Ideal S384x1024 .f32) (v31 : FVec Ideal S2560x384 .bf16) (v32 : Vec Ideal S2560x1024 .bf16) (v36 : Vec Ideal S16x384 .bf16) (v38 : Vec Ideal S16x1024 .bf16)
    (mt : Vec Ideal S16x1024 .f32) (x y z : Vec Ideal S128x1024 .f32) (g : Vec Ideal S1x1024 .f32) (d : Fin 1024) :
    k0_pay8 a v29 v31 v32 v36 v38 mt x y z g (ix2 0 d) = g (ix2 0 d) + ∑ r, k0_pay4 v29 v31 v32 v36 v38 (ix2 r d) * k0_pay7 a mt x y z (ix2 r d) := by
  unfold k0_pay8
  pointwise

end Cert.InputTile

end
-- ==== Proof.InputFinal.lean ====
/-
  The input gradient kernel's results, as numbers.
-/
module

public import proofs.«01_k».proof.Proof.InputTile
public import proofs.«01_k».proof.Proof.InputIdealFrame
public import proofs.«01_k».proof.Proof.AttnSums

@[expose] public section

set_option maxRecDepth 65536

noncomputable section

namespace Cert.InputFinal

open Cert.InputKernelIdeal Cert.InputKernelIdeal.Gen Cert.InputKernelIdeal.Run Cert.InputMath Cert.InputHost Cert.InputTile
open Cert.AttnReal (coe_sum div_real)
open Cert.AttnTile (col)
open Cert.AttnOut (ex2)
open Idealize.ShloMosaic Idealize.ShloMosaic.TcCoe Idealize.SL.Sem

theorem idx0 : ∀ t : Fin cfg0.N, win0_0.index t = ![0, 0] := (by decide +kernel : ∀ t : Fin grid0.N, win0_0.index t = ![0, 0])
theorem idx1 : ∀ t : Fin cfg0.N, win0_1.index t = ![0, t.val] := (by decide +kernel : ∀ t : Fin grid0.N, win0_1.index t = ![0, t.val])
theorem idx2 : ∀ t : Fin cfg0.N, win0_2.index t = ![0, t.val] := (by decide +kernel : ∀ t : Fin grid0.N, win0_2.index t = ![0, t.val])
theorem idx3 : ∀ t : Fin cfg0.N, win0_3.index t = ![0, t.val] := (by decide +kernel : ∀ t : Fin grid0.N, win0_3.index t = ![0, t.val])
theorem idx4 : ∀ t : Fin cfg0.N, win0_4.index t = ![0, t.val] := (by decide +kernel : ∀ t : Fin grid0.N, win0_4.index t = ![0, t.val])
theorem idx5 : ∀ t : Fin cfg0.N, win0_5.index t = ![0, t.val] := (by decide +kernel : ∀ t : Fin grid0.N, win0_5.index t = ![0, t.val])
theorem idx6 : ∀ t : Fin cfg0.N, win0_6.index t = ![t.val, 0] := (by decide +kernel : ∀ t : Fin grid0.N, win0_6.index t = ![t.val, 0])
theorem idx7 : ∀ t : Fin cfg0.N, win0_7.index t = ![3 * t.val - 1, 0] := (by decide +kernel : ∀ t : Fin grid0.N, win0_7.index t = ![3 * t.val - 1, 0])
theorem idx8 : ∀ t : Fin cfg0.N, win0_8.index t = ![3 * t.val, 0] := (by decide +kernel : ∀ t : Fin grid0.N, win0_8.index t = ![3 * t.val, 0])
theorem idx9 : ∀ t : Fin cfg0.N, win0_9.index t = ![3 * t.val + 1, 0] := (by decide +kernel : ∀ t : Fin grid0.N, win0_9.index t = ![3 * t.val + 1, 0])
theorem idx10 : ∀ t : Fin cfg0.N, win0_10.index t = ![0, 0] := (by decide +kernel : ∀ t : Fin grid0.N, win0_10.index t = ![0, 0])
theorem idx11 : ∀ t : Fin cfg0.N, win0_11.index t = ![0, 0] := (by decide +kernel : ∀ t : Fin grid0.N, win0_11.index t = ![0, 0])
theorem idx12 : ∀ t : Fin cfg0.N, win0_12.index t = ![0, 0] := (by decide +kernel : ∀ t : Fin grid0.N, win0_12.index t = ![0, 0])
theorem idx13 : ∀ t : Fin cfg0.N, win0_13.index t = ![0, 0] := (by decide +kernel : ∀ t : Fin grid0.N, win0_13.index t = ![0, 0])
theorem at_point : ∀ t : Fin cfg0.N, (BitVec.ofNat 32 (grid0.coords t 0).val = 0#32 ↔ t.val = 0) := (by decide +kernel : ∀ t : Fin grid0.N, (BitVec.ofNat 32 (grid0.coords t 0).val = 0#32 ↔ t.val = 0))

/-- The point as a tile's number. -/
def tileOf (t : Fin cfg0.N) : Fin 11 := ⟨t.val, lt_of_lt_of_eq t.isLt N_0⟩

variable (m : (ℓ : Loc nD τ sig) → Buf (Elt Ideal) ℓ) (c : Dev nD)

section Blocks

variable (t : Fin cfg0.N)

theorem blk0 (k : Fin 4112) (d : Fin 1024) : iblk m c 0 t (ix2 k d) = V m c main_v6 (ix2 k d) := by
  blk_ext [iblk, idx0 t]
theorem blk1 (k : Fin 512) (r : Fin 384) : iblk m c 1 t (ix2 k r) = V m c main_v14 (ix2 k (col (tileOf t) r)) := by
  blk_ext [iblk, idx1 t, col, tileOf]
theorem blk2 (k : Fin 512) (r : Fin 384) : iblk m c 2 t (ix2 k r) = V m c main_v16 (ix2 k (col (tileOf t) r)) := by
  blk_ext [iblk, idx2 t, col, tileOf]
theorem blk3 (k : Fin 512) (r : Fin 384) : iblk m c 3 t (ix2 k r) = V m c main_v18 (ix2 k (col (tileOf t) r)) := by
  blk_ext [iblk, idx3 t, col, tileOf]
theorem blk4 (k : Fin 2560) (r : Fin 384) : iblk m c 4 t (ix2 k r) = V m c main_v20 (ix2 k (col (tileOf t) r)) := by
  blk_ext [iblk, idx4 t, col, tileOf]
theorem blk5 (k : Fin 16) (r : Fin 384) : iblk m c 5 t (ix2 k r) = V m c main_v12 (ix2 k (col (tileOf t) r)) := by
  blk_ext [iblk, idx5 t, col, tileOf]
theorem blk6 (r : Fin 384) (d : Fin 1024) : iblk m c 6 t (ix2 r d) = V m c main_v21 (ix2 (col (tileOf t) r) d) := by
  blk_ext [iblk, idx6 t, col, tileOf]
theorem blk7 (ht : 1 ≤ t.val) (r : Fin 128) (d : Fin 1024) : iblk m c 7 t (ix2 r d) = V m c main_arg0 (ix2 ⟨384 * t.val - 128 + r.val, by have := (tileOf t).isLt; have : (tileOf t).val = t.val := rfl; omega⟩ d) := by
  blk_ext [iblk, idx7 t]
theorem blk8 (r : Fin 128) (d : Fin 1024) : iblk m c 8 t (ix2 r d) = V m c main_arg0 (ix2 ⟨384 * t.val + r.val, by have := (tileOf t).isLt; have : (tileOf t).val = t.val := rfl; omega⟩ d) := by
  blk_ext [iblk, idx8 t]
theorem blk9 (r : Fin 128) (d : Fin 1024) : iblk m c 9 t (ix2 r d) = V m c main_arg0 (ix2 ⟨384 * t.val + 128 + r.val, by have := (tileOf t).isLt; have : (tileOf t).val = t.val := rfl; omega⟩ d) := by
  blk_ext [iblk, idx9 t]
theorem blk10 (r : Fin 16) (d : Fin 1024) : iblk m c 10 t (ix2 r d) = V m c main_arg1 (ix2 r d) := by
  blk_ext [iblk, idx10 t]
theorem blk11 (r : Fin 1) (d : Fin 1024) : iblk m c 11 t (ix2 r d) = V m c main_v22 (ix2 r d) := by
  blk_ext [iblk, idx11 t]

end Blocks

/-! ## The blocks as numbers -/

section Numbers

variable {X : Fin 4096 → Fin 1024 → ℝ} {M : Fin 16 → Fin 1024 → ℝ} {G : Fin 1024 → ℝ} {W : Fin 1024 → Fin 4104 → ℝ} {P : Fin 4112 → Fin 4104 → ℝ} {O : Fin 4112 → Fin 1024 → ℝ}

variable (X M) in
/-- The row at a position of the kernel, zero at the empty ones. -/
def rowAt (l : Fin 4224) : Fin 1024 → ℝ := fun d => behind (fun p => hid X M p d) l
variable (W P) in
/-- The gradient of the normalised row after the gain, at a position of the kernel. -/
def upAt (l : Fin 4224) : Fin 1024 → ℝ := fun d => behind (fun p => up W P p d) l
variable (O) in
/-- The row's gradient from elsewhere, at a position of the kernel. -/
def otherAt (l : Fin 4224) : Fin 1024 → ℝ := fun d => behind (fun p => O p d) l

theorem rowAt_empty (l : Fin 4224) (d : Fin 1024) (h : l.val < 112) : rowAt X M l d = 0 := dif_neg (by omega)
theorem rowAt_learned (l : Fin 4224) (d : Fin 1024) (i : Fin 16) (h : l.val = 112 + i.val) : rowAt X M l d = M i d := by
  refine (dif_pos (show 112 ≤ l.val by omega)).trans ?_
  show hid X M _ d = _
  unfold hid
  rw [dif_pos (show l.val - 112 < 16 by omega)]
  exact congrArg (fun i => M i d) (Fin.ext (show l.val - 112 = i.val by omega))
theorem rowAt_token (l : Fin 4224) (d : Fin 1024) (i : Fin 4096) (h : l.val = 128 + i.val) : rowAt X M l d = X i d := by
  refine (dif_pos (show 112 ≤ l.val by omega)).trans ?_
  show hid X M _ d = _
  unfold hid
  rw [dif_neg (show ¬ l.val - 112 < 16 by omega)]
  exact congrArg (fun i => X i d) (Fin.ext (show l.val - 112 - 16 = i.val by omega))

variable (hx : ∀ i d, (argX m c (ix2 i d) : EReal) = (X i d : EReal)) (hm : ∀ i d, (argM m c (ix2 i d) : EReal) = (M i d : EReal)) (hg : ∀ d, (argG m c (ix1 d) : EReal) = (G d : EReal))
  (hw : ∀ d e, (argW m c (ix2 d e) : EReal) = (W d e : EReal)) (hp : ∀ i e, (argP m c (ix2 i e) : EReal) = (P i e : EReal)) (ho : ∀ i d, (argO m c (ix2 i d) : EReal) = (O i d : EReal))

variable (t : Fin cfg0.N) (r : Fin 384) (d : Fin 1024)

include hx hm in
theorem rows_real : (k0_pay5 (BitVec.ofNat 32 (grid0.coords t 0).val) (iblk m c 10 t) (iblk m c 7 t) (iblk m c 8 t) (iblk m c 9 t) (ix2 r d) : EReal)
    = ((rowAt X M (col (tileOf t) r) d : ℝ) : EReal) := by
  have hc : (col (tileOf t) r).val = 384 * t.val + r.val := rfl
  have e0 := (found m c).2.2.2.2.2.2.2.2.1
  have e1 := (found m c).2.2.2.2.2.2.2.2.2
  rw [pay5_apply]
  by_cases h1 : r.val < 128
  · rw [dif_pos h1]
    by_cases ht : t.val = 0
    · rw [if_pos ((at_point t).mpr ht)]
      by_cases h2 : r.val < 112
      · rw [dif_pos h2, rowAt_empty _ _ (by omega), EReal.coe_zero]
      · rw [dif_neg h2, blk10, rowAt_learned _ _ ⟨r.val - 112, by omega⟩ (show (col (tileOf t) r).val = 112 + (r.val - 112) by omega)]
        exact (congrFun e1 _).trans (hm _ _)
    · rw [if_neg (fun e => ht ((at_point t).mp e)), blk7 m c t (by omega)]
      exact ((congrFun e0 _).trans (hx _ _)).trans (congrArg Real.toEReal (rowAt_token _ d _ (by show (col (tileOf t) r).val = 128 + (384 * t.val - 128 + r.val); omega)).symm)
  · rw [dif_neg h1]
    by_cases h2 : r.val - 128 < 128
    · rw [dif_pos h2, blk8]
      exact ((congrFun e0 _).trans (hx _ _)).trans (congrArg Real.toEReal (rowAt_token _ d _ (by show (col (tileOf t) r).val = 128 + (384 * t.val + (r.val - 128)); omega)).symm)
    · rw [dif_neg h2, blk9]
      exact ((congrFun e0 _).trans (hx _ _)).trans (congrArg Real.toEReal (rowAt_token _ d _ (by show (col (tileOf t) r).val = 128 + (384 * t.val + 128 + (r.val - 128 - 128)); omega)).symm)

include ho in
theorem other_block : (iblk m c 6 t (ix2 r d) : EReal) = ((otherAt O (col (tileOf t) r) d : ℝ) : EReal) := by
  rw [blk6]
  exact (congrFun (found m c).2.2.2.2.2.2.1 _).trans (other_real ho _ _)

include hg in
theorem gain_block : (iblk m c 11 t (ix2 0 d) : EReal) = (G d : EReal) := by
  rw [blk11]
  refine (congrFun (found m c).2.2.2.2.2.2.2.1 _).trans (Eq.trans ?_ (hg d))
  exact shapeCast_apply _ _ (ix2 0 d) (ix1 d) (by
    rw [Shape.rowMajor_val_two, Shape.rowMajor_val_one]
    show d.val = 0 * 1024 + d.val
    omega)

variable (P) in
/-- A column of the gradient that arrives, at a position of the kernel. -/
def arrives (l : Fin 4224) (k : ℕ) : ℝ := behind (fun i => upTo (P i) k) l

include hp in
theorem turned_at (e : Fin 4104) (k : ℕ) (l : Fin 4224) (h : e.val = k) : (turned (argP m c) (ix2 e l) : EReal) = ((arrives P l k : ℝ) : EReal) := by
  subst h
  rw [turned_real hp]
  exact congrArg (fun f : Fin 4112 → ℝ => ((behind f l : ℝ) : EReal)) (funext fun i => (upTo_lt (P i) e.val e.isLt).symm)

include hp in
theorem block1 (k : Fin 512) : (iblk m c 1 t (ix2 k r) : EReal) = ((arrives P (col (tileOf t) r) k.val : ℝ) : EReal) := by
  rw [blk1]
  refine (congrFun (found m c).2.1 _).trans (Eq.trans ?_ (turned_at m c hp ⟨0 + k.val, by omega⟩ k.val _ (Nat.zero_add _)))
  pointwise
include hp in
theorem block2 (k : Fin 512) : (iblk m c 2 t (ix2 k r) : EReal) = ((arrives P (col (tileOf t) r) (512 + k.val) : ℝ) : EReal) := by
  rw [blk2]
  refine (congrFun (found m c).2.2.1 _).trans (Eq.trans ?_ (turned_at m c hp ⟨512 + k.val, by omega⟩ _ _ rfl))
  pointwise
include hp in
theorem block3 (k : Fin 512) : (iblk m c 3 t (ix2 k r) : EReal) = ((arrives P (col (tileOf t) r) (1024 + k.val) : ℝ) : EReal) := by
  rw [blk3]
  refine (congrFun (found m c).2.2.2.1 _).trans (Eq.trans ?_ (turned_at m c hp ⟨1024 + k.val, by omega⟩ _ _ rfl))
  pointwise
include hp in
theorem block4 (k : Fin 2560) : (iblk m c 4 t (ix2 k r) : EReal) = ((arrives P (col (tileOf t) r) (1544 + k.val) : ℝ) : EReal) := by
  rw [blk4]
  refine (congrFun (found m c).2.2.2.2.1 _).trans (Eq.trans ?_ (turned_at m c hp ⟨1544 + k.val, by omega⟩ _ _ rfl))
  pointwise
include hp in
theorem block5 (k : Fin 16) : (iblk m c 5 t (ix2 k r) : EReal) = ((if k.val < 8 then arrives P (col (tileOf t) r) (1536 + k.val) else 0 : ℝ) : EReal) := by
  rw [blk5]
  exact (congrFun (found m c).2.2.2.2.2.1 _).trans (gates_real hp k _)
include hw in
theorem block0 (k : Fin 4112) (e : ℕ) (h : colOf k.val = e) : (iblk m c 0 t (ix2 k d) : EReal) = ((upTo (W d) e : ℝ) : EReal) := by
  rw [blk0, ← h]
  exact (congrFun (found m c).1 _).trans (weights_real hw k d)

theorem colOf_low (k : ℕ) (h : k < 1536) : colOf k = k := if_pos h
theorem colOf_mid (k : ℕ) (h : ¬ k < 1536) (h' : k < 4096) : colOf k = k + 8 := (if_neg h).trans (if_pos h')
theorem colOf_gate (k : ℕ) (h : ¬ k < 4096) (h' : k < 4104) : colOf k = k - 2560 := (if_neg (by omega)).trans ((if_neg h).trans (if_pos h'))

theorem sum_arrives (l : Fin 4224) : ∑ e : Fin 4104, arrives P l e.val * upTo (W d) e.val = upAt W P l d := by
  unfold arrives upAt InputMath.behind
  by_cases h : 112 ≤ l.val
  · simp only [dif_pos h]
    exact Finset.sum_congr rfl fun e _ => by rw [upTo_lt _ _ e.isLt, upTo_lt _ _ e.isLt]
  · simp only [dif_neg h, zero_mul, Finset.sum_const_zero]

include hw hp in
theorem reach_real : (reach (iblk m c 0 t) (iblk m c 1 t) (iblk m c 2 t) (iblk m c 3 t) (iblk m c 4 t) (iblk m c 5 t) (ix2 r d) : EReal)
    = ((upAt W P (col (tileOf t) r) d : ℝ) : EReal) := by
  rw [reach_apply, ← sum_arrives d (col (tileOf t) r), ← sections fun e => arrives P (col (tileOf t) r) e * upTo (W d) e]
  simp only [EReal.coe_add, coe_sum]
  refine congrArg₂ (· + ·) (congrArg₂ (· + ·) (congrArg₂ (· + ·) (congrArg₂ (· + ·) ?_ ?_) ?_) ?_) ?_
  · refine Finset.sum_congr rfl fun k _ => ?_
    rw [block1 m c hp, block0 m c hw t d ⟨k.val, by omega⟩ k.val (colOf_low k.val (by omega)), EReal.coe_mul]
  · refine Finset.sum_congr rfl fun k _ => ?_
    rw [block2 m c hp, block0 m c hw t d ⟨512 + k.val, by omega⟩ _ (colOf_low (512 + k.val) (by omega)), EReal.coe_mul]
  · refine Finset.sum_congr rfl fun k _ => ?_
    rw [block3 m c hp, block0 m c hw t d ⟨1024 + k.val, by omega⟩ _ (colOf_low (1024 + k.val) (by omega)), EReal.coe_mul]
  · refine Finset.sum_congr rfl fun k _ => ?_
    rw [block4 m c hp, block0 m c hw t d ⟨1536 + k.val, by omega⟩ (1544 + k.val) ((colOf_mid (1536 + k.val) (by omega) (by omega)).trans (by omega)), EReal.coe_mul]
  · refine Finset.sum_congr rfl fun k _ => ?_
    by_cases h : k.val < 8
    · rw [block5 m c hp, block0 m c hw t d ⟨4096 + k.val, by omega⟩ (1536 + k.val) ((colOf_gate (4096 + k.val) (by omega) (by omega)).trans (by omega)),
        if_pos h, if_pos h, EReal.coe_mul]
    · rw [block5 m c hp, if_neg h, if_neg h, EReal.coe_zero, block0 m c hw t d ⟨4096 + k.val, by omega⟩ _ rfl, ← EReal.coe_zero, ← EReal.coe_mul, zero_mul]

/-! ## The results -/

include hx hm hg hw hp ho in
theorem tile_real : (k0_pay9 (reach (iblk m c 0 t) (iblk m c 1 t) (iblk m c 2 t) (iblk m c 3 t) (iblk m c 4 t) (iblk m c 5 t))
      (k0_pay6 (BitVec.ofNat 32 (grid0.coords t 0).val) (iblk m c 10 t) (iblk m c 7 t) (iblk m c 8 t) (iblk m c 9 t))
      (k0_pay7 (BitVec.ofNat 32 (grid0.coords t 0).val) (iblk m c 10 t) (iblk m c 7 t) (iblk m c 8 t) (iblk m c 9 t)) (iblk m c 11 t) (iblk m c 6 t) (ix2 r d) : EReal)
    = ((grad (rowAt X M (col (tileOf t) r)) (upAt W P (col (tileOf t) r)) G (otherAt O (col (tileOf t) r)) d : ℝ) : EReal) :=
  pay9_real (U := fun r => upAt W P (col (tileOf t) r)) (H := fun r => rowAt X M (col (tileOf t) r)) (O := fun r => otherAt O (col (tileOf t) r)) (G := G)
    (reach_real m c hw hp t) (pay6_real (rows_real m c hx hm t)) (pay7_real (rows_real m c hx hm t)) (gain_block m c hg t) (other_block m c ho t) r d

include hx hm hw hp in
theorem step_real (g : Vec Ideal S1x1024 .f32) : (gn m c t g (ix2 0 d) : EReal)
    = g (ix2 0 d) + ∑ r : Fin 384, ((upAt W P (col (tileOf t) r) d * (rowAt X M (col (tileOf t) r) d * nr (rowAt X M (col (tileOf t) r))) : ℝ) : EReal) := by
  unfold gn gained
  rw [pay8_apply]
  refine congrArg _ (Finset.sum_congr rfl fun r _ => ?_)
  rw [EReal.coe_mul]
  exact congrArg₂ (· * ·) (reach_real m c hw hp t r d) (pay7_real (H := fun r => rowAt X M (col (tileOf t) r)) (rows_real m c hx hm t) r d)

/-! ### What the three results hold -/

theorem at_position (l : Fin 4224) (p : Fin 4112) (h : l.val = 112 + p.val) : rowAt X M l = hid X M p ∧ upAt W P l = up W P p ∧ otherAt O l = O p := by
  have hb : ∀ f : Fin 4112 → ℝ, InputMath.behind f l = f p := fun f =>
    (dif_pos (show 112 ≤ l.val by omega)).trans (congrArg f (Fin.ext (show l.val - 112 = p.val by omega)))
  exact ⟨funext fun d => hb _, funext fun d => hb _, funext fun d => hb _⟩

include hx hm hg hw hp ho in
theorem tile_at (p : Fin 4112) (h : 384 * t.val + r.val = 112 + p.val) : (k0_pay9 (reach (iblk m c 0 t) (iblk m c 1 t) (iblk m c 2 t) (iblk m c 3 t) (iblk m c 4 t) (iblk m c 5 t))
      (k0_pay6 (BitVec.ofNat 32 (grid0.coords t 0).val) (iblk m c 10 t) (iblk m c 7 t) (iblk m c 8 t) (iblk m c 9 t))
      (k0_pay7 (BitVec.ofNat 32 (grid0.coords t 0).val) (iblk m c 10 t) (iblk m c 7 t) (iblk m c 8 t) (iblk m c 9 t)) (iblk m c 11 t) (iblk m c 6 t) (ix2 r d) : EReal)
    = ((grad (hid X M p) (up W P p) G (O p) d : ℝ) : EReal) := by
  obtain ⟨e1, e2, e3⟩ := at_position (X := X) (M := M) (W := W) (P := P) (O := O) (col (tileOf t) r) p h
  rw [tile_real m c hx hm hg hw hp ho, e1, e2, e3]

include hx hm hg hw hp ho in
theorem tokens_real (i : Fin 4096) : (GX m c (ix2 i d : S4096x1024.Idx) : EReal) = ((grad (hid X M ⟨i.val + 16, by omega⟩) (up W P ⟨i.val + 16, by omega⟩) G (O ⟨i.val + 16, by omega⟩) d : ℝ) : EReal) := by
  have hm' : (i.val + 128) % 384 < 384 := Nat.mod_lt _ (by decide)
  refine (GX_at m c (stepOf (ix2 i d)) (ix2 i d) (ix3 0 ⟨(i.val + 128) % 384, hm'⟩ d) rfl rfl rfl).trans ?_
  unfold pk packed k0_pay10
  refine Eq.trans (shapeCast_apply _ _ (ix3 0 ⟨(i.val + 128) % 384, hm'⟩ d) (ix2 ⟨(i.val + 128) % 384, hm'⟩ d) ?_) (tile_at m c hx hm hg hw hp ho _ _ d _ ?_)
  · rw [Shape.rowMajor_val_three, Shape.rowMajor_val_two]
    show (i.val + 128) % 384 * 1024 + d.val = (0 * 384 + (i.val + 128) % 384) * 1024 + d.val
    omega
  · show 384 * ((i.val + 128) / 384) + (i.val + 128) % 384 = 112 + (i.val + 16)
    omega

include hx hm hg hw hp ho in
theorem learned_real (i : Fin 16) : (lrn m c t0_0 (ix2 i d) : EReal) = ((grad (hid X M ⟨i.val, by omega⟩) (up W P ⟨i.val, by omega⟩) G (O ⟨i.val, by omega⟩) d : ℝ) : EReal) := by
  unfold lrn learned k0_pay11
  refine Eq.trans ?_ (tile_at m c hx hm hg hw hp ho t0_0 ⟨112 + i.val, by omega⟩ d ⟨i.val, by omega⟩ (show 384 * 0 + (112 + i.val) = 112 + i.val by omega))
  generalize (k0_pay9 (F := Ideal)) _ _ _ _ _ = a
  pointwise

variable (X M W P) in
/-- The gain's gradient that one tile adds. -/
def adds (d : Fin 1024) (k : ℕ) : EReal :=
  if h : k < 11 then ∑ r : Fin 384, ((upAt W P (col ⟨k, h⟩ r) d * (rowAt X M (col ⟨k, h⟩ r) d * nr (rowAt X M (col ⟨k, h⟩ r))) : ℝ) : EReal) else 0

theorem adds_lt (k : ℕ) (h : k < 11) : adds X M W P d k = ∑ r : Fin 384, ((upAt W P (col ⟨k, h⟩ r) d * (rowAt X M (col ⟨k, h⟩ r) d * nr (rowAt X M (col ⟨k, h⟩ r))) : ℝ) : EReal) := dif_pos h

theorem behind_pos (f : Fin 4112 → ℝ) (l : Fin 4224) (h : 112 ≤ l.val) : InputMath.behind f l = f ⟨l.val - 112, by omega⟩ := dif_pos h

theorem behind_neg (f : Fin 4112 → ℝ) (l : Fin 4224) (h : ¬ 112 ≤ l.val) : InputMath.behind f l = 0 := dif_neg h

include hx hm hw hp in
theorem gained_after (n : ℕ) (hn : n < cfg0.N) : (gnAt m c n hn (ix2 0 d) : EReal) = ∑ k ∈ Finset.range (n + 1), adds X M W P d k := by
  induction n with
  | zero =>
    have h0 : ((k0_pay1 (F := Ideal)) (ix2 0 d : S1x1024.Idx) : EReal) = 0 := by
      unfold k0_pay1
      pointwise
    refine (step_real m c hx hm hw hp ⟨0, hn⟩ d (k0_pay1 (F := Ideal))).trans ?_
    rw [h0, zero_add, Finset.sum_range_one]
    exact (adds_lt d 0 (by decide)).symm
  | succ n ih =>
    refine (step_real m c hx hm hw hp ⟨n + 1, hn⟩ d (gnAt m c n (Nat.lt_of_succ_lt hn))).trans ?_
    rw [ih (Nat.lt_of_succ_lt hn), Finset.sum_range_succ _ (n + 1)]
    exact congrArg _ (adds_lt d (n + 1) (lt_of_lt_of_eq hn N_0)).symm

include hx hm hw hp in
theorem gained_real (hn : 10 < cfg0.N) : (gnAt m c 10 hn (ix2 0 d) : EReal) = ((∑ p, up W P p d * (hid X M p d * nr (hid X M p)) : ℝ) : EReal) := by
  have e : ∀ k : Fin 11, adds X M W P d k.val = ∑ r : Fin 384, ((upAt W P (col k r) d * (rowAt X M (col k r) d * nr (rowAt X M (col k r))) : ℝ) : EReal) := fun k => adds_lt d k.val k.isLt
  rw [gained_after m c hx hm hw hp d 10 hn, ← Fin.sum_univ_eq_sum_range (adds X M W P d) 11, Finset.sum_congr rfl fun k _ => e k,
    ← AttnSums.sum_tiles fun l => ((upAt W P l d * (rowAt X M l d * nr (rowAt X M l)) : ℝ) : EReal), ← coe_sum,
    ← sum_behind fun p => up W P p d * (hid X M p d * nr (hid X M p))]
  refine congrArg _ (Finset.sum_congr rfl fun l _ => ?_)
  by_cases h : 112 ≤ l.val
  · obtain ⟨e1, e2, -⟩ := at_position (X := X) (M := M) (W := W) (P := P) (O := fun _ _ => 0) l ⟨l.val - 112, by omega⟩ (show l.val = 112 + (l.val - 112) by omega)
    rw [e1, e2, behind_pos _ l h]
  · rw [show upAt W P l d = 0 from behind_neg _ l h, zero_mul]
    exact (behind_neg _ l h).symm

end Numbers

/-! ## The arrays after the run -/

theorem emb12 (t : Fin cfg0.N) (a : Fin 16) (d : Fin 1024) : ((win0_12.blk t).view.emb (ix2 a d) : S16x1024.Idx) = ix2 a d := by
  blk_ext [idx12 t]
theorem emb13 (t : Fin cfg0.N) (a : Fin 1) (d : Fin 1024) : ((win0_13.blk t).view.emb (ix2 a d) : S1x1024.Idx) = ix2 a d := by
  blk_ext [idx13 t]

theorem last_lt : 10 < cfg0.N := lt_of_lt_of_eq (by decide : 10 < 11) N_0.symm

theorem gnAt_eq {n : ℕ} (h : n = 10) (hn : n < cfg0.N) : gnAt m c n hn = gnAt m c 10 last_lt := by
  subst h
  rfl

theorem final_learned : (Run.dats m 0 c).arrAt 12 cfg0.N = lrn m c t0_0 := by
  refine (Run.dats m 0 c).arrAt_eq_of_covers 12 _ (by decide +kernel) fun t hf y => ?_
  rw [Run.after12]
  blk_simp [idx12 t]
  obtain ⟨a, d, rfl⟩ := ex2 (a := 16) (b := 1024) y
  exact (congrArg (lrn m c t0_0) (emb12 t a d)).symm

theorem final_gain : (Run.dats m 0 c).arrAt 13 cfg0.N = gnAt m c 10 last_lt := by
  refine (Run.dats m 0 c).arrAt_eq_of_covers 13 _ (by decide +kernel) fun t hf y => ?_
  have ht : t.val = 10 := by
    have h := (flush0_13 t).mp hf
    have := lt_of_lt_of_eq t.isLt N_0
    omega
  rw [Run.after13, gnAt_eq m c ht]
  blk_simp [idx13 t]
  obtain ⟨a, d, rfl⟩ := ex2 (a := 1) (b := 1024) y
  exact (congrArg (gnAt m c 10 last_lt) (emb13 t a d)).symm

end Cert.InputFinal

end
-- ==== Proof.InputReferenceValue.lean ====
/-
  The input gradient's reference: its results as numbers.
-/
module

public import proofs.«01_k».proof.Proof.InputMath
public import proofs.«01_k».proof.Proof.Gen.InputReferenceIdeal.Run
public import Idealize.ShloMosaic.Lib.Pipeline.Value
public import Idealize.ShloMosaic.Lib.Pointwise

@[expose] public section

set_option maxRecDepth 16384

noncomputable section

namespace Cert.InputReferenceValue

open Cert.InputReferenceIdeal Cert.InputReferenceIdeal.Gen Cert.InputMath
open Cert.AttnReal (coe_sum div_real)
open Idealize.ShloMosaic Idealize.ShloMosaic.TcCoe Idealize.SL.Sem

variable (x : FVec Ideal S4096x1024 .f32) (mt : FVec Ideal S16x1024 .f32) (g : FVec Ideal S1024 .f32) (w : FVec Ideal S1024x4104 .f32)
  (p : FVec Ideal S4112x4104 .f32) (o : FVec Ideal S4112x1024 .f32)

/-- A number as a column. -/
abbrev col (b : BitVec 32) : FVec Ideal S4112x1 .f32 := broadcastInDim S4112x1 ![] bcast_S_S4112x1 (constant S_ .f32 b)

/-- A column beside every entry of its row. -/
abbrev wide (a : FVec Ideal S4112x1 .f32) : FVec Ideal S4112x1024 .f32 := broadcastInDim S4112x1024 ![0, 1] bcast_S4112x1_S4112x1024_0_1 a

/-- A row's sum. -/
abbrev rowSum (a : FVec Ideal S4112x1024 .f32) : FVec Ideal S4112 .f32 := Host.reduceAdd a (constant S_ .f32 0x00000000#32) reducesTo_S4112x1024_S4112_d1 h_S_

/-- The rows. -/
def rows : FVec Ideal S4112x1024 .f32 := concatenate S4112x1024 0 [⟨S16x1024, mt⟩, ⟨S4096x1024, x⟩] concatenates_S16x1024_S4096x1024_S4112x1024_d0

/-- The means of the rows' squares. -/
def means (h : FVec Ideal S4112x1024 .f32) : FVec Ideal S4112x1 .f32 :=
  addf (Host.divf (broadcastInDim S4112x1 ![0] bcast_S4112_S4112x1_0 (rowSum (mulf h h))) (col 0x44800000#32)) (col 0x358637BD#32)

/-- The gradient of the rows after the gain. -/
def product : FVec Ideal S4112x1024 .f32 := Host.dotGeneral dot_S4112x4104_S1024x4104_S4112x1024_1_1_0_0_n_n none p w

/-- The gradient of the normalised rows. -/
def scaled : FVec Ideal S4112x1024 .f32 :=
  mulf (product w p) (broadcastInDim S4112x1024 ![0, 1] bcast_S1x1024_S4112x1024_0_1 (broadcastInDim S1x1024 ![1] bcast_S1024_S1x1024_1 g))

/-- The gradient of the sum of a row's squares. -/
def inner (h s : FVec Ideal S4112x1024 .f32) : FVec Ideal S4112x1 .f32 :=
  Host.divf (mulf (shapeCast S4112x1 (rowSum (mulf h s)) shapeCasts_S4112_S4112x1) (mulf (col 0xBF000000#32) (Host.divf (Host.rsqrt (means h)) (means h)))) (col 0x44800000#32)

/-- The sum along an axis of one, beside every entry of its row. -/
def again (a : FVec Ideal S4112x1 .f32) : FVec Ideal S4112x1024 .f32 :=
  broadcastInDim S4112x1024 ![0] bcast_S4112_S4112x1024_0 (Host.reduceAdd a (constant S_ .f32 0x00000000#32) reducesTo_S4112x1_S4112_d1 h_S_)

/-- The rows' gradient. -/
def total (h s : FVec Ideal S4112x1024 .f32) : FVec Ideal S4112x1024 .f32 :=
  addf (addf (addf o (mulf s (wide (Host.rsqrt (means h))))) (mulf h (again (inner h s)))) (mulf (again (inner h s)) h)

/-- The gain's gradient. -/
def gain (h : FVec Ideal S4112x1024 .f32) : FVec Ideal S1x1024 .f32 :=
  broadcastInDim S1x1024 ![1] bcast_S1024_S1x1024_1 (Host.reduceAdd (shapeCast S1x1024 (Host.reduceAdd (mulf (mulf h (wide (Host.rsqrt (means h)))) (product w p))
    (constant S_ .f32 0x00000000#32) reducesTo_S4112x1024_S1024_d0 h_S_) shapeCasts_S1024_S1x1024) (constant S_ .f32 0x00000000#32) reducesTo_S1x1024_S1024_d0 h_S_)

variable (m : (ℓ : Loc nD τ sig) → Buf (Elt Ideal) ℓ) (c : Dev nD)

abbrev argX : FVec Ideal S4096x1024 .f32 := m ((c.tc : Thread nD τ).loc main_arg0)
abbrev argM : FVec Ideal S16x1024 .f32 := m ((c.tc : Thread nD τ).loc main_arg1)
abbrev argG : FVec Ideal S1024 .f32 := m ((c.tc : Thread nD τ).loc main_arg2)
abbrev argW : FVec Ideal S1024x4104 .f32 := m ((c.tc : Thread nD τ).loc main_arg3)
abbrev argP : FVec Ideal S4112x4104 .f32 := m ((c.tc : Thread nD τ).loc main_arg4)
abbrev argO : FVec Ideal S4112x1024 .f32 := m ((c.tc : Thread nD τ).loc main_arg5)

theorem res_M : Value.res_main_v42 m c
    = extractStridedSlice S16x1024 ![0, 0] (total (argO m c) (rows (argX m c) (argM m c)) (scaled (argG m c) (argW m c) (argP m c))) slices_S4112x1024_S16x1024_0_0 := rfl
theorem res_X : Value.res_main_v43 m c
    = extractStridedSlice S4096x1024 ![16, 0] (total (argO m c) (rows (argX m c) (argM m c)) (scaled (argG m c) (argW m c) (argP m c))) slices_S4112x1024_S4096x1024_16_0 := rfl
theorem results (ρ : Dev nD → PrngReg) : θ_run defs (onTc (τ := τ) (main (F := Ideal))) ⟨m, fun _ => 0, ρ⟩ fun r => ∀ c : Dev nD,
    r.2.mem ((c.tc : Thread nD τ).loc main_v43) = Value.res_main_v43 m c
    ∧ r.2.mem ((c.tc : Thread nD τ).loc main_v42) = Value.res_main_v42 m c
    ∧ r.2.mem ((c.tc : Thread nD τ).loc main_v44) = gain (argW m c) (argP m c) (rows (argX m c) (argM m c)) :=
  (θ_run defs _ _).mono (fun _ h c => ⟨(h c).1, (h c).2.1, (h c).2.2.1⟩) (Value.run m ρ)

section

variable {x mt g w p o}
variable {X : Fin 4096 → Fin 1024 → ℝ} {M : Fin 16 → Fin 1024 → ℝ} {G : Fin 1024 → ℝ} {W : Fin 1024 → Fin 4104 → ℝ} {P : Fin 4112 → Fin 4104 → ℝ} {O : Fin 4112 → Fin 1024 → ℝ}
variable (hx : ∀ i d, (x (ix2 i d) : EReal) = (X i d : EReal)) (hm : ∀ i d, (mt (ix2 i d) : EReal) = (M i d : EReal)) (hg : ∀ d, (g (ix1 d) : EReal) = (G d : EReal))
  (hw : ∀ d e, (w (ix2 d e) : EReal) = (W d e : EReal)) (hp : ∀ i e, (p (ix2 i e) : EReal) = (P i e : EReal)) (ho : ∀ i d, (o (ix2 i d) : EReal) = (O i d : EReal))

include hx hm in
theorem rows_real (i : Fin 4112) (d : Fin 1024) : (rows x mt (ix2 i d) : EReal) = ((hid X M i d : ℝ) : EReal) := by
  have e : rows x mt (ix2 i d) = if h : i.val < 16 then mt (ix2 ⟨i.val, h⟩ d) else x (ix2 ⟨i.val - 16, by omega⟩ d) := by
    unfold rows
    pointwise
  rw [e]
  unfold hid
  by_cases h : i.val < 16
  · rw [dif_pos h, dif_pos h, hm]
  · rw [dif_neg h, dif_neg h, hx]

include hw hp in
theorem product_real (i : Fin 4112) (d : Fin 1024) : (product w p (ix2 i d) : EReal) = ((up W P i d : ℝ) : EReal) := by
  have e : product w p (ix2 i d) = ∑ k, p (ix2 i k) * w (ix2 d k) := by
    unfold product
    pointwise
  rw [e]
  simp only [hp _ _, hw _ _, ← EReal.coe_mul, ← coe_sum]
  rfl

include hg hw hp in
theorem scaled_real (i : Fin 4112) (d : Fin 1024) : (scaled g w p (ix2 i d) : EReal) = ((up W P i d * G d : ℝ) : EReal) := by
  have e : scaled g w p (ix2 i d) = product w p (ix2 i d) * g (ix1 d) := by
    unfold scaled
    pointwise
  rw [e, product_real hw hp, hg, EReal.coe_mul]

section Rows

variable {h s : FVec Ideal S4112x1024 .f32} {H S : Fin 4112 → Fin 1024 → ℝ} (hh : ∀ i d, (h (ix2 i d) : EReal) = (H i d : EReal)) (hs : ∀ i d, (s (ix2 i d) : EReal) = (S i d : EReal))

include hh in
theorem means_real (i : Fin 4112) : (means h (ix2 i 0) : EReal) = ((ms (H i) : ℝ) : EReal) := by
  have e : means h (ix2 i 0) = Ideal.div (∑ d, h (ix2 i d) * h (ix2 i d)) (Ideal.ofBits FTy.f32 0x44800000#32) + Ideal.ofBits FTy.f32 0x358637BD#32 := by
    unfold means
    pointwise
  rw [e, bits_width, bits_eps]
  simp only [hh _ _, ← EReal.coe_mul, ← coe_sum]
  rw [div_real _ (by norm_num), ← EReal.coe_add]
  rfl

theorem again_apply (a : FVec Ideal S4112x1 .f32) (i : Fin 4112) (d : Fin 1024) : again a (ix2 i d) = a (ix2 i 0) := by
  have e : again a (ix2 i d) = ∑ z : Fin 1, a (ix2 i z) := by
    unfold again
    pointwise
  rw [e, Fin.sum_univ_one]

include hh hs in
theorem inner_real (i : Fin 4112) : (inner h s (ix2 i 0) : EReal) = (((∑ e, H i e * S i e) * (-(1 / 2) * (nr (H i) / ms (H i))) / 1024 : ℝ) : EReal) := by
  have c : shapeCast S4112x1 (rowSum (mulf h s)) shapeCasts_S4112_S4112x1 (ix2 i 0) = rowSum (mulf h s) (ix1 i) :=
    shapeCast_apply _ _ (ix2 i 0) (ix1 i) (by
      rw [Shape.rowMajor_val_two, Shape.rowMajor_val_one]
      show i.val = i.val * 1 + 0
      omega)
  have c' : rowSum (mulf h s) (ix1 i) = ∑ d, h (ix2 i d) * s (ix2 i d) := by pointwise
  have e : inner h s (ix2 i 0) = Ideal.div (shapeCast S4112x1 (rowSum (mulf h s)) shapeCasts_S4112_S4112x1 (ix2 i 0)
      * (Ideal.ofBits FTy.f32 0xBF000000#32 * Ideal.div (Ideal.rsqrt (means h (ix2 i 0))) (means h (ix2 i 0)))) (Ideal.ofBits FTy.f32 0x44800000#32) := rfl
  rw [e, c, c', means_real hh, rsqrt_ms, bits_width, bits_half, div_real _ (ms_pos (H i)).ne']
  simp only [hh _ _, hs _ _, ← EReal.coe_mul, ← coe_sum]
  rw [div_real _ (by norm_num)]

include hh in
theorem wide_real (i : Fin 4112) (d : Fin 1024) : (wide (Host.rsqrt (means h)) (ix2 i d) : EReal) = ((nr (H i) : ℝ) : EReal) := by
  have e : wide (Host.rsqrt (means h)) (ix2 i d) = Ideal.rsqrt (means h (ix2 i 0)) := by
    pointwise
  rw [e, means_real hh, rsqrt_ms]

include hh hs ho in
theorem total_real (i : Fin 4112) (d : Fin 1024) : (total o h s (ix2 i d) : EReal)
    = ((O i d + S i d * nr (H i) + H i d * ((∑ e, H i e * S i e) * (-(1 / 2) * (nr (H i) / ms (H i))) / 1024)
        + (∑ e, H i e * S i e) * (-(1 / 2) * (nr (H i) / ms (H i))) / 1024 * H i d : ℝ) : EReal) := by
  have e : total o h s (ix2 i d) = o (ix2 i d) + s (ix2 i d) * wide (Host.rsqrt (means h)) (ix2 i d) + h (ix2 i d) * again (inner h s) (ix2 i d) + again (inner h s) (ix2 i d) * h (ix2 i d) := rfl
  rw [e, again_apply, inner_real hh hs, wide_real hh, ho, hh, hs]
  simp only [← EReal.coe_mul, ← EReal.coe_add]

include hh hw hp in
theorem gain_real (d : Fin 1024) : (gain w p h (ix2 0 d) : EReal) = ((∑ i, up W P i d * (H i d * nr (H i)) : ℝ) : EReal) := by
  have e : gain w p h (ix2 0 d) = ∑ z : Fin 1, ∑ i, h (ix2 i d) * wide (Host.rsqrt (means h)) (ix2 i d) * product w p (ix2 i d) := by
    unfold gain
    pointwise
  rw [e, Fin.sum_univ_one, coe_sum]
  refine Finset.sum_congr rfl fun i _ => ?_
  rw [hh, wide_real hh, product_real hw hp, ← EReal.coe_mul, ← EReal.coe_mul, mul_comm]

end Rows

include hx hm hg hw hp ho in
theorem total_eq (i : Fin 4112) (d : Fin 1024) : (total o (rows x mt) (scaled g w p) (ix2 i d) : EReal) = ((grad (hid X M i) (up W P i) G (O i) d : ℝ) : EReal) := by
  rw [total_real (H := hid X M) (S := fun i d => up W P i d * G d) ho (rows_real hx hm) (scaled_real hg hw hp)]
  exact congrArg _ (grad_chain (hid X M i) (up W P i) G (O i) d)

end

end Cert.InputReferenceValue

end
-- ==== Proof.InputAgree.lean ====
/-
What is claimed of the input gradient pair.
-/
module

public import proofs.«01_k».proof.Defs
public import proofs.«01_k».proof.Proof.Gen.InputKernel
public import proofs.«01_k».proof.Proof.InputIdealFrame
public import proofs.«01_k».proof.Proof.InputFinal
public import proofs.«01_k».proof.Proof.InputReferenceValue
public import proofs.«01_k».proof.Proof.AttnAgree
public import proofs.«01_k».proof.Proof.Gen.Pre_finite_input
public import Idealize.ShloMosaic.Lib.ReduceAll

@[expose] public section

set_option maxRecDepth 65536
set_option maxHeartbeats 4000000

noncomputable section

namespace Cert.InputAgree

open Idealize.ShloMosaic Idealize.ShloMosaic.TcCoe Idealize.SL.Sem
open Cert.AttnOut (ex2)

/-- The kernel's program is its ideal one's word for word, whose frame is proved for any floats. -/
theorem main_eq : InputKernel.main (F := Bits) = InputKernelIdeal.main (F := Bits) := rfl
set_option smartUnfolding false in
theorem frame_kernel : quiescent_InputKernel := fun m ρ _ => InputKernelIdeal.Run.frame (F := Bits) m ρ
theorem frame_ideal : quiescent_InputKernelIdeal := fun m ρ _ => InputKernelIdeal.Run.frame m ρ
theorem frame_reference : quiescent_InputReferenceIdeal := fun m ρ _ =>
  (θ_run _ _ _).mono (fun r h => ⟨fun c => (h c).2.2.2, by funext s; exact nomatch s⟩) (InputReferenceIdeal.Value.run m ρ)
theorem frame_ideal_finite : quiescent_InputKernelIdeal_pre_finite_input := fun m ρ _ => InputKernelIdeal.Run.frame m ρ
theorem frame_reference_finite : quiescent_InputReferenceIdeal_pre_finite_input := fun m ρ _ =>
  (θ_run _ _ _).mono (fun r h => ⟨fun c => (h c).2.2.2, by funext s; exact nomatch s⟩) (InputReferenceIdeal.Value.run m ρ)

/-- The arguments are given by these numbers. -/
structure Given (X : Fin 4096 → Fin 1024 → ℝ) (M : Fin 16 → Fin 1024 → ℝ) (G : Fin 1024 → ℝ) (W : Fin 1024 → Fin 4104 → ℝ) (P : Fin 4112 → Fin 4104 → ℝ) (O : Fin 4112 → Fin 1024 → ℝ)
    (x : FVec Ideal InputReferenceIdeal.S4096x1024 .f32) (mt : FVec Ideal InputReferenceIdeal.S16x1024 .f32) (g : FVec Ideal InputReferenceIdeal.S1024 .f32)
    (w : FVec Ideal InputReferenceIdeal.S1024x4104 .f32) (p : FVec Ideal InputReferenceIdeal.S4112x4104 .f32) (o : FVec Ideal InputReferenceIdeal.S4112x1024 .f32) : Prop where
  x : ∀ i d, (x (ix2 i d) : EReal) = (X i d : EReal)
  m : ∀ i d, (mt (ix2 i d) : EReal) = (M i d : EReal)
  g : ∀ d, (g (ix1 d) : EReal) = (G d : EReal)
  w : ∀ d e, (w (ix2 d e) : EReal) = (W d e : EReal)
  p : ∀ i e, (p (ix2 i e) : EReal) = (P i e : EReal)
  o : ∀ i d, (o (ix2 i d) : EReal) = (O i d : EReal)

/-! ## The precondition: the arguments are real numbers -/

section
open Cert.Pre_finite_input Cert.Proof.AttnAgree

theorem real_of_pre (a0 : FVec Ideal S4096x1024 .f32) (a1 : FVec Ideal S16x1024 .f32) (a2 : FVec Ideal S1024 .f32) (a3 : FVec Ideal S1024x4104 .f32) (a4 : FVec Ideal S4112x4104 .f32)
    (a5 : FVec Ideal S4112x1024 .f32) (h : fn (F := Ideal) a0 a1 a2 a3 a4 a5 = fun _ => 1#1) :
    Given (fun i d => (a0 (ix2 i d) : EReal).toReal) (fun i d => (a1 (ix2 i d) : EReal).toReal) (fun d => (a2 (ix1 d) : EReal).toReal)
      (fun d e => (a3 (ix2 d e) : EReal).toReal) (fun i e => (a4 (ix2 i e) : EReal).toReal) (fun i d => (a5 (ix2 i d) : EReal).toReal) a0 a1 a2 a3 a4 a5 := by
  have e := congrFun h (Shape.Idx.first Gen.h_S_)
  dsimp only [fn, fn_part1] at e
  obtain ⟨e, e5⟩ := IntOp.andi_eq_one.mp e
  obtain ⟨e, e4⟩ := IntOp.andi_eq_one.mp e
  obtain ⟨e, e3⟩ := IntOp.andi_eq_one.mp e
  obtain ⟨e, e2⟩ := IntOp.andi_eq_one.mp e
  obtain ⟨e0, e1⟩ := IntOp.andi_eq_one.mp e
  exact ⟨fun i d => (real_of_word _ (Host.reduce_andi_all _ _ _ _ _ e0 (ix2 i d))).symm, fun i d => (real_of_word _ (Host.reduce_andi_all _ _ _ _ _ e1 (ix2 i d))).symm,
    fun d => (real_of_word _ (Host.reduce_andi_all _ _ _ _ _ e2 (ix1 d))).symm, fun d k => (real_of_word _ (Host.reduce_andi_all _ _ _ _ _ e3 (ix2 d k))).symm,
    fun i k => (real_of_word _ (Host.reduce_andi_all _ _ _ _ _ e4 (ix2 i k))).symm, fun i d => (real_of_word _ (Host.reduce_andi_all _ _ _ _ _ e5 (ix2 i d))).symm⟩

end

/-! ## The results -/

section
open Cert.InputReferenceIdeal

variable (m : (ℓ : Loc Cert.InputKernelIdeal.nD Cert.InputKernelIdeal.τ Cert.InputKernelIdeal.sig) → Buf (Elt Ideal) ℓ)
  (m' : (ℓ : Loc nD τ sig) → Buf (Elt Ideal) ℓ)

/-- The two memories hold the same arguments. -/
def Same : Prop := ∀ c : Dev nD,
  m' ((c.tc : Thread nD τ).loc main_arg0) = m ((c.tc : Thread nD τ).loc Cert.InputKernelIdeal.main_arg0)
  ∧ m' ((c.tc : Thread nD τ).loc main_arg1) = m ((c.tc : Thread nD τ).loc Cert.InputKernelIdeal.main_arg1)
  ∧ m' ((c.tc : Thread nD τ).loc main_arg2) = m ((c.tc : Thread nD τ).loc Cert.InputKernelIdeal.main_arg2)
  ∧ m' ((c.tc : Thread nD τ).loc main_arg3) = m ((c.tc : Thread nD τ).loc Cert.InputKernelIdeal.main_arg3)
  ∧ m' ((c.tc : Thread nD τ).loc main_arg4) = m ((c.tc : Thread nD τ).loc Cert.InputKernelIdeal.main_arg4)
  ∧ m' ((c.tc : Thread nD τ).loc main_arg5) = m ((c.tc : Thread nD τ).loc Cert.InputKernelIdeal.main_arg5)

/-- The memory's arguments are given by these numbers. -/
abbrev GivenK (X : Fin 4096 → Fin 1024 → ℝ) (M : Fin 16 → Fin 1024 → ℝ) (G : Fin 1024 → ℝ) (W : Fin 1024 → Fin 4104 → ℝ) (P : Fin 4112 → Fin 4104 → ℝ) (O : Fin 4112 → Fin 1024 → ℝ) (c : Dev nD) : Prop :=
  Given X M G W P O (InputHost.argX m c) (InputHost.argM m c) (InputHost.argG m c) (InputHost.argW m c) (InputHost.argP m c) (InputHost.argO m c)

variable {X : Fin 4096 → Fin 1024 → ℝ} {M : Fin 16 → Fin 1024 → ℝ} {G : Fin 1024 → ℝ} {W : Fin 1024 → Fin 4104 → ℝ} {P : Fin 4112 → Fin 4104 → ℝ} {O : Fin 4112 → Fin 1024 → ℝ} (c : Dev nD)
variable (H : GivenK m X M G W P O c)
variable (H' : Given X M G W P O (InputReferenceValue.argX m' c) (InputReferenceValue.argM m' c) (InputReferenceValue.argG m' c) (InputReferenceValue.argW m' c) (InputReferenceValue.argP m' c) (InputReferenceValue.argO m' c))

include H H'

theorem eq_X : (Value.res_main_v43 m' c : FVec Ideal S4096x1024 .f32) = InputKernelIdeal.Run.GX m c := by
  funext y
  obtain ⟨i, d, rfl⟩ := ex2 y
  refine (congrFun (InputReferenceValue.res_X m' c) _).trans (Eq.trans ?_ (InputFinal.tokens_real m c H.x H.m H.g H.w H.p H.o d i).symm)
  rw [← InputReferenceValue.total_eq H'.x H'.m H'.g H'.w H'.p H'.o]
  generalize InputReferenceValue.total _ _ _ = a
  exact congrArg a (funext fun k => Fin.ext (by fin_cases k <;> simp [Nat.add_comm]))

theorem eq_M : (Value.res_main_v42 m' c : FVec Ideal S16x1024 .f32) = InputKernelIdeal.Run.lrn m c InputKernelIdeal.Gen.t0_0 := by
  funext y
  obtain ⟨i, d, rfl⟩ := ex2 y
  refine (congrFun (InputReferenceValue.res_M m' c) _).trans (Eq.trans ?_ (InputFinal.learned_real m c H.x H.m H.g H.w H.p H.o d i).symm)
  rw [← InputReferenceValue.total_eq H'.x H'.m H'.g H'.w H'.p H'.o]
  generalize InputReferenceValue.total _ _ _ = a
  exact congrArg a (funext fun k => Fin.ext (by fin_cases k <;> simp))

theorem eq_G : InputReferenceValue.gain (InputReferenceValue.argW m' c) (InputReferenceValue.argP m' c) (InputReferenceValue.rows (InputReferenceValue.argX m' c) (InputReferenceValue.argM m' c))
    = InputKernelIdeal.Run.gnAt m c 10 InputFinal.last_lt := by
  funext y
  obtain ⟨z, d, rfl⟩ := ex2 y
  obtain rfl : z = 0 := Subsingleton.elim _ _
  exact (InputReferenceValue.gain_real H'.w H'.p (InputReferenceValue.rows_real H'.x H'.m) d).trans (InputFinal.gained_real m c H.x H.m H.w H.p d InputFinal.last_lt).symm

end

theorem given' {m : (ℓ : Loc Cert.InputKernelIdeal.nD Cert.InputKernelIdeal.τ Cert.InputKernelIdeal.sig) → Buf (Elt Ideal) ℓ}
    {m' : (ℓ : Loc Cert.InputReferenceIdeal.nD Cert.InputReferenceIdeal.τ Cert.InputReferenceIdeal.sig) → Buf (Elt Ideal) ℓ} (hs : Same m m')
    {X : Fin 4096 → Fin 1024 → ℝ} {M : Fin 16 → Fin 1024 → ℝ} {G : Fin 1024 → ℝ} {W : Fin 1024 → Fin 4104 → ℝ} {P : Fin 4112 → Fin 4104 → ℝ} {O : Fin 4112 → Fin 1024 → ℝ}
    (c : Dev Cert.InputReferenceIdeal.nD) (H : GivenK m X M G W P O c) :
    Given X M G W P O (InputReferenceValue.argX m' c) (InputReferenceValue.argM m' c) (InputReferenceValue.argG m' c) (InputReferenceValue.argW m' c) (InputReferenceValue.argP m' c) (InputReferenceValue.argO m' c) := by
  obtain ⟨h0, h1, h2, h3, h4, h5⟩ := hs c
  unfold InputReferenceValue.argX InputReferenceValue.argM InputReferenceValue.argG InputReferenceValue.argW InputReferenceValue.argP InputReferenceValue.argO
  rw [h0, h1, h2, h3, h4, h5]
  exact H

theorem agree : Cert.algebraic_InputKernelIdeal_InputReferenceIdeal_pre_finite_input := fun m g m' g' hp hs =>
  have H : ∀ c, GivenK m _ _ _ _ _ _ c := fun c => real_of_pre _ _ _ _ _ _ (hp c)
  ⟨InputKernelIdeal.Run.GX m, fun c => InputKernelIdeal.Run.lrn m c InputKernelIdeal.Gen.t0_0, fun c => InputKernelIdeal.Run.gnAt m c 10 InputFinal.last_lt,
    (θ_run _ _ _).mono (fun _ h c => ⟨(h.1 c).1, (h.1 c).2.1.trans (InputFinal.final_learned m c), (h.1 c).2.2.trans (InputFinal.final_gain m c), h.2.1 c⟩)
      (θ_run_and (InputKernelIdeal.Run.results m g) (InputKernelIdeal.Run.frame m g)),
    (θ_run _ _ _).mono (fun _ h c =>
      ⟨(h.1 c).1.trans (eq_X m m' c (H c) (given' hs c (H c))), (h.1 c).2.1.trans (eq_M m m' c (H c) (given' hs c (H c))),
        (h.1 c).2.2.trans (eq_G m m' c (H c) (given' hs c (H c))), (h.2 c).2.2.2⟩)
      (θ_run_and (InputReferenceValue.results m' g') (Cert.InputReferenceIdeal.Value.run m' g'))⟩

end Cert.InputAgree

end
-- ==== Proof.ProjBlock.lean ====
/-
  What the projection kernel leaves in its six outputs at one grid point.
-/
module

public import proofs.«01_k».proof.Proof.Gen.ProjKernelIdeal.Value
public import proofs.«01_k».proof.Proof.AttnBuffers
public import proofs.«01_k».proof.Proof.AttnOut
public import Idealize.ShloMosaic.Lib.WholeRead
public import Idealize.ShloMosaic.Lib.Pipeline.Value
public import Idealize.ShloMosaic.Lib.Pipeline.ValueKit
public import Idealize.ShloMosaic.Lib.Pointwise
public import Idealize.ShloMosaic.Lib.VecWindow
public import Idealize.ShloMosaic.Lib.Writes

@[expose] public section

set_option maxRecDepth 65536
noncomputable section

namespace Cert.ProjBlock

open Cert.AttnOut (ex2)
open Cert.AttnTile (ex3)
open Cert.ProjKernelIdeal Cert.ProjKernelIdeal.Gen
open Idealize.ShloMosaic

variable (T : Vec Ideal S384x1024 .bf16) (V : Vec Ideal S512x1024 .bf16) (A : Vec Ideal S16x1024 .bf16)

abbrev qs : EReal := Named.named (F := Ideal) κ "qscale" (φ := .f32) 0x3E38AA3B#32

theorem pq (a : Fin 512) (r : Fin 384) : k0_pay5 T V (ix2 a r) = (∑ d, T (ix2 r d) * V (ix2 a d)) * qs := by
  pointwise [k0_pay5]
theorem pk (a : Fin 512) (r : Fin 384) : k0_pay16 (k0_pay6 T V) (ix2 a r) = (∑ d, T (ix2 r d) * V (ix2 a d)) := by
  pointwise [k0_pay16, k0_pay6]
theorem pg (a : Fin 512) (r : Fin 384) : k0_pay28 T V (ix3 0 a r) = (∑ d, T (ix2 r d) * V (ix2 a d)) := by
  pointwise [k0_pay28]
theorem pf (a : Fin 8) (r : Fin 384) : k0_pay3 A T (ix2 a r) = (∑ d, A (ix2 ⟨a.val, by omega⟩ d) * T (ix2 r d)) := by
  pointwise [k0_pay3]

variable (m : (ℓ : Loc nD τ sig) → Buf (Elt Ideal) ℓ) (c : Dev nD) (t : Fin cfg0.N)

/-- The tile's normed rows, and the weights' block. -/
abbrev tl : Vec Ideal S384x1024 .bf16 := k0_pay4 (grid0.coords t) (iblk m c 3 t) (iblk m c 0 t) (iblk m c 1 t) (iblk m c 2 t) (iblk m c 4 t)

abbrev wt : Vec Ideal S4112x1024 .bf16 := iblk m c 5 t

/-- One column of the projection at one row of the tile. -/
def pr (r : Fin 384) (k : Fin 4112) : EReal := ∑ d, tl m c t (ix2 r d) * wt m c t (ix2 k d)

section Whole

variable {κ' : Kind} {sp : Space} {s : Shape} {e : EltTy} (v : View sig κ' sp s e) (f : v.ty.Contents (Elt Ideal)) {off : Fin s.rank → ℕ} (inb : ∀ a, off a + s.size a ≤ s.size a)

theorem whole_read : View.readAt (Elt Ideal) v (Rect.unit off (no_index s.size) inb).toLoadRect f = v.read (Elt Ideal) f := View.readAt_full _ _ _

theorem whole_cov (w : s.Idx → Elt Ideal e) (L : List (View.Piece (Elt Ideal) s e)) : v.readCov (⟨Rect.unit off (no_index s.size) inb, w⟩ :: L) (Rect.unit off (no_index s.size) inb).toLoadRect = w :=
  View.readCov_full v inb inb w L

theorem whole_writes (w : s.Idx → Elt Ideal e) (L : List (View.Piece (Elt Ideal) s e)) : v.read (Elt Ideal) (v.writes (Elt Ideal) f (⟨Rect.unit off (no_index s.size) inb, w⟩ :: L)) = w :=
  View.read_writes_full v f inb w L

end Whole

theorem sec {m6 : Memref sig .tc .vmem S4112x1024 .bf16} (h6 : m6.IsWhole) (X : Vec Ideal S4112x1024 .bf16) {n : ℕ} (k : ℕ) (inb : ∀ a, (![k, 0] : Fin 2 → ℕ) a + (![n, 1024] : Fin 2 → ℕ) a ≤ S4112x1024.size a)
    (a : Fin n) (d : Fin 1024) (K : Fin 4112) (hK : K.val = k + a.val) :
    View.readAt (Elt Ideal) m6.view (Rect.unit (s := S4112x1024) ![k, 0] ![n, 1024] inb).toLoadRect (h6.unread X) (ix2 a d) = X (ix2 K d) :=
  (h6.readAt_unread X _ _).trans (AttnBuffers.ld2 X inb a d K d hK (Nat.zero_add _).symm)

theorem o6 : (outsAt0 m c t).1 = tl m c t := by
  unfold outsAt0 out0_A_6 kernelRun0_A
  dsimp only
  sl_unfold_words
  simp only [whole_writes, whole_read, Memref.IsWhole.read_unread]

/-- The part of the weights' block a section of 512 columns reads. -/
abbrev rd (k : ℕ) (inb : ∀ a, (![k, 0] : Fin 2 → ℕ) a + (![512, 1024] : Fin 2 → ℕ) a ≤ S4112x1024.size a) : Vec Ideal S512x1024 .bf16 :=
  View.readAt (Elt Ideal) (ms0_5 t).view (Rect.unit (s := S4112x1024) ![k, 0] ![512, 1024] inb).toLoadRect ((hs0_5 t).unread (wt m c t))

variable {m c t} in
theorem psec {k : ℕ} {inb} (r : Fin 384) (a : Fin 512) (K : Fin 4112) (hK : K.val = k + a.val) : ∑ d, tl m c t (ix2 r d) * rd m c t k inb (ix2 a d) = pr m c t r K :=
  Finset.sum_congr rfl fun d _ => congrArg (_ * ·) (sec (hs0_5 t) (wt m c t) k inb a d K hK)

def g7 : Vec Ideal S1536x384 .bf16 := fun y => if (y 0).val < 512 then pr m c t (y 1) ⟨(y 0).val, (y 0).isLt.trans (by decide)⟩ * qs else pr m c t (y 1) ⟨(y 0).val, (y 0).isLt.trans (by decide)⟩
def g8 : Vec Ideal S1x2560x384 .bf16 := fun y => pr m c t (y 2) ⟨1536 + (y 1).val, by have : (y 1).val < 2560 := (y 1).isLt; omega⟩
def g9 : Vec Ideal S8x384 .f32 := fun y => pr m c t (y 1) ⟨4096 + (y 0).val, by have : (y 0).val < 8 := (y 0).isLt; omega⟩
def gt (b : ℕ) (hb : b ≤ 1024) : Vec Ideal S8x384x64 .bf16 := fun y => pr m c t (y 1) ⟨b + (64 * (y 0).val + (y 2).val), by have : (y 0).val < 8 := (y 0).isLt; have : (y 2).val < 64 := (y 2).isLt; omega⟩

theorem o7 : (outsAt0 m c t).2.1 = g7 m c t := by
  funext y
  unfold outsAt0 out0_A_7
  dsimp only
  refine View.read_writes_apply_of_pieces VO0_7 VO0_7.junk (g7 m c t) _ ?_ y (cover0_A_7 ..)
  unfold kernelRun0_A
  dsimp only
  sl_unfold_words
  simp only [whole_cov, whole_read, Memref.IsWhole.read_unread, List.forall_mem_cons]
  refine ⟨fun x => ?_, fun x => ?_, fun x => ?_, fun _ h => absurd h List.not_mem_nil⟩ <;> obtain ⟨a, r, rfl⟩ := ex2 (a := 512) (b := 384) x
  · refine Eq.trans ?_ (congrArg (g7 m c t) (AttnBuffers.emb2 _ a r ⟨1024 + a.val, by omega⟩ r rfl (Nat.zero_add _).symm).symm)
    exact (show _ = ∑ d, tl m c t (ix2 r d) * rd m c t 1024 inb_S4112x1024_S512x1024_1024_0 (ix2 a d) by pointwise [k0_pay27, k0_pay17]).trans ((psec r a _ rfl).trans (if_neg (by show ¬ 1024 + a.val < 512; omega)).symm)
  · refine Eq.trans ?_ (congrArg (g7 m c t) (AttnBuffers.emb2 _ a r ⟨512 + a.val, by omega⟩ r rfl (Nat.zero_add _).symm).symm)
    exact (pk ..).trans ((psec r a _ rfl).trans (if_neg (by show ¬ 512 + a.val < 512; omega)).symm)
  · refine Eq.trans ?_ (congrArg (g7 m c t) (AttnBuffers.emb2 _ a r ⟨0 + a.val, by omega⟩ r rfl (Nat.zero_add _).symm).symm)
    exact (pq ..).trans ((congrArg (· * qs) (psec r a _ rfl)).trans (if_pos (by show 0 + a.val < 512; omega)).symm)

theorem tile {w : Vec Ideal S1x512x384 .bf16} {G : Vec Ideal S1x2560x384 .bf16} {k : ℕ} {inb'} (hk : k ≤ 2048) (h : ∀ (a : Fin 512) (r : Fin 384), w (ix3 0 a r) = G (ix3 0 ⟨k + a.val, by omega⟩ r))
    (x : (Rect.unit (s := S1x2560x384) ![0, k, 0] ![1, 512, 384] inb').shape.Idx) : w x = G ((Rect.unit (s := S1x2560x384) ![0, k, 0] ![1, 512, 384] inb').emb x) := by
  obtain ⟨z, a, r, rfl⟩ := ex3 (a := 1) (b := 512) (c := 384) x
  obtain rfl : z = 0 := Subsingleton.elim _ _
  exact (h a r).trans (congrArg G (AttnBuffers.emb3 _ 0 a r 0 ⟨k + a.val, by omega⟩ r rfl rfl (Nat.zero_add _).symm).symm)

theorem sec8 {k s : ℕ} {inb} (hs : s = 1536 + k) (hk : k ≤ 2048) (a : Fin 512) (r : Fin 384) : ∑ d, tl m c t (ix2 r d) * rd m c t s inb (ix2 a d) = g8 m c t (ix3 0 ⟨k + a.val, by omega⟩ r) :=
  psec r a _ (by show 1536 + (k + a.val) = s + a.val; omega)

theorem o8 : (outsAt0 m c t).2.2.1 = g8 m c t := by
  funext y
  unfold outsAt0 out0_A_8
  dsimp only
  refine View.read_writes_apply_of_pieces VO0_8 VO0_8.junk (g8 m c t) _ ?_ y (cover0_A_8 ..)
  unfold kernelRun0_A
  dsimp only
  sl_unfold_words
  simp only [whole_cov, whole_read, Memref.IsWhole.read_unread, List.forall_mem_cons]
  refine ⟨tile (by decide) fun a r => Eq.trans ?_ (sec8 m c t (inb := inb_S4112x1024_S512x1024_3584_0) rfl (by decide) a r), tile (by decide) fun a r => Eq.trans ?_ (sec8 m c t (inb := inb_S4112x1024_S512x1024_3072_0) rfl (by decide) a r), tile (by decide) fun a r => Eq.trans ?_ (sec8 m c t (inb := inb_S4112x1024_S512x1024_2560_0) rfl (by decide) a r), tile (by decide) fun a r => Eq.trans ?_ (sec8 m c t (inb := inb_S4112x1024_S512x1024_2048_0) rfl (by decide) a r), tile (by decide) fun a r => Eq.trans ?_ (sec8 m c t (inb := inb_S4112x1024_S512x1024_1536_0) rfl (by decide) a r), fun _ h => absurd h List.not_mem_nil⟩
  all_goals pointwise [k0_pay1, k0_pay2, k0_pay28, k0_pay29, k0_pay30, k0_pay31]

theorem sum9 {inb} (a : Fin 8) (r : Fin 384) : ∑ d, View.readAt (Elt Ideal) (ms0_5 t).view (Rect.unit (s := S4112x1024) ![4096, 0] ![16, 1024] inb).toLoadRect ((hs0_5 t).unread (wt m c t)) (ix2 ⟨a.val, by omega⟩ d) * tl m c t (ix2 r d)
    = g9 m c t (ix2 a r) := by
  show _ = ∑ d, tl m c t (ix2 r d) * wt m c t (ix2 ⟨4096 + a.val, by omega⟩ d)
  refine Finset.sum_congr rfl fun d _ => ?_
  rw [sec (hs0_5 t) (wt m c t) 4096 inb ⟨a.val, by omega⟩ d ⟨4096 + a.val, by omega⟩ rfl]
  exact EReal.mul_comm _ _

theorem o9 : (outsAt0 m c t).2.2.2.1 = g9 m c t := by
  unfold outsAt0 out0_A_9 kernelRun0_A
  dsimp only
  sl_unfold_words
  simp only [whole_writes, whole_cov, whole_read, Memref.IsWhole.read_unread]
  funext y
  obtain ⟨a, r, rfl⟩ := ex2 (a := 8) (b := 384) y
  exact (pf ..).trans (sum9 m c t a r)

theorem toks {w : Vec Ideal S1x384x64 .bf16} {G : Vec Ideal S8x384x64 .bf16} {k : ℕ} {inb'} (hk : k < 8) (h : ∀ (r : Fin 384) (e : Fin 64), w (ix3 0 r e) = G (ix3 ⟨k, hk⟩ r e))
    (x : (Rect.unit (s := S8x384x64) ![k, 0, 0] ![1, 384, 64] inb').shape.Idx) : w x = G ((Rect.unit (s := S8x384x64) ![k, 0, 0] ![1, 384, 64] inb').emb x) := by
  obtain ⟨z, r, e, rfl⟩ := ex3 (a := 1) (b := 384) (c := 64) x
  obtain rfl : z = 0 := Subsingleton.elim _ _
  exact (h r e).trans (congrArg G (AttnBuffers.emb3 _ 0 r e ⟨k, hk⟩ r e rfl (Nat.zero_add _).symm (Nat.zero_add _).symm).symm)

theorem sect {k b : ℕ} {inb} (hb : b ≤ 1024) (hk : k < 8) (r : Fin 384) (e : Fin 64) : ∑ d, tl m c t (ix2 r d) * rd m c t b inb (ix2 ⟨64 * k + e.val, by omega⟩ d) = gt m c t b hb (ix3 ⟨k, hk⟩ r e) :=
  psec r _ _ rfl

theorem o10 : (outsAt0 m c t).2.2.2.2.1 = gt m c t 512 (by decide) := by
  funext y
  unfold outsAt0 out0_A_10
  dsimp only
  refine View.read_writes_apply_of_pieces VO0_10 VO0_10.junk (gt m c t 512 (by decide)) _ ?_ y (cover0_A_10 ..)
  unfold kernelRun0_A
  dsimp only
  sl_unfold_words
  simp only [whole_cov, whole_read, Memref.IsWhole.read_unread, List.forall_mem_cons]
  refine ⟨toks (by decide) fun r e => Eq.trans ?_ (sect m c t (inb := inb_S4112x1024_S512x1024_512_0) (by decide) (by decide) r e), toks (by decide) fun r e => Eq.trans ?_ (sect m c t (inb := inb_S4112x1024_S512x1024_512_0) (by decide) (by decide) r e), toks (by decide) fun r e => Eq.trans ?_ (sect m c t (inb := inb_S4112x1024_S512x1024_512_0) (by decide) (by decide) r e), toks (by decide) fun r e => Eq.trans ?_ (sect m c t (inb := inb_S4112x1024_S512x1024_512_0) (by decide) (by decide) r e),
    toks (by decide) fun r e => Eq.trans ?_ (sect m c t (inb := inb_S4112x1024_S512x1024_512_0) (by decide) (by decide) r e), toks (by decide) fun r e => Eq.trans ?_ (sect m c t (inb := inb_S4112x1024_S512x1024_512_0) (by decide) (by decide) r e), toks (by decide) fun r e => Eq.trans ?_ (sect m c t (inb := inb_S4112x1024_S512x1024_512_0) (by decide) (by decide) r e), toks (by decide) fun r e => Eq.trans ?_ (sect m c t (inb := inb_S4112x1024_S512x1024_512_0) (by decide) (by decide) r e), fun _ h => absurd h List.not_mem_nil⟩
  all_goals pointwise [k0_pay6, k0_pay7, k0_pay8, k0_pay9, k0_pay10, k0_pay11, k0_pay12, k0_pay13, k0_pay14, k0_pay15]

theorem o11 : (outsAt0 m c t).2.2.2.2.2 = gt m c t 1024 (by decide) := by
  funext y
  unfold outsAt0 out0_A_11
  dsimp only
  refine View.read_writes_apply_of_pieces VO0_11 VO0_11.junk (gt m c t 1024 (by decide)) _ ?_ y (cover0_A_11 ..)
  unfold kernelRun0_A
  dsimp only
  sl_unfold_words
  simp only [whole_cov, whole_read, Memref.IsWhole.read_unread, List.forall_mem_cons]
  refine ⟨toks (by decide) fun r e => Eq.trans ?_ (sect m c t (inb := inb_S4112x1024_S512x1024_1024_0) (by decide) (by decide) r e), toks (by decide) fun r e => Eq.trans ?_ (sect m c t (inb := inb_S4112x1024_S512x1024_1024_0) (by decide) (by decide) r e), toks (by decide) fun r e => Eq.trans ?_ (sect m c t (inb := inb_S4112x1024_S512x1024_1024_0) (by decide) (by decide) r e), toks (by decide) fun r e => Eq.trans ?_ (sect m c t (inb := inb_S4112x1024_S512x1024_1024_0) (by decide) (by decide) r e),
    toks (by decide) fun r e => Eq.trans ?_ (sect m c t (inb := inb_S4112x1024_S512x1024_1024_0) (by decide) (by decide) r e), toks (by decide) fun r e => Eq.trans ?_ (sect m c t (inb := inb_S4112x1024_S512x1024_1024_0) (by decide) (by decide) r e), toks (by decide) fun r e => Eq.trans ?_ (sect m c t (inb := inb_S4112x1024_S512x1024_1024_0) (by decide) (by decide) r e), toks (by decide) fun r e => Eq.trans ?_ (sect m c t (inb := inb_S4112x1024_S512x1024_1024_0) (by decide) (by decide) r e), fun _ h => absurd h List.not_mem_nil⟩
  all_goals pointwise [k0_pay17, k0_pay18, k0_pay19, k0_pay20, k0_pay21, k0_pay22, k0_pay23, k0_pay24, k0_pay25, k0_pay26]

end Cert.ProjBlock
-- ==== Proof.ProjReferenceValue.lean ====
/-
  The projection's reference: the entries of its results.
-/
module

public import proofs.«01_k».proof.Proof.InputReferenceValue
public import proofs.«01_k».proof.Proof.AttnEntries
public import proofs.«01_k».proof.Proof.AttnOut
public import proofs.«01_k».proof.Proof.Gen.ProjReferenceIdeal.Run

@[expose] public section

set_option maxRecDepth 65536

noncomputable section

namespace Cert.ProjReferenceValue

open Cert.ProjReferenceIdeal Cert.ProjReferenceIdeal.Gen
open Cert.InputReferenceValue (rows means wide)
open Cert.AttnTile (col ex3)
open Cert.AttnOut (ex2)
open Cert.AttnEntries (padding_zero bits_eighth bits_two)
open Idealize.ShloMosaic Idealize.ShloMosaic.TcCoe Idealize.SL.Sem

variable (x : FVec Ideal S4096x1024 .f32) (mt : FVec Ideal S16x1024 .f32) (g : FVec Ideal S1024 .f32) (w : FVec Ideal S1024x4104 .f32)

/-- The normalised rows after the gain. -/
def normed : FVec Ideal S4112x1024 .f32 :=
  mulf (mulf (rows x mt) (wide (Host.rsqrt (means (rows x mt))))) (broadcastInDim S4112x1024 ![0, 1] bcast_S1x1024_S4112x1024_0_1 (broadcastInDim S1x1024 ![1] bcast_S1024_S1x1024_1 g))

/-- Their projection. -/
def proj : FVec Ideal S4112x4104 .f32 := Host.dotGeneral dot_S4112x1024_S1024x4104_S4112x4104_1_0_0_1_n_n none (normed x mt g) w

/-- A row's entry at a position, zero at the empty ones. -/
def padded {n : ℕ} (p : FVec Ideal (Shape.mk 2 ![4112, n]) .f32) (l : Fin 4224) (e : Fin n) : EReal := if h : 112 ≤ l.val then p (ix2 ⟨l.val - 112, by omega⟩ e) else 0

/-- The zero a pad sets. -/
abbrev z : FVec Ideal S_ .f32 := sitofp .f32 (constantI S_ 32 0#32)

variable (p : FVec Ideal S4112x4104 .f32)

/-- The rows behind the empty positions. -/
def resU (u : FVec Ideal S4112x1024 .f32) : FVec Ideal S4224x1024 .bf16 := truncf .bf16 (pad S4224x1024 ![112, 0] ![0, 0] ![0, 0] u z pads_S4112x1024_S4224x1024_11200_000 h_S_) bitsLt_bf16_f32

/-- 512 columns behind the empty positions. -/
abbrev behind (a : FVec Ideal S4112x512 .f32) : FVec Ideal S4224x512 .f32 := pad S4224x512 ![112, 0] ![0, 0] ![0, 0] a z pads_S4112x512_S4224x512_11200_000 h_S_

/-- The scaled queries. -/
def query : FVec Ideal S4112x512 .f32 := Host.divf (mulf (extractStridedSlice S4112x512 ![0, 0] p slices_S4112x4104_S4112x512_0_0) (broadcastInDim S4112x512 ![] bcast_S_S4112x512 (constant S_ .f32 0x3E000000#32))) (broadcastInDim S4112x512 ![] bcast_S_S4112x512 (Host.log (constant S_ .f32 0x40000000#32)))

/-- The columns of queries, keys and values, one row each. -/
def resC : FVec Ideal S1536x4224 .bf16 :=
  truncf .bf16 (concatenate S1536x4224 0 [⟨S512x4224, transpose S512x4224 [1, 0] (behind (query p)) transposes_S4224x512_S512x4224_1_0⟩,
    ⟨S512x4224, transpose S512x4224 [1, 0] (behind (extractStridedSlice S4112x512 ![0, 512] p slices_S4112x4104_S4112x512_0_512)) transposes_S4224x512_S512x4224_1_0⟩,
    ⟨S512x4224, transpose S512x4224 [1, 0] (behind (extractStridedSlice S4112x512 ![0, 1024] p slices_S4112x4104_S4112x512_0_1024)) transposes_S4224x512_S512x4224_1_0⟩]
    concatenates_S512x4224_S512x4224_S512x4224_S1536x4224_d0) bitsLt_bf16_f32

/-- The gates' columns by tile. -/
def resT : FVec Ideal S11x2560x384 .bf16 :=
  truncf .bf16 (transpose S11x2560x384 [0, 2, 1] (shapeCast _ (pad S4224x2560 ![112, 0] ![0, 0] ![0, 0] (extractStridedSlice S4112x2560 ![0, 1544] p slices_S4112x4104_S4112x2560_0_1544) z pads_S4112x2560_S4224x2560_11200_000 h_S_) shapeCasts_S4224x2560_S11x384x2560) transposes_S11x384x2560_S11x2560x384_0_2_1) bitsLt_bf16_f32

/-- The forget gate's columns. -/
def resF : FVec Ideal S8x4224 .f32 :=
  transpose S8x4224 [1, 0] (pad S4224x8 ![112, 0] ![0, 0] ![0, 0] (extractStridedSlice S4112x8 ![0, 1536] p slices_S4112x4104_S4112x8_0_1536) z pads_S4112x8_S4224x8_11200_000 h_S_) transposes_S4224x8_S8x4224_1_0

/-- 512 columns by head. -/
def heads (a : FVec Ideal S4112x512 .f32) : FVec Ideal S8x4224x64 .bf16 :=
  truncf .bf16 (transpose S8x4224x64 [1, 0, 2] (shapeCast _ (behind a) shapeCasts_S4224x512_S4224x8x64) transposes_S4224x8x64_S8x4224x64_1_0_2) bitsLt_bf16_f32

def resK : FVec Ideal S8x4224x64 .bf16 := heads (extractStridedSlice S4112x512 ![0, 512] p slices_S4112x4104_S4112x512_0_512)
def resV : FVec Ideal S8x4224x64 .bf16 := heads (extractStridedSlice S4112x512 ![0, 1024] p slices_S4112x4104_S4112x512_0_1024)

section Run

variable (m : (ℓ : Loc nD τ sig) → Buf (Elt Ideal) ℓ) (c : Dev nD)

abbrev nm : FVec Ideal S4112x1024 .f32 := normed (m ((c.tc : Thread nD τ).loc main_arg0)) (m ((c.tc : Thread nD τ).loc main_arg1)) (m ((c.tc : Thread nD τ).loc main_arg2))
abbrev pj : FVec Ideal S4112x4104 .f32 := proj (m ((c.tc : Thread nD τ).loc main_arg0)) (m ((c.tc : Thread nD τ).loc main_arg1)) (m ((c.tc : Thread nD τ).loc main_arg2)) (m ((c.tc : Thread nD τ).loc main_arg3))

theorem results (ρ : Dev nD → PrngReg) : θ_run defs (onTc (τ := τ) (main (F := Ideal))) ⟨m, fun _ => 0, ρ⟩ fun r => ∀ c : Dev nD,
    r.2.mem ((c.tc : Thread nD τ).loc main_v36) = resU (nm m c)
    ∧ r.2.mem ((c.tc : Thread nD τ).loc main_v37) = resC (pj m c)
    ∧ r.2.mem ((c.tc : Thread nD τ).loc main_v38) = resT (pj m c)
    ∧ r.2.mem ((c.tc : Thread nD τ).loc main_v40) = resF (pj m c)
    ∧ r.2.mem ((c.tc : Thread nD τ).loc main_v44) = resK (pj m c)
    ∧ r.2.mem ((c.tc : Thread nD τ).loc main_v48) = resV (pj m c) :=
  (θ_run defs _ _).mono (fun _ h c => ⟨(h c).1, (h c).2.1, (h c).2.2.1, (h c).2.2.2.1, (h c).2.2.2.2.1, (h c).2.2.2.2.2.1⟩) (Value.run m ρ)

end Run

/-! ## The entries -/

variable {x mt g w p}

theorem rows_apply (i : Fin 4112) (d : Fin 1024) : rows x mt (ix2 i d) = if h : i.val < 16 then mt (ix2 ⟨i.val, h⟩ d) else x (ix2 ⟨i.val - 16, by omega⟩ d) := by
  unfold rows
  pointwise

theorem normed_apply (i : Fin 4112) (d : Fin 1024) : normed x mt g (ix2 i d) = rows x mt (ix2 i d)
    * Ideal.rsqrt (Ideal.div (∑ e, rows x mt (ix2 i e) * rows x mt (ix2 i e)) (Ideal.ofBits .f32 0x44800000#32) + Ideal.ofBits .f32 0x358637BD#32) * g (ix1 d) := by
  unfold normed
  generalize rows x mt = h
  pointwise [means, wide]

theorem proj_apply (i : Fin 4112) (e : Fin 4104) : proj x mt g w (ix2 i e) = ∑ d, normed x mt g (ix2 i d) * w (ix2 d e) := by
  unfold proj
  pointwise

theorem resU_apply (u : FVec Ideal S4112x1024 .f32) (l : Fin 4224) (d : Fin 1024) : resU u (ix2 l d) = padded u l d := by
  unfold resU padded
  pointwise
  by_cases h : 112 ≤ l.val
  · rw [dif_pos h, dif_pos ⟨h, by omega⟩]
  · rw [dif_neg h, dif_neg (fun e => h e.1)]
    exact padding_zero

theorem behind_apply (a : FVec Ideal S4112x512 .f32) (l : Fin 4224) (e : Fin 512) : behind a (ix2 l e) = padded a l e := by
  unfold padded
  pointwise
  by_cases h : 112 ≤ l.val
  · rw [dif_pos h, dif_pos ⟨h, by omega⟩]
  · rw [dif_neg h, dif_neg (fun e => h e.1)]
    exact padding_zero

theorem cut512 (s : ℕ) (hs : s ≤ 1024) (h : S4112x4104.Slices ![0, s] S4112x512) (l : Fin 4224) (e : Fin 512) : padded (extractStridedSlice S4112x512 ![0, s] p h) l e = padded p l ⟨s + e.val, by omega⟩ := by
  unfold padded
  by_cases h : 112 ≤ l.val
  · rw [dif_pos h, dif_pos h]
    exact congrArg p (funext fun k => Fin.ext (by fin_cases k <;> simp))
  · rw [dif_neg h, dif_neg h]

theorem resF_apply (a : Fin 8) (l : Fin 4224) : resF p (ix2 a l) = padded p l ⟨1536 + a.val, by omega⟩ := by
  unfold resF padded
  pointwise
  by_cases h : 112 ≤ l.val
  · rw [dif_pos h, dif_pos ⟨h, by omega⟩]
  · rw [dif_neg h, dif_neg (fun e => h e.1)]
    exact padding_zero

theorem resT_apply (j : Fin 11) (a : Fin 2560) (r : Fin 384) : resT p (ix3 j a r) = padded p (col j r) ⟨1544 + a.val, by omega⟩ := by
  have e : resT p (ix3 j a r) = pad S4224x2560 ![112, 0] ![0, 0] ![0, 0] (extractStridedSlice S4112x2560 ![0, 1544] p slices_S4112x4104_S4112x2560_0_1544) z pads_S4112x2560_S4224x2560_11200_000 h_S_ (ix2 (col j r) a) := by
    unfold resT
    generalize pad S4224x2560 _ _ _ _ _ _ _ = q
    refine Eq.trans (b := shapeCast S11x384x2560 q shapeCasts_S4224x2560_S11x384x2560 (ix3 j r a)) (by pointwise) (shapeCast_apply _ _ _ (ix2 (col j r) a) (by
      rw [Shape.rowMajor_val_two, Shape.rowMajor_val_three]
      show (384 * j.val + r.val) * 2560 + a.val = (j.val * 384 + r.val) * 2560 + a.val
      omega))
  rw [e]
  unfold padded
  pointwise
  by_cases h : 112 ≤ (col j r).val
  · rw [dif_pos h, dif_pos ⟨h, by omega⟩]
  · rw [dif_neg h, dif_neg (fun e => h e.1)]
    exact padding_zero

theorem heads_apply (a : FVec Ideal S4112x512 .f32) (h : Fin 8) (l : Fin 4224) (e : Fin 64) : heads a (ix3 h l e) = padded a l ⟨64 * h.val + e.val, by omega⟩ := by
  rw [← behind_apply]
  unfold heads
  generalize behind a = q
  exact Eq.trans (b := shapeCast S4224x8x64 q shapeCasts_S4224x512_S4224x8x64 (ix3 l h e)) (by pointwise) (shapeCast_apply _ _ _ (ix2 l ⟨64 * h.val + e.val, by omega⟩) (by
    rw [Shape.rowMajor_val_two, Shape.rowMajor_val_three]
    show l.val * 512 + (64 * h.val + e.val) = (l.val * 8 + h.val) * 64 + e.val
    omega))

theorem scale_eq (y : EReal) : Ideal.div (y * Ideal.ofBits .f32 0x3E000000#32) (Ideal.log (Ideal.ofBits .f32 0x40000000#32)) = y * ((1 / 8 * (Real.log 2)⁻¹ : ℝ) : EReal) := by
  rw [bits_eighth, bits_two, Ideal.log_coe, if_neg (by norm_num), Ideal.div_coe (Real.log_ne_zero_of_pos_of_ne_one (by norm_num) (by norm_num)), mul_assoc, ← EReal.coe_mul, one_div (Real.log 2)]

theorem query_apply (i : Fin 4112) (a : Fin 512) : query p (ix2 i a) = p (ix2 i ⟨a.val, by omega⟩) * ((1 / 8 * (Real.log 2)⁻¹ : ℝ) : EReal) := by
  rw [← scale_eq]
  unfold query
  pointwise

theorem resC_apply (a : Fin 1536) (l : Fin 4224) : resC p (ix2 a l) = if a.val < 512 then padded p l ⟨a.val, by omega⟩ * ((1 / 8 * (Real.log 2)⁻¹ : ℝ) : EReal) else padded p l ⟨a.val, by omega⟩ := by
  have e : resC p (ix2 a l) = if h : a.val < 512 then behind (query p) (ix2 l ⟨a.val, h⟩)
      else if h : a.val - 512 < 512 then behind (extractStridedSlice S4112x512 ![0, 512] p slices_S4112x4104_S4112x512_0_512) (ix2 l ⟨a.val - 512, h⟩)
      else behind (extractStridedSlice S4112x512 ![0, 1024] p slices_S4112x4104_S4112x512_0_1024) (ix2 l ⟨a.val - 512 - 512, by omega⟩) := by
    unfold resC
    generalize behind (query p) = q1
    generalize behind (extractStridedSlice S4112x512 ![0, 512] p slices_S4112x4104_S4112x512_0_512) = q2
    generalize behind (extractStridedSlice S4112x512 ![0, 1024] p slices_S4112x4104_S4112x512_0_1024) = q3
    pointwise
  rw [e]
  by_cases h : a.val < 512
  · rw [dif_pos h, if_pos h, behind_apply]
    unfold padded
    by_cases h' : 112 ≤ l.val
    · rw [dif_pos h', dif_pos h', query_apply]
    · rw [dif_neg h', dif_neg h', zero_mul]
  · rw [dif_neg h, if_neg h]
    by_cases h' : a.val - 512 < 512
    · rw [dif_pos h', behind_apply, cut512 _ (by decide)]
      exact congrArg (padded p l) (Fin.ext (show 512 + (a.val - 512) = a.val by omega))
    · rw [dif_neg h', behind_apply, cut512 _ (by decide)]
      exact congrArg (padded p l) (Fin.ext (show 1024 + (a.val - 512 - 512) = a.val by omega))

theorem resK_apply (h : Fin 8) (l : Fin 4224) (e : Fin 64) : resK p (ix3 h l e) = padded p l ⟨512 + (64 * h.val + e.val), by omega⟩ :=
  (heads_apply _ h l e).trans (cut512 _ (by decide) _ _ _)
theorem resV_apply (h : Fin 8) (l : Fin 4224) (e : Fin 64) : resV p (ix3 h l e) = padded p l ⟨1024 + (64 * h.val + e.val), by omega⟩ :=
  (heads_apply _ h l e).trans (cut512 _ (by decide) _ _ _)

end Cert.ProjReferenceValue

end
-- ==== Proof.ProjFinal.lean ====
/-
  The projection kernel's results are the reference's.
-/
module

public import proofs.«01_k».proof.Proof.ProjBlock
public import proofs.«01_k».proof.Proof.ProjReferenceValue
public import proofs.«01_k».proof.Proof.InputTile

@[expose] public section

set_option maxRecDepth 65536

noncomputable section

namespace Cert.ProjFinal

open Cert.ProjKernelIdeal Cert.ProjKernelIdeal.Gen Cert.ProjBlock Cert.ProjReferenceValue
open Cert.InputReferenceValue (rows)
open Cert.AttnTile (col ex3)
open Cert.AttnOut (ex2)
open Idealize.ShloMosaic Idealize.ShloMosaic.TcCoe Idealize.SL.Sem

theorem idx0 : ∀ t : Fin cfg0.N, win0_0.index t = ![3 * t.val - 1, 0] := (by decide +kernel : ∀ t : Fin grid0.N, win0_0.index t = ![3 * t.val - 1, 0])
theorem idx1 : ∀ t : Fin cfg0.N, win0_1.index t = ![3 * t.val, 0] := (by decide +kernel : ∀ t : Fin grid0.N, win0_1.index t = ![3 * t.val, 0])
theorem idx2 : ∀ t : Fin cfg0.N, win0_2.index t = ![3 * t.val + 1, 0] := (by decide +kernel : ∀ t : Fin grid0.N, win0_2.index t = ![3 * t.val + 1, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0] := (by decide +kernel : ∀ t : Fin grid0.N, win0_6.index t = ![t.val, 0])
theorem idx7 : ∀ t : Fin cfg0.N, win0_7.index t = ![0, t.val] := (by decide +kernel : ∀ t : Fin grid0.N, win0_7.index t = ![0, t.val])
theorem idx8 : ∀ t : Fin cfg0.N, win0_8.index t = ![t.val, 0, 0] := (by decide +kernel : ∀ t : Fin grid0.N, win0_8.index t = ![t.val, 0, 0])
theorem idx9 : ∀ t : Fin cfg0.N, win0_9.index t = ![0, t.val] := (by decide +kernel : ∀ t : Fin grid0.N, win0_9.index t = ![0, t.val])
theorem idx10 : ∀ t : Fin cfg0.N, win0_10.index t = ![0, t.val, 0] := (by decide +kernel : ∀ t : Fin grid0.N, win0_10.index t = ![0, t.val, 0])
theorem idx11 : ∀ t : Fin cfg0.N, win0_11.index t = ![0, t.val, 0] := (by decide +kernel : ∀ t : Fin grid0.N, win0_11.index t = ![0, t.val, 0])
theorem at_point : ∀ t : Fin cfg0.N, (BitVec.ofNat 32 (grid0.coords t 0).val = 0#32 ↔ t.val = 0) := (by decide +kernel : ∀ t : Fin grid0.N, (BitVec.ofNat 32 (grid0.coords t 0).val = 0#32 ↔ t.val = 0))

/-- The point as a tile's number. -/
def tileOf (t : Fin cfg0.N) : Fin 11 := ⟨t.val, lt_of_lt_of_eq t.isLt N_0⟩

variable (m : (ℓ : Loc nD τ sig) → Buf (Elt Ideal) ℓ) (c : Dev nD)

abbrev argX : FVec Ideal S4096x1024 .f32 := m ((c.tc : Thread nD τ).loc main_arg0)
abbrev argM : FVec Ideal S16x1024 .f32 := m ((c.tc : Thread nD τ).loc main_arg1)
abbrev argG : FVec Ideal S1024 .f32 := m ((c.tc : Thread nD τ).loc main_arg2)
abbrev argW : FVec Ideal S1024x4104 .f32 := m ((c.tc : Thread nD τ).loc main_arg3)

theorem found : (V m c main_v6 : FVec Ideal S4112x1024 .bf16) = InputHost.weights (argW m c)
    ∧ (V m c main_v7 : FVec Ideal S1x1024 .f32) = shapeCast S1x1024 (argG m c) shapeCasts_S1024_S1x1024
    ∧ (V m c main_arg0 : FVec Ideal S4096x1024 .f32) = argX m c
    ∧ (V m c main_arg1 : FVec Ideal S16x1024 .f32) = argM m c := by
  refine ⟨?_, ?_, ?_, ?_⟩
  all_goals
    simp only [V, hostOps0, List.flatten_cons, List.flatten_nil, List.cons_append, List.nil_append, StableHlo.TRef.binary, StableHlo.TRef.nullary, StableHlo.TRef.ternary,
      StableHlo.TRef.unary, StableHlo.TRef.toBuf, StableHlo.TRef.ofBuf, cast_eq]
    after_results_simp <;> rfl

section Blocks

variable (t : Fin cfg0.N)

theorem blk0 (ht : 1 ≤ t.val) (r : Fin 128) (d : Fin 1024) : iblk m c 0 t (ix2 r d) = V m c main_arg0 (ix2 ⟨384 * t.val - 128 + r.val, by have := (tileOf t).isLt; have : (tileOf t).val = t.val := rfl; omega⟩ d) := by
  blk_ext [iblk, idx0 t]
theorem blk1 (r : Fin 128) (d : Fin 1024) : iblk m c 1 t (ix2 r d) = V m c main_arg0 (ix2 ⟨384 * t.val + r.val, by have := (tileOf t).isLt; have : (tileOf t).val = t.val := rfl; omega⟩ d) := by
  blk_ext [iblk, idx1 t]
theorem blk2 (r : Fin 128) (d : Fin 1024) : iblk m c 2 t (ix2 r d) = V m c main_arg0 (ix2 ⟨384 * t.val + 128 + r.val, by have := (tileOf t).isLt; have : (tileOf t).val = t.val := rfl; omega⟩ d) := by
  blk_ext [iblk, idx2 t]
theorem blk3 (r : Fin 16) (d : Fin 1024) : iblk m c 3 t (ix2 r d) = V m c main_arg1 (ix2 r d) := by
  blk_ext [iblk, idx3 t]
theorem blk4 (r : Fin 1) (d : Fin 1024) : iblk m c 4 t (ix2 r d) = V m c main_v7 (ix2 r d) := by
  blk_ext [iblk, idx4 t]
theorem blk5 (k : Fin 4112) (d : Fin 1024) : iblk m c 5 t (ix2 k d) = V m c main_v6 (ix2 k d) := by
  blk_ext [iblk, idx5 t]

theorem emb6 (r : Fin 384) (d : Fin 1024) : ((win0_6.blk t).view.emb (ix2 r d) : S4224x1024.Idx) = ix2 (col (tileOf t) r) d := by
  blk_ext [idx6 t, col, tileOf]
theorem emb7 (a : Fin 1536) (r : Fin 384) : ((win0_7.blk t).view.emb (ix2 a r) : S1536x4224.Idx) = ix2 a (col (tileOf t) r) := by
  blk_ext [idx7 t, col, tileOf]
theorem emb8 (z : Fin 1) (a : Fin 2560) (r : Fin 384) : ((win0_8.blk t).view.emb (ix3 z a r) : S11x2560x384.Idx) = ix3 (tileOf t) a r := by
  blk_ext [idx8 t, tileOf]
theorem emb9 (a : Fin 8) (r : Fin 384) : ((win0_9.blk t).view.emb (ix2 a r) : S8x4224.Idx) = ix2 a (col (tileOf t) r) := by
  blk_ext [idx9 t, col, tileOf]
theorem emb10 (h : Fin 8) (r : Fin 384) (e : Fin 64) : ((win0_10.blk t).view.emb (ix3 h r e) : S8x4224x64.Idx) = ix3 h (col (tileOf t) r) e := by
  blk_ext [idx10 t, col, tileOf]
theorem emb11 (h : Fin 8) (r : Fin 384) (e : Fin 64) : ((win0_11.blk t).view.emb (ix3 h r e) : S8x4224x64.Idx) = ix3 h (col (tileOf t) r) e := by
  blk_ext [idx11 t, col, tileOf]

variable (r : Fin 384) (d : Fin 1024)

/-- The kernel's rows, as the reference has them. -/
abbrev hd : FVec Ideal Cert.ProjReferenceIdeal.S4112x1024 .f32 := rows (argX m c) (argM m c)
abbrev nd : FVec Ideal Cert.ProjReferenceIdeal.S4112x1024 .f32 := normed (argX m c) (argM m c) (argG m c)
abbrev pd : FVec Ideal Cert.ProjReferenceIdeal.S4112x4104 .f32 := proj (argX m c) (argM m c) (argG m c) (argW m c)

theorem hd_empty (l : Fin 4224) (h : ¬ 112 ≤ l.val) : padded (hd m c) l d = 0 := by
  unfold padded
  rw [dif_neg h]
theorem hd_learned (l : Fin 4224) (i : Fin 16) (h : l.val = 112 + i.val) : padded (hd m c) l d = argM m c (ix2 i d) := by
  unfold padded
  rw [dif_pos (by omega)]
  exact ((rows_apply _ d).trans (dif_pos (show l.val - 112 < 16 by omega))).trans <| congrArg (fun i => argM m c (ix2 i d)) (Fin.ext (show l.val - 112 = i.val by omega))
theorem hd_token (l : Fin 4224) (i : Fin 4096) (h : l.val = 128 + i.val) : padded (hd m c) l d = argX m c (ix2 i d) := by
  unfold padded
  rw [dif_pos (by omega)]
  exact ((rows_apply _ d).trans (dif_neg (show ¬ l.val - 112 < 16 by omega))).trans <| congrArg (fun i => argX m c (ix2 i d)) (Fin.ext (show l.val - 112 - 16 = i.val by omega))

/-- The tile of rows before they are normalised. -/
abbrev tile0 : FVec Ideal Cert.InputKernelIdeal.S384x1024 .f32 :=
  InputKernelIdeal.Gen.k0_pay5 (BitVec.ofNat 32 (grid0.coords t 0).val) (iblk m c 3 t) (iblk m c 0 t) (iblk m c 1 t) (iblk m c 2 t)

theorem tile0_eq : tile0 m c t (ix2 r d) = padded (hd m c) (col (tileOf t) r) d := by
  have hc : (col (tileOf t) r).val = 384 * t.val + r.val := rfl
  have e0 := (found m c).2.2.1
  have e1 := (found m c).2.2.2
  unfold tile0
  rw [InputTile.pay5_apply]
  by_cases h1 : r.val < 128
  · rw [dif_pos h1]
    by_cases ht : t.val = 0
    · rw [if_pos ((at_point t).mpr ht)]
      by_cases h2 : r.val < 112
      · rw [dif_pos h2]
        exact (hd_empty m c d _ (show ¬ 112 ≤ (col (tileOf t) r).val by omega)).symm
      · rw [dif_neg h2, blk3, hd_learned m c d _ ⟨r.val - 112, by omega⟩ (show (col (tileOf t) r).val = 112 + (r.val - 112) by omega)]
        exact congrFun e1 _
    · rw [if_neg (fun e => ht ((at_point t).mp e)), blk0 m c t (by omega)]
      exact (congrFun e0 _).trans (hd_token m c d _ _ (by show (col (tileOf t) r).val = 128 + (384 * t.val - 128 + r.val); omega)).symm
  · rw [dif_neg h1]
    by_cases h2 : r.val - 128 < 128
    · rw [dif_pos h2, blk1]
      exact (congrFun e0 _).trans (hd_token m c d _ _ (by show (col (tileOf t) r).val = 128 + (384 * t.val + (r.val - 128)); omega)).symm
    · rw [dif_neg h2, blk2]
      exact (congrFun e0 _).trans (hd_token m c d _ _ (by show (col (tileOf t) r).val = 128 + (384 * t.val + 128 + (r.val - 128 - 128)); omega)).symm

theorem gain_eq : iblk m c 4 t (ix2 0 d) = argG m c (ix1 d) := by
  rw [blk4]
  refine (congrFun (found m c).2.1 _).trans ?_
  exact shapeCast_apply _ _ (ix2 0 d) (ix1 d) (by
    rw [Shape.rowMajor_val_two, Shape.rowMajor_val_one]
    show d.val = 0 * 1024 + d.val
    omega)

theorem tl_eq : tl m c t (ix2 r d) = padded (nd m c) (col (tileOf t) r) d := by
  have e : tl m c t (ix2 r d) = tile0 m c t (ix2 r d) * InputKernelIdeal.Gen.k0_pay6 (BitVec.ofNat 32 (grid0.coords t 0).val) (iblk m c 3 t) (iblk m c 0 t) (iblk m c 1 t) (iblk m c 2 t) (ix2 r 0) * iblk m c 4 t (ix2 0 d) := by
    have e' : tl m c t = truncf .bf16 (mulf (mulf (tile0 m c t) (broadcastTo S384x1024 (InputKernelIdeal.Gen.k0_pay6 (BitVec.ofNat 32 (grid0.coords t 0).val) (iblk m c 3 t) (iblk m c 0 t) (iblk m c 1 t) (iblk m c 2 t)) broadcasts_S384x1_S384x1024))
      (broadcastTo S384x1024 (iblk m c 4 t) broadcasts_S1x1024_S384x1024)) bitsLt_bf16_f32 := by
      unfold tl k0_pay4
      dsimp only
      rw [shapeCast_self]
      rfl
    have key : ∀ (a1 : FVec Ideal S384x1024 .f32) (a2 : FVec Ideal S384x1 .f32) (a3 : FVec Ideal S1x1024 .f32), truncf .bf16 (mulf (mulf a1 (broadcastTo S384x1024 a2 broadcasts_S384x1_S384x1024))
        (broadcastTo S384x1024 a3 broadcasts_S1x1024_S384x1024)) bitsLt_bf16_f32 (ix2 r d) = a1 (ix2 r d) * a2 (ix2 r 0) * a3 (ix2 0 d) := fun a1 a2 a3 => by pointwise
    exact (congrFun e' _).trans (key _ _ _)
  rw [e, InputTile.pay6_apply, tile0_eq, gain_eq]
  simp only [tile0_eq]
  unfold padded
  by_cases h : 112 ≤ (col (tileOf t) r).val
  · simp only [dif_pos h]
    exact (normed_apply _ d).symm
  · simp only [dif_neg h]
    rw [zero_mul, zero_mul]

theorem pr_eq (k : Fin 4112) (e : Fin 4104) (h : InputHost.colOf k.val = e.val) : pr m c t r k = padded (pd m c) (col (tileOf t) r) e := by
  have hw : ∀ d, wt m c t (ix2 k d) = argW m c (ix2 d e) := fun d => by
    rw [wt, blk5]
    exact (congrFun (found m c).1 _).trans (InputHost.weights_col (argW m c) k e h d)
  unfold pr
  simp only [tl_eq, hw]
  unfold padded
  by_cases h : 112 ≤ (col (tileOf t) r).val
  · simp only [dif_pos h]
    exact (proj_apply _ e).symm
  · simp only [dif_neg h, zero_mul, Finset.sum_const_zero]

end Blocks

/-! ## The arrays -/

theorem final6 : (dats m 0 c).arrAt 6 cfg0.N = (resU (nd m c) : FVec Ideal S4224x1024 .bf16) :=
  (dats m 0 c).arrAt_eq_of_covers 6 _ (by decide +kernel) fun t hf y => by
    rw [after0_6, o6]
    blk_simp [idx6 t]
    obtain ⟨r, d, rfl⟩ := ex2 (a := 384) (b := 1024) y
    exact ((tl_eq m c t r d).trans (resU_apply _ _ _).symm).trans (congrArg (resU (nd m c)) (emb6 t r d).symm)

theorem final7 : (dats m 0 c).arrAt 7 cfg0.N = (resC (pd m c) : FVec Ideal S1536x4224 .bf16) :=
  (dats m 0 c).arrAt_eq_of_covers 7 _ (by decide +kernel) fun t hf y => by
    rw [after0_7, o7]
    blk_simp [idx7 t]
    obtain ⟨a, r, rfl⟩ := ex2 (a := 1536) (b := 384) y
    refine Eq.trans ?_ (congrArg (resC (pd m c)) (emb7 t a r).symm)
    rw [resC_apply]
    show (if a.val < 512 then pr m c t r ⟨a.val, _⟩ * qs else pr m c t r ⟨a.val, _⟩) = _
    rw [pr_eq m c t r ⟨a.val, by omega⟩ ⟨a.val, by omega⟩ (if_pos a.isLt)]
    rfl

theorem final8 : (dats m 0 c).arrAt 8 cfg0.N = (resT (pd m c) : FVec Ideal S11x2560x384 .bf16) :=
  (dats m 0 c).arrAt_eq_of_covers 8 _ (by decide +kernel) fun t hf y => by
    rw [after0_8, o8]
    blk_simp [idx8 t]
    obtain ⟨z, a, r, rfl⟩ := ex3 (a := 1) (b := 2560) (c := 384) y
    refine Eq.trans ?_ (congrArg (resT (pd m c)) (emb8 t z a r).symm)
    rw [resT_apply]
    exact pr_eq m c t r _ _ (show InputHost.colOf (1536 + a.val) = 1544 + a.val by unfold InputHost.colOf; rw [if_neg (by omega), if_pos (by omega)]; omega)

theorem final9 : (dats m 0 c).arrAt 9 cfg0.N = (resF (pd m c) : FVec Ideal S8x4224 .f32) :=
  (dats m 0 c).arrAt_eq_of_covers 9 _ (by decide +kernel) fun t hf y => by
    rw [after0_9, o9]
    blk_simp [idx9 t]
    obtain ⟨a, r, rfl⟩ := ex2 (a := 8) (b := 384) y
    refine Eq.trans ?_ (congrArg (resF (pd m c)) (emb9 t a r).symm)
    rw [resF_apply]
    exact pr_eq m c t r _ _ (show InputHost.colOf (4096 + a.val) = 1536 + a.val by unfold InputHost.colOf; rw [if_neg (by omega), if_neg (by omega), if_pos (by omega)]; omega)

theorem final10 : (dats m 0 c).arrAt 10 cfg0.N = (resK (pd m c) : FVec Ideal S8x4224x64 .bf16) :=
  (dats m 0 c).arrAt_eq_of_covers 10 _ (by decide +kernel) fun t hf y => by
    rw [after0_10, o10]
    blk_simp [idx10 t]
    obtain ⟨h, r, e, rfl⟩ := ex3 (a := 8) (b := 384) (c := 64) y
    refine Eq.trans ?_ (congrArg (resK (pd m c)) (emb10 t h r e).symm)
    rw [resK_apply]
    exact pr_eq m c t r _ _ (if_pos (show 512 + (64 * h.val + e.val) < 1536 by omega))

theorem final11 : (dats m 0 c).arrAt 11 cfg0.N = (resV (pd m c) : FVec Ideal S8x4224x64 .bf16) :=
  (dats m 0 c).arrAt_eq_of_covers 11 _ (by decide +kernel) fun t hf y => by
    rw [after0_11, o11]
    blk_simp [idx11 t]
    obtain ⟨h, r, e, rfl⟩ := ex3 (a := 8) (b := 384) (c := 64) y
    refine Eq.trans ?_ (congrArg (resV (pd m c)) (emb11 t h r e).symm)
    rw [resV_apply]
    exact pr_eq m c t r _ _ (if_pos (show 1024 + (64 * h.val + e.val) < 1536 by omega))

end Cert.ProjFinal

end
-- ==== Proof.ProjAgree.lean ====
/-
  What is claimed of the projection pair.
-/
module

public import proofs.«01_k».proof.Defs
public import proofs.«01_k».proof.Proof.Gen.ProjKernel.Frame
public import proofs.«01_k».proof.Proof.ProjFinal

@[expose] public section

noncomputable section

namespace Cert.ProjAgree

open Idealize.ShloMosaic Idealize.ShloMosaic.TcCoe Idealize.SL.Sem
open Cert.ProjFinal Cert.ProjReferenceValue

theorem frame_kernel : quiescent_ProjKernel := fun m ρ _ => ProjKernel.Gen.frame m ρ
theorem frame_ideal : quiescent_ProjKernelIdeal := fun m ρ _ => ProjKernelIdeal.Gen.frame m ρ
theorem frame_reference : quiescent_ProjReferenceIdeal := fun m ρ _ =>
  (θ_run _ _ _).mono (fun r h => ⟨fun c => (h c).2.2.2.2.2.2, by funext s; exact nomatch s⟩) (ProjReferenceIdeal.Value.run m ρ)

theorem kept : preserves_ProjKernel_ProjKernelIdeal :=
  IdealRules.named_const.statement Cert.ProjKernelIdeal.κ "qscale" .f32 0x3E38AA3B#32 _ rfl

theorem agree : algebraic_ProjKernelIdeal_ProjReferenceIdeal := fun m g m' g' _ hs =>
  have hn : ∀ c, nm m' c = nd m c := fun c => by
    obtain ⟨h0, h1, h2, h3⟩ := hs c
    unfold nm nd argX argM argG
    rw [h0, h1, h2]
  have hp : ∀ c, pj m' c = pd m c := fun c => by
    obtain ⟨h0, h1, h2, h3⟩ := hs c
    unfold pj pd argX argM argG argW
    rw [h0, h1, h2, h3]
  ⟨fun c => resU (nd m c), fun c => resC (pd m c), fun c => resT (pd m c), fun c => resF (pd m c), fun c => resK (pd m c), fun c => resV (pd m c),
    (θ_run _ _ _).mono (fun _ h c => by
      obtain ⟨h6, h7, h8, h9, h10, h11, h⟩ := h c
      exact ⟨h6.trans (final6 m c), h7.trans (final7 m c), h8.trans (final8 m c), h9.trans (final9 m c), h10.trans (final10 m c), h11.trans (final11 m c), h⟩)
      (Cert.ProjKernelIdeal.Value.run_blocks m g),
    (θ_run _ _ _).mono (fun _ h c => by
      obtain ⟨h6, h7, h8, h9, h10, h11⟩ := h.1 c
      exact ⟨h6.trans (congrArg resU (hn c)), h7.trans (congrArg resC (hp c)), h8.trans (congrArg resT (hp c)), h9.trans (congrArg resF (hp c)),
        h10.trans (congrArg resK (hp c)), h11.trans (congrArg resV (hp c)), (h.2 c).2.2.2.2.2.2⟩)
      (θ_run_and (results m' g') (Cert.ProjReferenceIdeal.Value.run m' g'))⟩

end Cert.ProjAgree

end
-- ==== Proof.OptReferenceValue.lean ====
/-
  The optimiser's reference: its results and their entries.
-/
module

public import proofs.«01_k».proof.Proof.AttnEntries
public import proofs.«01_k».proof.Proof.AttnOut
public import proofs.«01_k».proof.Proof.Gen.OptReferenceIdeal.Run

@[expose] public section

set_option maxRecDepth 65536

noncomputable section

namespace Cert.OptReferenceValue

open Cert.OptReferenceIdeal Cert.OptReferenceIdeal.Gen
open Cert.AttnTile (ex3)
open Cert.AttnOut (ex2)
open Idealize.ShloMosaic Idealize.ShloMosaic.TcCoe Idealize.SL.Sem

/-! ## One entry of the step -/

/-- The number a constant's word stands for. -/
abbrev num (b : BitVec 32) : EReal := Scalar.ofBits (F := Ideal) .f32 b

/-- The running mean of the gradient. -/
def first (g m : EReal) : EReal := num 0x3F666666#32 * m + num 0x3DCCCCCD#32 * g
/-- The running mean of its square. -/
def second (g v : EReal) : EReal := num 0x3F7FBE77#32 * v + num 0x3A83126F#32 * (g * g)
/-- The change of the weight. -/
def change (g p m v : EReal) : EReal :=
  num 0xBA83126F#32 * (FloatOps.divf (F := Ideal) (φ := .f32) (FloatOps.divf (F := Ideal) (φ := .f32) (first g m) (num 0x3F26BD02#32))
    (FloatOps.sqrt (F := Ideal) (φ := .f32) (FloatOps.divf (F := Ideal) (φ := .f32) (second g v) (num 0x3C231ACC#32)) + num 0x322BCC77#32) + num 0x3C23D70A#32 * p)

/-! ## The results -/

def firstIn (g m : FVec Ideal S513x1024 .f32) : FVec Ideal S513x1024 .f32 := addf (mulf (broadcastInDim S513x1024 ![] bcast_S_S513x1024 (constant S_ .f32 0x3F666666#32)) m) (mulf (broadcastInDim S513x1024 ![] bcast_S_S513x1024 (constant S_ .f32 0x3DCCCCCD#32)) g)
def secondIn (g v : FVec Ideal S513x1024 .f32) : FVec Ideal S513x1024 .f32 := addf (mulf (broadcastInDim S513x1024 ![] bcast_S_S513x1024 (constant S_ .f32 0x3F7FBE77#32)) v) (mulf (broadcastInDim S513x1024 ![] bcast_S_S513x1024 (constant S_ .f32 0x3A83126F#32)) (mulf g g))
def changeIn (g p m v : FVec Ideal S513x1024 .f32) : FVec Ideal S513x1024 .f32 :=
  mulf (broadcastInDim S513x1024 ![] bcast_S_S513x1024 (constant S_ .f32 0xBA83126F#32)) (addf (Host.divf (Host.divf (firstIn g m) (broadcastInDim S513x1024 ![] bcast_S_S513x1024 (constant S_ .f32 0x3F26BD02#32))) (addf (Host.sqrt (Host.divf (secondIn g v) (broadcastInDim S513x1024 ![] bcast_S_S513x1024 (constant S_ .f32 0x3C231ACC#32))))
    (broadcastInDim S513x1024 ![] bcast_S_S513x1024 (constant S_ .f32 0x322BCC77#32)))) (mulf (broadcastInDim S513x1024 ![] bcast_S_S513x1024 (constant S_ .f32 0x3C23D70A#32)) p))

theorem firstIn_apply (g m : FVec Ideal S513x1024 .f32) (y) : firstIn g m y = first (g y) (m y) := rfl
theorem secondIn_apply (g v : FVec Ideal S513x1024 .f32) (y) : secondIn g v y = second (g y) (v y) := rfl
theorem changeIn_apply (g p m v : FVec Ideal S513x1024 .f32) (y) : changeIn g p m v y = change (g y) (p y) (m y) (v y) := rfl

def firstOut (g m : FVec Ideal S128x1024 .f32) : FVec Ideal S128x1024 .f32 := addf (mulf (broadcastInDim S128x1024 ![] bcast_S_S128x1024 (constant S_ .f32 0x3F666666#32)) m) (mulf (broadcastInDim S128x1024 ![] bcast_S_S128x1024 (constant S_ .f32 0x3DCCCCCD#32)) g)
def secondOut (g v : FVec Ideal S128x1024 .f32) : FVec Ideal S128x1024 .f32 := addf (mulf (broadcastInDim S128x1024 ![] bcast_S_S128x1024 (constant S_ .f32 0x3F7FBE77#32)) v) (mulf (broadcastInDim S128x1024 ![] bcast_S_S128x1024 (constant S_ .f32 0x3A83126F#32)) (mulf g g))
def changeOut (g p m v : FVec Ideal S128x1024 .f32) : FVec Ideal S128x1024 .f32 :=
  mulf (broadcastInDim S128x1024 ![] bcast_S_S128x1024 (constant S_ .f32 0xBA83126F#32)) (addf (Host.divf (Host.divf (firstOut g m) (broadcastInDim S128x1024 ![] bcast_S_S128x1024 (constant S_ .f32 0x3F26BD02#32))) (addf (Host.sqrt (Host.divf (secondOut g v) (broadcastInDim S128x1024 ![] bcast_S_S128x1024 (constant S_ .f32 0x3C231ACC#32))))
    (broadcastInDim S128x1024 ![] bcast_S_S128x1024 (constant S_ .f32 0x322BCC77#32)))) (mulf (broadcastInDim S128x1024 ![] bcast_S_S128x1024 (constant S_ .f32 0x3C23D70A#32)) p))

theorem firstOut_apply (g m : FVec Ideal S128x1024 .f32) (y) : firstOut g m y = first (g y) (m y) := rfl
theorem secondOut_apply (g v : FVec Ideal S128x1024 .f32) (y) : secondOut g v y = second (g y) (v y) := rfl
theorem changeOut_apply (g p m v : FVec Ideal S128x1024 .f32) (y) : changeOut g p m v y = change (g y) (p y) (m y) (v y) := rfl

/-- A weight's argument, its rows first. -/
def turned (a : FVec Ideal S1x1024x513 .f32) : FVec Ideal S513x1024 .f32 := transpose S513x1024 [1, 0] (shapeCast _ a shapeCasts_S1x1024x513_S1024x513) transposes_S1024x513_S513x1024_1_0
def flat (a : FVec Ideal S1x128x1024 .f32) : FVec Ideal S128x1024 .f32 := shapeCast _ a shapeCasts_S1x128x1024_S128x1024
def boxed (a : FVec Ideal S128x1024 .f32) : FVec Ideal S1x128x1024 .f32 := broadcastInDim S1x128x1024 ![1, 2] bcast_S128x1024_S1x128x1024_1_2 a

/-- The sum of the gradient's slabs. -/
def gradIn (own land : FVec Ideal S4x528x1024 .bf16) : FVec Ideal S513x1024 .f32 :=
  extractStridedSlice S513x1024 ![0, 0] (addf (extf .f32 (shapeCast _ (extractStridedSlice S1x528x1024 ![0, 0, 0] own slices_S4x528x1024_S1x528x1024_0_0_0) shapeCasts_S1x528x1024_S528x1024) bitsLt_bf16_f32)
    (Host.reduceAdd (extf .f32 (extractStridedSlice S3x528x1024 ![1, 0, 0] land slices_S4x528x1024_S3x528x1024_1_0_0) bitsLt_bf16_f32) (constant S_ .f32 0x00000000#32) reducesTo_S3x528x1024_S528x1024_d0 h_S_)) slices_S528x1024_S513x1024_0_0
def gradOut (own land : FVec Ideal S8x128x1024 .bf16) : FVec Ideal S128x1024 .f32 :=
  addf (extf .f32 (shapeCast _ (extractStridedSlice S1x128x1024 ![0, 0, 0] own slices_S8x128x1024_S1x128x1024_0_0_0) shapeCasts_S1x128x1024_S128x1024) bitsLt_bf16_f32)
    (Host.reduceAdd (extf .f32 (extractStridedSlice S7x128x1024 ![1, 0, 0] land slices_S8x128x1024_S7x128x1024_1_0_0) bitsLt_bf16_f32) (constant S_ .f32 0x00000000#32) reducesTo_S7x128x1024_S128x1024_d0 h_S_)

theorem turned_apply (a : FVec Ideal S1x1024x513 .f32) (k : Fin 513) (d : Fin 1024) : turned a (ix2 k d) = a (ix3 0 d k) := by
  have e : turned a (ix2 k d) = shapeCast S1024x513 a shapeCasts_S1x1024x513_S1024x513 (ix2 d k) := by
    unfold turned
    pointwise
  rw [e]
  exact shapeCast_apply _ _ (ix2 d k) (ix3 0 d k) (by
    rw [Shape.rowMajor_val_three, Shape.rowMajor_val_two]
    show (0 * 1024 + d.val) * 513 + k.val = d.val * 513 + k.val
    omega)
theorem flat_apply (a : FVec Ideal S1x128x1024 .f32) (k : Fin 128) (d : Fin 1024) : flat a (ix2 k d) = a (ix3 0 k d) :=
  shapeCast_apply _ _ (ix2 k d) (ix3 0 k d) (by
    rw [Shape.rowMajor_val_three, Shape.rowMajor_val_two]
    show (0 * 128 + k.val) * 1024 + d.val = k.val * 1024 + d.val
    omega)
theorem boxed_apply (a : FVec Ideal S128x1024 .f32) (k : Fin 128) (d : Fin 1024) : boxed a (ix3 0 k d) = a (ix2 k d) := by
  unfold boxed
  pointwise

theorem gradIn_apply (own land : FVec Ideal S4x528x1024 .bf16) (k : Fin 513) (d : Fin 1024) :
    gradIn own land (ix2 k d) = own (ix3 0 ⟨k.val, by omega⟩ d) + land (ix3 1 ⟨k.val, by omega⟩ d) + land (ix3 2 ⟨k.val, by omega⟩ d) + land (ix3 3 ⟨k.val, by omega⟩ d) := by
  have e : gradIn own land (ix2 k d) = own (ix3 0 ⟨k.val, by omega⟩ d) + ∑ j : Fin 3, land (ix3 ⟨1 + j.val, by omega⟩ ⟨k.val, by omega⟩ d) := by
    unfold gradIn
    pointwise
  rw [e, Fin.sum_univ_three, ← add_assoc, ← add_assoc]
  rfl
theorem gradOut_apply (own land : FVec Ideal S8x128x1024 .bf16) (k : Fin 128) (d : Fin 1024) :
    gradOut own land (ix2 k d) = own (ix3 0 k d) + land (ix3 1 k d) + land (ix3 2 k d) + land (ix3 3 k d) + land (ix3 4 k d) + land (ix3 5 k d) + land (ix3 6 k d) + land (ix3 7 k d) := by
  have e : gradOut own land (ix2 k d) = own (ix3 0 k d) + ∑ j : Fin 7, land (ix3 ⟨1 + j.val, by omega⟩ k d) := by
    unfold gradOut
    pointwise
  rw [e, Fin.sum_univ_seven]
  simp only [← add_assoc]
  rfl

section Run

variable (m : (ℓ : Loc nD τ sig) → Buf (Elt Ideal) ℓ) (c : Dev nD)

abbrev gI : FVec Ideal S513x1024 .f32 := gradIn (m ((c.tc : Thread nD τ).loc main_arg0)) (m ((c.tc : Thread nD τ).loc main_arg1))
abbrev gO : FVec Ideal S128x1024 .f32 := gradOut (m ((c.tc : Thread nD τ).loc main_arg2)) (m ((c.tc : Thread nD τ).loc main_arg3))
abbrev pI : FVec Ideal S513x1024 .f32 := turned (m ((c.tc : Thread nD τ).loc main_arg4))
abbrev mI : FVec Ideal S513x1024 .f32 := turned (m ((c.tc : Thread nD τ).loc main_arg5))
abbrev vI : FVec Ideal S513x1024 .f32 := turned (m ((c.tc : Thread nD τ).loc main_arg6))
abbrev pO : FVec Ideal S128x1024 .f32 := flat (m ((c.tc : Thread nD τ).loc main_arg7))
abbrev mO : FVec Ideal S128x1024 .f32 := flat (m ((c.tc : Thread nD τ).loc main_arg8))
abbrev vO : FVec Ideal S128x1024 .f32 := flat (m ((c.tc : Thread nD τ).loc main_arg9))

theorem results (ρ : Dev nD → PrngReg) : θ_run defs (onTc (τ := τ) (main (F := Ideal))) ⟨m, fun _ => 0, ρ⟩ fun r => ∀ c : Dev nD,
    r.2.mem ((c.tc : Thread nD τ).loc main_v7) = gI m c
    ∧ r.2.mem ((c.tc : Thread nD τ).loc main_v44) = changeIn (gI m c) (pI m c) (mI m c) (vI m c)
    ∧ r.2.mem ((c.tc : Thread nD τ).loc main_v25) = firstIn (gI m c) (mI m c)
    ∧ r.2.mem ((c.tc : Thread nD τ).loc main_v31) = secondIn (gI m c) (vI m c)
    ∧ r.2.mem ((c.tc : Thread nD τ).loc main_v72) = boxed (gO m c)
    ∧ r.2.mem ((c.tc : Thread nD τ).loc main_v73) = boxed (changeOut (gO m c) (pO m c) (mO m c) (vO m c))
    ∧ r.2.mem ((c.tc : Thread nD τ).loc main_v74) = boxed (firstOut (gO m c) (mO m c))
    ∧ r.2.mem ((c.tc : Thread nD τ).loc main_v75) = boxed (secondOut (gO m c) (vO m c)) :=
  (θ_run defs _ _).mono (fun _ h c => ⟨(h c).1, (h c).2.1, (h c).2.2.1, (h c).2.2.2.1, (h c).2.2.2.2.1, (h c).2.2.2.2.2.1, (h c).2.2.2.2.2.2.1, (h c).2.2.2.2.2.2.2.1⟩) (Value.run m ρ)

end Run

end Cert.OptReferenceValue

end
-- ==== Proof.OptBlock.lean ====
/-
  What the optimiser's kernel leaves in its eight outputs at one grid point.
-/
module

public import proofs.«01_k».proof.Proof.Gen.OptKernelIdeal.Value
public import proofs.«01_k».proof.Proof.AttnBuffers
public import proofs.«01_k».proof.Proof.OptReferenceValue
public import Idealize.ShloMosaic.Lib.Pipeline.Value
public import Idealize.ShloMosaic.Lib.Pipeline.ValueKit
public import Idealize.ShloMosaic.Lib.Pointwise

@[expose] public section

set_option maxRecDepth 65536
noncomputable section

namespace Cert.OptBlock

open Cert.AttnTile (ex3)
open Cert.AttnOut (ex2)
open Cert.OptReferenceValue (first second change num)
open Cert.OptKernelIdeal Cert.OptKernelIdeal.Gen
open Idealize.ShloMosaic

/-! ## The payloads -/

section Payloads

theorem squeeze {n : ℕ} {e : EltTy} (P : Vec Ideal (Shape.mk 3 ![1, n, 256]) e) (h) (k : Fin n) (d : Fin 256) : shapeCast (Shape.mk 2 ![n, 256]) P h (ix2 k d) = P (ix3 0 k d) :=
  shapeCast_apply _ _ (ix2 k d) (ix3 0 k d) (by
    rw [Shape.rowMajor_val_three, Shape.rowMajor_val_two]
    show (0 * n + k.val) * 256 + d.val = k.val * 256 + d.val
    omega)
theorem unsqueeze {n : ℕ} {e : EltTy} (P : Vec Ideal (Shape.mk 2 ![n, 256]) e) (h) (k : Fin n) (d : Fin 256) : shapeCast (Shape.mk 3 ![1, n, 256]) P h (ix3 0 k d) = P (ix2 k d) :=
  shapeCast_apply _ _ (ix3 0 k d) (ix2 k d) (by
    rw [Shape.rowMajor_val_three, Shape.rowMajor_val_two]
    show k.val * 256 + d.val = (0 * n + k.val) * 256 + d.val
    omega)

theorem unsq (P : FVec Ideal S128x256 .f32) (k : Fin 128) (d : Fin 256) : shapeCast S1x128x256 P shapeCasts_S128x256_S1x128x256 (ix3 0 k d) = P (ix2 k d) := unsqueeze (n := 128) (e := .f32) P _ k d

theorem sumIn (a b c d : Vec Ideal S1x528x256 .bf16) (k : Fin 513) (j : Fin 256) :
    k0_pay6 a b c d (ix2 k j) = a (ix3 0 ⟨k.val, by omega⟩ j) + b (ix3 0 ⟨k.val, by omega⟩ j) + c (ix3 0 ⟨k.val, by omega⟩ j) + d (ix3 0 ⟨k.val, by omega⟩ j) := by
  have key : ∀ a b c d : FVec Ideal S528x256 .bf16, extractStridedSlice S513x256 ![0, 0] (addf (addf (addf (extf .f32 a bitsLt_bf16_f32) (extf .f32 b bitsLt_bf16_f32)) (extf .f32 c bitsLt_bf16_f32)) (extf .f32 d bitsLt_bf16_f32))
      slices_S528x256_o0_0_S513x256 (ix2 k j) = a (ix2 ⟨k.val, by omega⟩ j) + b (ix2 ⟨k.val, by omega⟩ j) + c (ix2 ⟨k.val, by omega⟩ j) + d (ix2 ⟨k.val, by omega⟩ j) := fun a b c d => by pointwise
  refine (key _ _ _ _).trans ?_
  rw [squeeze, squeeze, squeeze, squeeze]

theorem sumOut3 (a b c : Vec Ideal S1x128x256 .bf16) (k : Fin 128) (j : Fin 256) : k0_pay11 a b c (ix2 k j) = a (ix3 0 k j) + b (ix3 0 k j) + c (ix3 0 k j) := by
  show shapeCast S128x256 a _ (ix2 k j) + shapeCast S128x256 b _ (ix2 k j) + shapeCast S128x256 c _ (ix2 k j) = _
  rw [squeeze, squeeze, squeeze]

theorem sumOut8 (x : FVec Ideal S128x256 .f32) (a b c d e : Vec Ideal S1x128x256 .bf16) (k : Fin 128) (j : Fin 256) :
    k0_pay12 x a b c d e (ix2 k j) = x (ix2 k j) + a (ix3 0 k j) + b (ix3 0 k j) + c (ix3 0 k j) + d (ix3 0 k j) + e (ix3 0 k j) := by
  show x (ix2 k j) + shapeCast S128x256 a _ (ix2 k j) + shapeCast S128x256 b _ (ix2 k j) + shapeCast S128x256 c _ (ix2 k j) + shapeCast S128x256 d _ (ix2 k j) + shapeCast S128x256 e _ (ix2 k j) = _
  rw [squeeze, squeeze, squeeze, squeeze, squeeze]

theorem firstIn (a b c d : Vec Ideal S1x528x256 .bf16) (m : Vec Ideal S513x256 .f32) (y) : k0_pay8 a b c d m y = first (k0_pay6 a b c d y) (m y) := by
  unfold k0_pay8
  rw [shapeCast_self]
  rfl
theorem secondIn (a b c d : Vec Ideal S1x528x256 .bf16) (v : Vec Ideal S513x256 .f32) (y) : k0_pay9 a b c d v y = second (k0_pay6 a b c d y) (v y) := by
  unfold k0_pay9
  rw [shapeCast_self]
  rfl
theorem changeIn (a b c d : Vec Ideal S1x528x256 .bf16) (p m v : Vec Ideal S513x256 .f32) (y) :
    k0_pay10 (k0_pay7 p) (k0_pay8 a b c d m) (k0_pay9 a b c d v) y = change (k0_pay6 a b c d y) (p y) (m y) (v y) := by
  have e : k0_pay7 p = p := shapeCast_self _ _
  rw [e]
  unfold change
  rw [← firstIn, ← secondIn]
  rfl

theorem firstOut (x : FVec Ideal S128x256 .f32) (a b c d e : Vec Ideal S1x128x256 .bf16) (m : Vec Ideal S1x128x256 .f32) (k : Fin 128) (j : Fin 256) :
    k0_pay15 x a b c d e m (ix2 k j) = first (k0_pay12 x a b c d e (ix2 k j)) (m (ix3 0 k j)) := by
  rw [← squeeze m shapeCasts_S1x128x256_S128x256]
  rfl
theorem secondOut (g : FVec Ideal S128x256 .f32) (v : Vec Ideal S1x128x256 .f32) (k : Fin 128) (j : Fin 256) :
    k0_pay1 g (k0_pay14 v) (Scalar.ofBits .f32 0x3F7FBE77#32) (ix2 k j) = second (g (ix2 k j)) (v (ix3 0 k j)) := by
  rw [← squeeze v shapeCasts_S1x128x256_S128x256]
  rfl
theorem changeOut (x : FVec Ideal S128x256 .f32) (a b c d e : Vec Ideal S1x128x256 .bf16) (p m v : Vec Ideal S1x128x256 .f32) (k : Fin 128) (j : Fin 256) :
    k0_pay3 (k0_pay12 x a b c d e) (k0_pay13 p) (k0_pay14 v) (k0_pay15 x a b c d e m) (Scalar.ofBits .f32 0x3F7FBE77#32) (ix3 0 k j)
      = change (k0_pay12 x a b c d e (ix2 k j)) (p (ix3 0 k j)) (m (ix3 0 k j)) (v (ix3 0 k j)) := by
  unfold k0_pay3
  rw [unsq]
  unfold change
  rw [← firstOut, ← secondOut, ← squeeze p shapeCasts_S1x128x256_S128x256]
  rfl

end Payloads

/-! ## The outputs -/

section Outputs

variable (x0 x1 : Vec Ideal S4x528x256 .bf16) (x2 x3 : Vec Ideal S8x128x256 .bf16) (x4 x5 x6 : Vec Ideal S513x256 .f32) (x7 x8 x9 : Vec Ideal S1x128x256 .f32)

/-- The gradient's sum over a block of columns. -/
def gIn (k : Fin 513) (j : Fin 256) : EReal := x0 (ix3 0 ⟨k.val, by omega⟩ j) + x1 (ix3 1 ⟨k.val, by omega⟩ j) + x1 (ix3 2 ⟨k.val, by omega⟩ j) + x1 (ix3 3 ⟨k.val, by omega⟩ j)
def gOut (k : Fin 128) (j : Fin 256) : EReal :=
  x2 (ix3 0 k j) + x3 (ix3 1 k j) + x3 (ix3 2 k j) + x3 (ix3 3 k j) + x3 (ix3 4 k j) + x3 (ix3 5 k j) + x3 (ix3 6 k j) + x3 (ix3 7 k j)

theorem slabIn (X : Vec Ideal S4x528x256 .bf16) (s : ℕ) (inb : ∀ a, (![s, 0, 0] : Fin 3 → ℕ) a + (![1, 528, 256] : Fin 3 → ℕ) a ≤ S4x528x256.size a) (k : Fin 528) (j : Fin 256) (S : Fin 4) (hS : S.val = s) :
    View.ld X (Rect.unit (s := S4x528x256) ![s, 0, 0] ![1, 528, 256] inb) (ix3 0 k j) = X (ix3 S k j) :=
  AttnBuffers.ld3 X inb 0 k j S k j hS (Nat.zero_add _).symm (Nat.zero_add _).symm
theorem slabOut (X : Vec Ideal S8x128x256 .bf16) (s : ℕ) (inb : ∀ a, (![s, 0, 0] : Fin 3 → ℕ) a + (![1, 128, 256] : Fin 3 → ℕ) a ≤ S8x128x256.size a) (k : Fin 128) (j : Fin 256) (S : Fin 8) (hS : S.val = s) :
    View.ld X (Rect.unit (s := S8x128x256) ![s, 0, 0] ![1, 128, 256] inb) (ix3 0 k j) = X (ix3 S k j) :=
  AttnBuffers.ld3 X inb 0 k j S k j hS (Nat.zero_add _).symm (Nat.zero_add _).symm

theorem whole2 {X : Vec Ideal S513x256 .f32} : View.ld X r0_4 = X := View.ld_unit_lit _ X (by decide)
theorem whole3 {X : Vec Ideal S1x128x256 .f32} : View.ld X r0_13 = X := View.ld_unit_lit _ X (by decide)
theorem left2 (w : Vec Ideal S513x256 .f32) : View.canon [(⟨r0_4, w⟩ : View.Piece (Elt Ideal) S513x256 .f32)] = w := View.canon_cons_unit_lit _ w [] (by decide)
theorem left3 (w : Vec Ideal S1x128x256 .f32) : View.canon [(⟨r0_13, w⟩ : View.Piece (Elt Ideal) S1x128x256 .f32)] = w := View.canon_cons_unit_lit _ w [] (by decide)

theorem gIn_eq (k : Fin 513) (j : Fin 256) : k0_pay6 (View.ld x0 r0_0) (View.ld x1 r0_1) (View.ld x1 r0_2) (View.ld x1 r0_3) (ix2 k j) = gIn x0 x1 k j := by
  rw [sumIn]
  unfold gIn
  congr 1
  · congr 1
    · congr 1
      · exact slabIn x0 0 _ _ j 0 rfl
      · exact slabIn x1 1 _ _ j 1 rfl
    · exact slabIn x1 2 _ _ j 2 rfl
  · exact slabIn x1 3 _ _ j 3 rfl

theorem gOut_eq (k : Fin 128) (j : Fin 256) :
    k0_pay12 (k0_pay11 (View.ld x2 r0_5) (View.ld x3 r0_6) (View.ld x3 r0_7)) (View.ld x3 r0_8) (View.ld x3 r0_9) (View.ld x3 r0_10) (View.ld x3 r0_11) (View.ld x3 r0_12) (ix2 k j) = gOut x2 x3 k j := by
  rw [sumOut8, sumOut3]
  unfold gOut
  congr 1
  · congr 1
    · congr 1
      · congr 1
        · congr 1
          · congr 1
            · congr 1
              · exact slabOut x2 0 _ k j 0 rfl
              · exact slabOut x3 1 _ k j 1 rfl
            · exact slabOut x3 2 _ k j 2 rfl
          · exact slabOut x3 3 _ k j 3 rfl
        · exact slabOut x3 4 _ k j 4 rfl
      · exact slabOut x3 5 _ k j 5 rfl
    · exact slabOut x3 6 _ k j 6 rfl
  · exact slabOut x3 7 _ k j 7 rfl

theorem o10 (k : Fin 513) (j : Fin 256) : out0_10 x0 x1 x2 x3 x4 x5 x6 x7 x8 x9 (ix2 k j) = gIn x0 x1 k j := by
  unfold out0_10
  rw [left2, gIn_eq]
theorem o11 (k : Fin 513) (j : Fin 256) : out0_11 x0 x1 x2 x3 x4 x5 x6 x7 x8 x9 (ix2 k j) = change (gIn x0 x1 k j) (x4 (ix2 k j)) (x5 (ix2 k j)) (x6 (ix2 k j)) := by
  unfold out0_11 k0_pay17 k0_pay16
  rw [left2, changeIn, gIn_eq, whole2, whole2, whole2]
theorem o12 (k : Fin 513) (j : Fin 256) : out0_12 x0 x1 x2 x3 x4 x5 x6 x7 x8 x9 (ix2 k j) = first (gIn x0 x1 k j) (x5 (ix2 k j)) := by
  unfold out0_12 k0_pay16
  rw [left2, firstIn, gIn_eq, whole2]
theorem o13 (k : Fin 513) (j : Fin 256) : out0_13 x0 x1 x2 x3 x4 x5 x6 x7 x8 x9 (ix2 k j) = second (gIn x0 x1 k j) (x6 (ix2 k j)) := by
  unfold out0_13 k0_pay17
  rw [left2, secondIn, gIn_eq, whole2]
theorem o14 (k : Fin 128) (j : Fin 256) : out0_14 x0 x1 x2 x3 x4 x5 x6 x7 x8 x9 (ix3 0 k j) = gOut x2 x3 k j := by
  unfold out0_14 k0_pay19 k0_pay18 k0_pay2
  rw [left3, unsq, gOut_eq]
theorem o15 (k : Fin 128) (j : Fin 256) : out0_15 x0 x1 x2 x3 x4 x5 x6 x7 x8 x9 (ix3 0 k j) = change (gOut x2 x3 k j) (x7 (ix3 0 k j)) (x8 (ix3 0 k j)) (x9 (ix3 0 k j)) := by
  unfold out0_15 k0_pay21 k0_pay20 k0_pay19 k0_pay18
  rw [left3, changeOut, gOut_eq, whole3, whole3, whole3]
theorem o16 (k : Fin 128) (j : Fin 256) : out0_16 x0 x1 x2 x3 x4 x5 x6 x7 x8 x9 (ix3 0 k j) = first (gOut x2 x3 k j) (x8 (ix3 0 k j)) := by
  unfold out0_16 k0_pay21 k0_pay18 k0_pay4
  rw [left3, unsq, firstOut, gOut_eq, whole3]
theorem o17 (k : Fin 128) (j : Fin 256) : out0_17 x0 x1 x2 x3 x4 x5 x6 x7 x8 x9 (ix3 0 k j) = second (gOut x2 x3 k j) (x9 (ix3 0 k j)) := by
  unfold out0_17 k0_pay20 k0_pay19 k0_pay18 k0_pay5
  rw [left3, unsq, secondOut, gOut_eq, whole3]

end Outputs

end Cert.OptBlock

end
-- ==== Proof.OptFinal.lean ====
/-
  The optimiser kernel's results are the reference's.
-/
module

public import proofs.«01_k».proof.Proof.OptBlock

@[expose] public section

set_option maxRecDepth 65536

noncomputable section

namespace Cert.OptFinal

open Cert.OptKernelIdeal Cert.OptKernelIdeal.Gen Cert.OptBlock
open Cert.OptReferenceValue (first second change gradIn gradOut turned flat boxed)
open Cert.AttnTile (ex3)
open Cert.AttnOut (ex2)
open Idealize.ShloMosaic Idealize.ShloMosaic.TcCoe Idealize.SL.Sem

theorem idx0 : ∀ t : Fin cfg0.N, win0_0.index t = ![0, 0, t.val] := (by decide +kernel : ∀ t : Fin grid0.N, win0_0.index t = ![0, 0, t.val])
theorem idx1 : ∀ t : Fin cfg0.N, win0_1.index t = ![0, 0, t.val] := (by decide +kernel : ∀ t : Fin grid0.N, win0_1.index t = ![0, 0, t.val])
theorem idx2 : ∀ t : Fin cfg0.N, win0_2.index t = ![0, 0, t.val] := (by decide +kernel : ∀ t : Fin grid0.N, win0_2.index t = ![0, 0, t.val])
theorem idx3 : ∀ t : Fin cfg0.N, win0_3.index t = ![0, 0, t.val] := (by decide +kernel : ∀ t : Fin grid0.N, win0_3.index t = ![0, 0, t.val])
theorem idx4 : ∀ t : Fin cfg0.N, win0_4.index t = ![0, t.val] := (by decide +kernel : ∀ t : Fin grid0.N, win0_4.index t = ![0, t.val])
theorem idx5 : ∀ t : Fin cfg0.N, win0_5.index t = ![0, t.val] := (by decide +kernel : ∀ t : Fin grid0.N, win0_5.index t = ![0, t.val])
theorem idx6 : ∀ t : Fin cfg0.N, win0_6.index t = ![0, t.val] := (by decide +kernel : ∀ t : Fin grid0.N, win0_6.index t = ![0, t.val])
theorem idx7 : ∀ t : Fin cfg0.N, win0_7.index t = ![0, 0, t.val] := (by decide +kernel : ∀ t : Fin grid0.N, win0_7.index t = ![0, 0, t.val])
theorem idx8 : ∀ t : Fin cfg0.N, win0_8.index t = ![0, 0, t.val] := (by decide +kernel : ∀ t : Fin grid0.N, win0_8.index t = ![0, 0, t.val])
theorem idx9 : ∀ t : Fin cfg0.N, win0_9.index t = ![0, 0, t.val] := (by decide +kernel : ∀ t : Fin grid0.N, win0_9.index t = ![0, 0, t.val])
theorem idx10 : ∀ t : Fin cfg0.N, win0_10.index t = ![0, t.val] := (by decide +kernel : ∀ t : Fin grid0.N, win0_10.index t = ![0, t.val])
theorem idx11 : ∀ t : Fin cfg0.N, win0_11.index t = ![0, t.val] := (by decide +kernel : ∀ t : Fin grid0.N, win0_11.index t = ![0, t.val])
theorem idx12 : ∀ t : Fin cfg0.N, win0_12.index t = ![0, t.val] := (by decide +kernel : ∀ t : Fin grid0.N, win0_12.index t = ![0, t.val])
theorem idx13 : ∀ t : Fin cfg0.N, win0_13.index t = ![0, t.val] := (by decide +kernel : ∀ t : Fin grid0.N, win0_13.index t = ![0, t.val])
theorem idx14 : ∀ t : Fin cfg0.N, win0_14.index t = ![0, 0, t.val] := (by decide +kernel : ∀ t : Fin grid0.N, win0_14.index t = ![0, 0, t.val])
theorem idx15 : ∀ t : Fin cfg0.N, win0_15.index t = ![0, 0, t.val] := (by decide +kernel : ∀ t : Fin grid0.N, win0_15.index t = ![0, 0, t.val])
theorem idx16 : ∀ t : Fin cfg0.N, win0_16.index t = ![0, 0, t.val] := (by decide +kernel : ∀ t : Fin grid0.N, win0_16.index t = ![0, 0, t.val])
theorem idx17 : ∀ t : Fin cfg0.N, win0_17.index t = ![0, 0, t.val] := (by decide +kernel : ∀ t : Fin grid0.N, win0_17.index t = ![0, 0, t.val])

/-- A column of a block, among all. -/
def at_ (t : Fin cfg0.N) (j : Fin 256) : Fin 1024 := ⟨256 * t.val + j.val, by
  have : t.val < 4 := lt_of_lt_of_eq t.isLt N_0
  omega⟩

variable (m : (ℓ : Loc nD τ sig) → Buf (Elt Ideal) ℓ) (c : Dev nD)

abbrev arg0 : FVec Ideal S4x528x1024 .bf16 := m ((c.tc : Thread nD τ).loc main_arg0)
abbrev arg1 : FVec Ideal S4x528x1024 .bf16 := m ((c.tc : Thread nD τ).loc main_arg1)
abbrev arg2 : FVec Ideal S8x128x1024 .bf16 := m ((c.tc : Thread nD τ).loc main_arg2)
abbrev arg3 : FVec Ideal S8x128x1024 .bf16 := m ((c.tc : Thread nD τ).loc main_arg3)
abbrev arg4 : FVec Ideal S1x1024x513 .f32 := m ((c.tc : Thread nD τ).loc main_arg4)
abbrev arg5 : FVec Ideal S1x1024x513 .f32 := m ((c.tc : Thread nD τ).loc main_arg5)
abbrev arg6 : FVec Ideal S1x1024x513 .f32 := m ((c.tc : Thread nD τ).loc main_arg6)
abbrev arg7 : FVec Ideal S1x128x1024 .f32 := m ((c.tc : Thread nD τ).loc main_arg7)
abbrev arg8 : FVec Ideal S1x128x1024 .f32 := m ((c.tc : Thread nD τ).loc main_arg8)
abbrev arg9 : FVec Ideal S1x128x1024 .f32 := m ((c.tc : Thread nD τ).loc main_arg9)

theorem found : (V m c main_v1 : FVec Ideal S513x1024 .f32) = turned (arg4 m c) ∧ (V m c main_v3 : FVec Ideal S513x1024 .f32) = turned (arg5 m c) ∧ (V m c main_v5 : FVec Ideal S513x1024 .f32) = turned (arg6 m c) := by
  refine ⟨?_, ?_, ?_⟩
  all_goals
    simp only [V, hostOps0, List.flatten_cons, List.flatten_nil, List.cons_append, List.nil_append, StableHlo.TRef.binary, StableHlo.TRef.nullary, StableHlo.TRef.ternary,
      StableHlo.TRef.unary, StableHlo.TRef.toBuf, StableHlo.TRef.ofBuf, cast_eq]
    after_results_simp <;> rfl

section Blocks

variable (t : Fin cfg0.N)

theorem blk0 (s : Fin 4) (k : Fin 528) (j : Fin 256) : iblk m c 0 t (ix3 s k j) = arg0 m c (ix3 s k (at_ t j)) := by
  refine Eq.trans ?_ (congrFun (V_main_arg0 m c) _)
  blk_ext [iblk, idx0 t, at_]
theorem blk1 (s : Fin 4) (k : Fin 528) (j : Fin 256) : iblk m c 1 t (ix3 s k j) = arg1 m c (ix3 s k (at_ t j)) := by
  refine Eq.trans ?_ (congrFun (V_main_arg1 m c) _)
  blk_ext [iblk, idx1 t, at_]
theorem blk2 (s : Fin 8) (k : Fin 128) (j : Fin 256) : iblk m c 2 t (ix3 s k j) = arg2 m c (ix3 s k (at_ t j)) := by
  refine Eq.trans ?_ (congrFun (V_main_arg2 m c) _)
  blk_ext [iblk, idx2 t, at_]
theorem blk3 (s : Fin 8) (k : Fin 128) (j : Fin 256) : iblk m c 3 t (ix3 s k j) = arg3 m c (ix3 s k (at_ t j)) := by
  refine Eq.trans ?_ (congrFun (V_main_arg3 m c) _)
  blk_ext [iblk, idx3 t, at_]
theorem blk7 (s : Fin 1) (k : Fin 128) (j : Fin 256) : iblk m c 7 t (ix3 s k j) = arg7 m c (ix3 s k (at_ t j)) := by
  refine Eq.trans ?_ (congrFun (V_main_arg7 m c) _)
  blk_ext [iblk, idx7 t, at_]
theorem blk8 (s : Fin 1) (k : Fin 128) (j : Fin 256) : iblk m c 8 t (ix3 s k j) = arg8 m c (ix3 s k (at_ t j)) := by
  refine Eq.trans ?_ (congrFun (V_main_arg8 m c) _)
  blk_ext [iblk, idx8 t, at_]
theorem blk9 (s : Fin 1) (k : Fin 128) (j : Fin 256) : iblk m c 9 t (ix3 s k j) = arg9 m c (ix3 s k (at_ t j)) := by
  refine Eq.trans ?_ (congrFun (V_main_arg9 m c) _)
  blk_ext [iblk, idx9 t, at_]
theorem blk4 (k : Fin 513) (j : Fin 256) : iblk m c 4 t (ix2 k j) = turned (arg4 m c) (ix2 k (at_ t j)) := by
  refine Eq.trans ?_ (congrFun (found m c).1 _)
  blk_ext [iblk, idx4 t, at_]
theorem blk5 (k : Fin 513) (j : Fin 256) : iblk m c 5 t (ix2 k j) = turned (arg5 m c) (ix2 k (at_ t j)) := by
  refine Eq.trans ?_ (congrFun (found m c).2.1 _)
  blk_ext [iblk, idx5 t, at_]
theorem blk6 (k : Fin 513) (j : Fin 256) : iblk m c 6 t (ix2 k j) = turned (arg6 m c) (ix2 k (at_ t j)) := by
  refine Eq.trans ?_ (congrFun (found m c).2.2 _)
  blk_ext [iblk, idx6 t, at_]
theorem emb10 (k : Fin 513) (j : Fin 256) : ((win0_10.blk t).view.emb (ix2 k j) : S513x1024.Idx) = ix2 k (at_ t j) := by
  blk_ext [idx10 t, at_]
theorem emb11 (k : Fin 513) (j : Fin 256) : ((win0_11.blk t).view.emb (ix2 k j) : S513x1024.Idx) = ix2 k (at_ t j) := by
  blk_ext [idx11 t, at_]
theorem emb12 (k : Fin 513) (j : Fin 256) : ((win0_12.blk t).view.emb (ix2 k j) : S513x1024.Idx) = ix2 k (at_ t j) := by
  blk_ext [idx12 t, at_]
theorem emb13 (k : Fin 513) (j : Fin 256) : ((win0_13.blk t).view.emb (ix2 k j) : S513x1024.Idx) = ix2 k (at_ t j) := by
  blk_ext [idx13 t, at_]
theorem emb14 (k : Fin 128) (j : Fin 256) : ((win0_14.blk t).view.emb (ix3 0 k j) : S1x128x1024.Idx) = ix3 0 k (at_ t j) := by
  blk_ext [idx14 t, at_]
theorem emb15 (k : Fin 128) (j : Fin 256) : ((win0_15.blk t).view.emb (ix3 0 k j) : S1x128x1024.Idx) = ix3 0 k (at_ t j) := by
  blk_ext [idx15 t, at_]
theorem emb16 (k : Fin 128) (j : Fin 256) : ((win0_16.blk t).view.emb (ix3 0 k j) : S1x128x1024.Idx) = ix3 0 k (at_ t j) := by
  blk_ext [idx16 t, at_]
theorem emb17 (k : Fin 128) (j : Fin 256) : ((win0_17.blk t).view.emb (ix3 0 k j) : S1x128x1024.Idx) = ix3 0 k (at_ t j) := by
  blk_ext [idx17 t, at_]

/-- The gradients' sums. -/
abbrev gI : FVec Ideal S513x1024 .f32 := gradIn (arg0 m c) (arg1 m c)
abbrev gO : FVec Ideal Cert.OptReferenceIdeal.S128x1024 .f32 := gradOut (arg2 m c) (arg3 m c)

theorem gI_eq (k : Fin 513) (j : Fin 256) : gIn (iblk m c 0 t) (iblk m c 1 t) k j = gI m c (ix2 k (at_ t j)) := by
  unfold gIn
  rw [blk0, blk1, blk1, blk1]
  exact (OptReferenceValue.gradIn_apply _ _ k (at_ t j)).symm
theorem gO_eq (k : Fin 128) (j : Fin 256) : gOut (iblk m c 2 t) (iblk m c 3 t) k j = gO m c (ix2 k (at_ t j)) := by
  unfold gOut
  rw [blk2, blk3, blk3, blk3, blk3, blk3, blk3, blk3]
  exact (OptReferenceValue.gradOut_apply _ _ k (at_ t j)).symm

end Blocks

/-! ## The arrays -/

abbrev res10 : FVec Ideal S513x1024 .f32 := gI m c
theorem final10 : (dats m 0 c).arrAt 10 cfg0.N = res10 m c :=
  (dats m 0 c).arrAt_eq_of_covers 10 _ (by decide +kernel) fun t hf y => by
    rw [after0_10]
    blk_simp [idx10 t]
    obtain ⟨k, j, rfl⟩ := ex2 (a := 513) (b := 256) y
    refine ((o10 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res10 m c) (emb10 t k j).symm)
    rw [gI_eq]

abbrev res11 : FVec Ideal S513x1024 .f32 := OptReferenceValue.changeIn (gI m c) (turned (arg4 m c)) (turned (arg5 m c)) (turned (arg6 m c))
theorem final11 : (dats m 0 c).arrAt 11 cfg0.N = res11 m c :=
  (dats m 0 c).arrAt_eq_of_covers 11 _ (by decide +kernel) fun t hf y => by
    rw [after0_11]
    blk_simp [idx11 t]
    obtain ⟨k, j, rfl⟩ := ex2 (a := 513) (b := 256) y
    refine ((o11 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res11 m c) (emb11 t k j).symm)
    rw [gI_eq, blk4, blk5, blk6]
    rfl

abbrev res12 : FVec Ideal S513x1024 .f32 := OptReferenceValue.firstIn (gI m c) (turned (arg5 m c))
theorem final12 : (dats m 0 c).arrAt 12 cfg0.N = res12 m c :=
  (dats m 0 c).arrAt_eq_of_covers 12 _ (by decide +kernel) fun t hf y => by
    rw [after0_12]
    blk_simp [idx12 t]
    obtain ⟨k, j, rfl⟩ := ex2 (a := 513) (b := 256) y
    refine ((o12 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res12 m c) (emb12 t k j).symm)
    rw [gI_eq, blk5]
    rfl

abbrev res13 : FVec Ideal S513x1024 .f32 := OptReferenceValue.secondIn (gI m c) (turned (arg6 m c))
theorem final13 : (dats m 0 c).arrAt 13 cfg0.N = res13 m c :=
  (dats m 0 c).arrAt_eq_of_covers 13 _ (by decide +kernel) fun t hf y => by
    rw [after0_13]
    blk_simp [idx13 t]
    obtain ⟨k, j, rfl⟩ := ex2 (a := 513) (b := 256) y
    refine ((o13 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res13 m c) (emb13 t k j).symm)
    rw [gI_eq, blk6]
    rfl

abbrev res14 : FVec Ideal S1x128x1024 .f32 := boxed (gO m c)
theorem final14 : (dats m 0 c).arrAt 14 cfg0.N = res14 m c :=
  (dats m 0 c).arrAt_eq_of_covers 14 _ (by decide +kernel) fun t hf y => by
    rw [after0_14]
    blk_simp [idx14 t]
    obtain ⟨z, k, j, rfl⟩ := ex3 (a := 1) (b := 128) (c := 256) y
    obtain rfl : z = 0 := Subsingleton.elim _ _
    refine ((o14 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res14 m c) (emb14 t k j).symm)
    refine Eq.trans ?_ (OptReferenceValue.boxed_apply _ k (at_ t j)).symm
    rw [gO_eq]

abbrev res15 : FVec Ideal S1x128x1024 .f32 := boxed (OptReferenceValue.changeOut (gO m c) (flat (arg7 m c)) (flat (arg8 m c)) (flat (arg9 m c)))
theorem final15 : (dats m 0 c).arrAt 15 cfg0.N = res15 m c :=
  (dats m 0 c).arrAt_eq_of_covers 15 _ (by decide +kernel) fun t hf y => by
    rw [after0_15]
    blk_simp [idx15 t]
    obtain ⟨z, k, j, rfl⟩ := ex3 (a := 1) (b := 128) (c := 256) y
    obtain rfl : z = 0 := Subsingleton.elim _ _
    refine ((o15 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res15 m c) (emb15 t k j).symm)
    refine Eq.trans ?_ (OptReferenceValue.boxed_apply _ k (at_ t j)).symm
    rw [gO_eq, blk7, blk8, blk9, ← OptReferenceValue.flat_apply (arg7 m c), ← OptReferenceValue.flat_apply (arg8 m c), ← OptReferenceValue.flat_apply (arg9 m c)]
    rfl

abbrev res16 : FVec Ideal S1x128x1024 .f32 := boxed (OptReferenceValue.firstOut (gO m c) (flat (arg8 m c)))
theorem final16 : (dats m 0 c).arrAt 16 cfg0.N = res16 m c :=
  (dats m 0 c).arrAt_eq_of_covers 16 _ (by decide +kernel) fun t hf y => by
    rw [after0_16]
    blk_simp [idx16 t]
    obtain ⟨z, k, j, rfl⟩ := ex3 (a := 1) (b := 128) (c := 256) y
    obtain rfl : z = 0 := Subsingleton.elim _ _
    refine ((o16 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res16 m c) (emb16 t k j).symm)
    refine Eq.trans ?_ (OptReferenceValue.boxed_apply _ k (at_ t j)).symm
    rw [gO_eq, blk8, ← OptReferenceValue.flat_apply (arg8 m c)]
    rfl

abbrev res17 : FVec Ideal S1x128x1024 .f32 := boxed (OptReferenceValue.secondOut (gO m c) (flat (arg9 m c)))
theorem final17 : (dats m 0 c).arrAt 17 cfg0.N = res17 m c :=
  (dats m 0 c).arrAt_eq_of_covers 17 _ (by decide +kernel) fun t hf y => by
    rw [after0_17]
    blk_simp [idx17 t]
    obtain ⟨z, k, j, rfl⟩ := ex3 (a := 1) (b := 128) (c := 256) y
    obtain rfl : z = 0 := Subsingleton.elim _ _
    refine ((o17 (iblk m c 0 t) (iblk m c 1 t) (iblk m c 2 t) (iblk m c 3 t) (iblk m c 4 t) (iblk m c 5 t) (iblk m c 6 t) (iblk m c 7 t) (iblk m c 8 t) (iblk m c 9 t) k j).trans ?_).trans (congrArg (res17 m c) (emb17 t k j).symm)
    refine Eq.trans ?_ (OptReferenceValue.boxed_apply _ k (at_ t j)).symm
    rw [gO_eq, blk9, ← OptReferenceValue.flat_apply (arg9 m c)]
    rfl

end Cert.OptFinal

end
-- ==== Proof.OptAgree.lean ====
/-
  What is claimed of the optimiser's pair.
-/
module

public import proofs.«01_k».proof.Defs
public import proofs.«01_k».proof.Proof.Gen.OptKernel.Frame
public import proofs.«01_k».proof.Proof.OptFinal

@[expose] public section

noncomputable section

namespace Cert.OptAgree

open Idealize.ShloMosaic Idealize.ShloMosaic.TcCoe Idealize.SL.Sem
open Cert.OptFinal

theorem frame_kernel : quiescent_OptKernel := fun m ρ _ => OptKernel.Gen.frame m ρ
theorem frame_ideal : quiescent_OptKernelIdeal := fun m ρ _ => OptKernelIdeal.Gen.frame m ρ
theorem frame_reference : quiescent_OptReferenceIdeal := fun m ρ _ =>
  (θ_run _ _ _).mono (fun r h => ⟨fun c => (h c).2.2.2.2.2.2.2.2, by funext s; exact nomatch s⟩) (OptReferenceIdeal.Value.run m ρ)

theorem agree : algebraic_OptKernelIdeal_OptReferenceIdeal := fun m g m' g' _ hs =>
  have same : ∀ c, OptReferenceValue.gI m' c = gI m c ∧ OptReferenceValue.gO m' c = gO m c
      ∧ OptReferenceValue.pI m' c = OptReferenceValue.turned (arg4 m c) ∧ OptReferenceValue.mI m' c = OptReferenceValue.turned (arg5 m c) ∧ OptReferenceValue.vI m' c = OptReferenceValue.turned (arg6 m c)
      ∧ OptReferenceValue.pO m' c = OptReferenceValue.flat (arg7 m c) ∧ OptReferenceValue.mO m' c = OptReferenceValue.flat (arg8 m c) ∧ OptReferenceValue.vO m' c = OptReferenceValue.flat (arg9 m c) := fun c => by
    obtain ⟨h0, h1, h2, h3, h4, h5, h6, h7, h8, h9⟩ := hs c
    refine ⟨?_, ?_, congrArg _ h4, congrArg _ h5, congrArg _ h6, congrArg _ h7, congrArg _ h8, congrArg _ h9⟩
    · unfold OptReferenceValue.gI gI arg0 arg1
      rw [h0, h1]
    · unfold OptReferenceValue.gO gO arg2 arg3
      rw [h2, h3]
  ⟨fun c => res10 m c, fun c => res11 m c, fun c => res12 m c, fun c => res13 m c, fun c => res14 m c, fun c => res15 m c, fun c => res16 m c, fun c => res17 m c,
    (θ_run _ _ _).mono (fun _ h c => by
      obtain ⟨h10, h11, h12, h13, h14, h15, h16, h17, h⟩ := h c
      exact ⟨h10.trans (final10 m c), h11.trans (final11 m c), h12.trans (final12 m c), h13.trans (final13 m c), h14.trans (final14 m c), h15.trans (final15 m c), h16.trans (final16 m c), h17.trans (final17 m c), h⟩)
      (Cert.OptKernelIdeal.Value.run_blocks m g),
    (θ_run _ _ _).mono (fun _ h c => by
      obtain ⟨h10, h11, h12, h13, h14, h15, h16, h17⟩ := h.1 c
      obtain ⟨eg, eo, e4, e5, e6, e7, e8, e9⟩ := same c
      rw [eg] at h10 h11 h12 h13
      rw [eo] at h14 h15 h16 h17
      rw [e4, e5, e6] at h11
      rw [e5] at h12
      rw [e6] at h13
      rw [e7, e8, e9] at h15
      rw [e8] at h16
      rw [e9] at h17
      exact ⟨h10, h11, h12, h13, h14, h15, h16, h17, (h.2 c).2.2.2.2.2.2.2.2⟩)
      (θ_run_and (OptReferenceValue.results m' g') (Cert.OptReferenceIdeal.Value.run m' g'))⟩

end Cert.OptAgree

end
-- ==== Proof.lean ====
module

public import proofs.«01_k».proof.Defs
public import proofs.«01_k».proof.Proof.Gen.InputKernel
public import proofs.«01_k».proof.Proof.Gen.InputKernel.Skeleton
public import proofs.«01_k».proof.Proof.Gen.InputKernel.Frame
public import proofs.«01_k».proof.Proof.Gen.InputKernelIdeal
public import proofs.«01_k».proof.Proof.Gen.InputKernelIdeal.Skeleton
public import proofs.«01_k».proof.Proof.Gen.InputKernelIdeal.Frame
public import proofs.«01_k».proof.Proof.Gen.InputReferenceIdeal
public import proofs.«01_k».proof.Proof.Gen.InputReferenceIdeal.Run
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateReferenceIdeal
public import proofs.«01_k».proof.Proof.Gen.GateKernelIdeal.Value
public import proofs.«01_k».proof.Proof.Gen.GateReferenceIdeal.Run
public import proofs.«01_k».proof.Proof.GateAgree
public import proofs.«01_k».proof.Proof.AttnAgree
public import proofs.«01_k».proof.Proof.InputAgree
public import proofs.«01_k».proof.Proof.ProjAgree
public import proofs.«01_k».proof.Proof.OptAgree
public import proofs.«01_k».proof.Proof.Gen.AttnKernel
public import proofs.«01_k».proof.Proof.Gen.AttnKernel.Skeleton
public import proofs.«01_k».proof.Proof.Gen.AttnKernel.Launch
public import proofs.«01_k».proof.Proof.Gen.AttnKernel.Points
public import proofs.«01_k».proof.Proof.Gen.AttnKernel.Frame
public import proofs.«01_k».proof.Proof.Gen.AttnKernelIdeal
public import proofs.«01_k».proof.Proof.Gen.AttnKernelIdeal.Skeleton
public import proofs.«01_k».proof.Proof.Gen.AttnKernelIdeal.Launch
public import proofs.«01_k».proof.Proof.Gen.AttnKernelIdeal.Points
public import proofs.«01_k».proof.Proof.Gen.AttnKernelIdeal.Frame
public import proofs.«01_k».proof.Proof.Gen.AttnKernelIdeal.Value
public import proofs.«01_k».proof.Proof.Gen.Pre_finite_attention
public import proofs.«01_k».proof.Proof.Gen.Pre_finite_input
public import proofs.«01_k».proof.Proof.Gen.AttnReferenceIdeal
public import proofs.«01_k».proof.Proof.Gen.AttnReferenceIdeal.Run
public import proofs.«01_k».proof.Proof.Gen.ProjKernel.Frame
public import proofs.«01_k».proof.Proof.Gen.OptKernel.Frame
public import proofs.«01_k».proof.Proof.Gen.OptKernelIdeal.Value
public import proofs.«01_k».proof.Proof.Gen.OptReferenceIdeal.Run
public import proofs.«01_k».proof.Proof.Gen.ProjKernelIdeal.Value
public import proofs.«01_k».proof.Proof.Gen.ProjReferenceIdeal.Run
public import Idealize.ShloMosaic.Adequacy
public import Idealize.ShloMosaic.Init

@[expose] public section

noncomputable section

namespace Cert.Proof

open Idealize.ShloMosaic Idealize.SL.Sem

theorem claim : Cert.Claim :=
  ⟨Cert.GateKernel.Gen.facts, Cert.GateKernelIdeal.Gen.facts, Cert.GateReferenceIdeal.Gen.facts, Cert.AttnKernel.Gen.facts, Cert.AttnKernelIdeal.Gen.facts,
    Cert.AttnReferenceIdeal.Gen.facts, Cert.InputKernel.Gen.facts, Cert.InputKernelIdeal.Gen.facts, Cert.InputReferenceIdeal.Gen.facts,
    Cert.ProjKernel.Gen.facts, Cert.ProjKernelIdeal.Gen.facts, Cert.ProjReferenceIdeal.Gen.facts,
    Cert.OptKernel.Gen.facts, Cert.OptKernelIdeal.Gen.facts, Cert.OptReferenceIdeal.Gen.facts, Cert.Pre_finite_attention.Gen.facts,
    Cert.Pre_finite_input.Gen.facts, GateAgree.frame_kernel, GateAgree.frame_ideal, GateAgree.frame_reference,
    AttnAgree.frame_kernel, AttnAgree.frame_ideal, AttnAgree.frame_ideal_finite, AttnAgree.frame_reference, AttnAgree.frame_reference_finite,
    InputAgree.frame_kernel, InputAgree.frame_ideal, InputAgree.frame_ideal_finite, InputAgree.frame_reference, InputAgree.frame_reference_finite,
    ProjAgree.frame_kernel, ProjAgree.frame_ideal, ProjAgree.frame_reference,
    OptAgree.frame_kernel, OptAgree.frame_ideal, OptAgree.frame_reference,
    trivial, GateAgree.agree, AttnAgree.kept, AttnAgree.agree, trivial, InputAgree.agree, ProjAgree.kept, ProjAgree.agree, trivial, OptAgree.agree⟩

end Cert.Proof

end
